-- ==== Defs.lean ====
def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_KAttnIdeal_attn_finite [hPre_attn_finite : Cert.Pre_attn_finite.Facts] (m : (ℓ : Loc Cert.KAttnIdeal.nD Cert.KAttnIdeal.τ Cert.KAttnIdeal.sig) → Buf (Elt Ideal) ℓ) : Prop :=
  ∀ c : Dev Cert.KAttnIdeal.nD,
    (Cert.Pre_attn_finite.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2)) (m ((c.tc : Thread Cert.KAttnIdeal.nD Cert.KAttnIdeal.τ).loc Cert.KAttnIdeal.main_arg3))) = (fun _ => 1#1)

def Pre_RAttnIdeal (m : (ℓ : Loc Cert.RAttnIdeal.nD Cert.RAttnIdeal.τ Cert.RAttnIdeal.sig) → Buf (Elt Ideal) ℓ) : Prop :=
  True

def Pre_RAttnIdeal_attn_finite [hPre_attn_finite : Cert.Pre_attn_finite.Facts] (m : (ℓ : Loc Cert.RAttnIdeal.nD Cert.RAttnIdeal.τ Cert.RAttnIdeal.sig) → Buf (Elt Ideal) ℓ) : Prop :=
  ∀ c : Dev Cert.RAttnIdeal.nD,
    (Cert.Pre_attn_finite.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2)) (m ((c.tc : Thread Cert.RAttnIdeal.nD Cert.RAttnIdeal.τ).loc Cert.RAttnIdeal.main_arg3))) = (fun _ => 1#1)

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_KFfnIdeal_ffn_finite [hPre_ffn_finite : Cert.Pre_ffn_finite.Facts] (m : (ℓ : Loc Cert.KFfnIdeal.nD Cert.KFfnIdeal.τ Cert.KFfnIdeal.sig) → Buf (Elt Ideal) ℓ) : Prop :=
  ∀ c : Dev Cert.KFfnIdeal.nD,
    (Cert.Pre_ffn_finite.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3))) = (fun _ => 1#1)

def Pre_RFfnIdeal (m : (ℓ : Loc Cert.RFfnIdeal.nD Cert.RFfnIdeal.τ Cert.RFfnIdeal.sig) → Buf (Elt Ideal) ℓ) : Prop :=
  True

def Pre_RFfnIdeal_ffn_finite [hPre_ffn_finite : Cert.Pre_ffn_finite.Facts] (m : (ℓ : Loc Cert.RFfnIdeal.nD Cert.RFfnIdeal.τ Cert.RFfnIdeal.sig) → Buf (Elt Ideal) ℓ) : Prop :=
  ∀ c : Dev Cert.RFfnIdeal.nD,
    (Cert.Pre_ffn_finite.fn (F := Ideal) (m ((c.tc : Thread Cert.RFfnIdeal.nD Cert.RFfnIdeal.τ).loc Cert.RFfnIdeal.main_arg0)) (m ((c.tc : Thread Cert.RFfnIdeal.nD Cert.RFfnIdeal.τ).loc Cert.RFfnIdeal.main_arg1)) (m ((c.tc : Thread Cert.RFfnIdeal.nD Cert.RFfnIdeal.τ).loc Cert.RFfnIdeal.main_arg2)) (m ((c.tc : Thread Cert.RFfnIdeal.nD Cert.RFfnIdeal.τ).loc Cert.RFfnIdeal.main_arg3))) = (fun _ => 1#1)

def Pre_KRms (m : (ℓ : Loc Cert.KRms.nD Cert.KRms.τ Cert.KRms.sig) → Buf (Elt Bits) ℓ) : Prop :=
  True

def Pre_KRmsIdeal (m : (ℓ : Loc Cert.KRmsIdeal.nD Cert.KRmsIdeal.τ Cert.KRmsIdeal.sig) → Buf (Elt Ideal) ℓ) : Prop :=
  True

def Pre_RRmsIdeal (m : (ℓ : Loc Cert.RRmsIdeal.nD Cert.RRmsIdeal.τ Cert.RRmsIdeal.sig) → Buf (Elt Ideal) ℓ) : Prop :=
  True

def Pre_KAfwd (m : (ℓ : Loc Cert.KAfwd.nD Cert.KAfwd.τ Cert.KAfwd.sig) → Buf (Elt Bits) ℓ) : Prop :=
  True

def Pre_KAfwdIdeal (m : (ℓ : Loc Cert.KAfwdIdeal.nD Cert.KAfwdIdeal.τ Cert.KAfwdIdeal.sig) → Buf (Elt Ideal) ℓ) : Prop :=
  True

def Pre_KAfwdIdeal_afwd_finite [hPre_afwd_finite : Cert.Pre_afwd_finite.Facts] (m : (ℓ : Loc Cert.KAfwdIdeal.nD Cert.KAfwdIdeal.τ Cert.KAfwdIdeal.sig) → Buf (Elt Ideal) ℓ) : Prop :=
  ∀ c : Dev Cert.KAfwdIdeal.nD,
    (Cert.Pre_afwd_finite.fn (F := Ideal) (m ((c.tc : Thread Cert.KAfwdIdeal.nD Cert.KAfwdIdeal.τ).loc Cert.KAfwdIdeal.main_arg0)) (m ((c.tc : Thread Cert.KAfwdIdeal.nD Cert.KAfwdIdeal.τ).loc Cert.KAfwdIdeal.main_arg1)) (m ((c.tc : Thread Cert.KAfwdIdeal.nD Cert.KAfwdIdeal.τ).loc Cert.KAfwdIdeal.main_arg2))) = (fun _ => 1#1)

def Pre_RAfwdIdeal (m : (ℓ : Loc Cert.RAfwdIdeal.nD Cert.RAfwdIdeal.τ Cert.RAfwdIdeal.sig) → Buf (Elt Ideal) ℓ) : Prop :=
  True

def Pre_RAfwdIdeal_afwd_finite [hPre_afwd_finite : Cert.Pre_afwd_finite.Facts] (m : (ℓ : Loc Cert.RAfwdIdeal.nD Cert.RAfwdIdeal.τ Cert.RAfwdIdeal.sig) → Buf (Elt Ideal) ℓ) : Prop :=
  ∀ c : Dev Cert.RAfwdIdeal.nD,
    (Cert.Pre_afwd_finite.fn (F := Ideal) (m ((c.tc : Thread Cert.RAfwdIdeal.nD Cert.RAfwdIdeal.τ).loc Cert.RAfwdIdeal.main_arg0)) (m ((c.tc : Thread Cert.RAfwdIdeal.nD Cert.RAfwdIdeal.τ).loc Cert.RAfwdIdeal.main_arg1)) (m ((c.tc : Thread Cert.RAfwdIdeal.nD Cert.RAfwdIdeal.τ).loc Cert.RAfwdIdeal.main_arg2))) = (fun _ => 1#1)

def Pre_KRfwd (m : (ℓ : Loc Cert.KRfwd.nD Cert.KRfwd.τ Cert.KRfwd.sig) → Buf (Elt Bits) ℓ) : Prop :=
  True

def Pre_KRfwdIdeal (m : (ℓ : Loc Cert.KRfwdIdeal.nD Cert.KRfwdIdeal.τ Cert.KRfwdIdeal.sig) → Buf (Elt Ideal) ℓ) : Prop :=
  True

def Pre_RRfwdIdeal (m : (ℓ : Loc Cert.RRfwdIdeal.nD Cert.RRfwdIdeal.τ Cert.RRfwdIdeal.sig) → Buf (Elt Ideal) ℓ) : Prop :=
  True

def Pre_KFfwd (m : (ℓ : Loc Cert.KFfwd.nD Cert.KFfwd.τ Cert.KFfwd.sig) → Buf (Elt Bits) ℓ) : Prop :=
  True

def Pre_KFfwdIdeal (m : (ℓ : Loc Cert.KFfwdIdeal.nD Cert.KFfwdIdeal.τ Cert.KFfwdIdeal.sig) → Buf (Elt Ideal) ℓ) : Prop :=
  True

def Pre_RFfwdIdeal (m : (ℓ : Loc Cert.RFfwdIdeal.nD Cert.RFfwdIdeal.τ Cert.RFfwdIdeal.sig) → Buf (Elt Ideal) ℓ) : Prop :=
  True

def Pre_KPfwd (m : (ℓ : Loc Cert.KPfwd.nD Cert.KPfwd.τ Cert.KPfwd.sig) → Buf (Elt Bits) ℓ) : Prop :=
  True

def Pre_KPfwdIdeal (m : (ℓ : Loc Cert.KPfwdIdeal.nD Cert.KPfwdIdeal.τ Cert.KPfwdIdeal.sig) → Buf (Elt Ideal) ℓ) : Prop :=
  True

def Pre_KPfwdIdeal_prep_finite [hPre_prep_finite : Cert.Pre_prep_finite.Facts] (m : (ℓ : Loc Cert.KPfwdIdeal.nD Cert.KPfwdIdeal.τ Cert.KPfwdIdeal.sig) → Buf (Elt Ideal) ℓ) : Prop :=
  ∀ c : Dev Cert.KPfwdIdeal.nD,
    (Cert.Pre_prep_finite.fn (F := Ideal) (m ((c.tc : Thread Cert.KPfwdIdeal.nD Cert.KPfwdIdeal.τ).loc Cert.KPfwdIdeal.main_arg0)) (m ((c.tc : Thread Cert.KPfwdIdeal.nD Cert.KPfwdIdeal.τ).loc Cert.KPfwdIdeal.main_arg1)) (m ((c.tc : Thread Cert.KPfwdIdeal.nD Cert.KPfwdIdeal.τ).loc Cert.KPfwdIdeal.main_arg2)) (m ((c.tc : Thread Cert.KPfwdIdeal.nD Cert.KPfwdIdeal.τ).loc Cert.KPfwdIdeal.main_arg3)) (m ((c.tc : Thread Cert.KPfwdIdeal.nD Cert.KPfwdIdeal.τ).loc Cert.KPfwdIdeal.main_arg4)) (m ((c.tc : Thread Cert.KPfwdIdeal.nD Cert.KPfwdIdeal.τ).loc Cert.KPfwdIdeal.main_arg5))) = (fun _ => 1#1)

def Pre_RPfwdIdeal (m : (ℓ : Loc Cert.RPfwdIdeal.nD Cert.RPfwdIdeal.τ Cert.RPfwdIdeal.sig) → Buf (Elt Ideal) ℓ) : Prop :=
  True

def Pre_RPfwdIdeal_prep_finite [hPre_prep_finite : Cert.Pre_prep_finite.Facts] (m : (ℓ : Loc Cert.RPfwdIdeal.nD Cert.RPfwdIdeal.τ Cert.RPfwdIdeal.sig) → Buf (Elt Ideal) ℓ) : Prop :=
  ∀ c : Dev Cert.RPfwdIdeal.nD,
    (Cert.Pre_prep_finite.fn (F := Ideal) (m ((c.tc : Thread Cert.RPfwdIdeal.nD Cert.RPfwdIdeal.τ).loc Cert.RPfwdIdeal.main_arg0)) (m ((c.tc : Thread Cert.RPfwdIdeal.nD Cert.RPfwdIdeal.τ).loc Cert.RPfwdIdeal.main_arg1)) (m ((c.tc : Thread Cert.RPfwdIdeal.nD Cert.RPfwdIdeal.τ).loc Cert.RPfwdIdeal.main_arg2)) (m ((c.tc : Thread Cert.RPfwdIdeal.nD Cert.RPfwdIdeal.τ).loc Cert.RPfwdIdeal.main_arg3)) (m ((c.tc : Thread Cert.RPfwdIdeal.nD Cert.RPfwdIdeal.τ).loc Cert.RPfwdIdeal.main_arg4)) (m ((c.tc : Thread Cert.RPfwdIdeal.nD Cert.RPfwdIdeal.τ).loc Cert.RPfwdIdeal.main_arg5))) = (fun _ => 1#1)

def Pre_KNfwd (m : (ℓ : Loc Cert.KNfwd.nD Cert.KNfwd.τ Cert.KNfwd.sig) → Buf (Elt Bits) ℓ) : Prop :=
  True

def Pre_KNfwdIdeal (m : (ℓ : Loc Cert.KNfwdIdeal.nD Cert.KNfwdIdeal.τ Cert.KNfwdIdeal.sig) → Buf (Elt Ideal) ℓ) : Prop :=
  True

def Pre_RNfwdIdeal (m : (ℓ : Loc Cert.RNfwdIdeal.nD Cert.RNfwdIdeal.τ Cert.RNfwdIdeal.sig) → Buf (Elt Ideal) ℓ) : Prop :=
  True

def Pre_KMmnn (m : (ℓ : Loc Cert.KMmnn.nD Cert.KMmnn.τ Cert.KMmnn.sig) → Buf (Elt Bits) ℓ) : Prop :=
  True

def Pre_KMmnnIdeal (m : (ℓ : Loc Cert.KMmnnIdeal.nD Cert.KMmnnIdeal.τ Cert.KMmnnIdeal.sig) → Buf (Elt Ideal) ℓ) : Prop :=
  True

def Pre_RMmnnIdeal (m : (ℓ : Loc Cert.RMmnnIdeal.nD Cert.RMmnnIdeal.τ Cert.RMmnnIdeal.sig) → Buf (Elt Ideal) ℓ) : Prop :=
  True

def Pre_KMmnt (m : (ℓ : Loc Cert.KMmnt.nD Cert.KMmnt.τ Cert.KMmnt.sig) → Buf (Elt Bits) ℓ) : Prop :=
  True

def Pre_KMmntIdeal (m : (ℓ : Loc Cert.KMmntIdeal.nD Cert.KMmntIdeal.τ Cert.KMmntIdeal.sig) → Buf (Elt Ideal) ℓ) : Prop :=
  True

def Pre_RMmntIdeal (m : (ℓ : Loc Cert.RMmntIdeal.nD Cert.RMmntIdeal.τ Cert.RMmntIdeal.sig) → Buf (Elt Ideal) ℓ) : Prop :=
  True

def Pre_KMmtn (m : (ℓ : Loc Cert.KMmtn.nD Cert.KMmtn.τ Cert.KMmtn.sig) → Buf (Elt Bits) ℓ) : Prop :=
  True

def Pre_KMmtnIdeal (m : (ℓ : Loc Cert.KMmtnIdeal.nD Cert.KMmtnIdeal.τ Cert.KMmtnIdeal.sig) → Buf (Elt Ideal) ℓ) : Prop :=
  True

def Pre_RMmtnIdeal (m : (ℓ : Loc Cert.RMmtnIdeal.nD Cert.RMmtnIdeal.τ Cert.RMmtnIdeal.sig) → Buf (Elt Ideal) ℓ) : Prop :=
  True

def Pre_KAdam (m : (ℓ : Loc Cert.KAdam.nD Cert.KAdam.τ Cert.KAdam.sig) → Buf (Elt Bits) ℓ) : Prop :=
  True

def Pre_KAdamIdeal (m : (ℓ : Loc Cert.KAdamIdeal.nD Cert.KAdamIdeal.τ Cert.KAdamIdeal.sig) → Buf (Elt Ideal) ℓ) : Prop :=
  True

def Pre_RAdamIdeal (m : (ℓ : Loc Cert.RAdamIdeal.nD Cert.RAdamIdeal.τ Cert.RAdamIdeal.sig) → Buf (Elt Ideal) ℓ) : Prop :=
  True

def Pre_KPrep (m : (ℓ : Loc Cert.KPrep.nD Cert.KPrep.τ Cert.KPrep.sig) → Buf (Elt Bits) ℓ) : Prop :=
  True

def Pre_KPrepIdeal (m : (ℓ : Loc Cert.KPrepIdeal.nD Cert.KPrepIdeal.τ Cert.KPrepIdeal.sig) → Buf (Elt Ideal) ℓ) : Prop :=
  True

def Pre_KPrepIdeal_prep_grad_finite [hPre_prep_grad_finite : Cert.Pre_prep_grad_finite.Facts] (m : (ℓ : Loc Cert.KPrepIdeal.nD Cert.KPrepIdeal.τ Cert.KPrepIdeal.sig) → Buf (Elt Ideal) ℓ) : Prop :=
  ∀ c : Dev Cert.KPrepIdeal.nD,
    (Cert.Pre_prep_grad_finite.fn (F := Ideal) (m ((c.tc : Thread Cert.KPrepIdeal.nD Cert.KPrepIdeal.τ).loc Cert.KPrepIdeal.main_arg0)) (m ((c.tc : Thread Cert.KPrepIdeal.nD Cert.KPrepIdeal.τ).loc Cert.KPrepIdeal.main_arg1)) (m ((c.tc : Thread Cert.KPrepIdeal.nD Cert.KPrepIdeal.τ).loc Cert.KPrepIdeal.main_arg2)) (m ((c.tc : Thread Cert.KPrepIdeal.nD Cert.KPrepIdeal.τ).loc Cert.KPrepIdeal.main_arg3)) (m ((c.tc : Thread Cert.KPrepIdeal.nD Cert.KPrepIdeal.τ).loc Cert.KPrepIdeal.main_arg4)) (m ((c.tc : Thread Cert.KPrepIdeal.nD Cert.KPrepIdeal.τ).loc Cert.KPrepIdeal.main_arg5)) (m ((c.tc : Thread Cert.KPrepIdeal.nD Cert.KPrepIdeal.τ).loc Cert.KPrepIdeal.main_arg6)) (m ((c.tc : Thread Cert.KPrepIdeal.nD Cert.KPrepIdeal.τ).loc Cert.KPrepIdeal.main_arg7)) (m ((c.tc : Thread Cert.KPrepIdeal.nD Cert.KPrepIdeal.τ).loc Cert.KPrepIdeal.main_arg8)) (m ((c.tc : Thread Cert.KPrepIdeal.nD Cert.KPrepIdeal.τ).loc Cert.KPrepIdeal.main_arg9))) = (fun _ => 1#1)

def Pre_RPrepIdeal (m : (ℓ : Loc Cert.RPrepIdeal.nD Cert.RPrepIdeal.τ Cert.RPrepIdeal.sig) → Buf (Elt Ideal) ℓ) : Prop :=
  True

def Pre_RPrepIdeal_prep_grad_finite [hPre_prep_grad_finite : Cert.Pre_prep_grad_finite.Facts] (m : (ℓ : Loc Cert.RPrepIdeal.nD Cert.RPrepIdeal.τ Cert.RPrepIdeal.sig) → Buf (Elt Ideal) ℓ) : Prop :=
  ∀ c : Dev Cert.RPrepIdeal.nD,
    (Cert.Pre_prep_grad_finite.fn (F := Ideal) (m ((c.tc : Thread Cert.RPrepIdeal.nD Cert.RPrepIdeal.τ).loc Cert.RPrepIdeal.main_arg0)) (m ((c.tc : Thread Cert.RPrepIdeal.nD Cert.RPrepIdeal.τ).loc Cert.RPrepIdeal.main_arg1)) (m ((c.tc : Thread Cert.RPrepIdeal.nD Cert.RPrepIdeal.τ).loc Cert.RPrepIdeal.main_arg2)) (m ((c.tc : Thread Cert.RPrepIdeal.nD Cert.RPrepIdeal.τ).loc Cert.RPrepIdeal.main_arg3)) (m ((c.tc : Thread Cert.RPrepIdeal.nD Cert.RPrepIdeal.τ).loc Cert.RPrepIdeal.main_arg4)) (m ((c.tc : Thread Cert.RPrepIdeal.nD Cert.RPrepIdeal.τ).loc Cert.RPrepIdeal.main_arg5)) (m ((c.tc : Thread Cert.RPrepIdeal.nD Cert.RPrepIdeal.τ).loc Cert.RPrepIdeal.main_arg6)) (m ((c.tc : Thread Cert.RPrepIdeal.nD Cert.RPrepIdeal.τ).loc Cert.RPrepIdeal.main_arg7)) (m ((c.tc : Thread Cert.RPrepIdeal.nD Cert.RPrepIdeal.τ).loc Cert.RPrepIdeal.main_arg8)) (m ((c.tc : Thread Cert.RPrepIdeal.nD Cert.RPrepIdeal.τ).loc Cert.RPrepIdeal.main_arg9))) = (fun _ => 1#1)

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3))
      ∧ r.2.sem = fun _ => 0)

def quiescent_KAttnIdeal_pre_attn_finite [hKAttnIdeal : Cert.KAttnIdeal.Facts] [hPre_attn_finite : Cert.Pre_attn_finite.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal_attn_finite m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3))
      ∧ r.2.sem = fun _ => 0)

def quiescent_RAttnIdeal_pre_attn_finite [hRAttnIdeal : Cert.RAttnIdeal.Facts] [hPre_attn_finite : Cert.Pre_attn_finite.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal_attn_finite m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3))
      ∧ r.2.sem = fun _ => 0)

def quiescent_KFfnIdeal_pre_ffn_finite [hKFfnIdeal : Cert.KFfnIdeal.Facts] [hPre_ffn_finite : Cert.Pre_ffn_finite.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal_ffn_finite m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3))
      ∧ r.2.sem = fun _ => 0)

def quiescent_RFfnIdeal_pre_ffn_finite [hRFfnIdeal : Cert.RFfnIdeal.Facts] [hPre_ffn_finite : Cert.Pre_ffn_finite.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal_ffn_finite m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3))
      ∧ r.2.sem = fun _ => 0)

def quiescent_KRms [hKRms : Cert.KRms.Facts] : Prop :=
  ∀ (m : (ℓ : Loc Cert.KRms.nD Cert.KRms.τ Cert.KRms.sig) → Buf (Elt Bits) ℓ) (g : Dev Cert.KRms.nD → PrngReg), Pre_KRms m →
    θ_run (Cert.KRms.defs (F := Bits)) (onTc (τ := Cert.KRms.τ) (Cert.KRms.main (F := Bits))) ⟨m, fun _ => 0, g⟩ (fun r => (∀ c : Dev Cert.KRms.nD,
      r.2.mem ((c.tc : Thread Cert.KRms.nD Cert.KRms.τ).loc Cert.KRms.main_arg0) = m ((c.tc : Thread Cert.KRms.nD Cert.KRms.τ).loc Cert.KRms.main_arg0)
      ∧ r.2.mem ((c.tc : Thread Cert.KRms.nD Cert.KRms.τ).loc Cert.KRms.main_arg1) = m ((c.tc : Thread Cert.KRms.nD Cert.KRms.τ).loc Cert.KRms.main_arg1)
      ∧ r.2.mem ((c.tc : Thread Cert.KRms.nD Cert.KRms.τ).loc Cert.KRms.main_arg2) = m ((c.tc : Thread Cert.KRms.nD Cert.KRms.τ).loc Cert.KRms.main_arg2)
      ∧ r.2.mem ((c.tc : Thread Cert.KRms.nD Cert.KRms.τ).loc Cert.KRms.main_arg3) = m ((c.tc : Thread Cert.KRms.nD Cert.KRms.τ).loc Cert.KRms.main_arg3)
      ∧ r.2.mem ((c.tc : Thread Cert.KRms.nD Cert.KRms.τ).loc Cert.KRms.main_arg4) = m ((c.tc : Thread Cert.KRms.nD Cert.KRms.τ).loc Cert.KRms.main_arg4))
      ∧ r.2.sem = fun _ => 0)

def quiescent_KRmsIdeal [hKRmsIdeal : Cert.KRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg), Pre_KRmsIdeal m →
    θ_run (Cert.KRmsIdeal.defs (F := Ideal)) (onTc (τ := Cert.KRmsIdeal.τ) (Cert.KRmsIdeal.main (F := Ideal))) ⟨m, fun _ => 0, g⟩ (fun r => (∀ c : Dev Cert.KRmsIdeal.nD,
      r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
      ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1)
      ∧ r.2.mem ((c.tc : Thread Cert.KRmsIdeal.nD Cert.KRmsIdeal.τ).loc Cert.KRmsIdeal.main_arg2) = m ((c.tc : Thread Cert.KRmsIdeal.nD Cert.KRmsIdeal.τ).loc Cert.KRmsIdeal.main_arg2)
      ∧ r.2.mem ((c.tc : Thread Cert.KRmsIdeal.nD Cert.KRmsIdeal.τ).loc Cert.KRmsIdeal.main_arg3) = m ((c.tc : Thread Cert.KRmsIdeal.nD Cert.KRmsIdeal.τ).loc Cert.KRmsIdeal.main_arg3)
      ∧ r.2.mem ((c.tc : Thread Cert.KRmsIdeal.nD Cert.KRmsIdeal.τ).loc Cert.KRmsIdeal.main_arg4) = m ((c.tc : Thread Cert.KRmsIdeal.nD Cert.KRmsIdeal.τ).loc Cert.KRmsIdeal.main_arg4))
      ∧ r.2.sem = fun _ => 0)

def quiescent_RRmsIdeal [hRRmsIdeal : Cert.RRmsIdeal.Facts] : Prop :=
  ∀ (m : (ℓ : Loc Cert.RRmsIdeal.nD Cert.RRmsIdeal.τ Cert.RRmsIdeal.sig) → Buf (Elt Ideal) ℓ) (g : Dev Cert.RRmsIdeal.nD → PrngReg), Pre_RRmsIdeal m →
    θ_run (Cert.RRmsIdeal.defs (F := Ideal)) (onTc (τ := Cert.RRmsIdeal.τ) (Cert.RRmsIdeal.main (F := Ideal))) ⟨m, fun _ => 0, g⟩ (fun r => (∀ c : Dev Cert.RRmsIdeal.nD,
      r.2.mem ((c.tc : Thread Cert.RRmsIdeal.nD Cert.RRmsIdeal.τ).loc Cert.RRmsIdeal.main_arg0) = m ((c.tc : Thread Cert.RRmsIdeal.nD Cert.RRmsIdeal.τ).loc Cert.RRmsIdeal.main_arg0)
      ∧ r.2.mem ((c.tc : Thread Cert.RRmsIdeal.nD Cert.RRmsIdeal.τ).loc Cert.RRmsIdeal.main_arg1) = m ((c.tc : Thread Cert.RRmsIdeal.nD Cert.RRmsIdeal.τ).loc Cert.RRmsIdeal.main_arg1)
      ∧ r.2.mem ((c.tc : Thread Cert.RRmsIdeal.nD Cert.RRmsIdeal.τ).loc Cert.RRmsIdeal.main_arg2) = m ((c.tc : Thread Cert.RRmsIdeal.nD Cert.RRmsIdeal.τ).loc Cert.RRmsIdeal.main_arg2)
      ∧ r.2.mem ((c.tc : Thread Cert.RRmsIdeal.nD Cert.RRmsIdeal.τ).loc Cert.RRmsIdeal.main_arg3) = m ((c.tc : Thread Cert.RRmsIdeal.nD Cert.RRmsIdeal.τ).loc Cert.RRmsIdeal.main_arg3)
      ∧ r.2.mem ((c.tc : Thread Cert.RRmsIdeal.nD Cert.RRmsIdeal.τ).loc Cert.RRmsIdeal.main_arg4) = m ((c.tc : Thread Cert.RRmsIdeal.nD Cert.RRmsIdeal.τ).loc Cert.RRmsIdeal.main_arg4))
      ∧ r.2.sem = fun _ => 0)

def quiescent_KAfwd [hKAfwd : Cert.KAfwd.Facts] : Prop :=
  ∀ (m : (ℓ : Loc Cert.KAfwd.nD Cert.KAfwd.τ Cert.KAfwd.sig) → Buf (Elt Bits) ℓ) (g : Dev Cert.KAfwd.nD → PrngReg), Pre_KAfwd m →
    θ_run (Cert.KAfwd.defs (F := Bits)) (onTc (τ := Cert.KAfwd.τ) (Cert.KAfwd.main (F := Bits))) ⟨m, fun _ => 0, g⟩ (fun r => (∀ c : Dev Cert.KAfwd.nD,
      r.2.mem ((c.tc : Thread Cert.KAfwd.nD Cert.KAfwd.τ).loc Cert.KAfwd.main_arg0) = m ((c.tc : Thread Cert.KAfwd.nD Cert.KAfwd.τ).loc Cert.KAfwd.main_arg0)
      ∧ r.2.mem ((c.tc : Thread Cert.KAfwd.nD Cert.KAfwd.τ).loc Cert.KAfwd.main_arg1) = m ((c.tc : Thread Cert.KAfwd.nD Cert.KAfwd.τ).loc Cert.KAfwd.main_arg1)
      ∧ r.2.mem ((c.tc : Thread Cert.KAfwd.nD Cert.KAfwd.τ).loc Cert.KAfwd.main_arg2) = m ((c.tc : Thread Cert.KAfwd.nD Cert.KAfwd.τ).loc Cert.KAfwd.main_arg2))
      ∧ r.2.sem = fun _ => 0)

def quiescent_KAfwdIdeal [hKAfwdIdeal : Cert.KAfwdIdeal.Facts] : Prop :=
  ∀ (m : (ℓ : Loc Cert.KAfwdIdeal.nD Cert.KAfwdIdeal.τ Cert.KAfwdIdeal.sig) → Buf (Elt Ideal) ℓ) (g : Dev Cert.KAfwdIdeal.nD → PrngReg), Pre_KAfwdIdeal m →
    θ_run (Cert.KAfwdIdeal.defs (F := Ideal)) (onTc (τ := Cert.KAfwdIdeal.τ) (Cert.KAfwdIdeal.main (F := Ideal))) ⟨m, fun _ => 0, g⟩ (fun r => (∀ c : Dev Cert.KAfwdIdeal.nD,
      r.2.mem ((c.tc : Thread Cert.KAfwdIdeal.nD Cert.KAfwdIdeal.τ).loc Cert.KAfwdIdeal.main_arg0) = m ((c.tc : Thread Cert.KAfwdIdeal.nD Cert.KAfwdIdeal.τ).loc Cert.KAfwdIdeal.main_arg0)
      ∧ r.2.mem ((c.tc : Thread Cert.KAfwdIdeal.nD Cert.KAfwdIdeal.τ).loc Cert.KAfwdIdeal.main_arg1) = m ((c.tc : Thread Cert.KAfwdIdeal.nD Cert.KAfwdIdeal.τ).loc Cert.KAfwdIdeal.main_arg1)
      ∧ r.2.mem ((c.tc : Thread Cert.KAfwdIdeal.nD Cert.KAfwdIdeal.τ).loc Cert.KAfwdIdeal.main_arg2) = m ((c.tc : Thread Cert.KAfwdIdeal.nD Cert.KAfwdIdeal.τ).loc Cert.KAfwdIdeal.main_arg2))
      ∧ r.2.sem = fun _ => 0)

def quiescent_KAfwdIdeal_pre_afwd_finite [hKAfwdIdeal : Cert.KAfwdIdeal.Facts] [hPre_afwd_finite : Cert.Pre_afwd_finite.Facts] : Prop :=
  ∀ (m : (ℓ : Loc Cert.KAfwdIdeal.nD Cert.KAfwdIdeal.τ Cert.KAfwdIdeal.sig) → Buf (Elt Ideal) ℓ) (g : Dev Cert.KAfwdIdeal.nD → PrngReg), Pre_KAfwdIdeal_afwd_finite m →
    θ_run (Cert.KAfwdIdeal.defs (F := Ideal)) (onTc (τ := Cert.KAfwdIdeal.τ) (Cert.KAfwdIdeal.main (F := Ideal))) ⟨m, fun _ => 0, g⟩ (fun r => (∀ c : Dev Cert.KAfwdIdeal.nD,
      r.2.mem ((c.tc : Thread Cert.KAfwdIdeal.nD Cert.KAfwdIdeal.τ).loc Cert.KAfwdIdeal.main_arg0) = m ((c.tc : Thread Cert.KAfwdIdeal.nD Cert.KAfwdIdeal.τ).loc Cert.KAfwdIdeal.main_arg0)
      ∧ r.2.mem ((c.tc : Thread Cert.KAfwdIdeal.nD Cert.KAfwdIdeal.τ).loc Cert.KAfwdIdeal.main_arg1) = m ((c.tc : Thread Cert.KAfwdIdeal.nD Cert.KAfwdIdeal.τ).loc Cert.KAfwdIdeal.main_arg1)
      ∧ r.2.mem ((c.tc : Thread Cert.KAfwdIdeal.nD Cert.KAfwdIdeal.τ).loc Cert.KAfwdIdeal.main_arg2) = m ((c.tc : Thread Cert.KAfwdIdeal.nD Cert.KAfwdIdeal.τ).loc Cert.KAfwdIdeal.main_arg2))
      ∧ r.2.sem = fun _ => 0)

def quiescent_RAfwdIdeal [hRAfwdIdeal : Cert.RAfwdIdeal.Facts] : Prop :=
  ∀ (m : (ℓ : Loc Cert.RAfwdIdeal.nD Cert.RAfwdIdeal.τ Cert.RAfwdIdeal.sig) → Buf (Elt Ideal) ℓ) (g : Dev Cert.RAfwdIdeal.nD → PrngReg), Pre_RAfwdIdeal m →
    θ_run (Cert.RAfwdIdeal.defs (F := Ideal)) (onTc (τ := Cert.RAfwdIdeal.τ) (Cert.RAfwdIdeal.main (F := Ideal))) ⟨m, fun _ => 0, g⟩ (fun r => (∀ c : Dev Cert.RAfwdIdeal.nD,
      r.2.mem ((c.tc : Thread Cert.RAfwdIdeal.nD Cert.RAfwdIdeal.τ).loc Cert.RAfwdIdeal.main_arg0) = m ((c.tc : Thread Cert.RAfwdIdeal.nD Cert.RAfwdIdeal.τ).loc Cert.RAfwdIdeal.main_arg0)
      ∧ r.2.mem ((c.tc : Thread Cert.RAfwdIdeal.nD Cert.RAfwdIdeal.τ).loc Cert.RAfwdIdeal.main_arg1) = m ((c.tc : Thread Cert.RAfwdIdeal.nD Cert.RAfwdIdeal.τ).loc Cert.RAfwdIdeal.main_arg1)
      ∧ r.2.mem ((c.tc : Thread Cert.RAfwdIdeal.nD Cert.RAfwdIdeal.τ).loc Cert.RAfwdIdeal.main_arg2) = m ((c.tc : Thread Cert.RAfwdIdeal.nD Cert.RAfwdIdeal.τ).loc Cert.RAfwdIdeal.main_arg2))
      ∧ r.2.sem = fun _ => 0)

def quiescent_RAfwdIdeal_pre_afwd_finite [hRAfwdIdeal : Cert.RAfwdIdeal.Facts] [hPre_afwd_finite : Cert.Pre_afwd_finite.Facts] : Prop :=
  ∀ (m : (ℓ : Loc Cert.RAfwdIdeal.nD Cert.RAfwdIdeal.τ Cert.RAfwdIdeal.sig) → Buf (Elt Ideal) ℓ) (g : Dev Cert.RAfwdIdeal.nD → PrngReg), Pre_RAfwdIdeal_afwd_finite m →
    θ_run (Cert.RAfwdIdeal.defs (F := Ideal)) (onTc (τ := Cert.RAfwdIdeal.τ) (Cert.RAfwdIdeal.main (F := Ideal))) ⟨m, fun _ => 0, g⟩ (fun r => (∀ c : Dev Cert.RAfwdIdeal.nD,
      r.2.mem ((c.tc : Thread Cert.RAfwdIdeal.nD Cert.RAfwdIdeal.τ).loc Cert.RAfwdIdeal.main_arg0) = m ((c.tc : Thread Cert.RAfwdIdeal.nD Cert.RAfwdIdeal.τ).loc Cert.RAfwdIdeal.main_arg0)
      ∧ r.2.mem ((c.tc : Thread Cert.RAfwdIdeal.nD Cert.RAfwdIdeal.τ).loc Cert.RAfwdIdeal.main_arg1) = m ((c.tc : Thread Cert.RAfwdIdeal.nD Cert.RAfwdIdeal.τ).loc Cert.RAfwdIdeal.main_arg1)
      ∧ r.2.mem ((c.tc : Thread Cert.RAfwdIdeal.nD Cert.RAfwdIdeal.τ).loc Cert.RAfwdIdeal.main_arg2) = m ((c.tc : Thread Cert.RAfwdIdeal.nD Cert.RAfwdIdeal.τ).loc Cert.RAfwdIdeal.main_arg2))
      ∧ r.2.sem = fun _ => 0)

def quiescent_KRfwd [hKRfwd : Cert.KRfwd.Facts] : Prop :=
  ∀ (m : (ℓ : Loc Cert.KRfwd.nD Cert.KRfwd.τ Cert.KRfwd.sig) → Buf (Elt Bits) ℓ) (g : Dev Cert.KRfwd.nD → PrngReg), Pre_KRfwd m →
    θ_run (Cert.KRfwd.defs (F := Bits)) (onTc (τ := Cert.KRfwd.τ) (Cert.KRfwd.main (F := Bits))) ⟨m, fun _ => 0, g⟩ (fun r => (∀ c : Dev Cert.KRfwd.nD,
      r.2.mem ((c.tc : Thread Cert.KRfwd.nD Cert.KRfwd.τ).loc Cert.KRfwd.main_arg0) = m ((c.tc : Thread Cert.KRfwd.nD Cert.KRfwd.τ).loc Cert.KRfwd.main_arg0)
      ∧ r.2.mem ((c.tc : Thread Cert.KRfwd.nD Cert.KRfwd.τ).loc Cert.KRfwd.main_arg1) = m ((c.tc : Thread Cert.KRfwd.nD Cert.KRfwd.τ).loc Cert.KRfwd.main_arg1))
      ∧ r.2.sem = fun _ => 0)

def quiescent_KRfwdIdeal [hKRfwdIdeal : Cert.KRfwdIdeal.Facts] : Prop :=
  ∀ (m : (ℓ : Loc Cert.KRfwdIdeal.nD Cert.KRfwdIdeal.τ Cert.KRfwdIdeal.sig) → Buf (Elt Ideal) ℓ) (g : Dev Cert.KRfwdIdeal.nD → PrngReg), Pre_KRfwdIdeal m →
    θ_run (Cert.KRfwdIdeal.defs (F := Ideal)) (onTc (τ := Cert.KRfwdIdeal.τ) (Cert.KRfwdIdeal.main (F := Ideal))) ⟨m, fun _ => 0, g⟩ (fun r => (∀ c : Dev Cert.KRfwdIdeal.nD,
      r.2.mem ((c.tc : Thread Cert.KRfwdIdeal.nD Cert.KRfwdIdeal.τ).loc Cert.KRfwdIdeal.main_arg0) = m ((c.tc : Thread Cert.KRfwdIdeal.nD Cert.KRfwdIdeal.τ).loc Cert.KRfwdIdeal.main_arg0)
      ∧ r.2.mem ((c.tc : Thread Cert.KRfwdIdeal.nD Cert.KRfwdIdeal.τ).loc Cert.KRfwdIdeal.main_arg1) = m ((c.tc : Thread Cert.KRfwdIdeal.nD Cert.KRfwdIdeal.τ).loc Cert.KRfwdIdeal.main_arg1))
      ∧ r.2.sem = fun _ => 0)

def quiescent_RRfwdIdeal [hRRfwdIdeal : Cert.RRfwdIdeal.Facts] : Prop :=
  ∀ (m : (ℓ : Loc Cert.RRfwdIdeal.nD Cert.RRfwdIdeal.τ Cert.RRfwdIdeal.sig) → Buf (Elt Ideal) ℓ) (g : Dev Cert.RRfwdIdeal.nD → PrngReg), Pre_RRfwdIdeal m →
    θ_run (Cert.RRfwdIdeal.defs (F := Ideal)) (onTc (τ := Cert.RRfwdIdeal.τ) (Cert.RRfwdIdeal.main (F := Ideal))) ⟨m, fun _ => 0, g⟩ (fun r => (∀ c : Dev Cert.RRfwdIdeal.nD,
      r.2.mem ((c.tc : Thread Cert.RRfwdIdeal.nD Cert.RRfwdIdeal.τ).loc Cert.RRfwdIdeal.main_arg0) = m ((c.tc : Thread Cert.RRfwdIdeal.nD Cert.RRfwdIdeal.τ).loc Cert.RRfwdIdeal.main_arg0)
      ∧ r.2.mem ((c.tc : Thread Cert.RRfwdIdeal.nD Cert.RRfwdIdeal.τ).loc Cert.RRfwdIdeal.main_arg1) = m ((c.tc : Thread Cert.RRfwdIdeal.nD Cert.RRfwdIdeal.τ).loc Cert.RRfwdIdeal.main_arg1))
      ∧ r.2.sem = fun _ => 0)

def quiescent_KFfwd [hKFfwd : Cert.KFfwd.Facts] : Prop :=
  ∀ (m : (ℓ : Loc Cert.KFfwd.nD Cert.KFfwd.τ Cert.KFfwd.sig) → Buf (Elt Bits) ℓ) (g : Dev Cert.KFfwd.nD → PrngReg), Pre_KFfwd m →
    θ_run (Cert.KFfwd.defs (F := Bits)) (onTc (τ := Cert.KFfwd.τ) (Cert.KFfwd.main (F := Bits))) ⟨m, fun _ => 0, g⟩ (fun r => (∀ c : Dev Cert.KFfwd.nD,
      r.2.mem ((c.tc : Thread Cert.KFfwd.nD Cert.KFfwd.τ).loc Cert.KFfwd.main_arg0) = m ((c.tc : Thread Cert.KFfwd.nD Cert.KFfwd.τ).loc Cert.KFfwd.main_arg0)
      ∧ r.2.mem ((c.tc : Thread Cert.KFfwd.nD Cert.KFfwd.τ).loc Cert.KFfwd.main_arg1) = m ((c.tc : Thread Cert.KFfwd.nD Cert.KFfwd.τ).loc Cert.KFfwd.main_arg1)
      ∧ r.2.mem ((c.tc : Thread Cert.KFfwd.nD Cert.KFfwd.τ).loc Cert.KFfwd.main_arg2) = m ((c.tc : Thread Cert.KFfwd.nD Cert.KFfwd.τ).loc Cert.KFfwd.main_arg2))
      ∧ r.2.sem = fun _ => 0)

def quiescent_KFfwdIdeal [hKFfwdIdeal : Cert.KFfwdIdeal.Facts] : Prop :=
  ∀ (m : (ℓ : Loc Cert.KFfwdIdeal.nD Cert.KFfwdIdeal.τ Cert.KFfwdIdeal.sig) → Buf (Elt Ideal) ℓ) (g : Dev Cert.KFfwdIdeal.nD → PrngReg), Pre_KFfwdIdeal m →
    θ_run (Cert.KFfwdIdeal.defs (F := Ideal)) (onTc (τ := Cert.KFfwdIdeal.τ) (Cert.KFfwdIdeal.main (F := Ideal))) ⟨m, fun _ => 0, g⟩ (fun r => (∀ c : Dev Cert.KFfwdIdeal.nD,
      r.2.mem ((c.tc : Thread Cert.KFfwdIdeal.nD Cert.KFfwdIdeal.τ).loc Cert.KFfwdIdeal.main_arg0) = m ((c.tc : Thread Cert.KFfwdIdeal.nD Cert.KFfwdIdeal.τ).loc Cert.KFfwdIdeal.main_arg0)
      ∧ r.2.mem ((c.tc : Thread Cert.KFfwdIdeal.nD Cert.KFfwdIdeal.τ).loc Cert.KFfwdIdeal.main_arg1) = m ((c.tc : Thread Cert.KFfwdIdeal.nD Cert.KFfwdIdeal.τ).loc Cert.KFfwdIdeal.main_arg1)
      ∧ r.2.mem ((c.tc : Thread Cert.KFfwdIdeal.nD Cert.KFfwdIdeal.τ).loc Cert.KFfwdIdeal.main_arg2) = m ((c.tc : Thread Cert.KFfwdIdeal.nD Cert.KFfwdIdeal.τ).loc Cert.KFfwdIdeal.main_arg2))
      ∧ r.2.sem = fun _ => 0)

def quiescent_RFfwdIdeal [hRFfwdIdeal : Cert.RFfwdIdeal.Facts] : Prop :=
  ∀ (m : (ℓ : Loc Cert.RFfwdIdeal.nD Cert.RFfwdIdeal.τ Cert.RFfwdIdeal.sig) → Buf (Elt Ideal) ℓ) (g : Dev Cert.RFfwdIdeal.nD → PrngReg), Pre_RFfwdIdeal m →
    θ_run (Cert.RFfwdIdeal.defs (F := Ideal)) (onTc (τ := Cert.RFfwdIdeal.τ) (Cert.RFfwdIdeal.main (F := Ideal))) ⟨m, fun _ => 0, g⟩ (fun r => (∀ c : Dev Cert.RFfwdIdeal.nD,
      r.2.mem ((c.tc : Thread Cert.RFfwdIdeal.nD Cert.RFfwdIdeal.τ).loc Cert.RFfwdIdeal.main_arg0) = m ((c.tc : Thread Cert.RFfwdIdeal.nD Cert.RFfwdIdeal.τ).loc Cert.RFfwdIdeal.main_arg0)
      ∧ r.2.mem ((c.tc : Thread Cert.RFfwdIdeal.nD Cert.RFfwdIdeal.τ).loc Cert.RFfwdIdeal.main_arg1) = m ((c.tc : Thread Cert.RFfwdIdeal.nD Cert.RFfwdIdeal.τ).loc Cert.RFfwdIdeal.main_arg1)
      ∧ r.2.mem ((c.tc : Thread Cert.RFfwdIdeal.nD Cert.RFfwdIdeal.τ).loc Cert.RFfwdIdeal.main_arg2) = m ((c.tc : Thread Cert.RFfwdIdeal.nD Cert.RFfwdIdeal.τ).loc Cert.RFfwdIdeal.main_arg2))
      ∧ r.2.sem = fun _ => 0)

def quiescent_KPfwd [hKPfwd : Cert.KPfwd.Facts] : Prop :=
  ∀ (m : (ℓ : Loc Cert.KPfwd.nD Cert.KPfwd.τ Cert.KPfwd.sig) → Buf (Elt Bits) ℓ) (g : Dev Cert.KPfwd.nD → PrngReg), Pre_KPfwd m →
    θ_run (Cert.KPfwd.defs (F := Bits)) (onTc (τ := Cert.KPfwd.τ) (Cert.KPfwd.main (F := Bits))) ⟨m, fun _ => 0, g⟩ (fun r => (∀ c : Dev Cert.KPfwd.nD,
      r.2.mem ((c.tc : Thread Cert.KPfwd.nD Cert.KPfwd.τ).loc Cert.KPfwd.main_arg0) = m ((c.tc : Thread Cert.KPfwd.nD Cert.KPfwd.τ).loc Cert.KPfwd.main_arg0)
      ∧ r.2.mem ((c.tc : Thread Cert.KPfwd.nD Cert.KPfwd.τ).loc Cert.KPfwd.main_arg1) = m ((c.tc : Thread Cert.KPfwd.nD Cert.KPfwd.τ).loc Cert.KPfwd.main_arg1)
      ∧ r.2.mem ((c.tc : Thread Cert.KPfwd.nD Cert.KPfwd.τ).loc Cert.KPfwd.main_arg2) = m ((c.tc : Thread Cert.KPfwd.nD Cert.KPfwd.τ).loc Cert.KPfwd.main_arg2)
      ∧ r.2.mem ((c.tc : Thread Cert.KPfwd.nD Cert.KPfwd.τ).loc Cert.KPfwd.main_arg3) = m ((c.tc : Thread Cert.KPfwd.nD Cert.KPfwd.τ).loc Cert.KPfwd.main_arg3)
      ∧ r.2.mem ((c.tc : Thread Cert.KPfwd.nD Cert.KPfwd.τ).loc Cert.KPfwd.main_arg4) = m ((c.tc : Thread Cert.KPfwd.nD Cert.KPfwd.τ).loc Cert.KPfwd.main_arg4)
      ∧ r.2.mem ((c.tc : Thread Cert.KPfwd.nD Cert.KPfwd.τ).loc Cert.KPfwd.main_arg5) = m ((c.tc : Thread Cert.KPfwd.nD Cert.KPfwd.τ).loc Cert.KPfwd.main_arg5))
      ∧ r.2.sem = fun _ => 0)

def quiescent_KPfwdIdeal [hKPfwdIdeal : Cert.KPfwdIdeal.Facts] : Prop :=
  ∀ (m : (ℓ : Loc Cert.KPfwdIdeal.nD Cert.KPfwdIdeal.τ Cert.KPfwdIdeal.sig) → Buf (Elt Ideal) ℓ) (g : Dev Cert.KPfwdIdeal.nD → PrngReg), Pre_KPfwdIdeal m →
    θ_run (Cert.KPfwdIdeal.defs (F := Ideal)) (onTc (τ := Cert.KPfwdIdeal.τ) (Cert.KPfwdIdeal.main (F := Ideal))) ⟨m, fun _ => 0, g⟩ (fun r => (∀ c : Dev Cert.KPfwdIdeal.nD,
      r.2.mem ((c.tc : Thread Cert.KPfwdIdeal.nD Cert.KPfwdIdeal.τ).loc Cert.KPfwdIdeal.main_arg0) = m ((c.tc : Thread Cert.KPfwdIdeal.nD Cert.KPfwdIdeal.τ).loc Cert.KPfwdIdeal.main_arg0)
      ∧ r.2.mem ((c.tc : Thread Cert.KPfwdIdeal.nD Cert.KPfwdIdeal.τ).loc Cert.KPfwdIdeal.main_arg1) = m ((c.tc : Thread Cert.KPfwdIdeal.nD Cert.KPfwdIdeal.τ).loc Cert.KPfwdIdeal.main_arg1)
      ∧ r.2.mem ((c.tc : Thread Cert.KPfwdIdeal.nD Cert.KPfwdIdeal.τ).loc Cert.KPfwdIdeal.main_arg2) = m ((c.tc : Thread Cert.KPfwdIdeal.nD Cert.KPfwdIdeal.τ).loc Cert.KPfwdIdeal.main_arg2)
      ∧ r.2.mem ((c.tc : Thread Cert.KPfwdIdeal.nD Cert.KPfwdIdeal.τ).loc Cert.KPfwdIdeal.main_arg3) = m ((c.tc : Thread Cert.KPfwdIdeal.nD Cert.KPfwdIdeal.τ).loc Cert.KPfwdIdeal.main_arg3)
      ∧ r.2.mem ((c.tc : Thread Cert.KPfwdIdeal.nD Cert.KPfwdIdeal.τ).loc Cert.KPfwdIdeal.main_arg4) = m ((c.tc : Thread Cert.KPfwdIdeal.nD Cert.KPfwdIdeal.τ).loc Cert.KPfwdIdeal.main_arg4)
      ∧ r.2.mem ((c.tc : Thread Cert.KPfwdIdeal.nD Cert.KPfwdIdeal.τ).loc Cert.KPfwdIdeal.main_arg5) = m ((c.tc : Thread Cert.KPfwdIdeal.nD Cert.KPfwdIdeal.τ).loc Cert.KPfwdIdeal.main_arg5))
      ∧ r.2.sem = fun _ => 0)

def quiescent_KPfwdIdeal_pre_prep_finite [hKPfwdIdeal : Cert.KPfwdIdeal.Facts] [hPre_prep_finite : Cert.Pre_prep_finite.Facts] : Prop :=
  ∀ (m : (ℓ : Loc Cert.KPfwdIdeal.nD Cert.KPfwdIdeal.τ Cert.KPfwdIdeal.sig) → Buf (Elt Ideal) ℓ) (g : Dev Cert.KPfwdIdeal.nD → PrngReg), Pre_KPfwdIdeal_prep_finite m →
    θ_run (Cert.KPfwdIdeal.defs (F := Ideal)) (onTc (τ := Cert.KPfwdIdeal.τ) (Cert.KPfwdIdeal.main (F := Ideal))) ⟨m, fun _ => 0, g⟩ (fun r => (∀ c : Dev Cert.KPfwdIdeal.nD,
      r.2.mem ((c.tc : Thread Cert.KPfwdIdeal.nD Cert.KPfwdIdeal.τ).loc Cert.KPfwdIdeal.main_arg0) = m ((c.tc : Thread Cert.KPfwdIdeal.nD Cert.KPfwdIdeal.τ).loc Cert.KPfwdIdeal.main_arg0)
      ∧ r.2.mem ((c.tc : Thread Cert.KPfwdIdeal.nD Cert.KPfwdIdeal.τ).loc Cert.KPfwdIdeal.main_arg1) = m ((c.tc : Thread Cert.KPfwdIdeal.nD Cert.KPfwdIdeal.τ).loc Cert.KPfwdIdeal.main_arg1)
      ∧ r.2.mem ((c.tc : Thread Cert.KPfwdIdeal.nD Cert.KPfwdIdeal.τ).loc Cert.KPfwdIdeal.main_arg2) = m ((c.tc : Thread Cert.KPfwdIdeal.nD Cert.KPfwdIdeal.τ).loc Cert.KPfwdIdeal.main_arg2)
      ∧ r.2.mem ((c.tc : Thread Cert.KPfwdIdeal.nD Cert.KPfwdIdeal.τ).loc Cert.KPfwdIdeal.main_arg3) = m ((c.tc : Thread Cert.KPfwdIdeal.nD Cert.KPfwdIdeal.τ).loc Cert.KPfwdIdeal.main_arg3)
      ∧ r.2.mem ((c.tc : Thread Cert.KPfwdIdeal.nD Cert.KPfwdIdeal.τ).loc Cert.KPfwdIdeal.main_arg4) = m ((c.tc : Thread Cert.KPfwdIdeal.nD Cert.KPfwdIdeal.τ).loc Cert.KPfwdIdeal.main_arg4)
      ∧ r.2.mem ((c.tc : Thread Cert.KPfwdIdeal.nD Cert.KPfwdIdeal.τ).loc Cert.KPfwdIdeal.main_arg5) = m ((c.tc : Thread Cert.KPfwdIdeal.nD Cert.KPfwdIdeal.τ).loc Cert.KPfwdIdeal.main_arg5))
      ∧ r.2.sem = fun _ => 0)

def quiescent_RPfwdIdeal [hRPfwdIdeal : Cert.RPfwdIdeal.Facts] : Prop :=
  ∀ (m : (ℓ : Loc Cert.RPfwdIdeal.nD Cert.RPfwdIdeal.τ Cert.RPfwdIdeal.sig) → Buf (Elt Ideal) ℓ) (g : Dev Cert.RPfwdIdeal.nD → PrngReg), Pre_RPfwdIdeal m →
    θ_run (Cert.RPfwdIdeal.defs (F := Ideal)) (onTc (τ := Cert.RPfwdIdeal.τ) (Cert.RPfwdIdeal.main (F := Ideal))) ⟨m, fun _ => 0, g⟩ (fun r => (∀ c : Dev Cert.RPfwdIdeal.nD,
      r.2.mem ((c.tc : Thread Cert.RPfwdIdeal.nD Cert.RPfwdIdeal.τ).loc Cert.RPfwdIdeal.main_arg0) = m ((c.tc : Thread Cert.RPfwdIdeal.nD Cert.RPfwdIdeal.τ).loc Cert.RPfwdIdeal.main_arg0)
      ∧ r.2.mem ((c.tc : Thread Cert.RPfwdIdeal.nD Cert.RPfwdIdeal.τ).loc Cert.RPfwdIdeal.main_arg1) = m ((c.tc : Thread Cert.RPfwdIdeal.nD Cert.RPfwdIdeal.τ).loc Cert.RPfwdIdeal.main_arg1)
      ∧ r.2.mem ((c.tc : Thread Cert.RPfwdIdeal.nD Cert.RPfwdIdeal.τ).loc Cert.RPfwdIdeal.main_arg2) = m ((c.tc : Thread Cert.RPfwdIdeal.nD Cert.RPfwdIdeal.τ).loc Cert.RPfwdIdeal.main_arg2)
      ∧ r.2.mem ((c.tc : Thread Cert.RPfwdIdeal.nD Cert.RPfwdIdeal.τ).loc Cert.RPfwdIdeal.main_arg3) = m ((c.tc : Thread Cert.RPfwdIdeal.nD Cert.RPfwdIdeal.τ).loc Cert.RPfwdIdeal.main_arg3)
      ∧ r.2.mem ((c.tc : Thread Cert.RPfwdIdeal.nD Cert.RPfwdIdeal.τ).loc Cert.RPfwdIdeal.main_arg4) = m ((c.tc : Thread Cert.RPfwdIdeal.nD Cert.RPfwdIdeal.τ).loc Cert.RPfwdIdeal.main_arg4)
      ∧ r.2.mem ((c.tc : Thread Cert.RPfwdIdeal.nD Cert.RPfwdIdeal.τ).loc Cert.RPfwdIdeal.main_arg5) = m ((c.tc : Thread Cert.RPfwdIdeal.nD Cert.RPfwdIdeal.τ).loc Cert.RPfwdIdeal.main_arg5))
      ∧ r.2.sem = fun _ => 0)

def quiescent_RPfwdIdeal_pre_prep_finite [hRPfwdIdeal : Cert.RPfwdIdeal.Facts] [hPre_prep_finite : Cert.Pre_prep_finite.Facts] : Prop :=
  ∀ (m : (ℓ : Loc Cert.RPfwdIdeal.nD Cert.RPfwdIdeal.τ Cert.RPfwdIdeal.sig) → Buf (Elt Ideal) ℓ) (g : Dev Cert.RPfwdIdeal.nD → PrngReg), Pre_RPfwdIdeal_prep_finite m →
    θ_run (Cert.RPfwdIdeal.defs (F := Ideal)) (onTc (τ := Cert.RPfwdIdeal.τ) (Cert.RPfwdIdeal.main (F := Ideal))) ⟨m, fun _ => 0, g⟩ (fun r => (∀ c : Dev Cert.RPfwdIdeal.nD,
      r.2.mem ((c.tc : Thread Cert.RPfwdIdeal.nD Cert.RPfwdIdeal.τ).loc Cert.RPfwdIdeal.main_arg0) = m ((c.tc : Thread Cert.RPfwdIdeal.nD Cert.RPfwdIdeal.τ).loc Cert.RPfwdIdeal.main_arg0)
      ∧ r.2.mem ((c.tc : Thread Cert.RPfwdIdeal.nD Cert.RPfwdIdeal.τ).loc Cert.RPfwdIdeal.main_arg1) = m ((c.tc : Thread Cert.RPfwdIdeal.nD Cert.RPfwdIdeal.τ).loc Cert.RPfwdIdeal.main_arg1)
      ∧ r.2.mem ((c.tc : Thread Cert.RPfwdIdeal.nD Cert.RPfwdIdeal.τ).loc Cert.RPfwdIdeal.main_arg2) = m ((c.tc : Thread Cert.RPfwdIdeal.nD Cert.RPfwdIdeal.τ).loc Cert.RPfwdIdeal.main_arg2)
      ∧ r.2.mem ((c.tc : Thread Cert.RPfwdIdeal.nD Cert.RPfwdIdeal.τ).loc Cert.RPfwdIdeal.main_arg3) = m ((c.tc : Thread Cert.RPfwdIdeal.nD Cert.RPfwdIdeal.τ).loc Cert.RPfwdIdeal.main_arg3)
      ∧ r.2.mem ((c.tc : Thread Cert.RPfwdIdeal.nD Cert.RPfwdIdeal.τ).loc Cert.RPfwdIdeal.main_arg4) = m ((c.tc : Thread Cert.RPfwdIdeal.nD Cert.RPfwdIdeal.τ).loc Cert.RPfwdIdeal.main_arg4)
      ∧ r.2.mem ((c.tc : Thread Cert.RPfwdIdeal.nD Cert.RPfwdIdeal.τ).loc Cert.RPfwdIdeal.main_arg5) = m ((c.tc : Thread Cert.RPfwdIdeal.nD Cert.RPfwdIdeal.τ).loc Cert.RPfwdIdeal.main_arg5))
      ∧ r.2.sem = fun _ => 0)

def quiescent_KNfwd [hKNfwd : Cert.KNfwd.Facts] : Prop :=
  ∀ (m : (ℓ : Loc Cert.KNfwd.nD Cert.KNfwd.τ Cert.KNfwd.sig) → Buf (Elt Bits) ℓ) (g : Dev Cert.KNfwd.nD → PrngReg), Pre_KNfwd m →
    θ_run (Cert.KNfwd.defs (F := Bits)) (onTc (τ := Cert.KNfwd.τ) (Cert.KNfwd.main (F := Bits))) ⟨m, fun _ => 0, g⟩ (fun r => (∀ c : Dev Cert.KNfwd.nD,
      r.2.mem ((c.tc : Thread Cert.KNfwd.nD Cert.KNfwd.τ).loc Cert.KNfwd.main_arg0) = m ((c.tc : Thread Cert.KNfwd.nD Cert.KNfwd.τ).loc Cert.KNfwd.main_arg0)
      ∧ r.2.mem ((c.tc : Thread Cert.KNfwd.nD Cert.KNfwd.τ).loc Cert.KNfwd.main_arg1) = m ((c.tc : Thread Cert.KNfwd.nD Cert.KNfwd.τ).loc Cert.KNfwd.main_arg1)
      ∧ r.2.mem ((c.tc : Thread Cert.KNfwd.nD Cert.KNfwd.τ).loc Cert.KNfwd.main_arg2) = m ((c.tc : Thread Cert.KNfwd.nD Cert.KNfwd.τ).loc Cert.KNfwd.main_arg2)
      ∧ r.2.mem ((c.tc : Thread Cert.KNfwd.nD Cert.KNfwd.τ).loc Cert.KNfwd.main_arg3) = m ((c.tc : Thread Cert.KNfwd.nD Cert.KNfwd.τ).loc Cert.KNfwd.main_arg3))
      ∧ r.2.sem = fun _ => 0)

def quiescent_KNfwdIdeal [hKNfwdIdeal : Cert.KNfwdIdeal.Facts] : Prop :=
  ∀ (m : (ℓ : Loc Cert.KNfwdIdeal.nD Cert.KNfwdIdeal.τ Cert.KNfwdIdeal.sig) → Buf (Elt Ideal) ℓ) (g : Dev Cert.KNfwdIdeal.nD → PrngReg), Pre_KNfwdIdeal m →
    θ_run (Cert.KNfwdIdeal.defs (F := Ideal)) (onTc (τ := Cert.KNfwdIdeal.τ) (Cert.KNfwdIdeal.main (F := Ideal))) ⟨m, fun _ => 0, g⟩ (fun r => (∀ c : Dev Cert.KNfwdIdeal.nD,
      r.2.mem ((c.tc : Thread Cert.KNfwdIdeal.nD Cert.KNfwdIdeal.τ).loc Cert.KNfwdIdeal.main_arg0) = m ((c.tc : Thread Cert.KNfwdIdeal.nD Cert.KNfwdIdeal.τ).loc Cert.KNfwdIdeal.main_arg0)
      ∧ r.2.mem ((c.tc : Thread Cert.KNfwdIdeal.nD Cert.KNfwdIdeal.τ).loc Cert.KNfwdIdeal.main_arg1) = m ((c.tc : Thread Cert.KNfwdIdeal.nD Cert.KNfwdIdeal.τ).loc Cert.KNfwdIdeal.main_arg1)
      ∧ r.2.mem ((c.tc : Thread Cert.KNfwdIdeal.nD Cert.KNfwdIdeal.τ).loc Cert.KNfwdIdeal.main_arg2) = m ((c.tc : Thread Cert.KNfwdIdeal.nD Cert.KNfwdIdeal.τ).loc Cert.KNfwdIdeal.main_arg2)
      ∧ r.2.mem ((c.tc : Thread Cert.KNfwdIdeal.nD Cert.KNfwdIdeal.τ).loc Cert.KNfwdIdeal.main_arg3) = m ((c.tc : Thread Cert.KNfwdIdeal.nD Cert.KNfwdIdeal.τ).loc Cert.KNfwdIdeal.main_arg3))
      ∧ r.2.sem = fun _ => 0)

def quiescent_RNfwdIdeal [hRNfwdIdeal : Cert.RNfwdIdeal.Facts] : Prop :=
  ∀ (m : (ℓ : Loc Cert.RNfwdIdeal.nD Cert.RNfwdIdeal.τ Cert.RNfwdIdeal.sig) → Buf (Elt Ideal) ℓ) (g : Dev Cert.RNfwdIdeal.nD → PrngReg), Pre_RNfwdIdeal m →
    θ_run (Cert.RNfwdIdeal.defs (F := Ideal)) (onTc (τ := Cert.RNfwdIdeal.τ) (Cert.RNfwdIdeal.main (F := Ideal))) ⟨m, fun _ => 0, g⟩ (fun r => (∀ c : Dev Cert.RNfwdIdeal.nD,
      r.2.mem ((c.tc : Thread Cert.RNfwdIdeal.nD Cert.RNfwdIdeal.τ).loc Cert.RNfwdIdeal.main_arg0) = m ((c.tc : Thread Cert.RNfwdIdeal.nD Cert.RNfwdIdeal.τ).loc Cert.RNfwdIdeal.main_arg0)
      ∧ r.2.mem ((c.tc : Thread Cert.RNfwdIdeal.nD Cert.RNfwdIdeal.τ).loc Cert.RNfwdIdeal.main_arg1) = m ((c.tc : Thread Cert.RNfwdIdeal.nD Cert.RNfwdIdeal.τ).loc Cert.RNfwdIdeal.main_arg1)
      ∧ r.2.mem ((c.tc : Thread Cert.RNfwdIdeal.nD Cert.RNfwdIdeal.τ).loc Cert.RNfwdIdeal.main_arg2) = m ((c.tc : Thread Cert.RNfwdIdeal.nD Cert.RNfwdIdeal.τ).loc Cert.RNfwdIdeal.main_arg2)
      ∧ r.2.mem ((c.tc : Thread Cert.RNfwdIdeal.nD Cert.RNfwdIdeal.τ).loc Cert.RNfwdIdeal.main_arg3) = m ((c.tc : Thread Cert.RNfwdIdeal.nD Cert.RNfwdIdeal.τ).loc Cert.RNfwdIdeal.main_arg3))
      ∧ r.2.sem = fun _ => 0)

def quiescent_KMmnn [hKMmnn : Cert.KMmnn.Facts] : Prop :=
  ∀ (m : (ℓ : Loc Cert.KMmnn.nD Cert.KMmnn.τ Cert.KMmnn.sig) → Buf (Elt Bits) ℓ) (g : Dev Cert.KMmnn.nD → PrngReg), Pre_KMmnn m →
    θ_run (Cert.KMmnn.defs (F := Bits)) (onTc (τ := Cert.KMmnn.τ) (Cert.KMmnn.main (F := Bits))) ⟨m, fun _ => 0, g⟩ (fun r => (∀ c : Dev Cert.KMmnn.nD,
      r.2.mem ((c.tc : Thread Cert.KMmnn.nD Cert.KMmnn.τ).loc Cert.KMmnn.main_arg0) = m ((c.tc : Thread Cert.KMmnn.nD Cert.KMmnn.τ).loc Cert.KMmnn.main_arg0)
      ∧ r.2.mem ((c.tc : Thread Cert.KMmnn.nD Cert.KMmnn.τ).loc Cert.KMmnn.main_arg1) = m ((c.tc : Thread Cert.KMmnn.nD Cert.KMmnn.τ).loc Cert.KMmnn.main_arg1))
      ∧ r.2.sem = fun _ => 0)

def quiescent_KMmnnIdeal [hKMmnnIdeal : Cert.KMmnnIdeal.Facts] : Prop :=
  ∀ (m : (ℓ : Loc Cert.KMmnnIdeal.nD Cert.KMmnnIdeal.τ Cert.KMmnnIdeal.sig) → Buf (Elt Ideal) ℓ) (g : Dev Cert.KMmnnIdeal.nD → PrngReg), Pre_KMmnnIdeal m →
    θ_run (Cert.KMmnnIdeal.defs (F := Ideal)) (onTc (τ := Cert.KMmnnIdeal.τ) (Cert.KMmnnIdeal.main (F := Ideal))) ⟨m, fun _ => 0, g⟩ (fun r => (∀ c : Dev Cert.KMmnnIdeal.nD,
      r.2.mem ((c.tc : Thread Cert.KMmnnIdeal.nD Cert.KMmnnIdeal.τ).loc Cert.KMmnnIdeal.main_arg0) = m ((c.tc : Thread Cert.KMmnnIdeal.nD Cert.KMmnnIdeal.τ).loc Cert.KMmnnIdeal.main_arg0)
      ∧ r.2.mem ((c.tc : Thread Cert.KMmnnIdeal.nD Cert.KMmnnIdeal.τ).loc Cert.KMmnnIdeal.main_arg1) = m ((c.tc : Thread Cert.KMmnnIdeal.nD Cert.KMmnnIdeal.τ).loc Cert.KMmnnIdeal.main_arg1))
      ∧ r.2.sem = fun _ => 0)

def quiescent_RMmnnIdeal [hRMmnnIdeal : Cert.RMmnnIdeal.Facts] : Prop :=
  ∀ (m : (ℓ : Loc Cert.RMmnnIdeal.nD Cert.RMmnnIdeal.τ Cert.RMmnnIdeal.sig) → Buf (Elt Ideal) ℓ) (g : Dev Cert.RMmnnIdeal.nD → PrngReg), Pre_RMmnnIdeal m →
    θ_run (Cert.RMmnnIdeal.defs (F := Ideal)) (onTc (τ := Cert.RMmnnIdeal.τ) (Cert.RMmnnIdeal.main (F := Ideal))) ⟨m, fun _ => 0, g⟩ (fun r => (∀ c : Dev Cert.RMmnnIdeal.nD,
      r.2.mem ((c.tc : Thread Cert.RMmnnIdeal.nD Cert.RMmnnIdeal.τ).loc Cert.RMmnnIdeal.main_arg0) = m ((c.tc : Thread Cert.RMmnnIdeal.nD Cert.RMmnnIdeal.τ).loc Cert.RMmnnIdeal.main_arg0)
      ∧ r.2.mem ((c.tc : Thread Cert.RMmnnIdeal.nD Cert.RMmnnIdeal.τ).loc Cert.RMmnnIdeal.main_arg1) = m ((c.tc : Thread Cert.RMmnnIdeal.nD Cert.RMmnnIdeal.τ).loc Cert.RMmnnIdeal.main_arg1))
      ∧ r.2.sem = fun _ => 0)

def quiescent_KMmnt [hKMmnt : Cert.KMmnt.Facts] : Prop :=
  ∀ (m : (ℓ : Loc Cert.KMmnt.nD Cert.KMmnt.τ Cert.KMmnt.sig) → Buf (Elt Bits) ℓ) (g : Dev Cert.KMmnt.nD → PrngReg), Pre_KMmnt m →
    θ_run (Cert.KMmnt.defs (F := Bits)) (onTc (τ := Cert.KMmnt.τ) (Cert.KMmnt.main (F := Bits))) ⟨m, fun _ => 0, g⟩ (fun r => (∀ c : Dev Cert.KMmnt.nD,
      r.2.mem ((c.tc : Thread Cert.KMmnt.nD Cert.KMmnt.τ).loc Cert.KMmnt.main_arg0) = m ((c.tc : Thread Cert.KMmnt.nD Cert.KMmnt.τ).loc Cert.KMmnt.main_arg0)
      ∧ r.2.mem ((c.tc : Thread Cert.KMmnt.nD Cert.KMmnt.τ).loc Cert.KMmnt.main_arg1) = m ((c.tc : Thread Cert.KMmnt.nD Cert.KMmnt.τ).loc Cert.KMmnt.main_arg1))
      ∧ r.2.sem = fun _ => 0)

def quiescent_KMmntIdeal [hKMmntIdeal : Cert.KMmntIdeal.Facts] : Prop :=
  ∀ (m : (ℓ : Loc Cert.KMmntIdeal.nD Cert.KMmntIdeal.τ Cert.KMmntIdeal.sig) → Buf (Elt Ideal) ℓ) (g : Dev Cert.KMmntIdeal.nD → PrngReg), Pre_KMmntIdeal m →
    θ_run (Cert.KMmntIdeal.defs (F := Ideal)) (onTc (τ := Cert.KMmntIdeal.τ) (Cert.KMmntIdeal.main (F := Ideal))) ⟨m, fun _ => 0, g⟩ (fun r => (∀ c : Dev Cert.KMmntIdeal.nD,
      r.2.mem ((c.tc : Thread Cert.KMmntIdeal.nD Cert.KMmntIdeal.τ).loc Cert.KMmntIdeal.main_arg0) = m ((c.tc : Thread Cert.KMmntIdeal.nD Cert.KMmntIdeal.τ).loc Cert.KMmntIdeal.main_arg0)
      ∧ r.2.mem ((c.tc : Thread Cert.KMmntIdeal.nD Cert.KMmntIdeal.τ).loc Cert.KMmntIdeal.main_arg1) = m ((c.tc : Thread Cert.KMmntIdeal.nD Cert.KMmntIdeal.τ).loc Cert.KMmntIdeal.main_arg1))
      ∧ r.2.sem = fun _ => 0)

def quiescent_RMmntIdeal [hRMmntIdeal : Cert.RMmntIdeal.Facts] : Prop :=
  ∀ (m : (ℓ : Loc Cert.RMmntIdeal.nD Cert.RMmntIdeal.τ Cert.RMmntIdeal.sig) → Buf (Elt Ideal) ℓ) (g : Dev Cert.RMmntIdeal.nD → PrngReg), Pre_RMmntIdeal m →
    θ_run (Cert.RMmntIdeal.defs (F := Ideal)) (onTc (τ := Cert.RMmntIdeal.τ) (Cert.RMmntIdeal.main (F := Ideal))) ⟨m, fun _ => 0, g⟩ (fun r => (∀ c : Dev Cert.RMmntIdeal.nD,
      r.2.mem ((c.tc : Thread Cert.RMmntIdeal.nD Cert.RMmntIdeal.τ).loc Cert.RMmntIdeal.main_arg0) = m ((c.tc : Thread Cert.RMmntIdeal.nD Cert.RMmntIdeal.τ).loc Cert.RMmntIdeal.main_arg0)
      ∧ r.2.mem ((c.tc : Thread Cert.RMmntIdeal.nD Cert.RMmntIdeal.τ).loc Cert.RMmntIdeal.main_arg1) = m ((c.tc : Thread Cert.RMmntIdeal.nD Cert.RMmntIdeal.τ).loc Cert.RMmntIdeal.main_arg1))
      ∧ r.2.sem = fun _ => 0)

def quiescent_KMmtn [hKMmtn : Cert.KMmtn.Facts] : Prop :=
  ∀ (m : (ℓ : Loc Cert.KMmtn.nD Cert.KMmtn.τ Cert.KMmtn.sig) → Buf (Elt Bits) ℓ) (g : Dev Cert.KMmtn.nD → PrngReg), Pre_KMmtn m →
    θ_run (Cert.KMmtn.defs (F := Bits)) (onTc (τ := Cert.KMmtn.τ) (Cert.KMmtn.main (F := Bits))) ⟨m, fun _ => 0, g⟩ (fun r => (∀ c : Dev Cert.KMmtn.nD,
      r.2.mem ((c.tc : Thread Cert.KMmtn.nD Cert.KMmtn.τ).loc Cert.KMmtn.main_arg0) = m ((c.tc : Thread Cert.KMmtn.nD Cert.KMmtn.τ).loc Cert.KMmtn.main_arg0)
      ∧ r.2.mem ((c.tc : Thread Cert.KMmtn.nD Cert.KMmtn.τ).loc Cert.KMmtn.main_arg1) = m ((c.tc : Thread Cert.KMmtn.nD Cert.KMmtn.τ).loc Cert.KMmtn.main_arg1))
      ∧ r.2.sem = fun _ => 0)

def quiescent_KMmtnIdeal [hKMmtnIdeal : Cert.KMmtnIdeal.Facts] : Prop :=
  ∀ (m : (ℓ : Loc Cert.KMmtnIdeal.nD Cert.KMmtnIdeal.τ Cert.KMmtnIdeal.sig) → Buf (Elt Ideal) ℓ) (g : Dev Cert.KMmtnIdeal.nD → PrngReg), Pre_KMmtnIdeal m →
    θ_run (Cert.KMmtnIdeal.defs (F := Ideal)) (onTc (τ := Cert.KMmtnIdeal.τ) (Cert.KMmtnIdeal.main (F := Ideal))) ⟨m, fun _ => 0, g⟩ (fun r => (∀ c : Dev Cert.KMmtnIdeal.nD,
      r.2.mem ((c.tc : Thread Cert.KMmtnIdeal.nD Cert.KMmtnIdeal.τ).loc Cert.KMmtnIdeal.main_arg0) = m ((c.tc : Thread Cert.KMmtnIdeal.nD Cert.KMmtnIdeal.τ).loc Cert.KMmtnIdeal.main_arg0)
      ∧ r.2.mem ((c.tc : Thread Cert.KMmtnIdeal.nD Cert.KMmtnIdeal.τ).loc Cert.KMmtnIdeal.main_arg1) = m ((c.tc : Thread Cert.KMmtnIdeal.nD Cert.KMmtnIdeal.τ).loc Cert.KMmtnIdeal.main_arg1))
      ∧ r.2.sem = fun _ => 0)

def quiescent_RMmtnIdeal [hRMmtnIdeal : Cert.RMmtnIdeal.Facts] : Prop :=
  ∀ (m : (ℓ : Loc Cert.RMmtnIdeal.nD Cert.RMmtnIdeal.τ Cert.RMmtnIdeal.sig) → Buf (Elt Ideal) ℓ) (g : Dev Cert.RMmtnIdeal.nD → PrngReg), Pre_RMmtnIdeal m →
    θ_run (Cert.RMmtnIdeal.defs (F := Ideal)) (onTc (τ := Cert.RMmtnIdeal.τ) (Cert.RMmtnIdeal.main (F := Ideal))) ⟨m, fun _ => 0, g⟩ (fun r => (∀ c : Dev Cert.RMmtnIdeal.nD,
      r.2.mem ((c.tc : Thread Cert.RMmtnIdeal.nD Cert.RMmtnIdeal.τ).loc Cert.RMmtnIdeal.main_arg0) = m ((c.tc : Thread Cert.RMmtnIdeal.nD Cert.RMmtnIdeal.τ).loc Cert.RMmtnIdeal.main_arg0)
      ∧ r.2.mem ((c.tc : Thread Cert.RMmtnIdeal.nD Cert.RMmtnIdeal.τ).loc Cert.RMmtnIdeal.main_arg1) = m ((c.tc : Thread Cert.RMmtnIdeal.nD Cert.RMmtnIdeal.τ).loc Cert.RMmtnIdeal.main_arg1))
      ∧ r.2.sem = fun _ => 0)

def quiescent_KAdam [hKAdam : Cert.KAdam.Facts] : Prop :=
  ∀ (m : (ℓ : Loc Cert.KAdam.nD Cert.KAdam.τ Cert.KAdam.sig) → Buf (Elt Bits) ℓ) (g : Dev Cert.KAdam.nD → PrngReg), Pre_KAdam m →
    θ_run (Cert.KAdam.defs (F := Bits)) (onTc (τ := Cert.KAdam.τ) (Cert.KAdam.main (F := Bits))) ⟨m, fun _ => 0, g⟩ (fun r => (∀ c : Dev Cert.KAdam.nD,
      r.2.mem ((c.tc : Thread Cert.KAdam.nD Cert.KAdam.τ).loc Cert.KAdam.main_arg0) = m ((c.tc : Thread Cert.KAdam.nD Cert.KAdam.τ).loc Cert.KAdam.main_arg0)
      ∧ r.2.mem ((c.tc : Thread Cert.KAdam.nD Cert.KAdam.τ).loc Cert.KAdam.main_arg1) = m ((c.tc : Thread Cert.KAdam.nD Cert.KAdam.τ).loc Cert.KAdam.main_arg1)
      ∧ r.2.mem ((c.tc : Thread Cert.KAdam.nD Cert.KAdam.τ).loc Cert.KAdam.main_arg2) = m ((c.tc : Thread Cert.KAdam.nD Cert.KAdam.τ).loc Cert.KAdam.main_arg2)
      ∧ r.2.mem ((c.tc : Thread Cert.KAdam.nD Cert.KAdam.τ).loc Cert.KAdam.main_arg3) = m ((c.tc : Thread Cert.KAdam.nD Cert.KAdam.τ).loc Cert.KAdam.main_arg3))
      ∧ r.2.sem = fun _ => 0)

def quiescent_KAdamIdeal [hKAdamIdeal : Cert.KAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg), Pre_KAdamIdeal m →
    θ_run (Cert.KAdamIdeal.defs (F := Ideal)) (onTc (τ := Cert.KAdamIdeal.τ) (Cert.KAdamIdeal.main (F := Ideal))) ⟨m, fun _ => 0, g⟩ (fun r => (∀ c : Dev Cert.KAdamIdeal.nD,
      r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
      ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
      ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
      ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ r.2.sem = fun _ => 0)

def quiescent_RAdamIdeal [hRAdamIdeal : Cert.RAdamIdeal.Facts] : Prop :=
  ∀ (m : (ℓ : Loc Cert.RAdamIdeal.nD Cert.RAdamIdeal.τ Cert.RAdamIdeal.sig) → Buf (Elt Ideal) ℓ) (g : Dev Cert.RAdamIdeal.nD → PrngReg), Pre_RAdamIdeal m →
    θ_run (Cert.RAdamIdeal.defs (F := Ideal)) (onTc (τ := Cert.RAdamIdeal.τ) (Cert.RAdamIdeal.main (F := Ideal))) ⟨m, fun _ => 0, g⟩ (fun r => (∀ c : Dev Cert.RAdamIdeal.nD,
      r.2.mem ((c.tc : Thread Cert.RAdamIdeal.nD Cert.RAdamIdeal.τ).loc Cert.RAdamIdeal.main_arg0) = m ((c.tc : Thread Cert.RAdamIdeal.nD Cert.RAdamIdeal.τ).loc Cert.RAdamIdeal.main_arg0)
      ∧ r.2.mem ((c.tc : Thread Cert.RAdamIdeal.nD Cert.RAdamIdeal.τ).loc Cert.RAdamIdeal.main_arg1) = m ((c.tc : Thread Cert.RAdamIdeal.nD Cert.RAdamIdeal.τ).loc Cert.RAdamIdeal.main_arg1)
      ∧ r.2.mem ((c.tc : Thread Cert.RAdamIdeal.nD Cert.RAdamIdeal.τ).loc Cert.RAdamIdeal.main_arg2) = m ((c.tc : Thread Cert.RAdamIdeal.nD Cert.RAdamIdeal.τ).loc Cert.RAdamIdeal.main_arg2)
      ∧ r.2.mem ((c.tc : Thread Cert.RAdamIdeal.nD Cert.RAdamIdeal.τ).loc Cert.RAdamIdeal.main_arg3) = m ((c.tc : Thread Cert.RAdamIdeal.nD Cert.RAdamIdeal.τ).loc Cert.RAdamIdeal.main_arg3))
      ∧ r.2.sem = fun _ => 0)

def quiescent_KPrep [hKPrep : Cert.KPrep.Facts] : Prop :=
  ∀ (m : (ℓ : Loc Cert.KPrep.nD Cert.KPrep.τ Cert.KPrep.sig) → Buf (Elt Bits) ℓ) (g : Dev Cert.KPrep.nD → PrngReg), Pre_KPrep m →
    θ_run (Cert.KPrep.defs (F := Bits)) (onTc (τ := Cert.KPrep.τ) (Cert.KPrep.main (F := Bits))) ⟨m, fun _ => 0, g⟩ (fun r => (∀ c : Dev Cert.KPrep.nD,
      r.2.mem ((c.tc : Thread Cert.KPrep.nD Cert.KPrep.τ).loc Cert.KPrep.main_arg0) = m ((c.tc : Thread Cert.KPrep.nD Cert.KPrep.τ).loc Cert.KPrep.main_arg0)
      ∧ r.2.mem ((c.tc : Thread Cert.KPrep.nD Cert.KPrep.τ).loc Cert.KPrep.main_arg1) = m ((c.tc : Thread Cert.KPrep.nD Cert.KPrep.τ).loc Cert.KPrep.main_arg1)
      ∧ r.2.mem ((c.tc : Thread Cert.KPrep.nD Cert.KPrep.τ).loc Cert.KPrep.main_arg2) = m ((c.tc : Thread Cert.KPrep.nD Cert.KPrep.τ).loc Cert.KPrep.main_arg2)
      ∧ r.2.mem ((c.tc : Thread Cert.KPrep.nD Cert.KPrep.τ).loc Cert.KPrep.main_arg3) = m ((c.tc : Thread Cert.KPrep.nD Cert.KPrep.τ).loc Cert.KPrep.main_arg3)
      ∧ r.2.mem ((c.tc : Thread Cert.KPrep.nD Cert.KPrep.τ).loc Cert.KPrep.main_arg4) = m ((c.tc : Thread Cert.KPrep.nD Cert.KPrep.τ).loc Cert.KPrep.main_arg4)
      ∧ r.2.mem ((c.tc : Thread Cert.KPrep.nD Cert.KPrep.τ).loc Cert.KPrep.main_arg5) = m ((c.tc : Thread Cert.KPrep.nD Cert.KPrep.τ).loc Cert.KPrep.main_arg5)
      ∧ r.2.mem ((c.tc : Thread Cert.KPrep.nD Cert.KPrep.τ).loc Cert.KPrep.main_arg6) = m ((c.tc : Thread Cert.KPrep.nD Cert.KPrep.τ).loc Cert.KPrep.main_arg6)
      ∧ r.2.mem ((c.tc : Thread Cert.KPrep.nD Cert.KPrep.τ).loc Cert.KPrep.main_arg7) = m ((c.tc : Thread Cert.KPrep.nD Cert.KPrep.τ).loc Cert.KPrep.main_arg7)
      ∧ r.2.mem ((c.tc : Thread Cert.KPrep.nD Cert.KPrep.τ).loc Cert.KPrep.main_arg8) = m ((c.tc : Thread Cert.KPrep.nD Cert.KPrep.τ).loc Cert.KPrep.main_arg8)
      ∧ r.2.mem ((c.tc : Thread Cert.KPrep.nD Cert.KPrep.τ).loc Cert.KPrep.main_arg9) = m ((c.tc : Thread Cert.KPrep.nD Cert.KPrep.τ).loc Cert.KPrep.main_arg9))
      ∧ r.2.sem = fun _ => 0)

def quiescent_KPrepIdeal [hKPrepIdeal : Cert.KPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
      ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
      ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3)
      ∧ r.2.mem ((c.tc : Thread Cert.KPrepIdeal.nD Cert.KPrepIdeal.τ).loc Cert.KPrepIdeal.main_arg4) = m ((c.tc : Thread Cert.KPrepIdeal.nD Cert.KPrepIdeal.τ).loc Cert.KPrepIdeal.main_arg4)
      ∧ r.2.mem ((c.tc : Thread Cert.KPrepIdeal.nD Cert.KPrepIdeal.τ).loc Cert.KPrepIdeal.main_arg5) = m ((c.tc : Thread Cert.KPrepIdeal.nD Cert.KPrepIdeal.τ).loc Cert.KPrepIdeal.main_arg5)
      ∧ r.2.mem ((c.tc : Thread Cert.KPrepIdeal.nD Cert.KPrepIdeal.τ).loc Cert.KPrepIdeal.main_arg6) = m ((c.tc : Thread Cert.KPrepIdeal.nD Cert.KPrepIdeal.τ).loc Cert.KPrepIdeal.main_arg6)
      ∧ r.2.mem ((c.tc : Thread Cert.KPrepIdeal.nD Cert.KPrepIdeal.τ).loc Cert.KPrepIdeal.main_arg7) = m ((c.tc : Thread Cert.KPrepIdeal.nD Cert.KPrepIdeal.τ).loc Cert.KPrepIdeal.main_arg7)
      ∧ r.2.mem ((c.tc : Thread Cert.KPrepIdeal.nD Cert.KPrepIdeal.τ).loc Cert.KPrepIdeal.main_arg8) = m ((c.tc : Thread Cert.KPrepIdeal.nD Cert.KPrepIdeal.τ).loc Cert.KPrepIdeal.main_arg8)
      ∧ r.2.mem ((c.tc : Thread Cert.KPrepIdeal.nD Cert.KPrepIdeal.τ).loc Cert.KPrepIdeal.main_arg9) = m ((c.tc : Thread Cert.KPrepIdeal.nD Cert.KPrepIdeal.τ).loc Cert.KPrepIdeal.main_arg9))
      ∧ r.2.sem = fun _ => 0)

def quiescent_KPrepIdeal_pre_prep_grad_finite [hKPrepIdeal : Cert.KPrepIdeal.Facts] [hPre_prep_grad_finite : Cert.Pre_prep_grad_finite.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal_prep_grad_finite m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
      ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
      ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3)
      ∧ r.2.mem ((c.tc : Thread Cert.KPrepIdeal.nD Cert.KPrepIdeal.τ).loc Cert.KPrepIdeal.main_arg4) = m ((c.tc : Thread Cert.KPrepIdeal.nD Cert.KPrepIdeal.τ).loc Cert.KPrepIdeal.main_arg4)
      ∧ r.2.mem ((c.tc : Thread Cert.KPrepIdeal.nD Cert.KPrepIdeal.τ).loc Cert.KPrepIdeal.main_arg5) = m ((c.tc : Thread Cert.KPrepIdeal.nD Cert.KPrepIdeal.τ).loc Cert.KPrepIdeal.main_arg5)
      ∧ r.2.mem ((c.tc : Thread Cert.KPrepIdeal.nD Cert.KPrepIdeal.τ).loc Cert.KPrepIdeal.main_arg6) = m ((c.tc : Thread Cert.KPrepIdeal.nD Cert.KPrepIdeal.τ).loc Cert.KPrepIdeal.main_arg6)
      ∧ r.2.mem ((c.tc : Thread Cert.KPrepIdeal.nD Cert.KPrepIdeal.τ).loc Cert.KPrepIdeal.main_arg7) = m ((c.tc : Thread Cert.KPrepIdeal.nD Cert.KPrepIdeal.τ).loc Cert.KPrepIdeal.main_arg7)
      ∧ r.2.mem ((c.tc : Thread Cert.KPrepIdeal.nD Cert.KPrepIdeal.τ).loc Cert.KPrepIdeal.main_arg8) = m ((c.tc : Thread Cert.KPrepIdeal.nD Cert.KPrepIdeal.τ).loc Cert.KPrepIdeal.main_arg8)
      ∧ r.2.mem ((c.tc : Thread Cert.KPrepIdeal.nD Cert.KPrepIdeal.τ).loc Cert.KPrepIdeal.main_arg9) = m ((c.tc : Thread Cert.KPrepIdeal.nD Cert.KPrepIdeal.τ).loc Cert.KPrepIdeal.main_arg9))
      ∧ r.2.sem = fun _ => 0)

def quiescent_RPrepIdeal [hRPrepIdeal : Cert.RPrepIdeal.Facts] : Prop :=
  ∀ (m : (ℓ : Loc Cert.RPrepIdeal.nD Cert.RPrepIdeal.τ Cert.RPrepIdeal.sig) → Buf (Elt Ideal) ℓ) (g : Dev Cert.RPrepIdeal.nD → PrngReg), Pre_RPrepIdeal m →
    θ_run (Cert.RPrepIdeal.defs (F := Ideal)) (onTc (τ := Cert.RPrepIdeal.τ) (Cert.RPrepIdeal.main (F := Ideal))) ⟨m, fun _ => 0, g⟩ (fun r => (∀ c : Dev Cert.RPrepIdeal.nD,
      r.2.mem ((c.tc : Thread Cert.RPrepIdeal.nD Cert.RPrepIdeal.τ).loc Cert.RPrepIdeal.main_arg0) = m ((c.tc : Thread Cert.RPrepIdeal.nD Cert.RPrepIdeal.τ).loc Cert.RPrepIdeal.main_arg0)
      ∧ r.2.mem ((c.tc : Thread Cert.RPrepIdeal.nD Cert.RPrepIdeal.τ).loc Cert.RPrepIdeal.main_arg1) = m ((c.tc : Thread Cert.RPrepIdeal.nD Cert.RPrepIdeal.τ).loc Cert.RPrepIdeal.main_arg1)
      ∧ r.2.mem ((c.tc : Thread Cert.RPrepIdeal.nD Cert.RPrepIdeal.τ).loc Cert.RPrepIdeal.main_arg2) = m ((c.tc : Thread Cert.RPrepIdeal.nD Cert.RPrepIdeal.τ).loc Cert.RPrepIdeal.main_arg2)
      ∧ r.2.mem ((c.tc : Thread Cert.RPrepIdeal.nD Cert.RPrepIdeal.τ).loc Cert.RPrepIdeal.main_arg3) = m ((c.tc : Thread Cert.RPrepIdeal.nD Cert.RPrepIdeal.τ).loc Cert.RPrepIdeal.main_arg3)
      ∧ r.2.mem ((c.tc : Thread Cert.RPrepIdeal.nD Cert.RPrepIdeal.τ).loc Cert.RPrepIdeal.main_arg4) = m ((c.tc : Thread Cert.RPrepIdeal.nD Cert.RPrepIdeal.τ).loc Cert.RPrepIdeal.main_arg4)
      ∧ r.2.mem ((c.tc : Thread Cert.RPrepIdeal.nD Cert.RPrepIdeal.τ).loc Cert.RPrepIdeal.main_arg5) = m ((c.tc : Thread Cert.RPrepIdeal.nD Cert.RPrepIdeal.τ).loc Cert.RPrepIdeal.main_arg5)
      ∧ r.2.mem ((c.tc : Thread Cert.RPrepIdeal.nD Cert.RPrepIdeal.τ).loc Cert.RPrepIdeal.main_arg6) = m ((c.tc : Thread Cert.RPrepIdeal.nD Cert.RPrepIdeal.τ).loc Cert.RPrepIdeal.main_arg6)
      ∧ r.2.mem ((c.tc : Thread Cert.RPrepIdeal.nD Cert.RPrepIdeal.τ).loc Cert.RPrepIdeal.main_arg7) = m ((c.tc : Thread Cert.RPrepIdeal.nD Cert.RPrepIdeal.τ).loc Cert.RPrepIdeal.main_arg7)
      ∧ r.2.mem ((c.tc : Thread Cert.RPrepIdeal.nD Cert.RPrepIdeal.τ).loc Cert.RPrepIdeal.main_arg8) = m ((c.tc : Thread Cert.RPrepIdeal.nD Cert.RPrepIdeal.τ).loc Cert.RPrepIdeal.main_arg8)
      ∧ r.2.mem ((c.tc : Thread Cert.RPrepIdeal.nD Cert.RPrepIdeal.τ).loc Cert.RPrepIdeal.main_arg9) = m ((c.tc : Thread Cert.RPrepIdeal.nD Cert.RPrepIdeal.τ).loc Cert.RPrepIdeal.main_arg9))
      ∧ r.2.sem = fun _ => 0)

def quiescent_RPrepIdeal_pre_prep_grad_finite [hRPrepIdeal : Cert.RPrepIdeal.Facts] [hPre_prep_grad_finite : Cert.Pre_prep_grad_finite.Facts] : Prop :=
  ∀ (m : (ℓ : Loc Cert.RPrepIdeal.nD Cert.RPrepIdeal.τ Cert.RPrepIdeal.sig) → Buf (Elt Ideal) ℓ) (g : Dev Cert.RPrepIdeal.nD → PrngReg), Pre_RPrepIdeal_prep_grad_finite m →
    θ_run (Cert.RPrepIdeal.defs (F := Ideal)) (onTc (τ := Cert.RPrepIdeal.τ) (Cert.RPrepIdeal.main (F := Ideal))) ⟨m, fun _ => 0, g⟩ (fun r => (∀ c : Dev Cert.RPrepIdeal.nD,
      r.2.mem ((c.tc : Thread Cert.RPrepIdeal.nD Cert.RPrepIdeal.τ).loc Cert.RPrepIdeal.main_arg0) = m ((c.tc : Thread Cert.RPrepIdeal.nD Cert.RPrepIdeal.τ).loc Cert.RPrepIdeal.main_arg0)
      ∧ r.2.mem ((c.tc : Thread Cert.RPrepIdeal.nD Cert.RPrepIdeal.τ).loc Cert.RPrepIdeal.main_arg1) = m ((c.tc : Thread Cert.RPrepIdeal.nD Cert.RPrepIdeal.τ).loc Cert.RPrepIdeal.main_arg1)
      ∧ r.2.mem ((c.tc : Thread Cert.RPrepIdeal.nD Cert.RPrepIdeal.τ).loc Cert.RPrepIdeal.main_arg2) = m ((c.tc : Thread Cert.RPrepIdeal.nD Cert.RPrepIdeal.τ).loc Cert.RPrepIdeal.main_arg2)
      ∧ r.2.mem ((c.tc : Thread Cert.RPrepIdeal.nD Cert.RPrepIdeal.τ).loc Cert.RPrepIdeal.main_arg3) = m ((c.tc : Thread Cert.RPrepIdeal.nD Cert.RPrepIdeal.τ).loc Cert.RPrepIdeal.main_arg3)
      ∧ r.2.mem ((c.tc : Thread Cert.RPrepIdeal.nD Cert.RPrepIdeal.τ).loc Cert.RPrepIdeal.main_arg4) = m ((c.tc : Thread Cert.RPrepIdeal.nD Cert.RPrepIdeal.τ).loc Cert.RPrepIdeal.main_arg4)
      ∧ r.2.mem ((c.tc : Thread Cert.RPrepIdeal.nD Cert.RPrepIdeal.τ).loc Cert.RPrepIdeal.main_arg5) = m ((c.tc : Thread Cert.RPrepIdeal.nD Cert.RPrepIdeal.τ).loc Cert.RPrepIdeal.main_arg5)
      ∧ r.2.mem ((c.tc : Thread Cert.RPrepIdeal.nD Cert.RPrepIdeal.τ).loc Cert.RPrepIdeal.main_arg6) = m ((c.tc : Thread Cert.RPrepIdeal.nD Cert.RPrepIdeal.τ).loc Cert.RPrepIdeal.main_arg6)
      ∧ r.2.mem ((c.tc : Thread Cert.RPrepIdeal.nD Cert.RPrepIdeal.τ).loc Cert.RPrepIdeal.main_arg7) = m ((c.tc : Thread Cert.RPrepIdeal.nD Cert.RPrepIdeal.τ).loc Cert.RPrepIdeal.main_arg7)
      ∧ r.2.mem ((c.tc : Thread Cert.RPrepIdeal.nD Cert.RPrepIdeal.τ).loc Cert.RPrepIdeal.main_arg8) = m ((c.tc : Thread Cert.RPrepIdeal.nD Cert.RPrepIdeal.τ).loc Cert.RPrepIdeal.main_arg8)
      ∧ r.2.mem ((c.tc : Thread Cert.RPrepIdeal.nD Cert.RPrepIdeal.τ).loc Cert.RPrepIdeal.main_arg9) = m ((c.tc : Thread Cert.RPrepIdeal.nD Cert.RPrepIdeal.τ).loc Cert.RPrepIdeal.main_arg9))
      ∧ r.2.sem = fun _ => 0)

def preserves_KAttn_KAttnIdeal : Prop :=
  True

def algebraic_KAttnIdeal_RAttnIdeal_pre_attn_finite [hKAttnIdeal : Cert.KAttnIdeal.Facts] [hRAttnIdeal : Cert.RAttnIdeal.Facts] [hPre_attn_finite : Cert.Pre_attn_finite.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal_attn_finite m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)
      ∧ m' ((c.tc : Thread Cert.RAttnIdeal.nD Cert.RAttnIdeal.τ).loc Cert.RAttnIdeal.main_arg3) = m ((c.tc : Thread Cert.KAttnIdeal.nD Cert.KAttnIdeal.τ).loc Cert.KAttnIdeal.main_arg3)) →
    ∃ (v0 : (c : Dev Cert.KAttnIdeal.nD) → Buf (Elt Ideal) ((c.tc : Thread Cert.KAttnIdeal.nD Cert.KAttnIdeal.τ).loc Cert.KAttnIdeal.main_v32_0)) (v1 : (c : Dev Cert.KAttnIdeal.nD) → Buf (Elt Ideal) ((c.tc : Thread Cert.KAttnIdeal.nD Cert.KAttnIdeal.τ).loc Cert.KAttnIdeal.main_v32_1)) (v2 : (c : Dev Cert.KAttnIdeal.nD) → Buf (Elt Ideal) ((c.tc : Thread Cert.KAttnIdeal.nD Cert.KAttnIdeal.τ).loc Cert.KAttnIdeal.main_v32_2)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v32_0) = v0 c
          ∧ r.2.mem ((c.tc : Thread Cert.KAttnIdeal.nD Cert.KAttnIdeal.τ).loc Cert.KAttnIdeal.main_v32_1) = v1 c
          ∧ r.2.mem ((c.tc : Thread Cert.KAttnIdeal.nD Cert.KAttnIdeal.τ).loc Cert.KAttnIdeal.main_v32_2) = v2 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
          ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v56) = v0 c
          ∧ r.2.mem ((c.tc : Thread Cert.RAttnIdeal.nD Cert.RAttnIdeal.τ).loc Cert.RAttnIdeal.main_v55) = v1 c
          ∧ r.2.mem ((c.tc : Thread Cert.RAttnIdeal.nD Cert.RAttnIdeal.τ).loc Cert.RAttnIdeal.main_v54) = v2 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2)
          ∧ r.2.mem ((c.tc : Thread Cert.RAttnIdeal.nD Cert.RAttnIdeal.τ).loc Cert.RAttnIdeal.main_arg3) = m' ((c.tc : Thread Cert.RAttnIdeal.nD Cert.RAttnIdeal.τ).loc Cert.RAttnIdeal.main_arg3))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)) (v2 : (c : Dev Cert.KLossIdeal.nD) → Buf (Elt Ideal) ((c.tc : Thread Cert.KLossIdeal.nD Cert.KLossIdeal.τ).loc Cert.KLossIdeal.main_v0_2)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_v0_2) = v2 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v15) = v0 c
          ∧ r.2.mem ((c.tc : Thread Cert.RLossIdeal.nD Cert.RLossIdeal.τ).loc Cert.RLossIdeal.main_v14) = v1 c
          ∧ r.2.mem ((c.tc : Thread Cert.RLossIdeal.nD Cert.RLossIdeal.τ).loc Cert.RLossIdeal.main_v16) = v2 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1))

def preserves_KFfn_KFfnIdeal : Prop :=
  True

def algebraic_KFfnIdeal_RFfnIdeal_pre_ffn_finite [hKFfnIdeal : Cert.KFfnIdeal.Facts] [hRFfnIdeal : Cert.RFfnIdeal.Facts] [hPre_ffn_finite : Cert.Pre_ffn_finite.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal_ffn_finite m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)) →
    ∃ (v0 : (c : Dev Cert.KFfnIdeal.nD) → Buf (Elt Ideal) ((c.tc : Thread Cert.KFfnIdeal.nD Cert.KFfnIdeal.τ).loc Cert.KFfnIdeal.main_v2_0)) (v1 : (c : Dev Cert.KFfnIdeal.nD) → Buf (Elt Ideal) ((c.tc : Thread Cert.KFfnIdeal.nD Cert.KFfnIdeal.τ).loc Cert.KFfnIdeal.main_v3)) (v2 : (c : Dev Cert.KFfnIdeal.nD) → Buf (Elt Ideal) ((c.tc : Thread Cert.KFfnIdeal.nD Cert.KFfnIdeal.τ).loc Cert.KFfnIdeal.main_v4)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v2_0) = v0 c
          ∧ r.2.mem ((c.tc : Thread Cert.KFfnIdeal.nD Cert.KFfnIdeal.τ).loc Cert.KFfnIdeal.main_v3) = v1 c
          ∧ r.2.mem ((c.tc : Thread Cert.KFfnIdeal.nD Cert.KFfnIdeal.τ).loc Cert.KFfnIdeal.main_v4) = v2 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v72) = v0 c
          ∧ r.2.mem ((c.tc : Thread Cert.RFfnIdeal.nD Cert.RFfnIdeal.τ).loc Cert.RFfnIdeal.main_v66) = v1 c
          ∧ r.2.mem ((c.tc : Thread Cert.RFfnIdeal.nD Cert.RFfnIdeal.τ).loc Cert.RFfnIdeal.main_v37) = v2 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3))

def preserves_KRms_KRmsIdeal : Prop :=
  True

def algebraic_KRmsIdeal_RRmsIdeal [hKRmsIdeal : Cert.KRmsIdeal.Facts] [hRRmsIdeal : Cert.RRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg)
    (m' : (ℓ : Loc Cert.RRmsIdeal.nD Cert.RRmsIdeal.τ Cert.RRmsIdeal.sig) → Buf (Elt Ideal) ℓ) (g' : Dev Cert.RRmsIdeal.nD → PrngReg), Pre_KRmsIdeal m →
    (∀ c : Dev Cert.KRmsIdeal.nD,
      m' ((c.tc : Thread Cert.RRmsIdeal.nD Cert.RRmsIdeal.τ).loc Cert.RRmsIdeal.main_arg0) = m ((c.tc : Thread Cert.KRmsIdeal.nD Cert.KRmsIdeal.τ).loc Cert.KRmsIdeal.main_arg0)
      ∧ m' ((c.tc : Thread Cert.RRmsIdeal.nD Cert.RRmsIdeal.τ).loc Cert.RRmsIdeal.main_arg1) = m ((c.tc : Thread Cert.KRmsIdeal.nD Cert.KRmsIdeal.τ).loc Cert.KRmsIdeal.main_arg1)
      ∧ m' ((c.tc : Thread Cert.RRmsIdeal.nD Cert.RRmsIdeal.τ).loc Cert.RRmsIdeal.main_arg2) = m ((c.tc : Thread Cert.KRmsIdeal.nD Cert.KRmsIdeal.τ).loc Cert.KRmsIdeal.main_arg2)
      ∧ m' ((c.tc : Thread Cert.RRmsIdeal.nD Cert.RRmsIdeal.τ).loc Cert.RRmsIdeal.main_arg3) = m ((c.tc : Thread Cert.KRmsIdeal.nD Cert.KRmsIdeal.τ).loc Cert.KRmsIdeal.main_arg3)
      ∧ m' ((c.tc : Thread Cert.RRmsIdeal.nD Cert.RRmsIdeal.τ).loc Cert.RRmsIdeal.main_arg4) = m ((c.tc : Thread Cert.KRmsIdeal.nD Cert.KRmsIdeal.τ).loc Cert.KRmsIdeal.main_arg4)) →
    ∃ (v0 : (c : Dev Cert.KRmsIdeal.nD) → Buf (Elt Ideal) ((c.tc : Thread Cert.KRmsIdeal.nD Cert.KRmsIdeal.τ).loc Cert.KRmsIdeal.main_v5_0)) (v1 : (c : Dev Cert.KRmsIdeal.nD) → Buf (Elt Ideal) ((c.tc : Thread Cert.KRmsIdeal.nD Cert.KRmsIdeal.τ).loc Cert.KRmsIdeal.main_v5_1)) (v2 : (c : Dev Cert.KRmsIdeal.nD) → Buf (Elt Ideal) ((c.tc : Thread Cert.KRmsIdeal.nD Cert.KRmsIdeal.τ).loc Cert.KRmsIdeal.main_v5_2)),
      θ_run (Cert.KRmsIdeal.defs (F := Ideal)) (onTc (τ := Cert.KRmsIdeal.τ) (Cert.KRmsIdeal.main (F := Ideal))) ⟨m, fun _ => 0, g⟩ (fun r => ∀ c : Dev Cert.KRmsIdeal.nD,
          r.2.mem ((c.tc : Thread Cert.KRmsIdeal.nD Cert.KRmsIdeal.τ).loc Cert.KRmsIdeal.main_v5_0) = v0 c
          ∧ r.2.mem ((c.tc : Thread Cert.KRmsIdeal.nD Cert.KRmsIdeal.τ).loc Cert.KRmsIdeal.main_v5_1) = v1 c
          ∧ r.2.mem ((c.tc : Thread Cert.KRmsIdeal.nD Cert.KRmsIdeal.τ).loc Cert.KRmsIdeal.main_v5_2) = v2 c
          ∧ r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
          ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1)
          ∧ r.2.mem ((c.tc : Thread Cert.KRmsIdeal.nD Cert.KRmsIdeal.τ).loc Cert.KRmsIdeal.main_arg2) = m ((c.tc : Thread Cert.KRmsIdeal.nD Cert.KRmsIdeal.τ).loc Cert.KRmsIdeal.main_arg2)
          ∧ r.2.mem ((c.tc : Thread Cert.KRmsIdeal.nD Cert.KRmsIdeal.τ).loc Cert.KRmsIdeal.main_arg3) = m ((c.tc : Thread Cert.KRmsIdeal.nD Cert.KRmsIdeal.τ).loc Cert.KRmsIdeal.main_arg3)
          ∧ r.2.mem ((c.tc : Thread Cert.KRmsIdeal.nD Cert.KRmsIdeal.τ).loc Cert.KRmsIdeal.main_arg4) = m ((c.tc : Thread Cert.KRmsIdeal.nD Cert.KRmsIdeal.τ).loc Cert.KRmsIdeal.main_arg4))
      ∧ θ_run (Cert.RRmsIdeal.defs (F := Ideal)) (onTc (τ := Cert.RRmsIdeal.τ) (Cert.RRmsIdeal.main (F := Ideal))) ⟨m', fun _ => 0, g'⟩ (fun r => ∀ c : Dev Cert.RRmsIdeal.nD,
          r.2.mem ((c.tc : Thread Cert.RRmsIdeal.nD Cert.RRmsIdeal.τ).loc Cert.RRmsIdeal.main_v39) = v0 c
          ∧ r.2.mem ((c.tc : Thread Cert.RRmsIdeal.nD Cert.RRmsIdeal.τ).loc Cert.RRmsIdeal.main_v40) = v1 c
          ∧ r.2.mem ((c.tc : Thread Cert.RRmsIdeal.nD Cert.RRmsIdeal.τ).loc Cert.RRmsIdeal.main_v41) = v2 c
          ∧ r.2.mem ((c.tc : Thread Cert.RRmsIdeal.nD Cert.RRmsIdeal.τ).loc Cert.RRmsIdeal.main_arg0) = m' ((c.tc : Thread Cert.RRmsIdeal.nD Cert.RRmsIdeal.τ).loc Cert.RRmsIdeal.main_arg0)
          ∧ r.2.mem ((c.tc : Thread Cert.RRmsIdeal.nD Cert.RRmsIdeal.τ).loc Cert.RRmsIdeal.main_arg1) = m' ((c.tc : Thread Cert.RRmsIdeal.nD Cert.RRmsIdeal.τ).loc Cert.RRmsIdeal.main_arg1)
          ∧ r.2.mem ((c.tc : Thread Cert.RRmsIdeal.nD Cert.RRmsIdeal.τ).loc Cert.RRmsIdeal.main_arg2) = m' ((c.tc : Thread Cert.RRmsIdeal.nD Cert.RRmsIdeal.τ).loc Cert.RRmsIdeal.main_arg2)
          ∧ r.2.mem ((c.tc : Thread Cert.RRmsIdeal.nD Cert.RRmsIdeal.τ).loc Cert.RRmsIdeal.main_arg3) = m' ((c.tc : Thread Cert.RRmsIdeal.nD Cert.RRmsIdeal.τ).loc Cert.RRmsIdeal.main_arg3)
          ∧ r.2.mem ((c.tc : Thread Cert.RRmsIdeal.nD Cert.RRmsIdeal.τ).loc Cert.RRmsIdeal.main_arg4) = m' ((c.tc : Thread Cert.RRmsIdeal.nD Cert.RRmsIdeal.τ).loc Cert.RRmsIdeal.main_arg4))

def preserves_KAfwd_KAfwdIdeal : Prop :=
  True

def algebraic_KAfwdIdeal_RAfwdIdeal_pre_afwd_finite [hKAfwdIdeal : Cert.KAfwdIdeal.Facts] [hRAfwdIdeal : Cert.RAfwdIdeal.Facts] [hPre_afwd_finite : Cert.Pre_afwd_finite.Facts] : Prop :=
  ∀ (m : (ℓ : Loc Cert.KAfwdIdeal.nD Cert.KAfwdIdeal.τ Cert.KAfwdIdeal.sig) → Buf (Elt Ideal) ℓ) (g : Dev Cert.KAfwdIdeal.nD → PrngReg)
    (m' : (ℓ : Loc Cert.RAfwdIdeal.nD Cert.RAfwdIdeal.τ Cert.RAfwdIdeal.sig) → Buf (Elt Ideal) ℓ) (g' : Dev Cert.RAfwdIdeal.nD → PrngReg), Pre_KAfwdIdeal_afwd_finite m →
    (∀ c : Dev Cert.KAfwdIdeal.nD,
      m' ((c.tc : Thread Cert.RAfwdIdeal.nD Cert.RAfwdIdeal.τ).loc Cert.RAfwdIdeal.main_arg0) = m ((c.tc : Thread Cert.KAfwdIdeal.nD Cert.KAfwdIdeal.τ).loc Cert.KAfwdIdeal.main_arg0)
      ∧ m' ((c.tc : Thread Cert.RAfwdIdeal.nD Cert.RAfwdIdeal.τ).loc Cert.RAfwdIdeal.main_arg1) = m ((c.tc : Thread Cert.KAfwdIdeal.nD Cert.KAfwdIdeal.τ).loc Cert.KAfwdIdeal.main_arg1)
      ∧ m' ((c.tc : Thread Cert.RAfwdIdeal.nD Cert.RAfwdIdeal.τ).loc Cert.RAfwdIdeal.main_arg2) = m ((c.tc : Thread Cert.KAfwdIdeal.nD Cert.KAfwdIdeal.τ).loc Cert.KAfwdIdeal.main_arg2)) →
    ∃ (v0 : (c : Dev Cert.KAfwdIdeal.nD) → Buf (Elt Ideal) ((c.tc : Thread Cert.KAfwdIdeal.nD Cert.KAfwdIdeal.τ).loc Cert.KAfwdIdeal.main_v2_0)) (v1 : (c : Dev Cert.KAfwdIdeal.nD) → Buf (Elt Ideal) ((c.tc : Thread Cert.KAfwdIdeal.nD Cert.KAfwdIdeal.τ).loc Cert.KAfwdIdeal.main_v2_1)),
      θ_run (Cert.KAfwdIdeal.defs (F := Ideal)) (onTc (τ := Cert.KAfwdIdeal.τ) (Cert.KAfwdIdeal.main (F := Ideal))) ⟨m, fun _ => 0, g⟩ (fun r => ∀ c : Dev Cert.KAfwdIdeal.nD,
          r.2.mem ((c.tc : Thread Cert.KAfwdIdeal.nD Cert.KAfwdIdeal.τ).loc Cert.KAfwdIdeal.main_v2_0) = v0 c
          ∧ r.2.mem ((c.tc : Thread Cert.KAfwdIdeal.nD Cert.KAfwdIdeal.τ).loc Cert.KAfwdIdeal.main_v2_1) = v1 c
          ∧ r.2.mem ((c.tc : Thread Cert.KAfwdIdeal.nD Cert.KAfwdIdeal.τ).loc Cert.KAfwdIdeal.main_arg0) = m ((c.tc : Thread Cert.KAfwdIdeal.nD Cert.KAfwdIdeal.τ).loc Cert.KAfwdIdeal.main_arg0)
          ∧ r.2.mem ((c.tc : Thread Cert.KAfwdIdeal.nD Cert.KAfwdIdeal.τ).loc Cert.KAfwdIdeal.main_arg1) = m ((c.tc : Thread Cert.KAfwdIdeal.nD Cert.KAfwdIdeal.τ).loc Cert.KAfwdIdeal.main_arg1)
          ∧ r.2.mem ((c.tc : Thread Cert.KAfwdIdeal.nD Cert.KAfwdIdeal.τ).loc Cert.KAfwdIdeal.main_arg2) = m ((c.tc : Thread Cert.KAfwdIdeal.nD Cert.KAfwdIdeal.τ).loc Cert.KAfwdIdeal.main_arg2))
      ∧ θ_run (Cert.RAfwdIdeal.defs (F := Ideal)) (onTc (τ := Cert.RAfwdIdeal.τ) (Cert.RAfwdIdeal.main (F := Ideal))) ⟨m', fun _ => 0, g'⟩ (fun r => ∀ c : Dev Cert.RAfwdIdeal.nD,
          r.2.mem ((c.tc : Thread Cert.RAfwdIdeal.nD Cert.RAfwdIdeal.τ).loc Cert.RAfwdIdeal.main_v30) = v0 c
          ∧ r.2.mem ((c.tc : Thread Cert.RAfwdIdeal.nD Cert.RAfwdIdeal.τ).loc Cert.RAfwdIdeal.main_v29) = v1 c
          ∧ r.2.mem ((c.tc : Thread Cert.RAfwdIdeal.nD Cert.RAfwdIdeal.τ).loc Cert.RAfwdIdeal.main_arg0) = m' ((c.tc : Thread Cert.RAfwdIdeal.nD Cert.RAfwdIdeal.τ).loc Cert.RAfwdIdeal.main_arg0)
          ∧ r.2.mem ((c.tc : Thread Cert.RAfwdIdeal.nD Cert.RAfwdIdeal.τ).loc Cert.RAfwdIdeal.main_arg1) = m' ((c.tc : Thread Cert.RAfwdIdeal.nD Cert.RAfwdIdeal.τ).loc Cert.RAfwdIdeal.main_arg1)
          ∧ r.2.mem ((c.tc : Thread Cert.RAfwdIdeal.nD Cert.RAfwdIdeal.τ).loc Cert.RAfwdIdeal.main_arg2) = m' ((c.tc : Thread Cert.RAfwdIdeal.nD Cert.RAfwdIdeal.τ).loc Cert.RAfwdIdeal.main_arg2))

def preserves_KRfwd_KRfwdIdeal : Prop :=
  True

def algebraic_KRfwdIdeal_RRfwdIdeal [hKRfwdIdeal : Cert.KRfwdIdeal.Facts] [hRRfwdIdeal : Cert.RRfwdIdeal.Facts] : Prop :=
  ∀ (m : (ℓ : Loc Cert.KRfwdIdeal.nD Cert.KRfwdIdeal.τ Cert.KRfwdIdeal.sig) → Buf (Elt Ideal) ℓ) (g : Dev Cert.KRfwdIdeal.nD → PrngReg)
    (m' : (ℓ : Loc Cert.RRfwdIdeal.nD Cert.RRfwdIdeal.τ Cert.RRfwdIdeal.sig) → Buf (Elt Ideal) ℓ) (g' : Dev Cert.RRfwdIdeal.nD → PrngReg), Pre_KRfwdIdeal m →
    (∀ c : Dev Cert.KRfwdIdeal.nD,
      m' ((c.tc : Thread Cert.RRfwdIdeal.nD Cert.RRfwdIdeal.τ).loc Cert.RRfwdIdeal.main_arg0) = m ((c.tc : Thread Cert.KRfwdIdeal.nD Cert.KRfwdIdeal.τ).loc Cert.KRfwdIdeal.main_arg0)
      ∧ m' ((c.tc : Thread Cert.RRfwdIdeal.nD Cert.RRfwdIdeal.τ).loc Cert.RRfwdIdeal.main_arg1) = m ((c.tc : Thread Cert.KRfwdIdeal.nD Cert.KRfwdIdeal.τ).loc Cert.KRfwdIdeal.main_arg1)) →
    ∃ (v0 : (c : Dev Cert.KRfwdIdeal.nD) → Buf (Elt Ideal) ((c.tc : Thread Cert.KRfwdIdeal.nD Cert.KRfwdIdeal.τ).loc Cert.KRfwdIdeal.main_v1)),
      θ_run (Cert.KRfwdIdeal.defs (F := Ideal)) (onTc (τ := Cert.KRfwdIdeal.τ) (Cert.KRfwdIdeal.main (F := Ideal))) ⟨m, fun _ => 0, g⟩ (fun r => ∀ c : Dev Cert.KRfwdIdeal.nD,
          r.2.mem ((c.tc : Thread Cert.KRfwdIdeal.nD Cert.KRfwdIdeal.τ).loc Cert.KRfwdIdeal.main_v1) = v0 c
          ∧ r.2.mem ((c.tc : Thread Cert.KRfwdIdeal.nD Cert.KRfwdIdeal.τ).loc Cert.KRfwdIdeal.main_arg0) = m ((c.tc : Thread Cert.KRfwdIdeal.nD Cert.KRfwdIdeal.τ).loc Cert.KRfwdIdeal.main_arg0)
          ∧ r.2.mem ((c.tc : Thread Cert.KRfwdIdeal.nD Cert.KRfwdIdeal.τ).loc Cert.KRfwdIdeal.main_arg1) = m ((c.tc : Thread Cert.KRfwdIdeal.nD Cert.KRfwdIdeal.τ).loc Cert.KRfwdIdeal.main_arg1))
      ∧ θ_run (Cert.RRfwdIdeal.defs (F := Ideal)) (onTc (τ := Cert.RRfwdIdeal.τ) (Cert.RRfwdIdeal.main (F := Ideal))) ⟨m', fun _ => 0, g'⟩ (fun r => ∀ c : Dev Cert.RRfwdIdeal.nD,
          r.2.mem ((c.tc : Thread Cert.RRfwdIdeal.nD Cert.RRfwdIdeal.τ).loc Cert.RRfwdIdeal.main_v13) = v0 c
          ∧ r.2.mem ((c.tc : Thread Cert.RRfwdIdeal.nD Cert.RRfwdIdeal.τ).loc Cert.RRfwdIdeal.main_arg0) = m' ((c.tc : Thread Cert.RRfwdIdeal.nD Cert.RRfwdIdeal.τ).loc Cert.RRfwdIdeal.main_arg0)
          ∧ r.2.mem ((c.tc : Thread Cert.RRfwdIdeal.nD Cert.RRfwdIdeal.τ).loc Cert.RRfwdIdeal.main_arg1) = m' ((c.tc : Thread Cert.RRfwdIdeal.nD Cert.RRfwdIdeal.τ).loc Cert.RRfwdIdeal.main_arg1))

def preserves_KFfwd_KFfwdIdeal : Prop :=
  True

def algebraic_KFfwdIdeal_RFfwdIdeal [hKFfwdIdeal : Cert.KFfwdIdeal.Facts] [hRFfwdIdeal : Cert.RFfwdIdeal.Facts] : Prop :=
  ∀ (m : (ℓ : Loc Cert.KFfwdIdeal.nD Cert.KFfwdIdeal.τ Cert.KFfwdIdeal.sig) → Buf (Elt Ideal) ℓ) (g : Dev Cert.KFfwdIdeal.nD → PrngReg)
    (m' : (ℓ : Loc Cert.RFfwdIdeal.nD Cert.RFfwdIdeal.τ Cert.RFfwdIdeal.sig) → Buf (Elt Ideal) ℓ) (g' : Dev Cert.RFfwdIdeal.nD → PrngReg), Pre_KFfwdIdeal m →
    (∀ c : Dev Cert.KFfwdIdeal.nD,
      m' ((c.tc : Thread Cert.RFfwdIdeal.nD Cert.RFfwdIdeal.τ).loc Cert.RFfwdIdeal.main_arg0) = m ((c.tc : Thread Cert.KFfwdIdeal.nD Cert.KFfwdIdeal.τ).loc Cert.KFfwdIdeal.main_arg0)
      ∧ m' ((c.tc : Thread Cert.RFfwdIdeal.nD Cert.RFfwdIdeal.τ).loc Cert.RFfwdIdeal.main_arg1) = m ((c.tc : Thread Cert.KFfwdIdeal.nD Cert.KFfwdIdeal.τ).loc Cert.KFfwdIdeal.main_arg1)
      ∧ m' ((c.tc : Thread Cert.RFfwdIdeal.nD Cert.RFfwdIdeal.τ).loc Cert.RFfwdIdeal.main_arg2) = m ((c.tc : Thread Cert.KFfwdIdeal.nD Cert.KFfwdIdeal.τ).loc Cert.KFfwdIdeal.main_arg2)) →
    ∃ (v0 : (c : Dev Cert.KFfwdIdeal.nD) → Buf (Elt Ideal) ((c.tc : Thread Cert.KFfwdIdeal.nD Cert.KFfwdIdeal.τ).loc Cert.KFfwdIdeal.main_v2)),
      θ_run (Cert.KFfwdIdeal.defs (F := Ideal)) (onTc (τ := Cert.KFfwdIdeal.τ) (Cert.KFfwdIdeal.main (F := Ideal))) ⟨m, fun _ => 0, g⟩ (fun r => ∀ c : Dev Cert.KFfwdIdeal.nD,
          r.2.mem ((c.tc : Thread Cert.KFfwdIdeal.nD Cert.KFfwdIdeal.τ).loc Cert.KFfwdIdeal.main_v2) = v0 c
          ∧ r.2.mem ((c.tc : Thread Cert.KFfwdIdeal.nD Cert.KFfwdIdeal.τ).loc Cert.KFfwdIdeal.main_arg0) = m ((c.tc : Thread Cert.KFfwdIdeal.nD Cert.KFfwdIdeal.τ).loc Cert.KFfwdIdeal.main_arg0)
          ∧ r.2.mem ((c.tc : Thread Cert.KFfwdIdeal.nD Cert.KFfwdIdeal.τ).loc Cert.KFfwdIdeal.main_arg1) = m ((c.tc : Thread Cert.KFfwdIdeal.nD Cert.KFfwdIdeal.τ).loc Cert.KFfwdIdeal.main_arg1)
          ∧ r.2.mem ((c.tc : Thread Cert.KFfwdIdeal.nD Cert.KFfwdIdeal.τ).loc Cert.KFfwdIdeal.main_arg2) = m ((c.tc : Thread Cert.KFfwdIdeal.nD Cert.KFfwdIdeal.τ).loc Cert.KFfwdIdeal.main_arg2))
      ∧ θ_run (Cert.RFfwdIdeal.defs (F := Ideal)) (onTc (τ := Cert.RFfwdIdeal.τ) (Cert.RFfwdIdeal.main (F := Ideal))) ⟨m', fun _ => 0, g'⟩ (fun r => ∀ c : Dev Cert.RFfwdIdeal.nD,
          r.2.mem ((c.tc : Thread Cert.RFfwdIdeal.nD Cert.RFfwdIdeal.τ).loc Cert.RFfwdIdeal.main_v30) = v0 c
          ∧ r.2.mem ((c.tc : Thread Cert.RFfwdIdeal.nD Cert.RFfwdIdeal.τ).loc Cert.RFfwdIdeal.main_arg0) = m' ((c.tc : Thread Cert.RFfwdIdeal.nD Cert.RFfwdIdeal.τ).loc Cert.RFfwdIdeal.main_arg0)
          ∧ r.2.mem ((c.tc : Thread Cert.RFfwdIdeal.nD Cert.RFfwdIdeal.τ).loc Cert.RFfwdIdeal.main_arg1) = m' ((c.tc : Thread Cert.RFfwdIdeal.nD Cert.RFfwdIdeal.τ).loc Cert.RFfwdIdeal.main_arg1)
          ∧ r.2.mem ((c.tc : Thread Cert.RFfwdIdeal.nD Cert.RFfwdIdeal.τ).loc Cert.RFfwdIdeal.main_arg2) = m' ((c.tc : Thread Cert.RFfwdIdeal.nD Cert.RFfwdIdeal.τ).loc Cert.RFfwdIdeal.main_arg2))

def preserves_KPfwd_KPfwdIdeal : Prop :=
  True

def algebraic_KPfwdIdeal_RPfwdIdeal_pre_prep_finite [hKPfwdIdeal : Cert.KPfwdIdeal.Facts] [hRPfwdIdeal : Cert.RPfwdIdeal.Facts] [hPre_prep_finite : Cert.Pre_prep_finite.Facts] : Prop :=
  ∀ (m : (ℓ : Loc Cert.KPfwdIdeal.nD Cert.KPfwdIdeal.τ Cert.KPfwdIdeal.sig) → Buf (Elt Ideal) ℓ) (g : Dev Cert.KPfwdIdeal.nD → PrngReg)
    (m' : (ℓ : Loc Cert.RPfwdIdeal.nD Cert.RPfwdIdeal.τ Cert.RPfwdIdeal.sig) → Buf (Elt Ideal) ℓ) (g' : Dev Cert.RPfwdIdeal.nD → PrngReg), Pre_KPfwdIdeal_prep_finite m →
    (∀ c : Dev Cert.KPfwdIdeal.nD,
      m' ((c.tc : Thread Cert.RPfwdIdeal.nD Cert.RPfwdIdeal.τ).loc Cert.RPfwdIdeal.main_arg0) = m ((c.tc : Thread Cert.KPfwdIdeal.nD Cert.KPfwdIdeal.τ).loc Cert.KPfwdIdeal.main_arg0)
      ∧ m' ((c.tc : Thread Cert.RPfwdIdeal.nD Cert.RPfwdIdeal.τ).loc Cert.RPfwdIdeal.main_arg1) = m ((c.tc : Thread Cert.KPfwdIdeal.nD Cert.KPfwdIdeal.τ).loc Cert.KPfwdIdeal.main_arg1)
      ∧ m' ((c.tc : Thread Cert.RPfwdIdeal.nD Cert.RPfwdIdeal.τ).loc Cert.RPfwdIdeal.main_arg2) = m ((c.tc : Thread Cert.KPfwdIdeal.nD Cert.KPfwdIdeal.τ).loc Cert.KPfwdIdeal.main_arg2)
      ∧ m' ((c.tc : Thread Cert.RPfwdIdeal.nD Cert.RPfwdIdeal.τ).loc Cert.RPfwdIdeal.main_arg3) = m ((c.tc : Thread Cert.KPfwdIdeal.nD Cert.KPfwdIdeal.τ).loc Cert.KPfwdIdeal.main_arg3)
      ∧ m' ((c.tc : Thread Cert.RPfwdIdeal.nD Cert.RPfwdIdeal.τ).loc Cert.RPfwdIdeal.main_arg4) = m ((c.tc : Thread Cert.KPfwdIdeal.nD Cert.KPfwdIdeal.τ).loc Cert.KPfwdIdeal.main_arg4)
      ∧ m' ((c.tc : Thread Cert.RPfwdIdeal.nD Cert.RPfwdIdeal.τ).loc Cert.RPfwdIdeal.main_arg5) = m ((c.tc : Thread Cert.KPfwdIdeal.nD Cert.KPfwdIdeal.τ).loc Cert.KPfwdIdeal.main_arg5)) →
    ∃ (v0 : (c : Dev Cert.KPfwdIdeal.nD) → Buf (Elt Ideal) ((c.tc : Thread Cert.KPfwdIdeal.nD Cert.KPfwdIdeal.τ).loc Cert.KPfwdIdeal.main_v25_0)) (v1 : (c : Dev Cert.KPfwdIdeal.nD) → Buf (Elt Ideal) ((c.tc : Thread Cert.KPfwdIdeal.nD Cert.KPfwdIdeal.τ).loc Cert.KPfwdIdeal.main_v25_1)),
      θ_run (Cert.KPfwdIdeal.defs (F := Ideal)) (onTc (τ := Cert.KPfwdIdeal.τ) (Cert.KPfwdIdeal.main (F := Ideal))) ⟨m, fun _ => 0, g⟩ (fun r => ∀ c : Dev Cert.KPfwdIdeal.nD,
          r.2.mem ((c.tc : Thread Cert.KPfwdIdeal.nD Cert.KPfwdIdeal.τ).loc Cert.KPfwdIdeal.main_v25_0) = v0 c
          ∧ r.2.mem ((c.tc : Thread Cert.KPfwdIdeal.nD Cert.KPfwdIdeal.τ).loc Cert.KPfwdIdeal.main_v25_1) = v1 c
          ∧ r.2.mem ((c.tc : Thread Cert.KPfwdIdeal.nD Cert.KPfwdIdeal.τ).loc Cert.KPfwdIdeal.main_arg0) = m ((c.tc : Thread Cert.KPfwdIdeal.nD Cert.KPfwdIdeal.τ).loc Cert.KPfwdIdeal.main_arg0)
          ∧ r.2.mem ((c.tc : Thread Cert.KPfwdIdeal.nD Cert.KPfwdIdeal.τ).loc Cert.KPfwdIdeal.main_arg1) = m ((c.tc : Thread Cert.KPfwdIdeal.nD Cert.KPfwdIdeal.τ).loc Cert.KPfwdIdeal.main_arg1)
          ∧ r.2.mem ((c.tc : Thread Cert.KPfwdIdeal.nD Cert.KPfwdIdeal.τ).loc Cert.KPfwdIdeal.main_arg2) = m ((c.tc : Thread Cert.KPfwdIdeal.nD Cert.KPfwdIdeal.τ).loc Cert.KPfwdIdeal.main_arg2)
          ∧ r.2.mem ((c.tc : Thread Cert.KPfwdIdeal.nD Cert.KPfwdIdeal.τ).loc Cert.KPfwdIdeal.main_arg3) = m ((c.tc : Thread Cert.KPfwdIdeal.nD Cert.KPfwdIdeal.τ).loc Cert.KPfwdIdeal.main_arg3)
          ∧ r.2.mem ((c.tc : Thread Cert.KPfwdIdeal.nD Cert.KPfwdIdeal.τ).loc Cert.KPfwdIdeal.main_arg4) = m ((c.tc : Thread Cert.KPfwdIdeal.nD Cert.KPfwdIdeal.τ).loc Cert.KPfwdIdeal.main_arg4)
          ∧ r.2.mem ((c.tc : Thread Cert.KPfwdIdeal.nD Cert.KPfwdIdeal.τ).loc Cert.KPfwdIdeal.main_arg5) = m ((c.tc : Thread Cert.KPfwdIdeal.nD Cert.KPfwdIdeal.τ).loc Cert.KPfwdIdeal.main_arg5))
      ∧ θ_run (Cert.RPfwdIdeal.defs (F := Ideal)) (onTc (τ := Cert.RPfwdIdeal.τ) (Cert.RPfwdIdeal.main (F := Ideal))) ⟨m', fun _ => 0, g'⟩ (fun r => ∀ c : Dev Cert.RPfwdIdeal.nD,
          r.2.mem ((c.tc : Thread Cert.RPfwdIdeal.nD Cert.RPfwdIdeal.τ).loc Cert.RPfwdIdeal.main_v79) = v0 c
          ∧ r.2.mem ((c.tc : Thread Cert.RPfwdIdeal.nD Cert.RPfwdIdeal.τ).loc Cert.RPfwdIdeal.main_v80) = v1 c
          ∧ r.2.mem ((c.tc : Thread Cert.RPfwdIdeal.nD Cert.RPfwdIdeal.τ).loc Cert.RPfwdIdeal.main_arg0) = m' ((c.tc : Thread Cert.RPfwdIdeal.nD Cert.RPfwdIdeal.τ).loc Cert.RPfwdIdeal.main_arg0)
          ∧ r.2.mem ((c.tc : Thread Cert.RPfwdIdeal.nD Cert.RPfwdIdeal.τ).loc Cert.RPfwdIdeal.main_arg1) = m' ((c.tc : Thread Cert.RPfwdIdeal.nD Cert.RPfwdIdeal.τ).loc Cert.RPfwdIdeal.main_arg1)
          ∧ r.2.mem ((c.tc : Thread Cert.RPfwdIdeal.nD Cert.RPfwdIdeal.τ).loc Cert.RPfwdIdeal.main_arg2) = m' ((c.tc : Thread Cert.RPfwdIdeal.nD Cert.RPfwdIdeal.τ).loc Cert.RPfwdIdeal.main_arg2)
          ∧ r.2.mem ((c.tc : Thread Cert.RPfwdIdeal.nD Cert.RPfwdIdeal.τ).loc Cert.RPfwdIdeal.main_arg3) = m' ((c.tc : Thread Cert.RPfwdIdeal.nD Cert.RPfwdIdeal.τ).loc Cert.RPfwdIdeal.main_arg3)
          ∧ r.2.mem ((c.tc : Thread Cert.RPfwdIdeal.nD Cert.RPfwdIdeal.τ).loc Cert.RPfwdIdeal.main_arg4) = m' ((c.tc : Thread Cert.RPfwdIdeal.nD Cert.RPfwdIdeal.τ).loc Cert.RPfwdIdeal.main_arg4)
          ∧ r.2.mem ((c.tc : Thread Cert.RPfwdIdeal.nD Cert.RPfwdIdeal.τ).loc Cert.RPfwdIdeal.main_arg5) = m' ((c.tc : Thread Cert.RPfwdIdeal.nD Cert.RPfwdIdeal.τ).loc Cert.RPfwdIdeal.main_arg5))

def preserves_KNfwd_KNfwdIdeal : Prop :=
  True

def algebraic_KNfwdIdeal_RNfwdIdeal [hKNfwdIdeal : Cert.KNfwdIdeal.Facts] [hRNfwdIdeal : Cert.RNfwdIdeal.Facts] : Prop :=
  ∀ (m : (ℓ : Loc Cert.KNfwdIdeal.nD Cert.KNfwdIdeal.τ Cert.KNfwdIdeal.sig) → Buf (Elt Ideal) ℓ) (g : Dev Cert.KNfwdIdeal.nD → PrngReg)
    (m' : (ℓ : Loc Cert.RNfwdIdeal.nD Cert.RNfwdIdeal.τ Cert.RNfwdIdeal.sig) → Buf (Elt Ideal) ℓ) (g' : Dev Cert.RNfwdIdeal.nD → PrngReg), Pre_KNfwdIdeal m →
    (∀ c : Dev Cert.KNfwdIdeal.nD,
      m' ((c.tc : Thread Cert.RNfwdIdeal.nD Cert.RNfwdIdeal.τ).loc Cert.RNfwdIdeal.main_arg0) = m ((c.tc : Thread Cert.KNfwdIdeal.nD Cert.KNfwdIdeal.τ).loc Cert.KNfwdIdeal.main_arg0)
      ∧ m' ((c.tc : Thread Cert.RNfwdIdeal.nD Cert.RNfwdIdeal.τ).loc Cert.RNfwdIdeal.main_arg1) = m ((c.tc : Thread Cert.KNfwdIdeal.nD Cert.KNfwdIdeal.τ).loc Cert.KNfwdIdeal.main_arg1)
      ∧ m' ((c.tc : Thread Cert.RNfwdIdeal.nD Cert.RNfwdIdeal.τ).loc Cert.RNfwdIdeal.main_arg2) = m ((c.tc : Thread Cert.KNfwdIdeal.nD Cert.KNfwdIdeal.τ).loc Cert.KNfwdIdeal.main_arg2)
      ∧ m' ((c.tc : Thread Cert.RNfwdIdeal.nD Cert.RNfwdIdeal.τ).loc Cert.RNfwdIdeal.main_arg3) = m ((c.tc : Thread Cert.KNfwdIdeal.nD Cert.KNfwdIdeal.τ).loc Cert.KNfwdIdeal.main_arg3)) →
    ∃ (v0 : (c : Dev Cert.KNfwdIdeal.nD) → Buf (Elt Ideal) ((c.tc : Thread Cert.KNfwdIdeal.nD Cert.KNfwdIdeal.τ).loc Cert.KNfwdIdeal.main_v3_0)) (v1 : (c : Dev Cert.KNfwdIdeal.nD) → Buf (Elt Ideal) ((c.tc : Thread Cert.KNfwdIdeal.nD Cert.KNfwdIdeal.τ).loc Cert.KNfwdIdeal.main_v3_1)),
      θ_run (Cert.KNfwdIdeal.defs (F := Ideal)) (onTc (τ := Cert.KNfwdIdeal.τ) (Cert.KNfwdIdeal.main (F := Ideal))) ⟨m, fun _ => 0, g⟩ (fun r => ∀ c : Dev Cert.KNfwdIdeal.nD,
          r.2.mem ((c.tc : Thread Cert.KNfwdIdeal.nD Cert.KNfwdIdeal.τ).loc Cert.KNfwdIdeal.main_v3_0) = v0 c
          ∧ r.2.mem ((c.tc : Thread Cert.KNfwdIdeal.nD Cert.KNfwdIdeal.τ).loc Cert.KNfwdIdeal.main_v3_1) = v1 c
          ∧ r.2.mem ((c.tc : Thread Cert.KNfwdIdeal.nD Cert.KNfwdIdeal.τ).loc Cert.KNfwdIdeal.main_arg0) = m ((c.tc : Thread Cert.KNfwdIdeal.nD Cert.KNfwdIdeal.τ).loc Cert.KNfwdIdeal.main_arg0)
          ∧ r.2.mem ((c.tc : Thread Cert.KNfwdIdeal.nD Cert.KNfwdIdeal.τ).loc Cert.KNfwdIdeal.main_arg1) = m ((c.tc : Thread Cert.KNfwdIdeal.nD Cert.KNfwdIdeal.τ).loc Cert.KNfwdIdeal.main_arg1)
          ∧ r.2.mem ((c.tc : Thread Cert.KNfwdIdeal.nD Cert.KNfwdIdeal.τ).loc Cert.KNfwdIdeal.main_arg2) = m ((c.tc : Thread Cert.KNfwdIdeal.nD Cert.KNfwdIdeal.τ).loc Cert.KNfwdIdeal.main_arg2)
          ∧ r.2.mem ((c.tc : Thread Cert.KNfwdIdeal.nD Cert.KNfwdIdeal.τ).loc Cert.KNfwdIdeal.main_arg3) = m ((c.tc : Thread Cert.KNfwdIdeal.nD Cert.KNfwdIdeal.τ).loc Cert.KNfwdIdeal.main_arg3))
      ∧ θ_run (Cert.RNfwdIdeal.defs (F := Ideal)) (onTc (τ := Cert.RNfwdIdeal.τ) (Cert.RNfwdIdeal.main (F := Ideal))) ⟨m', fun _ => 0, g'⟩ (fun r => ∀ c : Dev Cert.RNfwdIdeal.nD,
          r.2.mem ((c.tc : Thread Cert.RNfwdIdeal.nD Cert.RNfwdIdeal.τ).loc Cert.RNfwdIdeal.main_v2) = v0 c
          ∧ r.2.mem ((c.tc : Thread Cert.RNfwdIdeal.nD Cert.RNfwdIdeal.τ).loc Cert.RNfwdIdeal.main_v16) = v1 c
          ∧ r.2.mem ((c.tc : Thread Cert.RNfwdIdeal.nD Cert.RNfwdIdeal.τ).loc Cert.RNfwdIdeal.main_arg0) = m' ((c.tc : Thread Cert.RNfwdIdeal.nD Cert.RNfwdIdeal.τ).loc Cert.RNfwdIdeal.main_arg0)
          ∧ r.2.mem ((c.tc : Thread Cert.RNfwdIdeal.nD Cert.RNfwdIdeal.τ).loc Cert.RNfwdIdeal.main_arg1) = m' ((c.tc : Thread Cert.RNfwdIdeal.nD Cert.RNfwdIdeal.τ).loc Cert.RNfwdIdeal.main_arg1)
          ∧ r.2.mem ((c.tc : Thread Cert.RNfwdIdeal.nD Cert.RNfwdIdeal.τ).loc Cert.RNfwdIdeal.main_arg2) = m' ((c.tc : Thread Cert.RNfwdIdeal.nD Cert.RNfwdIdeal.τ).loc Cert.RNfwdIdeal.main_arg2)
          ∧ r.2.mem ((c.tc : Thread Cert.RNfwdIdeal.nD Cert.RNfwdIdeal.τ).loc Cert.RNfwdIdeal.main_arg3) = m' ((c.tc : Thread Cert.RNfwdIdeal.nD Cert.RNfwdIdeal.τ).loc Cert.RNfwdIdeal.main_arg3))

def preserves_KMmnn_KMmnnIdeal : Prop :=
  True

def algebraic_KMmnnIdeal_RMmnnIdeal [hKMmnnIdeal : Cert.KMmnnIdeal.Facts] [hRMmnnIdeal : Cert.RMmnnIdeal.Facts] : Prop :=
  ∀ (m : (ℓ : Loc Cert.KMmnnIdeal.nD Cert.KMmnnIdeal.τ Cert.KMmnnIdeal.sig) → Buf (Elt Ideal) ℓ) (g : Dev Cert.KMmnnIdeal.nD → PrngReg)
    (m' : (ℓ : Loc Cert.RMmnnIdeal.nD Cert.RMmnnIdeal.τ Cert.RMmnnIdeal.sig) → Buf (Elt Ideal) ℓ) (g' : Dev Cert.RMmnnIdeal.nD → PrngReg), Pre_KMmnnIdeal m →
    (∀ c : Dev Cert.KMmnnIdeal.nD,
      m' ((c.tc : Thread Cert.RMmnnIdeal.nD Cert.RMmnnIdeal.τ).loc Cert.RMmnnIdeal.main_arg0) = m ((c.tc : Thread Cert.KMmnnIdeal.nD Cert.KMmnnIdeal.τ).loc Cert.KMmnnIdeal.main_arg0)
      ∧ m' ((c.tc : Thread Cert.RMmnnIdeal.nD Cert.RMmnnIdeal.τ).loc Cert.RMmnnIdeal.main_arg1) = m ((c.tc : Thread Cert.KMmnnIdeal.nD Cert.KMmnnIdeal.τ).loc Cert.KMmnnIdeal.main_arg1)) →
    ∃ (v0 : (c : Dev Cert.KMmnnIdeal.nD) → Buf (Elt Ideal) ((c.tc : Thread Cert.KMmnnIdeal.nD Cert.KMmnnIdeal.τ).loc Cert.KMmnnIdeal.main_v4)),
      θ_run (Cert.KMmnnIdeal.defs (F := Ideal)) (onTc (τ := Cert.KMmnnIdeal.τ) (Cert.KMmnnIdeal.main (F := Ideal))) ⟨m, fun _ => 0, g⟩ (fun r => ∀ c : Dev Cert.KMmnnIdeal.nD,
          r.2.mem ((c.tc : Thread Cert.KMmnnIdeal.nD Cert.KMmnnIdeal.τ).loc Cert.KMmnnIdeal.main_v4) = v0 c
          ∧ r.2.mem ((c.tc : Thread Cert.KMmnnIdeal.nD Cert.KMmnnIdeal.τ).loc Cert.KMmnnIdeal.main_arg0) = m ((c.tc : Thread Cert.KMmnnIdeal.nD Cert.KMmnnIdeal.τ).loc Cert.KMmnnIdeal.main_arg0)
          ∧ r.2.mem ((c.tc : Thread Cert.KMmnnIdeal.nD Cert.KMmnnIdeal.τ).loc Cert.KMmnnIdeal.main_arg1) = m ((c.tc : Thread Cert.KMmnnIdeal.nD Cert.KMmnnIdeal.τ).loc Cert.KMmnnIdeal.main_arg1))
      ∧ θ_run (Cert.RMmnnIdeal.defs (F := Ideal)) (onTc (τ := Cert.RMmnnIdeal.τ) (Cert.RMmnnIdeal.main (F := Ideal))) ⟨m', fun _ => 0, g'⟩ (fun r => ∀ c : Dev Cert.RMmnnIdeal.nD,
          r.2.mem ((c.tc : Thread Cert.RMmnnIdeal.nD Cert.RMmnnIdeal.τ).loc Cert.RMmnnIdeal.main_v2) = v0 c
          ∧ r.2.mem ((c.tc : Thread Cert.RMmnnIdeal.nD Cert.RMmnnIdeal.τ).loc Cert.RMmnnIdeal.main_arg0) = m' ((c.tc : Thread Cert.RMmnnIdeal.nD Cert.RMmnnIdeal.τ).loc Cert.RMmnnIdeal.main_arg0)
          ∧ r.2.mem ((c.tc : Thread Cert.RMmnnIdeal.nD Cert.RMmnnIdeal.τ).loc Cert.RMmnnIdeal.main_arg1) = m' ((c.tc : Thread Cert.RMmnnIdeal.nD Cert.RMmnnIdeal.τ).loc Cert.RMmnnIdeal.main_arg1))

def preserves_KMmnt_KMmntIdeal : Prop :=
  True

def algebraic_KMmntIdeal_RMmntIdeal [hKMmntIdeal : Cert.KMmntIdeal.Facts] [hRMmntIdeal : Cert.RMmntIdeal.Facts] : Prop :=
  ∀ (m : (ℓ : Loc Cert.KMmntIdeal.nD Cert.KMmntIdeal.τ Cert.KMmntIdeal.sig) → Buf (Elt Ideal) ℓ) (g : Dev Cert.KMmntIdeal.nD → PrngReg)
    (m' : (ℓ : Loc Cert.RMmntIdeal.nD Cert.RMmntIdeal.τ Cert.RMmntIdeal.sig) → Buf (Elt Ideal) ℓ) (g' : Dev Cert.RMmntIdeal.nD → PrngReg), Pre_KMmntIdeal m →
    (∀ c : Dev Cert.KMmntIdeal.nD,
      m' ((c.tc : Thread Cert.RMmntIdeal.nD Cert.RMmntIdeal.τ).loc Cert.RMmntIdeal.main_arg0) = m ((c.tc : Thread Cert.KMmntIdeal.nD Cert.KMmntIdeal.τ).loc Cert.KMmntIdeal.main_arg0)
      ∧ m' ((c.tc : Thread Cert.RMmntIdeal.nD Cert.RMmntIdeal.τ).loc Cert.RMmntIdeal.main_arg1) = m ((c.tc : Thread Cert.KMmntIdeal.nD Cert.KMmntIdeal.τ).loc Cert.KMmntIdeal.main_arg1)) →
    ∃ (v0 : (c : Dev Cert.KMmntIdeal.nD) → Buf (Elt Ideal) ((c.tc : Thread Cert.KMmntIdeal.nD Cert.KMmntIdeal.τ).loc Cert.KMmntIdeal.main_v2)),
      θ_run (Cert.KMmntIdeal.defs (F := Ideal)) (onTc (τ := Cert.KMmntIdeal.τ) (Cert.KMmntIdeal.main (F := Ideal))) ⟨m, fun _ => 0, g⟩ (fun r => ∀ c : Dev Cert.KMmntIdeal.nD,
          r.2.mem ((c.tc : Thread Cert.KMmntIdeal.nD Cert.KMmntIdeal.τ).loc Cert.KMmntIdeal.main_v2) = v0 c
          ∧ r.2.mem ((c.tc : Thread Cert.KMmntIdeal.nD Cert.KMmntIdeal.τ).loc Cert.KMmntIdeal.main_arg0) = m ((c.tc : Thread Cert.KMmntIdeal.nD Cert.KMmntIdeal.τ).loc Cert.KMmntIdeal.main_arg0)
          ∧ r.2.mem ((c.tc : Thread Cert.KMmntIdeal.nD Cert.KMmntIdeal.τ).loc Cert.KMmntIdeal.main_arg1) = m ((c.tc : Thread Cert.KMmntIdeal.nD Cert.KMmntIdeal.τ).loc Cert.KMmntIdeal.main_arg1))
      ∧ θ_run (Cert.RMmntIdeal.defs (F := Ideal)) (onTc (τ := Cert.RMmntIdeal.τ) (Cert.RMmntIdeal.main (F := Ideal))) ⟨m', fun _ => 0, g'⟩ (fun r => ∀ c : Dev Cert.RMmntIdeal.nD,
          r.2.mem ((c.tc : Thread Cert.RMmntIdeal.nD Cert.RMmntIdeal.τ).loc Cert.RMmntIdeal.main_v4) = v0 c
          ∧ r.2.mem ((c.tc : Thread Cert.RMmntIdeal.nD Cert.RMmntIdeal.τ).loc Cert.RMmntIdeal.main_arg0) = m' ((c.tc : Thread Cert.RMmntIdeal.nD Cert.RMmntIdeal.τ).loc Cert.RMmntIdeal.main_arg0)
          ∧ r.2.mem ((c.tc : Thread Cert.RMmntIdeal.nD Cert.RMmntIdeal.τ).loc Cert.RMmntIdeal.main_arg1) = m' ((c.tc : Thread Cert.RMmntIdeal.nD Cert.RMmntIdeal.τ).loc Cert.RMmntIdeal.main_arg1))

def preserves_KMmtn_KMmtnIdeal : Prop :=
  True

def algebraic_KMmtnIdeal_RMmtnIdeal [hKMmtnIdeal : Cert.KMmtnIdeal.Facts] [hRMmtnIdeal : Cert.RMmtnIdeal.Facts] : Prop :=
  ∀ (m : (ℓ : Loc Cert.KMmtnIdeal.nD Cert.KMmtnIdeal.τ Cert.KMmtnIdeal.sig) → Buf (Elt Ideal) ℓ) (g : Dev Cert.KMmtnIdeal.nD → PrngReg)
    (m' : (ℓ : Loc Cert.RMmtnIdeal.nD Cert.RMmtnIdeal.τ Cert.RMmtnIdeal.sig) → Buf (Elt Ideal) ℓ) (g' : Dev Cert.RMmtnIdeal.nD → PrngReg), Pre_KMmtnIdeal m →
    (∀ c : Dev Cert.KMmtnIdeal.nD,
      m' ((c.tc : Thread Cert.RMmtnIdeal.nD Cert.RMmtnIdeal.τ).loc Cert.RMmtnIdeal.main_arg0) = m ((c.tc : Thread Cert.KMmtnIdeal.nD Cert.KMmtnIdeal.τ).loc Cert.KMmtnIdeal.main_arg0)
      ∧ m' ((c.tc : Thread Cert.RMmtnIdeal.nD Cert.RMmtnIdeal.τ).loc Cert.RMmtnIdeal.main_arg1) = m ((c.tc : Thread Cert.KMmtnIdeal.nD Cert.KMmtnIdeal.τ).loc Cert.KMmtnIdeal.main_arg1)) →
    ∃ (v0 : (c : Dev Cert.KMmtnIdeal.nD) → Buf (Elt Ideal) ((c.tc : Thread Cert.KMmtnIdeal.nD Cert.KMmtnIdeal.τ).loc Cert.KMmtnIdeal.main_v0)),
      θ_run (Cert.KMmtnIdeal.defs (F := Ideal)) (onTc (τ := Cert.KMmtnIdeal.τ) (Cert.KMmtnIdeal.main (F := Ideal))) ⟨m, fun _ => 0, g⟩ (fun r => ∀ c : Dev Cert.KMmtnIdeal.nD,
          r.2.mem ((c.tc : Thread Cert.KMmtnIdeal.nD Cert.KMmtnIdeal.τ).loc Cert.KMmtnIdeal.main_v0) = v0 c
          ∧ r.2.mem ((c.tc : Thread Cert.KMmtnIdeal.nD Cert.KMmtnIdeal.τ).loc Cert.KMmtnIdeal.main_arg0) = m ((c.tc : Thread Cert.KMmtnIdeal.nD Cert.KMmtnIdeal.τ).loc Cert.KMmtnIdeal.main_arg0)
          ∧ r.2.mem ((c.tc : Thread Cert.KMmtnIdeal.nD Cert.KMmtnIdeal.τ).loc Cert.KMmtnIdeal.main_arg1) = m ((c.tc : Thread Cert.KMmtnIdeal.nD Cert.KMmtnIdeal.τ).loc Cert.KMmtnIdeal.main_arg1))
      ∧ θ_run (Cert.RMmtnIdeal.defs (F := Ideal)) (onTc (τ := Cert.RMmtnIdeal.τ) (Cert.RMmtnIdeal.main (F := Ideal))) ⟨m', fun _ => 0, g'⟩ (fun r => ∀ c : Dev Cert.RMmtnIdeal.nD,
          r.2.mem ((c.tc : Thread Cert.RMmtnIdeal.nD Cert.RMmtnIdeal.τ).loc Cert.RMmtnIdeal.main_v9) = v0 c
          ∧ r.2.mem ((c.tc : Thread Cert.RMmtnIdeal.nD Cert.RMmtnIdeal.τ).loc Cert.RMmtnIdeal.main_arg0) = m' ((c.tc : Thread Cert.RMmtnIdeal.nD Cert.RMmtnIdeal.τ).loc Cert.RMmtnIdeal.main_arg0)
          ∧ r.2.mem ((c.tc : Thread Cert.RMmtnIdeal.nD Cert.RMmtnIdeal.τ).loc Cert.RMmtnIdeal.main_arg1) = m' ((c.tc : Thread Cert.RMmtnIdeal.nD Cert.RMmtnIdeal.τ).loc Cert.RMmtnIdeal.main_arg1))

def preserves_KAdam_KAdamIdeal : Prop :=
  True

def algebraic_KAdamIdeal_RAdamIdeal [hKAdamIdeal : Cert.KAdamIdeal.Facts] [hRAdamIdeal : Cert.RAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg)
    (m' : (ℓ : Loc Cert.RAdamIdeal.nD Cert.RAdamIdeal.τ Cert.RAdamIdeal.sig) → Buf (Elt Ideal) ℓ) (g' : Dev Cert.RAdamIdeal.nD → PrngReg), Pre_KAdamIdeal m →
    (∀ c : Dev Cert.KAdamIdeal.nD,
      m' ((c.tc : Thread Cert.RAdamIdeal.nD Cert.RAdamIdeal.τ).loc Cert.RAdamIdeal.main_arg0) = m ((c.tc : Thread Cert.KAdamIdeal.nD Cert.KAdamIdeal.τ).loc Cert.KAdamIdeal.main_arg0)
      ∧ m' ((c.tc : Thread Cert.RAdamIdeal.nD Cert.RAdamIdeal.τ).loc Cert.RAdamIdeal.main_arg1) = m ((c.tc : Thread Cert.KAdamIdeal.nD Cert.KAdamIdeal.τ).loc Cert.KAdamIdeal.main_arg1)
      ∧ m' ((c.tc : Thread Cert.RAdamIdeal.nD Cert.RAdamIdeal.τ).loc Cert.RAdamIdeal.main_arg2) = m ((c.tc : Thread Cert.KAdamIdeal.nD Cert.KAdamIdeal.τ).loc Cert.KAdamIdeal.main_arg2)
      ∧ m' ((c.tc : Thread Cert.RAdamIdeal.nD Cert.RAdamIdeal.τ).loc Cert.RAdamIdeal.main_arg3) = m ((c.tc : Thread Cert.KAdamIdeal.nD Cert.KAdamIdeal.τ).loc Cert.KAdamIdeal.main_arg3)) →
    ∃ (v0 : (c : Dev Cert.KAdamIdeal.nD) → Buf (Elt Ideal) ((c.tc : Thread Cert.KAdamIdeal.nD Cert.KAdamIdeal.τ).loc Cert.KAdamIdeal.main_v4_0)) (v1 : (c : Dev Cert.KAdamIdeal.nD) → Buf (Elt Ideal) ((c.tc : Thread Cert.KAdamIdeal.nD Cert.KAdamIdeal.τ).loc Cert.KAdamIdeal.main_v4_1)) (v2 : (c : Dev Cert.KAdamIdeal.nD) → Buf (Elt Ideal) ((c.tc : Thread Cert.KAdamIdeal.nD Cert.KAdamIdeal.τ).loc Cert.KAdamIdeal.main_v4_2)),
      θ_run (Cert.KAdamIdeal.defs (F := Ideal)) (onTc (τ := Cert.KAdamIdeal.τ) (Cert.KAdamIdeal.main (F := Ideal))) ⟨m, fun _ => 0, g⟩ (fun r => ∀ c : Dev Cert.KAdamIdeal.nD,
          r.2.mem ((c.tc : Thread Cert.KAdamIdeal.nD Cert.KAdamIdeal.τ).loc Cert.KAdamIdeal.main_v4_0) = v0 c
          ∧ r.2.mem ((c.tc : Thread Cert.KAdamIdeal.nD Cert.KAdamIdeal.τ).loc Cert.KAdamIdeal.main_v4_1) = v1 c
          ∧ r.2.mem ((c.tc : Thread Cert.KAdamIdeal.nD Cert.KAdamIdeal.τ).loc Cert.KAdamIdeal.main_v4_2) = v2 c
          ∧ r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
          ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
          ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
          ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ θ_run (Cert.RAdamIdeal.defs (F := Ideal)) (onTc (τ := Cert.RAdamIdeal.τ) (Cert.RAdamIdeal.main (F := Ideal))) ⟨m', fun _ => 0, g'⟩ (fun r => ∀ c : Dev Cert.RAdamIdeal.nD,
          r.2.mem ((c.tc : Thread Cert.RAdamIdeal.nD Cert.RAdamIdeal.τ).loc Cert.RAdamIdeal.main_v24) = v0 c
          ∧ r.2.mem ((c.tc : Thread Cert.RAdamIdeal.nD Cert.RAdamIdeal.τ).loc Cert.RAdamIdeal.main_v25) = v1 c
          ∧ r.2.mem ((c.tc : Thread Cert.RAdamIdeal.nD Cert.RAdamIdeal.τ).loc Cert.RAdamIdeal.main_v26) = v2 c
          ∧ r.2.mem ((c.tc : Thread Cert.RAdamIdeal.nD Cert.RAdamIdeal.τ).loc Cert.RAdamIdeal.main_arg0) = m' ((c.tc : Thread Cert.RAdamIdeal.nD Cert.RAdamIdeal.τ).loc Cert.RAdamIdeal.main_arg0)
          ∧ r.2.mem ((c.tc : Thread Cert.RAdamIdeal.nD Cert.RAdamIdeal.τ).loc Cert.RAdamIdeal.main_arg1) = m' ((c.tc : Thread Cert.RAdamIdeal.nD Cert.RAdamIdeal.τ).loc Cert.RAdamIdeal.main_arg1)
          ∧ r.2.mem ((c.tc : Thread Cert.RAdamIdeal.nD Cert.RAdamIdeal.τ).loc Cert.RAdamIdeal.main_arg2) = m' ((c.tc : Thread Cert.RAdamIdeal.nD Cert.RAdamIdeal.τ).loc Cert.RAdamIdeal.main_arg2)
          ∧ r.2.mem ((c.tc : Thread Cert.RAdamIdeal.nD Cert.RAdamIdeal.τ).loc Cert.RAdamIdeal.main_arg3) = m' ((c.tc : Thread Cert.RAdamIdeal.nD Cert.RAdamIdeal.τ).loc Cert.RAdamIdeal.main_arg3))

def preserves_KPrep_KPrepIdeal : Prop :=
  True

def algebraic_KPrepIdeal_RPrepIdeal_pre_prep_grad_finite [hKPrepIdeal : Cert.KPrepIdeal.Facts] [hRPrepIdeal : Cert.RPrepIdeal.Facts] [hPre_prep_grad_finite : Cert.Pre_prep_grad_finite.Facts] : Prop :=
  ∀ (m : (ℓ : Loc Cert.KPrepIdeal.nD Cert.KPrepIdeal.τ Cert.KPrepIdeal.sig) → Buf (Elt Ideal) ℓ) (g : Dev Cert.KPrepIdeal.nD → PrngReg)
    (m' : (ℓ : Loc Cert.RPrepIdeal.nD Cert.RPrepIdeal.τ Cert.RPrepIdeal.sig) → Buf (Elt Ideal) ℓ) (g' : Dev Cert.RPrepIdeal.nD → PrngReg), Pre_KPrepIdeal_prep_grad_finite m →
    (∀ c : Dev Cert.KPrepIdeal.nD,
      m' ((c.tc : Thread Cert.RPrepIdeal.nD Cert.RPrepIdeal.τ).loc Cert.RPrepIdeal.main_arg0) = m ((c.tc : Thread Cert.KPrepIdeal.nD Cert.KPrepIdeal.τ).loc Cert.KPrepIdeal.main_arg0)
      ∧ m' ((c.tc : Thread Cert.RPrepIdeal.nD Cert.RPrepIdeal.τ).loc Cert.RPrepIdeal.main_arg1) = m ((c.tc : Thread Cert.KPrepIdeal.nD Cert.KPrepIdeal.τ).loc Cert.KPrepIdeal.main_arg1)
      ∧ m' ((c.tc : Thread Cert.RPrepIdeal.nD Cert.RPrepIdeal.τ).loc Cert.RPrepIdeal.main_arg2) = m ((c.tc : Thread Cert.KPrepIdeal.nD Cert.KPrepIdeal.τ).loc Cert.KPrepIdeal.main_arg2)
      ∧ m' ((c.tc : Thread Cert.RPrepIdeal.nD Cert.RPrepIdeal.τ).loc Cert.RPrepIdeal.main_arg3) = m ((c.tc : Thread Cert.KPrepIdeal.nD Cert.KPrepIdeal.τ).loc Cert.KPrepIdeal.main_arg3)
      ∧ m' ((c.tc : Thread Cert.RPrepIdeal.nD Cert.RPrepIdeal.τ).loc Cert.RPrepIdeal.main_arg4) = m ((c.tc : Thread Cert.KPrepIdeal.nD Cert.KPrepIdeal.τ).loc Cert.KPrepIdeal.main_arg4)
      ∧ m' ((c.tc : Thread Cert.RPrepIdeal.nD Cert.RPrepIdeal.τ).loc Cert.RPrepIdeal.main_arg5) = m ((c.tc : Thread Cert.KPrepIdeal.nD Cert.KPrepIdeal.τ).loc Cert.KPrepIdeal.main_arg5)
      ∧ m' ((c.tc : Thread Cert.RPrepIdeal.nD Cert.RPrepIdeal.τ).loc Cert.RPrepIdeal.main_arg6) = m ((c.tc : Thread Cert.KPrepIdeal.nD Cert.KPrepIdeal.τ).loc Cert.KPrepIdeal.main_arg6)
      ∧ m' ((c.tc : Thread Cert.RPrepIdeal.nD Cert.RPrepIdeal.τ).loc Cert.RPrepIdeal.main_arg7) = m ((c.tc : Thread Cert.KPrepIdeal.nD Cert.KPrepIdeal.τ).loc Cert.KPrepIdeal.main_arg7)
      ∧ m' ((c.tc : Thread Cert.RPrepIdeal.nD Cert.RPrepIdeal.τ).loc Cert.RPrepIdeal.main_arg8) = m ((c.tc : Thread Cert.KPrepIdeal.nD Cert.KPrepIdeal.τ).loc Cert.KPrepIdeal.main_arg8)
      ∧ m' ((c.tc : Thread Cert.RPrepIdeal.nD Cert.RPrepIdeal.τ).loc Cert.RPrepIdeal.main_arg9) = m ((c.tc : Thread Cert.KPrepIdeal.nD Cert.KPrepIdeal.τ).loc Cert.KPrepIdeal.main_arg9)) →
    ∃ (v0 : (c : Dev Cert.KPrepIdeal.nD) → Buf (Elt Ideal) ((c.tc : Thread Cert.KPrepIdeal.nD Cert.KPrepIdeal.τ).loc Cert.KPrepIdeal.main_v32_1)) (v1 : (c : Dev Cert.KPrepIdeal.nD) → Buf (Elt Ideal) ((c.tc : Thread Cert.KPrepIdeal.nD Cert.KPrepIdeal.τ).loc Cert.KPrepIdeal.main_v32_2)) (v2 : (c : Dev Cert.KPrepIdeal.nD) → Buf (Elt Ideal) ((c.tc : Thread Cert.KPrepIdeal.nD Cert.KPrepIdeal.τ).loc Cert.KPrepIdeal.main_v32_3)) (v3 : (c : Dev Cert.KPrepIdeal.nD) → Buf (Elt Ideal) ((c.tc : Thread Cert.KPrepIdeal.nD Cert.KPrepIdeal.τ).loc Cert.KPrepIdeal.main_v32_4)) (v4 : (c : Dev Cert.KPrepIdeal.nD) → Buf (Elt Ideal) ((c.tc : Thread Cert.KPrepIdeal.nD Cert.KPrepIdeal.τ).loc Cert.KPrepIdeal.main_v32_5)),
      θ_run (Cert.KPrepIdeal.defs (F := Ideal)) (onTc (τ := Cert.KPrepIdeal.τ) (Cert.KPrepIdeal.main (F := Ideal))) ⟨m, fun _ => 0, g⟩ (fun r => ∀ c : Dev Cert.KPrepIdeal.nD,
          r.2.mem ((c.tc : Thread Cert.KPrepIdeal.nD Cert.KPrepIdeal.τ).loc Cert.KPrepIdeal.main_v32_1) = v0 c
          ∧ r.2.mem ((c.tc : Thread Cert.KPrepIdeal.nD Cert.KPrepIdeal.τ).loc Cert.KPrepIdeal.main_v32_2) = v1 c
          ∧ r.2.mem ((c.tc : Thread Cert.KPrepIdeal.nD Cert.KPrepIdeal.τ).loc Cert.KPrepIdeal.main_v32_3) = v2 c
          ∧ r.2.mem ((c.tc : Thread Cert.KPrepIdeal.nD Cert.KPrepIdeal.τ).loc Cert.KPrepIdeal.main_v32_4) = v3 c
          ∧ r.2.mem ((c.tc : Thread Cert.KPrepIdeal.nD Cert.KPrepIdeal.τ).loc Cert.KPrepIdeal.main_v32_5) = v4 c
          ∧ r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
          ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
          ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
          ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3)
          ∧ r.2.mem ((c.tc : Thread Cert.KPrepIdeal.nD Cert.KPrepIdeal.τ).loc Cert.KPrepIdeal.main_arg4) = m ((c.tc : Thread Cert.KPrepIdeal.nD Cert.KPrepIdeal.τ).loc Cert.KPrepIdeal.main_arg4)
          ∧ r.2.mem ((c.tc : Thread Cert.KPrepIdeal.nD Cert.KPrepIdeal.τ).loc Cert.KPrepIdeal.main_arg5) = m ((c.tc : Thread Cert.KPrepIdeal.nD Cert.KPrepIdeal.τ).loc Cert.KPrepIdeal.main_arg5)
          ∧ r.2.mem ((c.tc : Thread Cert.KPrepIdeal.nD Cert.KPrepIdeal.τ).loc Cert.KPrepIdeal.main_arg6) = m ((c.tc : Thread Cert.KPrepIdeal.nD Cert.KPrepIdeal.τ).loc Cert.KPrepIdeal.main_arg6)
          ∧ r.2.mem ((c.tc : Thread Cert.KPrepIdeal.nD Cert.KPrepIdeal.τ).loc Cert.KPrepIdeal.main_arg7) = m ((c.tc : Thread Cert.KPrepIdeal.nD Cert.KPrepIdeal.τ).loc Cert.KPrepIdeal.main_arg7)
          ∧ r.2.mem ((c.tc : Thread Cert.KPrepIdeal.nD Cert.KPrepIdeal.τ).loc Cert.KPrepIdeal.main_arg8) = m ((c.tc : Thread Cert.KPrepIdeal.nD Cert.KPrepIdeal.τ).loc Cert.KPrepIdeal.main_arg8)
          ∧ r.2.mem ((c.tc : Thread Cert.KPrepIdeal.nD Cert.KPrepIdeal.τ).loc Cert.KPrepIdeal.main_arg9) = m ((c.tc : Thread Cert.KPrepIdeal.nD Cert.KPrepIdeal.τ).loc Cert.KPrepIdeal.main_arg9))
      ∧ θ_run (Cert.RPrepIdeal.defs (F := Ideal)) (onTc (τ := Cert.RPrepIdeal.τ) (Cert.RPrepIdeal.main (F := Ideal))) ⟨m', fun _ => 0, g'⟩ (fun r => ∀ c : Dev Cert.RPrepIdeal.nD,
          r.2.mem ((c.tc : Thread Cert.RPrepIdeal.nD Cert.RPrepIdeal.τ).loc Cert.RPrepIdeal.main_v213) = v0 c
          ∧ r.2.mem ((c.tc : Thread Cert.RPrepIdeal.nD Cert.RPrepIdeal.τ).loc Cert.RPrepIdeal.main_v219) = v1 c
          ∧ r.2.mem ((c.tc : Thread Cert.RPrepIdeal.nD Cert.RPrepIdeal.τ).loc Cert.RPrepIdeal.main_v222) = v2 c
          ∧ r.2.mem ((c.tc : Thread Cert.RPrepIdeal.nD Cert.RPrepIdeal.τ).loc Cert.RPrepIdeal.main_v117) = v3 c
          ∧ r.2.mem ((c.tc : Thread Cert.RPrepIdeal.nD Cert.RPrepIdeal.τ).loc Cert.RPrepIdeal.main_v225) = v4 c
          ∧ r.2.mem ((c.tc : Thread Cert.RPrepIdeal.nD Cert.RPrepIdeal.τ).loc Cert.RPrepIdeal.main_arg0) = m' ((c.tc : Thread Cert.RPrepIdeal.nD Cert.RPrepIdeal.τ).loc Cert.RPrepIdeal.main_arg0)
          ∧ r.2.mem ((c.tc : Thread Cert.RPrepIdeal.nD Cert.RPrepIdeal.τ).loc Cert.RPrepIdeal.main_arg1) = m' ((c.tc : Thread Cert.RPrepIdeal.nD Cert.RPrepIdeal.τ).loc Cert.RPrepIdeal.main_arg1)
          ∧ r.2.mem ((c.tc : Thread Cert.RPrepIdeal.nD Cert.RPrepIdeal.τ).loc Cert.RPrepIdeal.main_arg2) = m' ((c.tc : Thread Cert.RPrepIdeal.nD Cert.RPrepIdeal.τ).loc Cert.RPrepIdeal.main_arg2)
          ∧ r.2.mem ((c.tc : Thread Cert.RPrepIdeal.nD Cert.RPrepIdeal.τ).loc Cert.RPrepIdeal.main_arg3) = m' ((c.tc : Thread Cert.RPrepIdeal.nD Cert.RPrepIdeal.τ).loc Cert.RPrepIdeal.main_arg3)
          ∧ r.2.mem ((c.tc : Thread Cert.RPrepIdeal.nD Cert.RPrepIdeal.τ).loc Cert.RPrepIdeal.main_arg4) = m' ((c.tc : Thread Cert.RPrepIdeal.nD Cert.RPrepIdeal.τ).loc Cert.RPrepIdeal.main_arg4)
          ∧ r.2.mem ((c.tc : Thread Cert.RPrepIdeal.nD Cert.RPrepIdeal.τ).loc Cert.RPrepIdeal.main_arg5) = m' ((c.tc : Thread Cert.RPrepIdeal.nD Cert.RPrepIdeal.τ).loc Cert.RPrepIdeal.main_arg5)
          ∧ r.2.mem ((c.tc : Thread Cert.RPrepIdeal.nD Cert.RPrepIdeal.τ).loc Cert.RPrepIdeal.main_arg6) = m' ((c.tc : Thread Cert.RPrepIdeal.nD Cert.RPrepIdeal.τ).loc Cert.RPrepIdeal.main_arg6)
          ∧ r.2.mem ((c.tc : Thread Cert.RPrepIdeal.nD Cert.RPrepIdeal.τ).loc Cert.RPrepIdeal.main_arg7) = m' ((c.tc : Thread Cert.RPrepIdeal.nD Cert.RPrepIdeal.τ).loc Cert.RPrepIdeal.main_arg7)
          ∧ r.2.mem ((c.tc : Thread Cert.RPrepIdeal.nD Cert.RPrepIdeal.τ).loc Cert.RPrepIdeal.main_arg8) = m' ((c.tc : Thread Cert.RPrepIdeal.nD Cert.RPrepIdeal.τ).loc Cert.RPrepIdeal.main_arg8)
          ∧ r.2.mem ((c.tc : Thread Cert.RPrepIdeal.nD Cert.RPrepIdeal.τ).loc Cert.RPrepIdeal.main_arg9) = m' ((c.tc : Thread Cert.RPrepIdeal.nD Cert.RPrepIdeal.τ).loc Cert.RPrepIdeal.main_arg9))

def Claim : Prop :=
  ∃ (hKAttn : Cert.KAttn.Facts) (hKAttnIdeal : Cert.KAttnIdeal.Facts) (hRAttnIdeal : Cert.RAttnIdeal.Facts) (hKLoss : Cert.KLoss.Facts) (hKLossIdeal : Cert.KLossIdeal.Facts) (hRLossIdeal : Cert.RLossIdeal.Facts) (hKFfn : Cert.KFfn.Facts) (hKFfnIdeal : Cert.KFfnIdeal.Facts) (hRFfnIdeal : Cert.RFfnIdeal.Facts) (hKRms : Cert.KRms.Facts) (hKRmsIdeal : Cert.KRmsIdeal.Facts) (hRRmsIdeal : Cert.RRmsIdeal.Facts) (hKAfwd : Cert.KAfwd.Facts) (hKAfwdIdeal : Cert.KAfwdIdeal.Facts) (hRAfwdIdeal : Cert.RAfwdIdeal.Facts) (hKRfwd : Cert.KRfwd.Facts) (hKRfwdIdeal : Cert.KRfwdIdeal.Facts) (hRRfwdIdeal : Cert.RRfwdIdeal.Facts) (hKFfwd : Cert.KFfwd.Facts) (hKFfwdIdeal : Cert.KFfwdIdeal.Facts) (hRFfwdIdeal : Cert.RFfwdIdeal.Facts) (hKPfwd : Cert.KPfwd.Facts) (hKPfwdIdeal : Cert.KPfwdIdeal.Facts) (hRPfwdIdeal : Cert.RPfwdIdeal.Facts) (hKNfwd : Cert.KNfwd.Facts) (hKNfwdIdeal : Cert.KNfwdIdeal.Facts) (hRNfwdIdeal : Cert.RNfwdIdeal.Facts) (hKMmnn : Cert.KMmnn.Facts) (hKMmnnIdeal : Cert.KMmnnIdeal.Facts) (hRMmnnIdeal : Cert.RMmnnIdeal.Facts) (hKMmnt : Cert.KMmnt.Facts) (hKMmntIdeal : Cert.KMmntIdeal.Facts) (hRMmntIdeal : Cert.RMmntIdeal.Facts) (hKMmtn : Cert.KMmtn.Facts) (hKMmtnIdeal : Cert.KMmtnIdeal.Facts) (hRMmtnIdeal : Cert.RMmtnIdeal.Facts) (hKAdam : Cert.KAdam.Facts) (hKAdamIdeal : Cert.KAdamIdeal.Facts) (hRAdamIdeal : Cert.RAdamIdeal.Facts) (hKPrep : Cert.KPrep.Facts) (hKPrepIdeal : Cert.KPrepIdeal.Facts) (hRPrepIdeal : Cert.RPrepIdeal.Facts) (hPre_attn_finite : Cert.Pre_attn_finite.Facts) (hPre_ffn_finite : Cert.Pre_ffn_finite.Facts) (hPre_afwd_finite : Cert.Pre_afwd_finite.Facts) (hPre_prep_finite : Cert.Pre_prep_finite.Facts) (hPre_prep_grad_finite : Cert.Pre_prep_grad_finite.Facts),
    quiescent_KAttn (hKAttn := hKAttn)
    ∧ quiescent_KAttnIdeal (hKAttnIdeal := hKAttnIdeal)
    ∧ quiescent_KAttnIdeal_pre_attn_finite (hKAttnIdeal := hKAttnIdeal) (hPre_attn_finite := hPre_attn_finite)
    ∧ quiescent_RAttnIdeal (hRAttnIdeal := hRAttnIdeal)
    ∧ quiescent_RAttnIdeal_pre_attn_finite (hRAttnIdeal := hRAttnIdeal) (hPre_attn_finite := hPre_attn_finite)
    ∧ quiescent_KLoss (hKLoss := hKLoss)
    ∧ quiescent_KLossIdeal (hKLossIdeal := hKLossIdeal)
    ∧ quiescent_RLossIdeal (hRLossIdeal := hRLossIdeal)
    ∧ quiescent_KFfn (hKFfn := hKFfn)
    ∧ quiescent_KFfnIdeal (hKFfnIdeal := hKFfnIdeal)
    ∧ quiescent_KFfnIdeal_pre_ffn_finite (hKFfnIdeal := hKFfnIdeal) (hPre_ffn_finite := hPre_ffn_finite)
    ∧ quiescent_RFfnIdeal (hRFfnIdeal := hRFfnIdeal)
    ∧ quiescent_RFfnIdeal_pre_ffn_finite (hRFfnIdeal := hRFfnIdeal) (hPre_ffn_finite := hPre_ffn_finite)
    ∧ quiescent_KRms (hKRms := hKRms)
    ∧ quiescent_KRmsIdeal (hKRmsIdeal := hKRmsIdeal)
    ∧ quiescent_RRmsIdeal (hRRmsIdeal := hRRmsIdeal)
    ∧ quiescent_KAfwd (hKAfwd := hKAfwd)
    ∧ quiescent_KAfwdIdeal (hKAfwdIdeal := hKAfwdIdeal)
    ∧ quiescent_KAfwdIdeal_pre_afwd_finite (hKAfwdIdeal := hKAfwdIdeal) (hPre_afwd_finite := hPre_afwd_finite)
    ∧ quiescent_RAfwdIdeal (hRAfwdIdeal := hRAfwdIdeal)
    ∧ quiescent_RAfwdIdeal_pre_afwd_finite (hRAfwdIdeal := hRAfwdIdeal) (hPre_afwd_finite := hPre_afwd_finite)
    ∧ quiescent_KRfwd (hKRfwd := hKRfwd)
    ∧ quiescent_KRfwdIdeal (hKRfwdIdeal := hKRfwdIdeal)
    ∧ quiescent_RRfwdIdeal (hRRfwdIdeal := hRRfwdIdeal)
    ∧ quiescent_KFfwd (hKFfwd := hKFfwd)
    ∧ quiescent_KFfwdIdeal (hKFfwdIdeal := hKFfwdIdeal)
    ∧ quiescent_RFfwdIdeal (hRFfwdIdeal := hRFfwdIdeal)
    ∧ quiescent_KPfwd (hKPfwd := hKPfwd)
    ∧ quiescent_KPfwdIdeal (hKPfwdIdeal := hKPfwdIdeal)
    ∧ quiescent_KPfwdIdeal_pre_prep_finite (hKPfwdIdeal := hKPfwdIdeal) (hPre_prep_finite := hPre_prep_finite)
    ∧ quiescent_RPfwdIdeal (hRPfwdIdeal := hRPfwdIdeal)
    ∧ quiescent_RPfwdIdeal_pre_prep_finite (hRPfwdIdeal := hRPfwdIdeal) (hPre_prep_finite := hPre_prep_finite)
    ∧ quiescent_KNfwd (hKNfwd := hKNfwd)
    ∧ quiescent_KNfwdIdeal (hKNfwdIdeal := hKNfwdIdeal)
    ∧ quiescent_RNfwdIdeal (hRNfwdIdeal := hRNfwdIdeal)
    ∧ quiescent_KMmnn (hKMmnn := hKMmnn)
    ∧ quiescent_KMmnnIdeal (hKMmnnIdeal := hKMmnnIdeal)
    ∧ quiescent_RMmnnIdeal (hRMmnnIdeal := hRMmnnIdeal)
    ∧ quiescent_KMmnt (hKMmnt := hKMmnt)
    ∧ quiescent_KMmntIdeal (hKMmntIdeal := hKMmntIdeal)
    ∧ quiescent_RMmntIdeal (hRMmntIdeal := hRMmntIdeal)
    ∧ quiescent_KMmtn (hKMmtn := hKMmtn)
    ∧ quiescent_KMmtnIdeal (hKMmtnIdeal := hKMmtnIdeal)
    ∧ quiescent_RMmtnIdeal (hRMmtnIdeal := hRMmtnIdeal)
    ∧ quiescent_KAdam (hKAdam := hKAdam)
    ∧ quiescent_KAdamIdeal (hKAdamIdeal := hKAdamIdeal)
    ∧ quiescent_RAdamIdeal (hRAdamIdeal := hRAdamIdeal)
    ∧ quiescent_KPrep (hKPrep := hKPrep)
    ∧ quiescent_KPrepIdeal (hKPrepIdeal := hKPrepIdeal)
    ∧ quiescent_KPrepIdeal_pre_prep_grad_finite (hKPrepIdeal := hKPrepIdeal) (hPre_prep_grad_finite := hPre_prep_grad_finite)
    ∧ quiescent_RPrepIdeal (hRPrepIdeal := hRPrepIdeal)
    ∧ quiescent_RPrepIdeal_pre_prep_grad_finite (hRPrepIdeal := hRPrepIdeal) (hPre_prep_grad_finite := hPre_prep_grad_finite)
    ∧ preserves_KAttn_KAttnIdeal
    ∧ algebraic_KAttnIdeal_RAttnIdeal_pre_attn_finite (hKAttnIdeal := hKAttnIdeal) (hRAttnIdeal := hRAttnIdeal) (hPre_attn_finite := hPre_attn_finite)
    ∧ preserves_KLoss_KLossIdeal
    ∧ algebraic_KLossIdeal_RLossIdeal (hKLossIdeal := hKLossIdeal) (hRLossIdeal := hRLossIdeal)
    ∧ preserves_KFfn_KFfnIdeal
    ∧ algebraic_KFfnIdeal_RFfnIdeal_pre_ffn_finite (hKFfnIdeal := hKFfnIdeal) (hRFfnIdeal := hRFfnIdeal) (hPre_ffn_finite := hPre_ffn_finite)
    ∧ preserves_KRms_KRmsIdeal
    ∧ algebraic_KRmsIdeal_RRmsIdeal (hKRmsIdeal := hKRmsIdeal) (hRRmsIdeal := hRRmsIdeal)
    ∧ preserves_KAfwd_KAfwdIdeal
    ∧ algebraic_KAfwdIdeal_RAfwdIdeal_pre_afwd_finite (hKAfwdIdeal := hKAfwdIdeal) (hRAfwdIdeal := hRAfwdIdeal) (hPre_afwd_finite := hPre_afwd_finite)
    ∧ preserves_KRfwd_KRfwdIdeal
    ∧ algebraic_KRfwdIdeal_RRfwdIdeal (hKRfwdIdeal := hKRfwdIdeal) (hRRfwdIdeal := hRRfwdIdeal)
    ∧ preserves_KFfwd_KFfwdIdeal
    ∧ algebraic_KFfwdIdeal_RFfwdIdeal (hKFfwdIdeal := hKFfwdIdeal) (hRFfwdIdeal := hRFfwdIdeal)
    ∧ preserves_KPfwd_KPfwdIdeal
    ∧ algebraic_KPfwdIdeal_RPfwdIdeal_pre_prep_finite (hKPfwdIdeal := hKPfwdIdeal) (hRPfwdIdeal := hRPfwdIdeal) (hPre_prep_finite := hPre_prep_finite)
    ∧ preserves_KNfwd_KNfwdIdeal
    ∧ algebraic_KNfwdIdeal_RNfwdIdeal (hKNfwdIdeal := hKNfwdIdeal) (hRNfwdIdeal := hRNfwdIdeal)
    ∧ preserves_KMmnn_KMmnnIdeal
    ∧ algebraic_KMmnnIdeal_RMmnnIdeal (hKMmnnIdeal := hKMmnnIdeal) (hRMmnnIdeal := hRMmnnIdeal)
    ∧ preserves_KMmnt_KMmntIdeal
    ∧ algebraic_KMmntIdeal_RMmntIdeal (hKMmntIdeal := hKMmntIdeal) (hRMmntIdeal := hRMmntIdeal)
    ∧ preserves_KMmtn_KMmtnIdeal
    ∧ algebraic_KMmtnIdeal_RMmtnIdeal (hKMmtnIdeal := hKMmtnIdeal) (hRMmtnIdeal := hRMmtnIdeal)
    ∧ preserves_KAdam_KAdamIdeal
    ∧ algebraic_KAdamIdeal_RAdamIdeal (hKAdamIdeal := hKAdamIdeal) (hRAdamIdeal := hRAdamIdeal)
    ∧ preserves_KPrep_KPrepIdeal
    ∧ algebraic_KPrepIdeal_RPrepIdeal_pre_prep_grad_finite (hKPrepIdeal := hKPrepIdeal) (hRPrepIdeal := hRPrepIdeal) (hPre_prep_grad_finite := hPre_prep_grad_finite)
-- ==== Pre_afwd_finite.lean ====
abbrev S8192x512 : Shape := ⟨2, ![8192, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)

variable [Facts]

def fn {F : FTy → Type} [FloatOps F] (main_arg0 : FVec F S8192x512 .bf16) (main_arg1 : FVec F S8192x512 .bf16) (main_arg2 : FVec F S8192x512 .bf16) : IVec S8192x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : IVec S8192x512 1 := andi main_v3 main_v7
  let main_v9 : FVec F S8192x512 .f32 := (extf .f32 · bitsLt_bf16_f32) main_arg2
  let main_v10 : FVec F S8192x512 .f32 := Host.absf main_v9
  let main_cst_1 : FVec F S_ .f32 := constant S_ .f32 0x7F800000#32
  let main_v11 : FVec F S8192x512 .f32 := broadcastInDim S8192x512 ![] bcast_S_S8192x512 main_cst_1
  let main_v12 : IVec S8192x512 1 := cmpf .olt main_v10 main_v11
  let main_v13 : IVec S8192x512 1 := andi main_v8 main_v12
  main_v13
-- ==== Pre_attn_finite.lean ====
abbrev S8192x512 : Shape := ⟨2, ![8192, 512]⟩
abbrev S8192x1024 : Shape := ⟨2, ![8192, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  slices_S8192x1024_S8192x512_0_0 : S8192x1024.Slices ![0, 0] S8192x512

variable [Facts]

def fn {F : FTy → Type} [FloatOps F] (main_arg0 : FVec F S8192x512 .bf16) (main_arg1 : FVec F S8192x512 .bf16) (main_arg2 : FVec F S8192x512 .bf16) (main_arg3 : FVec F S8192x1024 .f32) : IVec S8192x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : IVec S8192x512 1 := andi main_v3 main_v7
  let main_v9 : FVec F S8192x512 .f32 := (extf .f32 · bitsLt_bf16_f32) main_arg2
  let main_v10 : FVec F S8192x512 .f32 := Host.absf main_v9
  let main_cst_1 : FVec F S_ .f32 := constant S_ .f32 0x7F800000#32
  let main_v11 : FVec F S8192x512 .f32 := broadcastInDim S8192x512 ![] bcast_S_S8192x512 main_cst_1
  let main_v12 : IVec S8192x512 1 := cmpf .olt main_v10 main_v11
  let main_v13 : IVec S8192x512 1 := andi main_v8 main_v12
  let main_v14 : FVec F S8192x512 .f32 := (extractStridedSlice S8192x512 ![0, 0] · slices_S8192x1024_S8192x512_0_0) main_arg3
  let main_v15 : FVec F S8192x512 .f32 := Host.absf main_v14
  let main_cst_2 : FVec F S_ .f32 := constant S_ .f32 0x7F800000#32
  let main_v16 : FVec F S8192x512 .f32 := broadcastInDim S8192x512 ![] bcast_S_S8192x512 main_cst_2
  let main_v17 : IVec S8192x512 1 := cmpf .olt main_v15 main_v16
  let main_v18 : IVec S8192x512 1 := andi main_v13 main_v17
  main_v18
-- ==== Pre_ffn_finite.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bitsLt_bf16_f32 : FTy.bits .bf16 < FTy.bits .f32
  bcast_S_S8192x2816 : S_.BroadcastsInDim S8192x2816 (![] : Fin 0 → Fin S8192x2816.rank)

variable [Facts]

def fn {F : FTy → Type} [FloatOps F] (main_arg0 : FVec F S8192x5632 .bf16) (main_arg1 : FVec F S3x2816 .f32) (main_arg2 : FVec F S2816 .f32) (main_arg3 : FVec F S8192x2816 .bf16) : IVec S8192x2816 1 :=
  let main_v0 : FVec F S8192x2816 .bf16 := (extractStridedSlice S8192x2816 ![0, 2816] · slices_S8192x5632_S8192x2816_0_2816) main_arg0
  let main_v1 : FVec F S8192x2816 .f32 := (extf .f32 · bitsLt_bf16_f32) main_v0
  let main_v2 : FVec F S8192x2816 .f32 := Host.absf main_v1
  let main_cst : FVec F S_ .f32 := constant S_ .f32 0x7F800000#32
  let main_v3 : FVec F S8192x2816 .f32 := broadcastInDim S8192x2816 ![] bcast_S_S8192x2816 main_cst
  let main_v4 : IVec S8192x2816 1 := cmpf .olt main_v2 main_v3
  let main_v5 : FVec F S8192x2816 .f32 := (extf .f32 · bitsLt_bf16_f32) main_arg3
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_v9 : IVec S8192x2816 1 := andi main_v4 main_v8
  main_v9
-- ==== Pre_prep_finite.lean ====
abbrev S8192x2560 : Shape := ⟨2, ![8192, 2560]⟩
abbrev S64 : Shape := ⟨1, ![64]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩

class Facts : Prop where
  slices_S8192x2560_S8192x512_0_0 : S8192x2560.Slices ![0, 0] S8192x512
  bcast_S_S8192x512 : S_.BroadcastsInDim S8192x512 (![] : Fin 0 → Fin S8192x512.rank)
  slices_S8192x2560_S8192x512_0_512 : S8192x2560.Slices ![0, 512] S8192x512
  slices_S8192x2560_S8192x512_0_2048 : S8192x2560.Slices ![0, 2048] S8192x512

variable [Facts]

def fn {F : FTy → Type} [FloatOps F] (main_arg0 : FVec F S8192x2560 .f32) (main_arg1 : FVec F S64 .f32) (main_arg2 : FVec F S64 .f32) (main_arg3 : FVec F S512 .f32) (main_arg4 : FVec F S8x128x128 .f32) (main_arg5 : FVec F S8x128 .f32) : IVec S8192x512 1 :=
  let main_v0 : FVec F S8192x512 .f32 := (extractStridedSlice S8192x512 ![0, 0] · slices_S8192x2560_S8192x512_0_0) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extractStridedSlice S8192x512 ![0, 512] · slices_S8192x2560_S8192x512_0_512) main_arg0
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : IVec S8192x512 1 := andi main_v3 main_v7
  let main_v9 : FVec F S8192x512 .f32 := (extractStridedSlice S8192x512 ![0, 2048] · slices_S8192x2560_S8192x512_0_2048) main_arg0
  let main_v10 : FVec F S8192x512 .f32 := Host.absf main_v9
  let main_cst_1 : FVec F S_ .f32 := constant S_ .f32 0x7F800000#32
  let main_v11 : FVec F S8192x512 .f32 := broadcastInDim S8192x512 ![] bcast_S_S8192x512 main_cst_1
  let main_v12 : IVec S8192x512 1 := cmpf .olt main_v10 main_v11
  let main_v13 : IVec S8192x512 1 := andi main_v8 main_v12
  main_v13
-- ==== Pre_prep_grad_finite.lean ====
abbrev S8192x2560 : Shape := ⟨2, ![8192, 2560]⟩
abbrev S2x64 : Shape := ⟨2, ![2, 64]⟩
abbrev S2x512 : Shape := ⟨2, ![2, 512]⟩
abbrev S2x8x128x128 : Shape := ⟨4, ![2, 8, 128, 128]⟩
abbrev S2x8x128 : Shape := ⟨3, ![2, 8, 128]⟩
abbrev S8192x512 : Shape := ⟨2, ![8192, 512]⟩
abbrev S8192x1024 : Shape := ⟨2, ![8192, 1024]⟩
abbrev S_ : Shape := ⟨0, ![]⟩

class Facts : Prop where
  slices_S8192x2560_S8192x512_0_0 : S8192x2560.Slices ![0, 0] S8192x512
  bcast_S_S8192x512 : S_.BroadcastsInDim S8192x512 (![] : Fin 0 → Fin S8192x512.rank)
  slices_S8192x2560_S8192x512_0_512 : S8192x2560.Slices ![0, 512] S8192x512
  slices_S8192x2560_S8192x512_0_2048 : S8192x2560.Slices ![0, 2048] S8192x512

variable [Facts]

def fn {F : FTy → Type} [FloatOps F] (main_arg0 : FVec F S8192x2560 .f32) (main_arg1 : FVec F S2x64 .f32) (main_arg2 : FVec F S2x64 .f32) (main_arg3 : FVec F S2x512 .f32) (main_arg4 : FVec F S2x8x128x128 .f32) (main_arg5 : FVec F S2x8x128 .f32) (main_arg6 : FVec F S8192x512 .f32) (main_arg7 : FVec F S8192x512 .f32) (main_arg8 : FVec F S8192x512 .f32) (main_arg9 : FVec F S8192x1024 .f32) : IVec S8192x512 1 :=
  let main_v0 : FVec F S8192x512 .f32 := (extractStridedSlice S8192x512 ![0, 0] · slices_S8192x2560_S8192x512_0_0) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extractStridedSlice S8192x512 ![0, 512] · slices_S8192x2560_S8192x512_0_512) main_arg0
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : IVec S8192x512 1 := andi main_v3 main_v7
  let main_v9 : FVec F S8192x512 .f32 := (extractStridedSlice S8192x512 ![0, 2048] · slices_S8192x2560_S8192x512_0_2048) main_arg0
  let main_v10 : FVec F S8192x512 .f32 := Host.absf main_v9
  let main_cst_1 : FVec F S_ .f32 := constant S_ .f32 0x7F800000#32
  let main_v11 : FVec F S8192x512 .f32 := broadcastInDim S8192x512 ![] bcast_S_S8192x512 main_cst_1
  let main_v12 : IVec S8192x512 1 := cmpf .olt main_v10 main_v11
  let main_v13 : IVec S8192x512 1 := andi main_v8 main_v12
  main_v13
-- ==== KAttn.lean ====
abbrev S8192x512 : Shape := ⟨2, ![8192, 512]⟩
abbrev S8192x1024 : Shape := ⟨2, ![8192, 1024]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8191 : Shape := ⟨3, ![8, 8192, 8191]⟩
abbrev S8x8192x1 : Shape := ⟨3, ![8, 8192, 1]⟩
abbrev S8x64x8192 : Shape := ⟨3, ![8, 64, 8192]⟩
abbrev S8192x1536 : Shape := ⟨2, ![8192, 1536]⟩
abbrev S128x256 : Shape := ⟨2, ![128, 256]⟩
abbrev S8192x256 : Shape := ⟨2, ![8192, 256]⟩
abbrev S4x128x128 : Shape := ⟨3, ![4, 128, 128]⟩
abbrev S4x128x1 : Shape := ⟨3, ![4, 128, 1]⟩
abbrev S2 : Shape := ⟨1, ![2]⟩
abbrev S1 : Shape := ⟨1, ![1]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x128x1 : Shape := ⟨3, ![1, 128, 1]⟩
abbrev S1x1x1 : Shape := ⟨3, ![1, 1, 1]⟩
abbrev S1x128x128 : Shape := ⟨3, ![1, 128, 128]⟩

abbrev nBuf : Space → Nat
  | .hbm => 81
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x8x64, .f32⟩
  | .hbm, ⟨8, _⟩ => ⟨S8192x8x64, .f32⟩
  | .hbm, ⟨9, _⟩ => ⟨S8192x8x64, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S_, .f32⟩
  | .hbm, ⟨39, _⟩ => ⟨S8x8192x8192, .i1⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S_, .f32⟩
  | .hbm, ⟨44, _⟩ => ⟨S8x8192x8192, .f32⟩
  | .hbm, ⟨45, _⟩ => ⟨S8x8192x8191, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .i1⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S_, .f32⟩
  | .hbm, ⟨70, _⟩ => ⟨S8x8192x8192, .i1⟩
  | .hbm, ⟨71, _⟩ => ⟨S8x8192x8192, .f32⟩
  | .hbm, ⟨72, _⟩ => ⟨S8x8192x8192, .f32⟩
  | .hbm, ⟨73, _⟩ => ⟨S8x64x8192, .f32⟩
  | .hbm, ⟨74, _⟩ => ⟨S8192x8x64, .f32⟩
  | .hbm, ⟨75, _⟩ => ⟨S8192x512, .f32⟩
  | .hbm, ⟨76, _⟩ => ⟨S8192x1536, .bf16⟩
  | .hbm, ⟨77, _⟩ => ⟨S8192x1536, .bf16⟩
  | .hbm, ⟨78, _⟩ => ⟨S8192x512, .f32⟩
  | .hbm, ⟨79, _⟩ => ⟨S8192x512, .f32⟩
  | .hbm, ⟨80, _⟩ => ⟨S8192x512, .f32⟩
  | .local _ .vmem, ⟨0, _⟩ => ⟨S128x256, .bf16⟩
  | .local _ .vmem, ⟨1, _⟩ => ⟨S128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S8192x256, .bf16⟩
  | .local _ .vmem, ⟨9, _⟩ => ⟨S8192x256, .bf16⟩
  | .local _ .vmem, ⟨10, _⟩ => ⟨S8192x256, .f32⟩
  | .local _ .vmem, ⟨11, _⟩ => ⟨S8192x256, .f32⟩
  | .local _ .vmem, ⟨12, _⟩ => ⟨S4x128x128, .f32⟩
  | .local _ .vmem, ⟨13, _⟩ => ⟨S4x128x1, .f32⟩
  | .local _ .vmem, ⟨14, _⟩ => ⟨S4x128x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_2 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32_0 : Ref sig .tc := ⟨.hbm, 78, rfl⟩
abbrev main_v32_1 : Ref sig .tc := ⟨.hbm, 79, rfl⟩
abbrev main_v32_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let c512_i32 : BitVec 32 := 512#32
  let arg0 : BitVec 32 := BitVec.ofNat 32 (i 0).val
  let c256_i32 : BitVec 32 := 256#32
  let v125 : BitVec 32 := Scalar.muli arg0 c256_i32
  let v126 : BitVec 32 := Scalar.addi c512_i32 v125
  v126
def k0_mult2 (i : grid0.Coords) : BitVec 32 :=
  let c1024_i32 : BitVec 32 := 1024#32
  let arg0 : BitVec 32 := BitVec.ofNat 32 (i 0).val
  let c256_i32_55 : BitVec 32 := 256#32
  let v128 : BitVec 32 := Scalar.muli arg0 c256_i32_55
  let v129 : BitVec 32 := Scalar.addi c1024_i32 v128
  v129
def k0_off1 (i : grid0.Coords) (c512_i32 : BitVec 32) : Fin 2 → Nat :=
  let c0_i32_57 : BitVec 32 := 0#32
  let arg0 : BitVec 32 := BitVec.ofNat 32 (i 0).val
  let c256_i32 : BitVec 32 := 256#32
  let v125 : BitVec 32 := Scalar.muli arg0 c256_i32
  let v126 : BitVec 32 := Scalar.addi c512_i32 v125
  let v127 : BitVec 32 := v126
  ![0, v127.toNat]
def k0_mult3 (arg17 : BitVec 32) : BitVec 32 :=
  let c128_i32 : BitVec 32 := 128#32
  let v125 : BitVec 32 := Scalar.muli arg17 c128_i32
  v125

def k0_off2 (arg17 : BitVec 32) : Fin 2 → Nat :=
  let c128_i32 : BitVec 32 := 128#32
  let v125 : BitVec 32 := Scalar.muli arg17 c128_i32
  let v126 : BitVec 32 := v125
  let v139 : Index := Scalar.indexCast v126
  let c0_55 : Index := 0#32
  ![v139.toNat, 0]
def k0_off3 (arg17 : BitVec 32) : Fin 2 → Nat :=
  let c128_i32 : BitVec 32 := 128#32
  let v125 : BitVec 32 := Scalar.muli arg17 c128_i32
  let v126 : BitVec 32 := v125
  let v187 : Index := Scalar.indexCast v126
  let c128_75 : Index := 128#32
  ![v187.toNat, 128]

def k0_chk1 (arg17 : BitVec 32) : Prop :=
  (128 ∣ (k0_mult3 arg17).toNat) ∧
  (∀ a, (k0_off2 arg17) a + S128x128.size a ≤ S8192x256.size a) ∧
  (∀ a, (k0_off3 arg17) a + S128x128.size a ≤ S8192x256.size a)
theorem k0_mult3_dvd : ∀ (arg17 : BitVec 32) (k0_hw1 : k0_chk1 arg17), 128 ∣ (k0_mult3 arg17).toNat := fun arg17 k0_hw1 => k0_hw1.1
theorem k0_off2_inb : ∀ (arg17 : BitVec 32) (k0_hw1 : k0_chk1 arg17), ∀ a, (k0_off2 arg17) a + S128x128.size a ≤ S8192x256.size a := fun arg17 k0_hw1 => k0_hw1.2.1
theorem k0_off3_inb : ∀ (arg17 : BitVec 32) (k0_hw1 : k0_chk1 arg17), ∀ a, (k0_off3 arg17) a + S128x128.size a ≤ S8192x256.size a := fun arg17 k0_hw1 => k0_hw1.2.2

def k0_cond2 (i : grid0.Coords) : BitVec 1 :=
  let arg1 : BitVec 32 := BitVec.ofNat 32 (i 1).val
  let c63_i32 : BitVec 32 := 63#32
  let v122 : BitVec 1 := Scalar.cmpi .eq arg1 c63_i32
  let v123 : BitVec 32 := Scalar.extui v122
  let c0_i32_54 : BitVec 32 := 0#32
  let v124 : BitVec 1 := Scalar.cmpi .ne v123 c0_i32_54
  v124

def k0_mult4 (i : grid0.Coords) : BitVec 32 :=
  let arg0 : BitVec 32 := BitVec.ofNat 32 (i 0).val
  let c256_i32 : BitVec 32 := 256#32
  let v125 : BitVec 32 := Scalar.muli arg0 c256_i32
  v125
def k0_off4 (i : grid0.Coords) : Fin 2 → Nat :=
  let c0_i32_56 : BitVec 32 := 0#32
  let arg0 : BitVec 32 := BitVec.ofNat 32 (i 0).val
  let c256_i32 : BitVec 32 := 256#32
  let v125 : BitVec 32 := Scalar.muli arg0 c256_i32
  let v126 : BitVec 32 := v125
  ![0, v126.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RAttnIdeal.lean ====
abbrev S8192x512 : Shape := ⟨2, ![8192, 512]⟩
abbrev S8192x1024 : Shape := ⟨2, ![8192, 1024]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8191 : Shape := ⟨3, ![8, 8192, 8191]⟩
abbrev S8x8192x1 : Shape := ⟨3, ![8, 8192, 1]⟩
abbrev S8x64x8192 : Shape := ⟨3, ![8, 64, 8192]⟩
abbrev S8x8192x64 : Shape := ⟨3, ![8, 8192, 64]⟩

abbrev nBuf : Space → Nat
  | .hbm => 184
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x1024, .f32⟩
  | 4 => ⟨S8192x512, .f32⟩
  | 5 => ⟨S8192x512, .f32⟩
  | 6 => ⟨S8192x512, .f32⟩
  | 7 => ⟨S8192x8x64, .f32⟩
  | 8 => ⟨S8192x8x64, .f32⟩
  | 9 => ⟨S8192x8x64, .f32⟩
  | 10 => ⟨S8x8192x8192, .f32⟩
  | 11 => ⟨S_, .f32⟩
  | 12 => ⟨S8x8192x8192, .f32⟩
  | 13 => ⟨S8x8192x8192, .f32⟩
  | 14 => ⟨S8192, .i32⟩
  | 15 => ⟨S1x8192, .i32⟩
  | 16 => ⟨S8192x1, .i32⟩
  | 17 => ⟨S8192x8192, .i32⟩
  | 18 => ⟨S8192x8192, .i32⟩
  | 19 => ⟨S8192x8192, .i1⟩
  | 20 => ⟨S8x8192x8192, .f32⟩
  | 21 => ⟨S8x8192x8192, .f32⟩
  | 22 => ⟨S_, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .i1⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S_, .f32⟩
  | 37 => ⟨S8x8192x8192, .f32⟩
  | 38 => ⟨S8x8192x8192, .i1⟩
  | 39 => ⟨S_, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .i1⟩
  | 45 => ⟨S_, .f32⟩
  | 46 => ⟨S8x8192x8192, .f32⟩
  | 47 => ⟨S8x8192x8192, .f32⟩
  | 48 => ⟨S8x8192x8192, .f32⟩
  | 49 => ⟨S8x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x8192x8192, .f32⟩
  | 58 => ⟨S8x8192x8192, .i1⟩
  | 59 => ⟨S_, .f32⟩
  | 60 => ⟨S8x8192x8192, .f32⟩
  | 61 => ⟨S8x8192x8192, .f32⟩
  | 62 => ⟨S8x8192x8192, .f32⟩
  | 63 => ⟨S8x8192x8192, .f32⟩
  | 64 => ⟨S8x8192x8192, .f32⟩
  | 65 => ⟨S_, .f32⟩
  | 66 => ⟨S8x8192x8192, .f32⟩
  | 67 => ⟨S8x8192x8192, .f32⟩
  | 68 => ⟨S8x8192x8192, .f32⟩
  | 69 => ⟨S_, .f32⟩
  | 70 => ⟨S_, .f32⟩
  | 71 => ⟨S8x8192x8192, .i1⟩
  | 72 => ⟨S8x8192x8192, .f32⟩
  | 73 => ⟨S8x8192x8192, .f32⟩
  | 74 => ⟨S_, .f32⟩
  | 75 => ⟨S8x8192x8192, .f32⟩
  | 76 => ⟨S_, .f32⟩
  | 77 => ⟨S_, .f32⟩
  | 78 => ⟨S8x8192x8192, .f32⟩
  | 79 => ⟨S8x8192x8191, .f32⟩
  | 80 => ⟨S8x8192x1, .f32⟩
  | 81 => ⟨S_, .f32⟩
  | 82 => ⟨S8x8192x1, .f32⟩
  | 83 => ⟨S8x8192x8192, .f32⟩
  | 84 => ⟨S_, .f32⟩
  | 85 => ⟨S8x8192x1, .f32⟩
  | 86 => ⟨S8x8192x8192, .f32⟩
  | 87 => ⟨S_, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .i1⟩
  | 93 => ⟨S8x8192x8192, .f32⟩
  | 94 => ⟨S8x8192x8192, .f32⟩
  | 95 => ⟨S8x8192x8192, .f32⟩
  | 96 => ⟨S8x8192x8192, .f32⟩
  | 97 => ⟨S8x8192x8192, .f32⟩
  | 98 => ⟨S8x8192x8192, .f32⟩
  | 99 => ⟨S8x8192x8192, .f32⟩
  | 100 => ⟨S8x8192x8192, .f32⟩
  | 101 => ⟨S_, .f32⟩
  | 102 => ⟨S8x8192x8192, .f32⟩
  | 103 => ⟨S8x8192x8192, .i1⟩
  | 104 => ⟨S_, .f32⟩
  | 105 => ⟨S8x8192x8192, .f32⟩
  | 106 => ⟨S8x8192x8192, .f32⟩
  | 107 => ⟨S_, .f32⟩
  | 108 => ⟨S8x8192x8192, .f32⟩
  | 109 => ⟨S8x8192x8192, .i1⟩
  | 110 => ⟨S_, .f32⟩
  | 111 => ⟨S8x8192x8192, .f32⟩
  | 112 => ⟨S8x8192x8192, .f32⟩
  | 113 => ⟨S8x8192x8192, .f32⟩
  | 114 => ⟨S8x8192x8192, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S8x8192x8192, .f32⟩
  | 123 => ⟨S8x8192x8192, .i1⟩
  | 124 => ⟨S_, .f32⟩
  | 125 => ⟨S8x8192x8192, .f32⟩
  | 126 => ⟨S8x8192x8192, .f32⟩
  | 127 => ⟨S8x8192x8192, .f32⟩
  | _ => ⟨S8192x512, .bf16⟩

abbrev hbmTy0_1 (i : Nat) : BufTy := match i % 128 with
  | 0 => ⟨S8x8192x8192, .f32⟩
  | 1 => ⟨S8x8192x8192, .f32⟩
  | 2 => ⟨S_, .f32⟩
  | 3 => ⟨S8x8192x8192, .f32⟩
  | 4 => ⟨S8x8192x8192, .f32⟩
  | 5 => ⟨S8x8192x8192, .f32⟩
  | 6 => ⟨S8x8192x8192, .f32⟩
  | 7 => ⟨S8x8192x8192, .f32⟩
  | 8 => ⟨S_, .f32⟩
  | 9 => ⟨S_, .f32⟩
  | 10 => ⟨S8x8192x8192, .i1⟩
  | 11 => ⟨S8x8192x8192, .f32⟩
  | 12 => ⟨S8x8192x8192, .f32⟩
  | 13 => ⟨S_, .f32⟩
  | 14 => ⟨S8x8192x8192, .f32⟩
  | 15 => ⟨S8x64x8192, .f32⟩
  | 16 => ⟨S8192x8x64, .f32⟩
  | 17 => ⟨S8192x512, .f32⟩
  | 18 => ⟨S8192x512, .f32⟩
  | 19 => ⟨S8192x8x64, .f32⟩
  | 20 => ⟨S8x64x8192, .f32⟩
  | 21 => ⟨S8x8192x8192, .f32⟩
  | 22 => ⟨S8x64x8192, .f32⟩
  | 23 => ⟨S8192x8x64, .f32⟩
  | 24 => ⟨S_, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8191, .f32⟩
  | 32 => ⟨S8x8192x1, .f32⟩
  | 33 => ⟨S_, .f32⟩
  | 34 => ⟨S8x8192x8192, .f32⟩
  | 35 => ⟨S_, .f32⟩
  | 36 => ⟨S_, .f32⟩
  | 37 => ⟨S8x8192x8192, .f32⟩
  | 38 => ⟨S_, .f32⟩
  | 39 => ⟨S8x8192x8192, .f32⟩
  | 40 => ⟨S8x8192x8192, .f32⟩
  | 41 => ⟨S8x8192x8192, .f32⟩
  | 42 => ⟨S8x8192x8192, .f32⟩
  | 43 => ⟨S8x8192x8192, .f32⟩
  | 44 => ⟨S8x8192x8192, .f32⟩
  | 45 => ⟨S8x8192x8192, .f32⟩
  | 46 => ⟨S_, .f32⟩
  | 47 => ⟨S8x8192x8192, .f32⟩
  | 48 => ⟨S8x8192x8192, .f32⟩
  | 49 => ⟨S8x8192x64, .f32⟩
  | 50 => ⟨S8192x8x64, .f32⟩
  | 51 => ⟨S8x8192x64, .f32⟩
  | 52 => ⟨S8192x8x64, .f32⟩
  | 53 => ⟨S8192x512, .f32⟩
  | 54 => ⟨S8192x512, .f32⟩
  | 55 => ⟨S8192x512, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_cst_0 : Ref sig .tc := ⟨.hbm, 69, rfl⟩
abbrev main_call1_v0 : Ref sig .tc := ⟨.hbm, 70, rfl⟩
abbrev main_v17_1 : Ref sig .tc := ⟨.hbm, 71, rfl⟩
abbrev main_call1_v2 : Ref sig .tc := ⟨.hbm, 72, rfl⟩
abbrev main_v17_0 : Ref sig .tc := ⟨.hbm, 73, rfl⟩
abbrev main_call1_cst : Ref sig .tc := ⟨.hbm, 74, rfl⟩
abbrev main_v17_2 : Ref sig .tc := ⟨.hbm, 75, rfl⟩
abbrev main_call2_cst : Ref sig .tc := ⟨.hbm, 76, rfl⟩
abbrev main_call2_v0 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_cst_1 : Ref sig .tc := ⟨.hbm, 81, rfl⟩
abbrev main_v21 : Ref sig .tc := ⟨.hbm, 82, rfl⟩
abbrev main_v22 : Ref sig .tc := ⟨.hbm, 83, rfl⟩
abbrev main_cst_2 : Ref sig .tc := ⟨.hbm, 84, rfl⟩
abbrev main_v23 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1_0 : Ref sig .tc := ⟨.hbm, 100, rfl⟩
abbrev main_call3_call0_cst_0 : Ref sig .tc := ⟨.hbm, 101, rfl⟩
abbrev main_call3_call0_v13 : Ref sig .tc := ⟨.hbm, 102, rfl⟩
abbrev main_call3_call0_v14 : Ref sig .tc := ⟨.hbm, 103, rfl⟩
abbrev main_call3_call0_cst_1 : Ref sig .tc := ⟨.hbm, 104, rfl⟩
abbrev main_call3_call0_v15 : Ref sig .tc := ⟨.hbm, 105, rfl⟩
abbrev main_call3_call0_v16 : Ref sig .tc := ⟨.hbm, 106, rfl⟩
abbrev main_call3_call0_cst_2 : Ref sig .tc := ⟨.hbm, 107, rfl⟩
abbrev main_call3_call0_v17 : Ref sig .tc := ⟨.hbm, 108, rfl⟩
abbrev main_call3_call0_v18 : Ref sig .tc := ⟨.hbm, 109, rfl⟩
abbrev main_call3_call0_cst_3 : Ref sig .tc := ⟨.hbm, 110, rfl⟩
abbrev main_call3_call0_v19 : Ref sig .tc := ⟨.hbm, 111, rfl⟩
abbrev main_call3_call0_v20 : Ref sig .tc := ⟨.hbm, 112, rfl⟩
abbrev main_call3_call0_v21 : Ref sig .tc := ⟨.hbm, 113, rfl⟩
abbrev main_v24_1 : Ref sig .tc := ⟨.hbm, 114, rfl⟩
abbrev main_call3_call0_cst_4 : Ref sig .tc := ⟨.hbm, 115, rfl⟩
abbrev main_call3_call0_cst_5 : Ref sig .tc := ⟨.hbm, 116, rfl⟩
abbrev main_call3_call0_v23 : Ref sig .tc := ⟨.hbm, 117, rfl⟩
abbrev main_call3_call0_cst_6 : Ref sig .tc := ⟨.hbm, 118, rfl⟩
abbrev main_call3_call0_cst_7 : Ref sig .tc := ⟨.hbm, 119, rfl⟩
abbrev main_call3_call0_v24 : Ref sig .tc := ⟨.hbm, 120, rfl⟩
abbrev main_call3_call0_cst_8 : Ref sig .tc := ⟨.hbm, 121, rfl⟩
abbrev main_call3_call0_v25 : Ref sig .tc := ⟨.hbm, 122, rfl⟩
abbrev main_call3_call0_v26 : Ref sig .tc := ⟨.hbm, 123, rfl⟩
abbrev main_call3_call0_cst_9 : Ref sig .tc := ⟨.hbm, 124, rfl⟩
abbrev main_call3_call0_v27 : Ref sig .tc := ⟨.hbm, 125, rfl⟩
abbrev main_call3_call0_v28 : Ref sig .tc := ⟨.hbm, 126, rfl⟩
abbrev main_call3_call0_v29 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_cst_10 : Ref sig .tc := ⟨.hbm, 130, rfl⟩
abbrev main_call3_call0_v32 : Ref sig .tc := ⟨.hbm, 131, rfl⟩
abbrev main_v24_2 : Ref sig .tc := ⟨.hbm, 132, rfl⟩
abbrev main_v24_0 : Ref sig .tc := ⟨.hbm, 133, rfl⟩
abbrev main_v25 : Ref sig .tc := ⟨.hbm, 134, rfl⟩
abbrev main_v26 : Ref sig .tc := ⟨.hbm, 135, rfl⟩
abbrev main_cst_3 : Ref sig .tc := ⟨.hbm, 136, rfl⟩
abbrev main_call4_v0 : Ref sig .tc := ⟨.hbm, 137, rfl⟩
abbrev main_v27_1 : Ref sig .tc := ⟨.hbm, 138, rfl⟩
abbrev main_call4_v2 : Ref sig .tc := ⟨.hbm, 139, rfl⟩
abbrev main_v27_0 : Ref sig .tc := ⟨.hbm, 140, rfl⟩
abbrev main_call4_cst : Ref sig .tc := ⟨.hbm, 141, rfl⟩
abbrev main_v27_2 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_call5_cst : Ref sig .tc := ⟨.hbm, 152, rfl⟩
abbrev main_call5_v0 : Ref sig .tc := ⟨.hbm, 153, rfl⟩
abbrev main_v37 : Ref sig .tc := ⟨.hbm, 154, rfl⟩
abbrev main_v38 : Ref sig .tc := ⟨.hbm, 155, rfl⟩
abbrev main_call6_v0 : Ref sig .tc := ⟨.hbm, 156, rfl⟩
abbrev main_call6_v1 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_cst_4 : Ref sig .tc := ⟨.hbm, 161, rfl⟩
abbrev main_v42 : Ref sig .tc := ⟨.hbm, 162, rfl⟩
abbrev main_call7_cst : Ref sig .tc := ⟨.hbm, 163, rfl⟩
abbrev main_call7_v0 : Ref sig .tc := ⟨.hbm, 164, rfl⟩
abbrev main_v43 : Ref sig .tc := ⟨.hbm, 165, rfl⟩
abbrev main_call8_cst : Ref sig .tc := ⟨.hbm, 166, rfl⟩
abbrev main_call8_v0 : Ref sig .tc := ⟨.hbm, 167, rfl⟩
abbrev main_v44 : Ref sig .tc := ⟨.hbm, 168, rfl⟩
abbrev main_call9_v0 : Ref sig .tc := ⟨.hbm, 169, rfl⟩
abbrev main_call9_v1 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_cst_5 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩

abbrev nD : Nat := 1
abbrev τ : Topo := Topo.v7x

variable {F : FTy → Type} [FloatOps F]
-- ==== KLoss.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x128, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RLossIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== KFfn.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩
abbrev S8x2816 : Shape := ⟨2, ![8, 2816]⟩
abbrev S1x2816 : Shape := ⟨2, ![1, 2816]⟩
abbrev S256x2816 : Shape := ⟨2, ![256, 2816]⟩
abbrev S16x2816 : Shape := ⟨2, ![16, 2816]⟩
abbrev S256x5632 : Shape := ⟨2, ![256, 5632]⟩
abbrev S16x128 : Shape := ⟨2, ![16, 128]⟩
abbrev S256x128 : Shape := ⟨2, ![256, 128]⟩
abbrev S272x128 : Shape := ⟨2, ![272, 128]⟩
abbrev S288x128 : Shape := ⟨2, ![288, 128]⟩
abbrev S1x128 : Shape := ⟨2, ![1, 128]⟩
abbrev S128 : Shape := ⟨1, ![128]⟩

abbrev nBuf : Space → Nat
  | .hbm => 13
  | .vmem => 20
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S8192x2816, .bf16⟩
  | .hbm, ⟨4, _⟩ => ⟨S_, .i32⟩
  | .hbm, ⟨5, _⟩ => ⟨S_, .f32⟩
  | .hbm, ⟨6, _⟩ => ⟨S8x2816, .f32⟩
  | .hbm, ⟨7, _⟩ => ⟨S1x2816, .f32⟩
  | .hbm, ⟨8, _⟩ => ⟨S8192x5632, .bf16⟩
  | .hbm, ⟨9, _⟩ => ⟨S8x2816, .f32⟩
  | .hbm, ⟨10, _⟩ => ⟨S1x2816, .f32⟩
  | .hbm, ⟨11, _⟩ => ⟨S3x2816, .f32⟩
  | .hbm, ⟨12, _⟩ => ⟨S2816, .f32⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S16x2816, .bf16⟩
  | .local _ .vmem, ⟨5, _⟩ => ⟨S16x2816, .bf16⟩
  | .local _ .vmem, ⟨6, _⟩ => ⟨S256x2816, .bf16⟩
  | .local _ .vmem, ⟨7, _⟩ => ⟨S256x2816, .bf16⟩
  | .local _ .vmem, ⟨8, _⟩ => ⟨S16x2816, .bf16⟩
  | .local _ .vmem, ⟨9, _⟩ => ⟨S16x2816, .bf16⟩
  | .local _ .vmem, ⟨10, _⟩ => ⟨S256x2816, .bf16⟩
  | .local _ .vmem, ⟨11, _⟩ => ⟨S256x2816, .bf16⟩
  | .local _ .vmem, ⟨12, _⟩ => ⟨S16x2816, .bf16⟩
  | .local _ .vmem, ⟨13, _⟩ => ⟨S16x2816, .bf16⟩
  | .local _ .vmem, ⟨14, _⟩ => ⟨S8x2816, .f32⟩
  | .local _ .vmem, ⟨15, _⟩ => ⟨S1x2816, .f32⟩
  | .local _ .vmem, ⟨16, _⟩ => ⟨S256x5632, .bf16⟩
  | .local _ .vmem, ⟨17, _⟩ => ⟨S256x5632, .bf16⟩
  | .local _ .vmem, ⟨18, _⟩ => ⟨S8x2816, .f32⟩
  | .local _ .vmem, ⟨19, _⟩ => ⟨S1x2816, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c22_i32 : BitVec 32 := 22#32
  let v4 : BitVec 32 := Scalar.addi c0_i32_1 c22_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  v5
def k0_off1 (k0_t1 : Fin k0_t1_loop.trips) : Fin 2 → Nat :=
  let c0 : Index := 0#32
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  let v6 : BitVec 32 := v5
  let v8 : Index := Scalar.indexCast v6
  ![0, v8.toNat]
def k0_off2 (k0_t1 : Fin k0_t1_loop.trips) : Fin 2 → Nat :=
  let c0_4 : Index := 0#32
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  let v6 : BitVec 32 := v5
  let v13 : Index := Scalar.indexCast v6
  ![0, v13.toNat]
def k0_off3 (k0_t1 : Fin k0_t1_loop.trips) : Fin 2 → Nat :=
  let c0_7 : Index := 0#32
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  let v6 : BitVec 32 := v5
  let v23 : Index := Scalar.indexCast v6
  ![0, v23.toNat]
def k0_off4 (k0_t1 : Fin k0_t1_loop.trips) : Fin 2 → Nat :=
  let c1 : Index := 1#32
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  let v6 : BitVec 32 := v5
  let v26 : Index := Scalar.indexCast v6
  ![1, v26.toNat]
def k0_off5 (k0_t1 : Fin k0_t1_loop.trips) : Fin 2 → Nat :=
  let c2 : Index := 2#32
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  let v6 : BitVec 32 := v5
  let v29 : Index := Scalar.indexCast v6
  ![2, v29.toNat]
def k0_off6 (k0_t1 : Fin k0_t1_loop.trips) : Fin 2 → Nat :=
  let c0_8 : Index := 0#32
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  let v6 : BitVec 32 := v5
  let v32 : Index := Scalar.indexCast v6
  ![0, v32.toNat]
def k0_mult2 (k0_t1 : Fin k0_t1_loop.trips) : BitVec 32 :=
  let c2816_i32 : BitVec 32 := 2816#32
  let c0_i32_1 : BitVec 32 := 0#32
  let c1_i32 : BitVec 32 := 1#32
  let arg13 : BitVec 32 := Scf.iv c0_i32_1 c1_i32 k0_t1
  let c128_i32_11 : BitVec 32 := 128#32
  let v58 : BitVec 32 := Scalar.muli arg13 c128_i32_11
  let v59 : BitVec 32 := Scalar.addi c2816_i32 v58
  v59
def k0_off7 (k0_t1 : Fin k0_t1_loop.trips) : Fin 2 → Nat :=
  let c0_12 : Index := 0#32
  let c2816_i32 : BitVec 32 := 2816#32
  let c0_i32_1 : BitVec 32 := 0#32
  let c1_i32 : BitVec 32 := 1#32
  let arg13 : BitVec 32 := Scf.iv c0_i32_1 c1_i32 k0_t1
  let c128_i32_11 : BitVec 32 := 128#32
  let v58 : BitVec 32 := Scalar.muli arg13 c128_i32_11
  let v59 : BitVec 32 := Scalar.addi c2816_i32 v58
  let v60 : BitVec 32 := v59
  let v61 : Index := Scalar.indexCast v60
  ![0, v61.toNat]
def k0_off8 (k0_t1 : Fin k0_t1_loop.trips) : Fin 2 → Nat :=
  let c0_17 : Index := 0#32
  let c0_i32_1 : BitVec 32 := 0#32
  let c1_i32 : BitVec 32 := 1#32
  let arg13 : BitVec 32 := Scf.iv c0_i32_1 c1_i32 k0_t1
  let c128_i32 : BitVec 32 := 128#32
  let v5 : BitVec 32 := Scalar.muli arg13 c128_i32
  let v6 : BitVec 32 := v5
  let v93 : Index := Scalar.indexCast v6
  ![0, v93.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RFfnIdeal.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩

abbrev nBuf : Space → Nat
  | .hbm => 108
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S8192x2816, .bf16⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S2x2816, .f32⟩
  | .hbm, ⟨9, _⟩ => ⟨S8194x2816, .f32⟩
  | .hbm, ⟨10, _⟩ => ⟨S_, .f32⟩
  | .hbm, ⟨11, _⟩ => ⟨S2x2816, .f32⟩
  | .hbm, ⟨12, _⟩ => ⟨S8192x2816, .f32⟩
  | .hbm, ⟨13, _⟩ => ⟨S1x2816, .f32⟩
  | .hbm, ⟨14, _⟩ => ⟨S2816, .f32⟩
  | .hbm, ⟨15, _⟩ => ⟨S1x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S1x2816, .f32⟩
  | .hbm, ⟨20, _⟩ => ⟨S2816, .f32⟩
  | .hbm, ⟨21, _⟩ => ⟨S1x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S1x2816, .f32⟩
  | .hbm, ⟨27, _⟩ => ⟨S2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S1x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S2816, .f32⟩
  | .hbm, ⟨58, _⟩ => ⟨S1x2816, .f32⟩
  | .hbm, ⟨59, _⟩ => ⟨S_, .f32⟩
  | .hbm, ⟨60, _⟩ => ⟨S2816, .f32⟩
  | .hbm, ⟨61, _⟩ => ⟨S8192x2816, .f32⟩
  | .hbm, ⟨62, _⟩ => ⟨S_, .f32⟩
  | .hbm, ⟨63, _⟩ => ⟨S2816, .f32⟩
  | .hbm, ⟨64, _⟩ => ⟨S1x2816, .f32⟩
  | .hbm, ⟨65, _⟩ => ⟨S8192x2816, .f32⟩
  | .hbm, ⟨66, _⟩ => ⟨S8192x2816, .f32⟩
  | .hbm, ⟨67, _⟩ => ⟨S_, .f32⟩
  | .hbm, ⟨68, _⟩ => ⟨S2816, .f32⟩
  | .hbm, ⟨69, _⟩ => ⟨S1x2816, .f32⟩
  | .hbm, ⟨70, _⟩ => ⟨S_, .f32⟩
  | .hbm, ⟨71, _⟩ => ⟨S3x2816, .f32⟩
  | .hbm, ⟨72, _⟩ => ⟨S_, .f32⟩
  | .hbm, ⟨73, _⟩ => ⟨S8194x2816, .f32⟩
  | .hbm, ⟨74, _⟩ => ⟨S8192x2816, .f32⟩
  | .hbm, ⟨75, _⟩ => ⟨S_, .f32⟩
  | .hbm, ⟨76, _⟩ => ⟨S2816, .f32⟩
  | .hbm, ⟨77, _⟩ => ⟨S1x2816, .f32⟩
  | .hbm, ⟨78, _⟩ => ⟨S8192x2816, .f32⟩
  | .hbm, ⟨79, _⟩ => ⟨S8192x2816, .f32⟩
  | .hbm, ⟨80, _⟩ => ⟨S_, .f32⟩
  | .hbm, ⟨81, _⟩ => ⟨S2816, .f32⟩
  | .hbm, ⟨82, _⟩ => ⟨S1x2816, .f32⟩
  | .hbm, ⟨83, _⟩ => ⟨S_, .f32⟩
  | .hbm, ⟨84, _⟩ => ⟨S3x2816, .f32⟩
  | .hbm, ⟨85, _⟩ => ⟨S3x2816, .f32⟩
  | .hbm, ⟨86, _⟩ => ⟨S_, .f32⟩
  | .hbm, ⟨87, _⟩ => ⟨S8194x2816, .f32⟩
  | .hbm, ⟨88, _⟩ => ⟨S8194x2816, .f32⟩
  | .hbm, ⟨89, _⟩ => ⟨S8192x2816, .f32⟩
  | .hbm, ⟨90, _⟩ => ⟨S_, .f32⟩
  | .hbm, ⟨91, _⟩ => ⟨S2816, .f32⟩
  | .hbm, ⟨92, _⟩ => ⟨S1x2816, .f32⟩
  | .hbm, ⟨93, _⟩ => ⟨S8192x2816, .f32⟩
  | .hbm, ⟨94, _⟩ => ⟨S8192x2816, .f32⟩
  | .hbm, ⟨95, _⟩ => ⟨S_, .f32⟩
  | .hbm, ⟨96, _⟩ => ⟨S2816, .f32⟩
  | .hbm, ⟨97, _⟩ => ⟨S1x2816, .f32⟩
  | .hbm, ⟨98, _⟩ => ⟨S_, .f32⟩
  | .hbm, ⟨99, _⟩ => ⟨S3x2816, .f32⟩
  | .hbm, ⟨100, _⟩ => ⟨S3x2816, .f32⟩
  | .hbm, ⟨101, _⟩ => ⟨S_, .f32⟩
  | .hbm, ⟨102, _⟩ => ⟨S8194x2816, .f32⟩
  | .hbm, ⟨103, _⟩ => ⟨S8194x2816, .f32⟩
  | .hbm, ⟨104, _⟩ => ⟨S2x2816, .f32⟩
  | .hbm, ⟨105, _⟩ => ⟨S8192x2816, .f32⟩
  | .hbm, ⟨106, _⟩ => ⟨S8192x5632, .f32⟩
  | .hbm, ⟨107, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_cst_1 : Ref sig .tc := ⟨.hbm, 56, rfl⟩
abbrev main_v35 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== KRms.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S1x1024 : Shape := ⟨2, ![1, 1024]⟩
abbrev S256x5632 : Shape := ⟨2, ![256, 5632]⟩
abbrev S256x1024 : Shape := ⟨2, ![256, 1024]⟩
abbrev S256x1408 : Shape := ⟨2, ![256, 1408]⟩
abbrev S1x1x1024x1408 : Shape := ⟨4, ![1, 1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .bf16⟩
  | .hbm, ⟨4, _⟩ => ⟨S8192x1024, .f32⟩
  | .hbm, ⟨5, _⟩ => ⟨S1024x4x1408, .f32⟩
  | .hbm, ⟨6, _⟩ => ⟨S4x1024x1408, .f32⟩
  | .hbm, ⟨7, _⟩ => ⟨S1x4x1024x1408, .f32⟩
  | .hbm, ⟨8, _⟩ => ⟨S1x4x1024x1408, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1x4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RRmsIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x5632, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KAfwd.lean ====
abbrev S8192x512 : Shape := ⟨2, ![8192, 512]⟩
abbrev S8192x1536 : Shape := ⟨2, ![8192, 1536]⟩
abbrev S128x512 : Shape := ⟨2, ![128, 512]⟩
abbrev S8x128x128 : Shape := ⟨3, ![8, 128, 128]⟩
abbrev S8x128x1 : Shape := ⟨3, ![8, 128, 1]⟩
abbrev S2 : Shape := ⟨1, ![2]⟩
abbrev S1 : Shape := ⟨1, ![1]⟩
abbrev S_ : Shape := ⟨0, ![]⟩
abbrev S128x128 : Shape := ⟨2, ![128, 128]⟩
abbrev S1x128 : Shape := ⟨2, ![1, 128]⟩
abbrev S1x128x1 : Shape := ⟨3, ![1, 128, 1]⟩
abbrev S128x1 : Shape := ⟨2, ![128, 1]⟩
abbrev S1x128x128 : Shape := ⟨3, ![1, 128, 128]⟩
abbrev S128 : Shape := ⟨1, ![128]⟩
abbrev S1x1x1 : Shape := ⟨3, ![1, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1536, .bf16⟩
  | .hbm, ⟨4, _⟩ => ⟨S8192x1536, .bf16⟩
  | .hbm, ⟨5, _⟩ => ⟨S8192x512, .bf16⟩
  | .hbm, ⟨6, _⟩ => ⟨S8192x512, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .f32⟩
  | .local _ .vmem, ⟨5, _⟩ => ⟨S128x512, .f32⟩
  | .local _ .vmem, ⟨6, _⟩ => ⟨S8192x512, .bf16⟩
  | .local _ .vmem, ⟨7, _⟩ => ⟨S8192x512, .bf16⟩
  | .local _ .vmem, ⟨8, _⟩ => ⟨S8x128x128, .f32⟩
  | .local _ .vmem, ⟨9, _⟩ => ⟨S8x128x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let c512_i32_51 : BitVec 32 := 512#32
  let arg0 : BitVec 32 := BitVec.ofNat 32 (i 0).val
  let c512_i32 : BitVec 32 := 512#32
  let v98 : BitVec 32 := Scalar.muli arg0 c512_i32
  let v99 : BitVec 32 := Scalar.addi c512_i32_51 v98
  v99
def k0_mult2 (i : grid0.Coords) : BitVec 32 :=
  let c1024_i32 : BitVec 32 := 1024#32
  let arg0 : BitVec 32 := BitVec.ofNat 32 (i 0).val
  let c512_i32_52 : BitVec 32 := 512#32
  let v101 : BitVec 32 := Scalar.muli arg0 c512_i32_52
  let v102 : BitVec 32 := Scalar.addi c1024_i32 v101
  v102
def k0_off1 (i : grid0.Coords) (c512_i32_51 : BitVec 32) : Fin 2 → Nat :=
  let c0_i32_54 : BitVec 32 := 0#32
  let arg0 : BitVec 32 := BitVec.ofNat 32 (i 0).val
  let c512_i32 : BitVec 32 := 512#32
  let v98 : BitVec 32 := Scalar.muli arg0 c512_i32
  let v99 : BitVec 32 := Scalar.addi c512_i32_51 v98
  let v100 : BitVec 32 := v99
  ![0, v100.toNat]
def k0_mult3 (arg11 : BitVec 32) : BitVec 32 :=
  let c128_i32 : BitVec 32 := 128#32
  let v98 : BitVec 32 := Scalar.muli arg11 c128_i32
  v98

def k0_off2 (arg11 : BitVec 32) : Fin 2 → Nat :=
  let c128_i32 : BitVec 32 := 128#32
  let v98 : BitVec 32 := Scalar.muli arg11 c128_i32
  let v99 : BitVec 32 := v98
  let v104 : Index := Scalar.indexCast v99
  let c0_51 : Index := 0#32
  ![v104.toNat, 0]
def k0_off3 (arg11 : BitVec 32) : Fin 2 → Nat :=
  let c128_i32 : BitVec 32 := 128#32
  let v98 : BitVec 32 := Scalar.muli arg11 c128_i32
  let v99 : BitVec 32 := v98
  let v152 : Index := Scalar.indexCast v99
  let c128_71 : Index := 128#32
  ![v152.toNat, 128]
def k0_off4 (arg11 : BitVec 32) : Fin 2 → Nat :=
  let c128_i32 : BitVec 32 := 128#32
  let v98 : BitVec 32 := Scalar.muli arg11 c128_i32
  let v99 : BitVec 32 := v98
  let v200 : Index := Scalar.indexCast v99
  let c256_91 : Index := 256#32
  ![v200.toNat, 256]
def k0_off5 (arg11 : BitVec 32) : Fin 2 → Nat :=
  let c128_i32 : BitVec 32 := 128#32
  let v98 : BitVec 32 := Scalar.muli arg11 c128_i32
  let v99 : BitVec 32 := v98
  let v248 : Index := Scalar.indexCast v99
  let c384_111 : Index := 384#32
  ![v248.toNat, 384]

def k0_chk1 (arg11 : BitVec 32) : Prop :=
  (128 ∣ (k0_mult3 arg11).toNat) ∧
  (∀ a, (k0_off2 arg11) a + S128x128.size a ≤ S8192x512.size a) ∧
  (∀ a, (k0_off3 arg11) a + S128x128.size a ≤ S8192x512.size a) ∧
  (∀ a, (k0_off4 arg11) a + S128x128.size a ≤ S8192x512.size a) ∧
  (∀ a, (k0_off5 arg11) a + S128x128.size a ≤ S8192x512.size a)
theorem k0_mult3_dvd : ∀ (arg11 : BitVec 32) (k0_hw1 : k0_chk1 arg11), 128 ∣ (k0_mult3 arg11).toNat := fun arg11 k0_hw1 => k0_hw1.1
theorem k0_off2_inb : ∀ (arg11 : BitVec 32) (k0_hw1 : k0_chk1 arg11), ∀ a, (k0_off2 arg11) a + S128x128.size a ≤ S8192x512.size a := fun arg11 k0_hw1 => k0_hw1.2.1
theorem k0_off3_inb : ∀ (arg11 : BitVec 32) (k0_hw1 : k0_chk1 arg11), ∀ a, (k0_off3 arg11) a + S128x128.size a ≤ S8192x512.size a := fun arg11 k0_hw1 => k0_hw1.2.2.1
theorem k0_off4_inb : ∀ (arg11 : BitVec 32) (k0_hw1 : k0_chk1 arg11), ∀ a, (k0_off4 arg11) a + S128x128.size a ≤ S8192x512.size a := fun arg11 k0_hw1 => k0_hw1.2.2.2.1
theorem k0_off5_inb : ∀ (arg11 : BitVec 32) (k0_hw1 : k0_chk1 arg11), ∀ a, (k0_off5 arg11) a + S128x128.size a ≤ S8192x512.size a := fun arg11 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RAfwdIdeal.lean ====
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8191 : Shape := ⟨3, ![8, 8192, 8191]⟩
abbrev S8x8192x1 : Shape := ⟨3, ![8, 8192, 1]⟩
abbrev S8x64x8192 : Shape := ⟨3, ![8, 64, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x8x64, .f32⟩
  | .hbm, ⟨7, _⟩ => ⟨S8192x8x64, .f32⟩
  | .hbm, ⟨8, _⟩ => ⟨S8192x8x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S_, .f32⟩
  | .hbm, ⟨38, _⟩ => ⟨S8x8192x8192, .i1⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S_, .f32⟩
  | .hbm, ⟨43, _⟩ => ⟨S8x8192x8192, .f32⟩
  | .hbm, ⟨44, _⟩ => ⟨S8x8192x8191, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .i1⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S_, .f32⟩
  | .hbm, ⟨69, _⟩ => ⟨S8x8192x8192, .i1⟩
  | .hbm, ⟨70, _⟩ => ⟨S8x8192x8192, .f32⟩
  | .hbm, ⟨71, _⟩ => ⟨S8x8192x8192, .f32⟩
  | .hbm, ⟨72, _⟩ => ⟨S8x64x8192, .f32⟩
  | .hbm, ⟨73, _⟩ => ⟨S8192x8x64, .f32⟩
  | .hbm, ⟨74, _⟩ => ⟨S8192x512, .f32⟩
  | .hbm, ⟨75, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_2 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩

abbrev nD : Nat := 1
abbrev τ : Topo := Topo.v7x

variable {F : FTy → Type} [FloatOps F]
-- ==== KRfwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RRfwdIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KFfwd.lean ====
abbrev S8192x5632 : Shape := ⟨2, ![8192, 5632]⟩
abbrev S3x2816 : Shape := ⟨2, ![3, 2816]⟩
abbrev S2816 : Shape := ⟨1, ![2816]⟩
abbrev S_ : Shape := ⟨0, ![]⟩
abbrev S8x2816 : Shape := ⟨2, ![8, 2816]⟩
abbrev S1x2816 : Shape := ⟨2, ![1, 2816]⟩
abbrev S8192x2816 : Shape := ⟨2, ![8192, 2816]⟩
abbrev S256x2816 : Shape := ⟨2, ![256, 2816]⟩
abbrev S16x2816 : Shape := ⟨2, ![16, 2816]⟩
abbrev S16x128 : Shape := ⟨2, ![16, 128]⟩
abbrev S256x128 : Shape := ⟨2, ![256, 128]⟩
abbrev S272x128 : Shape := ⟨2, ![272, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S_, .i32⟩
  | .hbm, ⟨4, _⟩ => ⟨S_, .f32⟩
  | .hbm, ⟨5, _⟩ => ⟨S8x2816, .f32⟩
  | .hbm, ⟨6, _⟩ => ⟨S1x2816, .f32⟩
  | .hbm, ⟨7, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S256x2816, .bf16⟩
  | .local _ .vmem, ⟨5, _⟩ => ⟨S256x2816, .bf16⟩
  | .local _ .vmem, ⟨6, _⟩ => ⟨S8x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_0 : BitVec 32 := 0#32
  let c22_i32 : BitVec 32 := 22#32
  let v1 : BitVec 32 := Scalar.addi c0_i32_0 c22_i32
  let c1_i32 : BitVec 32 := 1#32
  ⟨c0_i32_0, v1, c1_i32⟩
def k0_mult1 (k0_t1 : Fin k0_t1_loop.trips) : BitVec 32 :=
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  v2
def k0_off1 (k0_t1 : Fin k0_t1_loop.trips) : Fin 2 → Nat :=
  let c0 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v4 : Index := Scalar.indexCast v3
  ![0, v4.toNat]
def k0_off2 (k0_t1 : Fin k0_t1_loop.trips) : Fin 2 → Nat :=
  let c0_2 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v9 : Index := Scalar.indexCast v3
  ![0, v9.toNat]
def k0_off3 (k0_t1 : Fin k0_t1_loop.trips) : Fin 2 → Nat :=
  let c0_4 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v15 : Index := Scalar.indexCast v3
  ![0, v15.toNat]
def k0_off4 (k0_t1 : Fin k0_t1_loop.trips) : Fin 2 → Nat :=
  let c0_5 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v18 : Index := Scalar.indexCast v3
  ![0, v18.toNat]
def k0_off5 (k0_t1 : Fin k0_t1_loop.trips) : Fin 2 → Nat :=
  let c1 : Index := 1#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v25 : Index := Scalar.indexCast v3
  ![1, v25.toNat]
def k0_off6 (k0_t1 : Fin k0_t1_loop.trips) : Fin 2 → Nat :=
  let c2 : Index := 2#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v31 : Index := Scalar.indexCast v3
  ![2, v31.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RFfwdIdeal.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S2x2816, .f32⟩
  | .hbm, ⟨8, _⟩ => ⟨S8194x2816, .f32⟩
  | .hbm, ⟨9, _⟩ => ⟨S8192x2816, .f32⟩
  | .hbm, ⟨10, _⟩ => ⟨S1x2816, .f32⟩
  | .hbm, ⟨11, _⟩ => ⟨S2816, .f32⟩
  | .hbm, ⟨12, _⟩ => ⟨S1x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== KPfwd.lean ====
abbrev S8192x2560 : Shape := ⟨2, ![8192, 2560]⟩
abbrev S64 : Shape := ⟨1, ![64]⟩
abbrev S512 : Shape := ⟨1, ![512]⟩
abbrev S8x128x128 : Shape := ⟨3, ![8, 128, 128]⟩
abbrev S8x128 : Shape := ⟨2, ![8, 128]⟩
abbrev S512x512 : Shape := ⟨2, ![512, 512]⟩
abbrev S_ : Shape := ⟨0, ![]⟩
abbrev S128x8 : Shape := ⟨2, ![128, 8]⟩
abbrev S128x8x64 : Shape := ⟨3, ![128, 8, 64]⟩
abbrev S128x512 : Shape := ⟨2, ![128, 512]⟩
abbrev S1x64 : Shape := ⟨2, ![1, 64]⟩
abbrev S8x64 : Shape := ⟨2, ![8, 64]⟩
abbrev S1x512 : Shape := ⟨2, ![1, 512]⟩
abbrev S1x8x128x128 : Shape := ⟨4, ![1, 8, 128, 128]⟩
abbrev S8192x1536 : Shape := ⟨2, ![8192, 1536]⟩
abbrev S8192x512 : Shape := ⟨2, ![8192, 512]⟩
abbrev S512x2560 : Shape := ⟨2, ![512, 2560]⟩
abbrev S512x1536 : Shape := ⟨2, ![512, 1536]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 117
  | .vmem => 12
  | .smem => 0
  | _ => 0

abbrev bufTy : (tb : Table) → Fin (tcTables nBuf tb) → BufTy
  | .hbm, ⟨0, _⟩ => ⟨S8192x2560, .f32⟩
  | .hbm, ⟨1, _⟩ => ⟨S64, .f32⟩
  | .hbm, ⟨2, _⟩ => ⟨S64, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S512x512, .i32⟩
  | .hbm, ⟨7, _⟩ => ⟨S512x512, .i32⟩
  | .hbm, ⟨8, _⟩ => ⟨S_, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i1⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S512x512, .i1⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i1⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i1⟩
  | .hbm, ⟨39, _⟩ => ⟨S512x512, .i1⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S512x512, .i32⟩
  | .hbm, ⟨58, _⟩ => ⟨S512x512, .i32⟩
  | .hbm, ⟨59, _⟩ => ⟨S_, .i32⟩
  | .hbm, ⟨60, _⟩ => ⟨S512x512, .i32⟩
  | .hbm, ⟨61, _⟩ => ⟨S512x512, .i1⟩
  | .hbm, ⟨62, _⟩ => ⟨S_, .i32⟩
  | .hbm, ⟨63, _⟩ => ⟨S512x512, .i32⟩
  | .hbm, ⟨64, _⟩ => ⟨S512x512, .i1⟩
  | .hbm, ⟨65, _⟩ => ⟨S_, .i32⟩
  | .hbm, ⟨66, _⟩ => ⟨S_, .i1⟩
  | .hbm, ⟨67, _⟩ => ⟨S512x512, .i1⟩
  | .hbm, ⟨68, _⟩ => ⟨S512x512, .i1⟩
  | .hbm, ⟨69, _⟩ => ⟨S512x512, .i1⟩
  | .hbm, ⟨70, _⟩ => ⟨S512x512, .i32⟩
  | .hbm, ⟨71, _⟩ => ⟨S512x512, .i32⟩
  | .hbm, ⟨72, _⟩ => ⟨S512x512, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S512x512, .i32⟩
  | .hbm, ⟨80, _⟩ => ⟨S512x512, .i32⟩
  | .hbm, ⟨81, _⟩ => ⟨S_, .i32⟩
  | .hbm, ⟨82, _⟩ => ⟨S512x512, .i32⟩
  | .hbm, ⟨83, _⟩ => ⟨S512x512, .i1⟩
  | .hbm, ⟨84, _⟩ => ⟨S_, .i32⟩
  | .hbm, ⟨85, _⟩ => ⟨S512x512, .i32⟩
  | .hbm, ⟨86, _⟩ => ⟨S512x512, .i1⟩
  | .hbm, ⟨87, _⟩ => ⟨S_, .i32⟩
  | .hbm, ⟨88, _⟩ => ⟨S_, .i1⟩
  | .hbm, ⟨89, _⟩ => ⟨S512x512, .i1⟩
  | .hbm, ⟨90, _⟩ => ⟨S512x512, .i1⟩
  | .hbm, ⟨91, _⟩ => ⟨S512x512, .i1⟩
  | .hbm, ⟨92, _⟩ => ⟨S512x512, .i32⟩
  | .hbm, ⟨93, _⟩ => ⟨S512x512, .i32⟩
  | .hbm, ⟨94, _⟩ => ⟨S512x512, .i32⟩
  | .hbm, ⟨95, _⟩ => ⟨S512x512, .i1⟩
  | .hbm, ⟨96, _⟩ => ⟨S_, .f32⟩
  | .hbm, ⟨97, _⟩ => ⟨S_, .f32⟩
  | .hbm, ⟨98, _⟩ => ⟨S512x512, .f32⟩
  | .hbm, ⟨99, _⟩ => ⟨S512x512, .f32⟩
  | .hbm, ⟨100, _⟩ => ⟨S512x512, .f32⟩
  | .hbm, ⟨101, _⟩ => ⟨S512x512, .f32⟩
  | .hbm, ⟨102, _⟩ => ⟨S128x8, .f32⟩
  | .hbm, ⟨103, _⟩ => ⟨S128x8x64, .f32⟩
  | .hbm, ⟨104, _⟩ => ⟨S128x512, .f32⟩
  | .hbm, ⟨105, _⟩ => ⟨S1x64, .f32⟩
  | .hbm, ⟨106, _⟩ => ⟨S8x64, .f32⟩
  | .hbm, ⟨107, _⟩ => ⟨S512, .f32⟩
  | .hbm, ⟨108, _⟩ => ⟨S1x512, .f32⟩
  | .hbm, ⟨109, _⟩ => ⟨S1x64, .f32⟩
  | .hbm, ⟨110, _⟩ => ⟨S8x64, .f32⟩
  | .hbm, ⟨111, _⟩ => ⟨S512, .f32⟩
  | .hbm, ⟨112, _⟩ => ⟨S1x512, .f32⟩
  | .hbm, ⟨113, _⟩ => ⟨S1x512, .f32⟩
  | .hbm, ⟨114, _⟩ => ⟨S1x8x128x128, .f32⟩
  | .hbm, ⟨115, _⟩ => ⟨S8192x1536, .bf16⟩
  | .hbm, ⟨116, _⟩ => ⟨S8192x512, .bf16⟩
  | .local _ .vmem, ⟨0, _⟩ => ⟨S512x2560, .f32⟩
  | .local _ .vmem, ⟨1, _⟩ => ⟨S512x2560, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x8x128x128, .f32⟩
  | .local _ .vmem, ⟨6, _⟩ => ⟨S128x512, .f32⟩
  | .local _ .vmem, ⟨7, _⟩ => ⟨S512x512, .f32⟩
  | .local _ .vmem, ⟨8, _⟩ => ⟨S512x1536, .bf16⟩
  | .local _ .vmem, ⟨9, _⟩ => ⟨S512x1536, .bf16⟩
  | .local _ .vmem, ⟨10, _⟩ => ⟨S512x512, .bf16⟩
  | .local _ .vmem, ⟨11, _⟩ => ⟨S512x512, .bf16⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_cst : Ref sig .tc := ⟨.hbm, 45, rfl⟩
abbrev main_cst_1 : Ref sig .tc := ⟨.hbm, 46, rfl⟩
abbrev main_call2_v0 : Ref sig .tc := ⟨.hbm, 47, rfl⟩
abbrev main_call2_v1 : Ref sig .tc := ⟨.hbm, 48, rfl⟩
abbrev main_v5 : Ref sig .tc := ⟨.hbm, 49, rfl⟩
abbrev main_v6 : Ref sig .tc := ⟨.hbm, 50, rfl⟩
abbrev main_c_2 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_c_1 : Ref sig .tc := ⟨.hbm, 59, rfl⟩
abbrev main_call3_v5 : Ref sig .tc := ⟨.hbm, 60, rfl⟩
abbrev main_call3_v6 : Ref sig .tc := ⟨.hbm, 61, rfl⟩
abbrev main_call3_c_2 : Ref sig .tc := ⟨.hbm, 62, rfl⟩
abbrev main_call3_v7 : Ref sig .tc := ⟨.hbm, 63, rfl⟩
abbrev main_call3_v8 : Ref sig .tc := ⟨.hbm, 64, rfl⟩
abbrev main_call3_c_3 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_v7 : Ref sig .tc := ⟨.hbm, 72, rfl⟩
abbrev main_c_3 : Ref sig .tc := ⟨.hbm, 73, rfl⟩
abbrev main_call4_v0 : Ref sig .tc := ⟨.hbm, 74, rfl⟩
abbrev main_call4_c : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_c_1 : Ref sig .tc := ⟨.hbm, 81, rfl⟩
abbrev main_call4_v5 : Ref sig .tc := ⟨.hbm, 82, rfl⟩
abbrev main_call4_v6 : Ref sig .tc := ⟨.hbm, 83, rfl⟩
abbrev main_call4_c_2 : Ref sig .tc := ⟨.hbm, 84, rfl⟩
abbrev main_call4_v7 : Ref sig .tc := ⟨.hbm, 85, rfl⟩
abbrev main_call4_v8 : Ref sig .tc := ⟨.hbm, 86, rfl⟩
abbrev main_call4_c_3 : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_v12 : Ref sig .tc := ⟨.hbm, 91, rfl⟩
abbrev main_call4_v13 : Ref sig .tc := ⟨.hbm, 92, rfl⟩
abbrev main_call4_v14 : Ref sig .tc := ⟨.hbm, 93, rfl⟩
abbrev main_v8 : Ref sig .tc := ⟨.hbm, 94, rfl⟩
abbrev main_v9 : Ref sig .tc := ⟨.hbm, 95, rfl⟩
abbrev main_cst_4 : Ref sig .tc := ⟨.hbm, 96, rfl⟩
abbrev main_cst_5 : Ref sig .tc := ⟨.hbm, 97, rfl⟩
abbrev main_call5_v0 : Ref sig .tc := ⟨.hbm, 98, rfl⟩
abbrev main_call5_v1 : Ref sig .tc := ⟨.hbm, 99, rfl⟩
abbrev main_v10 : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25_0 : Ref sig .tc := ⟨.hbm, 115, rfl⟩
abbrev main_v25_1 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RPfwdIdeal.lean ====
abbrev S8192x2560 : Shape := ⟨2, ![8192, 2560]⟩
abbrev S64 : Shape := ⟨1, ![64]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8x64 : Shape := ⟨2, ![8, 64]⟩
abbrev S1x8x64 : Shape := ⟨3, ![1, 8, 64]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S128x8x1 : Shape := ⟨3, ![128, 8, 1]⟩
abbrev S1x128x8x1 : Shape := ⟨4, ![1, 128, 8, 1]⟩
abbrev S8192x1536 : Shape := ⟨2, ![8192, 1536]⟩

abbrev nBuf : Space → Nat
  | .hbm => 113
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S64, .f32⟩
  | .hbm, ⟨2, _⟩ => ⟨S64, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x8x64, .f32⟩
  | .hbm, ⟨12, _⟩ => ⟨S8192x8x64, .f32⟩
  | .hbm, ⟨13, _⟩ => ⟨S_, .f32⟩
  | .hbm, ⟨14, _⟩ => ⟨S8192x8, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x1, .f32⟩
  | .hbm, ⟨23, _⟩ => ⟨S8192x8x64, .f32⟩
  | .hbm, ⟨24, _⟩ => ⟨S8192x8x64, .f32⟩
  | .hbm, ⟨25, _⟩ => ⟨S1x1x64, .f32⟩
  | .hbm, ⟨26, _⟩ => ⟨S8192x8x64, .f32⟩
  | .hbm, ⟨27, _⟩ => ⟨S8192x8x64, .f32⟩
  | .hbm, ⟨28, _⟩ => ⟨S8192x8x64, .f32⟩
  | .hbm, ⟨29, _⟩ => ⟨S8192x8x64, .f32⟩
  | .hbm, ⟨30, _⟩ => ⟨S_, .f32⟩
  | .hbm, ⟨31, _⟩ => ⟨S8192x8, .f32⟩
  | .hbm, ⟨32, _⟩ => ⟨S8192x8x1, .f32⟩
  | .hbm, ⟨33, _⟩ => ⟨S_, .f32⟩
  | .hbm, ⟨34, _⟩ => ⟨S8192x8x1, .f32⟩
  | .hbm, ⟨35, _⟩ => ⟨S8192x8x1, .f32⟩
  | .hbm, ⟨36, _⟩ => ⟨S_, .f32⟩
  | .hbm, ⟨37, _⟩ => ⟨S8192x8x1, .f32⟩
  | .hbm, ⟨38, _⟩ => ⟨S8192x8x1, .f32⟩
  | .hbm, ⟨39, _⟩ => ⟨S8192x8x1, .f32⟩
  | .hbm, ⟨40, _⟩ => ⟨S8192x8x64, .f32⟩
  | .hbm, ⟨41, _⟩ => ⟨S8192x8x64, .f32⟩
  | .hbm, ⟨42, _⟩ => ⟨S1x1x64, .f32⟩
  | .hbm, ⟨43, _⟩ => ⟨S8192x8x64, .f32⟩
  | .hbm, ⟨44, _⟩ => ⟨S8192x8x64, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x8x64, .f32⟩
  | .hbm, ⟨66, _⟩ => ⟨S8192x8x64, .f32⟩
  | .hbm, ⟨67, _⟩ => ⟨S_, .f32⟩
  | .hbm, ⟨68, _⟩ => ⟨S8192x8, .f32⟩
  | .hbm, ⟨69, _⟩ => ⟨S8192x8x1, .f32⟩
  | .hbm, ⟨70, _⟩ => ⟨S_, .f32⟩
  | .hbm, ⟨71, _⟩ => ⟨S8192x8x1, .f32⟩
  | .hbm, ⟨72, _⟩ => ⟨S8192x8x1, .f32⟩
  | .hbm, ⟨73, _⟩ => ⟨S_, .f32⟩
  | .hbm, ⟨74, _⟩ => ⟨S8192x8x1, .f32⟩
  | .hbm, ⟨75, _⟩ => ⟨S8192x8x1, .f32⟩
  | .hbm, ⟨76, _⟩ => ⟨S8192x8x1, .f32⟩
  | .hbm, ⟨77, _⟩ => ⟨S8192x8x64, .f32⟩
  | .hbm, ⟨78, _⟩ => ⟨S8192x8x64, .f32⟩
  | .hbm, ⟨79, _⟩ => ⟨S8x64, .f32⟩
  | .hbm, ⟨80, _⟩ => ⟨S1x8x64, .f32⟩
  | .hbm, ⟨81, _⟩ => ⟨S8192x8x64, .f32⟩
  | .hbm, ⟨82, _⟩ => ⟨S8192x8x64, .f32⟩
  | .hbm, ⟨83, _⟩ => ⟨S64x128x8x64, .f32⟩
  | .hbm, ⟨84, _⟩ => ⟨S_, .i1⟩
  | .hbm, ⟨85, _⟩ => ⟨S128x128, .i1⟩
  | .hbm, ⟨86, _⟩ => ⟨S128x128, .i32⟩
  | .hbm, ⟨87, _⟩ => ⟨S_, .i32⟩
  | .hbm, ⟨88, _⟩ => ⟨S128x128, .i32⟩
  | .hbm, ⟨89, _⟩ => ⟨S128x128, .i32⟩
  | .hbm, ⟨90, _⟩ => ⟨S128x128, .i32⟩
  | .hbm, ⟨91, _⟩ => ⟨S128x128, .i1⟩
  | .hbm, ⟨92, _⟩ => ⟨S_, .i1⟩
  | .hbm, ⟨93, _⟩ => ⟨S128x128, .i1⟩
  | .hbm, ⟨94, _⟩ => ⟨S128x128, .i1⟩
  | .hbm, ⟨95, _⟩ => ⟨S1x128x128, .i1⟩
  | .hbm, ⟨96, _⟩ => ⟨S_, .f32⟩
  | .hbm, ⟨97, _⟩ => ⟨S_, .f32⟩
  | .hbm, ⟨98, _⟩ => ⟨S8x128x128, .i1⟩
  | .hbm, ⟨99, _⟩ => ⟨S8x128x128, .f32⟩
  | .hbm, ⟨100, _⟩ => ⟨S8x128x128, .f32⟩
  | .hbm, ⟨101, _⟩ => ⟨S8x64x64x128, .f32⟩
  | .hbm, ⟨102, _⟩ => ⟨S64x128x8x64, .f32⟩
  | .hbm, ⟨103, _⟩ => ⟨S128x8, .f32⟩
  | .hbm, ⟨104, _⟩ => ⟨S128x8x1, .f32⟩
  | .hbm, ⟨105, _⟩ => ⟨S1x128x8x1, .f32⟩
  | .hbm, ⟨106, _⟩ => ⟨S64x128x8x64, .f32⟩
  | .hbm, ⟨107, _⟩ => ⟨S64x128x8x64, .f32⟩
  | .hbm, ⟨108, _⟩ => ⟨S8192x512, .f32⟩
  | .hbm, ⟨109, _⟩ => ⟨S8192x512, .f32⟩
  | .hbm, ⟨110, _⟩ => ⟨S8192x1536, .f32⟩
  | .hbm, ⟨111, _⟩ => ⟨S8192x1536, .bf16⟩
  | .hbm, ⟨112, _⟩ => ⟨S8192x512, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c : Ref sig .tc := ⟨.hbm, 84, rfl⟩
abbrev main_v65 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_0 : Ref sig .tc := ⟨.hbm, 92, rfl⟩
abbrev main_call0_v5 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== KNfwd.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1x2816x1024 : Shape := ⟨4, ![1, 1, 2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S2816x1024, .bf16⟩
  | .hbm, ⟨5, _⟩ => ⟨S1x1x2816x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== RNfwdIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KMmnn.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S1x4x1024x1408, .f32⟩
  | .hbm, ⟨5, _⟩ => ⟨S1x4x1024x1408, .bf16⟩
  | .hbm, ⟨6, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== RMmnnIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KMmnt.lean ====
abbrev S8192x1024 : Shape := ⟨2, ![8192, 1024]⟩
abbrev S2816x1024 : Shape := ⟨2, ![2816, 1024]⟩
abbrev S1x1x2816x1024 : Shape := ⟨4, ![1, 1, 2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S2816x1024, .bf16⟩
  | .hbm, ⟨3, _⟩ => ⟨S1x1x2816x1024, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1x2816x1024, .bf16⟩
  | .local _ .vmem, ⟨3, _⟩ => ⟨S512x2816, .bf16⟩
  | .local _ .vmem, ⟨4, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RMmntIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KMmtn.lean ====
abbrev S8192x1024 : Shape := ⟨2, ![8192, 1024]⟩
abbrev S8192x5632 : Shape := ⟨2, ![8192, 5632]⟩
abbrev S1x4x1024x1408 : Shape := ⟨4, ![1, 4, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1x4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RMmtnIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S1x4x1024x1408, .f32⟩
  | .hbm, ⟨12, _⟩ => ⟨S1x4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KAdam.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RAdamIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KPrep.lean ====
abbrev S8192x2560 : Shape := ⟨2, ![8192, 2560]⟩
abbrev S2x64 : Shape := ⟨2, ![2, 64]⟩
abbrev S2x512 : Shape := ⟨2, ![2, 512]⟩
abbrev S2x8x128x128 : Shape := ⟨4, ![2, 8, 128, 128]⟩
abbrev S2x8x128 : Shape := ⟨3, ![2, 8, 128]⟩
abbrev S8192x512 : Shape := ⟨2, ![8192, 512]⟩
abbrev S8192x1024 : Shape := ⟨2, ![8192, 1024]⟩
abbrev S512x512 : Shape := ⟨2, ![512, 512]⟩
abbrev S_ : Shape := ⟨0, ![]⟩
abbrev S1x8x128 : Shape := ⟨3, ![1, 8, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S8x512 : Shape := ⟨2, ![8, 512]⟩
abbrev S8x128x128 : Shape := ⟨3, ![8, 128, 128]⟩
abbrev S512x2560 : Shape := ⟨2, ![512, 2560]⟩
abbrev S1x8x128x128 : Shape := ⟨4, ![1, 8, 128, 128]⟩
abbrev S128x128 : Shape := ⟨2, ![128, 128]⟩
abbrev S1x128 : Shape := ⟨2, ![1, 128]⟩
abbrev S1x128x128 : Shape := ⟨3, ![1, 128, 128]⟩
abbrev S384x128 : Shape := ⟨2, ![384, 128]⟩
abbrev S512x128 : Shape := ⟨2, ![512, 128]⟩
abbrev S512x384 : Shape := ⟨2, ![512, 384]⟩
abbrev S512x256 : Shape := ⟨2, ![512, 256]⟩
abbrev S256x128 : Shape := ⟨2, ![256, 128]⟩
abbrev S7x128x128 : Shape := ⟨3, ![7, 128, 128]⟩
abbrev S6x128x128 : Shape := ⟨3, ![6, 128, 128]⟩
abbrev S5x128x128 : Shape := ⟨3, ![5, 128, 128]⟩
abbrev S2x128x128 : Shape := ⟨3, ![2, 128, 128]⟩
abbrev S4x128x128 : Shape := ⟨3, ![4, 128, 128]⟩
abbrev S3x128x128 : Shape := ⟨3, ![3, 128, 128]⟩
abbrev S512x2048 : Shape := ⟨2, ![512, 2048]⟩
abbrev S512x1536 : Shape := ⟨2, ![512, 1536]⟩
abbrev S512x1024 : Shape := ⟨2, ![512, 1024]⟩

abbrev nBuf : Space → Nat
  | .hbm => 132
  | .vmem => 24
  | .smem => 0
  | _ => 0

abbrev hbmTy0_0 (i : Nat) : BufTy := match i % 128 with
  | 0 => ⟨S8192x2560, .f32⟩
  | 1 => ⟨S2x64, .f32⟩
  | 2 => ⟨S2x64, .f32⟩
  | 3 => ⟨S2x512, .f32⟩
  | 4 => ⟨S2x8x128x128, .f32⟩
  | 5 => ⟨S2x8x128, .f32⟩
  | 6 => ⟨S8192x512, .f32⟩
  | 7 => ⟨S8192x512, .f32⟩
  | 8 => ⟨S8192x512, .f32⟩
  | 9 => ⟨S8192x1024, .f32⟩
  | 10 => ⟨S512x512, .i32⟩
  | 11 => ⟨S512x512, .i32⟩
  | 12 => ⟨S_, .i32⟩
  | 13 => ⟨S_, .i32⟩
  | 14 => ⟨S512x512, .i32⟩
  | 15 => ⟨S512x512, .i32⟩
  | 16 => ⟨S512x512, .i32⟩
  | 17 => ⟨S_, .i32⟩
  | 18 => ⟨S512x512, .i32⟩
  | 19 => ⟨S512x512, .i1⟩
  | 20 => ⟨S512x512, .i32⟩
  | 21 => ⟨S512x512, .i32⟩
  | 22 => ⟨S_, .i32⟩
  | 23 => ⟨S512x512, .i32⟩
  | 24 => ⟨S512x512, .i1⟩
  | 25 => ⟨S512x512, .i1⟩
  | 26 => ⟨S_, .i32⟩
  | 27 => ⟨S512x512, .i32⟩
  | 28 => ⟨S512x512, .i32⟩
  | 29 => ⟨S512x512, .i32⟩
  | 30 => ⟨S_, .i32⟩
  | 31 => ⟨S_, .i32⟩
  | 32 => ⟨S512x512, .i32⟩
  | 33 => ⟨S512x512, .i32⟩
  | 34 => ⟨S512x512, .i32⟩
  | 35 => ⟨S_, .i32⟩
  | 36 => ⟨S512x512, .i32⟩
  | 37 => ⟨S512x512, .i1⟩
  | 38 => ⟨S512x512, .i32⟩
  | 39 => ⟨S512x512, .i32⟩
  | 40 => ⟨S_, .i32⟩
  | 41 => ⟨S512x512, .i32⟩
  | 42 => ⟨S512x512, .i1⟩
  | 43 => ⟨S512x512, .i1⟩
  | 44 => ⟨S_, .i32⟩
  | 45 => ⟨S512x512, .i32⟩
  | 46 => ⟨S512x512, .i32⟩
  | 47 => ⟨S512x512, .i32⟩
  | 48 => ⟨S512x512, .i1⟩
  | 49 => ⟨S_, .f32⟩
  | 50 => ⟨S_, .f32⟩
  | 51 => ⟨S512x512, .f32⟩
  | 52 => ⟨S512x512, .f32⟩
  | 53 => ⟨S512x512, .f32⟩
  | 54 => ⟨S512x512, .f32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S512x512, .i32⟩
  | 62 => ⟨S512x512, .i32⟩
  | 63 => ⟨S_, .i32⟩
  | 64 => ⟨S512x512, .i32⟩
  | 65 => ⟨S512x512, .i1⟩
  | 66 => ⟨S_, .i32⟩
  | 67 => ⟨S512x512, .i32⟩
  | 68 => ⟨S512x512, .i1⟩
  | 69 => ⟨S_, .i32⟩
  | 70 => ⟨S_, .i1⟩
  | 71 => ⟨S512x512, .i1⟩
  | 72 => ⟨S512x512, .i1⟩
  | 73 => ⟨S512x512, .i1⟩
  | 74 => ⟨S512x512, .i32⟩
  | 75 => ⟨S512x512, .i32⟩
  | 76 => ⟨S512x512, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S512x512, .i32⟩
  | 84 => ⟨S512x512, .i32⟩
  | 85 => ⟨S_, .i32⟩
  | 86 => ⟨S512x512, .i32⟩
  | 87 => ⟨S512x512, .i1⟩
  | 88 => ⟨S_, .i32⟩
  | 89 => ⟨S512x512, .i32⟩
  | 90 => ⟨S512x512, .i1⟩
  | 91 => ⟨S_, .i32⟩
  | 92 => ⟨S_, .i1⟩
  | 93 => ⟨S512x512, .i1⟩
  | 94 => ⟨S512x512, .i1⟩
  | 95 => ⟨S512x512, .i1⟩
  | 96 => ⟨S512x512, .i32⟩
  | 97 => ⟨S512x512, .i32⟩
  | 98 => ⟨S512x512, .i32⟩
  | 99 => ⟨S512x512, .i1⟩
  | 100 => ⟨S_, .f32⟩
  | 101 => ⟨S_, .f32⟩
  | 102 => ⟨S512x512, .f32⟩
  | 103 => ⟨S512x512, .f32⟩
  | 104 => ⟨S512x512, .f32⟩
  | 105 => ⟨S512x512, .f32⟩
  | 106 => ⟨S1x8x128, .f32⟩
  | 107 => ⟨S8x128, .f32⟩
  | 108 => ⟨S128x8, .f32⟩
  | 109 => ⟨S128x8x64, .f32⟩
  | 110 => ⟨S128x512, .f32⟩
  | 111 => ⟨S1x64, .f32⟩
  | 112 => ⟨S64, .f32⟩
  | 113 => ⟨S1x64, .f32⟩
  | 114 => ⟨S8x64, .f32⟩
  | 115 => ⟨S512, .f32⟩
  | 116 => ⟨S1x512, .f32⟩
  | 117 => ⟨S1x64, .f32⟩
  | 118 => ⟨S64, .f32⟩
  | 119 => ⟨S1x64, .f32⟩
  | 120 => ⟨S8x64, .f32⟩
  | 121 => ⟨S512, .f32⟩
  | 122 => ⟨S1x512, .f32⟩
  | 123 => ⟨S1x512, .f32⟩
  | 124 => ⟨S512, .f32⟩
  | 125 => ⟨S1x512, .f32⟩
  | 126 => ⟨S8192x2560, .bf16⟩
  | 127 => ⟨S8x512, .f32⟩
  | _ => ⟨S8192x2560, .f32⟩

abbrev hbmTy0_1 (i : Nat) : BufTy := match i % 128 with
  | 0 => ⟨S8x512, .f32⟩
  | 1 => ⟨S8x512, .f32⟩
  | 2 => ⟨S8x128x128, .f32⟩
  | 3 => ⟨S128x512, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | .local _ .vmem, ⟨0, _⟩ => ⟨S512x2560, .f32⟩
  | .local _ .vmem, ⟨1, _⟩ => ⟨S512x2560, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x8x128x128, .f32⟩
  | .local _ .vmem, ⟨14, _⟩ => ⟨S128x512, .f32⟩
  | .local _ .vmem, ⟨15, _⟩ => ⟨S512x512, .f32⟩
  | .local _ .vmem, ⟨16, _⟩ => ⟨S512x512, .f32⟩
  | .local _ .vmem, ⟨17, _⟩ => ⟨S512x2560, .bf16⟩
  | .local _ .vmem, ⟨18, _⟩ => ⟨S512x2560, .bf16⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x128x128, .f32⟩
  | .local _ .vmem, ⟨23, _⟩ => ⟨S128x512, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v3 : Ref sig .tc := ⟨.hbm, 47, rfl⟩
abbrev main_v4 : Ref sig .tc := ⟨.hbm, 48, rfl⟩
abbrev main_cst : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_v5 : Ref sig .tc := ⟨.hbm, 53, rfl⟩
abbrev main_v6 : Ref sig .tc := ⟨.hbm, 54, rfl⟩
abbrev main_c_2 : Ref sig .tc := ⟨.hbm, 55, rfl⟩
abbrev main_call3_v0 : Ref sig .tc := ⟨.hbm, 56, rfl⟩
abbrev main_call3_c : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_c_1 : Ref sig .tc := ⟨.hbm, 63, rfl⟩
abbrev main_call3_v5 : Ref sig .tc := ⟨.hbm, 64, rfl⟩
abbrev main_call3_v6 : Ref sig .tc := ⟨.hbm, 65, rfl⟩
abbrev main_call3_c_2 : Ref sig .tc := ⟨.hbm, 66, rfl⟩
abbrev main_call3_v7 : Ref sig .tc := ⟨.hbm, 67, rfl⟩
abbrev main_call3_v8 : Ref sig .tc := ⟨.hbm, 68, rfl⟩
abbrev main_call3_c_3 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_v7 : Ref sig .tc := ⟨.hbm, 76, rfl⟩
abbrev main_c_3 : Ref sig .tc := ⟨.hbm, 77, rfl⟩
abbrev main_call4_v0 : Ref sig .tc := ⟨.hbm, 78, rfl⟩
abbrev main_call4_c : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_c_1 : Ref sig .tc := ⟨.hbm, 85, rfl⟩
abbrev main_call4_v5 : Ref sig .tc := ⟨.hbm, 86, rfl⟩
abbrev main_call4_v6 : Ref sig .tc := ⟨.hbm, 87, rfl⟩
abbrev main_call4_c_2 : Ref sig .tc := ⟨.hbm, 88, rfl⟩
abbrev main_call4_v7 : Ref sig .tc := ⟨.hbm, 89, rfl⟩
abbrev main_call4_v8 : Ref sig .tc := ⟨.hbm, 90, rfl⟩
abbrev main_call4_c_3 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_v12 : Ref sig .tc := ⟨.hbm, 95, rfl⟩
abbrev main_call4_v13 : Ref sig .tc := ⟨.hbm, 96, rfl⟩
abbrev main_call4_v14 : Ref sig .tc := ⟨.hbm, 97, rfl⟩
abbrev main_v8 : Ref sig .tc := ⟨.hbm, 98, rfl⟩
abbrev main_v9 : Ref sig .tc := ⟨.hbm, 99, rfl⟩
abbrev main_cst_4 : Ref sig .tc := ⟨.hbm, 100, rfl⟩
abbrev main_cst_5 : Ref sig .tc := ⟨.hbm, 101, rfl⟩
abbrev main_call5_v0 : Ref sig .tc := ⟨.hbm, 102, rfl⟩
abbrev main_call5_v1 : Ref sig .tc := ⟨.hbm, 103, rfl⟩
abbrev main_v10 : Ref sig .tc := ⟨.hbm, 104, rfl⟩
abbrev main_v11 : Ref sig .tc := ⟨.hbm, 105, rfl⟩
abbrev main_v12 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩
abbrev main_v27 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32_0 : Ref sig .tc := ⟨.hbm, 126, rfl⟩
abbrev main_v32_1 : Ref sig .tc := ⟨.hbm, 127, rfl⟩
abbrev main_v32_2 : Ref sig .tc := ⟨.hbm, 128, rfl⟩
abbrev main_v32_3 : Ref sig .tc := ⟨.hbm, 129, rfl⟩
abbrev main_v32_4 : Ref sig .tc := ⟨.hbm, 130, rfl⟩
abbrev main_v32_5 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== RPrepIdeal.lean ====
abbrev S8192x2560 : Shape := ⟨2, ![8192, 2560]⟩
abbrev S2x64 : Shape := ⟨2, ![2, 64]⟩
abbrev S2x512 : Shape := ⟨2, ![2, 512]⟩
abbrev S2x8x128x128 : Shape := ⟨4, ![2, 8, 128, 128]⟩
abbrev S2x8x128 : Shape := ⟨3, ![2, 8, 128]⟩
abbrev S8192x512 : Shape := ⟨2, ![8192, 512]⟩
abbrev S8192x1024 : Shape := ⟨2, ![8192, 1024]⟩
abbrev S1x64 : Shape := ⟨2, ![1, 64]⟩
abbrev S64 : Shape := ⟨1, ![64]⟩
abbrev S1x512 : Shape := ⟨2, ![1, 512]⟩
abbrev S512 : Shape := ⟨1, ![512]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8x64 : Shape := ⟨2, ![8, 64]⟩
abbrev S1x8x64 : Shape := ⟨3, ![1, 8, 64]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S128x8x1 : Shape := ⟨3, ![128, 8, 1]⟩
abbrev S1x128x8x1 : Shape := ⟨4, ![1, 128, 8, 1]⟩
abbrev S7x512 : Shape := ⟨2, ![7, 512]⟩
abbrev S8x512 : Shape := ⟨2, ![8, 512]⟩
abbrev S128x8x64 : Shape := ⟨3, ![128, 8, 64]⟩
abbrev S128x512 : Shape := ⟨2, ![128, 512]⟩

abbrev nBuf : Space → Nat
  | .hbm => 296
  | .vmem => 0
  | .smem => 0
  | _ => 0

abbrev hbmTy0_0 (i : Nat) : BufTy := match i % 128 with
  | 0 => ⟨S8192x2560, .f32⟩
  | 1 => ⟨S2x64, .f32⟩
  | 2 => ⟨S2x64, .f32⟩
  | 3 => ⟨S2x512, .f32⟩
  | 4 => ⟨S2x8x128x128, .f32⟩
  | 5 => ⟨S2x8x128, .f32⟩
  | 6 => ⟨S8192x512, .f32⟩
  | 7 => ⟨S8192x512, .f32⟩
  | 8 => ⟨S8192x512, .f32⟩
  | 9 => ⟨S8192x1024, .f32⟩
  | 10 => ⟨S1x64, .f32⟩
  | 11 => ⟨S64, .f32⟩
  | 12 => ⟨S1x64, .f32⟩
  | 13 => ⟨S64, .f32⟩
  | 14 => ⟨S1x512, .f32⟩
  | 15 => ⟨S512, .f32⟩
  | 16 => ⟨S1x8x128x128, .f32⟩
  | 17 => ⟨S8x128x128, .f32⟩
  | 18 => ⟨S1x8x128, .f32⟩
  | 19 => ⟨S8x128, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x8x64, .f32⟩
  | 26 => ⟨S8192x8x64, .f32⟩
  | 27 => ⟨S_, .f32⟩
  | 28 => ⟨S8192x8, .f32⟩
  | 29 => ⟨S8192x8x1, .f32⟩
  | 30 => ⟨S_, .f32⟩
  | 31 => ⟨S8192x8x1, .f32⟩
  | 32 => ⟨S8192x8x1, .f32⟩
  | 33 => ⟨S_, .f32⟩
  | 34 => ⟨S8192x8x1, .f32⟩
  | 35 => ⟨S8192x8x1, .f32⟩
  | 36 => ⟨S8192x8x1, .f32⟩
  | 37 => ⟨S8192x8x1, .f32⟩
  | 38 => ⟨S_, .f32⟩
  | 39 => ⟨S8192x8x1, .f32⟩
  | 40 => ⟨S8192x8x1, .f32⟩
  | 41 => ⟨S8192x8x64, .f32⟩
  | 42 => ⟨S8192x8x64, .f32⟩
  | 43 => ⟨S1x1x64, .f32⟩
  | 44 => ⟨S8192x8x64, .f32⟩
  | 45 => ⟨S8192x8x64, .f32⟩
  | 46 => ⟨S8192x8x64, .f32⟩
  | 47 => ⟨S8192x8x64, .f32⟩
  | 48 => ⟨S_, .f32⟩
  | 49 => ⟨S8192x8, .f32⟩
  | 50 => ⟨S8192x8x1, .f32⟩
  | 51 => ⟨S_, .f32⟩
  | 52 => ⟨S8192x8x1, .f32⟩
  | 53 => ⟨S8192x8x1, .f32⟩
  | 54 => ⟨S_, .f32⟩
  | 55 => ⟨S8192x8x1, .f32⟩
  | 56 => ⟨S8192x8x1, .f32⟩
  | 57 => ⟨S8192x8x1, .f32⟩
  | 58 => ⟨S8192x8x1, .f32⟩
  | 59 => ⟨S_, .f32⟩
  | 60 => ⟨S8192x8x1, .f32⟩
  | 61 => ⟨S8192x8x1, .f32⟩
  | 62 => ⟨S8192x8x64, .f32⟩
  | 63 => ⟨S8192x8x64, .f32⟩
  | 64 => ⟨S1x1x64, .f32⟩
  | 65 => ⟨S8192x8x64, .f32⟩
  | 66 => ⟨S8192x8x64, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S_, .f32⟩
  | 82 => ⟨S8192x512, .f32⟩
  | 83 => ⟨S8192x512, .f32⟩
  | 84 => ⟨S8192x512, .f32⟩
  | 85 => ⟨S_, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x8x64, .f32⟩
  | 94 => ⟨S8192x8x64, .f32⟩
  | 95 => ⟨S_, .f32⟩
  | 96 => ⟨S8192x8, .f32⟩
  | 97 => ⟨S8192x8x1, .f32⟩
  | 98 => ⟨S_, .f32⟩
  | 99 => ⟨S8192x8x1, .f32⟩
  | 100 => ⟨S8192x8x1, .f32⟩
  | 101 => ⟨S_, .f32⟩
  | 102 => ⟨S8192x8x1, .f32⟩
  | 103 => ⟨S8192x8x1, .f32⟩
  | 104 => ⟨S8192x8x1, .f32⟩
  | 105 => ⟨S8192x8x1, .f32⟩
  | 106 => ⟨S_, .f32⟩
  | 107 => ⟨S8192x8x1, .f32⟩
  | 108 => ⟨S8192x8x1, .f32⟩
  | 109 => ⟨S8192x8x64, .f32⟩
  | 110 => ⟨S8192x8x64, .f32⟩
  | 111 => ⟨S8x64, .f32⟩
  | 112 => ⟨S1x8x64, .f32⟩
  | 113 => ⟨S8192x8x64, .f32⟩
  | 114 => ⟨S8192x8x64, .f32⟩
  | 115 => ⟨S64x128x8x64, .f32⟩
  | 116 => ⟨S_, .i1⟩
  | 117 => ⟨S128x128, .i1⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i1⟩
  | 124 => ⟨S_, .i1⟩
  | 125 => ⟨S128x128, .i1⟩
  | 126 => ⟨S128x128, .i1⟩
  | 127 => ⟨S1x128x128, .i1⟩
  | _ => ⟨S8192x2560, .f32⟩

abbrev hbmTy0_1 (i : Nat) : BufTy := match i % 128 with
  | 0 => ⟨S_, .f32⟩
  | 1 => ⟨S_, .f32⟩
  | 2 => ⟨S8x128x128, .i1⟩
  | 3 => ⟨S8x128x128, .f32⟩
  | 4 => ⟨S8x128x128, .f32⟩
  | 5 => ⟨S_, .f32⟩
  | 6 => ⟨S8x128x128, .f32⟩
  | 7 => ⟨S8x64x64x128, .f32⟩
  | 8 => ⟨S64x128x8x64, .f32⟩
  | 9 => ⟨S128x8, .f32⟩
  | 10 => ⟨S128x8x1, .f32⟩
  | 11 => ⟨S1x128x8x1, .f32⟩
  | 12 => ⟨S64x128x8x64, .f32⟩
  | 13 => ⟨S64x128x8x64, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S64x128x8x64, .f32⟩
  | 20 => ⟨S_, .f32⟩
  | 21 => ⟨S128x8, .f32⟩
  | 22 => ⟨S1x128x8x1, .f32⟩
  | 23 => ⟨S_, .f32⟩
  | 24 => ⟨S128x8, .f32⟩
  | 25 => ⟨S128x8x1, .f32⟩
  | 26 => ⟨S_, .f32⟩
  | 27 => ⟨S128x8, .f32⟩
  | 28 => ⟨S8x128, .f32⟩
  | 29 => ⟨S8x64x64x128, .f32⟩
  | 30 => ⟨S8x128x128, .f32⟩
  | 31 => ⟨S8x64x64x128, .f32⟩
  | 32 => ⟨S64x128x8x64, .f32⟩
  | 33 => ⟨S_, .f32⟩
  | 34 => ⟨S8x128x128, .f32⟩
  | 35 => ⟨S8x128x128, .f32⟩
  | 36 => ⟨S8192x8x64, .f32⟩
  | 37 => ⟨S8192x8x64, .f32⟩
  | 38 => ⟨S_, .f32⟩
  | 39 => ⟨S8x64, .f32⟩
  | 40 => ⟨S1x8x64, .f32⟩
  | 41 => ⟨S8192x8x64, .f32⟩
  | 42 => ⟨S8192x8x64, .f32⟩
  | 43 => ⟨S_, .f32⟩
  | 44 => ⟨S8x64, .f32⟩
  | 45 => ⟨S512, .f32⟩
  | 46 => ⟨S8192x8x64, .f32⟩
  | 47 => ⟨S_, .f32⟩
  | 48 => ⟨S8192x8, .f32⟩
  | 49 => ⟨S8192x8x1, .f32⟩
  | 50 => ⟨S8192x8x64, .f32⟩
  | 51 => ⟨S8192x8x64, .f32⟩
  | 52 => ⟨S8192x8x1, .f32⟩
  | 53 => ⟨S_, .f32⟩
  | 54 => ⟨S8192x8x1, .f32⟩
  | 55 => ⟨S8192x8x1, .f32⟩
  | 56 => ⟨S_, .f32⟩
  | 57 => ⟨S8192x8, .f32⟩
  | 58 => ⟨S8192x8x64, .f32⟩
  | 59 => ⟨S8192x8x64, .f32⟩
  | 60 => ⟨S8192x8x64, .f32⟩
  | 61 => ⟨S8192x8x64, .f32⟩
  | 62 => ⟨S8192x8x64, .f32⟩
  | 63 => ⟨S8192x512, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S_, .f32⟩
  | 89 => ⟨S8192x512, .f32⟩
  | 90 => ⟨S8192x512, .f32⟩
  | 91 => ⟨S8192x512, .f32⟩
  | 92 => ⟨S8192x8x64, .f32⟩
  | 93 => ⟨S8192x8x64, .f32⟩
  | 94 => ⟨S8192x8x64, .f32⟩
  | 95 => ⟨S_, .f32⟩
  | 96 => ⟨S64, .f32⟩
  | 97 => ⟨S1x1x64, .f32⟩
  | 98 => ⟨S8192x8x64, .f32⟩
  | 99 => ⟨S8192x8x64, .f32⟩
  | 100 => ⟨S_, .f32⟩
  | 101 => ⟨S64, .f32⟩
  | 102 => ⟨S8192x8x64, .f32⟩
  | 103 => ⟨S_, .f32⟩
  | 104 => ⟨S8192x8, .f32⟩
  | 105 => ⟨S8192x8x1, .f32⟩
  | 106 => ⟨S8192x8x64, .f32⟩
  | 107 => ⟨S8192x8x64, .f32⟩
  | 108 => ⟨S8192x8x1, .f32⟩
  | 109 => ⟨S_, .f32⟩
  | 110 => ⟨S8192x8x1, .f32⟩
  | 111 => ⟨S8192x8x1, .f32⟩
  | 112 => ⟨S_, .f32⟩
  | 113 => ⟨S8192x8, .f32⟩
  | 114 => ⟨S8192x8x64, .f32⟩
  | 115 => ⟨S8192x8x64, .f32⟩
  | 116 => ⟨S8192x8x64, .f32⟩
  | 117 => ⟨S8192x8x64, .f32⟩
  | 118 => ⟨S8192x8x64, .f32⟩
  | 119 => ⟨S8192x512, .f32⟩
  | 120 => ⟨S8192x8x64, .f32⟩
  | 121 => ⟨S_, .f32⟩
  | 122 => ⟨S64, .f32⟩
  | 123 => ⟨S1x1x64, .f32⟩
  | 124 => ⟨S8192x8x64, .f32⟩
  | 125 => ⟨S8192x8x64, .f32⟩
  | 126 => ⟨S_, .f32⟩
  | 127 => ⟨S64, .f32⟩
  | _ => ⟨S8192x2560, .f32⟩

abbrev hbmTy0_2 (i : Nat) : BufTy := match i % 128 with
  | 0 => ⟨S8192x8x64, .f32⟩
  | 1 => ⟨S_, .f32⟩
  | 2 => ⟨S8192x8, .f32⟩
  | 3 => ⟨S8192x8x1, .f32⟩
  | 4 => ⟨S8192x8x64, .f32⟩
  | 5 => ⟨S8192x8x64, .f32⟩
  | 6 => ⟨S8192x8x1, .f32⟩
  | 7 => ⟨S_, .f32⟩
  | 8 => ⟨S8192x8x1, .f32⟩
  | 9 => ⟨S8192x8x1, .f32⟩
  | 10 => ⟨S_, .f32⟩
  | 11 => ⟨S8192x8, .f32⟩
  | 12 => ⟨S8192x8x64, .f32⟩
  | 13 => ⟨S8192x8x64, .f32⟩
  | 14 => ⟨S8192x8x64, .f32⟩
  | 15 => ⟨S8192x8x64, .f32⟩
  | 16 => ⟨S8192x8x64, .f32⟩
  | 17 => ⟨S8192x512, .f32⟩
  | 18 => ⟨S8192x2560, .f32⟩
  | 19 => ⟨S1x64, .f32⟩
  | 20 => ⟨S8x64, .f32⟩
  | 21 => ⟨S512, .f32⟩
  | 22 => ⟨S1x512, .f32⟩
  | 23 => ⟨S_, .f32⟩
  | 24 => ⟨S7x512, .f32⟩
  | 25 => ⟨S8x512, .f32⟩
  | 26 => ⟨S1x64, .f32⟩
  | 27 => ⟨S8x64, .f32⟩
  | 28 => ⟨S512, .f32⟩
  | 29 => ⟨S1x512, .f32⟩
  | 30 => ⟨S_, .f32⟩
  | 31 => ⟨S7x512, .f32⟩
  | 32 => ⟨S8x512, .f32⟩
  | 33 => ⟨S1x512, .f32⟩
  | 34 => ⟨S_, .f32⟩
  | 35 => ⟨S7x512, .f32⟩
  | 36 => ⟨S8x512, .f32⟩
  | 37 => ⟨S128x8, .f32⟩
  | 38 => ⟨S128x8x64, .f32⟩
  | 39 => ⟨S128x512, .f32⟩
  | _ => ⟨S8192x2560, .f32⟩

abbrev hbmTy (i : Nat) : BufTy := match i / 128 with
  | 0 => hbmTy0_0 i
  | 1 => hbmTy0_1 i
  | 2 => hbmTy0_2 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c : Ref sig .tc := ⟨.hbm, 116, rfl⟩
abbrev main_v90 : Ref sig .tc := ⟨.hbm, 117, rfl⟩
abbrev main_call0_v0 : Ref sig .tc := ⟨.hbm, 118, rfl⟩
abbrev main_call0_c : Ref sig .tc := ⟨.hbm, 119, rfl⟩
abbrev main_call0_v1 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_call0_c_0 : Ref sig .tc := ⟨.hbm, 124, rfl⟩
abbrev main_call0_v5 : Ref sig .tc := ⟨.hbm, 125, rfl⟩
abbrev main_v91 : Ref sig .tc := ⟨.hbm, 126, rfl⟩
abbrev main_v92 : Ref sig .tc := ⟨.hbm, 127, rfl⟩
abbrev main_cst_15 : Ref sig .tc := ⟨.hbm, 128, rfl⟩
abbrev main_call1_v0 : Ref sig .tc := ⟨.hbm, 129, rfl⟩
abbrev main_v93_1 : Ref sig .tc := ⟨.hbm, 130, rfl⟩
abbrev main_call1_v2 : Ref sig .tc := ⟨.hbm, 131, rfl⟩
abbrev main_v93_0 : Ref sig .tc := ⟨.hbm, 132, rfl⟩
abbrev main_call1_cst : Ref sig .tc := ⟨.hbm, 133, rfl⟩
abbrev main_v93_2 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_16 : Ref sig .tc := ⟨.hbm, 148, rfl⟩
abbrev main_v107 : Ref sig .tc := ⟨.hbm, 149, rfl⟩
abbrev main_v108 : Ref sig .tc := ⟨.hbm, 150, rfl⟩
abbrev main_cst_17 : Ref sig .tc := ⟨.hbm, 151, rfl⟩
abbrev main_v109 : Ref sig .tc := ⟨.hbm, 152, rfl⟩
abbrev main_v110 : Ref sig .tc := ⟨.hbm, 153, rfl⟩
abbrev main_cst_18 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_call2_cst : Ref sig .tc := ⟨.hbm, 161, rfl⟩
abbrev main_call2_v0 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_19 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_20 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_21 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_22 : Ref sig .tc := ⟨.hbm, 181, rfl⟩
abbrev main_v132 : Ref sig .tc := ⟨.hbm, 182, rfl⟩
abbrev main_v133 : Ref sig .tc := ⟨.hbm, 183, rfl⟩
abbrev main_cst_23 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_24 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_25 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_26 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_27 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_28 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_29 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_30 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_31 : Ref sig .tc := ⟨.hbm, 228, rfl⟩
abbrev main_v170 : Ref sig .tc := ⟨.hbm, 229, rfl⟩
abbrev main_v171 : Ref sig .tc := ⟨.hbm, 230, rfl⟩
abbrev main_cst_32 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_33 : Ref sig .tc := ⟨.hbm, 237, rfl⟩
abbrev main_v177 : Ref sig .tc := ⟨.hbm, 238, rfl⟩
abbrev main_v178 : Ref sig .tc := ⟨.hbm, 239, rfl⟩
abbrev main_cst_34 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_cst_35 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_cst_36 : Ref sig .tc := ⟨.hbm, 254, rfl⟩
abbrev main_v191 : Ref sig .tc := ⟨.hbm, 255, rfl⟩
abbrev main_v192 : Ref sig .tc := ⟨.hbm, 256, rfl⟩
abbrev main_cst_37 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_cst_38 : Ref sig .tc := ⟨.hbm, 263, rfl⟩
abbrev main_v198 : Ref sig .tc := ⟨.hbm, 264, rfl⟩
abbrev main_v199 : Ref sig .tc := ⟨.hbm, 265, rfl⟩
abbrev main_cst_39 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_40 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_cst_41 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_cst_42 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩

abbrev nD : Nat := 1
abbrev τ : Topo := Topo.v7x

variable {F : FTy → Type} [FloatOps F]
-- ==== Proof.Attn.Step.lean ====
/- One trip of the loop of the attention gradient over the key blocks, as functions of the tiles it reads: what it
   computes per head, and what it leaves in the five carried buffers. -/
module

public import proofs.«01_k».proof.Proof.Gen.KAttnIdeal.Skeleton
public import Idealize.ShloMosaic.Lib.Pipeline.ValueKit

@[expose] public section

noncomputable section

namespace Cert.KAttnIdeal.Attn

open Cert.KAttnIdeal Cert.KAttnIdeal.Gen
open Idealize.ShloMosaic

variable {F : FTy → Type} [FloatOps F]

/-- What one grid point fixes for its loop: the diagonal mask, the query block, and per head the masked queries, the
    masked cotangents and the row sums of cotangent times output; the two triangular matrices. -/
structure Env (F : FTy → Type) where
  dm : IVec S128x128 1
  qi : BitVec 32
  q : Fin 4 → FVec F S128x128 .bf16
  da : Fin 4 → FVec F S128x128 .bf16
  dt : Fin 4 → FVec F S128x1 .f32
  tl : FVec F S128x128 .bf16
  gf : FVec F S128x128 .bf16

/-- The pair of heads that share head `h`'s 128 lanes. -/
abbrev pr (h : Fin 4) : Fin 2 := ![0, 0, 1, 1] h

section heads
variable (E : Env F) (n : Fin 64) (kb vb : Fin 2 → Vec F S128x128 .bf16) (run rung : Fin 4 → Vec F S1x128x1 .f32) (h : Fin 4)

/-- Which of the block's pairs are causal. -/
def vd : IVec S128x128 1 := k0_pay34 E.dm (BitVec.ofNat 32 n.val) E.qi
/-- The scores. -/
def hz : FVec F S128x128 .f32 := k0_pay43 (E.q h) (kb (pr h))
/-- log(1 - sigmoid) of the scores, -/
def hlkr : FVec F S128x128 .f32 := k0_pay46 (hz E kb h) (k0_pay44 (E.q h) (kb (pr h))) (Scalar.ofBits .f32 0x00000000#32)
/-- the same with the pairs that are not causal at zero, -/
def hlk : FVec F S128x128 .f32 := k0_pay48 (vd E n) (hz E kb h) (k0_pay44 (E.q h) (kb (pr h))) (Scalar.ofBits .f32 0x00000000#32)
/-- and log sigmoid. -/
def hls : FVec F S128x128 .f32 := k0_pay47 (hz E kb h) (k0_pay44 (E.q h) (kb (pr h))) (Scalar.ofBits .f32 0x00000000#32)
/-- The running sum after this block. -/
def hrun : FVec F S128x1 .f32 := k0_pay63 (hlk E n kb h) (run h)
/-- The sum over the later keys of the block. -/
def htail : FVec F S128x128 .f32 := k0_pay72 E.tl (hlk E n kb h)
/-- The weights, -/
def hw : FVec F S128x128 .f32 := k0_pay76 (vd E n) (hls E kb h) (k0_pay59 (run h)) (htail E n kb h)
/-- their cotangents, -/
def hdp : FVec F S128x128 .f32 := k0_pay68 (E.da h) (vb (pr h))
/-- and the products of the two, -/
def hg : FVec F S128x128 .f32 := k0_pay80 (vd E n) (hls E kb h) (k0_pay59 (run h)) (hdp E vb h) (htail E n kb h)
/-- summed from each key on. -/
def hgf : FVec F S128x128 .f32 := k0_pay88 E.gf (hg E n kb vb run h)
/-- The gradient of the unscaled scores. -/
def hdz : FVec F S128x128 .bf16 :=
  k0_pay90 (E.dt h) (vd E n) (hlkr E kb h) (hls E kb h) (hg E n kb vb run h) (hgf E n kb vb run h) (rung h)

/-- The new rows of the buffers carried per head, -/
def ndq (dq : Vec F S1x128x128 .f32) : FVec F S1x128x128 .f32 :=
  k0_pay106 (hdz E n kb vb run rung h) (k0_pay105 dq) (kb (pr h))
def nrun : FVec F S1x128x1 .f32 := k0_pay110 (hrun E n kb run h)
def nrung : FVec F S1x128x1 .f32 := k0_pay109 (hg E n kb vb run h) (rung h)
/-- and what one head adds to the tiles of the key and value gradients. -/
def adk (old : Vec F S128x128 .f32) : FVec F S128x128 .f32 := k0_pay92 (E.q h) (hdz E n kb vb run rung h) old
def adv (old : Vec F S128x128 .f32) : FVec F S128x128 .f32 := k0_pay93 (E.da h) (hw E n kb run h) old

/-- Whether some row's weights are not all zero yet. -/
def alive : BitVec 1 :=
  Scalar.cmpf .ogt (k0_pay67 (hlk E n kb 2) (hlk E n kb 3) (k0_pay59 (run 2)) (k0_pay59 (run 3)) (hrun E n kb run 0) (hrun E n kb run 1))
    (Scalar.ofBits .f32 0x00000000#32)

end heads

/-! ## Tiles and rows of the buffers -/

/-- The 128 × 128 tile of block row `n` and lane half `p`. -/
def rd {V : Type} (f : S8192x256.Idx → V) (n : Fin 64) (p : Fin 2) : S128x128.Idx → V :=
  fun y => f (ix2 (⟨128 * n.val + (y 0).val, by have := (y 0).isLt; change _ < 128 at this; show _ < 8192; omega⟩ : Fin 8192)
    (⟨128 * p.val + (y 1).val, by have := (y 1).isLt; change _ < 128 at this; show _ < 256; omega⟩ : Fin 256))

/-- The buffer with the two tiles of block row `n` replaced. -/
def put {V : Type} (f : S8192x256.Idx → V) (n : Fin 64) (w : Fin 2 → S128x128.Idx → V) : S8192x256.Idx → V :=
  fun y => if (y 0).val / 128 = n.val then
      w ⟨(y 1).val / 128, by have := (y 1).isLt; change _ < 256 at this; omega⟩
        (ix2 (⟨(y 0).val % 128, Nat.mod_lt _ (by decide)⟩ : Fin 128) (⟨(y 1).val % 128, Nat.mod_lt _ (by decide)⟩ : Fin 128))
    else f y

/-- Row `h` of a buffer carried per head, -/
def row {V : Type} (f : S4x128x1.Idx → V) (h : Fin 4) : S1x128x1.Idx → V := fun y => f (ix3 h (y 1 : Fin 128) (y 2 : Fin 1))
def rowq {V : Type} (f : S4x128x128.Idx → V) (h : Fin 4) : S1x128x128.Idx → V := fun y => f (ix3 h (y 1 : Fin 128) (y 2 : Fin 128))
/-- and the buffer made of its rows. -/
def rows {V : Type} (w : Fin 4 → S1x128x1.Idx → V) : S4x128x1.Idx → V := fun y => w (y 0 : Fin 4) (ix3 (0 : Fin 1) (y 1 : Fin 128) (y 2 : Fin 1))
def rowsq {V : Type} (w : Fin 4 → S1x128x128.Idx → V) : S4x128x128.Idx → V := fun y => w (y 0 : Fin 4) (ix3 (0 : Fin 1) (y 1 : Fin 128) (y 2 : Fin 128))

/-- What the loop carries in its buffers. -/
structure St (F : FTy → Type) [FloatOps F] where
  dk : Vec F S8192x256 .f32
  dv : Vec F S8192x256 .f32
  dq : Vec F S4x128x128 .f32
  run : Vec F S4x128x1 .f32
  rung : Vec F S4x128x1 .f32

variable (E : Env F) (kc vc : Vec F S8192x256 .bf16)

/-- One trip. -/
def step (n : Fin 64) (s : St F) : St F where
  dk := put s.dk n fun p =>
    adk E n (rd kc n) (rd vc n) (row s.run) (row s.rung) (![1, 3] p) (adk E n (rd kc n) (rd vc n) (row s.run) (row s.rung) (![0, 2] p) (rd s.dk n p))
  dv := put s.dv n fun p => adv E n (rd kc n) (row s.run) (![1, 3] p) (adv E n (rd kc n) (row s.run) (![0, 2] p) (rd s.dv n p))
  dq := rowsq fun h => ndq E n (rd kc n) (rd vc n) (row s.run) (row s.rung) h (rowq s.dq h)
  run := rows fun h => nrun E n (rd kc n) (row s.run) h
  rung := rows fun h => nrung E n (rd kc n) (rd vc n) (row s.run) (row s.rung) h

/-- Whether the loop goes on after a trip. -/
def goes (n : Fin 64) (s : St F) : BitVec 1 := alive E n (rd kc n) (row s.run)

/-- The loop from `k` key blocks to go. -/
def iter : (k : ℕ) → k ≤ 64 → BitVec 1 → St F → St F
  | 0, _, _, s => s
  | k + 1, hk, a, s => if a = 1#1 then iter k (by omega) (goes E kc ⟨k, hk⟩ s) (step E kc vc ⟨k, hk⟩ s) else s

end Cert.KAttnIdeal.Attn
-- ==== Proof.Attn.Math.lean ====
module

public import Idealize.ShloMosaic.Lib.Pipeline.ValueKit

/-! The mathematics of one head of the attention and of its gradient, over real numbers: one query row's weights, its
    gradient with respect to the scores, and how sums over the 8192 keys split into blocks of 128. -/

@[expose] public section

noncomputable section

namespace Cert.Attn

/-- A matrix of 8192 rows and 512 columns. -/
abbrev Mat := Fin 8192 → Fin 512 → ℝ

/-- Column `d` of head `h`. -/
def col (h : Fin 8) (d : Fin 64) : Fin 512 := ⟨64 * h.val + d.val, by omega⟩

/-- Row `j` of block `n` of 128 rows. -/
def blk (n : Fin 64) (j : Fin 128) : Fin 8192 := ⟨128 * n.val + j.val, by omega⟩

/-- The softplus `log (1 + exp x)`, as it is computed. -/
def sp (x : ℝ) : ℝ := max x 0 + Real.log (1 + Real.exp (-|x|))

/-- `softplus (-x) = softplus x - x`. -/
theorem sp_neg (x : ℝ) : sp (-x) = sp x - x := by
  unfold sp
  rw [abs_neg]
  rcases le_total x 0 with h | h
  · rw [max_eq_left (by linarith : (0:ℝ) ≤ -x), max_eq_right h]; ring
  · rw [max_eq_right (by linarith : -x ≤ (0:ℝ)), max_eq_left h]; ring

section row

variable (z p : Fin 8192 → ℝ) (r : Fin 8192)

/-- The log of the share a key leaves to the keys before it: `log (1 - sigmoid z)`, nought from the query on. -/
def keep (s : Fin 8192) : ℝ := if s < r then -(sp (z s)) else 0

/-- The log of what the later keys leave. -/
def tail (s : Fin 8192) : ℝ := ∑ s', if s < s' then keep z r s' else 0

/-- The weight of a key. -/
def weight (s : Fin 8192) : ℝ := if s < r then Real.exp (-(sp (-(z s))) + tail z r s) else 0

/-- The gradient with respect to the log of a weight, `p` being the gradient with respect to the weight. -/
def glog (s : Fin 8192) : ℝ := weight z r s * p s

/-- The gradient with respect to the log a key leaves: the sum over the earlier keys. -/
def gkeep (s : Fin 8192) : ℝ := if s < r then ∑ s', (if s' < s then glog z p r s' else 0) else 0

/-- The gradient with respect to the product of query and key before its scale. -/
def gscore (s : Fin 8192) : ℝ :=
  (glog z p r s * Real.exp (-(sp (z s))) - gkeep z p r s * Real.exp (-(sp (-(z s))))) * (1 / 8)

variable {r}

theorem keep_of_le {s : Fin 8192} (h : r ≤ s) : keep z r s = 0 := if_neg (not_lt.mpr h)
theorem weight_of_le {s : Fin 8192} (h : r ≤ s) : weight z r s = 0 := if_neg (not_lt.mpr h)
theorem glog_of_le {s : Fin 8192} (h : r ≤ s) : glog z p r s = 0 := by rw [glog, weight_of_le z h, zero_mul]
theorem gkeep_of_le {s : Fin 8192} (h : r ≤ s) : gkeep z p r s = 0 := if_neg (not_lt.mpr h)
theorem gscore_of_le {s : Fin 8192} (h : r ≤ s) : gscore z p r s = 0 := by
  rw [gscore, glog_of_le z p h, gkeep_of_le z p h]; simp

end row

/-! Sums by blocks. -/

section blocks

variable (f : Fin 8192 → ℝ)

theorem sum_blk : ∑ s, f s = ∑ n, ∑ j, f (blk n j) := by
  rw [← Fintype.sum_prod_type']
  refine (Fintype.sum_equiv (finProdFinEquiv (m := 64) (n := 128)) _ _ fun x => ?_).symm
  refine congrArg f (Fin.ext ?_)
  simp only [blk, finProdFinEquiv_apply_val]; omega

/-- A sum of terms that vanish outside a block. -/
theorem sum_only (n : Fin 64) (hf : ∀ s : Fin 8192, s.val / 128 ≠ n.val → f s = 0) :
    ∑ s, f s = ∑ j, f (blk n j) := by
  rw [sum_blk]
  refine Finset.sum_eq_single n (fun k _ hk => Finset.sum_eq_zero fun j _ => hf _ ?_) (by simp)
  intro h; apply hk; apply Fin.ext; simp only [blk] at h; omega

/-- The sum from block `k` on. -/
def since (k : ℕ) : ℝ := ∑ s, if 128 * k ≤ s.val then f s else 0
/-- The sum before block `k`. -/
def until' (k : ℕ) : ℝ := ∑ s, if s.val < 128 * k then f s else 0

theorem since_zero : since f 0 = ∑ s, f s := by simp [since]
theorem until_zero : until' f 0 = 0 := by simp [until']
theorem until_all : until' f 64 = ∑ s, f s :=
  Finset.sum_congr rfl fun s _ => if_pos (by have := s.isLt; omega)

theorem since_eq_zero (k : ℕ) (h : ∀ s : Fin 8192, 128 * k ≤ s.val → f s = 0) : since f k = 0 :=
  Finset.sum_eq_zero fun s _ => by split_ifs with hs; exacts [h s hs, rfl]

theorem since_step (n : Fin 64) : since f n.val = since f (n.val + 1) + ∑ j, f (blk n j) := by
  have : ∑ j, f (blk n j) = ∑ s, if s.val / 128 = n.val then f s else 0 := by
    rw [sum_only _ n fun s hs => if_neg hs]
    exact Finset.sum_congr rfl fun j _ => (if_pos (by simp only [blk]; omega)).symm
  rw [this, since, since, ← Finset.sum_add_distrib]
  refine Finset.sum_congr rfl fun s _ => ?_
  split_ifs <;> first | omega | simp

theorem until_step (n : Fin 64) : until' f (n.val + 1) = until' f n.val + ∑ j, f (blk n j) := by
  have : ∑ j, f (blk n j) = ∑ s, if s.val / 128 = n.val then f s else 0 := by
    rw [sum_only _ n fun s hs => if_neg hs]
    exact Finset.sum_congr rfl fun j _ => (if_pos (by simp only [blk]; omega)).symm
  rw [this, until', until', ← Finset.sum_add_distrib]
  refine Finset.sum_congr rfl fun s _ => ?_
  split_ifs <;> first | omega | simp

/-- What comes after a row: the later blocks, and the later rows of its own. -/
theorem sum_after (n : Fin 64) (j : Fin 128) :
    (∑ s', if blk n j < s' then f s' else 0)
      = since f (n.val + 1) + ∑ j' : Fin 128, f (blk n j') * (if j < j' then 1 else 0) := by
  have : ∑ j' : Fin 128, f (blk n j') * (if j < j' then 1 else 0)
      = ∑ s', if s'.val / 128 = n.val ∧ blk n j < s' then f s' else 0 := by
    rw [sum_only _ n fun s hs => if_neg fun h => hs h.1]
    refine Finset.sum_congr rfl fun j' _ => ?_
    have e : ((blk n j').val / 128 = n.val ∧ blk n j < blk n j') ↔ j < j' := by
      simp only [blk, Fin.lt_def]; omega
    simp only [e, mul_ite, mul_one, mul_zero]
  rw [this, since, ← Finset.sum_add_distrib]
  refine Finset.sum_congr rfl fun s _ => ?_
  simp only [blk, Fin.lt_def]
  split_ifs <;> first | omega | simp

/-- What comes before a row: all but the later blocks and the rows of its own from it on. -/
theorem sum_before (n : Fin 64) (j : Fin 128) :
    (∑ s', if s' < blk n j then f s' else 0)
      = (∑ s, f s) - since f (n.val + 1) - ∑ j' : Fin 128, f (blk n j') * (if j ≤ j' then 1 else 0) := by
  have : ∑ j' : Fin 128, f (blk n j') * (if j ≤ j' then 1 else 0)
      = ∑ s', if s'.val / 128 = n.val ∧ blk n j ≤ s' then f s' else 0 := by
    rw [sum_only _ n fun s hs => if_neg fun h => hs h.1]
    refine Finset.sum_congr rfl fun j' _ => ?_
    have e : ((blk n j').val / 128 = n.val ∧ blk n j ≤ blk n j') ↔ j ≤ j' := by
      simp only [blk, Fin.le_def]; omega
    simp only [e, mul_ite, mul_one, mul_zero]
  rw [this, since, ← Finset.sum_sub_distrib, ← Finset.sum_sub_distrib]
  refine Finset.sum_congr rfl fun s _ => ?_
  simp only [blk, Fin.lt_def, Fin.le_def]
  split_ifs <;> first | omega | simp

end blocks

/-! The matrices. -/

section mats

variable (Q K V D : Mat)

/-- The scaled product of a query and a key of one head. -/
def score (h : Fin 8) (r s : Fin 8192) : ℝ := (∑ d, Q r (col h d) * K s (col h d)) * (1 / 8)
/-- The gradient with respect to a weight. -/
def gweight (h : Fin 8) (r s : Fin 8192) : ℝ := ∑ d, D r (col h d) * V s (col h d)
/-- The head of a column. -/
def head (c : Fin 512) : Fin 8 := ⟨c.val / 64, by omega⟩

abbrev wgt (h : Fin 8) (r s : Fin 8192) : ℝ := weight (score Q K h r) r s
abbrev gsc (h : Fin 8) (r s : Fin 8192) : ℝ := gscore (score Q K h r) (gweight V D h r) r s

/-- The attention's output. -/
def att (r : Fin 8192) (c : Fin 512) : ℝ := ∑ s, wgt Q K (head c) r s * V s c
/-- The gradients. -/
def gq (r : Fin 8192) (c : Fin 512) : ℝ := ∑ s, gsc Q K V D (head c) r s * K s c
def gk (s : Fin 8192) (c : Fin 512) : ℝ := ∑ r, gsc Q K V D (head c) r s * Q r c
def gv (s : Fin 8192) (c : Fin 512) : ℝ := ∑ r, wgt Q K (head c) r s * D r c

theorem head_col (h : Fin 8) (d : Fin 64) : head (col h d) = h := Fin.ext (by simp only [head, col]; omega)

/-- A row's sum of output times gradient is the sum of its weights' gradients. -/
theorem sum_att (h : Fin 8) (r : Fin 8192) :
    ∑ d, D r (col h d) * att Q K V r (col h d) = ∑ s, glog (score Q K h r) (gweight V D h r) r s := by
  simp only [att, glog, gweight, head_col, Finset.mul_sum]
  rw [Finset.sum_comm]
  exact Finset.sum_congr rfl fun s _ => Finset.sum_congr rfl fun d _ => by ring

end mats

end Cert.Attn
-- ==== Proof.Attn.Real.lean ====
/- Facts of real numbers among the extended ones, and of lanes, that the attention's proofs share. -/
module

public import proofs.«01_k».proof.Proof.Attn.Math
public import Idealize.ShloMosaic.Lib.Pointwise
public import Idealize.ShloMosaic.Lib.WordCmp

@[expose] public section

set_option maxRecDepth 16384

noncomputable section

namespace Cert.Attn

open Idealize.ShloMosaic Idealize.ShloMosaic.TcCoe Idealize.ShloMosaic.WordCmp

/-- A sum of real numbers, over the extended ones. -/
theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

theorem f32_eighth : Ideal.ofBits .f32 0x3E000000#32 = (((1 / 8 : ℝ)) : EReal) := by
  simp [Ideal.ofBits, Ideal.ieee]
  rw [← EReal.coe_mul]; norm_num

theorem coe_max (x y : ℝ) : max (x : EReal) (y : EReal) = ((max x y : ℝ) : EReal) :=
  (EReal.coe_strictMono.monotone.map_max).symm

theorem coe_neg' (x : ℝ) : (0 : EReal) - (x : EReal) = ((-x : ℝ) : EReal) := by
  rw [← EReal.coe_zero, ← EReal.coe_sub, zero_sub]

theorem one_add_exp_pos (x : ℝ) : ¬ 1 + Real.exp x ≤ 0 := not_le.mpr (by have := Real.exp_pos x; linarith)

theorem log1p_exp (x : ℝ) : Ideal.log1p (Ideal.exp (x : EReal)) = ((Real.log (1 + Real.exp x) : ℝ) : EReal) := by
  rw [Ideal.log1p, Ideal.exp_coe, ← EReal.coe_one, ← EReal.coe_add, Ideal.log_coe, if_neg (one_add_exp_pos x)]

theorem sp_coe (x : ℝ) : max (x : EReal) 0 + Ideal.log1p (Ideal.exp (0 - ((|x| : ℝ) : EReal))) = ((sp x : ℝ) : EReal) := by
  rw [coe_neg', log1p_exp, ← EReal.coe_zero, coe_max, ← EReal.coe_add, sp]

theorem sel_coe (c : BitVec 1) (P : Prop) [Decidable P] (h : c = 1#1 ↔ P) (x y : ℝ) :
    Scalar.select c (x : EReal) (y : EReal) = (((if P then x else y) : ℝ) : EReal) := by
  change (if c = 1#1 then (x : EReal) else y) = _
  by_cases hp : P
  · rw [if_pos (h.mpr hp), if_pos hp]
  · rw [if_neg (fun hc => hp (h.mp hc)), if_neg hp]

theorem sel_coe0 (c : BitVec 1) (P : Prop) [Decidable P] (h : c = 1#1 ↔ P) (x : ℝ) :
    Scalar.select c (x : EReal) 0 = (((if P then x else 0) : ℝ) : EReal) := by
  rw [← EReal.coe_zero, sel_coe c P h]

theorem exp_pos (x : EReal) (h : x ≠ ⊥) : 0 < Ideal.exp x := by
  induction x with
  | bot => exact absurd rfl h
  | top => exact EReal.zero_lt_top
  | coe r => rw [Ideal.exp_coe]; exact EReal.coe_pos.mpr (Real.exp_pos r)

theorem sel_if (c : BitVec 1) (p : Prop) [Decidable p] (h : c = 1#1 ↔ p) (s t : EReal) : Scalar.select c s t = if p then s else t := by
  change (if c = 1#1 then s else t) = _
  simp only [h]

theorem lanes (l : Fin 128) (s t : EReal) : Scalar.select (IntOp.cmpi .slt (BitVec.ofNat 32 l.val) 64#32) s t = if l.val < 64 then s else t :=
  sel_if _ _ (cmpi_slt_ofNat_eq_one_iff (by omega) (by omega)) s t

/-- A sum over one half of the lanes. -/
theorem sum_side (e : Fin 2) (f : Fin 128 → ℝ) :
    (∑ l, if l.val / 64 = e.val then f l else 0) = ∑ d : Fin 64, f ⟨64 * e.val + d.val, by omega⟩ := by
  have : (∑ l, if l.val / 64 = e.val then f l else 0) = ∑ k : Fin 2, ∑ d : Fin 64, if k = e then f ⟨64 * k.val + d.val, by omega⟩ else 0 := by
    rw [← Fintype.sum_prod_type']
    refine (Fintype.sum_equiv (finProdFinEquiv (m := 2) (n := 64)) _ _ fun x => ?_).symm
    have e1 : (finProdFinEquiv x : Fin 128) = ⟨64 * x.1.val + x.2.val, by omega⟩ := Fin.ext (by
      rw [finProdFinEquiv_apply_val]; show _ = 64 * x.1.val + x.2.val; omega)
    rw [e1]
    have e2 : (64 * x.1.val + x.2.val) / 64 = x.1.val := by omega
    simp only [e2, Fin.ext_iff]
  rw [this]
  refine (Finset.sum_eq_single e (fun k _ hk => Finset.sum_eq_zero fun d _ => if_neg hk) (by simp)).trans ?_
  exact Finset.sum_congr rfl fun d _ => if_pos rfl

theorem pos_lt (l : Fin 128) (x : ℝ) : (if l.val < 64 then (x : EReal) else 0) = (((if l.val / 64 = 0 then x else 0) : ℝ) : EReal) := by
  have : l.val / 64 = 0 ↔ l.val < 64 := by omega
  simp only [this]; split_ifs <;> simp
theorem neg_lt (l : Fin 128) (x : ℝ) : (if l.val < 64 then 0 else (x : EReal)) = (((if l.val / 64 = 1 then x else 0) : ℝ) : EReal) := by
  have : l.val / 64 = 1 ↔ ¬ l.val < 64 := by omega
  simp only [this, ite_not]; split_ifs <;> simp

/-- Every row is a row of a block. -/
theorem blk_eq (s : Fin 8192) : s = blk ⟨s.val / 128, by omega⟩ ⟨s.val % 128, by omega⟩ := Fin.ext (by simp only [blk]; omega)

theorem f32_inf : Ideal.ofBits .f32 0x7F800000#32 = ⊤ := by simp [Ideal.ofBits, Ideal.ieee]

/-- The softplus as the reference computes it. -/
theorem softplus (x : ℝ) : (if (x : EReal) ≠ (x : EReal) then (x : EReal) else max (x : EReal) 0
    + Ideal.log1p (Ideal.exp (-(FloatOps.absf (F := Ideal) (φ := .f32) (x : EReal))))) = ((sp x : ℝ) : EReal) := by
  rw [if_neg (not_not.mpr rfl), ← sp_coe]
  refine congrArg (fun a => max (x : EReal) 0 + Ideal.log1p (Ideal.exp a)) ?_
  rw [coe_neg']
  rfl

/-- A number whose absolute value lies below infinity is real. -/
theorem real_of (x : EReal) (h : BitVec.ofBool (decide (FloatOps.absf (F := Ideal) (φ := .f32) x < Ideal.ofBits .f32 0x7F800000#32)) = 1#1) :
    x = ((x.toReal : ℝ) : EReal) := by
  rw [f32_inf] at h
  induction x with
  | coe r => rfl
  | bot => exact absurd h (by rw [decide_eq_false (by rw [show FloatOps.absf (F := Ideal) (φ := .f32) (⊥ : EReal) = ⊤ from rfl]; exact lt_irrefl _)]; decide)
  | top => exact absurd h (by rw [decide_eq_false (by rw [show FloatOps.absf (F := Ideal) (φ := .f32) (⊤ : EReal) = ⊤ from rfl]; exact lt_irrefl _)]; decide)

theorem andi_one {a b : BitVec 1} : IntOp.andi a b = 1#1 ↔ a = 1#1 ∧ b = 1#1 := by
  revert a b; decide

end Cert.Attn
-- ==== Proof.Attn.Tile.lean ====
/- One trip's computation of one head, read at an index when every operand is a real number: the tile of each quantity
   is the corresponding block of the row functions of `Math.lean`. -/
module

public import proofs.«01_k».proof.Proof.Attn.Step
public import proofs.«01_k».proof.Proof.Attn.Real

@[expose] public section

set_option maxRecDepth 16384

noncomputable section

namespace Cert.KAttnIdeal.Attn

open Cert.KAttnIdeal Cert.KAttnIdeal.Gen Cert.Attn
open Idealize.ShloMosaic Idealize.ShloMosaic.TcCoe

abbrev Tile := Fin 128 → Fin 128 → ℝ

section pure
variable {φ ψ : FTy} (q : FVec Ideal S128x128 .bf16) (k : FVec Ideal S128x128 .bf16) (qr kr : Tile)
  (hq : ∀ a b : Fin 128, q (ix2 a b) = ((qr a b : ℝ) : EReal)) (hk : ∀ a b : Fin 128, k (ix2 a b) = ((kr a b : ℝ) : EReal))

include hq hk in
theorem pay43 (a b : Fin 128) : k0_pay43 (F := Ideal) q k (ix2 a b) = (((∑ l, qr a l * kr b l) * (1 / 8) : ℝ) : EReal) := by
  pointwise [k0_pay43]
  simp only [f32_eighth, hq, hk, ← EReal.coe_mul, coe_sum, zero_add]

include hq hk in
theorem pay68 (a b : Fin 128) : k0_pay68 (F := Ideal) q k (ix2 a b) = ((∑ l, qr a l * kr b l : ℝ) : EReal) := by
  pointwise [k0_pay68]
  simp only [hq, hk, ← EReal.coe_mul, coe_sum, zero_add]

variable (z az : FVec Ideal S128x128 .f32) (zr : Tile) (hz : ∀ a b : Fin 128, z (ix2 a b) = ((zr a b : ℝ) : EReal))
  (haz : ∀ a b : Fin 128, az (ix2 a b) = ((|zr a b| : ℝ) : EReal))

include hq hk in
theorem pay44 (a b : Fin 128) : k0_pay44 (F := Ideal) q k (ix2 a b) = ((|(∑ l, qr a l * kr b l) * (1 / 8)| : ℝ) : EReal) := by
  have h := pay43 q k qr kr hq hk a b
  pointwise [k0_pay44, h]
  rfl

include hz haz in
theorem pay46 (a b : Fin 128) : k0_pay46 (F := Ideal) z az (Scalar.ofBits .f32 0x00000000#32) (ix2 a b) = ((-(sp (zr a b)) : ℝ) : EReal) := by
  pointwise [k0_pay46, k0_pay45, hz, haz]
  rw [sp_coe, coe_neg']

include hz haz in
theorem pay47 (a b : Fin 128) : k0_pay47 (F := Ideal) z az (Scalar.ofBits .f32 0x00000000#32) (ix2 a b) = ((-(sp (-(zr a b))) : ℝ) : EReal) := by
  pointwise [k0_pay47, k0_pay45, hz, haz]
  rw [coe_neg', ← abs_neg, sp_coe, coe_neg']

variable (v : IVec S128x128 1) (vr : Fin 128 → Fin 128 → Prop) [∀ a b, Decidable (vr a b)]
  (hv : ∀ a b : Fin 128, v (ix2 a b) = 1#1 ↔ vr a b)

include hz haz hv in
theorem pay48 (a b : Fin 128) : k0_pay48 (F := Ideal) v z az (Scalar.ofBits .f32 0x00000000#32) (ix2 a b)
    = (((if vr a b then -(sp (zr a b)) else 0 : ℝ)) : EReal) := by
  pointwise [k0_pay48, k0_pay46, k0_pay45, hz, haz]
  rw [sp_coe, coe_neg', sel_coe0 _ _ (hv a b)]

variable (l : FVec Ideal S128x128 .f32) (tl : FVec Ideal S128x128 .bf16) (lr tr : Tile)
  (hl : ∀ a b : Fin 128, l (ix2 a b) = ((lr a b : ℝ) : EReal)) (htl : ∀ a b : Fin 128, tl (ix2 a b) = ((tr a b : ℝ) : EReal))

include hl htl in
theorem pay72 (a b : Fin 128) : k0_pay72 (F := Ideal) tl l (ix2 a b) = ((∑ c, lr a c * tr c b : ℝ) : EReal) := by
  pointwise [k0_pay72]
  simp only [hl, htl, ← EReal.coe_mul, ← EReal.coe_sub, coe_sum, zero_add, sub_self, zero_mul, Finset.sum_const_zero, EReal.coe_zero, add_zero]

include hl htl in
theorem pay88 (a b : Fin 128) : k0_pay88 (F := Ideal) tl l (ix2 a b) = ((∑ c, lr a c * tr c b : ℝ) : EReal) := by
  pointwise [k0_pay88]
  simp only [hl, htl, ← EReal.coe_mul, ← EReal.coe_sub, coe_sum, zero_add, sub_self, zero_mul, Finset.sum_const_zero, EReal.coe_zero, add_zero]

variable (ru : Vec Ideal S1x128x1 .f32) (rr : Fin 128 → ℝ) (hr : ∀ a : Fin 128, ru (ix3 0 a 0) = ((rr a : ℝ) : EReal))

include hl hr in
theorem pay63 (a : Fin 128) : k0_pay63 (F := Ideal) l ru (ix2 a 0) = ((rr a + ∑ b, lr a b : ℝ) : EReal) := by
  pointwise [k0_pay63, k0_pay59]
  simp only [hl, hr, coe_sum, ← EReal.coe_add]

include hl hr in
theorem pay109 (a : Fin 128) : k0_pay109 (F := Ideal) l ru (ix3 0 a 0) = ((rr a + ∑ b, lr a b : ℝ) : EReal) := by
  pointwise [k0_pay109]
  simp only [hl, hr, coe_sum, ← EReal.coe_add]

variable (ls tt dp : FVec Ideal S128x128 .f32) (lsr ttr dpr : Tile)
  (hls : ∀ a b : Fin 128, ls (ix2 a b) = ((lsr a b : ℝ) : EReal)) (htt : ∀ a b : Fin 128, tt (ix2 a b) = ((ttr a b : ℝ) : EReal))
  (hdp : ∀ a b : Fin 128, dp (ix2 a b) = ((dpr a b : ℝ) : EReal))

include hv hls htt hr in
theorem pay76 (a b : Fin 128) : k0_pay76 (F := Ideal) v ls (k0_pay59 ru) tt (ix2 a b)
    = (((if vr a b then Real.exp (lsr a b + rr a + ttr a b) else 0 : ℝ)) : EReal) := by
  pointwise [k0_pay76, k0_pay59, hr, hls, htt]
  rw [← EReal.coe_add, ← EReal.coe_add, Ideal.exp_coe, sel_coe0 _ _ (hv a b)]

include hv hls htt hr hdp in
theorem pay80 (a b : Fin 128) : k0_pay80 (F := Ideal) v ls (k0_pay59 ru) dp tt (ix2 a b)
    = (((if vr a b then Real.exp (lsr a b + rr a + ttr a b) else 0) * dpr a b : ℝ) : EReal) := by
  have h := pay76 v vr hv ru rr hr ls tt lsr ttr hls htt a b
  pointwise [k0_pay80, h, hdp]
  rw [← EReal.coe_mul]

variable (dt : FVec Ideal S128x1 .f32) (dtr : Fin 128 → ℝ) (hdt : ∀ a : Fin 128, dt (ix2 a 0) = ((dtr a : ℝ) : EReal))

include hv hls hz hl hdp hr hdt in
theorem pay90 (a b : Fin 128) : k0_pay90 (F := Ideal) dt v z ls l dp ru (ix2 a b)
    = (((lr a b * Real.exp (zr a b) - (if vr a b then dtr a - rr a - dpr a b else 0) * Real.exp (lsr a b)) * (1 / 8) : ℝ) : EReal) := by
  pointwise [k0_pay90, hr, hls, hz, hl, hdp, hdt]
  simp only [Ideal.exp_coe, f32_eighth, ← EReal.coe_sub, ← EReal.coe_mul, sel_coe0 _ _ (hv a b), ite_mul, zero_mul]

include hl hq in
theorem pay92 (a b : Fin 128) (s : FVec Ideal S128x128 .bf16) (sr : Tile) (hs : ∀ a b : Fin 128, s (ix2 a b) = ((sr a b : ℝ) : EReal)) :
    k0_pay92 (F := Ideal) q s l (ix2 a b) = ((lr a b + ∑ c, sr c a * qr c b : ℝ) : EReal) := by
  pointwise [k0_pay92]
  simp only [hl, hq, hs, ← EReal.coe_mul, coe_sum, ← EReal.coe_add, zero_add]

include hl hq hdp in
theorem pay93 (a b : Fin 128) :
    k0_pay93 (F := Ideal) q dp l (ix2 a b) = ((lr a b + ∑ c, dpr c a * qr c b : ℝ) : EReal) := by
  pointwise [k0_pay93]
  simp only [hl, hq, hdp, ← EReal.coe_mul, coe_sum, ← EReal.coe_add, zero_add]

include hq hk in
theorem pay106 (a b : Fin 128) (o : Vec Ideal S1x128x128 .f32) (x : ℝ) (ho : o (ix3 0 a b) = (x : EReal)) :
    k0_pay106 (F := Ideal) q (k0_pay105 o) k (ix3 0 a b) = ((x + ∑ c, qr a c * kr c b : ℝ) : EReal) := by
  pointwise [k0_pay106, k0_pay105]
  simp only [ho, hq, hk, ← EReal.coe_mul, coe_sum, ← EReal.coe_add, zero_add]

theorem pay110 (v : FVec Ideal S128x1 .f32) (a : Fin 128) : k0_pay110 (F := Ideal) v (ix3 0 a 0) = v (ix2 a 0) := by
  pointwise [k0_pay110]

/-- The test of the loop: some exponential of a real number is positive. -/
theorem pay67 (l1 l2 : FVec Ideal S128x128 .f32) (r1 r2 s1 s2 : FVec Ideal S128x1 .f32)
    (s1r : Fin 128 → ℝ) (hs1 : ∀ a : Fin 128, s1 (ix2 a 0) = ((s1r a : ℝ) : EReal)) :
    Scalar.cmpf .ogt (k0_pay67 (F := Ideal) l1 l2 r1 r2 s1 s2) (Scalar.ofBits .f32 0x00000000#32) = 1#1 := by
  pointwise [k0_pay67, k0_pay65, k0_pay66, hs1]
  rw [decide_eq_true]
  · rfl
  refine (Finset.lt_fold_max _).mpr (Or.inr ⟨((0 : Fin 128), (0 : Fin 1)), Finset.mem_univ _, exp_pos _ fun h => ?_⟩)
  exact absurd (le_bot_iff.mp (h ▸ (le_max_left _ _).trans ((le_max_left _ _).trans (le_max_left _ _)))) (EReal.coe_ne_bot (s1r 0))

end pure
end Cert.KAttnIdeal.Attn
-- ==== Proof.Attn.Trips.lean ====
/- The loop over the key blocks when every operand is a real number: after the blocks from `k` on, the carried buffers
   hold the sums of the row functions of `Math.lean` over the keys from block `k` on. -/
module

public import proofs.«01_k».proof.Proof.Attn.Tile

@[expose] public section

set_option maxRecDepth 16384

noncomputable section

namespace Cert.KAttnIdeal.Attn

open Cert.KAttnIdeal Cert.KAttnIdeal.Gen Cert.Attn
open Idealize.ShloMosaic Idealize.ShloMosaic.TcCoe

/-- Lane `l` of pair `p` in a group's 256 columns. -/
def lane (p : Fin 2) (l : Fin 128) : Fin 256 := ⟨128 * p.val + l.val, by omega⟩

section loop

variable (m : Fin 64) (qr dar : Fin 4 → Tile) (kr vr : Fin 8192 → Fin 256 → ℝ)

/-- The scores of the rows of query block `m`, -/
def Z (h : Fin 4) (a : Fin 128) (s : Fin 8192) : ℝ := (∑ l, qr h a l * kr s (lane (pr h) l)) * (1 / 8)
/-- and the gradients of their weights. -/
def P (h : Fin 4) (a : Fin 128) (s : Fin 8192) : ℝ := ∑ l, dar h a l * vr s (lane (pr h) l)

abbrev kp (h : Fin 4) (a : Fin 128) : Fin 8192 → ℝ := keep (Z qr kr h a) (blk m a)
abbrev wt (h : Fin 4) (a : Fin 128) : Fin 8192 → ℝ := weight (Z qr kr h a) (blk m a)
abbrev gl (h : Fin 4) (a : Fin 128) : Fin 8192 → ℝ := glog (Z qr kr h a) (P dar vr h a) (blk m a)
abbrev gs (h : Fin 4) (a : Fin 128) : Fin 8192 → ℝ := gscore (Z qr kr h a) (P dar vr h a) (blk m a)

/-- What a point fixes, in real numbers. -/
structure Fixed (E : Env Ideal) (kc vc : Vec Ideal S8192x256 .bf16) : Prop where
  vd : ∀ n : Fin 64, n ≤ m → ∀ a b : Fin 128, vd E n (ix2 a b) = 1#1 ↔ blk n b < blk m a
  q : ∀ h, ∀ a b : Fin 128, E.q h (ix2 a b) = ((qr h a b : ℝ) : EReal)
  da : ∀ h, ∀ a b : Fin 128, E.da h (ix2 a b) = ((dar h a b : ℝ) : EReal)
  dt : ∀ h, ∀ a : Fin 128, E.dt h (ix2 a 0) = ((∑ s, gl m qr dar kr vr h a s : ℝ) : EReal)
  tl : ∀ a b : Fin 128, E.tl (ix2 a b) = (((if b < a then 1 else 0 : ℝ)) : EReal)
  gf : ∀ a b : Fin 128, E.gf (ix2 a b) = (((if b ≤ a then 1 else 0 : ℝ)) : EReal)
  kc : ∀ (s : Fin 8192) (c : Fin 256), kc (ix2 s c) = ((kr s c : ℝ) : EReal)
  vc : ∀ (s : Fin 8192) (c : Fin 256), vc (ix2 s c) = ((vr s c : ℝ) : EReal)

/-- What the loop has done once the blocks from `k` on are through: `dk0` and `dv0` are what the two gradients held. -/
structure Done (dk0 dv0 : Fin 8192 → Fin 256 → ℝ) (k : ℕ) (s : St Ideal) : Prop where
  run : ∀ h, ∀ a : Fin 128, s.run (ix3 h a 0) = ((since (kp m qr kr h a) k : ℝ) : EReal)
  rung : ∀ h, ∀ a : Fin 128, s.rung (ix3 h a 0) = ((since (gl m qr dar kr vr h a) k : ℝ) : EReal)
  dq : ∀ h, ∀ a l : Fin 128, s.dq (ix3 h a l) = ((since (fun s => gs m qr dar kr vr h a s * kr s (lane (pr h) l)) k : ℝ) : EReal)
  dk : ∀ (p : Fin 2) (n : Fin 64) (b l : Fin 128), s.dk (ix2 (blk n b) (lane p l)) = ((dk0 (blk n b) (lane p l) + (if k ≤ n.val then
    (∑ a, gs m qr dar kr vr (![0, 2] p) a (blk n b) * qr (![0, 2] p) a l) + ∑ a, gs m qr dar kr vr (![1, 3] p) a (blk n b) * qr (![1, 3] p) a l else 0) : ℝ) : EReal)
  dv : ∀ (p : Fin 2) (n : Fin 64) (b l : Fin 128), s.dv (ix2 (blk n b) (lane p l)) = ((dv0 (blk n b) (lane p l) + (if k ≤ n.val then
    (∑ a, wt m qr kr (![0, 2] p) a (blk n b) * dar (![0, 2] p) a l) + ∑ a, wt m qr kr (![1, 3] p) a (blk n b) * dar (![1, 3] p) a l else 0) : ℝ) : EReal)

variable {m qr dar kr vr} {E : Env Ideal} {kc vc : Vec Ideal S8192x256 .bf16} (H : Fixed m qr dar kr vr E kc vc)
  {n : Fin 64} (hn : n ≤ m)

section head
variable {run rung : Fin 4 → Vec Ideal S1x128x1 .f32} (h : Fin 4)
  (hr : ∀ h, ∀ a : Fin 128, run h (ix3 0 a 0) = ((since (kp m qr kr h a) (n.val + 1) : ℝ) : EReal))
  (hrg : ∀ h, ∀ a : Fin 128, rung h (ix3 0 a 0) = ((since (gl m qr dar kr vr h a) (n.val + 1) : ℝ) : EReal))

include H in
theorem hz_at (a b : Fin 128) : hz E (rd kc n) h (ix2 a b) = ((Z qr kr h a (blk n b) : ℝ) : EReal) :=
  pay43 (E.q h) (rd kc n (pr h)) (qr h) (fun b l => kr (blk n b) (lane (pr h) l)) (H.q h) (fun b l => H.kc (blk n b) (lane (pr h) l)) a b

include H in
theorem haz_at (a b : Fin 128) : k0_pay44 (F := Ideal) (E.q h) (rd kc n (pr h)) (ix2 a b) = ((|Z qr kr h a (blk n b)| : ℝ) : EReal) :=
  pay44 (E.q h) (rd kc n (pr h)) (qr h) (fun b l => kr (blk n b) (lane (pr h) l)) (H.q h) (fun b l => H.kc (blk n b) (lane (pr h) l)) a b

include H in
theorem hdp_at (a b : Fin 128) : hdp E (rd vc n) h (ix2 a b) = ((P dar vr h a (blk n b) : ℝ) : EReal) :=
  pay68 (E.da h) (rd vc n (pr h)) (dar h) (fun b l => vr (blk n b) (lane (pr h) l)) (H.da h) (fun b l => H.vc (blk n b) (lane (pr h) l)) a b

include H in
theorem hlkr_at (a b : Fin 128) : hlkr E (rd kc n) h (ix2 a b) = ((-(sp (Z qr kr h a (blk n b))) : ℝ) : EReal) :=
  pay46 _ _ (fun a b => Z qr kr h a (blk n b)) (hz_at H h) (haz_at H h) a b

include H in
theorem hls_at (a b : Fin 128) : hls E (rd kc n) h (ix2 a b) = ((-(sp (-(Z qr kr h a (blk n b)))) : ℝ) : EReal) :=
  pay47 _ _ (fun a b => Z qr kr h a (blk n b)) (hz_at H h) (haz_at H h) a b

include H hn in
theorem hlk_at (a b : Fin 128) : hlk E n (rd kc n) h (ix2 a b) = ((kp m qr kr h a (blk n b) : ℝ) : EReal) :=
  pay48 _ _ (fun a b => Z qr kr h a (blk n b)) (hz_at H h) (haz_at H h) (vd E n) (fun a b => blk n b < blk m a) (H.vd n hn) a b

include H hn hr in
theorem hrun_at (a : Fin 128) : hrun E n (rd kc n) run h (ix2 a 0) = ((since (kp m qr kr h a) n.val : ℝ) : EReal) := by
  rw [since_step]
  exact pay63 _ (fun a b => kp m qr kr h a (blk n b)) (hlk_at H hn h) (run h) _ (hr h) a

include H hn in
theorem htail_at (a b : Fin 128) : htail E n (rd kc n) h (ix2 a b)
    = ((∑ c, kp m qr kr h a (blk n c) * (if b < c then 1 else 0) : ℝ) : EReal) :=
  pay72 _ E.tl (fun a b => kp m qr kr h a (blk n b)) (fun c b => if b < c then 1 else 0) (hlk_at H hn h) H.tl a b

/-- The weight of a key of the block, its three logs added in the loop's order. -/
theorem weight_blk (a b : Fin 128) : (if blk n b < blk m a then Real.exp (-(sp (-(Z qr kr h a (blk n b)))) + since (kp m qr kr h a) (n.val + 1)
      + ∑ c, kp m qr kr h a (blk n c) * (if b < c then 1 else 0)) else 0) = wt m qr kr h a (blk n b) := by
  rw [wt, weight, Cert.Attn.tail, sum_after, add_assoc]

include H hn hr in
theorem hw_at (a b : Fin 128) : hw E n (rd kc n) run h (ix2 a b) = ((wt m qr kr h a (blk n b) : ℝ) : EReal) := by
  rw [← weight_blk]
  exact pay76 (vd E n) (fun a b => blk n b < blk m a) (H.vd n hn) (run h) _ (hr h) _ _ _ _ (hls_at H h) (htail_at H hn h) a b

include H hn hr in
theorem hg_at (a b : Fin 128) : hg E n (rd kc n) (rd vc n) run h (ix2 a b) = ((gl m qr dar kr vr h a (blk n b) : ℝ) : EReal) := by
  rw [gl, glog]
  have e := pay80 (vd E n) (fun a b => blk n b < blk m a) (H.vd n hn) (run h) _ (hr h) _ _ _ _ _ _ (hls_at H (n := n) h) (htail_at H hn h) (hdp_at H (n := n) h) a b
  rw [weight_blk] at e
  exact e

include H hn hr in
theorem hgf_at (a b : Fin 128) : hgf E n (rd kc n) (rd vc n) run h (ix2 a b)
    = ((∑ c, gl m qr dar kr vr h a (blk n c) * (if b ≤ c then 1 else 0) : ℝ) : EReal) :=
  pay88 _ E.gf (fun a b => gl m qr dar kr vr h a (blk n b)) (fun c b => if b ≤ c then 1 else 0) (hg_at H hn h hr) H.gf a b

include H hn hr hrg in
theorem hdz_at (a b : Fin 128) : hdz E n (rd kc n) (rd vc n) run rung h (ix2 a b) = ((gs m qr dar kr vr h a (blk n b) : ℝ) : EReal) := by
  rw [gs, gscore, gkeep, sum_before]
  exact pay90 _ _ (hlkr_at H h) (vd E n) (fun a b => blk n b < blk m a) (H.vd n hn) _ _ (hg_at H hn h hr) (rung h) _ (hrg h) _ _ _ _ (hls_at H h)
    (hgf_at H hn h hr) (E.dt h) _ (H.dt h) a b

end head

section trip

theorem rd_at {V : Type} (f : S8192x256.Idx → V) (p : Fin 2) (a l : Fin 128) : rd f n p (ix2 a l) = f (ix2 (blk n a) (lane p l)) := rfl

theorem put_at {V : Type} (f : S8192x256.Idx → V) (w : Fin 2 → S128x128.Idx → V) (p : Fin 2) (k : Fin 64) (b l : Fin 128) :
    put f n w (ix2 (blk k b) (lane p l)) = if k = n then w p (ix2 b l) else f (ix2 (blk k b) (lane p l)) := by
  have e1 : (128 * k.val + b.val) / 128 = k.val := by omega
  have e2 : (⟨(128 * k.val + b.val) % 128, Nat.mod_lt _ (by decide)⟩ : Fin 128) = b := Fin.ext (by show _ % 128 = _; omega)
  have e3 : (⟨(128 * p.val + l.val) / 128, by omega⟩ : Fin 2) = p := Fin.ext (by show _ / 128 = _; omega)
  have e4 : (⟨(128 * p.val + l.val) % 128, Nat.mod_lt _ (by decide)⟩ : Fin 128) = l := Fin.ext (by show _ % 128 = _; omega)
  show (if (128 * k.val + b.val) / 128 = n.val then w ⟨(128 * p.val + l.val) / 128, _⟩
    (ix2 (⟨(128 * k.val + b.val) % 128, _⟩ : Fin 128) (⟨(128 * p.val + l.val) % 128, _⟩ : Fin 128)) else _) = _
  rw [e1, e2, e3, e4]
  simp only [Fin.ext_iff]

variable {dk0 dv0 : Fin 8192 → Fin 256 → ℝ} {s : St Ideal}

include H hn in
/-- One trip. -/
theorem Done.step (hs : Done m qr dar kr vr dk0 dv0 (n.val + 1) s) : Done m qr dar kr vr dk0 dv0 n.val (step E kc vc n s) where
  run h a := (pay110 _ a).trans (hrun_at H hn h (run := row s.run) hs.run a)
  rung h a := by
    rw [since_step]
    exact pay109 _ (fun a b => gl m qr dar kr vr h a (blk n b)) (hg_at H hn h (run := row s.run) hs.run) (row s.rung h) _ (hs.rung h) a
  dq h a l := by
    rw [since_step]
    exact pay106 _ (rd kc n (pr h)) _ (fun b l => kr (blk n b) (lane (pr h) l)) (hdz_at H hn h (run := row s.run) (rung := row s.rung) hs.run hs.rung) (fun b l => H.kc (blk n b) (lane (pr h) l)) a l
      (rowq s.dq h) _ (hs.dq h a l)
  dk p k b l := by
    refine (put_at s.dk (fun p => adk E n (rd kc n) (rd vc n) (row s.run) (row s.rung) (![1, 3] p) (adk E n (rd kc n) (rd vc n) (row s.run) (row s.rung) (![0, 2] p) (rd s.dk n p))) p k b l).trans ?_
    have hd := fun h => hdz_at H hn h (run := row s.run) (rung := row s.rung) hs.run hs.rung
    by_cases hk : k = n
    · subst hk
      rw [if_pos rfl, if_pos (le_refl _)]
      have e0 : ∀ b l : Fin 128, rd s.dk k p (ix2 b l) = ((dk0 (blk k b) (lane p l) : ℝ) : EReal) := fun b l =>
        (hs.dk p k b l).trans (congrArg _ (by rw [if_neg (by omega), add_zero]))
      have e1 := fun b l => pay92 (E.q (![0, 2] p)) (qr (![0, 2] p)) (H.q _) (rd s.dk k p) (fun b l => dk0 (blk k b) (lane p l)) e0 b l _ _ (hd (![0, 2] p))
      have e2 := pay92 (E.q (![1, 3] p)) (qr (![1, 3] p)) (H.q _) _ _ e1 b l _ _ (hd (![1, 3] p))
      refine e2.trans (congrArg _ ?_)
      rw [add_assoc]
    · rw [if_neg hk]
      refine (hs.dk p k b l).trans ?_
      have : (n.val + 1 ≤ k.val) ↔ n.val ≤ k.val := by
        have : k.val ≠ n.val := fun h => hk (Fin.ext h)
        omega
      simp only [this]
  dv p k b l := by
    refine (put_at s.dv (fun p => adv E n (rd kc n) (row s.run) (![1, 3] p) (adv E n (rd kc n) (row s.run) (![0, 2] p) (rd s.dv n p))) p k b l).trans ?_
    have hd := fun h => hw_at H hn h (run := row s.run) hs.run
    by_cases hk : k = n
    · subst hk
      rw [if_pos rfl, if_pos (le_refl _)]
      have e0 : ∀ b l : Fin 128, rd s.dv k p (ix2 b l) = ((dv0 (blk k b) (lane p l) : ℝ) : EReal) := fun b l =>
        (hs.dv p k b l).trans (congrArg _ (by rw [if_neg (by omega), add_zero]))
      have e1 := fun b l => pay93 (E.da (![0, 2] p)) (dar (![0, 2] p)) (H.da _) (rd s.dv k p) (fun b l => dv0 (blk k b) (lane p l)) e0 _ _ (hd (![0, 2] p)) b l
      have e2 := pay93 (E.da (![1, 3] p)) (dar (![1, 3] p)) (H.da _) _ _ e1 _ _ (hd (![1, 3] p)) b l
      refine e2.trans (congrArg _ ?_)
      rw [add_assoc]
    · rw [if_neg hk]
      refine (hs.dv p k b l).trans ?_
      have : (n.val + 1 ≤ k.val) ↔ n.val ≤ k.val := by
        have : k.val ≠ n.val := fun h => hk (Fin.ext h)
        omega
      simp only [this]

include H hn in
/-- The loop never leaves early: what is left to the earlier keys is an exponential of a real number. -/
theorem Done.goes (hs : Done m qr dar kr vr dk0 dv0 (n.val + 1) s) : goes E kc n s = 1#1 :=
  pay67 _ _ _ _ _ _ _ (hrun_at H hn 0 (run := row s.run) hs.run)

include H in
/-- The whole loop. -/
theorem Done.iter : ∀ (k : ℕ) (hk : k ≤ 64), k ≤ m.val + 1 → ∀ s, Done m qr dar kr vr dk0 dv0 k s →
    Done m qr dar kr vr dk0 dv0 0 (iter E kc vc k hk 1#1 s)
  | 0, _, _, _, hs => hs
  | k + 1, hk, hm, s, hs => by
    have hle : (⟨k, hk⟩ : Fin 64) ≤ m := Fin.le_def.mpr (by show k ≤ m.val; omega)
    rw [Attn.iter, if_pos rfl, Done.goes H (n := ⟨k, hk⟩) hle hs]
    exact Done.iter k (by omega) (by omega) _ (Done.step H (n := ⟨k, hk⟩) hle hs)

end trip

end loop

end Cert.KAttnIdeal.Attn
-- ==== Proof.Attn.Reads.lean ====
/- What the loop's loads read, and what its stores leave, in terms of tiles and rows. -/
module

public import proofs.«01_k».proof.Proof.Attn.Step
public import Idealize.ShloMosaic.Lib.Exec
public import Idealize.ShloMosaic.Lib.WholeRead
public import Idealize.ShloMosaic.Lib.WritesUnit

@[expose] public section

noncomputable section

namespace Cert.KAttnIdeal.Attn

open Cert.KAttnIdeal Cert.KAttnIdeal.Gen
open Idealize.ShloMosaic

variable {F : FTy → Type} [FloatOps F]

theorem chk : ∀ n : Fin 64, k0_chk1 (BitVec.ofNat 32 n.val) := by decide +kernel

theorem off2_eq : ∀ n : Fin 64, k0_off2 (BitVec.ofNat 32 n.val) = ![128 * n.val, 0] := by decide +kernel
theorem off3_eq : ∀ n : Fin 64, k0_off3 (BitVec.ofNat 32 n.val) = ![128 * n.val, 128] := by decide +kernel
instance (n : Fin 64) : ClosedOff (k0_off2 (BitVec.ofNat 32 n.val)) := ⟨![128 * n.val, 0], off2_eq n⟩
instance (n : Fin 64) : ClosedOff (k0_off3 (BitVec.ofNat 32 n.val)) := ⟨![128 * n.val, 128], off3_eq n⟩

/-- A load of a tile reads that tile, -/
theorem readAt_tile {e : EltTy} (m : Memref sig .tc .vmem S8192x256 e) (h : m.IsWhole) (f : Vec F S8192x256 e) (n : Fin 64) (p : Fin 2)
    (off : Fin 2 → ℕ) (ho : off = ![128 * n.val, 128 * p.val]) (inb) :
    m.view.readAt (Elt F) (Rect.unit (s := S8192x256) off S128x128.size inb).toLoadRect (h.unread f) = rd f n p := by
  subst ho
  funext y
  refine (Memref.IsWhole.readAt_unread h f _ y).trans (congrArg f (funext fun a => Fin.ext ?_))
  match a with
  | 0 => exact congrArg (128 * n.val + ·) (Nat.one_mul _)
  | 1 => exact congrArg (128 * p.val + ·) (Nat.one_mul _)

/-- a load of a row that row. -/
theorem readAt_row {e : EltTy} (m : Memref sig .tc .vmem S4x128x1 e) (hm : m.IsWhole) (f : Vec F S4x128x1 e) (h : Fin 4)
    (inb) : m.view.readAt (Elt F) (Rect.unit (s := S4x128x1) ![h.val, 0, 0] S1x128x1.size inb).toLoadRect (hm.unread f) = row f h := by
  funext y
  refine (Memref.IsWhole.readAt_unread hm f _ y).trans (congrArg f (funext fun a => Fin.ext ?_))
  match a with
  | 0 => have := (y 0).isLt; change (y 0).val < 1 at this; show h.val + 1 * (y 0).val = h.val; omega
  | 1 => show 0 + 1 * (y 1).val = (y 1).val; omega
  | 2 => show 0 + 1 * (y 2).val = (y 2).val; omega

theorem readAt_rowq {e : EltTy} (m : Memref sig .tc .vmem S4x128x128 e) (hm : m.IsWhole) (f : Vec F S4x128x128 e) (h : Fin 4)
    (inb) : m.view.readAt (Elt F) (Rect.unit (s := S4x128x128) ![h.val, 0, 0] S1x128x128.size inb).toLoadRect (hm.unread f) = rowq f h := by
  funext y
  refine (Memref.IsWhole.readAt_unread hm f _ y).trans (congrArg f (funext fun a => Fin.ext ?_))
  match a with
  | 0 => have := (y 0).isLt; change (y 0).val < 1 at this; show h.val + 1 * (y 0).val = h.val; omega
  | 1 => show 0 + 1 * (y 1).val = (y 1).val; omega
  | 2 => show 0 + 1 * (y 2).val = (y 2).val; omega

section rows
variable {e : EltTy} {D : ℕ} (v : View sig .tc .vmem (⟨3, ![4, 128, D]⟩ : Shape) e) (f : v.ty.Contents (Elt F))

/-- In the newest store's row its payload is read, -/
theorem rows_hit (h : ℕ) (i : ∀ a, (![h, 0, 0] : Fin 3 → ℕ) a + (![1, 128, D] : Fin 3 → ℕ) a ≤ (![4, 128, D] : Fin 3 → ℕ) a)
    (P : (⟨3, ![1, 128, D]⟩ : Shape).Idx → Elt F e) (L) (y : (⟨3, ![4, 128, D]⟩ : Shape).Idx) (hy : (y 0).val = h) :
    v.read (Elt F) (v.writes (Elt F) f (⟨Rect.unit (s := ⟨3, ![4, 128, D]⟩) ![h, 0, 0] ![1, 128, D] i, P⟩ :: L)) y
      = P (ix3 (0 : Fin 1) (y 1 : Fin 128) (y 2 : Fin D)) :=
  View.read_writes_cons_unit_of_mem v f i P L y (ix3 (0 : Fin 1) (y 1 : Fin 128) (y 2 : Fin D)) rfl fun a => by
    match a with
    | 0 => exact hy
    | 1 => exact (Nat.zero_add _).symm
    | 2 => exact (Nat.zero_add _).symm

/-- in another row what the stores before it left. -/
theorem rows_miss (h : ℕ) (i : ∀ a, (![h, 0, 0] : Fin 3 → ℕ) a + (![1, 128, D] : Fin 3 → ℕ) a ≤ (![4, 128, D] : Fin 3 → ℕ) a)
    (P : (⟨3, ![1, 128, D]⟩ : Shape).Idx → Elt F e) (L) (y : (⟨3, ![4, 128, D]⟩ : Shape).Idx) (hy : (y 0).val ≠ h) :
    v.read (Elt F) (v.writes (Elt F) f (⟨Rect.unit (s := ⟨3, ![4, 128, D]⟩) ![h, 0, 0] ![1, 128, D] i, P⟩ :: L)) y
      = v.read (Elt F) (v.writes (Elt F) f L) y :=
  View.read_writes_cons_unit_of_not_mem v f i P L y rfl 0 (by show (y 0).val < h ∨ h + 1 ≤ (y 0).val; omega)

/-- The stores of the four rows leave the buffer made of them. -/
theorem writes_four (w : Fin 4 → (⟨3, ![1, 128, D]⟩ : Shape).Idx → Elt F e) (i0 i1 i2 i3) :
    v.read (Elt F) (v.writes (Elt F) f
      [⟨Rect.unit (s := ⟨3, ![4, 128, D]⟩) ![3, 0, 0] ![1, 128, D] i3, w 3⟩, ⟨Rect.unit (s := ⟨3, ![4, 128, D]⟩) ![2, 0, 0] ![1, 128, D] i2, w 2⟩,
       ⟨Rect.unit (s := ⟨3, ![4, 128, D]⟩) ![1, 0, 0] ![1, 128, D] i1, w 1⟩, ⟨Rect.unit (s := ⟨3, ![4, 128, D]⟩) ![0, 0, 0] ![1, 128, D] i0, w 0⟩])
      = fun y => w (y 0 : Fin 4) (ix3 (0 : Fin 1) (y 1 : Fin 128) (y 2 : Fin D)) := by
  funext y
  have key : ∀ h : Fin 4, (y 0 : Fin 4) = h → w (y 0 : Fin 4) = w h := fun h e => congrArg w e
  have h4 : (y 0 : Fin 4).val < 4 := (y 0 : Fin 4).isLt
  show _ = w (y 0 : Fin 4) _
  by_cases h3 : (y 0).val = 3
  · rw [rows_hit v f 3 i3 _ _ y h3, key 3 (Fin.ext h3)]
  rw [rows_miss v f 3 i3 _ _ y h3]
  by_cases h2 : (y 0).val = 2
  · rw [rows_hit v f 2 i2 _ _ y h2, key 2 (Fin.ext h2)]
  rw [rows_miss v f 2 i2 _ _ y h2]
  by_cases h1 : (y 0).val = 1
  · rw [rows_hit v f 1 i1 _ _ y h1, key 1 (Fin.ext h1)]
  rw [rows_miss v f 1 i1 _ _ y h1]
  have h0 : (y 0).val = 0 := by change (y 0 : Fin 4).val = 0; change (y 0 : Fin 4).val ≠ 3 at h3; change (y 0 : Fin 4).val ≠ 2 at h2; change (y 0 : Fin 4).val ≠ 1 at h1; omega
  rw [rows_hit v f 0 i0 _ _ y h0, key 0 (Fin.ext h0)]
end rows

/-- The stores of two tiles of block row `n`, each twice, leave the buffer with the later two put in. -/
theorem writes_tiles {e : EltTy} (m : Memref sig .tc .vmem S8192x256 e) (hm : m.IsWhole) (f : Vec F S8192x256 e) (n : Fin 64)
    (o2 o3 : Fin 2 → ℕ) (h2 : o2 = ![128 * n.val, 0]) (h3 : o3 = ![128 * n.val, 128]) (j2 j2' j3 j3')
    (P0 P1 P2 P3 : Vec F S128x128 e) (w : Fin 2 → Vec F S128x128 e) (w0 : w 0 = P1) (w1 : w 1 = P3) :
    m.view.read (Elt F) (m.view.writes (Elt F) (hm.unread f)
      [⟨Rect.unit (s := S8192x256) o3 S128x128.size j3, P3⟩, ⟨Rect.unit (s := S8192x256) o3 S128x128.size j3', P2⟩,
       ⟨Rect.unit (s := S8192x256) o2 S128x128.size j2, P1⟩, ⟨Rect.unit (s := S8192x256) o2 S128x128.size j2', P0⟩]) = put f n w := by
  subst w0 w1 h2 h3
  refine funext fun (y : S8192x256.Idx) => ?_
  have hr : (y 0).val < 8192 := (y 0).isLt
  have hc : (y 1).val < 256 := (y 1).isLt
  unfold put
  by_cases hn : (y 0).val / 128 = n.val
  · rw [if_pos hn]
    have hd := Nat.div_add_mod (y 0).val 128
    rw [hn] at hd
    by_cases hp : (y 1).val < 128
    · have miss : ∀ (P : Vec F S128x128 e) j L, m.view.read (Elt F) (m.view.writes (Elt F) (hm.unread f)
          (⟨Rect.unit (s := S8192x256) ![128 * n.val, 128] S128x128.size j, P⟩ :: L)) y = m.view.read (Elt F) (m.view.writes (Elt F) (hm.unread f) L) y :=
        fun P j L => View.read_writes_cons_unit_of_not_mem _ _ j P L y rfl 1 (Or.inl hp)
      rw [miss, miss]
      have hq : (⟨(y 1).val / 128, by omega⟩ : Fin 2) = 0 := Fin.ext (by show (y 1).val / 128 = 0; omega)
      rw [hq]
      refine View.read_writes_cons_unit_of_mem _ _ j2 _ _ y (ix2 (⟨(y 0).val % 128, Nat.mod_lt _ (by decide)⟩ : Fin 128) (⟨(y 1).val % 128, Nat.mod_lt _ (by decide)⟩ : Fin 128)) rfl fun a => ?_
      match a with
      | 0 => exact hd.symm
      | 1 => show (y 1).val = 0 + (y 1).val % 128; omega
    · have hq : (⟨(y 1).val / 128, by omega⟩ : Fin 2) = 1 := Fin.ext (by show (y 1).val / 128 = 1; omega)
      rw [hq]
      refine View.read_writes_cons_unit_of_mem _ _ j3 _ _ y (ix2 (⟨(y 0).val % 128, Nat.mod_lt _ (by decide)⟩ : Fin 128) (⟨(y 1).val % 128, Nat.mod_lt _ (by decide)⟩ : Fin 128)) rfl fun a => ?_
      match a with
      | 0 => exact hd.symm
      | 1 => show (y 1).val = 128 + (y 1).val % 128; omega
  · rw [if_neg hn]
    have miss : ∀ (P : Vec F S128x128 e) k (j) L, m.view.read (Elt F) (m.view.writes (Elt F) (hm.unread f)
          (⟨Rect.unit (s := S8192x256) ![128 * n.val, k] S128x128.size j, P⟩ :: L)) y = m.view.read (Elt F) (m.view.writes (Elt F) (hm.unread f) L) y :=
        fun P k j L => View.read_writes_cons_unit_of_not_mem _ _ j P L y rfl 0 (by
          show (y 0).val < 128 * n.val ∨ 128 * n.val + 128 ≤ (y 0).val
          omega)
    rw [miss, miss, miss, miss]
    exact congrFun (hm.read_unread f) y

end Cert.KAttnIdeal.Attn
-- ==== Proof.Attn.Trip.lean ====
module

public import proofs.«01_k».proof.Proof.Attn.Reads
public import Idealize.ShloMosaic.Lib.Tactic
public import Idealize.ShloMosaic.Lib.Pipeline.Kit
public import Idealize.ShloMosaic.Lib.Exec
public import Idealize.ShloMosaic.Lib.Pipeline.Frame

@[expose] public section

noncomputable section

namespace Cert.KAttnIdeal.Attn

open Cert.KAttnIdeal Cert.KAttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

abbrev 𝒱₀ : Variants := Variants.nat

theorem goes_on : ∀ n : Fin 64, Scalar.andi (Scalar.cmpi .sge (BitVec.ofNat 32 n.val) 0#32) 1#1 = 1#1 := by decide +kernel
theorem stops : ∀ a : BitVec 1, a ≠ 1#1 → ∀ w, ¬ Scalar.andi w a = 1#1 := by decide +kernel
theorem counts : ∀ n : Fin 64, Scalar.subi (BitVec.ofNat 32 n.val) 1#32 = BitVec.ofNat 32 n.val - 1#32 := by decide +kernel

section loop
variable (c : Dev nD) (i : grid0.Coords) (v104 : IVec S128x128 1) (v13 v16 v48 v51 v37 v42 v72 v77 v82 v87 : FVec F S128x128 .bf16)
  (v26 v32 v61 v67 : FVec F S128x1 .f32) (E : Set ℕ)
   (arg9 : Memref sig .tc .vmem S8192x256 .bf16) (harg9 : arg9.IsWhole) (arg10 : Memref sig .tc .vmem S8192x256 .bf16) (harg10 : arg10.IsWhole) (arg11 : Memref sig .tc .vmem S8192x256 .f32) (harg11 : arg11.IsWhole) (arg12 : Memref sig .tc .vmem S8192x256 .f32) (harg12 : arg12.IsWhole) (arg13 : Memref sig .tc .vmem S4x128x128 .f32) (harg13 : arg13.IsWhole) (arg14 : Memref sig .tc .vmem S4x128x1 .f32) (harg14 : arg14.IsWhole) (arg15 : Memref sig .tc .vmem S4x128x1 .f32) (harg15 : arg15.IsWhole)

/-- The loop's fixed values. -/
abbrev env : Env F := ⟨v104, BitVec.ofNat 32 (i 1).val, ![v13, v16, v48, v51], ![v37, v42, v72, v77], ![v26, v32, v61, v67], v82, v87⟩

/-- The loop's buffers: the keys and values it reads, and what it carries. -/
def held (kc vc : Vec F S8192x256 .bf16) (s : St F) : sProp 𝕄 :=
  iprop(owns (c : Thread nD τ) arg9 fullShare (kc) ∗ owns (c : Thread nD τ) arg10 fullShare (vc) ∗ owns (c : Thread nD τ) arg11 fullShare (s.dk) ∗ owns (c : Thread nD τ) arg12 fullShare (s.dv) ∗ owns (c : Thread nD τ) arg13 fullShare (s.dq) ∗ owns (c : Thread nD τ) arg14 fullShare (s.run) ∗ owns (c : Thread nD τ) arg15 fullShare (s.rung))

include harg9 harg10 harg11 harg12 harg13 harg14 harg15 in
theorem held_open (kc vc : Vec F S8192x256 .bf16) (s : St F) :
    (held c arg9 arg10 arg11 arg12 arg13 arg14 arg15 kc vc s : sProp 𝕄) ⊢ iprop((arg9.view.loc (c : Thread nD τ) ↦[arg9.view.set]{fullShare} (harg9.unread (kc))) ∗ (arg10.view.loc (c : Thread nD τ) ↦[arg10.view.set]{fullShare} (harg10.unread (vc))) ∗ (arg11.view.loc (c : Thread nD τ) ↦[arg11.view.set]{fullShare} (harg11.unread (s.dk))) ∗ (arg12.view.loc (c : Thread nD τ) ↦[arg12.view.set]{fullShare} (harg12.unread (s.dv))) ∗ (arg13.view.loc (c : Thread nD τ) ↦[arg13.view.set]{fullShare} (harg13.unread (s.dq))) ∗ (arg14.view.loc (c : Thread nD τ) ↦[arg14.view.set]{fullShare} (harg14.unread (s.run))) ∗ (arg15.view.loc (c : Thread nD τ) ↦[arg15.view.set]{fullShare} (harg15.unread (s.rung)))) := by
  unfold held owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩
  obtain rfl := harg9.eq_unread h0; obtain rfl := harg10.eq_unread h1; obtain rfl := harg11.eq_unread h2; obtain rfl := harg12.eq_unread h3; obtain rfl := harg13.eq_unread h4; obtain rfl := harg14.eq_unread h5; obtain rfl := harg15.eq_unread h6
  iframe

theorem held_close (kc vc : Vec F S8192x256 .bf16) (s : St F) (X9) (X10) (X11) (X12) (X13) (X14) (X15) :
    (iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ ⌜arg9.view.read (Elt F) X9 = kc ∧ arg10.view.read (Elt F) X10 = vc ∧ arg11.view.read (Elt F) X11 = s.dk ∧ arg12.view.read (Elt F) X12 = s.dv ∧ arg13.view.read (Elt F) X13 = s.dq ∧ arg14.view.read (Elt F) X14 = s.run ∧ arg15.view.read (Elt F) X15 = s.rung⌝) : sProp 𝕄) ⊢ held c arg9 arg10 arg11 arg12 arg13 arg14 arg15 kc vc s := by
  unfold held
  iintro ⟨H0, H1, H2, H3, H4, H5, H6, %h⟩
  obtain ⟨h9, h10, h11, h12, h13, h14, h15⟩ := h
  rw [← h9, ← h10, ← h11, ← h12, ← h13, ← h14, ← h15]
  isplitl [H0]
  · iapply (owns_intro c arg9 fullShare X9) $$ H0
  isplitl [H1]
  · iapply (owns_intro c arg10 fullShare X10) $$ H1
  isplitl [H2]
  · iapply (owns_intro c arg11 fullShare X11) $$ H2
  isplitl [H3]
  · iapply (owns_intro c arg12 fullShare X12) $$ H3
  isplitl [H4]
  · iapply (owns_intro c arg13 fullShare X13) $$ H4
  isplitl [H5]
  · iapply (owns_intro c arg14 fullShare X14) $$ H5
  · iapply (owns_intro c arg15 fullShare X15) $$ H6

set_option maxHeartbeats 2000000 in
/-- One trip of the loop, up to the next call. -/
theorem trip (kc vc : Vec F S8192x256 .bf16) (s : St F) (n : Fin 64) (bd : Option 𝒱₀.V)
    (K : BitVec 32 × BitVec 1 → sProp 𝕄) :
    iprop(held c arg9 arg10 arg11 arg12 arg13 arg14 arg15 kc vc s
      ∗ (held c arg9 arg10 arg11 arg12 arg13 arg14 arg15 kc vc (step (env i v104 v13 v16 v48 v51 v37 v42 v72 v77 v82 v87 v26 v32 v61 v67) kc vc n s) -∗
        wp frame (wpE (defs₀ (F := F)) 𝒱₀ (c : Thread nD τ) bd) E (Prog.lift (.call (1 : (Λ₀ F).Label)
          ⟨i, v104, arg9, harg9, v13, v16, v48, v51, arg14, harg14, arg10, harg10, v37, v42, v72, v77, v82, v87, arg15, harg15, v26,
            arg13, harg13, arg11, harg11, arg12, harg12, v32, v61, v67, Scalar.subi (BitVec.ofNat 32 n.val) 1#32,
            goes (env i v104 v13 v16 v48 v51 v37 v42 v72 v77 v82 v87 v26 v32 v61 v67) kc n s⟩)) K))
    ⊢ wp frame (wpE (defs₀ (F := F)) 𝒱₀ (c : Thread nD τ) bd) E
        (cc0_while1 i v104 arg9 harg9 v13 v16 v48 v51 arg14 harg14 arg10 harg10 v37 v42 v72 v77 v82 v87 arg15 harg15 v26
          arg13 harg13 arg11 harg11 arg12 harg12 v32 v61 v67 (BitVec.ofNat 32 n.val) 1#1) K := by
  have ht := goes_on n
  have hc := chk n
  have hk : rd kc n = ![arg9.view.readAt (Elt F) (Rect.unit (s := S8192x256) (k0_off2 (BitVec.ofNat 32 n.val)) S128x128.size hc.2.1).toLoadRect (harg9.unread kc),
      arg9.view.readAt (Elt F) (Rect.unit (s := S8192x256) (k0_off3 (BitVec.ofNat 32 n.val)) S128x128.size hc.2.2).toLoadRect (harg9.unread kc)] :=
    funext fun p => by match p with
      | 0 => exact (readAt_tile arg9 harg9 kc n 0 _ (off2_eq n) _).symm
      | 1 => exact (readAt_tile arg9 harg9 kc n 1 _ (off3_eq n) _).symm
  have hr : row s.run = ![arg14.view.readAt (Elt F) (Rect.unit (s := S4x128x1) ![0, 0, 0] S1x128x1.size (by decide)).toLoadRect (harg14.unread s.run),
      arg14.view.readAt (Elt F) (Rect.unit (s := S4x128x1) ![1, 0, 0] S1x128x1.size (by decide)).toLoadRect (harg14.unread s.run),
      arg14.view.readAt (Elt F) (Rect.unit (s := S4x128x1) ![2, 0, 0] S1x128x1.size (by decide)).toLoadRect (harg14.unread s.run),
      arg14.view.readAt (Elt F) (Rect.unit (s := S4x128x1) ![3, 0, 0] S1x128x1.size (by decide)).toLoadRect (harg14.unread s.run)] :=
    funext fun p => by match p with
      | 0 => exact (readAt_row arg14 harg14 s.run 0 _).symm
      | 1 => exact (readAt_row arg14 harg14 s.run 1 _).symm
      | 2 => exact (readAt_row arg14 harg14 s.run 2 _).symm
      | 3 => exact (readAt_row arg14 harg14 s.run 3 _).symm
  have hg : row s.rung = ![arg15.view.readAt (Elt F) (Rect.unit (s := S4x128x1) ![0, 0, 0] S1x128x1.size (by decide)).toLoadRect (harg15.unread s.rung),
      arg15.view.readAt (Elt F) (Rect.unit (s := S4x128x1) ![1, 0, 0] S1x128x1.size (by decide)).toLoadRect (harg15.unread s.rung),
      arg15.view.readAt (Elt F) (Rect.unit (s := S4x128x1) ![2, 0, 0] S1x128x1.size (by decide)).toLoadRect (harg15.unread s.rung),
      arg15.view.readAt (Elt F) (Rect.unit (s := S4x128x1) ![3, 0, 0] S1x128x1.size (by decide)).toLoadRect (harg15.unread s.rung)] :=
    funext fun p => by match p with
      | 0 => exact (readAt_row arg15 harg15 s.rung 0 _).symm
      | 1 => exact (readAt_row arg15 harg15 s.rung 1 _).symm
      | 2 => exact (readAt_row arg15 harg15 s.rung 2 _).symm
      | 3 => exact (readAt_row arg15 harg15 s.rung 3 _).symm
  have hq : rowq s.dq = ![arg13.view.readAt (Elt F) (Rect.unit (s := S4x128x128) ![0, 0, 0] S1x128x128.size (by decide)).toLoadRect (harg13.unread s.dq),
      arg13.view.readAt (Elt F) (Rect.unit (s := S4x128x128) ![1, 0, 0] S1x128x128.size (by decide)).toLoadRect (harg13.unread s.dq),
      arg13.view.readAt (Elt F) (Rect.unit (s := S4x128x128) ![2, 0, 0] S1x128x128.size (by decide)).toLoadRect (harg13.unread s.dq),
      arg13.view.readAt (Elt F) (Rect.unit (s := S4x128x128) ![3, 0, 0] S1x128x128.size (by decide)).toLoadRect (harg13.unread s.dq)] :=
    funext fun p => by match p with
      | 0 => exact (readAt_rowq arg13 harg13 s.dq 0 _).symm
      | 1 => exact (readAt_rowq arg13 harg13 s.dq 1 _).symm
      | 2 => exact (readAt_rowq arg13 harg13 s.dq 2 _).symm
      | 3 => exact (readAt_rowq arg13 harg13 s.dq 3 _).symm
  have hv : rd vc n = ![arg10.view.readAt (Elt F) (Rect.unit (s := S8192x256) (k0_off2 (BitVec.ofNat 32 n.val)) S128x128.size hc.2.1).toLoadRect (harg10.unread vc),
      arg10.view.readAt (Elt F) (Rect.unit (s := S8192x256) (k0_off3 (BitVec.ofNat 32 n.val)) S128x128.size hc.2.2).toLoadRect (harg10.unread vc)] :=
    funext fun p => by match p with
      | 0 => exact (readAt_tile arg10 harg10 vc n 0 _ (off2_eq n) _).symm
      | 1 => exact (readAt_tile arg10 harg10 vc n 1 _ (off3_eq n) _).symm
  have hdk : rd s.dk n = ![arg11.view.readAt (Elt F) (Rect.unit (s := S8192x256) (k0_off2 (BitVec.ofNat 32 n.val)) S128x128.size hc.2.1).toLoadRect (harg11.unread s.dk),
      arg11.view.readAt (Elt F) (Rect.unit (s := S8192x256) (k0_off3 (BitVec.ofNat 32 n.val)) S128x128.size hc.2.2).toLoadRect (harg11.unread s.dk)] :=
    funext fun p => by match p with
      | 0 => exact (readAt_tile arg11 harg11 s.dk n 0 _ (off2_eq n) _).symm
      | 1 => exact (readAt_tile arg11 harg11 s.dk n 1 _ (off3_eq n) _).symm
  have hdv : rd s.dv n = ![arg12.view.readAt (Elt F) (Rect.unit (s := S8192x256) (k0_off2 (BitVec.ofNat 32 n.val)) S128x128.size hc.2.1).toLoadRect (harg12.unread s.dv),
      arg12.view.readAt (Elt F) (Rect.unit (s := S8192x256) (k0_off3 (BitVec.ofNat 32 n.val)) S128x128.size hc.2.2).toLoadRect (harg12.unread s.dv)] :=
    funext fun p => by match p with
      | 0 => exact (readAt_tile arg12 harg12 s.dv n 0 _ (off2_eq n) _).symm
      | 1 => exact (readAt_tile arg12 harg12 s.dv n 1 _ (off3_eq n) _).symm
  simp only [cc0_while1_eq_skeleton]; unfold cc0_while1_skel
  simp only [ht, ↓reduceIte, k0_part4_eq_skeleton, k0_part5_eq_skeleton, k0_part6_eq_skeleton, k0_part7_eq_skeleton, k0_part8_eq_skeleton,
   k0_part9_eq_skeleton, k0_part10_eq_skeleton, k0_part11_eq_skeleton, k0_part12_eq_skeleton, k0_part13_eq_skeleton, k0_part14_eq_skeleton]
  iintro ⟨Hh, HK⟩
  ihave Hr := (held_open c arg9 harg9 arg10 harg10 arg11 harg11 arg12 harg12 arg13 harg13 arg14 harg14 arg15 harg15 kc vc s) $$ Hh
  icases Hr with ⟨H0, H1, H2, H3, H4, H5, H6⟩
  sl_exec!
  have hflag : trip.sl.v263 i v104 v13 v16 v48 v51 arg9 harg9 arg14 harg14 kc s n hc
      = goes (env i v104 v13 v16 v48 v51 v37 v42 v72 v77 v82 v87 v26 v32 v61 v67) kc n s := by
    unfold goes
    rw [hk, hr]
    rfl
  rw [hflag]
  iapply HK
  iapply (held_close c arg9 arg10 arg11 arg12 arg13 arg14 arg15 kc vc)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  ipureintro
  refine ⟨harg9.read_unread kc, harg10.read_unread vc, ?_, ?_, ?_, ?_, ?_⟩
  · unfold trip.sl.v508 trip.sl.H2_3 trip.sl.v426 trip.sl.H2_1
    simp only [View.readCov_cons_toLoadRect]
    refine writes_tiles arg11 harg11 s.dk n _ _ (off2_eq n) (off3_eq n) _ _ _ _ _ _ _ _ (fun p =>
      adk (env i v104 v13 v16 v48 v51 v37 v42 v72 v77 v82 v87 v26 v32 v61 v67) n (rd kc n) (rd vc n) (row s.run) (row s.rung) (![1, 3] p) (adk (env i v104 v13 v16 v48 v51 v37 v42 v72 v77 v82 v87 v26 v32 v61 v67) n (rd kc n) (rd vc n) (row s.run) (row s.rung) (![0, 2] p) (rd s.dk n p))) ?_ ?_
    all_goals rw [hk, hv, hr, hg, hdk]; rfl
  · unfold trip.sl.v516 trip.sl.H3_3 trip.sl.v434 trip.sl.H3_1
    simp only [View.readCov_cons_toLoadRect]
    refine writes_tiles arg12 harg12 s.dv n _ _ (off2_eq n) (off3_eq n) _ _ _ _ _ _ _ _ (fun p =>
      adv (env i v104 v13 v16 v48 v51 v37 v42 v72 v77 v82 v87 v26 v32 v61 v67) n (rd kc n) (row s.run) (![1, 3] p) (adv (env i v104 v13 v16 v48 v51 v37 v42 v72 v77 v82 v87 v26 v32 v61 v67) n (rd kc n) (row s.run) (![0, 2] p) (rd s.dv n p))) ?_ ?_
    all_goals rw [hk, hr, hdv]; rfl
  · refine Eq.trans ?_ (writes_four arg13.view arg13.view.junk (fun h => ndq (env i v104 v13 v16 v48 v51 v37 v42 v72 v77 v82 v87 v26 v32 v61 v67) n (rd kc n) (rd vc n) (row s.run) (row s.rung) h (rowq s.dq h)) (by decide) (by decide) (by decide) (by decide))
    rw [hk, hv, hr, hg, hq]; rfl
  · refine Eq.trans ?_ (writes_four arg14.view arg14.view.junk (fun h => nrun (env i v104 v13 v16 v48 v51 v37 v42 v72 v77 v82 v87 v26 v32 v61 v67) n (rd kc n) (row s.run) h) (by decide) (by decide) (by decide) (by decide))
    rw [hk, hr]; rfl
  · refine Eq.trans ?_ (writes_four arg15.view arg15.view.junk (fun h => nrung (env i v104 v13 v16 v48 v51 v37 v42 v72 v77 v82 v87 v26 v32 v61 v67) n (rd kc n) (rd vc n) (row s.run) (row s.rung) h) (by decide) (by decide) (by decide) (by decide))
    rw [hk, hv, hr, hg]; rfl
end loop

end Cert.KAttnIdeal.Attn
-- ==== Proof.Attn.Loop.lean ====
/- The whole loop of one point: what it leaves in its buffers. -/
module

public import proofs.«01_k».proof.Proof.Attn.Trip

@[expose] public section

noncomputable section

namespace Cert.KAttnIdeal.Attn

open Cert.KAttnIdeal Cert.KAttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

theorem ends : ∀ w : BitVec 1, ¬ Scalar.andi (Scalar.cmpi .sge (BitVec.ofNat 32 0 - 1#32) 0#32) w = 1#1 := by decide +kernel
theorem pred_succ : ∀ n : Fin 64, BitVec.ofNat 32 (n.val + 1) - 1#32 = BitVec.ofNat 32 n.val := by decide +kernel

section loop
variable (c : Dev nD) (i : grid0.Coords) (v104 : IVec S128x128 1) (v13 v16 v48 v51 v37 v42 v72 v77 v82 v87 : FVec F S128x128 .bf16)
  (v26 v32 v61 v67 : FVec F S128x1 .f32) (E : Set ℕ)
   (arg9 : Memref sig .tc .vmem S8192x256 .bf16) (harg9 : arg9.IsWhole) (arg10 : Memref sig .tc .vmem S8192x256 .bf16) (harg10 : arg10.IsWhole) (arg11 : Memref sig .tc .vmem S8192x256 .f32) (harg11 : arg11.IsWhole) (arg12 : Memref sig .tc .vmem S8192x256 .f32) (harg12 : arg12.IsWhole) (arg13 : Memref sig .tc .vmem S4x128x128 .f32) (harg13 : arg13.IsWhole) (arg14 : Memref sig .tc .vmem S4x128x1 .f32) (harg14 : arg14.IsWhole) (arg15 : Memref sig .tc .vmem S4x128x1 .f32) (harg15 : arg15.IsWhole)

/-- The loop from `k` key blocks to go: it takes the buffers at `s` and leaves them as `iter` says. -/
def spec (Ev : Env F) (kc vc : Vec F S8192x256 .bf16) (k : ℕ) (hk : k ≤ 64) (a : BitVec 1) (s : St F) : sWPT 𝕄 (BitVec 32 × BitVec 1) := do
  sWPT.consume (held c arg9 arg10 arg11 arg12 arg13 arg14 arg15 kc vc s)
  let r ← sWPT.arbitrary
  sWPT.produce (held c arg9 arg10 arg11 arg12 arg13 arg14 arg15 kc vc (iter Ev kc vc k hk a s))
  pure r

theorem spec_apply (Ev : Env F) (kc vc : Vec F S8192x256 .bf16) (k : ℕ) (hk : k ≤ 64) (a : BitVec 1) (s : St F) (K : BitVec 32 × BitVec 1 → sProp 𝕄) :
    spec c arg9 arg10 arg11 arg12 arg13 arg14 arg15 Ev kc vc k hk a s K
      = iprop(held c arg9 arg10 arg11 arg12 arg13 arg14 arg15 kc vc s ∗ ∀ r : BitVec 32 × BitVec 1,
          (held c arg9 arg10 arg11 arg12 arg13 arg14 arg15 kc vc (iter Ev kc vc k hk a s) -∗ K r)) := rfl

/-- The loop's body, entered with `k` key blocks to go, does so. -/
theorem spec_le (kc vc : Vec F S8192x256 .bf16) :
    ∀ (k : ℕ) (hk : k ≤ 64) (a : BitVec 1) (s : St F) (K : BitVec 32 × BitVec 1 → sProp 𝕄),
      spec c arg9 arg10 arg11 arg12 arg13 arg14 arg15 (env i v104 v13 v16 v48 v51 v37 v42 v72 v77 v82 v87 v26 v32 v61 v67) kc vc k hk a s K
      ⊢ wp frame (wpE (defs₀ (F := F)) 𝒱₀ (c : Thread nD τ) (some k)) E
          (defs₀ (F := F) .tc 1 ⟨i, v104, arg9, harg9, v13, v16, v48, v51, arg14, harg14, arg10, harg10, v37, v42, v72, v77, v82, v87, arg15, harg15, v26,
            arg13, harg13, arg11, harg11, arg12, harg12, v32, v61, v67, BitVec.ofNat 32 k - 1#32, a⟩) K := by
  intro k
  induction k with
  | zero =>
    intro hk a s K
    rw [spec_apply]
    show _ ⊢ wp frame (wpE (defs₀ (F := F)) 𝒱₀ (c : Thread nD τ) (some 0)) E
        (cc0_while1 i v104 arg9 harg9 v13 v16 v48 v51 arg14 harg14 arg10 harg10 v37 v42 v72 v77 v82 v87 arg15 harg15 v26
          arg13 harg13 arg11 harg11 arg12 harg12 v32 v61 v67 (BitVec.ofNat 32 0 - 1#32) a) K
    have ht := ends a
    unfold cc0_while1
    simp only [ht, ↓reduceIte, Prog.pure_eq_ret]
    iintro ⟨H, Hk⟩
    rw [wp_ret]; imodintro
    iapply Hk
    simp only [iter]
    iexact H
  | succ k ih =>
    intro hk a s K
    rw [spec_apply, pred_succ ⟨k, hk⟩]
    show _ ⊢ wp frame (wpE (defs₀ (F := F)) 𝒱₀ (c : Thread nD τ) (some (k + 1))) E
        (cc0_while1 i v104 arg9 harg9 v13 v16 v48 v51 arg14 harg14 arg10 harg10 v37 v42 v72 v77 v82 v87 arg15 harg15 v26
          arg13 harg13 arg11 harg11 arg12 harg12 v32 v61 v67 (BitVec.ofNat 32 k) a) K
    by_cases ha : a = 1#1
    · subst ha
      iintro ⟨H, Hk⟩
      iapply (trip c i v104 v13 v16 v48 v51 v37 v42 v72 v77 v82 v87 v26 v32 v61 v67 E arg9 harg9 arg10 harg10 arg11 harg11 arg12 harg12
        arg13 harg13 arg14 harg14 arg15 harg15 kc vc s ⟨k, hk⟩ (some (k + 1)) K)
      isplitl [H]
      · iexact H
      iintro H
      rw [counts ⟨k, hk⟩]
      simp only [Prog.lift]
      iapply (wp_call_spec 𝒱₀ (c : Thread nD τ) (some (k + 1)) E
        (spec c arg9 arg10 arg11 arg12 arg13 arg14 arg15 (env i v104 v13 v16 v48 v51 v37 v42 v72 v77 v82 v87 v26 v32 v61 v67) kc vc k (by omega) _ _) k
        (fun u hu => by cases hu; exact Nat.lt_succ_self k) (ih (by omega) _ _))
      rw [spec_apply]
      isplitl [H]
      · iexact H
      iintro %r H
      rw [wp_ret]; imodintro
      iapply Hk
      simp only [iter, ↓reduceIte]
      iexact H
    · have ht := stops a ha (Scalar.cmpi .sge (BitVec.ofNat 32 k) 0#32)
      unfold cc0_while1
      simp only [ht, ↓reduceIte, Prog.pure_eq_ret]
      iintro ⟨H, Hk⟩
      rw [wp_ret]; imodintro
      iapply Hk
      simp only [iter, if_neg ha]
      iexact H
end loop

end Cert.KAttnIdeal.Attn
-- ==== Proof.Attn.Body.lean ====
/- The body of one point: what it leaves in its buffers. -/
module

public import proofs.«01_k».proof.Proof.Attn.Loop
public import Idealize.ShloMosaic.Lib.Transfers

@[expose] public section

noncomputable section

namespace Cert.KAttnIdeal.Attn

open Cert.KAttnIdeal Cert.KAttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

abbrev hbM : Memref sig .tc .hbm S8192x1536 .bf16 := Memref.whole main_v31
abbrev okM : Memref sig .tc .hbm S8192x512 .f32 := Memref.whole main_v32_1
abbrev ovM : Memref sig .tc .hbm S8192x512 .f32 := Memref.whole main_v32_2
abbrev kM : Memref sig .tc .vmem S8192x256 .bf16 := Memref.whole cc0_scratch0
abbrev vM : Memref sig .tc .vmem S8192x256 .bf16 := Memref.whole cc0_scratch1
abbrev dkM : Memref sig .tc .vmem S8192x256 .f32 := Memref.whole cc0_scratch2
abbrev dvM : Memref sig .tc .vmem S8192x256 .f32 := Memref.whole cc0_scratch3
abbrev dqM : Memref sig .tc .vmem S4x128x128 .f32 := Memref.whole cc0_scratch4
abbrev runM : Memref sig .tc .vmem S4x128x1 .f32 := Memref.whole cc0_scratch5
abbrev rungM : Memref sig .tc .vmem S4x128x1 .f32 := Memref.whole cc0_scratch6

/-- A buffer in the chip's main memory, held whole. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

theorem off1_eq : ∀ (g : Fin 2) (r : Fin 2), (Scalar.addi (BitVec.ofNat 32 (512 + 512 * r.val)) (Scalar.muli (BitVec.ofNat 32 g.val) 256#32)).toNat = 512 + 512 * r.val + 256 * g.val := by decide +kernel
theorem off4_eq : ∀ (g : Fin 2), (Scalar.muli (BitVec.ofNat 32 g.val) 256#32).toNat = 256 * g.val := by decide +kernel
instance closed1 (i : grid0.Coords) : ClosedOff (k0_off1 i 512#32) := ⟨![0, 512 + 256 * (i 0).val], congrArg (fun x => ![0, x]) (off1_eq (i 0) 0)⟩
instance closed1' (i : grid0.Coords) : ClosedOff (k0_off1 i 1024#32) := ⟨![0, 1024 + 256 * (i 0).val], congrArg (fun x => ![0, x]) (off1_eq (i 0) 1)⟩
instance closed4 (i : grid0.Coords) : ClosedOff (k0_off4 i) := ⟨![0, 256 * (i 0).val], congrArg (fun x => ![0, x]) (off4_eq (i 0))⟩

/-- The lanes of one pair of heads. -/
def half {V : Type} (x : S128x256.Idx → V) (p : Fin 2) : S128x128.Idx → V :=
  fun y => x (ix2 (y 0 : Fin 128) (⟨128 * p.val + (y 1).val, by have := (y 1).isLt; change _ < 128 at this; show _ < 256; omega⟩ : Fin 256))

/-- The columns of a group of heads, from column `b` of the packed array. -/
def slab {V : Type} (g : Fin 2) (b : Fin 3) (x : S8192x1536.Idx → V) : S8192x256.Idx → V :=
  fun y => x (ix2 (y 0 : Fin 8192) (⟨512 * b.val + 256 * g.val + (y 1).val, by have := (y 1).isLt; change _ < 256 at this; show _ < 1536; omega⟩ : Fin 1536))

/-- The same columns of a result replaced. -/
def paste {V : Type} (g : Fin 2) (x : S8192x512.Idx → V) (w : S8192x256.Idx → V) : S8192x512.Idx → V :=
  fun y => if (y 1).val / 256 = g.val then w (ix2 (y 0 : Fin 8192) (⟨(y 1).val % 256, Nat.mod_lt _ (by decide)⟩ : Fin 256)) else x y

theorem readAt_half {e : EltTy} (m : Memref sig .tc .vmem S128x256 e) (hm : m.IsWhole) (f : Vec F S128x256 e) (p : Fin 2)
    (inb) : m.view.readAt (Elt F) (Rect.unit (s := S128x256) ![0, 128 * p.val] S128x128.size inb).toLoadRect (hm.unread f) = half f p := by
  funext y
  refine (Memref.IsWhole.readAt_unread hm f _ y).trans (congrArg f (funext fun a => Fin.ext ?_))
  match a with
  | 0 => show 0 + 1 * (y 0).val = (y 0).val; omega
  | 1 => exact congrArg (128 * p.val + ·) (Nat.one_mul _)

theorem fetched (i : grid0.Coords) (b : Fin 3) (f : S8192x1536.Idx → Elt F .bf16) (off : Fin 2 → ℕ) (ho : off = ![0, 512 * b.val + 256 * (i 0).val])
    (inb : ∀ a, off a + S8192x256.size a ≤ S8192x1536.size a) :
    (fun y => f ((Rect.unit (s := S8192x1536) off S8192x256.size inb).idx y)) = slab (i 0) b f := by
  subst ho
  funext y
  refine congrArg f (funext fun a => Fin.ext ?_)
  match a with
  | 0 => show 0 + 1 * (y 0).val = (y 0).val; omega
  | 1 => exact congrArg (512 * b.val + 256 * (i 0).val + ·) (Nat.one_mul _)

/-- A point's fixed values, of the lanes of its queries, of the forward result and of its cotangent. -/
def pEnv (i : grid0.Coords) (q : Vec F S128x256 .bf16) (a da : Vec F S128x256 .f32) : Env F :=
  env i k0_pay32 (k0_pay8 (half q 0)) (k0_pay9 (half q 0)) (k0_pay19 k0_pay5 (half q 1)) (k0_pay20 k0_pay5 (half q 1))
    (k0_pay13 (half da 0)) (k0_pay16 (half da 0) k0_pay14 k0_pay15) (k0_pay24 k0_pay5 (half da 1)) (k0_pay25 k0_pay5 (half da 1))
    (k0_pay26 (iota .tc S128x128 32 [0] iota_S128x128_d0_w32) (iota .tc S128x128 32 [1] iota_S128x128_d1_w32))
    (k0_pay28 (k0_pay27 (iota .tc S128x128 32 [0] iota_S128x128_d0_w32) (iota .tc S128x128 32 [1] iota_S128x128_d1_w32))
      (Scalar.ofBits .f32 0x3F800000#32) (Scalar.ofBits .f32 0x00000000#32))
    (k0_pay11 (half da 0) (half a 0)) (k0_pay12 (half da 0) (half a 0)) (k0_pay22 k0_pay5 (half da 1) (half a 1)) (k0_pay23 k0_pay5 (half da 1) (half a 1))

/-- The buffers of the keys, the values and their gradients when the loop starts: fresh at a group's first point. -/
def keys (i : grid0.Coords) (fh : S8192x1536.Idx → Elt F .bf16) (kc : Vec F S8192x256 .bf16) : Vec F S8192x256 .bf16 :=
  if k0_cond1 i = 1#1 then slab (i 0) 1 fh else kc
def vals (i : grid0.Coords) (fh : S8192x1536.Idx → Elt F .bf16) (vc : Vec F S8192x256 .bf16) : Vec F S8192x256 .bf16 :=
  if k0_cond1 i = 1#1 then slab (i 0) 2 fh else vc
def dk0 (i : grid0.Coords) (dk : Vec F S8192x256 .f32) : Vec F S8192x256 .f32 := if k0_cond1 i = 1#1 then k0_pay3 else dk
def dv0 (i : grid0.Coords) (dv : Vec F S8192x256 .f32) : Vec F S8192x256 .f32 := if k0_cond1 i = 1#1 then k0_pay4 else dv

/-- What the loop leaves. -/
def pIter (i : grid0.Coords) (q : Vec F S128x256 .bf16) (a da : Vec F S128x256 .f32) (kc vc : Vec F S8192x256 .bf16) (dk dv : Vec F S8192x256 .f32) : St F :=
  iter (pEnv i q a da) kc vc ((i 1).val + 1) (i 1).isLt 1#1 ⟨dk, dv, k0_pay29, k0_pay30, k0_pay31⟩

/-- The query gradient's block. -/
def dqOut (s : St F) : Vec F S128x256 .f32 := fun y =>
  (![k0_pay33 k0_pay5 (rowq s.dq 0) (rowq s.dq 1), k0_pay1 k0_pay5 (rowq s.dq 2) (rowq s.dq 3)] : Fin 2 → FVec F S128x128 .f32)
    ⟨(y 1).val / 128, by have := (y 1).isLt; change _ < 256 at this; omega⟩
    (ix2 (y 0 : Fin 128) (⟨(y 1).val % 128, Nat.mod_lt _ (by decide)⟩ : Fin 128))

section run
variable (c : Dev nD) (i : grid0.Coords)
    (arg2 : Memref sig .tc .vmem S128x256 .bf16) (harg2 : arg2.IsWhole) (arg3 : Memref sig .tc .vmem S128x256 .f32) (harg3 : arg3.IsWhole)
    (arg4 : Memref sig .tc .vmem S128x256 .f32) (harg4 : arg4.IsWhole) (arg6 : Memref sig .tc .vmem S128x256 .f32) (harg6 : arg6.IsWhole)
    (x2 : Vec F S128x256 .bf16) (x3 x4 : Vec F S128x256 .f32) (kc vc : Vec F S8192x256 .bf16) (dk dv : Vec F S8192x256 .f32)
    (fh : Buf (Elt F) (hbM.view.loc (c : Thread nD τ)))

/-- The staged blocks, held. -/
def staged (c : Dev nD) : sProp 𝕄 :=
  iprop(owns (c : Thread nD τ) arg2 fullShare x2 ∗ owns (c : Thread nD τ) arg3 fullShare x3 ∗ owns (c : Thread nD τ) arg4 fullShare x4)

/-- What is carried from point to point. -/
def kept (c : Dev nD) (kc vc : Vec F S8192x256 .bf16) (dk dv : Vec F S8192x256 .f32) : sProp 𝕄 :=
  iprop(owns (c : Thread nD τ) kM fullShare kc ∗ owns (c : Thread nD τ) vM fullShare vc ∗ owns (c : Thread nD τ) dkM fullShare dk
    ∗ owns (c : Thread nD τ) dvM fullShare dv)

/-- The copies' semaphores, at rest. -/
def rest (c : Dev nD) : sProp 𝕄 := iprop(semVal ((c : Thread nD τ), SemLoc.dma 8) 0 ∗ semVal ((c : Thread nD τ), SemLoc.dma 9) 0)

/-- A whole buffer held at `v`, as its location at the contents that read `v`, -/
theorem owns_unread {sp : Space} {S : Shape} {e : EltTy} (m : Memref sig .tc sp S e) (hm : m.IsWhole) (v : S.Idx → Elt F e) :
    (owns (c : Thread nD τ) m fullShare v : sProp 𝕄) ⊢ (m.view.loc (c : Thread nD τ) ↦[m.view.set]{fullShare} hm.unread v) := by
  unfold owns
  iintro ⟨%f, %h, H⟩
  obtain rfl := hm.eq_unread h
  iexact H

/-- and back, from any contents that read `v`. -/
theorem owns_of_read {sp : Space} {S : Shape} {e : EltTy} (m : Memref sig .tc sp S e) (v : S.Idx → Elt F e) (X) :
    (iprop((m.view.loc (c : Thread nD τ) ↦[m.view.set]{fullShare} X) ∗ ⌜m.view.read (Elt F) X = v⌝) : sProp 𝕄) ⊢ owns (c : Thread nD τ) m fullShare v := by
  iintro ⟨H, %h⟩
  unfold owns
  iexists X
  isplitr
  · ipureintro; exact h
  · iexact H

/-- A buffer written over whole reads what was written. -/
theorem read_over {sp : Space} {S : Shape} {e : EltTy} (m : Memref sig .tc sp S e) (f) (off : Fin S.rank → ℕ) (h0 : ∀ a, off a = 0) (inb) (w : S.Idx → Elt F e) :
    m.view.read (Elt F) (m.view.writes (Elt F) f [⟨Rect.unit off S.size inb, w⟩]) = w :=
  funext fun y => View.read_writes_cons_unit_of_mem m.view f inb w [] y y rfl (fun a => by rw [h0 a]; exact (Nat.zero_add _).symm)

include harg2 harg3 harg4 in
/-- The point's first part: a group's first point fetches its keys and values and clears their gradients. -/
theorem part1_run (W : Waits sig Unit) (K) :
    iprop(staged arg2 arg3 arg4 x2 x3 x4 c ∗ kept c kc vc dk dv ∗ rest c ∗ hbPt c hbM fh ∗ owes (c : Thread nD τ) 0 W
      ∗ (staged arg2 arg3 arg4 x2 x3 x4 c -∗ kept c (keys i fh kc) (vals i fh vc) (dk0 i dk) (dv0 i dv) -∗ rest c -∗ hbPt c hbM fh
          -∗ (∃ W', owes (c : Thread nD τ) 0 W')
          -∗ K ⟨BitVec.ofNat 32 (i 0).val, BitVec.ofNat 32 (i 1).val, iota .tc S128x128 32 [0] iota_S128x128_d0_w32, iota .tc S128x128 32 [1] iota_S128x128_d1_w32,
              k0_pay5, k0_pay8 (half x2 0), k0_pay9 (half x2 0), half x4 0, k0_pay11 (half x4 0) (half x3 0), k0_pay12 (half x4 0) (half x3 0), k0_pay13 (half x4 0), k0_pay14, k0_pay15⟩))
    ⊢ wp frame (wpE (defs₀ (F := F)) 𝒱₀ (c : Thread nD τ) none) Set.univ
        (k0_part1 i arg2 harg2 arg3 harg3 arg4 harg4 hbM (Memref.isWhole_whole _) arg6 harg6 okM (Memref.isWhole_whole _) ovM (Memref.isWhole_whole _)
          kM (Memref.isWhole_whole _) vM (Memref.isWhole_whole _) dkM (Memref.isWhole_whole _) dvM (Memref.isWhole_whole _) dqM (Memref.isWhole_whole _)
          runM (Memref.isWhole_whole _) rungM (Memref.isWhole_whole _) cc0_scratch7) K := by
  simp only [k0_part1_eq_skeleton]; unfold k0_part1_skel
  have hs : (staged arg2 arg3 arg4 x2 x3 x4 c : sProp 𝕄) = iprop(owns (c : Thread nD τ) arg2 fullShare x2 ∗ owns (c : Thread nD τ) arg3 fullShare x3 ∗ owns (c : Thread nD τ) arg4 fullShare x4) := rfl
  have hl2 := readAt_half arg2 harg2 x2 0 inb_S128x256_S128x128_0_0
  have hl3 := readAt_half arg3 harg3 x3 0 inb_S128x256_S128x128_0_0
  have hl4 := readAt_half arg4 harg4 x4 0 inb_S128x256_S128x128_0_0
  iintro ⟨Hst, Hkp, Hr, Hh, HW, HK⟩
  unfold rest
  icases Hr with ⟨Hq0, Hq1⟩
  ihave Hst := (show _ ⊢ _ from .of_eq hs) $$ Hst
  icases Hst with ⟨H2, H3, H4⟩
  ihave H2 := (owns_unread c arg2 harg2 x2) $$ H2
  ihave H3 := (owns_unread c arg3 harg3 x3) $$ H3
  ihave H4 := (owns_unread c arg4 harg4 x4) $$ H4
  unfold kept
  icases Hkp with ⟨H9, H10, H11, H12⟩
  ihave H9 := (owns_unread c kM (Memref.isWhole_whole _) kc) $$ H9
  ihave H10 := (owns_unread c vM (Memref.isWhole_whole _) vc) $$ H10
  ihave H11 := (owns_unread c dkM (Memref.isWhole_whole _) dk) $$ H11
  ihave H12 := (owns_unread c dvM (Memref.isWhole_whole _) dv) $$ H12
  by_cases h1 : k0_cond1 i = 1#1
  · sl_exec!
    unfold part1_run.sl.v3 part1_run.sl.v4
    rw [wp_ret]; imodintro
    iapply HK $$ [H2 H3 H4] [H9 H10 H11 H12] [Hq0 Hq1] [Hh] [HW]
    · iapply (show _ ⊢ _ from .of_eq hs.symm)
      isplitl [H2]
      · iapply (owns_of_read c arg2 x2) $$ [H2]
        isplitl [H2]
        · iexact H2
        · ipureintro; exact harg2.read_unread x2
      isplitl [H3]
      · iapply (owns_of_read c arg3 x3) $$ [H3]
        isplitl [H3]
        · iexact H3
        · ipureintro; exact harg3.read_unread x3
      · iapply (owns_of_read c arg4 x4) $$ [H4]
        isplitl [H4]
        · iexact H4
        · ipureintro; exact harg4.read_unread x4
    · isplitl [H9]
      · iapply (owns_of_read c kM (keys i fh kc)) $$ [H9]
        isplitl [H9]
        · iexact H9
        · ipureintro; rw [keys, if_pos h1]; exact (read_over kM _ _ (fun _ => rfl) _ _).trans (fetched i 1 fh _ (closed1 i).2 _)
      isplitl [H10]
      · iapply (owns_of_read c vM (vals i fh vc)) $$ [H10]
        isplitl [H10]
        · iexact H10
        · ipureintro; rw [vals, if_pos h1]; exact (read_over vM _ _ (fun _ => rfl) _ _).trans (fetched i 2 fh _ (closed1' i).2 _)
      isplitl [H11]
      · iapply (owns_of_read c dkM (dk0 i dk)) $$ [H11]
        isplitl [H11]
        · iexact H11
        · ipureintro; rw [dk0, if_pos h1]; unfold part1_run.sl.H11_1; exact read_over dkM _ _ (by decide) _ _
      · iapply (owns_of_read c dvM (dv0 i dv)) $$ [H12]
        isplitl [H12]
        · iexact H12
        · ipureintro; rw [dv0, if_pos h1]; unfold part1_run.sl.H12_1; exact read_over dvM _ _ (by decide) _ _
    · isplitl [Hq0]
      · iexact Hq0
      · iexact Hq1
    · iexact Hh
    · iexists _; iexact HW
  · sl_exec!
    unfold part1_run.sl.v3_1 part1_run.sl.v4_1
    rw [wp_ret]; imodintro
    iapply HK $$ [H2 H3 H4] [H9 H10 H11 H12] [Hq0 Hq1] [Hh] [HW]
    · iapply (show _ ⊢ _ from .of_eq hs.symm)
      isplitl [H2]
      · iapply (owns_of_read c arg2 x2) $$ [H2]
        isplitl [H2]
        · iexact H2
        · ipureintro; exact harg2.read_unread x2
      isplitl [H3]
      · iapply (owns_of_read c arg3 x3) $$ [H3]
        isplitl [H3]
        · iexact H3
        · ipureintro; exact harg3.read_unread x3
      · iapply (owns_of_read c arg4 x4) $$ [H4]
        isplitl [H4]
        · iexact H4
        · ipureintro; exact harg4.read_unread x4
    · isplitl [H9]
      · iapply (owns_of_read c kM (keys i fh kc)) $$ [H9]
        isplitl [H9]
        · iexact H9
        · ipureintro; rw [keys, if_neg h1]; exact Memref.IsWhole.read_unread _ _
      isplitl [H10]
      · iapply (owns_of_read c vM (vals i fh vc)) $$ [H10]
        isplitl [H10]
        · iexact H10
        · ipureintro; rw [vals, if_neg h1]; exact Memref.IsWhole.read_unread _ _
      isplitl [H11]
      · iapply (owns_of_read c dkM (dk0 i dk)) $$ [H11]
        isplitl [H11]
        · iexact H11
        · ipureintro; rw [dk0, if_neg h1]; exact Memref.IsWhole.read_unread _ _
      · iapply (owns_of_read c dvM (dv0 i dv)) $$ [H12]
        isplitl [H12]
        · iexact H12
        · ipureintro; rw [dv0, if_neg h1]; exact Memref.IsWhole.read_unread _ _
    · isplitl [Hq0]
      · iexact Hq0
      · iexact Hq1
    · iexact Hh
    · iexists _; iexact HW
/-- A point's working buffers, at anything. -/
def spare (c : Dev nD) : sProp 𝕄 :=
  iprop((∃ d : Vec F S4x128x128 .f32, owns (c : Thread nD τ) dqM fullShare d) ∗ (∃ d : Vec F S4x128x1 .f32, owns (c : Thread nD τ) runM fullShare d)
    ∗ (∃ d : Vec F S4x128x1 .f32, owns (c : Thread nD τ) rungM fullShare d))

/-- A result's columns, written out at a group's last point. -/
def out (i : grid0.Coords) (fo : S8192x512.Idx → Elt F .f32) (w : Vec F S8192x256 .f32) : S8192x512.Idx → Elt F .f32 :=
  if k0_cond2 i = 1#1 then paste (i 0) fo w else fo

set_option maxRecDepth 16384 in
/-- A copy into a result's columns replaces them. -/
theorem write_paste (M : Memref sig .tc .hbm S8192x512 .f32) (g : Fin 2) (f : M.view.ty.Contents (Elt F)) (w : S8192x256.Idx → Elt F .f32) (off : Fin 2 → ℕ)
    (ho : off = ![0, 256 * g.val]) (inb : ∀ a, off a + S8192x256.size a ≤ S8192x512.size a) :
    M.view.read (Elt F) ((M.view.slice (Rect.unit (s := S8192x512) off S8192x256.size inb)).write (Elt F) f w Finset.univ)
      = paste g (M.view.read (Elt F) f) w := by
  subst ho
  refine funext fun (y : S8192x512.Idx) => ?_
  have hr : (y 0).val < 8192 := (y 0).isLt
  have hc : (y 1).val < 512 := (y 1).isLt
  have hg := g.isLt
  unfold paste
  by_cases h : (y 1).val / 256 = g.val
  · rw [if_pos h]
    have e : y = (Rect.unit (s := S8192x512) ![0, 256 * g.val] S8192x256.size inb).emb
        (ix2 (y 0 : Fin 8192) (⟨(y 1).val % 256, Nat.mod_lt _ (by decide)⟩ : Fin 256)) := funext fun a => Fin.ext (by
      match a with
      | 0 => show (y 0).val = 0 + 1 * (y 0).val; omega
      | 1 => show (y 1).val = 256 * g.val + 1 * ((y 1).val % 256); omega)
    have k := View.read_slice_write_emb (v := M.view) (Rect.unit (s := S8192x512) ![0, 256 * g.val] S8192x256.size inb) f w
      (M := Finset.univ) (x := (ix2 (y 0 : Fin 8192) (⟨(y 1).val % 256, Nat.mod_lt _ (by decide)⟩ : Fin 256))) (Finset.mem_univ _)
    rw [← e] at k
    exact k
  · rw [if_neg h]
    refine View.read_slice_write_of_not_mem (v := M.view) (Rect.unit (s := S8192x512) ![0, 256 * g.val] S8192x256.size inb) f w Finset.univ (y := y) fun hm => h ?_
    rw [Rect.map_emb_univ, Rect.mem_set_unit] at hm
    have := hm 1
    have h1 : 256 * g.val ≤ (y 1).val ∧ (y 1).val < 256 * g.val + 256 := this
    omega

set_option maxRecDepth 16384 in
theorem okM_paste (g : Fin 2) (f : Buf (Elt F) (okM.view.loc (c : Thread nD τ))) (w : Vec F S8192x256 .f32) (off : Fin 2 → ℕ)
    (ho : off = ![0, 256 * g.val]) (inb : ∀ a, off a + S8192x256.size a ≤ S8192x512.size a) (hu) :
    View.write (Elt F) (okM.slice (Rect.unit (s := S8192x512) off S8192x256.size inb) hu).view f w Finset.univ = paste g f w :=
  (View.read_whole (Val := Elt F) main_v32_1 _).symm.trans ((write_paste okM g f w off ho inb).trans (congrArg (fun x => paste g x w) (View.read_whole (Val := Elt F) main_v32_1 f)))

set_option maxRecDepth 16384 in
theorem ovM_paste (g : Fin 2) (f : Buf (Elt F) (ovM.view.loc (c : Thread nD τ))) (w : Vec F S8192x256 .f32) (off : Fin 2 → ℕ)
    (ho : off = ![0, 256 * g.val]) (inb : ∀ a, off a + S8192x256.size a ≤ S8192x512.size a) (hu) :
    View.write (Elt F) (ovM.slice (Rect.unit (s := S8192x512) off S8192x256.size inb) hu).view f w Finset.univ = paste g f w :=
  (View.read_whole (Val := Elt F) main_v32_2 _).symm.trans ((write_paste ovM g f w off ho inb).trans (congrArg (fun x => paste g x w) (View.read_whole (Val := Elt F) main_v32_2 f)))

theorem writes_dq (m : Memref sig .tc .vmem S128x256 .f32) (f) (st : St F) (i0 i1) :
    m.view.read (Elt F) (m.view.writes (Elt F) f
      [⟨Rect.unit (s := S128x256) ![0, 128] S128x128.size i1, k0_pay1 k0_pay5 (rowq st.dq 2) (rowq st.dq 3)⟩,
       ⟨Rect.unit (s := S128x256) ![0, 0] S128x128.size i0, k0_pay33 k0_pay5 (rowq st.dq 0) (rowq st.dq 1)⟩]) = dqOut st := by
  refine funext fun (y : S128x256.Idx) => ?_
  have hc : (y 1).val < 256 := (y 1).isLt
  unfold dqOut
  by_cases h : (y 1).val < 128
  · have e : (⟨(y 1).val / 128, by omega⟩ : Fin 2) = 0 := Fin.ext (by show (y 1).val / 128 = 0; omega)
    rw [e]
    refine (View.read_writes_cons_unit_of_not_mem m.view f i1 _ _ y rfl 1 (Or.inl h)).trans
      (View.read_writes_cons_unit_of_mem m.view f i0 _ _ y _ rfl fun a => ?_)
    match a with
    | 0 => exact (Nat.zero_add _).symm
    | 1 => show (y 1).val = 0 + (y 1).val % 128; omega
  · have e : (⟨(y 1).val / 128, by omega⟩ : Fin 2) = 1 := Fin.ext (by show (y 1).val / 128 = 1; omega)
    rw [e]
    refine View.read_writes_cons_unit_of_mem m.view f i1 _ _ y _ rfl fun a => ?_
    match a with
    | 0 => exact (Nat.zero_add _).symm
    | 1 => show (y 1).val = 128 + (y 1).val % 128; omega

set_option maxRecDepth 16384 in
set_option maxHeartbeats 600000 in
include harg2 harg3 harg4 harg6 in
/-- The body of a point. -/
theorem kernelRun (fo1 : Buf (Elt F) (okM.view.loc (c : Thread nD τ))) (fo2 : Buf (Elt F) (ovM.view.loc (c : Thread nD τ))) (W : Waits sig Unit) (K : PUnit → sProp 𝕄) :
    iprop(staged arg2 arg3 arg4 x2 x3 x4 c ∗ (∃ d, owns (c : Thread nD τ) arg6 fullShare d) ∗ kept c kc vc dk dv ∗ spare c ∗ rest c ∗ hbPt c hbM fh
      ∗ hbPt c okM fo1 ∗ hbPt c ovM fo2 ∗ owes (c : Thread nD τ) 0 W
      ∗ (staged arg2 arg3 arg4 x2 x3 x4 c
          -∗ owns (c : Thread nD τ) arg6 fullShare (dqOut (pIter i x2 x3 x4 (keys i fh kc) (vals i fh vc) (dk0 i dk) (dv0 i dv)))
          -∗ kept c (keys i fh kc) (vals i fh vc) (pIter i x2 x3 x4 (keys i fh kc) (vals i fh vc) (dk0 i dk) (dv0 i dv)).dk
              (pIter i x2 x3 x4 (keys i fh kc) (vals i fh vc) (dk0 i dk) (dv0 i dv)).dv
          -∗ spare c -∗ rest c -∗ hbPt c hbM fh
          -∗ hbPt c okM (out i fo1 (pIter i x2 x3 x4 (keys i fh kc) (vals i fh vc) (dk0 i dk) (dv0 i dv)).dk)
          -∗ hbPt c ovM (out i fo2 (pIter i x2 x3 x4 (keys i fh kc) (vals i fh vc) (dk0 i dk) (dv0 i dv)).dv)
          -∗ (∃ W', owes (c : Thread nD τ) 0 W') -∗ K ⟨⟩))
    ⊢ wp frame (wpE (defs₀ (F := F)) 𝒱₀ (c : Thread nD τ) none) Set.univ
        (cc0_attn_bwd i arg2 harg2 arg3 harg3 arg4 harg4 hbM (Memref.isWhole_whole _) arg6 harg6 okM (Memref.isWhole_whole _) ovM (Memref.isWhole_whole _)
          kM (Memref.isWhole_whole _) vM (Memref.isWhole_whole _) dkM (Memref.isWhole_whole _) dvM (Memref.isWhole_whole _) dqM (Memref.isWhole_whole _)
          runM (Memref.isWhole_whole _) rungM (Memref.isWhole_whole _) cc0_scratch7) K := by
  simp only [cc0_attn_bwd_eq_skeleton]; unfold cc0_attn_bwd_skel
  simp only [k0_part2_eq_skeleton, k0_part3_eq_skeleton]
  generalize hS : pIter i x2 x3 x4 (keys i fh kc) (vals i fh vc) (dk0 i dk) (dv0 i dv) = s
  rw [wp_bind]
  iintro ⟨Hst, ⟨%d6, H6⟩, Hkp, Hsp, Hr, Hh, Ho1, Ho2, HW, HK⟩
  iapply (part1_run c i arg2 harg2 arg3 harg3 arg4 harg4 arg6 harg6 x2 x3 x4 kc vc dk dv fh W _)
  isplitl [Hst]
  · iexact Hst
  isplitl [Hkp]
  · iexact Hkp
  isplitl [Hr]
  · iexact Hr
  isplitl [Hh]
  · iexact Hh
  isplitl [HW]
  · iexact HW
  iintro Hst Hkp Hr Hh ⟨%W1, HW⟩
  have hs : (staged arg2 arg3 arg4 x2 x3 x4 c : sProp 𝕄) = iprop(owns (c : Thread nD τ) arg2 fullShare x2 ∗ owns (c : Thread nD τ) arg3 fullShare x3 ∗ owns (c : Thread nD τ) arg4 fullShare x4) := rfl
  have hl2 := readAt_half arg2 harg2 x2 1 inb_S128x256_S128x128_0_128
  have hl3 := readAt_half arg3 harg3 x3 1 inb_S128x256_S128x128_0_128
  have hl4 := readAt_half arg4 harg4 x4 1 inb_S128x256_S128x128_0_128
  have hsp : (spare c : sProp 𝕄) = iprop((∃ d : Vec F S4x128x128 .f32, owns (c : Thread nD τ) dqM fullShare d) ∗ (∃ d : Vec F S4x128x1 .f32, owns (c : Thread nD τ) runM fullShare d)
    ∗ (∃ d : Vec F S4x128x1 .f32, owns (c : Thread nD τ) rungM fullShare d)) := rfl
  ihave Hst := (show _ ⊢ _ from .of_eq hs) $$ Hst
  icases Hst with ⟨H2, H3, H4⟩
  ihave H2 := (owns_unread c arg2 harg2 x2) $$ H2
  ihave H3 := (owns_unread c arg3 harg3 x3) $$ H3
  ihave H4 := (owns_unread c arg4 harg4 x4) $$ H4
  ihave H6 := (owns_unread c arg6 harg6 d6) $$ H6
  ihave Hsp := (show _ ⊢ _ from .of_eq hsp) $$ Hsp
  icases Hsp with ⟨⟨%d13, H13⟩, ⟨%d14, H14⟩, ⟨%d15, H15⟩⟩
  ihave H13 := (owns_unread c dqM (Memref.isWhole_whole _) d13) $$ H13
  ihave H14 := (owns_unread c runM (Memref.isWhole_whole _) d14) $$ H14
  ihave H15 := (owns_unread c rungM (Memref.isWhole_whole _) d15) $$ H15
  sl_exec!
  ihave Hl : held c kM vM dkM dvM dqM runM rungM (keys i fh kc) (vals i fh vc) (⟨dk0 i dk, dv0 i dv, k0_pay29, k0_pay30, k0_pay31⟩ : St F) $$ [Hkp H13 H14 H15]
  · unfold kept held
    icases Hkp with ⟨H9, H10, H11, H12⟩
    isplitl [H9]
    · iexact H9
    isplitl [H10]
    · iexact H10
    isplitl [H11]
    · iexact H11
    isplitl [H12]
    · iexact H12
    isplitl [H13]
    · iapply (owns_of_read c dqM k0_pay29) $$ [H13]
      isplitl [H13]
      · iexact H13
      · ipureintro; unfold kernelRun.sl.H13_1; exact read_over dqM _ _ (by decide) _ _
    isplitl [H14]
    · iapply (owns_of_read c runM k0_pay30) $$ [H14]
      isplitl [H14]
      · iexact H14
      · ipureintro; unfold kernelRun.sl.H14_1; exact read_over runM _ _ (by decide) _ _
    · iapply (owns_of_read c rungM k0_pay31) $$ [H15]
      isplitl [H15]
      · iexact H15
      · ipureintro; unfold kernelRun.sl.H15_1; exact read_over rungM _ _ (by decide) _ _
  have hle : (i 1).val + 1 ≤ 64 := (i 1).isLt
  rw [← pred_succ (i 1)]
  iapply (wp_call_spec 𝒱₀ (c : Thread nD τ) none Set.univ
    (spec c kM vM dkM dvM dqM runM rungM (pEnv i x2 x3 x4) (keys i fh kc) (vals i fh vc) ((i 1).val + 1) hle 1#1 ⟨dk0 i dk, dv0 i dv, k0_pay29, k0_pay30, k0_pay31⟩)
    ((i 1).val + 1) (fun u hu => by cases hu)
    (spec_le c i _ _ _ _ _ _ _ _ _ _ _ _ _ _ _ Set.univ kM (Memref.isWhole_whole _) vM (Memref.isWhole_whole _) dkM (Memref.isWhole_whole _) dvM (Memref.isWhole_whole _)
      dqM (Memref.isWhole_whole _) runM (Memref.isWhole_whole _) rungM (Memref.isWhole_whole _) (keys i fh kc) (vals i fh vc) ((i 1).val + 1) hle 1#1
      ⟨dk0 i dk, dv0 i dv, k0_pay29, k0_pay30, k0_pay31⟩))
  rw [spec_apply]
  isplitl [Hl]
  · iexact Hl
  iintro %r Hl
  have hS' : iter (pEnv i x2 x3 x4) (keys i fh kc) (vals i fh vc) ((i 1).val + 1) hle 1#1 ⟨dk0 i dk, dv0 i dv, k0_pay29, k0_pay30, k0_pay31⟩ = s := hS
  rw [hS']
  obtain ⟨r1, r2⟩ := r
  dsimp only
  have hr0 := readAt_rowq dqM (Memref.isWhole_whole _) s.dq 0 inb_S4x128x128_S1x128x128_0_0_0
  have hr1 := readAt_rowq dqM (Memref.isWhole_whole _) s.dq 1 inb_S4x128x128_S1x128x128_1_0_0
  have hr2 := readAt_rowq dqM (Memref.isWhole_whole _) s.dq 2 inb_S4x128x128_S1x128x128_2_0_0
  have hr3 := readAt_rowq dqM (Memref.isWhole_whole _) s.dq 3 inb_S4x128x128_S1x128x128_3_0_0
  ihave Hl := (held_open c kM (Memref.isWhole_whole _) vM (Memref.isWhole_whole _) dkM (Memref.isWhole_whole _) dvM (Memref.isWhole_whole _)
      dqM (Memref.isWhole_whole _) runM (Memref.isWhole_whole _) rungM (Memref.isWhole_whole _) (keys i fh kc) (vals i fh vc) s) $$ Hl
  icases Hl with ⟨H9, H10, H11, H12, H13, H14, H15⟩
  unfold rest
  icases Hr with ⟨Hq0, Hq1⟩
  by_cases h2 : k0_cond2 i = 1#1
  · sl_exec!
    rw [wp_ret]; imodintro
    iapply HK $$ [H2 H3 H4] [H6] [H9 H10 H11 H12] [H13 H14 H15] [Hq0 Hq1] [Hh] [Ho1] [Ho2] [HW]
    · iapply (show _ ⊢ _ from .of_eq hs.symm)
      isplitl [H2]
      · iapply (owns_of_read c arg2 x2) $$ [H2]
        isplitl [H2]
        · iexact H2
        · ipureintro; exact harg2.read_unread x2
      isplitl [H3]
      · iapply (owns_of_read c arg3 x3) $$ [H3]
        isplitl [H3]
        · iexact H3
        · ipureintro; exact harg3.read_unread x3
      · iapply (owns_of_read c arg4 x4) $$ [H4]
        isplitl [H4]
        · iexact H4
        · ipureintro; exact harg4.read_unread x4
    · iapply (owns_of_read c arg6 (dqOut s)) $$ [H6]
      isplitl [H6]
      · iexact H6
      · ipureintro; unfold kernelRun.sl.H6_2; exact writes_dq arg6 _ s _ _
    · unfold kept
      isplitl [H9]
      · iapply (owns_of_read c kM (keys i fh kc)) $$ [H9]
        isplitl [H9]
        · iexact H9
        · ipureintro; exact Memref.IsWhole.read_unread _ _
      isplitl [H10]
      · iapply (owns_of_read c vM (vals i fh vc)) $$ [H10]
        isplitl [H10]
        · iexact H10
        · ipureintro; exact Memref.IsWhole.read_unread _ _
      isplitl [H11]
      · iapply (owns_of_read c dkM (s.dk)) $$ [H11]
        isplitl [H11]
        · iexact H11
        · ipureintro; exact Memref.IsWhole.read_unread _ _
      · iapply (owns_of_read c dvM (s.dv)) $$ [H12]
        isplitl [H12]
        · iexact H12
        · ipureintro; exact Memref.IsWhole.read_unread _ _
    · iapply (show _ ⊢ _ from .of_eq hsp.symm)
      isplitl [H13]
      · iexists s.dq; iapply (owns_of_read c dqM (s.dq)) $$ [H13]
        isplitl [H13]
        · iexact H13
        · ipureintro; exact Memref.IsWhole.read_unread _ _
      isplitl [H14]
      · iexists s.run; iapply (owns_of_read c runM (s.run)) $$ [H14]
        isplitl [H14]
        · iexact H14
        · ipureintro; exact Memref.IsWhole.read_unread _ _
      · iexists s.rung; iapply (owns_of_read c rungM (s.rung)) $$ [H15]
        isplitl [H15]
        · iexact H15
        · ipureintro; exact Memref.IsWhole.read_unread _ _
    · isplitl [Hq0]
      · iexact Hq0
      · iexact Hq1
    · iexact Hh
    · have ho : out i fo1 s.dk = kernelRun.sl.Ho1_w0 c i fo1 s h2 := by
        unfold kernelRun.sl.Ho1_w0
        rw [out, if_pos h2, okM_paste c (i 0) fo1 _ _ (closed4 i).2]
        unfold kernelRun.sl.dma8
        exact congrArg (paste (i 0) fo1) (Memref.IsWhole.read_unread (Val := Elt F) (Memref.isWhole_whole cc0_scratch2) s.dk).symm
      rw [ho]
      iexact Ho1
    · have ho : out i fo2 s.dv = kernelRun.sl.Ho2_w1 c i fo2 s h2 := by
        unfold kernelRun.sl.Ho2_w1
        rw [out, if_pos h2, ovM_paste c (i 0) fo2 _ _ (closed4 i).2]
        unfold kernelRun.sl.dma8_1
        exact congrArg (paste (i 0) fo2) (Memref.IsWhole.read_unread (Val := Elt F) (Memref.isWhole_whole cc0_scratch3) s.dv).symm
      rw [ho]
      iexact Ho2
    · iexists _; iexact HW
  · sl_exec!
    rw [wp_ret]; imodintro
    iapply HK $$ [H2 H3 H4] [H6] [H9 H10 H11 H12] [H13 H14 H15] [Hq0 Hq1] [Hh] [Ho1] [Ho2] [HW]
    · iapply (show _ ⊢ _ from .of_eq hs.symm)
      isplitl [H2]
      · iapply (owns_of_read c arg2 x2) $$ [H2]
        isplitl [H2]
        · iexact H2
        · ipureintro; exact harg2.read_unread x2
      isplitl [H3]
      · iapply (owns_of_read c arg3 x3) $$ [H3]
        isplitl [H3]
        · iexact H3
        · ipureintro; exact harg3.read_unread x3
      · iapply (owns_of_read c arg4 x4) $$ [H4]
        isplitl [H4]
        · iexact H4
        · ipureintro; exact harg4.read_unread x4
    · iapply (owns_of_read c arg6 (dqOut s)) $$ [H6]
      isplitl [H6]
      · iexact H6
      · ipureintro; unfold kernelRun.sl.H6_2_1; exact writes_dq arg6 _ s _ _
    · unfold kept
      isplitl [H9]
      · iapply (owns_of_read c kM (keys i fh kc)) $$ [H9]
        isplitl [H9]
        · iexact H9
        · ipureintro; exact Memref.IsWhole.read_unread _ _
      isplitl [H10]
      · iapply (owns_of_read c vM (vals i fh vc)) $$ [H10]
        isplitl [H10]
        · iexact H10
        · ipureintro; exact Memref.IsWhole.read_unread _ _
      isplitl [H11]
      · iapply (owns_of_read c dkM (s.dk)) $$ [H11]
        isplitl [H11]
        · iexact H11
        · ipureintro; exact Memref.IsWhole.read_unread _ _
      · iapply (owns_of_read c dvM (s.dv)) $$ [H12]
        isplitl [H12]
        · iexact H12
        · ipureintro; exact Memref.IsWhole.read_unread _ _
    · iapply (show _ ⊢ _ from .of_eq hsp.symm)
      isplitl [H13]
      · iexists s.dq; iapply (owns_of_read c dqM (s.dq)) $$ [H13]
        isplitl [H13]
        · iexact H13
        · ipureintro; exact Memref.IsWhole.read_unread _ _
      isplitl [H14]
      · iexists s.run; iapply (owns_of_read c runM (s.run)) $$ [H14]
        isplitl [H14]
        · iexact H14
        · ipureintro; exact Memref.IsWhole.read_unread _ _
      · iexists s.rung; iapply (owns_of_read c rungM (s.rung)) $$ [H15]
        isplitl [H15]
        · iexact H15
        · ipureintro; exact Memref.IsWhole.read_unread _ _
    · isplitl [Hq0]
      · iexact Hq0
      · iexact Hq1
    · iexact Hh
    · rw [out, if_neg h2]; iexact Ho1
    · rw [out, if_neg h2]; iexact Ho2
    · iexists _; iexact HW
end run

end Cert.KAttnIdeal.Attn
-- ==== Proof.Attn.Point.lean ====
/- What a grid point fixes for its loop, and what the loop leaves, when the arrays hold real numbers. -/
module

public import proofs.«01_k».proof.Proof.Attn.Trips
public import proofs.«01_k».proof.Proof.Attn.Body
public import Idealize.ShloMosaic.Lib.WordCmp

@[expose] public section

set_option maxRecDepth 16384

noncomputable section

namespace Cert.KAttnIdeal.Attn

open Cert.KAttnIdeal Cert.KAttnIdeal.Gen Cert.Attn
open Idealize.ShloMosaic Idealize.ShloMosaic.TcCoe Idealize.ShloMosaic.WordCmp

section pure
variable (x : Vec Ideal S128x128 .bf16) (u w : Vec Ideal S128x128 .f32) (a l : Fin 128)

theorem pay8 : k0_pay8 (F := Ideal) x (ix2 a l) = if l.val < 64 then x (ix2 a l) else 0 := by
  pointwise [k0_pay8, k0_pay5, k0_pay6, k0_pay7]
  exact lanes l _ _
theorem pay9 : k0_pay9 (F := Ideal) x (ix2 a l) = if l.val < 64 then 0 else x (ix2 a l) := by
  pointwise [k0_pay9, k0_pay5, k0_pay6, k0_pay7]
  exact lanes l _ _
theorem pay19 : k0_pay19 (F := Ideal) k0_pay5 x (ix2 a l) = if l.val < 64 then x (ix2 a l) else 0 := by
  pointwise [k0_pay19, k0_pay5, k0_pay17, k0_pay18]
  exact lanes l _ _
theorem pay20 : k0_pay20 (F := Ideal) k0_pay5 x (ix2 a l) = if l.val < 64 then 0 else x (ix2 a l) := by
  pointwise [k0_pay20, k0_pay5, k0_pay17, k0_pay18]
  exact lanes l _ _
theorem pay13 : k0_pay13 (F := Ideal) u (ix2 a l) = if l.val < 64 then u (ix2 a l) else 0 := by
  pointwise [k0_pay13, k0_pay5]
  exact lanes l _ _
theorem pay16 : k0_pay16 (F := Ideal) u k0_pay14 k0_pay15 (ix2 a l) = if l.val < 64 then 0 else u (ix2 a l) := by
  pointwise [k0_pay16, k0_pay14, k0_pay15, k0_pay5]
  exact lanes l _ _
theorem pay24 : k0_pay24 (F := Ideal) k0_pay5 u (ix2 a l) = if l.val < 64 then u (ix2 a l) else 0 := by
  pointwise [k0_pay24, k0_pay5]
  exact lanes l _ _
theorem pay25 : k0_pay25 (F := Ideal) k0_pay5 u (ix2 a l) = if l.val < 64 then 0 else u (ix2 a l) := by
  pointwise [k0_pay25, k0_pay5]
  exact lanes l _ _
theorem pay11 : k0_pay11 (F := Ideal) u w (ix2 a 0)
    = ∑ l : Fin 128, Scalar.select (IntOp.cmpi .slt (BitVec.ofNat 32 l.val) 64#32) (u (ix2 a l) * w (ix2 a l)) 0 := by
  pointwise [k0_pay11, k0_pay10, k0_pay5]
theorem pay12 : k0_pay12 (F := Ideal) u w (ix2 a 0)
    = ∑ l : Fin 128, Scalar.select (IntOp.cmpi .slt (BitVec.ofNat 32 l.val) 64#32) 0 (u (ix2 a l) * w (ix2 a l)) := by
  pointwise [k0_pay12, k0_pay10, k0_pay5]
theorem pay22 : k0_pay22 (F := Ideal) k0_pay5 u w (ix2 a 0)
    = ∑ l : Fin 128, Scalar.select (IntOp.cmpi .slt (BitVec.ofNat 32 l.val) 64#32) (u (ix2 a l) * w (ix2 a l)) 0 := by
  pointwise [k0_pay22, k0_pay21, k0_pay5]
theorem pay23 : k0_pay23 (F := Ideal) k0_pay5 u w (ix2 a 0)
    = ∑ l : Fin 128, Scalar.select (IntOp.cmpi .slt (BitVec.ofNat 32 l.val) 64#32) 0 (u (ix2 a l) * w (ix2 a l)) := by
  pointwise [k0_pay23, k0_pay21, k0_pay5]
theorem pay26 : k0_pay26 (F := Ideal) (iota .tc S128x128 32 [0] iota_S128x128_d0_w32) (iota .tc S128x128 32 [1] iota_S128x128_d1_w32) (ix2 a l)
    = (((if l < a then 1 else 0 : ℝ)) : EReal) := by
  pointwise [k0_pay26]
  rw [← EReal.coe_one, sel_coe0 _ (l < a) ((cmpi_sgt_ofNat_eq_one_iff (by omega) (by omega)).trans Fin.lt_def.symm)]
theorem pay28 : k0_pay28 (F := Ideal) (k0_pay27 (iota .tc S128x128 32 [0] iota_S128x128_d0_w32) (iota .tc S128x128 32 [1] iota_S128x128_d1_w32))
      (Scalar.ofBits .f32 0x3F800000#32) (Scalar.ofBits .f32 0x00000000#32) (ix2 a l) = (((if l ≤ a then 1 else 0 : ℝ)) : EReal) := by
  pointwise [k0_pay28, k0_pay27]
  rw [← EReal.coe_one, sel_coe0 _ (l ≤ a) ((cmpi_sge_ofNat_eq_one_iff (by omega) (by omega)).trans Fin.le_def.symm)]
theorem pay32 : k0_pay32 (ix2 a l) = 1#1 ↔ l < a := by
  pointwise [k0_pay32]
  rw [show IntOp.addi (BitVec.ofNat 32 a.val) 0#32 = BitVec.ofNat 32 a.val from BitVec.add_zero _]
  exact (cmpi_slt_ofNat_eq_one_iff (by omega) (by omega)).trans Fin.lt_def.symm
theorem pay34 (dm : IVec S128x128 1) (n m : Fin 64) (hn : n ≤ m) :
    k0_pay34 dm (BitVec.ofNat 32 n.val) (BitVec.ofNat 32 m.val) (ix2 a l) = 1#1 ↔ n < m ∨ dm (ix2 a l) = 1#1 := by
  pointwise [k0_pay34]
  have e : ∀ x y : BitVec 1, IntOp.ori x y = 1#1 ↔ x = 1#1 ∨ y = 1#1 := by decide
  rw [e]
  refine or_congr ?_ Iff.rfl
  show IntOp.cmpi .ne (BitVec.ofNat 32 n.val) (BitVec.ofNat 32 m.val) = 1#1 ↔ _
  rw [cmpi_ne_ofNat (by omega) (by omega), ofBool_decide_eq_one_iff, Fin.lt_def]; have := Fin.le_def.mp hn; omega

end pure

/-- Column `c` of group `g`. -/
def gc (g : Fin 2) (c : Fin 256) : Fin 512 := ⟨256 * g.val + c.val, by omega⟩
/-- Which half of its pair's lanes a head has, -/
abbrev side (h : Fin 4) : Fin 2 := ![0, 1, 0, 1] h
/-- and its number among all heads. -/
def hd (g : Fin 2) (h : Fin 4) : Fin 8 := ⟨4 * g.val + h.val, by omega⟩

theorem gc_lane : ∀ (g : Fin 2) (h : Fin 4) (d : Fin 64), gc g (lane (pr h) ⟨64 * (side h).val + d.val, by have := (side h).isLt; omega⟩) = col (hd g h) d := by
  intro g h d
  apply Fin.ext
  show 256 * g.val + (128 * (pr h).val + (64 * (side h).val + d.val)) = 64 * (4 * g.val + h.val) + d.val
  have : 128 * (pr h).val + 64 * (side h).val = 64 * h.val := by revert h; decide
  omega

/-- A head's lanes of a row. -/
def masked (g : Fin 2) (m : Fin 64) (X : Mat) (h : Fin 4) (a l : Fin 128) : ℝ :=
  if l.val / 64 = (side h).val then X (blk m a) (gc g (lane (pr h) l)) else 0

theorem sum_masked (g : Fin 2) (m : Fin 64) (X : Mat) (Y : Fin 512 → ℝ) (h : Fin 4) (a : Fin 128) :
    ∑ l, masked g m X h a l * Y (gc g (lane (pr h) l)) = ∑ d, X (blk m a) (col (hd g h) d) * Y (col (hd g h) d) := by
  simp only [masked, ite_mul, zero_mul]
  rw [sum_side]
  exact Finset.sum_congr rfl fun d _ => by rw [gc_lane]

/-- Which of a group's heads owns lane `l` of pair `p`. -/
def headOf (p : Fin 2) (l : Fin 128) : Fin 4 := ⟨2 * p.val + l.val / 64, by omega⟩

/-- Every column is a lane of a pair. -/
theorem lane_eq (c : Fin 256) : c = lane ⟨c.val / 128, by omega⟩ ⟨c.val % 128, by omega⟩ := Fin.ext (by simp only [lane]; omega)

section point

variable (g : Fin 2) (m : Fin 64) (Q K V D : Mat) (i : grid0.Coords) (hi0 : i 0 = g) (hi1 : i 1 = m)
  (q : Vec Ideal S128x256 .bf16) (a da : Vec Ideal S128x256 .f32)
  (hq : ∀ (r : Fin 128) (c : Fin 256), q (ix2 r c) = ((Q (blk m r) (gc g c) : ℝ) : EReal))
  (ha : ∀ (r : Fin 128) (c : Fin 256), a (ix2 r c) = ((att Q K V (blk m r) (gc g c) : ℝ) : EReal))
  (hda : ∀ (r : Fin 128) (c : Fin 256), da (ix2 r c) = ((D (blk m r) (gc g c) : ℝ) : EReal))

/-- The keys' and values' columns of a group. -/
def kcol (g : Fin 2) (X : Mat) (s : Fin 8192) (c : Fin 256) : ℝ := X s (gc g c)

theorem half_at {V : Type} (x : S128x256.Idx → V) (p : Fin 2) (r l : Fin 128) : half x p (ix2 r l) = x (ix2 r (lane p l)) := rfl

theorem Z_score (h : Fin 4) (r : Fin 128) : Z (masked g m Q) (kcol g K) h r = score Q K (hd g h) (blk m r) :=
  funext fun s => congrArg (· * (1 / 8 : ℝ)) (sum_masked g m Q (K s) h r)

theorem P_gweight (h : Fin 4) (r : Fin 128) : P (masked g m D) (kcol g V) h r = gweight V D (hd g h) (blk m r) :=
  funext fun s => sum_masked g m D (V s) h r

include hq in
theorem q_masked (h : Fin 4) (r l : Fin 128) : (pEnv i q a da).q h (ix2 r l) = ((masked g m Q h r l : ℝ) : EReal) := by
  match h with
  | 0 => exact (pay8 _ r l).trans (by rw [half_at, hq, pos_lt]; rfl)
  | 1 => exact (pay9 _ r l).trans (by rw [half_at, hq, neg_lt]; rfl)
  | 2 => exact (pay19 _ r l).trans (by rw [half_at, hq, pos_lt]; rfl)
  | 3 => exact (pay20 _ r l).trans (by rw [half_at, hq, neg_lt]; rfl)

include hda in
theorem da_masked (h : Fin 4) (r l : Fin 128) : (pEnv i q a da).da h (ix2 r l) = ((masked g m D h r l : ℝ) : EReal) := by
  match h with
  | 0 => exact (pay13 _ r l).trans (by rw [half_at, hda, pos_lt]; rfl)
  | 1 => exact (pay16 _ r l).trans (by rw [half_at, hda, neg_lt]; rfl)
  | 2 => exact (pay24 _ r l).trans (by rw [half_at, hda, pos_lt]; rfl)
  | 3 => exact (pay25 _ r l).trans (by rw [half_at, hda, neg_lt]; rfl)

theorem mul_masked (h : Fin 4) (r : Fin 128) : (∑ l, ((masked g m D h r l * att Q K V (blk m r) (gc g (lane (pr h) l)) : ℝ) : EReal))
    = ((∑ s, gl m (masked g m Q) (masked g m D) (kcol g K) (kcol g V) h r s : ℝ) : EReal) := by
  rw [coe_sum, sum_masked, sum_att]
  simp only [gl, Z_score, P_gweight]

include ha hda in
theorem dt_masked (h : Fin 4) (r : Fin 128) : (pEnv i q a da).dt h (ix2 r 0)
    = ((∑ s, gl m (masked g m Q) (masked g m D) (kcol g K) (kcol g V) h r s : ℝ) : EReal) := by
  rw [← mul_masked]
  match h with
  | 0 =>
    refine (pay11 _ _ r).trans (Finset.sum_congr rfl fun l _ => ?_)
    rw [lanes, half_at, half_at, hda, ha, ← EReal.coe_mul, pos_lt, masked, ite_mul, zero_mul]; rfl
  | 1 =>
    refine (pay12 _ _ r).trans (Finset.sum_congr rfl fun l _ => ?_)
    rw [lanes, half_at, half_at, hda, ha, ← EReal.coe_mul, neg_lt, masked, ite_mul, zero_mul]; rfl
  | 2 =>
    refine (pay22 _ _ r).trans (Finset.sum_congr rfl fun l _ => ?_)
    rw [lanes, half_at, half_at, hda, ha, ← EReal.coe_mul, pos_lt, masked, ite_mul, zero_mul]; rfl
  | 3 =>
    refine (pay23 _ _ r).trans (Finset.sum_congr rfl fun l _ => ?_)
    rw [lanes, half_at, half_at, hda, ha, ← EReal.coe_mul, neg_lt, masked, ite_mul, zero_mul]; rfl

variable (kc vc : Vec Ideal S8192x256 .bf16) (hk : ∀ (s : Fin 8192) (c : Fin 256), kc (ix2 s c) = ((kcol g K s c : ℝ) : EReal))
  (hv : ∀ (s : Fin 8192) (c : Fin 256), vc (ix2 s c) = ((kcol g V s c : ℝ) : EReal))

include hi1 hq ha hda hk hv in
theorem fixed : Fixed m (masked g m Q) (masked g m D) (kcol g K) (kcol g V) (pEnv i q a da) kc vc where
  vd n hn r l := by
    subst hi1
    refine (pay34 r l _ n (i 1) hn).trans ?_
    rw [pEnv, pay32]
    have h1 : n.val ≤ (i 1).val := hn
    constructor
    · rintro (h | h)
      · have h2 : n.val < (i 1).val := h
        exact Fin.lt_def.mpr (show 128 * n.val + l.val < 128 * (i 1).val + r.val by omega)
      · have h2 : l.val < r.val := h
        exact Fin.lt_def.mpr (show 128 * n.val + l.val < 128 * (i 1).val + r.val by omega)
    · intro h
      have h2 : 128 * n.val + l.val < 128 * (i 1).val + r.val := h
      rcases Nat.lt_or_ge n.val (i 1).val with h3 | h3
      · exact Or.inl h3
      · exact Or.inr (show l.val < r.val by omega)
  q := q_masked g m Q i q a da hq
  da := da_masked g m D i q a da hda
  dt := dt_masked g m Q K V D i q a da ha hda
  tl := pay26
  gf := pay28
  kc := hk
  vc := hv

theorem late {n : Fin 64} (h : m.val + 1 ≤ n.val) (r b : Fin 128) : blk m r ≤ blk n b :=
  Fin.le_def.mpr (show 128 * m.val + r.val ≤ 128 * n.val + b.val by omega)

/-- Nothing is done before the last block. -/
theorem start (dk dv : Vec Ideal S8192x256 .f32) (dkr dvr : Fin 8192 → Fin 256 → ℝ) (hdk : ∀ s c, dk (ix2 s c) = ((dkr s c : ℝ) : EReal))
    (hdv : ∀ s c, dv (ix2 s c) = ((dvr s c : ℝ) : EReal)) (qr dar : Fin 4 → Tile) (kr vr : Fin 8192 → Fin 256 → ℝ) :
    Done m qr dar kr vr dkr dvr (m.val + 1) ⟨dk, dv, k0_pay29 (F := Ideal), k0_pay30 (F := Ideal), k0_pay31 (F := Ideal)⟩ where
  run h r := by
    rw [since_eq_zero _ _ fun s hs => keep_of_le _ (Fin.le_def.mpr (show 128 * m.val + r.val ≤ s.val by omega))]
    show k0_pay30 (F := Ideal) (ix3 h r 0) = _
    pointwise [k0_pay30]
    exact EReal.coe_zero.symm
  rung h r := by
    rw [since_eq_zero _ _ fun s hs => glog_of_le _ _ (Fin.le_def.mpr (show 128 * m.val + r.val ≤ s.val by omega))]
    show k0_pay31 (F := Ideal) (ix3 h r 0) = _
    pointwise [k0_pay31]
    exact EReal.coe_zero.symm
  dq h r l := by
    rw [since_eq_zero _ _ fun s hs => by
      rw [gs, gscore_of_le _ _ (Fin.le_def.mpr (show 128 * m.val + r.val ≤ s.val by omega)), zero_mul]]
    show k0_pay29 (F := Ideal) (ix3 h r l) = _
    pointwise [k0_pay29]
    exact EReal.coe_zero.symm
  dk p n b l := by
    refine (hdk _ _).trans (congrArg _ ?_)
    split_ifs with h
    · rw [Finset.sum_eq_zero fun r _ => by rw [gs, gscore_of_le _ _ (late m h r b), zero_mul],
        Finset.sum_eq_zero fun r _ => by rw [gs, gscore_of_le _ _ (late m h r b), zero_mul]]; simp
    · simp
  dv p n b l := by
    refine (hdv _ _).trans (congrArg _ ?_)
    split_ifs with h
    · rw [Finset.sum_eq_zero fun r _ => by rw [wt, weight_of_le _ (late m h r b), zero_mul],
        Finset.sum_eq_zero fun r _ => by rw [wt, weight_of_le _ (late m h r b), zero_mul]]; simp
    · simp

theorem hd_owner (p : Fin 2) (l : Fin 128) : hd g (headOf p l) = head (gc g (lane p l)) :=
  Fin.ext (show 4 * g.val + (2 * p.val + l.val / 64) = (256 * g.val + (128 * p.val + l.val)) / 64 by omega)

/-- Of a pair's two heads only the owner of the lane counts. -/
theorem owner (f : Fin 4 → Fin 128 → ℝ) (X : Mat) (p : Fin 2) (l : Fin 128) :
    (∑ r, f (![0, 2] p) r * masked g m X (![0, 2] p) r l) + ∑ r, f (![1, 3] p) r * masked g m X (![1, 3] p) r l
      = ∑ r, f (headOf p l) r * X (blk m r) (gc g (lane p l)) := by
  have hl : l.val / 64 = 0 ∨ l.val / 64 = 1 := by omega
  rw [← Finset.sum_add_distrib]
  refine Finset.sum_congr rfl fun r _ => ?_
  match p with
  | 0 =>
    rcases hl with h | h
    · have e : headOf 0 l = 0 := Fin.ext (show 2 * 0 + l.val / 64 = 0 by omega)
      simp [masked, e, h, side, pr]
    · have e : headOf 0 l = 1 := Fin.ext (show 2 * 0 + l.val / 64 = 1 by omega)
      simp [masked, e, h, side, pr]
  | 1 =>
    rcases hl with h | h
    · have e : headOf 1 l = 2 := Fin.ext (show 2 * 1 + l.val / 64 = 2 by omega)
      simp [masked, e, h, side, pr]
    · have e : headOf 1 l = 3 := Fin.ext (show 2 * 1 + l.val / 64 = 3 by omega)
      simp [masked, e, h, side, pr]

theorem pay33 (u w : Vec Ideal S1x128x128 .f32) (r l : Fin 128) :
    k0_pay33 (F := Ideal) k0_pay5 u w (ix2 r l) = if l.val < 64 then u (ix3 0 r l) else w (ix3 0 r l) := by
  pointwise [k0_pay33, k0_pay5]
  exact lanes l _ _
theorem pay1 (u w : Vec Ideal S1x128x128 .f32) (r l : Fin 128) :
    k0_pay1 (F := Ideal) k0_pay5 u w (ix2 r l) = if l.val < 64 then u (ix3 0 r l) else w (ix3 0 r l) := by
  pointwise [k0_pay1, k0_pay5]
  exact lanes l _ _

include hi1 hq ha hda hk hv in
/-- What a point leaves: the query gradient of its rows, and what its rows add to the gradients of the keys and values. -/
theorem point (dk dv : Vec Ideal S8192x256 .f32) (dkr dvr : Fin 8192 → Fin 256 → ℝ) (hdk : ∀ s c, dk (ix2 s c) = ((dkr s c : ℝ) : EReal))
    (hdv : ∀ s c, dv (ix2 s c) = ((dvr s c : ℝ) : EReal)) :
    Done m (masked g m Q) (masked g m D) (kcol g K) (kcol g V) dkr dvr 0 (pIter i q a da kc vc dk dv) := by
  have H := fixed g m Q K V D i hi1 q a da hq ha hda kc vc hk hv
  subst hi1
  exact Done.iter H _ (i 1).isLt le_rfl _ (start (i 1) dk dv dkr dvr hdk hdv _ _ _ _)

section results
variable {g m Q K V D} {dkr dvr : Fin 8192 → Fin 256 → ℝ} {s : St Ideal}
  (hs : Done m (masked g m Q) (masked g m D) (kcol g K) (kcol g V) dkr dvr 0 s)

include hs in
theorem dq_row (h : Fin 4) (r l : Fin 128) : s.dq (ix3 h r l) = ((∑ k, gsc Q K V D (hd g h) (blk m r) k * K k (gc g (lane (pr h) l)) : ℝ) : EReal) := by
  rw [hs.dq, since_zero]
  simp only [gs, Z_score, P_gweight, gsc, kcol]

include hs in
theorem dq_at (p : Fin 2) (r l : Fin 128) : dqOut s (ix2 r (lane p l)) = ((gq Q K V D (blk m r) (gc g (lane p l)) : ℝ) : EReal) := by
  have e1 : ((lane p l).val / 128) = p.val := by show (128 * p.val + l.val) / 128 = _; omega
  have e2 : ((lane p l).val % 128) = l.val := by show (128 * p.val + l.val) % 128 = _; omega
  have e : dqOut s (ix2 r (lane p l)) = (![k0_pay33 k0_pay5 (rowq s.dq 0) (rowq s.dq 1), k0_pay1 k0_pay5 (rowq s.dq 2) (rowq s.dq 3)] : Fin 2 → FVec Ideal S128x128 .f32) p (ix2 r l) := by
    show (![_, _] : Fin 2 → FVec Ideal S128x128 .f32) ⟨(lane p l).val / 128, _⟩ (ix2 r (⟨(lane p l).val % 128, _⟩ : Fin 128)) = _
    simp only [e1, e2]
  rw [e]
  unfold gq
  rw [← hd_owner]
  have hl : l.val / 64 = 0 ∨ l.val / 64 = 1 := by omega
  match p with
  | 0 =>
    refine (pay33 _ _ r l).trans ?_
    rcases hl with h | h
    · have e : headOf 0 l = 0 := Fin.ext (show 2 * 0 + l.val / 64 = 0 by omega)
      rw [if_pos (by omega), e]; exact dq_row hs 0 r l
    · have e : headOf 0 l = 1 := Fin.ext (show 2 * 0 + l.val / 64 = 1 by omega)
      rw [if_neg (by omega), e]; exact dq_row hs 1 r l
  | 1 =>
    refine (pay1 _ _ r l).trans ?_
    rcases hl with h | h
    · have e : headOf 1 l = 2 := Fin.ext (show 2 * 1 + l.val / 64 = 2 by omega)
      rw [if_pos (by omega), e]; exact dq_row hs 2 r l
    · have e : headOf 1 l = 3 := Fin.ext (show 2 * 1 + l.val / 64 = 3 by omega)
      rw [if_neg (by omega), e]; exact dq_row hs 3 r l

include hs in
theorem dqOut_at (r : Fin 128) (c : Fin 256) : dqOut s (ix2 r c) = ((gq Q K V D (blk m r) (gc g c) : ℝ) : EReal) := by
  rw [lane_eq c]; exact dq_at hs _ r _

include hs in
theorem dk_at (k : Fin 8192) (c : Fin 256) :
    s.dk (ix2 k c) = ((dkr k c + ∑ r, gsc Q K V D (head (gc g c)) (blk m r) k * Q (blk m r) (gc g c) : ℝ) : EReal) := by
  rw [lane_eq c, blk_eq k, hs.dk, if_pos (Nat.zero_le _), owner g m (fun h r => gs m (masked g m Q) (masked g m D) (kcol g K) (kcol g V) h r _) Q]
  simp only [gs, Z_score, P_gweight, gsc, ← hd_owner]

include hs in
theorem dv_at (k : Fin 8192) (c : Fin 256) :
    s.dv (ix2 k c) = ((dvr k c + ∑ r, wgt Q K (head (gc g c)) (blk m r) k * D (blk m r) (gc g c) : ℝ) : EReal) := by
  rw [lane_eq c, blk_eq k, hs.dv, if_pos (Nat.zero_le _), owner g m (fun h r => wt m (masked g m Q) (kcol g K) h r _) D]
  simp only [wt, Z_score, wgt, ← hd_owner]

end results

end point

end Cert.KAttnIdeal.Attn
-- ==== Proof.Attn.Frame.lean ====
/- The run of the attention gradient: the points in order, the launch, and what the run leaves. -/
module

public import proofs.«01_k».proof.Proof.Attn.Body
public import proofs.«01_k».proof.Proof.Gen.KAttnIdeal.Launch
public import proofs.«01_k».proof.Proof.Gen.KAttnIdeal.Points
public import Idealize.ShloMosaic.Lib.Pipeline.FrameBody
public import Idealize.ShloMosaic.Lib.Pipeline.FrameValue

@[expose] public section

set_option maxRecDepth 16384

noncomputable section

namespace Cert.KAttnIdeal.Attn

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## What the region finds -/

/-- The host's stretches before the region. -/
abbrev before : List (List (HloOp τ sig (Elt F))) := [hostOps0, hostOps0_1, hostOps0_2, hostOps0_3, hostOps0_4, hostOps0_5, hostOps0_6, hostOps0_7, hostOps0_8, hostOps0_9]

/-- A buffer as the region finds it. -/
abbrev V (c : Dev nD) (b : Ref sig .tc) : Buf (Elt F) ((c : Thread nD τ).loc b) :=
  StableHlo.after before.flatten (fun b => m (c, b)) (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

theorem hmain : Pipeline.HMain (Ix := Unit) (Name := ℕ) (U := UD sig nD τ) (Lvl := ℕ) cfgs 0 defs₀ 𝒱₀ m (main (F := F)) (V m) :=
  Pipeline.hmain_prefixes cfgs 0 defs₀ 𝒱₀ m main before
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- The block of window `w` at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The points in order -/

/-- The point of a number. -/
def pt (n : ℕ) : Fin grid0.N := ⟨n % 128, by rw [N_0]; exact Nat.mod_lt _ (by decide)⟩
theorem pt_val (t : Fin grid0.N) : pt t.val = t := Fin.ext (Nat.mod_eq_of_lt (lt_of_lt_of_eq t.isLt N_0))

/-- The packed array of queries, keys and values. -/
abbrev kv (c : Dev nD) : S8192x1536.Idx → Elt F .bf16 := V m c main_v31

/-- What the loop of point `t` leaves, from the gradients `dk`, `dv` that the points before it left. -/
def stOf (c : Dev nD) (t : Fin grid0.N) (dk dv : Vec F S8192x256 .f32) : St F :=
  pIter (grid0.coords t) (iblk m c 0 t) (iblk m c 1 t) (iblk m c 2 t) (slab (grid0.coords t 0) 1 (kv m c)) (slab (grid0.coords t 0) 2 (kv m c))
    (dk0 (grid0.coords t) dk) (dv0 (grid0.coords t) dv)

/-- The gradients of keys and values before point `n`. -/
def acc (c : Dev nD) : ℕ → Vec F S8192x256 .f32 × Vec F S8192x256 .f32
  | 0 => (k0_pay3, k0_pay4)
  | n + 1 => ((stOf m c (pt n) (acc c n).1 (acc c n).2).dk, (stOf m c (pt n) (acc c n).1 (acc c n).2).dv)

/-- What point `t` leaves. -/
def stAt (c : Dev nD) (t : Fin grid0.N) : St F := stOf m c t (acc m c t.val).1 (acc m c t.val).2

theorem acc_succ (c : Dev nD) (t : Fin grid0.N) : acc m c (t.val + 1) = ((stAt m c t).dk, (stAt m c t).dv) := by
  show ((stOf m c (pt t.val) _ _).dk, (stOf m c (pt t.val) _ _).dv) = _
  rw [pt_val]; rfl

/-- The two results before point `n`. -/
def res1 (c : Dev nD) : ℕ → S8192x512.Idx → Elt F .f32
  | 0 => V m c main_v32_1
  | n + 1 => out (grid0.coords (pt n)) (res1 c n) (stAt m c (pt n)).dk
def res2 (c : Dev nD) : ℕ → S8192x512.Idx → Elt F .f32
  | 0 => V m c main_v32_2
  | n + 1 => out (grid0.coords (pt n)) (res2 c n) (stAt m c (pt n)).dv

theorem res1_succ (c : Dev nD) (t : Fin grid0.N) : res1 m c (t.val + 1) = out (grid0.coords t) (res1 m c t.val) (stAt m c t).dk := by
  show out (grid0.coords (pt t.val)) _ (stAt m c (pt t.val)).dk = _
  rw [pt_val]
theorem res2_succ (c : Dev nD) (t : Fin grid0.N) : res2 m c (t.val + 1) = out (grid0.coords t) (res2 m c t.val) (stAt m c t).dv := by
  show out (grid0.coords (pt t.val)) _ (stAt m c (pt t.val)).dv = _
  rw [pt_val]

theorem cond1_iff : ∀ t : Fin grid0.N, k0_cond1 (grid0.coords t) = 1#1 ↔ t.val % 64 = 0 := by decide +kernel
theorem cond2_iff : ∀ t : Fin grid0.N, k0_cond2 (grid0.coords t) = 1#1 ↔ t.val % 64 = 63 := by decide +kernel
theorem group_succ : ∀ t : Fin grid0.N, (t.val + 1) % 64 ≠ 0 → (grid0.coords t 0).val = (t.val + 1) / 64 := by decide +kernel
theorem group_at : ∀ t : Fin grid0.N, (grid0.coords t 0).val = t.val / 64 := by decide +kernel

/-- What the carried buffers hold before point `n`, inside a group. -/
def Carried (c : Dev nD) (n : ℕ) (kc vc : Vec F S8192x256 .bf16) (dk dv : Vec F S8192x256 .f32) : Prop :=
  n % 64 ≠ 0 → (∀ g : Fin 2, g.val = n / 64 → kc = slab g 1 (kv m c) ∧ vc = slab g 2 (kv m c)) ∧ dk = (acc m c n).1 ∧ dv = (acc m c n).2

theorem carried_keys {c : Dev nD} {t : Fin grid0.N} {kc vc dk dv} (h : Carried m c t.val kc vc dk dv) :
    keys (grid0.coords t) (kv m c) kc = slab (grid0.coords t 0) 1 (kv m c) ∧ vals (grid0.coords t) (kv m c) vc = slab (grid0.coords t 0) 2 (kv m c)
      ∧ dk0 (grid0.coords t) dk = dk0 (grid0.coords t) (acc m c t.val).1 ∧ dv0 (grid0.coords t) dv = dv0 (grid0.coords t) (acc m c t.val).2 := by
  unfold keys vals dk0 dv0
  by_cases h1 : k0_cond1 (grid0.coords t) = 1#1
  · rw [if_pos h1, if_pos h1, if_pos h1, if_pos h1, if_pos h1, if_pos h1]; exact ⟨rfl, rfl, rfl, rfl⟩
  · rw [if_neg h1, if_neg h1, if_neg h1, if_neg h1, if_neg h1, if_neg h1]
    obtain ⟨hs, hk, hv⟩ := h (fun e => h1 ((cond1_iff t).mpr e))
    exact ⟨(hs _ (group_at t)).1, (hs _ (group_at t)).2, hk, hv⟩

theorem carried_succ (c : Dev nD) (t : Fin grid0.N) :
    Carried m c (t.val + 1) (slab (grid0.coords t 0) 1 (kv m c)) (slab (grid0.coords t 0) 2 (kv m c)) (stAt m c t).dk (stAt m c t).dv := fun h =>
  ⟨fun g hg => by
    have : g = grid0.coords t 0 := Fin.ext (hg.trans (group_succ t h).symm)
    subst this; exact ⟨rfl, rfl⟩, by rw [acc_succ], by rw [acc_succ]⟩

/-- What holds before point `n`. -/
def Inv (c : Dev nD) (n : ℕ) : sProp 𝕄 :=
  iprop((∃ kc vc dk dv, kept c kc vc dk dv ∗ ⌜Carried m c n kc vc dk dv⌝) ∗ spare c ∗ (∃ r, prngReg c r) ∗ rest c
    ∗ hbPt c hbM (V m c main_v31) ∗ hbPt c okM (res1 m c n) ∗ hbPt c ovM (res2 m c n))

/-! ## The proof data -/

def dats (_ : Fin 1) (c : Dev nD) : Dat τ (Elt F) Unit ℕ (UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => dqOut (stAt m c t)
    | ⟨_ + 4, h⟩ => absurd h (Nat.not_lt.2 (Nat.le_add_left _ _))
  Φ t := Inv m c t.val
  q _ := fullShare
  owed _ := 0

theorem A_eq (c : Dev nD) (w : Fin (cfg0 (F := F)).W) : (dats m 0 c).A w = V m c (Pipeline.arrRef spec0 w) := by dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = dqOut (stAt m c t) := by dsimp only [dats]; rfl

theorem Phi_eq (c : Dev nD) (t) : (dats m 0 c).Φ t = Inv m c t.val := by dsimp only [dats]

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- The body at point `t`, from what the points before it left. -/
theorem sound_body (c : Dev nD) (t : Fin (cfg0 (F := F)).N) :
    iprop((dats m 0 c).Φ t.castSucc ∗ (dats m 0 c).owesAt () t.castSucc
      ∗ (∃ d, owns (c : Thread nD τ) (st0_0 (F := F) t) fullShare ((dats m 0 c).before 0 t d))
      ∗ (∃ d, owns (c : Thread nD τ) (st0_1 (F := F) t) fullShare ((dats m 0 c).before 1 t d))
      ∗ (∃ d, owns (c : Thread nD τ) (st0_2 (F := F) t) fullShare ((dats m 0 c).before 2 t d))
      ∗ (∃ d, owns (c : Thread nD τ) (st0_3 (F := F) t) fullShare ((dats m 0 c).before 3 t d)))
    ⊢ wp frame (wpE (defs₀ (F := F)) 𝒱₀ c none) Set.univ (bodyAt0 t) (fun _ =>
      iprop((dats m 0 c).Φ t.succ ∗ (dats m 0 c).owesAt () t.succ
        ∗ owns (c : Thread nD τ) (st0_0 (F := F) t) fullShare ((dats m 0 c).after 0 t)
        ∗ owns (c : Thread nD τ) (st0_1 (F := F) t) fullShare ((dats m 0 c).after 1 t)
        ∗ owns (c : Thread nD τ) (st0_2 (F := F) t) fullShare ((dats m 0 c).after 2 t)
        ∗ owns (c : Thread nD τ) (st0_3 (F := F) t) fullShare ((dats m 0 c).after 3 t))) := by
  simp only [before0_0, before0_1, before0_2]
  rw [Phi_eq, Phi_eq, Fin.val_succ, Fin.val_castSucc,
    show (dats m 0 c).owesAt () t.succ = (dats m 0 c).owesAt () t.castSucc from rfl,
    after0_0, after0_1, after0_2, after0_3]
  unfold Dat.owesAt Pipeline.owesWithin Inv
  rw [show (dats m 0 c).owed t.castSucc = 0 from rfl, res1_succ, res2_succ]
  iintro ⟨⟨⟨%kc, %vc, %dk, %dv, Hk, %hC⟩, Hsp, Hg, Hr, Hh, Ho1, Ho2⟩, ⟨%W, %hW, HO⟩, ⟨%d0, H0⟩, ⟨%d1, H1⟩, ⟨%d2, H2⟩, ⟨%d3, H3⟩⟩
  obtain ⟨e1, e2, e3, e4⟩ := carried_keys m hC
  iapply (kernelRun c (grid0.coords t) _ (hstage0_0 (((cfg0 (F := F)).slots t 0).cast nbuf0_0)) _ (hstage0_1 (((cfg0 (F := F)).slots t 1).cast nbuf0_1))
    _ (hstage0_2 (((cfg0 (F := F)).slots t 2).cast nbuf0_2)) _ (hstage0_3 (((cfg0 (F := F)).slots t 3).cast nbuf0_3))
    (iblk m c 0 t) (iblk m c 1 t) (iblk m c 2 t) kc vc dk dv (V m c main_v31) (res1 m c t.val) (res2 m c t.val) W _)
  have eS : pIter (grid0.coords t) (iblk m c 0 t) (iblk m c 1 t) (iblk m c 2 t) (keys (grid0.coords t) (V m c main_v31) kc) (vals (grid0.coords t) (V m c main_v31) vc)
      (dk0 (grid0.coords t) dk) (dv0 (grid0.coords t) dv) = stAt m c t := by
    unfold stAt stOf; rw [← e1, ← e2, ← e3, ← e4]
  rw [eS, show keys (grid0.coords t) (V m c main_v31) kc = _ from e1, show vals (grid0.coords t) (V m c main_v31) vc = _ from e2]
  isplitl [H0 H1 H2]
  · unfold staged
    isplitl [H0]
    · iexact H0
    isplitl [H1]
    · iexact H1
    · iexact H2
  isplitl [H3]
  · iexists _; iexact H3
  isplitl [Hk]
  · iexact Hk
  isplitl [Hsp]
  · iexact Hsp
  isplitl [Hr]
  · iexact Hr
  isplitl [Hh]
  · iexact Hh
  isplitl [Ho1]
  · iexact Ho1
  isplitl [Ho2]
  · iexact Ho2
  isplitl [HO]
  · iexact HO
  iintro Hst H3 Hk Hsp Hr Hh Ho1 Ho2 ⟨%W', HO⟩
  isplitl [Hk Hsp Hg Hr Hh Ho1 Ho2]
  · isplitl [Hk]
    · iexists _, _, _, _
      isplitl [Hk]
      · iexact Hk
      · ipureintro; exact carried_succ m c t
    isplitl [Hsp]
    · iexact Hsp
    isplitl [Hg]
    · iexact Hg
    isplitl [Hr]
    · iexact Hr
    isplitl [Hh]
    · iexact Hh
    isplitl [Ho1]
    · iexact Ho1
    · iexact Ho2
  isplitl [HO]
  · iexists W'; isplitr
    · ipureintro; exact fun _ _ => Or.inl trivial
    · iexact HO
  unfold staged
  icases Hst with ⟨H0, H1, H2⟩
  isplitl [H0]
  · iexact H0
  isplitl [H1]
  · iexact H1
  isplitl [H2]
  · iexact H2
  · iexact H3

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := UD sig nD τ) (Lvl := ℕ) (Val := Elt F) (τ := τ) osem0 c : sProp 𝕄) = rest c := by
  rw [Pipeline.ownSems0_eq_of_list c osem0 [0, 1] (by decide) (by decide)]; rfl

/-- The array the body reads by its own copies, and the two results it writes by them. -/
def H0 : Finset (Ref sig .tc) := {main_v31}
def R0 : Finset (Ref sig .tc) := {main_v32_1, main_v32_2}
theorem H0_sub : H0 ⊆ Pipeline.restRefs sig spec0 := by decide
theorem R0_sub : R0 ⊆ Pipeline.restRefs sig spec0 \ H0 := by decide

/-- What the run leaves in them. -/
def G (c : Dev nD) : (b : Ref sig .tc) → Buf (Elt F) ((c : Thread nD τ).loc b) :=
  Function.update (Function.update (V m c) main_v32_1 (res1 m c 128)) main_v32_2 (res2 m c 128)

theorem G_1 (c : Dev nD) : G m c main_v32_1 = res1 m c 128 := by
  unfold G; rw [Function.update_of_ne (by decide), Function.update_self]
theorem G_2 (c : Dev nD) : G m c main_v32_2 = res2 m c 128 := by
  unfold G; rw [Function.update_self]

theorem hbmPts_eq (c : Dev nD) :
    (bigSep H0 (fun b => ((c : Thread nD τ).loc b) ↦{fullShare} V m c b) : sProp 𝕄) = iprop(hbPt c hbM (V m c main_v31)) := by
  rw [BI.bigSep_eq_bigSepL_of_eq [main_v31] (by decide) (by decide)]; rfl

theorem routed_eq (c : Dev nD) (X : (b : Ref sig .tc) → Buf (Elt F) ((c : Thread nD τ).loc b)) :
    (Pipeline.routed R0 c X : sProp 𝕄) = iprop(hbPt c okM (X main_v32_1) ∗ hbPt c ovM (X main_v32_2)) := by
  unfold Pipeline.routed
  rw [BI.bigSep_eq_bigSepL_of_eq [main_v32_1, main_v32_2] (by decide) (by decide)]
  simp only [BI.bigSepL_cons_cons, BI.bigSepL_singleton]; rfl

theorem enter (c : Dev nD) : Pipeline.ΦDRG osem0 spec0 H0 R0 (V m) (V m) c ⊢ (dats (F := F) m 0 c).Φ 0 := by
  rw [Pipeline.ΦDRG_eq, scopedRest0_eq, ownSems00_eq, hbmPts_eq, routed_eq]
  show _ ⊢ Inv m c 0
  unfold Inv kept spare
  simp only [owns_whole]
  iintro ⟨⟨⟨%f0, S0⟩, ⟨%f1, S1⟩, ⟨%f2, S2⟩, ⟨%f3, S3⟩, S4, S5, S6⟩, Hg, Hr, Hh, Ho1, Ho2⟩
  isplitl [S0 S1 S2 S3]
  · iexists f0, f1, f2, f3
    isplitl [S0 S1 S2 S3]
    · isplitl [S0]
      · iexact S0
      isplitl [S1]
      · iexact S1
      isplitl [S2]
      · iexact S2
      · iexact S3
    · ipureintro; exact fun h => absurd rfl h
  isplitl [S4 S5 S6]
  · isplitl [S4]
    · iexact S4
    isplitl [S5]
    · iexact S5
    · iexact S6
  isplitl [Hg]
  · iexact Hg
  isplitl [Hr]
  · iexact Hr
  isplitl [Hh]
  · iexact Hh
  isplitl [Ho1]
  · iexact Ho1
  · iexact Ho2

theorem leave (c : Dev nD) : (dats (F := F) m 0 c).Φ (Fin.last (cfg0 (F := F)).N) ⊢ Pipeline.ΦDRG osem0 spec0 H0 R0 (V m) (G m) c := by
  rw [Pipeline.ΦDRG_eq, scopedRest0_eq, ownSems00_eq, hbmPts_eq, routed_eq, G_1, G_2]
  show Inv m c 128 ⊢ _
  unfold Inv kept spare
  simp only [owns_whole]
  iintro ⟨⟨%f0, %f1, %f2, %f3, ⟨S0, S1, S2, S3⟩, -⟩, ⟨S4, S5, S6⟩, Hg, Hr, Hh, Ho1, Ho2⟩
  isplitl [S0 S1 S2 S3 S4 S5 S6]
  · isplitl [S0]
    · iexists _; iexact S0
    isplitl [S1]
    · iexists _; iexact S1
    isplitl [S2]
    · iexists _; iexact S2
    isplitl [S3]
    · iexists _; iexact S3
    isplitl [S4]
    · iexact S4
    isplitl [S5]
    · iexact S5
    · iexact S6
  isplitl [Hg]
  · iexact Hg
  isplitl [Hr]
  · iexact Hr
  isplitl [Hh]
  · iexact Hh
  isplitl [Ho1]
  · iexact Ho1
  · iexact Ho2

set_option backward.isDefEq.respectTransparency.types false in
/-- The run: every array at what the points leave, the two results written by copies at theirs, everything else as the
    region found it, every counter at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmain m) (hA := A_eq m) (G := G m) (hin := enter m) (hout := leave m)

/-! ## The frame -/

/-! No host operation before the region writes an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.nary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.nary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.nary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.nary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem rest_arg0 : main_arg0 ∈ Pipeline.restRefs sig spec0 \ R0 := by decide
theorem rest_arg1 : main_arg1 ∈ Pipeline.restRefs sig spec0 \ R0 := by decide
theorem rest_arg2 : main_arg2 ∈ Pipeline.restRefs sig spec0 \ R0 := by decide

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1.toR c).2 main_arg0 rest_arg0).trans (V_main_arg0 m c),
     ((h.1.toR c).2 main_arg1 rest_arg1).trans (V_main_arg1 m c),
     ((h.1.toR c).2 main_arg2 rest_arg2).trans (V_main_arg2 m c),
     ((h.1.toR c).1 2).trans (((dats m 0 c).arrAt_in 2 rfl _).trans ((A_eq m c 2).trans (V_main_arg3 m c)))⟩, h.2⟩) (run_main m ρ)

end Cert.KAttnIdeal.Attn

end
-- ==== Proof.Attn.Array.lean ====
/- The three gradients as the kernel leaves them, when the arrays that it reads hold real numbers. -/
module

public import proofs.«01_k».proof.Proof.Attn.Point
public import proofs.«01_k».proof.Proof.Attn.Frame
public import Idealize.ShloMosaic.Lib.Pipeline.ValueKit

@[expose] public section

set_option maxRecDepth 16384

noncomputable section

namespace Cert.KAttnIdeal.Attn

open Cert.KAttnIdeal Cert.KAttnIdeal.Gen Cert.Attn
open Idealize.ShloMosaic Idealize.ShloMosaic.TcCoe Idealize.SL.Sem
open Idealize.ShloMosaic.Pipeline (Dat)

variable (m : (ℓ : Loc nD τ sig) → Buf (Elt Ideal) ℓ)

theorem idx : ∀ t : Fin (cfg0 (F := Ideal)).N, win0_0.index t = ![t.val % 64, t.val / 64] ∧ win0_1.index t = ![t.val % 64, t.val / 64]
    ∧ win0_2.index t = ![t.val % 64, t.val / 64] ∧ win0_3.index t = ![t.val % 64, t.val / 64] :=
  (by decide +kernel : ∀ t : Fin grid0.N, _)

/-- The group and the query block of a point. -/
def grp (t : Fin grid0.N) : Fin 2 := ⟨t.val / 64, by have := t.isLt; have : grid0.N = 128 := N_0; omega⟩
def qb (t : Fin grid0.N) : Fin 64 := ⟨t.val % 64, by omega⟩

theorem row_at : ∀ t : Fin grid0.N, (grid0.coords t 1).val = t.val % 64 := by decide +kernel
theorem coords0 (t : Fin grid0.N) : grid0.coords t 0 = grp t := Fin.ext (group_at t)
theorem coords1 (t : Fin grid0.N) : grid0.coords t 1 = qb t := Fin.ext (row_at t)

/-- Column `x` of part `b` of the packed array. -/
def part (b : Fin 3) (x : Fin 512) : Fin 1536 := ⟨512 * b.val + x.val, by omega⟩

theorem slab_at {U : Type} (g : Fin 2) (b : Fin 3) (x : S8192x1536.Idx → U) (s : Fin 8192) (k : Fin 256) :
    slab g b x (ix2 s k) = x (ix2 s (part b (gc g k))) := by
  refine congrArg (fun j : Fin 1536 => x (ix2 s j)) (Fin.ext ?_)
  show 512 * b.val + 256 * g.val + k.val = 512 * b.val + (256 * g.val + k.val)
  omega

/-- What the kernel's arrays hold. -/
structure Holds (c : Dev nD) (Q K V' D : Mat) : Prop where
  q : ∀ r x, V m c main_v30 (ix2 r (part 0 x)) = ((Q r x : ℝ) : EReal)
  k : ∀ r x, V m c main_v31 (ix2 r (part 1 x)) = ((K r x : ℝ) : EReal)
  v : ∀ r x, V m c main_v31 (ix2 r (part 2 x)) = ((V' r x : ℝ) : EReal)
  a : ∀ r x, V m c main_v29 (ix2 r x) = ((att Q K V' r x : ℝ) : EReal)
  d : ∀ r (x : Fin 512), V m c main_arg3 (ix2 r (⟨x.val, by omega⟩ : Fin 1024)) = ((D r x : ℝ) : EReal)

theorem iblk0_at (c : Dev nD) (t : Fin (cfg0 (F := Ideal)).N) (r : Fin 128) (k : Fin 256) :
    iblk m c 0 t (ix2 r k) = V m c main_v30 (ix2 (blk (qb t) r) (part 0 (gc (grp t) k))) := by
  unfold blk qb part gc grp
  blk_point [iblk, idx t]
theorem iblk1_at (c : Dev nD) (t : Fin (cfg0 (F := Ideal)).N) (r : Fin 128) (k : Fin 256) :
    iblk m c 1 t (ix2 r k) = V m c main_v29 (ix2 (blk (qb t) r) (gc (grp t) k)) := by
  unfold blk qb gc grp
  blk_point [iblk, idx t]
theorem iblk2_at (c : Dev nD) (t : Fin (cfg0 (F := Ideal)).N) (r : Fin 128) (k : Fin 256) :
    iblk m c 2 t (ix2 r k) = V m c main_arg3 (ix2 (blk (qb t) r) (⟨(gc (grp t) k).val, by omega⟩ : Fin 1024)) := by
  unfold blk qb gc grp
  blk_point [iblk, idx t]

section arrays

variable {m} {c : Dev nD} {Q K V' D : Mat} (H : Holds m c Q K V' D)

include H in
/-- A point adds its rows' share. -/
theorem at_point (t : Fin grid0.N) (dk dv : Vec Ideal S8192x256 .f32) (dkr dvr : Fin 8192 → Fin 256 → ℝ)
    (hdk : ∀ s x, dk0 (grid0.coords t) dk (ix2 s x) = ((dkr s x : ℝ) : EReal))
    (hdv : ∀ s x, dv0 (grid0.coords t) dv (ix2 s x) = ((dvr s x : ℝ) : EReal)) :
    Done (qb t) (masked (grp t) (qb t) Q) (masked (grp t) (qb t) D) (kcol (grp t) K) (kcol (grp t) V') dkr dvr 0 (stOf m c t dk dv) := by
  refine point (grp t) (qb t) Q K V' D _ (coords1 t) _ _ _ ?_ ?_ ?_ _ _ ?_ ?_ _ _ dkr dvr hdk hdv
  · exact fun r k => (iblk0_at m c t r k).trans (H.q _ _)
  · exact fun r k => (iblk1_at m c t r k).trans (H.a _ _)
  · exact fun r k => (iblk2_at m c t r k).trans (H.d _ _)
  · intro s x
    rw [coords0]
    exact (slab_at (grp t) 1 _ s x).trans (H.k s (gc (grp t) x))
  · intro s x
    rw [coords0]
    exact (slab_at (grp t) 2 _ s x).trans (H.v s (gc (grp t) x))

/-- The shares of a group's query blocks before block `n`. -/
def dkr (Q K V' D : Mat) (g : Fin 2) (n : ℕ) (s : Fin 8192) (x : Fin 256) : ℝ := until' (fun r => gsc Q K V' D (head (gc g x)) r s * Q r (gc g x)) n
def dvr (Q K D : Mat) (g : Fin 2) (n : ℕ) (s : Fin 8192) (x : Fin 256) : ℝ := until' (fun r => wgt Q K (head (gc g x)) r s * D r (gc g x)) n

theorem pay3 (y : S8192x256.Idx) : k0_pay3 (F := Ideal) y = ((0 : ℝ) : EReal) := by
  pointwise [k0_pay3]; exact EReal.coe_zero.symm
theorem pay4 (y : S8192x256.Idx) : k0_pay4 (F := Ideal) y = ((0 : ℝ) : EReal) := by
  pointwise [k0_pay4]; exact EReal.coe_zero.symm

/-- What the two carried gradients hold when point `t`'s loop starts. -/
def Carries (m : (ℓ : Loc nD τ sig) → Buf (Elt Ideal) ℓ) (c : Dev nD) (Q K V' D : Mat) (t : Fin grid0.N) : Prop :=
  (∀ s x, dk0 (grid0.coords t) (acc m c t.val).1 (ix2 s x) = ((dkr Q K V' D (grp t) (t.val % 64) s x : ℝ) : EReal))
    ∧ ∀ s x, dv0 (grid0.coords t) (acc m c t.val).2 (ix2 s x) = ((dvr Q K D (grp t) (t.val % 64) s x : ℝ) : EReal)

include H in
theorem done_at (t : Fin grid0.N) (h : Carries m c Q K V' D t) :
    Done (qb t) (masked (grp t) (qb t) Q) (masked (grp t) (qb t) D) (kcol (grp t) K) (kcol (grp t) V')
      (dkr Q K V' D (grp t) (t.val % 64)) (dvr Q K D (grp t) (t.val % 64)) 0 (stAt m c t) :=
  at_point H t _ _ _ _ h.1 h.2

include H in
theorem left_dk (t : Fin grid0.N) (h : Carries m c Q K V' D t) (s : Fin 8192) (x : Fin 256) :
    (stAt m c t).dk (ix2 s x) = ((dkr Q K V' D (grp t) (t.val % 64 + 1) s x : ℝ) : EReal) := by
  refine (dk_at (done_at H t h) s x).trans (congrArg _ ?_)
  exact (until_step (fun r => gsc Q K V' D (head (gc (grp t) x)) r s * Q r (gc (grp t) x)) (qb t)).symm
include H in
theorem left_dv (t : Fin grid0.N) (h : Carries m c Q K V' D t) (s : Fin 8192) (x : Fin 256) :
    (stAt m c t).dv (ix2 s x) = ((dvr Q K D (grp t) (t.val % 64 + 1) s x : ℝ) : EReal) := by
  refine (dv_at (done_at H t h) s x).trans (congrArg _ ?_)
  exact (until_step (fun r => wgt Q K (head (gc (grp t) x)) r s * D r (gc (grp t) x)) (qb t)).symm

include H in
theorem carries : ∀ (n : ℕ) (hn : n < grid0.N), Carries m c Q K V' D ⟨n, hn⟩ := by
  intro n
  induction n with
  | zero =>
    intro hn
    unfold Carries dk0 dv0
    rw [if_pos ((cond1_iff ⟨0, hn⟩).mpr rfl), if_pos ((cond1_iff ⟨0, hn⟩).mpr rfl)]
    exact ⟨fun s x => (pay3 _).trans (by rw [dkr, show (0 % 64 : ℕ) = 0 from rfl, until_zero]), fun s x => (pay4 _).trans (by rw [dvr, show (0 % 64 : ℕ) = 0 from rfl, until_zero])⟩
  | succ n ih =>
    intro hn
    have hc := ih (by omega)
    unfold Carries dk0 dv0
    by_cases h : (n + 1) % 64 = 0
    · rw [if_pos ((cond1_iff ⟨n + 1, hn⟩).mpr h), if_pos ((cond1_iff ⟨n + 1, hn⟩).mpr h)]
      simp only [h]
      exact ⟨fun s x => (pay3 _).trans (by rw [dkr, until_zero]), fun s x => (pay4 _).trans (by rw [dvr, until_zero])⟩
    · have hne : ¬ k0_cond1 (grid0.coords ⟨n + 1, hn⟩) = 1#1 := fun e => h ((cond1_iff ⟨n + 1, hn⟩).mp e)
      rw [if_neg hne, if_neg hne]
      have eg : grp ⟨n + 1, hn⟩ = grp ⟨n, by omega⟩ := Fin.ext (show (n + 1) / 64 = n / 64 by omega)
      have en : (n + 1) % 64 = n % 64 + 1 := by omega
      have ea := acc_succ m c ⟨n, by omega⟩
      simp only at ea
      simp only [eg, en, ea]
      exact ⟨left_dk H _ hc, left_dv H _ hc⟩

include H in
theorem final_dq : (dats m 0 c).arrAt 3 (cfg0 (F := Ideal)).N = fun i => ((gq Q K V' D (i 0) (i 1) : ℝ) : EReal) := by
  refine (dats m 0 c).arrAt_eq_of_covers 3 _ (by decide +kernel) fun t _ y => ?_
  blk_simp
  rw [after0_3]
  have h0 : ((win0_3.blk t).view.emb y 0).val = 128 * (t.val % 64) + (y 0).val := by blk_simp [idx t]; omega
  have h1 : ((win0_3.blk t).view.emb y 1).val = 256 * (t.val / 64) + (y 1).val := by blk_simp [idx t]; omega
  refine (congrArg (dqOut (stAt m c t)) (eq_ix2 y)).trans ((dqOut_at (done_at H t (carries H t.val t.isLt)) (y 0) (y 1)).trans (congrArg _ ?_))
  exact congrArg₂ (gq Q K V' D) (Fin.ext h0.symm) (Fin.ext h1.symm)

/-- A result takes a group's columns at its last point. -/
theorem out_at (t : Fin grid0.N) (fo : S8192x512.Idx → Elt Ideal .f32) (w : S8192x256.Idx → Elt Ideal .f32) (G : Mat)
    (hfo : ∀ s x, x.val / 256 < t.val / 64 → fo (ix2 s x) = ((G s x : ℝ) : EReal))
    (hw : t.val % 64 = 63 → ∀ s x, w (ix2 s x) = ((G s (gc (grp t) x) : ℝ) : EReal)) (s : Fin 8192) (x : Fin 512)
    (hx : x.val / 256 < (t.val + 1) / 64) : out (grid0.coords t) fo w (ix2 s x) = ((G s x : ℝ) : EReal) := by
  unfold out
  by_cases h : t.val % 64 = 63
  · rw [if_pos ((cond2_iff t).mpr h), coords0]
    by_cases hg : x.val / 256 = (grp t).val
    · refine (if_pos hg).trans ((hw h s _).trans ?_)
      refine congrArg (fun j => ((G s j : ℝ) : EReal)) (Fin.ext ?_)
      show 256 * (grp t).val + x.val % 256 = x.val
      omega
    · refine (if_neg hg).trans (hfo s x ?_)
      have : (grp t).val = t.val / 64 := rfl
      omega
  · rw [if_neg fun e => h ((cond2_iff t).mp e)]
    exact hfo s x (by omega)

include H in
theorem res_at : ∀ n : ℕ, n ≤ 128 → ∀ (s : Fin 8192) (x : Fin 512), x.val / 256 < n / 64 →
    res1 m c n (ix2 s x) = ((gk Q K V' D s x : ℝ) : EReal) ∧ res2 m c n (ix2 s x) = ((gv Q K D s x : ℝ) : EReal) := by
  intro n
  induction n with
  | zero => intro _ s x h; omega
  | succ n ih =>
    intro hn s x hx
    have hN : n < grid0.N := by have : grid0.N = 128 := N_0; omega
    have hc := carries H n hN
    have e1 := res1_succ m c ⟨n, hN⟩
    have e2 := res2_succ m c ⟨n, hN⟩
    simp only at e1 e2
    rw [e1, e2]
    refine ⟨out_at _ _ _ (gk Q K V' D) (fun s x h => (ih (by omega) s x h).1) (fun h s x => ?_) s x hx,
      out_at _ _ _ (gv Q K D) (fun s x h => (ih (by omega) s x h).2) (fun h s x => ?_) s x hx⟩
    · refine (left_dk H _ hc s x).trans (congrArg _ ?_)
      rw [h, dkr]; exact until_all _
    · refine (left_dv H _ hc s x).trans (congrArg _ ?_)
      rw [h, dvr]; exact until_all _

include H in
theorem final_dk : res1 m c 128 = fun i => ((gk Q K V' D (i 0) (i 1) : ℝ) : EReal) := by
  funext i
  rw [eq_ix2 i]
  exact (res_at H 128 le_rfl _ _ (by have := (i 1).isLt; change _ < 512 at this; show (i 1).val / 256 < 128 / 64; omega)).1
include H in
theorem final_dv : res2 m c 128 = fun i => ((gv Q K D (i 0) (i 1) : ℝ) : EReal) := by
  funext i
  rw [eq_ix2 i]
  exact (res_at H 128 le_rfl _ _ (by have := (i 1).isLt; change _ < 512 at this; show (i 1).val / 256 < 128 / 64; omega)).2

end arrays

end Cert.KAttnIdeal.Attn

end
-- ==== Proof.Attn.Window.lean ====
/- The host's running sums along the last axis, read at an index. -/
module

public import Idealize.ShloMosaic.Lib.Pointwise

@[expose] public section

noncomputable section

namespace Cert.Attn

open Idealize.ShloMosaic

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- One element picked out by a sum. -/
theorem sum_pick {N : ℕ} (f : Fin N → EReal) (L p : ℕ) :
    (∑ s' : Fin N, if s'.val + L = p then f s' else 0) = if h : L ≤ p ∧ p - L < N then f ⟨p - L, h.2⟩ else 0 := by
  split
  · next h =>
    refine (Finset.sum_eq_single (⟨p - L, h.2⟩ : Fin N) (fun b _ hb => if_neg fun e => hb (Fin.ext ?_)) (by simp)).trans (if_pos ?_)
    · show b.val = p - L; omega
    · show p - L + L = p; omega
  · next h => exact Finset.sum_eq_zero fun s' _ => if_neg fun e => h ⟨by omega, by have := s'.isLt; omega⟩

/-- A window as long as the axis, padded by `L` in front: the elements it covers. -/
theorem window_sum {A B N L H : ℕ} (x : (⟨3, ![A, B, N]⟩ : Shape).Idx → EReal)
    (h : (⟨3, ![A, B, N]⟩ : Shape).ReduceWindows (![1, 1, N] : Fin 3 → ℕ) ![1, 1, 1] ![0, 0, L] ![0, 0, H] ⟨3, ![A, B, N]⟩) (a : Fin A) (b : Fin B) (s : Fin N) :
    Ideal.hostReduceWindowAdd (![1, 1, N] : Fin 3 → ℕ) ![1, 1, 1] ![0, 0, L] ![0, 0, H] h x 0 (ix3 a b s)
      = ∑ s' : Fin N, if s.val ≤ s'.val + L ∧ s'.val + L < s.val + N then x (ix3 a b s') else 0 := by
  unfold Ideal.hostReduceWindowAdd Host.reduceWindow
  simp only
  rw [foldl_add, zero_add, ← Fin.sum_univ_def]
  have e : ∀ w : (⟨3, ![1, 1, N]⟩ : Shape).Idx, (if hin : ∀ k : Fin 3, (![0, 0, L] : Fin 3 → ℕ) k ≤ (ix3 a b s k).val * (![1, 1, 1] : Fin 3 → ℕ) k + (w k).val
        ∧ (ix3 a b s k).val * (![1, 1, 1] : Fin 3 → ℕ) k + (w k).val - (![0, 0, L] : Fin 3 → ℕ) k < (![A, B, N] : Fin 3 → ℕ) k
      then x (fun k => ⟨(ix3 a b s k).val * (![1, 1, 1] : Fin 3 → ℕ) k + (w k).val - (![0, 0, L] : Fin 3 → ℕ) k, (hin k).2⟩) else 0)
      = ∑ s' : Fin N, if s'.val + L = s.val + (w 2).val then x (ix3 a b s') else 0 := by
    intro w
    have w0 : (w 0).val = 0 := by have := (w 0).isLt; change _ < 1 at this; omega
    have w1 : (w 1).val = 0 := by have := (w 1).isLt; change _ < 1 at this; omega
    rw [sum_pick (fun s' => x (ix3 a b s'))]
    by_cases hp : L ≤ s.val + (w 2).val ∧ s.val + (w 2).val - L < N
    · rw [dif_pos hp, dif_pos]
      · refine congrArg x (funext fun k => Fin.ext ?_)
        match k with
        | 0 => show a.val * 1 + (w 0).val - 0 = a.val; omega
        | 1 => show b.val * 1 + (w 1).val - 0 = b.val; omega
        | 2 => show s.val * 1 + (w 2).val - L = s.val + (w 2).val - L; omega
      · intro k
        match k with
        | 0 => exact ⟨Nat.zero_le _, show a.val * 1 + (w 0).val - 0 < A by have := a.isLt; omega⟩
        | 1 => exact ⟨Nat.zero_le _, show b.val * 1 + (w 1).val - 0 < B by have := b.isLt; omega⟩
        | 2 => exact ⟨show L ≤ s.val * 1 + (w 2).val by omega, show s.val * 1 + (w 2).val - L < N by omega⟩
    · rw [dif_neg hp, dif_neg]
      intro hin
      have h2 := hin 2
      change L ≤ s.val * 1 + (w 2).val ∧ s.val * 1 + (w 2).val - L < N at h2
      exact hp (by omega)
  refine (Equiv.sum_comp ((⟨3, ![1, 1, N]⟩ : Shape).rowMajor.symm) (fun w => (if hin : ∀ k : Fin 3, (![0, 0, L] : Fin 3 → ℕ) k ≤ (ix3 a b s k).val * (![1, 1, 1] : Fin 3 → ℕ) k + (w k).val
        ∧ (ix3 a b s k).val * (![1, 1, 1] : Fin 3 → ℕ) k + (w k).val - (![0, 0, L] : Fin 3 → ℕ) k < (![A, B, N] : Fin 3 → ℕ) k
      then x (fun k => ⟨(ix3 a b s k).val * (![1, 1, 1] : Fin 3 → ℕ) k + (w k).val - (![0, 0, L] : Fin 3 → ℕ) k, (hin k).2⟩) else 0))).trans ?_
  rw [Finset.sum_congr rfl fun w _ => e w]
  have hb : Function.Bijective (fun w : (⟨3, ![1, 1, N]⟩ : Shape).Idx => (w 2 : Fin N)) := by
    constructor
    · intro w w' hw
      funext k
      match k with
      | 0 => exact Fin.ext (by have := (w 0).isLt; have := (w' 0).isLt; change _ < 1 at *; omega)
      | 1 => exact Fin.ext (by have := (w 1).isLt; have := (w' 1).isLt; change _ < 1 at *; omega)
      | 2 => exact hw
    · intro n; exact ⟨ix3 (0 : Fin 1) (0 : Fin 1) n, rfl⟩
  rw [Function.Bijective.sum_comp hb (fun n : Fin N => ∑ s' : Fin N, if s'.val + L = s.val + n.val then x (ix3 a b s') else 0), Finset.sum_comm]
  refine Finset.sum_congr rfl fun s' _ => ?_
  by_cases hp : s.val ≤ s'.val + L ∧ s'.val + L < s.val + N
  · rw [if_pos hp]
    refine (Finset.sum_eq_single (⟨s'.val + L - s.val, by omega⟩ : Fin N) (fun n _ hn => if_neg fun e => hn (Fin.ext ?_)) (fun hm => absurd (Finset.mem_univ _) hm)).trans (if_pos ?_)
    · show n.val = s'.val + L - s.val; omega
    · show s'.val + L = s.val + (s'.val + L - s.val); omega
  · rw [if_neg hp]
    exact Finset.sum_eq_zero fun n _ => if_neg fun e => hp ⟨by omega, by have := n.isLt; omega⟩

/-- The same for the host's operation, whose initial value is an array of one element. -/
theorem host_window_sum {A B N L H : ℕ} {s0 : Shape} (x : FVec Ideal ⟨3, ![A, B, N]⟩ .f32) (init : FVec Ideal s0 .f32)
    (h : (⟨3, ![A, B, N]⟩ : Shape).ReduceWindows (![1, 1, N] : Fin 3 → ℕ) ![1, 1, 1] ![0, 0, L] ![0, 0, H] ⟨3, ![A, B, N]⟩) (hu : 0 < s0.numel)
    (h0 : init (Shape.Idx.first hu) = 0) (a : Fin A) (b : Fin B) (s : Fin N) :
    (Host.reduceWindowAdd (![1, 1, N] : Fin 3 → ℕ) ![1, 1, 1] ![0, 0, L] ![0, 0, H] x init h hu : FVec Ideal ⟨3, ![A, B, N]⟩ .f32) (ix3 a b s)
      = ∑ s' : Fin N, if s.val ≤ s'.val + L ∧ s'.val + L < s.val + N then x (ix3 a b s') else 0 := by
  rw [← window_sum x h a b s, ← h0]
  rfl

end Cert.Attn

end
-- ==== Proof.Attn.Ref.lean ====
/- The reference at real arguments: each of its arrays is the function of `Math.lean` that it computes. -/
module

public import proofs.«01_k».proof.Proof.Attn.Tile
public import proofs.«01_k».proof.Proof.Attn.Window
public import proofs.«01_k».proof.Proof.Gen.RAttnIdeal.Read
public import Idealize.ShloMosaic.Lib.WordCmp

@[expose] public section

set_option maxRecDepth 16384
set_option backward.proofsInPublic true

noncomputable section

namespace Cert.RAttnIdeal.Attn

open Cert.RAttnIdeal Cert.RAttnIdeal.Gen Cert.RAttnIdeal.Read Cert.Attn
open Idealize.ShloMosaic Idealize.ShloMosaic.TcCoe Idealize.ShloMosaic.WordCmp

/-- The logistic function as the softplus's derivative computes it. -/
theorem logistic (x : ℝ) : Ideal.exp ((if (x : EReal) = ⊤ then 0 else (x : EReal)) - (if ((sp x : ℝ) : EReal) = ⊤ then 0 else ((sp x : ℝ) : EReal)))
    = ((Real.exp (x - sp x) : ℝ) : EReal) := by
  rw [if_neg (EReal.coe_ne_top _), if_neg (EReal.coe_ne_top _), ← EReal.coe_sub, Ideal.exp_coe]

theorem up_zero (y : FVec Ideal S8x8192x8192 .f32) (h : Fin 8) (r s : Fin 8192) :
    (Host.reduceWindowAdd ![1, 1, 8192] ![1, 1, 1] ![0, 0, 0] ![0, 0, 8191] y (val_main_call2_v0 (F := Ideal)) reduceWindows_S8x8192x8192_S8x8192x8192_w1s1p0_0_w1s1p0_0_w8192s1p0_8191 h_S_ : FVec Ideal S8x8192x8192 .f32) (ix3 h r s)
      = ∑ s', if s ≤ s' then y (ix3 h r s') else 0 := by
  have h0 : val_main_call2_v0 (F := Ideal) (Shape.Idx.first h_S_) = 0 := by
    rw [val_main_call2_v0_apply, val_main_call2_cst_apply]
    simp
  refine (host_window_sum (A := 8) (B := 8192) (N := 8192) y _ _ _ h0 h r s).trans ?_
  refine Finset.sum_congr rfl fun s' _ => if_congr ?_ rfl rfl
  have := s'.isLt
  rw [Fin.le_def]; omega

theorem down_zero (y : FVec Ideal S8x8192x8192 .f32) (h : Fin 8) (r s : Fin 8192) :
    (Host.reduceWindowAdd ![1, 1, 8192] ![1, 1, 1] ![0, 0, 8191] ![0, 0, 0] y (val_main_call7_v0 (F := Ideal)) reduceWindows_S8x8192x8192_S8x8192x8192_w1s1p0_0_w1s1p0_0_w8192s1p8191_0 h_S_ : FVec Ideal S8x8192x8192 .f32) (ix3 h r s)
      = ∑ s', if s' ≤ s then y (ix3 h r s') else 0 := by
  have h0 : val_main_call7_v0 (F := Ideal) (Shape.Idx.first h_S_) = 0 := by
    rw [val_main_call7_v0_apply, val_main_call7_cst_apply]
    simp
  refine (host_window_sum (A := 8) (B := 8192) (N := 8192) y _ _ _ h0 h r s).trans ?_
  refine Finset.sum_congr rfl fun s' _ => if_congr ?_ rfl rfl
  have := s'.isLt
  rw [Fin.le_def]; omega

/-- A sum up to a place of terms moved by one place is the sum before it. -/
theorem sum_shift {N : ℕ} (g : Fin (N + 1) → EReal) (s : Fin (N + 1)) :
    (∑ s' : Fin (N + 1), if s' ≤ s then (if h1 : 1 ≤ s'.val ∧ s'.val - 1 < N then g ⟨s'.val - 1, by omega⟩ else 0) else 0)
      = ∑ s', if s' < s then g s' else 0 := by
  rw [Fin.sum_univ_succ, Fin.sum_univ_castSucc, dif_neg (by simp), ite_self, zero_add,
    if_neg (not_lt.mpr (Fin.le_last s)), add_zero]
  refine Finset.sum_congr rfl fun i _ => ?_
  rw [dif_pos ⟨by simp, by simp⟩]
  refine if_congr ?_ rfl rfl
  rw [Fin.le_def, Fin.lt_def, Fin.val_succ, Fin.val_castSucc]
  omega

/-- The columns of a head's part. -/
theorem col_eq (h : Fin 8) (d : Fin 64) (p) : (⟨h.val * 64 + d.val, p⟩ : Fin 512) = col h d := Fin.ext (by simp only [col]; omega)
theorem head_eq (c : Fin 512) (p) : (⟨c.val / 64, p⟩ : Fin 8) = head c := rfl
/-- The place of a column in its head. -/
def lane (c : Fin 512) : Fin 64 := ⟨c.val % 64, by omega⟩
theorem col_lane (c : Fin 512) : col (head c) (lane c) = c := Fin.ext (by simp only [col, head, lane]; omega)

/-- The sum over a head's columns is a sum over its part. -/
theorem score_eq (Q K : Mat) (h : Fin 8) (r s : Fin 8192) : (∑ d, Q r (col h d) * K s (col h d)) * (1 / 8) = score Q K h r s := rfl

section vals
variable (x0 x1 x2 : Vec Ideal S8192x512 .bf16) (x3 : Vec Ideal S8192x1024 .f32) (Q K V D : Mat)
  (hQ : ∀ r c, x0 (ix2 r c) = ((Q r c : ℝ) : EReal)) (hK : ∀ r c, x1 (ix2 r c) = ((K r c : ℝ) : EReal))
  (hV : ∀ r c, x2 (ix2 r c) = ((V r c : ℝ) : EReal))
  (hD : ∀ r (c : Fin 512), x3 (ix2 r (⟨c.val, by omega⟩ : Fin 1024)) = ((D r c : ℝ) : EReal))
  (h : Fin 8) (r s : Fin 8192) (d : Fin 64) (c : Fin 512)

include hQ in
theorem v3 : val_main_v3 (F := Ideal) x0 (ix3 r h d) = ((Q r (col h d) : ℝ) : EReal) := by
  pointwise [val_main_v3, val_main_v0]
  rw [col_eq, hQ]

include hK in
theorem v4 : val_main_v4 (F := Ideal) x1 (ix3 r h d) = ((K r (col h d) : ℝ) : EReal) := by
  pointwise [val_main_v4, val_main_v1]
  rw [col_eq, hK]

include hV in
theorem v5 : val_main_v5 (F := Ideal) x2 (ix3 r h d) = ((V r (col h d) : ℝ) : EReal) := by
  pointwise [val_main_v5, val_main_v2]
  rw [col_eq, hV]

include hD in
theorem v32 : val_main_v32 (F := Ideal) x3 (ix3 r h d) = ((D r (col h d) : ℝ) : EReal) := by
  pointwise [val_main_v32, val_main_v31]
  refine Eq.trans ?_ (hD r (col h d))
  exact congrArg (fun k => x3 (ix2 r k)) (Fin.ext (by simp only [col]; omega))

include hQ hK in
theorem v8 : val_main_v8 (F := Ideal) x0 x1 (ix3 h r s) = ((score Q K h r s : ℝ) : EReal) := by
  pointwise [val_main_v8, val_main_v7, val_main_v6, val_main_cst]
  simp only [v3 x0 Q hQ, v4 x1 K hK, f32_eighth, ← EReal.coe_mul, coe_sum]
  rfl

theorem v17_1 : val_main_v17_1 (F := Ideal) (ix3 h r s) = 1#1 ↔ s < r := by
  pointwise [val_main_v17_1, val_main_v14, val_main_v13, val_main_v12, val_main_v11, val_main_v10, val_main_v9]
  exact cmpi_slt_ofNat_eq_one_iff (by omega) (by omega)

theorem v27_1 : val_main_v27_1 (F := Ideal) (ix3 h r s) = 1#1 ↔ s < r := by
  pointwise [val_main_v27_1, val_main_v14, val_main_v13, val_main_v12, val_main_v11, val_main_v10, val_main_v9]
  exact cmpi_slt_ofNat_eq_one_iff (by omega) (by omega)

include hQ hK in
theorem sp0 : val_main_call0_v1_0 (F := Ideal) x0 x1 (ix3 h r s) = ((sp (score Q K h r s) : ℝ) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v15]
  rw [neg_neg, v8 x0 x1 Q K hQ hK, softplus]

include hQ hK in
theorem v16_0 : val_main_v16_0 (F := Ideal) x0 x1 (ix3 h r s) = ((-(sp (score Q K h r s)) : ℝ) : EReal) := by
  pointwise [val_main_v16_0]
  rw [sp0 x0 x1 Q K hQ hK, ← EReal.coe_neg]

include hQ hK in
theorem v16_1 : val_main_v16_1 (F := Ideal) x0 x1 (ix3 h r s) = ((Real.exp (-(sp (-(score Q K h r s)))) : ℝ) : EReal) := by
  pointwise [val_main_v16_1, val_main_call0_call0_v21, val_main_call0_call0_v20, val_main_call0_call0_cst_3, val_main_call0_call0_v19, val_main_call0_call0_v18, val_main_call0_call0_v17, val_main_call0_call0_cst_2, val_main_call0_call0_v16, val_main_call0_call0_v15, val_main_call0_call0_cst_1, val_main_call0_call0_v14, val_main_call0_call0_v13, val_main_call0_call0_cst_0, val_main_call0_v0, val_main_v15]
  rw [neg_neg, v8 x0 x1 Q K hQ hK, sp0 x0 x1 Q K hQ hK, f32_inf, logistic, sp_neg]
  congr 3; ring

include hQ hK in
theorem sp3 : val_main_call3_v1_0 (F := Ideal) x0 x1 (ix3 h r s) = ((sp (-(score Q K h r s)) : ℝ) : EReal) := by
  pointwise [val_main_call3_v1_0, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [v8 x0 x1 Q K hQ hK, ← EReal.coe_neg, softplus]

include hQ hK in
theorem v24_0 : val_main_v24_0 (F := Ideal) x0 x1 (ix3 h r s) = ((-(sp (-(score Q K h r s))) : ℝ) : EReal) := by
  pointwise [val_main_v24_0]
  rw [sp3 x0 x1 Q K hQ hK, ← EReal.coe_neg]

include hQ hK in
theorem v24_1 : val_main_v24_1 (F := Ideal) x0 x1 (ix3 h r s) = ((Real.exp (-(sp (score Q K h r s))) : ℝ) : EReal) := by
  pointwise [val_main_v24_1, val_main_call3_call0_v21, val_main_call3_call0_v20, val_main_call3_call0_cst_3, val_main_call3_call0_v19, val_main_call3_call0_v18, val_main_call3_call0_v17, val_main_call3_call0_cst_2, val_main_call3_call0_v16, val_main_call3_call0_v15, val_main_call3_call0_cst_1, val_main_call3_call0_v14, val_main_call3_call0_v13, val_main_call3_call0_cst_0, val_main_call3_v0]
  rw [v8 x0 x1 Q K hQ hK, sp3 x0 x1 Q K hQ hK, ← EReal.coe_neg, f32_inf, logistic, sp_neg]
  congr 3; ring

include hQ hK in
theorem v17_0 : val_main_v17_0 (F := Ideal) x0 x1 (ix3 h r s) = ((keep (score Q K h r) r s : ℝ) : EReal) := by
  pointwise [val_main_v17_0, val_main_v17_2, val_main_call1_cst, val_main_call1_v2, val_main_call1_v0]
  have z : (val_main_cst_0 (F := Ideal)) ix0 = 0 := by pointwise [val_main_cst_0]
  rw [id_eq, z, v16_0 x0 x1 Q K hQ hK, sel_coe0 _ _ (v17_1 h r s)]
  rfl

include hQ hK in
theorem v18 : val_main_v18 (F := Ideal) x0 x1 (ix3 h r s) = ((∑ s', if s ≤ s' then keep (score Q K h r) r s' else 0 : ℝ) : EReal) := by
  unfold val_main_v18
  have e := v17_0 x0 x1 Q K hQ hK h r
  generalize val_main_v17_0 (F := Ideal) x0 x1 = y at e ⊢
  rw [up_zero, ← coe_sum]
  refine Finset.sum_congr rfl fun s' _ => ?_
  rw [e]; split_ifs <;> rfl

include hQ hK in
theorem v22 : val_main_v22 (F := Ideal) x0 x1 (ix3 h r s) = ((tail (score Q K h r) r s : ℝ) : EReal) := by
  pointwise [val_main_v22, val_main_v21, val_main_cst_1, val_main_v19]
  split_ifs with h1
  · rw [v18 x0 x1 Q K hQ hK]
    refine congrArg _ (Finset.sum_congr rfl fun s' _ => if_congr ?_ rfl rfl)
    rw [Fin.le_def, Fin.lt_def]; show 1 + s.val ≤ s'.val ↔ _; omega
  · rw [← EReal.coe_zero]
    refine congrArg _ (Finset.sum_eq_zero fun s' _ => if_neg ?_).symm
    have := s'.isLt
    rw [Fin.lt_def]; omega

include hQ hK in
theorem v26 : val_main_v26 (F := Ideal) x0 x1 (ix3 h r s)
    = ((Real.exp (-(sp (-(score Q K h r s))) + tail (score Q K h r) r s) : ℝ) : EReal) := by
  pointwise [val_main_v26, val_main_v25]
  rw [v24_0 x0 x1 Q K hQ hK, v22 x0 x1 Q K hQ hK, ← EReal.coe_add, Ideal.exp_coe]

include hQ hK in
theorem v27_0 : val_main_v27_0 (F := Ideal) x0 x1 (ix3 h r s) = ((wgt Q K h r s : ℝ) : EReal) := by
  pointwise [val_main_v27_0, val_main_call4_v2, val_main_call4_v0, val_main_call4_cst, val_main_v27_2]
  have z : (val_main_cst_3 (F := Ideal)) ix0 = 0 := by pointwise [val_main_cst_3]
  rw [id_eq, z, v26 x0 x1 Q K hQ hK, sel_coe0 _ _ (v27_1 h r s)]
  rfl

include hQ hK hV in
theorem v28 : val_main_v28 (F := Ideal) x0 x1 x2 (ix3 h d r) = ((att Q K V r (col h d) : ℝ) : EReal) := by
  pointwise [val_main_v28]
  simp only [v5 x2 V hV, v27_0 x0 x1 Q K hQ hK, ← EReal.coe_mul, coe_sum, att, head_col]
  exact congrArg _ (Finset.sum_congr rfl fun _ _ => mul_comm _ _)

include hQ hK hV in
/-- The attention's output. -/
theorem v30 : val_main_v30 (F := Ideal) x0 x1 x2 (ix2 r c) = ((att Q K V r c : ℝ) : EReal) := by
  pointwise [val_main_v30, val_main_v29]
  exact (v28 x0 x1 x2 Q K V hQ hK hV (head c) r (lane c)).trans (by rw [col_lane])

include hV hD in
theorem v34 : val_main_v34 (F := Ideal) x2 x3 (ix3 h r s) = ((gweight V D h r s : ℝ) : EReal) := by
  pointwise [val_main_v34, val_main_v33]
  simp only [v5 x2 V hV, v32 x3 D hD, ← EReal.coe_mul, coe_sum]
  rfl

include hQ hK hV hD
theorem v38 : val_main_v38 (F := Ideal) x0 x1 x2 x3 (ix3 h r s) = ((glog (score Q K h r) (gweight V D h r) r s : ℝ) : EReal) := by
  pointwise [val_main_v38, val_main_v37, val_main_call5_v0, val_main_call5_cst]
  rw [v34 x2 x3 V D hV hD, v26 x0 x1 Q K hQ hK, ← EReal.coe_mul, sel_coe0 _ _ (v27_1 h r s), glog, weight]
  refine congrArg _ ?_
  split_ifs <;> ring

theorem v43 : val_main_v43 (F := Ideal) x0 x1 x2 x3 (ix3 h r s)
    = ((∑ s', if s' < s then glog (score Q K h r) (gweight V D h r) r s' else 0 : ℝ) : EReal) := by
  have e : ∀ s' : Fin 8192, val_main_v42 (F := Ideal) x0 x1 x2 x3 (ix3 h r s')
      = if h1 : 1 ≤ s'.val ∧ s'.val - 1 < 8191 then ((glog (score Q K h r) (gweight V D h r) r ⟨s'.val - 1, by omega⟩ : ℝ) : EReal) else 0 := fun s' => by
    pointwise [val_main_v42, val_main_v40, val_main_cst_4]
    split_ifs with h1
    · exact v38 x0 x1 x2 x3 Q K V D hQ hK hV hD h r _
    · rfl
  unfold val_main_v43
  generalize val_main_v42 (F := Ideal) x0 x1 x2 x3 = y at e ⊢
  rw [down_zero, ← coe_sum]
  refine (Finset.sum_congr rfl fun s' _ => by rw [e]).trans ((sum_shift (fun s' => ((glog (score Q K h r) (gweight V D h r) r s' : ℝ) : EReal)) s).trans ?_)
  refine Finset.sum_congr rfl fun s' _ => ?_
  split_ifs <;> rfl

theorem v49 : val_main_v49 (F := Ideal) x0 x1 x2 x3 (ix3 h r s) = ((gsc Q K V D h r s : ℝ) : EReal) := by
  pointwise [val_main_v49, val_main_v48, val_main_cst_5, val_main_v47, val_main_v46, val_main_v45, val_main_call9_v1, val_main_call9_v0, val_main_v44, val_main_call8_v0, val_main_call8_cst, val_main_v39, val_main_call6_v1, val_main_call6_v0]
  rw [v38 x0 x1 x2 x3 Q K V D hQ hK hV hD, v24_1 x0 x1 Q K hQ hK, v43 x0 x1 x2 x3 Q K V D hQ hK hV hD, sel_coe0 _ _ (v17_1 h r s), v16_1 x0 x1 Q K hQ hK, f32_eighth]
  simp only [← EReal.coe_mul, ← EReal.coe_add, ← EReal.coe_neg]
  refine congrArg _ ?_
  rw [gsc, gscore, gkeep]
  ring

/-- The gradient with respect to the queries. -/
theorem v56 : val_main_v56 (F := Ideal) x0 x1 x2 x3 (ix2 r c) = ((gq Q K V D r c : ℝ) : EReal) := by
  pointwise [val_main_v56, val_main_v53, val_main_v52]
  simp only [v49 x0 x1 x2 x3 Q K V D hQ hK hV hD, v4 x1 K hK, ← EReal.coe_mul, coe_sum]
  refine congrArg _ (Finset.sum_congr rfl fun s _ => ?_)
  exact congrArg (fun k => gsc Q K V D (head c) r s * K s k) (col_lane c)

/-- The gradient with respect to the keys. -/
theorem v55 : val_main_v55 (F := Ideal) x0 x1 x2 x3 (ix2 r c) = ((gk Q K V D r c : ℝ) : EReal) := by
  pointwise [val_main_v55, val_main_v51, val_main_v50]
  simp only [v49 x0 x1 x2 x3 Q K V D hQ hK hV hD, v3 x0 Q hQ, ← EReal.coe_mul, coe_sum]
  refine congrArg _ (Finset.sum_congr rfl fun s _ => ?_)
  exact congrArg (fun k => gsc Q K V D (head c) s r * Q s k) (col_lane c)

omit hV in
/-- The gradient with respect to the values. -/
theorem v54 : val_main_v54 (F := Ideal) x0 x1 x3 (ix2 r c) = ((gv Q K D r c : ℝ) : EReal) := by
  pointwise [val_main_v54, val_main_v36, val_main_v35, val_main_v33]
  simp only [v32 x3 D hD, v27_0 x0 x1 Q K hQ hK, ← EReal.coe_mul, coe_sum]
  refine congrArg _ (Finset.sum_congr rfl fun s _ => ?_)
  rw [mul_comm]
  exact congrArg (fun k => wgt Q K (head c) s r * D s k) (col_lane c)

end vals

end Cert.RAttnIdeal.Attn

end
-- ==== Proof.Attn.Host.lean ====
/- What the host hands the launch: the reference's own output of the attention, and the queries, keys and values side by side. -/
module

public import proofs.«01_k».proof.Proof.Attn.Array
public import proofs.«01_k».proof.Proof.Attn.Ref
public import proofs.«01_k».proof.Pre_attn_finite
public import Idealize.ShloMosaic.Lib.Pointwise

@[expose] public section

set_option maxRecDepth 65536

noncomputable section

namespace Cert.KAttnIdeal.Attn

open Cert.KAttnIdeal Cert.KAttnIdeal.Gen Cert.Attn
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxHeartbeats 2000000 in
theorem V_main_v29 : V m c main_v29
    = Cert.RAttnIdeal.Read.val_main_v30 (F := F) (m ((c : Thread nD τ).loc main_arg0)) (m ((c : Thread nD τ).loc main_arg1)) (m ((c : Thread nD τ).loc main_arg2)) := by
  unfold V
  simp only [before, hostOps0, hostOps0_1, hostOps0_2, hostOps0_3, hostOps0_4, hostOps0_5, hostOps0_6, hostOps0_7, hostOps0_8, hostOps0_9,
    List.flatten_cons, List.flatten_nil, List.cons_append, List.nil_append, List.append_nil,
    TRef.binary, TRef.nullary, TRef.ternary, TRef.unary, TRef.toBuf, TRef.ofBuf, cast_eq]
  after_results_simp <;> rfl

/-- The queries, keys and values side by side. -/
abbrev packed (q k v : Vec F S8192x512 .bf16) : Vec F S8192x1536 .bf16 :=
  concatenate S8192x1536 1 [⟨S8192x512, q⟩, ⟨S8192x512, k⟩, ⟨S8192x512, v⟩] concatenates_S8192x512_S8192x512_S8192x512_S8192x1536_d1

theorem packed_at (q k v : Vec F S8192x512 .bf16) (r : Fin 8192) (x : Fin 512) :
    packed q k v (ix2 r (part 0 x)) = q (ix2 r x) ∧ packed q k v (ix2 r (part 1 x)) = k (ix2 r x) ∧ packed q k v (ix2 r (part 2 x)) = v (ix2 r x) := by
  refine ⟨?_, ?_, ?_⟩ <;> unfold packed part <;> pointwise []
  · have := x.isLt
    rw [dif_neg (by omega), dif_neg (by omega)]
    exact congrArg (fun j : Fin 512 => v (ix2 r j)) (Fin.ext (by show 1024 + x.val - 512 - 512 = x.val; omega))

set_option maxHeartbeats 2000000 in
theorem V_main_v30 : V m c main_v30 = packed (m ((c : Thread nD τ).loc main_arg0)) (m ((c : Thread nD τ).loc main_arg1)) (m ((c : Thread nD τ).loc main_arg2)) := by
  unfold V
  simp only [before, hostOps0, hostOps0_1, hostOps0_2, hostOps0_3, hostOps0_4, hostOps0_5, hostOps0_6, hostOps0_7, hostOps0_8, hostOps0_9,
    List.flatten_cons, List.flatten_nil, List.cons_append, List.nil_append, List.append_nil,
    TRef.binary, TRef.nullary, TRef.ternary, TRef.unary, TRef.toBuf, TRef.ofBuf, cast_eq]
  after_results_simp <;> rfl
set_option maxHeartbeats 2000000 in
theorem V_main_v31 : V m c main_v31 = packed (m ((c : Thread nD τ).loc main_arg0)) (m ((c : Thread nD τ).loc main_arg1)) (m ((c : Thread nD τ).loc main_arg2)) := by
  unfold V
  simp only [before, hostOps0, hostOps0_1, hostOps0_2, hostOps0_3, hostOps0_4, hostOps0_5, hostOps0_6, hostOps0_7, hostOps0_8, hostOps0_9,
    List.flatten_cons, List.flatten_nil, List.cons_append, List.nil_append, List.append_nil,
    TRef.binary, TRef.nullary, TRef.ternary, TRef.unary, TRef.toBuf, TRef.ofBuf, cast_eq]
  after_results_simp <;> rfl

/-- Where the precondition holds the arguments are real. -/
theorem pre_at [Cert.Pre_attn_finite.Facts] (q k v : Vec Ideal S8192x512 .bf16) (d : Vec Ideal S8192x1024 .f32)
    (h : Cert.Pre_attn_finite.fn (F := Ideal) q k v d = fun _ => 1#1) (r : Fin 8192) (x : Fin 512) :
    (q (ix2 r x) = (((q (ix2 r x) : EReal).toReal : ℝ) : EReal) ∧ k (ix2 r x) = (((k (ix2 r x) : EReal).toReal : ℝ) : EReal))
      ∧ v (ix2 r x) = (((v (ix2 r x) : EReal).toReal : ℝ) : EReal)
      ∧ d (ix2 r (⟨x.val, by omega⟩ : Fin 1024)) = (((d (ix2 r (⟨x.val, by omega⟩ : Fin 1024)) : EReal).toReal : ℝ) : EReal) := by
  have h1 := congrFun h (ix2 r x)
  unfold Cert.Pre_attn_finite.fn at h1
  simp only at h1
  revert h1
  pointwise []
  simp only [andi_one]
  exact fun h => ⟨⟨real_of _ h.1.1.1, real_of _ h.1.1.2⟩, real_of _ h.1.2, real_of _ h.2⟩

/-- An array's real numbers. -/
def re (x : Vec Ideal S8192x512 .bf16) : Mat := fun r c => (x (ix2 r c) : EReal).toReal
def reD (x : Vec Ideal S8192x1024 .f32) : Mat := fun r c => (x (ix2 r (⟨c.val, by omega⟩ : Fin 1024)) : EReal).toReal

section holds
variable [Cert.Pre_attn_finite.Facts] (m : (ℓ : Loc nD τ sig) → Buf (Elt Ideal) ℓ) (c : Dev nD)
  (h : Cert.Pre_attn_finite.fn (F := Ideal) (m ((c : Thread nD τ).loc main_arg0)) (m ((c : Thread nD τ).loc main_arg1))
    (m ((c : Thread nD τ).loc main_arg2)) (m ((c : Thread nD τ).loc main_arg3)) = fun _ => 1#1)

include h in
/-- What the launch is handed holds the real numbers of the arguments. -/
theorem holds : Holds m c (re (m ((c : Thread nD τ).loc main_arg0))) (re (m ((c : Thread nD τ).loc main_arg1)))
    (re (m ((c : Thread nD τ).loc main_arg2))) (reD (m ((c : Thread nD τ).loc main_arg3))) where
  q r x := by rw [V_main_v30, (packed_at _ _ _ r x).1]; exact (pre_at _ _ _ _ h r x).1.1
  k r x := by rw [V_main_v31, (packed_at _ _ _ r x).2.1]; exact (pre_at _ _ _ _ h r x).1.2
  v r x := by rw [V_main_v31, (packed_at _ _ _ r x).2.2]; exact (pre_at _ _ _ _ h r x).2.1
  a r x := by
    rw [V_main_v29]
    exact Cert.RAttnIdeal.Attn.v30 _ _ _ _ _ _ (fun r x => (pre_at _ _ _ _ h r x).1.1) (fun r x => (pre_at _ _ _ _ h r x).1.2)
      (fun r x => (pre_at _ _ _ _ h r x).2.1) r x
  d r x := by rw [V_main_arg3]; exact (pre_at _ _ _ _ h r x).2.2
end holds

end Cert.KAttnIdeal.Attn

end
-- ==== Proof.Attn.Equation.lean ====
/- The attention gradient: the kernel and the derivative of the forward lines leave the same three arrays. -/
module

public import proofs.«01_k».proof.Defs
public import proofs.«01_k».proof.Proof.Gen.RAttnIdeal.Run
public import proofs.«01_k».proof.Proof.Gen.RAttnIdeal.Read
public import proofs.«01_k».proof.Proof.Attn.Host
public import Idealize.ShloMosaic.Lib.Claim
public import Idealize.ShloMosaic.Lib.Tactic
public import Idealize.ShloMosaic.Adequacy
public import Idealize.ShloMosaic.Init

@[expose] public section

noncomputable section

namespace Cert.Proof

open Idealize.ShloMosaic Idealize.ShloMosaic.TcCoe Idealize.SL.Sem Cert.KAttnIdeal Cert.KAttnIdeal.Attn

/-- The facts the precondition's function states. -/
theorem finite_facts : Cert.Pre_attn_finite.Facts := by
  constructor <;> decide

/-- The gradient of the attention, over the extended reals. -/
theorem algebraic_attn [Cert.Pre_attn_finite.Facts] : Cert.algebraic_KAttnIdeal_RAttnIdeal_pre_attn_finite := fun m g m' g' hp hm => by
  refine ⟨_, _, _,
    (θ_run Cert.KAttnIdeal.defs _ _).mono (fun _ h c =>
        ⟨((h.1.toR c).1 3).trans (final_dq (holds m c (hp c))),
         ((h.1.2 c main_v32_1 (by decide))).trans ((G_1 m c).trans (final_dk (holds m c (hp c)))),
         ((h.1.2 c main_v32_2 (by decide))).trans ((G_2 m c).trans (final_dv (holds m c (hp c)))),
         ((h.1.toR c).2 main_arg0 rest_arg0).trans (V_main_arg0 m c),
         ((h.1.toR c).2 main_arg1 rest_arg1).trans (V_main_arg1 m c),
         ((h.1.toR c).2 main_arg2 rest_arg2).trans (V_main_arg2 m c),
         ((h.1.toR c).1 2).trans (((dats m 0 c).arrAt_in 2 rfl _).trans ((A_eq m c 2).trans (V_main_arg3 m c)))⟩)
      (run_main m g),
    (θ_run Cert.RAttnIdeal.defs _ _).mono (fun _ h c =>
        ⟨(h c).1.trans ?_, (h c).2.1.trans ?_, (h c).2.2.1.trans ?_, (h c).2.2.2⟩)
      (Cert.RAttnIdeal.Value.run m' g')⟩
  · rw [Cert.RAttnIdeal.Read.val_main_v56_eq, (hm c).1, (hm c).2.1, (hm c).2.2.1, (hm c).2.2.2]
    funext i
    rw [eq_ix2 i]
    exact Cert.RAttnIdeal.Attn.v56 _ _ _ _ _ _ _ _ (fun r x => (pre_at _ _ _ _ (hp c) r x).1.1) (fun r x => (pre_at _ _ _ _ (hp c) r x).1.2)
      (fun r x => (pre_at _ _ _ _ (hp c) r x).2.1) (fun r x => (pre_at _ _ _ _ (hp c) r x).2.2) _ _
  · rw [Cert.RAttnIdeal.Read.val_main_v55_eq, (hm c).1, (hm c).2.1, (hm c).2.2.1, (hm c).2.2.2]
    funext i
    rw [eq_ix2 i]
    exact Cert.RAttnIdeal.Attn.v55 _ _ _ _ _ _ _ _ (fun r x => (pre_at _ _ _ _ (hp c) r x).1.1) (fun r x => (pre_at _ _ _ _ (hp c) r x).1.2)
      (fun r x => (pre_at _ _ _ _ (hp c) r x).2.1) (fun r x => (pre_at _ _ _ _ (hp c) r x).2.2) _ _
  · rw [Cert.RAttnIdeal.Read.val_main_v54_eq, (hm c).1, (hm c).2.1, (hm c).2.2.2]
    funext i
    rw [eq_ix2 i]
    exact Cert.RAttnIdeal.Attn.v54 _ _ _ _ _ _ (fun r x => (pre_at _ _ _ _ (hp c) r x).1.1) (fun r x => (pre_at _ _ _ _ (hp c) r x).1.2)
      (fun r x => (pre_at _ _ _ _ (hp c) r x).2.2) _ _

/-- The reference terminates and leaves its arguments. -/
theorem frame_attn_ref : Cert.quiescent_RAttnIdeal := fun m g _ =>
  (θ_run Cert.RAttnIdeal.defs _ _).mono (fun r h => ⟨fun c => (h c).2.2.2, sem_eq_zero_of_no_sems (by decide) r.2⟩)
    (Cert.RAttnIdeal.Value.run m g)

end Cert.Proof

end
-- ==== Proof.Consts.lean ====
/- The float constants the programs write, as the real numbers they denote; and two facts on sums of extended reals. -/
module

public import Idealize.ShloMosaic.PureOps.Ideal.Laws
public import Idealize.ShloMosaic.Lib.Pipeline.Value

@[expose] public section

noncomputable section

namespace Cert.Consts

open Idealize.ShloMosaic

theorem f32_zero : Ideal.ofBits .f32 0x00000000#32 = 0 := Ideal.ofBits_zero_f32
theorem f32_one : Ideal.ofBits .f32 0x3F800000#32 = ((1 : ℝ) : EReal) := by
  simp [Ideal.ofBits, Ideal.ieee]; rw [← EReal.coe_mul]; norm_num
theorem f32_half : Ideal.ofBits .f32 0x3F000000#32 = ((1 / 2 : ℝ) : EReal) := by
  simp [Ideal.ofBits, Ideal.ieee]; rw [← EReal.coe_mul]; norm_num
theorem f32_two : Ideal.ofBits .f32 0x40000000#32 = ((2 : ℝ) : EReal) := by
  simp [Ideal.ofBits, Ideal.ieee]; rw [← EReal.coe_mul]; norm_num
theorem f32_1024 : Ideal.ofBits .f32 0x44800000#32 = ((1024 : ℝ) : EReal) := by
  simp [Ideal.ofBits, Ideal.ieee]; rw [← EReal.coe_mul]; norm_num
theorem f32_inv1024 : Ideal.ofBits .f32 0x3A800000#32 = ((1 / 1024 : ℝ) : EReal) := by
  simp [Ideal.ofBits, Ideal.ieee]; rw [← EReal.coe_mul]; norm_num

/-- A square is not negative, at the infinities too. -/
theorem sq_nonneg (x : EReal) : 0 ≤ x * x := by
  induction x using EReal.rec with
  | bot => simp
  | top => simp
  | coe r => rw [← EReal.coe_mul]; exact EReal.coe_nonneg.mpr (mul_self_nonneg r)

/-- A positive real factor distributes over a sum of extended reals that are not negative. -/
theorem half_mul_sum {n : ℕ} (f : Fin n → EReal) (h : ∀ j, 0 ≤ f j) :
    ((1 / 2 : ℝ) : EReal) * ∑ j, f j = ∑ j, ((1 / 2 : ℝ) : EReal) * f j := by
  classical
  have key : ∀ s : Finset (Fin n), ((1 / 2 : ℝ) : EReal) * ∑ j ∈ s, f j = ∑ j ∈ s, ((1 / 2 : ℝ) : EReal) * f j := by
    intro s
    induction s using Finset.induction_on with
    | empty => simp
    | insert a s ha ih =>
      rw [Finset.sum_insert ha, Finset.sum_insert ha, EReal.left_distrib_of_nonneg (h a) (Finset.sum_nonneg fun j _ => h j), ih]
  exact key Finset.univ

end Cert.Consts

end
-- ==== Proof.Loss.Kernel.lean ====
/- What the loss kernel leaves in its three results, over the extended reals: the gradient `(y - t) · 2⁻¹⁰` row block by
   row block, its copy in bf16, and in every lane of the loss row the sum over the row blocks of half the sum of the
   block's mean squares. -/
module

public import proofs.«01_k».proof.Proof.Consts
public import proofs.«01_k».proof.Proof.Gen.KLossIdeal.Value
public import Idealize.ShloMosaic.Lib.Pipeline.ValueKit

@[expose] public section

set_option maxRecDepth 16384

noncomputable section

namespace Cert.KLossIdeal.Loss

open Cert.KLossIdeal Cert.KLossIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- The gradient of the mean over 1024 columns of half a square. -/
def grad (x y : FVec Ideal S8192x1024 .f32) : S8192x1024.Idx → EReal := fun i => (x i - y i) * ((1 / 1024 : ℝ) : EReal)

/-- Row `r`'s mean square. -/
def meanSq (x y : FVec Ideal S8192x1024 .f32) (r : Fin 8192) : EReal :=
  (∑ k : Fin 1024, (x (ix2 r k) - y (ix2 r k)) * (x (ix2 r k) - y (ix2 r k))) * ((1 / 1024 : ℝ) : EReal)

/-- What both cases leave in the gradient's buffer. -/
theorem after_grad (c : Dev nD) (t : Fin cfg0.N) :
    (outsAt0 m c t.val t.isLt).2.1 = k0_pay2 (iblk m c 0 t) (iblk m c 1 t) := by
  by_cases h : t.val % 16 = 0
  · rw [outsAt0_A m c t h]; frame_out
  · rw [outsAt0_B m c t h]; frame_out

theorem after_copy (c : Dev nD) (t : Fin cfg0.N) :
    (outsAt0 m c t.val t.isLt).2.2 = k0_pay3 (iblk m c 0 t) (iblk m c 1 t) := by
  by_cases h : t.val % 16 = 0
  · rw [outsAt0_A m c t h]; frame_out
  · rw [outsAt0_B m c t h]; frame_out

theorem final_grad (c : Dev nD) : (dats m 0 c).arrAt 3 cfg0.N
    = grad (m ((c : Thread nD τ).loc main_arg0)) (m ((c : Thread nD τ).loc main_arg1)) := by
  refine (dats m 0 c).arrAt_eq_of_covers 3 _ (by decide +kernel) fun t _ y => ?_
  blk_simp
  rw [after0_3, after_grad]
  pointwise [k0_pay2, k0_pay1, grad, Consts.f32_inv1024]
  blk_point [iblk, V, idx t]

theorem final_copy (c : Dev nD) : (dats m 0 c).arrAt 4 cfg0.N
    = grad (m ((c : Thread nD τ).loc main_arg0)) (m ((c : Thread nD τ).loc main_arg1)) := by
  refine (dats m 0 c).arrAt_eq_of_covers 4 _ (by decide +kernel) fun t _ y => ?_
  blk_simp
  rw [after0_4, after_copy]
  pointwise [k0_pay3, k0_pay2, k0_pay1, grad, Consts.f32_inv1024]
  blk_point [iblk, V, idx t]

/-- What a block adds to every lane of the loss: half the sum of its rows' mean squares. -/
theorem sum_apply (x y : FVec Ideal S512x1024 .f32) (z : FVec Ideal S1x128 .f32) (j : S1x128.Idx) :
    k0_pay5 x y z j = z j + ((1 / 2 : ℝ) : EReal) *
      ∑ r : Fin 512, (∑ k : Fin 1024, (x (ix2 r k) - y (ix2 r k)) * (x (ix2 r k) - y (ix2 r k))) * ((1 / 1024 : ℝ) : EReal) := by
  pointwise [k0_pay5, k0_pay1, Consts.f32_inv1024, Consts.f32_half]

theorem zero_apply (j : S1x128.Idx) : k0_pay4 (F := Ideal) j = 0 := by
  pointwise [k0_pay4]

theorem meanSq_nonneg (x y : FVec Ideal S8192x1024 .f32) (r : Fin 8192) : 0 ≤ meanSq x y r :=
  mul_nonneg (Finset.sum_nonneg fun _ _ => Consts.sq_nonneg _) (EReal.coe_nonneg.mpr (by norm_num))

/-- Half the sum of all rows is the sum over the sixteen blocks of half the block's sum: no row's term is negative. -/
theorem sum_blocks (x y : FVec Ideal S8192x1024 .f32) :
    ∑ s : Fin 16, ((1 / 2 : ℝ) : EReal) * ∑ r : Fin 512, meanSq x y ⟨s.val * 512 + r.val, by omega⟩
      = ((1 / 2 : ℝ) : EReal) * ∑ r : Fin 8192, meanSq x y r := by
  rw [Fin.sum_univ_tiles 16 512 rfl (meanSq x y),
    Consts.half_mul_sum _ fun j => Finset.sum_nonneg fun t _ => meanSq_nonneg _ _ _]

theorem final_sum (c : Dev nD) : (dats m 0 c).arrAt 2 cfg0.N = fun _ =>
    ((1 / 2 : ℝ) : EReal) * ∑ r : Fin 8192, meanSq (m ((c : Thread nD τ).loc main_arg0)) (m ((c : Thread nD τ).loc main_arg1)) r := by
  refine (dats m 0 c).arrAt_eq_of_covers 2 _ (by decide +kernel) fun t hf y => ?_
  blk_simp
  rw [after0_2, Pipeline.eq_sum_fin_of_reset_step_apply_of_flush (fun n h => (outsAt0 m c n h).1) 16 (fun _ => 0) _
    (fun t h j => by rw [outsAt0_A m c t h]; frame_out; rw [sum_apply, zero_apply])
    (fun t h j => by rw [outsAt0_B m c t h]; frame_out; rw [sum_apply]) t ((flush0_2 t).mp hf) y, zero_add]
  refine Eq.trans ?_ (sum_blocks _ _)
  refine Fin.sum_fin_congr fun s => congrArg _ (Fin.sum_fin_congr fun r => ?_)
  unfold meanSq
  blk_point [iblk, V, idx ⟨_, Pipeline.run_point_lt_of_flush t ((flush0_2 t).mp hf) s⟩]

end Cert.KLossIdeal.Loss

end
-- ==== Proof.Loss.Reference.lean ====
/- The reference's loss and its gradient by `jax.vjp`, over the extended reals, are the kernel's. -/
module

public import proofs.«01_k».proof.Proof.Loss.Kernel
public import proofs.«01_k».proof.Proof.Gen.RLossIdeal.Run
public import proofs.«01_k».proof.Proof.Gen.RLossIdeal.Read

@[expose] public section

set_option maxRecDepth 16384

noncomputable section

namespace Cert.RLossIdeal.Loss

open Cert.RLossIdeal Cert.RLossIdeal.Gen Cert.RLossIdeal.Read Idealize.ShloMosaic Idealize.ShloMosaic.TcCoe Idealize.SL.Sem
open Cert.KLossIdeal.Loss (grad meanSq)

variable (x y : FVec Ideal S8192x1024 .f32)

theorem loss_eq : val_main_v15 (F := Ideal) x y = fun _ => ((1 / 2 : ℝ) : EReal) * ∑ r : Fin 8192, meanSq x y r := by
  funext i
  unfold meanSq
  pointwise [val_main_v15, val_main_v8, val_main_cst_3, val_main_v7, val_main_cst_2, val_main_v6, val_main_v5, val_main_cst_1,
    val_main_v4, val_main_cst_0, val_main_v1, val_main_v0, Consts.f32_half, Consts.f32_1024]
  simp only [Ideal.div_coe (show (1024 : ℝ) ≠ 0 by norm_num)]

theorem grad_eq : val_main_v14 (F := Ideal) x y = grad x y := by
  funext i
  pointwise [val_main_v14, val_main_v13, val_main_v12, val_main_v11, val_main_cst_6, val_main_v10, val_main_v9, val_main_cst_5,
    val_main_cst_4, val_main_v3, val_main_v2, val_main_cst, val_main_v0, grad, Consts.f32_half, Consts.f32_1024, Consts.f32_two]
  rw [Ideal.div_coe (by norm_num), ← EReal.coe_mul, ← mul_assoc, ← EReal.coe_mul, mul_comm]
  norm_num

end Cert.RLossIdeal.Loss

end
-- ==== Proof.Loss.Equation.lean ====
/- The loss: the kernel and the derivative of the forward lines leave the same loss and the same gradient. -/
module

public import proofs.«01_k».proof.Defs
public import proofs.«01_k».proof.Proof.Gen.RLossIdeal.Run
public import proofs.«01_k».proof.Proof.Gen.RLossIdeal.Read
public import proofs.«01_k».proof.Proof.Loss.Kernel
public import proofs.«01_k».proof.Proof.Loss.Reference
public import Idealize.ShloMosaic.Lib.Claim
public import Idealize.ShloMosaic.Adequacy
public import Idealize.ShloMosaic.Init

@[expose] public section

noncomputable section

namespace Cert.Proof

open Idealize.ShloMosaic Idealize.SL.Sem Cert.KLoss

/-- The loss and the gradient it starts, over the extended reals. -/
theorem algebraic_loss : Cert.algebraic_KLossIdeal_RLossIdeal := fun m g m' g' _ hm => by
  refine ⟨_, _, _,
    (θ_run Cert.KLossIdeal.defs _ _).mono (fun _ h c =>
        ⟨(h c).1.trans (Cert.KLossIdeal.Loss.final_sum m c),
         (h c).2.1.trans (Cert.KLossIdeal.Loss.final_grad m c),
         (h c).2.2.1.trans (Cert.KLossIdeal.Loss.final_copy m c), (h c).2.2.2⟩)
      (Cert.KLossIdeal.Value.run_blocks m g),
    (θ_run Cert.RLossIdeal.defs _ _).mono (fun _ h c =>
        ⟨(h c).1.trans ?_, (h c).2.1.trans ?_, (h c).2.2.1.trans ?_, (h c).2.2.2⟩)
      (Cert.RLossIdeal.Value.run m' g')⟩
  all_goals rw [(hm c).1, (hm c).2]
  · exact Cert.RLossIdeal.Loss.loss_eq _ _
  · exact Cert.RLossIdeal.Loss.grad_eq _ _
  · exact Cert.RLossIdeal.Loss.grad_eq _ _

/-- The reference terminates and leaves its arguments. -/
theorem frame_loss_ref : Cert.quiescent_RLossIdeal := fun m g _ =>
  (θ_run Cert.RLossIdeal.defs _ _).mono (fun r h => ⟨fun c => (h c).2.2.2, sem_eq_zero_of_no_sems (by decide) r.2⟩)
    (Cert.RLossIdeal.Value.run m g)

end Cert.Proof

end
-- ==== Proof.Ffn.Strip.lean ====
/- One strip of 128 columns of the gated convolution's gradient: what the kernel computes on it, and what the strips leave in its buffers. -/
module

public import proofs.«01_k».proof.Proof.Gen.KFfnIdeal.Loops
public import Idealize.ShloMosaic.Lib.WritesUnit
public import Idealize.ShloMosaic.Lib.WholeRead
public import Idealize.ShloMosaic.Lib.Pointwise

@[expose] public section

set_option maxRecDepth 16384

noncomputable section

namespace Cert.KFfnIdeal.Ffn

open Cert.KFfnIdeal Cert.KFfnIdeal.Gen
open Idealize.ShloMosaic Idealize.ShloMosaic.TcCoe

variable {F : FTy → Type} [FloatOps F]

/-- What one point reads: a tile of the gate half with the rows before and after it, a tile of the value half and one of the
    cotangent with the rows after them, the taps and the bias. -/
structure Tile (F : FTy → Type) [FloatOps F] where
  g : Vec F S256x2816 .bf16
  p : Vec F S16x2816 .bf16
  n : Vec F S16x2816 .bf16
  v : Vec F S256x2816 .bf16
  vn : Vec F S16x2816 .bf16
  d : Vec F S256x2816 .bf16
  dn : Vec F S16x2816 .bf16
  w : Vec F S8x2816 .f32
  b : Vec F S1x2816 .f32

/-- Column `j` of strip `k`. -/
def col (k : Fin 22) (j : Fin 128) : Fin 2816 := ⟨128 * k.val + j.val, by have := k.isLt; have := j.isLt; omega⟩

/-- The strip of a column, and the column inside it. -/
def strip (x : Fin 2816) : Fin 22 := ⟨x.val / 128, by have := x.isLt; omega⟩
def lane (x : Fin 2816) : Fin 128 := ⟨x.val % 128, Nat.mod_lt _ (by decide)⟩

theorem col_strip (x : Fin 2816) : col (strip x) (lane x) = x := Fin.ext (Nat.div_add_mod _ _)

/-- Strip `k` of all rows of an array, and of one row. -/
def cut {R : ℕ} {e : EltTy} (x : (⟨2, ![R, 2816]⟩ : Shape).Idx → Elt F e) (k : Fin 22) : (⟨2, ![R, 128]⟩ : Shape).Idx → Elt F e :=
  fun y => x (ix2 (y 0 : Fin R) (col k (y 1 : Fin 128)))
def rowOf {R : ℕ} {e : EltTy} (x : (⟨2, ![R, 2816]⟩ : Shape).Idx → Elt F e) (r : Fin R) (k : Fin 22) : S1x128.Idx → Elt F e :=
  fun y => x (ix2 r (col k (y 1 : Fin 128)))

section pieces
variable (a0 : BitVec 32) (v0 : BitVec 1) (T : Tile F) (k : Fin 22)

/-- The gate's convolution on the strip, and the cotangent of it. -/
def conv : FVec F S272x128 .f32 := k0_pay13 a0 (cut T.p k) (cut T.g k) (cut T.n k) (rowOf T.w 0 k) (rowOf T.w 1 k) (rowOf T.w 2 k) (rowOf T.b 0 k)
def ct : FVec F S256x128 .f32 := k0_pay21 v0 (conv a0 T k) (k0_pay14 (cut T.d k)) (cut T.dn k) (cut T.v k) (cut T.vn k)

/-- The strip's gradient of the gate half and of the value half. -/
def gate : FVec F S256x128 .bf16 :=
  k0_pay20 v0 (k0_pay10 (rowOf T.w 0 k)) (k0_pay11 (rowOf T.w 1 k)) (k0_pay12 (rowOf T.w 2 k)) (conv a0 T k) (k0_pay14 (cut T.d k)) (cut T.dn k) (cut T.v k) (cut T.vn k)
def value : FVec F S256x128 .bf16 := k0_pay18 (conv a0 T k) (k0_pay14 (cut T.d k)) (cut T.dn k)

/-- The strip's gradient of each tap and of the bias, added to what is there. -/
def tap0 (u : Vec F S1x128 .f32) : FVec F S1x128 .f32 := k0_pay3 (k0_pay9 a0 (cut T.p k) (cut T.g k) (cut T.n k)) (ct a0 v0 T k) u
def tap1 (u : Vec F S1x128 .f32) : FVec F S1x128 .f32 := k0_pay4 (k0_pay8 a0 (cut T.p k) (cut T.g k) (cut T.n k)) (ct a0 v0 T k) u
def tap2 (u : Vec F S1x128 .f32) : FVec F S1x128 .f32 := k0_pay5 (k0_pay7 a0 (cut T.p k) (cut T.g k) (cut T.n k)) (ct a0 v0 T k) u
def biasOf (u : Vec F S1x128 .f32) : FVec F S1x128 .f32 := k0_pay6 (ct a0 v0 T k) u
end pieces

section whole
variable (a0 : BitVec 32) (v0 : BitVec 1) (T : Tile F)

/-- What the strips leave: the gradient of both halves, -/
def upOut : Vec F S256x5632 .bf16 := fun y =>
  if h : (y 1).val < 2816 then gate a0 v0 T (strip ⟨(y 1).val, h⟩) (ix2 (y 0 : Fin 256) (lane ⟨(y 1).val, h⟩))
  else value a0 T (strip ⟨(y 1).val - 2816, by have : (y 1).val < 5632 := (y 1).isLt; omega⟩)
    (ix2 (y 0 : Fin 256) (lane ⟨(y 1).val - 2816, by have : (y 1).val < 5632 := (y 1).isLt; omega⟩))

/-- the taps' gradient after the strips before `k`, from `u`, -/
def tapsUpTo (k : ℕ) (u : Vec F S8x2816 .f32) : Vec F S8x2816 .f32 := fun y =>
  if (y 1).val / 128 < k then
    if (y 0).val = 0 then tap0 a0 v0 T (strip (y 1)) (rowOf u 0 (strip (y 1))) (ix2 (0 : Fin 1) (lane (y 1)))
    else if (y 0).val = 1 then tap1 a0 v0 T (strip (y 1)) (rowOf u 1 (strip (y 1))) (ix2 (0 : Fin 1) (lane (y 1)))
    else if (y 0).val = 2 then tap2 a0 v0 T (strip (y 1)) (rowOf u 2 (strip (y 1))) (ix2 (0 : Fin 1) (lane (y 1)))
    else u y
  else u y

/-- and the bias's. -/
def biasUpTo (k : ℕ) (u : Vec F S1x2816 .f32) : Vec F S1x2816 .f32 := fun y =>
  if (y 1).val / 128 < k then biasOf a0 v0 T (strip (y 1)) (rowOf u 0 (strip (y 1))) (ix2 (0 : Fin 1) (lane (y 1)))
  else u y
end whole

/-! ## The loads -/

theorem trips_eq : k0_t1_loop.trips = 22 := by decide +kernel

theorem off1_eq : ∀ k : Fin k0_t1_loop.trips, k0_off1 k = ![0, 128 * k.val] := by decide +kernel
theorem off2_eq : ∀ k : Fin k0_t1_loop.trips, k0_off2 k = ![0, 128 * k.val] := by decide +kernel
theorem off3_eq : ∀ k : Fin k0_t1_loop.trips, k0_off3 k = ![0, 128 * k.val] := by decide +kernel
theorem off4_eq : ∀ k : Fin k0_t1_loop.trips, k0_off4 k = ![1, 128 * k.val] := by decide +kernel
theorem off5_eq : ∀ k : Fin k0_t1_loop.trips, k0_off5 k = ![2, 128 * k.val] := by decide +kernel
theorem off6_eq : ∀ k : Fin k0_t1_loop.trips, k0_off6 k = ![0, 128 * k.val] := by decide +kernel
theorem off7_eq : ∀ k : Fin k0_t1_loop.trips, k0_off7 k = ![0, 2816 + 128 * k.val] := by decide +kernel
theorem off8_eq : ∀ k : Fin k0_t1_loop.trips, k0_off8 k = ![0, 128 * k.val] := by decide +kernel

/-- A load of a strip reads it, -/
theorem readAt_cut {R : ℕ} {e : EltTy} (m : Memref sig .tc .vmem (⟨2, ![R, 2816]⟩ : Shape) e) (f : m.view.ty.Contents (Elt F)) (k : Fin 22)
    (off : Fin 2 → ℕ) (ho : off = ![0, 128 * k.val]) (inb) :
    m.view.readAt (Elt F) (Rect.unit (s := (⟨2, ![R, 2816]⟩ : Shape)) off ![R, 128] inb).toLoadRect f = cut (m.view.read (Elt F) f) k := by
  subst ho
  refine funext fun y => congrArg (m.view.read (Elt F) f) (funext fun a => Fin.ext ?_)
  match a with
  | 0 => show 0 + 1 * (y 0).val = (y 0).val; omega
  | 1 => exact congrArg (128 * k.val + ·) (Nat.one_mul _)

/-- a load of one row's strip that. -/
theorem readAt_row {R : ℕ} {e : EltTy} (m : Memref sig .tc .vmem (⟨2, ![R, 2816]⟩ : Shape) e) (f : m.view.ty.Contents (Elt F)) (r : Fin R) (k : Fin 22)
    (off : Fin 2 → ℕ) (ho : off = ![r.val, 128 * k.val]) (inb) :
    m.view.readAt (Elt F) (Rect.unit (s := (⟨2, ![R, 2816]⟩ : Shape)) off ![1, 128] inb).toLoadRect f = rowOf (m.view.read (Elt F) f) r k := by
  subst ho
  refine funext fun y => congrArg (m.view.read (Elt F) f) (funext fun a => Fin.ext ?_)
  match a with
  | 0 => have : (y 0).val < 1 := (y 0).isLt; show r.val + 1 * (y 0).val = r.val; omega
  | 1 => exact congrArg (128 * k.val + ·) (Nat.one_mul _)

end Cert.KFfnIdeal.Ffn
-- ==== Proof.Ffn.Trip.lean ====
/- The stores of one strip in the buffers, and of all strips in order. -/
module

public import proofs.«01_k».proof.Proof.Ffn.Strip

@[expose] public section

set_option maxRecDepth 16384

noncomputable section

namespace Cert.KFfnIdeal.Ffn

open Cert.KFfnIdeal Cert.KFfnIdeal.Gen
open Idealize.ShloMosaic Idealize.ShloMosaic.TcCoe

variable {F : FTy → Type} [FloatOps F]

/-! ## A strip put into a buffer -/

/-- The store of two column strips of the wide buffer: read back, -/
theorem wide_step (m : Memref sig .tc .vmem S256x5632 .bf16) (f : m.view.ty.Contents (Elt F)) (k : Fin 22) (L : List (View.Piece (Elt F) S256x5632 .bf16))
    (off off' : Fin 2 → ℕ) (ho : off = ![0, 128 * k.val]) (ho' : off' = ![0, 2816 + 128 * k.val]) (j j') (P Q : S256x128.Idx → Elt F .bf16)
    (y : S256x5632.Idx) :
    m.view.read (Elt F) (m.view.writes (Elt F) f (⟨Rect.unit (s := S256x5632) off S256x128.size j, P⟩
        :: ⟨Rect.unit (s := S256x5632) off' S256x128.size j', Q⟩ :: L)) y
      = if (y 1).val / 128 = k.val then P (ix2 (y 0 : Fin 256) (⟨(y 1).val % 128, Nat.mod_lt _ (by decide)⟩ : Fin 128))
        else if (y 1).val / 128 = 22 + k.val then Q (ix2 (y 0 : Fin 256) (⟨(y 1).val % 128, Nat.mod_lt _ (by decide)⟩ : Fin 128))
        else m.view.read (Elt F) (m.view.writes (Elt F) f L) y := by
  have hd := Nat.div_add_mod (y 1).val 128
  have hm : (y 1).val % 128 < 128 := Nat.mod_lt _ (by decide)
  by_cases h : (y 1).val / 128 = k.val
  · rw [if_pos h]
    refine View.read_writes_cons_unit_of_mem _ _ j _ _ y (ix2 (y 0 : Fin 256) (⟨(y 1).val % 128, Nat.mod_lt _ (by decide)⟩ : Fin 128)) ho fun a => ?_
    match a with
    | 0 => exact (Nat.zero_add _).symm
    | 1 => show (y 1).val = 128 * k.val + (y 1).val % 128; rw [← h]; omega
  rw [if_neg h]
  refine (View.read_writes_cons_unit_of_not_mem _ _ j _ _ y ho 1 (show (y 1).val < 128 * k.val ∨ 128 * k.val + 128 ≤ (y 1).val by omega)).trans ?_
  by_cases h' : (y 1).val / 128 = 22 + k.val
  · rw [if_pos h']
    refine View.read_writes_cons_unit_of_mem _ _ j' _ _ y (ix2 (y 0 : Fin 256) (⟨(y 1).val % 128, Nat.mod_lt _ (by decide)⟩ : Fin 128)) ho' fun a => ?_
    match a with
    | 0 => exact (Nat.zero_add _).symm
    | 1 => show (y 1).val = 2816 + 128 * k.val + (y 1).val % 128; omega
  rw [if_neg h']
  exact View.read_writes_cons_unit_of_not_mem _ _ j' _ _ y ho' 1 (show (y 1).val < 2816 + 128 * k.val ∨ 2816 + 128 * k.val + 128 ≤ (y 1).val by omega)

/-- of one row's strip, too. -/
theorem row_step {R : ℕ} {e : EltTy} (v : View sig .tc .vmem (⟨2, ![R, 2816]⟩ : Shape) e) (f : v.ty.Contents (Elt F)) (r : Fin R) (k : Fin 22)
    (L : List (View.Piece (Elt F) (⟨2, ![R, 2816]⟩ : Shape) e)) (off : Fin 2 → ℕ) (ho : off = ![r.val, 128 * k.val]) (j) (P : S1x128.Idx → Elt F e)
    (y : (⟨2, ![R, 2816]⟩ : Shape).Idx) :
    v.read (Elt F) (v.writes (Elt F) f (⟨Rect.unit (s := (⟨2, ![R, 2816]⟩ : Shape)) off S1x128.size j, P⟩ :: L)) y
      = if (y 0).val = r.val ∧ (y 1).val / 128 = k.val then P (ix2 (0 : Fin 1) (lane (y 1 : Fin 2816)))
        else v.read (Elt F) (v.writes (Elt F) f L) y := by
  have hd := Nat.div_add_mod (y 1).val 128
  by_cases h : (y 0).val = r.val ∧ (y 1).val / 128 = k.val
  · rw [if_pos h]
    refine View.read_writes_cons_unit_of_mem _ _ j _ _ y (ix2 (0 : Fin 1) (lane (y 1 : Fin 2816))) ho fun a => ?_
    match a with
    | 0 => exact h.1
    | 1 => show (y 1).val = 128 * k.val + (y 1).val % 128; rw [← h.2]; exact hd.symm
  rw [if_neg h]
  by_cases h0 : (y 0).val = r.val
  · exact View.read_writes_cons_unit_of_not_mem _ _ j _ _ y ho 1 (show (y 1).val < 128 * k.val ∨ 128 * k.val + 128 ≤ (y 1).val by
      have : (y 1).val / 128 ≠ k.val := fun e => h ⟨h0, e⟩
      omega)
  · exact View.read_writes_cons_unit_of_not_mem _ _ j _ _ y ho 0 (show (y 0).val < r.val ∨ r.val + 1 ≤ (y 0).val by omega)

/-! ## One trip's stores -/

section trip
variable (c : Dev nD) (i : grid0.Coords) (arg1 : Memref sig .tc .vmem S256x2816 .bf16) (harg1 : arg1.IsWhole) (arg2 : Memref sig .tc .vmem S16x2816 .bf16) (harg2 : arg2.IsWhole) (arg3 : Memref sig .tc .vmem S16x2816 .bf16) (harg3 : arg3.IsWhole) (arg4 : Memref sig .tc .vmem S256x2816 .bf16) (harg4 : arg4.IsWhole) (arg5 : Memref sig .tc .vmem S16x2816 .bf16) (harg5 : arg5.IsWhole) (arg6 : Memref sig .tc .vmem S256x2816 .bf16) (harg6 : arg6.IsWhole) (arg7 : Memref sig .tc .vmem S16x2816 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S256x5632 .bf16) (harg10 : arg10.IsWhole) (arg11 : Memref sig .tc .vmem S8x2816 .f32) (harg11 : arg11.IsWhole) (arg12 : Memref sig .tc .vmem S1x2816 .f32) (harg12 : arg12.IsWhole) (a0 : BitVec 32) (v0 : BitVec 1)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)

/-- What the buffers hold, read. -/
abbrev tile : Tile F := ⟨arg1.view.read (Elt F) X1, arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩

/-- The strip's number. -/
abbrev num (k : Fin k0_t1_loop.trips) : Fin 22 := ⟨k.val, lt_of_lt_of_eq k.isLt trips_eq⟩

variable (k : Fin k0_t1_loop.trips) (f10 : BufTy.Contents (Elt F) arg10.view.ty) (f11 : BufTy.Contents (Elt F) arg11.view.ty) (f12 : BufTy.Contents (Elt F) arg12.view.ty)

/-- The loads of one trip are the strip of what is read. -/
theorem loads :
    arg1.view.readAt (Elt F) (Rect.unit (s := S256x2816) (k0_off2 k) S256x128.size (k0_off2_inb k)).toLoadRect X1 = cut (arg1.view.read (Elt F) X1) (num k)
    ∧ arg2.view.readAt (Elt F) (Rect.unit (s := S16x2816) (k0_off1 k) S16x128.size (k0_off1_inb k)).toLoadRect X2 = cut (arg2.view.read (Elt F) X2) (num k)
    ∧ arg3.view.readAt (Elt F) (Rect.unit (s := S16x2816) (k0_off1 k) S16x128.size (k0_off1_inb k)).toLoadRect X3 = cut (arg3.view.read (Elt F) X3) (num k)
    ∧ arg4.view.readAt (Elt F) (Rect.unit (s := S256x2816) (k0_off2 k) S256x128.size (k0_off2_inb k)).toLoadRect X4 = cut (arg4.view.read (Elt F) X4) (num k)
    ∧ arg5.view.readAt (Elt F) (Rect.unit (s := S16x2816) (k0_off1 k) S16x128.size (k0_off1_inb k)).toLoadRect X5 = cut (arg5.view.read (Elt F) X5) (num k)
    ∧ arg6.view.readAt (Elt F) (Rect.unit (s := S256x2816) (k0_off2 k) S256x128.size (k0_off2_inb k)).toLoadRect X6 = cut (arg6.view.read (Elt F) X6) (num k)
    ∧ arg7.view.readAt (Elt F) (Rect.unit (s := S16x2816) (k0_off1 k) S16x128.size (k0_off1_inb k)).toLoadRect X7 = cut (arg7.view.read (Elt F) X7) (num k)
    ∧ arg8.view.readAt (Elt F) (Rect.unit (s := S8x2816) (k0_off3 k) S1x128.size (k0_off3_inb k)).toLoadRect X8 = rowOf (arg8.view.read (Elt F) X8) 0 (num k)
    ∧ arg8.view.readAt (Elt F) (Rect.unit (s := S8x2816) (k0_off4 k) S1x128.size (k0_off4_inb k)).toLoadRect X8 = rowOf (arg8.view.read (Elt F) X8) 1 (num k)
    ∧ arg8.view.readAt (Elt F) (Rect.unit (s := S8x2816) (k0_off5 k) S1x128.size (k0_off5_inb k)).toLoadRect X8 = rowOf (arg8.view.read (Elt F) X8) 2 (num k)
    ∧ arg9.view.readAt (Elt F) (Rect.unit (s := S1x2816) (k0_off6 k) S1x128.size (k0_off6_inb k)).toLoadRect X9 = rowOf (arg9.view.read (Elt F) X9) 0 (num k) :=
  ⟨readAt_cut _ _ _ _ (off2_eq k) _, readAt_cut _ _ _ _ (off1_eq k) _, readAt_cut _ _ _ _ (off1_eq k) _, readAt_cut _ _ _ _ (off2_eq k) _,
   readAt_cut _ _ _ _ (off1_eq k) _, readAt_cut _ _ _ _ (off2_eq k) _, readAt_cut _ _ _ _ (off1_eq k) _,
   readAt_row arg8 _ 0 (num k) _ (off3_eq k) _, readAt_row arg8 _ 1 (num k) _ (off4_eq k) _, readAt_row arg8 _ 2 (num k) _ (off5_eq k) _,
   readAt_row arg9 _ 0 (num k) _ (off6_eq k) _⟩

/-- What one trip stores in the wide buffer, -/
theorem up_pieces : (trip_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 k).1 f10 f11 f12
      = [⟨Rect.unit (s := S256x5632) (k0_off8 k) S256x128.size (k0_off8_inb k), gate a0 v0 (tile arg1 arg2 arg3 arg4 arg5 arg6 arg7 arg8 arg9 X1 X2 X3 X4 X5 X6 X7 X8 X9) (num k)⟩,
         ⟨Rect.unit (s := S256x5632) (k0_off7 k) S256x128.size (k0_off7_inb k), value a0 (tile arg1 arg2 arg3 arg4 arg5 arg6 arg7 arg8 arg9 X1 X2 X3 X4 X5 X6 X7 X8 X9) (num k)⟩] := by
  unfold trip_k0_t1 gate value conv
  obtain ⟨h1, h2, h3, h4, h5, h6, h7, h8, h9, h10, h11⟩ := loads arg1 arg2 arg3 arg4 arg5 arg6 arg7 arg8 arg9 X1 X2 X3 X4 X5 X6 X7 X8 X9 k
  rw [← h1, ← h2, ← h3, ← h4, ← h5, ← h6, ← h7, ← h8, ← h9, ← h10, ← h11]
  rfl

/-- in the taps' gradient, -/
theorem taps_pieces : (trip_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 k).2.1 f10 f11 f12
      = [⟨Rect.unit (s := S8x2816) (k0_off5 k) S1x128.size (k0_off5_inb k), tap2 a0 v0 (tile arg1 arg2 arg3 arg4 arg5 arg6 arg7 arg8 arg9 X1 X2 X3 X4 X5 X6 X7 X8 X9) (num k) (rowOf (arg11.view.read (Elt F) f11) 2 (num k))⟩,
         ⟨Rect.unit (s := S8x2816) (k0_off4 k) S1x128.size (k0_off4_inb k), tap1 a0 v0 (tile arg1 arg2 arg3 arg4 arg5 arg6 arg7 arg8 arg9 X1 X2 X3 X4 X5 X6 X7 X8 X9) (num k) (rowOf (arg11.view.read (Elt F) f11) 1 (num k))⟩,
         ⟨Rect.unit (s := S8x2816) (k0_off3 k) S1x128.size (k0_off3_inb k), tap0 a0 v0 (tile arg1 arg2 arg3 arg4 arg5 arg6 arg7 arg8 arg9 X1 X2 X3 X4 X5 X6 X7 X8 X9) (num k) (rowOf (arg11.view.read (Elt F) f11) 0 (num k))⟩] := by
  unfold trip_k0_t1 tap0 tap1 tap2 ct conv
  obtain ⟨h1, h2, h3, h4, h5, h6, h7, h8, h9, h10, h11⟩ := loads arg1 arg2 arg3 arg4 arg5 arg6 arg7 arg8 arg9 X1 X2 X3 X4 X5 X6 X7 X8 X9 k
  rw [← h1, ← h2, ← h3, ← h4, ← h5, ← h6, ← h7, ← h8, ← h9, ← h10, ← h11,
    ← readAt_row arg11 f11 0 (num k) _ (off3_eq k) (k0_off3_inb k), ← readAt_row arg11 f11 1 (num k) _ (off4_eq k) (k0_off4_inb k),
    ← readAt_row arg11 f11 2 (num k) _ (off5_eq k) (k0_off5_inb k)]
  rfl

/-- and in the bias's. -/
theorem bias_pieces : (trip_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 k).2.2.1 f10 f11 f12
      = [⟨Rect.unit (s := S1x2816) (k0_off6 k) S1x128.size (k0_off6_inb k), biasOf a0 v0 (tile arg1 arg2 arg3 arg4 arg5 arg6 arg7 arg8 arg9 X1 X2 X3 X4 X5 X6 X7 X8 X9) (num k) (rowOf (arg12.view.read (Elt F) f12) 0 (num k))⟩] := by
  unfold trip_k0_t1 biasOf ct conv
  obtain ⟨h1, h2, h3, h4, h5, h6, h7, h8, h9, h10, h11⟩ := loads arg1 arg2 arg3 arg4 arg5 arg6 arg7 arg8 arg9 X1 X2 X3 X4 X5 X6 X7 X8 X9 k
  rw [← h1, ← h2, ← h3, ← h4, ← h5, ← h6, ← h7, ← h8, ← h9, ← h10, ← h11, ← readAt_row arg12 f12 0 (num k) _ (off6_eq k) (k0_off6_inb k)]
  rfl

/-! ## All trips -/

variable (G10 : BufTy.Contents (Elt F) arg10.view.ty) (G11 : BufTy.Contents (Elt F) arg11.view.ty) (G12 : BufTy.Contents (Elt F) arg12.view.ty)

/-- After the trips before `k` the strips before `k` of the wide buffer hold the gradients, -/
theorem up_all (k : ℕ) (hk : k ≤ 22) (y : S256x5632.Idx) (hy : (y 1).val % 2816 / 128 < k) :
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).1) y
      = upOut a0 v0 (tile arg1 arg2 arg3 arg4 arg5 arg6 arg7 arg8 arg9 X1 X2 X3 X4 X5 X6 X7 X8 X9) y := by
  have h1 : (y 1).val < 5632 := (y 1).isLt
  induction k with
  | zero => omega
  | succ k ih =>
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 ⟨k, by rw [trips_eq]; omega⟩
    rw [e]
    show arg10.view.read (Elt F) (arg10.view.writes (Elt F) G10 ((trip_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 ⟨k, by rw [trips_eq]; omega⟩).1 (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).1) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.1) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.2) ++ (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).1)) y = _
    rw [up_pieces]
    simp only [List.cons_append, List.nil_append]
    refine (wide_step arg10 G10 (num ⟨k, by rw [trips_eq]; omega⟩) _ _ _ (off8_eq _) (off7_eq _) _ _ _ _ y).trans ?_
    show (if (y 1).val / 128 = k then _ else if (y 1).val / 128 = 22 + k then _ else _) = _
    by_cases hl : (y 1).val / 128 = k
    · have hh : (y 1).val < 2816 := by omega
      rw [if_pos hl]; unfold upOut; rw [dif_pos hh]
      have : num ⟨k, by rw [trips_eq]; omega⟩ = strip ⟨(y 1).val, hh⟩ := Fin.ext hl.symm
      rw [this]; rfl
    rw [if_neg hl]
    by_cases hr : (y 1).val / 128 = 22 + k
    · have hh : ¬ (y 1).val < 2816 := by omega
      rw [if_pos hr]; unfold upOut; rw [dif_neg hh]
      have : num ⟨k, by rw [trips_eq]; omega⟩ = strip ⟨(y 1).val - 2816, by omega⟩ := Fin.ext (by show k = ((y 1).val - 2816) / 128; omega)
      rw [this]
      exact congrArg (value a0 (tile arg1 arg2 arg3 arg4 arg5 arg6 arg7 arg8 arg9 X1 X2 X3 X4 X5 X6 X7 X8 X9) _) (congrArg (ix2 (y 0 : Fin 256)) (Fin.ext (by show (y 1).val % 128 = ((y 1).val - 2816) % 128; omega)))
    rw [if_neg hr]
    exact ih (by omega) (by omega)

/-- the taps' gradient holds those strips', -/
theorem taps_all (k : ℕ) (hk : k ≤ 22) :
    arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.1)
      = tapsUpTo a0 v0 (tile arg1 arg2 arg3 arg4 arg5 arg6 arg7 arg8 arg9 X1 X2 X3 X4 X5 X6 X7 X8 X9) k (arg11.view.read (Elt F) G11) := by
  induction k with
  | zero => exact funext fun y => (if_neg (Nat.not_lt_zero _)).symm
  | succ k ih =>
    have ih := ih (by omega)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 ⟨k, by rw [trips_eq]; omega⟩
    rw [e]
    refine funext fun y => ?_
    show arg11.view.read (Elt F) (arg11.view.writes (Elt F) G11 ((trip_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 ⟨k, by rw [trips_eq]; omega⟩).2.1 (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).1) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.1) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.2) ++ (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.1)) y = _
    rw [taps_pieces, ih]
    simp only [List.cons_append, List.nil_append]
    refine (row_step arg11.view G11 2 (num ⟨k, by rw [trips_eq]; omega⟩) _ _ (off5_eq _) _ _ y).trans (Eq.trans (if_congr Iff.rfl rfl
      ((row_step arg11.view G11 1 (num ⟨k, by rw [trips_eq]; omega⟩) _ _ (off4_eq _) _ _ y).trans (if_congr Iff.rfl rfl
        ((row_step arg11.view G11 0 (num ⟨k, by rw [trips_eq]; omega⟩) _ _ (off3_eq _) _ _ y).trans (if_congr Iff.rfl rfl (congrFun ih y)))))) ?_)
    have hu : ∀ r, rowOf (tapsUpTo a0 v0 (tile arg1 arg2 arg3 arg4 arg5 arg6 arg7 arg8 arg9 X1 X2 X3 X4 X5 X6 X7 X8 X9) k (arg11.view.read (Elt F) G11)) r (num ⟨k, by rw [trips_eq]; omega⟩)
        = rowOf (arg11.view.read (Elt F) G11) r (num ⟨k, by rw [trips_eq]; omega⟩) := fun r => funext fun z =>
      if_neg (by have := (z 1).isLt; change (z 1).val < 128 at this; show ¬ (128 * k + (z 1).val) / 128 < k; omega)
    rw [hu, hu, hu]
    unfold tapsUpTo
    have hs : (y 1).val / 128 = k → num ⟨k, by rw [trips_eq]; omega⟩ = strip (y 1) := fun h => Fin.ext h.symm
    show (if (y 0).val = 2 ∧ (y 1).val / 128 = k then _ else if (y 0).val = 1 ∧ (y 1).val / 128 = k then _ else if (y 0).val = 0 ∧ (y 1).val / 128 = k then _ else _) = _
    by_cases hl : (y 1).val / 128 = k
    · rw [hs hl]
      by_cases h0 : (y 0).val = 0
      · simp [h0, hl]
      by_cases h1 : (y 0).val = 1
      · simp [h1, hl]
      by_cases h2 : (y 0).val = 2
      · simp [h2, hl]
      simp [h0, h1, h2, hl]
    · rw [if_neg (fun h => hl h.2), if_neg (fun h => hl h.2), if_neg (fun h => hl h.2)]
      by_cases h : (y 1).val / 128 < k
      · rw [if_pos h, if_pos (show (y 1).val / 128 < k + 1 by omega)]
      · rw [if_neg h, if_neg (show ¬ (y 1).val / 128 < k + 1 by omega)]

/-- and so does the bias's. -/
theorem bias_all (k : ℕ) (hk : k ≤ 22) :
    arg12.view.read (Elt F) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.2)
      = biasUpTo a0 v0 (tile arg1 arg2 arg3 arg4 arg5 arg6 arg7 arg8 arg9 X1 X2 X3 X4 X5 X6 X7 X8 X9) k (arg12.view.read (Elt F) G12) := by
  induction k with
  | zero => exact funext fun y => (if_neg (Nat.not_lt_zero _)).symm
  | succ k ih =>
    have ih := ih (by omega)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 ⟨k, by rw [trips_eq]; omega⟩
    rw [e]
    refine funext fun y => ?_
    show arg12.view.read (Elt F) (arg12.view.writes (Elt F) G12 ((trip_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 ⟨k, by rw [trips_eq]; omega⟩).2.2.1 (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).1) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.1) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.2) ++ (pb_k0_t1 (F := F) Variants.none c none i arg1 harg1 arg2 harg2 arg3 harg3 arg4 harg4 arg5 harg5 arg6 harg6 arg7 harg7 arg8 harg8 arg9 harg9 arg10 harg10 arg11 harg11 arg12 harg12 a0 v0 X1 X2 X3 X4 X5 X6 X7 X8 X9 G10 G11 G12 k).2.2)) y = _
    rw [bias_pieces, ih]
    simp only [List.cons_append, List.nil_append]
    refine (row_step arg12.view G12 0 (num ⟨k, by rw [trips_eq]; omega⟩) _ _ (off6_eq _) _ _ y).trans (Eq.trans (if_congr Iff.rfl rfl (congrFun ih y)) ?_)
    have hu : ∀ r, rowOf (biasUpTo a0 v0 (tile arg1 arg2 arg3 arg4 arg5 arg6 arg7 arg8 arg9 X1 X2 X3 X4 X5 X6 X7 X8 X9) k (arg12.view.read (Elt F) G12)) r (num ⟨k, by rw [trips_eq]; omega⟩)
        = rowOf (arg12.view.read (Elt F) G12) r (num ⟨k, by rw [trips_eq]; omega⟩) := fun r => funext fun z =>
      if_neg (by have := (z 1).isLt; change (z 1).val < 128 at this; show ¬ (128 * k + (z 1).val) / 128 < k; omega)
    rw [hu]
    unfold biasUpTo
    have hs : (y 1).val / 128 = k → num ⟨k, by rw [trips_eq]; omega⟩ = strip (y 1) := fun h => Fin.ext h.symm
    have h0 : (y 0).val = 0 := by have : (y 0).val < 1 := (y 0).isLt; omega
    show (if (y 0).val = 0 ∧ (y 1).val / 128 = k then _ else _) = _
    by_cases hl : (y 1).val / 128 = k
    · rw [if_pos (show (y 1).val / 128 < k + 1 by omega), if_pos ⟨h0, hl⟩, hs hl]
    · rw [if_neg (fun h => hl h.2)]
      by_cases h : (y 1).val / 128 < k
      · rw [if_pos h, if_pos (show (y 1).val / 128 < k + 1 by omega)]
      · rw [if_neg h, if_neg (show ¬ (y 1).val / 128 < k + 1 by omega)]

end trip

end Cert.KFfnIdeal.Ffn
-- ==== Proof.Ffn.Body.lean ====
/- One point of the gated convolution's gradient: what the kernel leaves in its buffers. -/
module

public import proofs.«01_k».proof.Proof.Ffn.Trip
public import proofs.«01_k».proof.Proof.Gen.KFfnIdeal.Frame.Runs

@[expose] public section

set_option maxRecDepth 16384

noncomputable section

namespace Cert.KFfnIdeal.Ffn

open Cert.KFfnIdeal Cert.KFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Classical in
/-- The gradients of the taps and of the bias that a point starts from: zero at the first. -/
def from11 (i : grid0.Coords) (u : Vec F S8x2816 .f32) : Vec F S8x2816 .f32 := if cond0_0 i then k0_pay1 else u
open Classical in
def from12 (i : grid0.Coords) (u : Vec F S1x2816 .f32) : Vec F S1x2816 .f32 := if cond0_0 i then k0_pay2 else u

/-- A buffer wholly overwritten reads what was put in. -/
theorem read_whole {S : Shape} {e : EltTy} (m : Memref sig .tc .vmem S e) (f : m.view.ty.Contents (Elt F)) (off : Fin S.rank → ℕ) (ho : off = fun _ => 0) (j) (P : S.Idx → Elt F e) :
    m.view.read (Elt F) (m.view.writes (Elt F) f [⟨Rect.unit (s := S) off S.size j, P⟩]) = P :=
  funext fun y => View.read_writes_cons_unit_of_mem m.view f j P [] y y ho fun a => (Nat.zero_add _).symm

set_option maxHeartbeats 2000000 in
/-- The body at one point: it reads its tiles and leaves the gradients of both halves, and those of the taps and the bias added to. -/
theorem kernelRun (c : Dev nD) (i : grid0.Coords) (arg1 : Memref sig .tc .vmem S256x2816 .bf16) (harg1 : arg1.IsWhole) (arg2 : Memref sig .tc .vmem S16x2816 .bf16) (harg2 : arg2.IsWhole) (arg3 : Memref sig .tc .vmem S16x2816 .bf16) (harg3 : arg3.IsWhole) (arg4 : Memref sig .tc .vmem S256x2816 .bf16) (harg4 : arg4.IsWhole) (arg5 : Memref sig .tc .vmem S16x2816 .bf16) (harg5 : arg5.IsWhole) (arg6 : Memref sig .tc .vmem S256x2816 .bf16) (harg6 : arg6.IsWhole) (arg7 : Memref sig .tc .vmem S16x2816 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S256x5632 .bf16) (harg10 : arg10.IsWhole) (arg11 : Memref sig .tc .vmem S8x2816 .f32) (harg11 : arg11.IsWhole) (arg12 : Memref sig .tc .vmem S1x2816 .f32) (harg12 : arg12.IsWhole)
    (x0 : Vec F S256x2816 .bf16) (x1 : Vec F S16x2816 .bf16) (x2 : Vec F S16x2816 .bf16) (x3 : Vec F S256x2816 .bf16) (x4 : Vec F S16x2816 .bf16) (x5 : Vec F S256x2816 .bf16) (x6 : Vec F S16x2816 .bf16) (x7 : Vec F S8x2816 .f32) (x8 : Vec F S1x2816 .f32) (x10 : Vec F S8x2816 .f32) (x11 : Vec F S1x2816 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ owns (c : Thread nD τ) arg12 fullShare x11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (upOut (BitVec.ofNat 32 (i 0).val) (Scalar.cmpi .eq (BitVec.ofNat 32 (i 0).val) 31#32) ⟨x0, x1, x2, x3, x4, x5, x6, x7, x8⟩) ∗ owns (c : Thread nD τ) arg11 fullShare (tapsUpTo (BitVec.ofNat 32 (i 0).val) (Scalar.cmpi .eq (BitVec.ofNat 32 (i 0).val) 31#32) ⟨x0, x1, x2, x3, x4, x5, x6, x7, x8⟩ 22 (from11 i x10)) ∗ owns (c : Thread nD τ) arg12 fullShare (biasUpTo (BitVec.ofNat 32 (i 0).val) (Scalar.cmpi .eq (BitVec.ofNat 32 (i 0).val) 31#32) ⟨x0, x1, x2, x3, x4, x5, x6, x7, x8⟩ 22 (from12 i x11))) -∗ K ⟨⟩))
      ⊢ wp frame (wpE (defs₀ (F := F)) Variants.none c none) E (cc0_ffn_mid_bwd i arg1 harg1 arg2 harg2 arg3 harg3 arg4 harg4 arg5 harg5 arg6 harg6 arg7 harg7 arg8 harg8 arg9 harg9 arg10 harg10 arg11 harg11 arg12 harg12) K := by
  simp only [cc0_ffn_mid_bwd_eq_skeleton]; unfold cc0_ffn_mid_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  subst hf10 hf11
  by_cases hc : cond0_0 i
  ·
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr
      swap; · iexact H9
      ipureintro
      refine funext fun y => (up_all c i arg1 harg1 arg2 harg2 arg3 harg3 arg4 harg4 arg5 harg5 arg6 harg6 arg7 harg7 arg8 harg8 arg9 harg9 arg10 harg10 arg11 harg11 arg12 harg12 _ _ (harg1.unread x0) (harg2.unread x1) (harg3.unread x2) (harg4.unread x3) (harg5.unread x4) (harg6.unread x5) (harg7.unread x6) (harg8.unread x7) (harg9.unread x8) _ _ _ 22 le_rfl y (by have : (y 1).val < 5632 := (y 1).isLt; omega)).trans ?_
      unfold tile; rw [harg1.read_unread, harg2.read_unread, harg3.read_unread, harg4.read_unread, harg5.read_unread, harg6.read_unread, harg7.read_unread, harg8.read_unread, harg9.read_unread]
      rfl
    isplitl [H10]
    · iexists _; isplitr
      swap; · iexact H10
      ipureintro
      rw [View.writes_append]
      refine (taps_all c i arg1 harg1 arg2 harg2 arg3 harg3 arg4 harg4 arg5 harg5 arg6 harg6 arg7 harg7 arg8 harg8 arg9 harg9 arg10 harg10 arg11 harg11 arg12 harg12 _ _ (harg1.unread x0) (harg2.unread x1) (harg3.unread x2) (harg4.unread x3) (harg5.unread x4) (harg6.unread x5) (harg7.unread x6) (harg8.unread x7) (harg9.unread x8) _ _ _ 22 le_rfl).trans ?_
      unfold tile from11; rw [harg1.read_unread, harg2.read_unread, harg3.read_unread, harg4.read_unread, harg5.read_unread, harg6.read_unread, harg7.read_unread, harg8.read_unread, harg9.read_unread, if_pos hc]
      exact congrArg (tapsUpTo (BitVec.ofNat 32 (i 0).val) (Scalar.cmpi .eq (BitVec.ofNat 32 (i 0).val) 31#32) ⟨x0, x1, x2, x3, x4, x5, x6, x7, x8⟩ 22) (read_whole arg11 _ ![0, 0] (by funext a; fin_cases a <;> rfl) _ _)
    iexists _; isplitr
    swap; · iexact H11
    ipureintro
    rw [View.writes_append]
    refine (bias_all c i arg1 harg1 arg2 harg2 arg3 harg3 arg4 harg4 arg5 harg5 arg6 harg6 arg7 harg7 arg8 harg8 arg9 harg9 arg10 harg10 arg11 harg11 arg12 harg12 _ _ (harg1.unread x0) (harg2.unread x1) (harg3.unread x2) (harg4.unread x3) (harg5.unread x4) (harg6.unread x5) (harg7.unread x6) (harg8.unread x7) (harg9.unread x8) _ _ _ 22 le_rfl).trans ?_
    unfold tile from12; rw [harg1.read_unread, harg2.read_unread, harg3.read_unread, harg4.read_unread, harg5.read_unread, harg6.read_unread, harg7.read_unread, harg8.read_unread, harg9.read_unread, if_pos hc]
    exact congrArg (biasUpTo (BitVec.ofNat 32 (i 0).val) (Scalar.cmpi .eq (BitVec.ofNat 32 (i 0).val) 31#32) ⟨x0, x1, x2, x3, x4, x5, x6, x7, x8⟩ 22) (read_whole arg12 _ ![0, 0] (by funext a; fin_cases a <;> rfl) _ _)
  ·
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr
      swap; · iexact H9
      ipureintro
      refine funext fun y => (up_all c i arg1 harg1 arg2 harg2 arg3 harg3 arg4 harg4 arg5 harg5 arg6 harg6 arg7 harg7 arg8 harg8 arg9 harg9 arg10 harg10 arg11 harg11 arg12 harg12 _ _ (harg1.unread x0) (harg2.unread x1) (harg3.unread x2) (harg4.unread x3) (harg5.unread x4) (harg6.unread x5) (harg7.unread x6) (harg8.unread x7) (harg9.unread x8) _ _ _ 22 le_rfl y (by have : (y 1).val < 5632 := (y 1).isLt; omega)).trans ?_
      unfold tile; rw [harg1.read_unread, harg2.read_unread, harg3.read_unread, harg4.read_unread, harg5.read_unread, harg6.read_unread, harg7.read_unread, harg8.read_unread, harg9.read_unread]
      rfl
    isplitl [H10]
    · iexists _; isplitr
      swap; · iexact H10
      ipureintro
      refine (taps_all c i arg1 harg1 arg2 harg2 arg3 harg3 arg4 harg4 arg5 harg5 arg6 harg6 arg7 harg7 arg8 harg8 arg9 harg9 arg10 harg10 arg11 harg11 arg12 harg12 _ _ (harg1.unread x0) (harg2.unread x1) (harg3.unread x2) (harg4.unread x3) (harg5.unread x4) (harg6.unread x5) (harg7.unread x6) (harg8.unread x7) (harg9.unread x8) _ _ _ 22 le_rfl).trans ?_
      unfold tile from11; rw [harg1.read_unread, harg2.read_unread, harg3.read_unread, harg4.read_unread, harg5.read_unread, harg6.read_unread, harg7.read_unread, harg8.read_unread, harg9.read_unread, if_neg hc]
      rfl
    iexists _; isplitr
    swap; · iexact H11
    ipureintro
    refine (bias_all c i arg1 harg1 arg2 harg2 arg3 harg3 arg4 harg4 arg5 harg5 arg6 harg6 arg7 harg7 arg8 harg8 arg9 harg9 arg10 harg10 arg11 harg11 arg12 harg12 _ _ (harg1.unread x0) (harg2.unread x1) (harg3.unread x2) (harg4.unread x3) (harg5.unread x4) (harg6.unread x5) (harg7.unread x6) (harg8.unread x7) (harg9.unread x8) _ _ _ 22 le_rfl).trans ?_
    unfold tile from12; rw [harg1.read_unread, harg2.read_unread, harg3.read_unread, harg4.read_unread, harg5.read_unread, harg6.read_unread, harg7.read_unread, harg8.read_unread, harg9.read_unread, if_neg hc]
    rfl

end Cert.KFfnIdeal.Ffn
-- ==== Proof.Ffn.Frame.lean ====
/- The run of the gated convolution's gradient: what every point leaves, and the launch. -/
module

public import proofs.«01_k».proof.Proof.Ffn.Body
public import Idealize.ShloMosaic.Lib.Claim

@[expose] public section

set_option maxRecDepth 16384

noncomputable section

namespace Cert.KFfnIdeal.Ffn

open Cert.KFfnIdeal Cert.KFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The point of a number. -/
def pt (n : ℕ) : Fin cfg0.N := ⟨n % 32, by rw [show cfg0.N = 32 from N_0]; exact Nat.mod_lt _ (by decide)⟩
theorem pt_val (t : Fin cfg0.N) : pt t.val = t := Fin.ext (Nat.mod_eq_of_lt (lt_of_lt_of_eq t.isLt N_0))

/-- What point `t` reads. -/
def tileAt (c : Dev nD) (t : Fin cfg0.N) : Tile F :=
  ⟨iblk m c 0 t, iblk m c 1 t, iblk m c 2 t, iblk m c 3 t, iblk m c 4 t, iblk m c 5 t, iblk m c 6 t, iblk m c 7 t, iblk m c 8 t⟩

/-- A point's number, and whether it is the last, as the kernel computes them. -/
def numAt (t : Fin cfg0.N) : BitVec 32 := BitVec.ofNat 32 (grid0.coords t 0).val
def lastAt (t : Fin cfg0.N) : BitVec 1 := Scalar.cmpi .eq (numAt t) 31#32

/-- What point `t` leaves of the gradient of both halves, -/
def upAt (c : Dev nD) (t : Fin cfg0.N) : Vec F S256x5632 .bf16 := upOut (numAt t) (lastAt t) (tileAt m c t)
/-- and of the taps and the bias, from what the point before it left. -/
def tapsStep (c : Dev nD) (t : Fin cfg0.N) (u : Vec F S8x2816 .f32) : Vec F S8x2816 .f32 :=
  tapsUpTo (numAt t) (lastAt t) (tileAt m c t) 22 (from11 (grid0.coords t) u)
def biasStep (c : Dev nD) (t : Fin cfg0.N) (u : Vec F S1x2816 .f32) : Vec F S1x2816 .f32 :=
  biasUpTo (numAt t) (lastAt t) (tileAt m c t) 22 (from12 (grid0.coords t) u)

def tapsAt (c : Dev nD) : ℕ → Vec F S8x2816 .f32
  | 0 => tapsStep m c (pt 0) k0_pay1
  | n + 1 => tapsStep m c (pt (n + 1)) (tapsAt c n)
def biasAt (c : Dev nD) : ℕ → Vec F S1x2816 .f32
  | 0 => biasStep m c (pt 0) k0_pay2
  | n + 1 => biasStep m c (pt (n + 1)) (biasAt c n)

theorem tapsAt_first (c : Dev nD) (t : Fin cfg0.N) (h : t.val % 32 = 0) (u) : tapsStep m c t u = tapsAt m c t.val := by
  have hN : t.val < 32 := lt_of_lt_of_eq t.isLt (show cfg0.N = 32 from N_0)
  have e : t = pt 0 := Fin.ext (by show t.val = 0 % 32; omega)
  have hv : t.val = 0 := by omega
  rw [hv, e]; unfold tapsAt tapsStep from11
  have hc : cond0_0 (grid0.coords (pt 0)) := (hcond0_0 _).mpr rfl
  rw [if_pos hc, if_pos hc]
theorem biasAt_first (c : Dev nD) (t : Fin cfg0.N) (h : t.val % 32 = 0) (u) : biasStep m c t u = biasAt m c t.val := by
  have hN : t.val < 32 := lt_of_lt_of_eq t.isLt (show cfg0.N = 32 from N_0)
  have e : t = pt 0 := Fin.ext (by show t.val = 0 % 32; omega)
  have hv : t.val = 0 := by omega
  rw [hv, e]; unfold biasAt biasStep from12
  have hc : cond0_0 (grid0.coords (pt 0)) := (hcond0_0 _).mpr rfl
  rw [if_pos hc, if_pos hc]
theorem tapsAt_next (c : Dev nD) (t : Fin cfg0.N) (h : ¬ t.val % 32 = 0) : tapsStep m c t (tapsAt m c (t.val - 1)) = tapsAt m c t.val := by
  obtain ⟨n, hn⟩ := Nat.exists_eq_succ_of_ne_zero (show t.val ≠ 0 from fun e => h (by rw [e]))
  have e : t = pt (n + 1) := by rw [← pt_val t, hn]
  rw [hn, Nat.succ_sub_one]
  show _ = tapsStep m c (pt (n + 1)) (tapsAt m c n)
  rw [← e]
theorem biasAt_next (c : Dev nD) (t : Fin cfg0.N) (h : ¬ t.val % 32 = 0) : biasStep m c t (biasAt m c (t.val - 1)) = biasAt m c t.val := by
  obtain ⟨n, hn⟩ := Nat.exists_eq_succ_of_ne_zero (show t.val ≠ 0 from fun e => h (by rw [e]))
  have e : t = pt (n + 1) := by rw [← pt_val t, hn]
  rw [hn, Nat.succ_sub_one]
  show _ = biasStep m c (pt (n + 1)) (biasAt m c n)
  rw [← e]

/-! ## The proof data -/

def dats (_ : Fin 1) (c : Dev nD) : Dat τ (Elt F) Unit ℕ (UR sig nD τ) ℕ cfg0 c where
  A w := V m c (Pipeline.arrRef spec0 w)
  after w t := match w with
    | ⟨9, _⟩ => upAt m c t
    | ⟨10, _⟩ => tapsAt m c t.val
    | ⟨11, _⟩ => biasAt m c t.val
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨_ + 12, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t := before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t := before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t := before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t := before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t := before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t := before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t := before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t := before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t := before0_8_of m (dats m 0 c) (A_eq m c 8) (after0_8 m c) t d
theorem after0_9 (c : Dev nD) (t : Fin cfg0.N) : (dats m 0 c).after 9 t = upAt m c t := by dsimp only [dats]
theorem after0_10 (c : Dev nD) (t : Fin cfg0.N) : (dats m 0 c).after 10 t = tapsAt m c t.val := by dsimp only [dats]
theorem after0_11 (c : Dev nD) (t : Fin cfg0.N) : (dats m 0 c).after 11 t = biasAt m c t.val := by dsimp only [dats]

/-- Past the first point a gradient's buffer holds what the point before left in it. -/
theorem before0_10 (c : Dev nD) (t : Fin cfg0.N) (h : ¬ t.val % 32 = 0) (d) : (dats m 0 c).before 10 t d = tapsAt m c (t.val - 1) := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl), after0_10]
theorem before0_11 (c : Dev nD) (t : Fin cfg0.N) (h : ¬ t.val % 32 = 0) (d) : (dats m 0 c).before 11 t d = biasAt m c (t.val - 1) := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl), after0_11]

theorem tapsAt_of (c : Dev nD) (t : Fin cfg0.N) (d) : tapsStep m c t ((dats m 0 c).before 10 t d) = tapsAt m c t.val := by
  by_cases h : t.val % 32 = 0
  · exact tapsAt_first m c t h _
  · rw [before0_10 m c t h]; exact tapsAt_next m c t h
theorem biasAt_of (c : Dev nD) (t : Fin cfg0.N) (d) : biasStep m c t ((dats m 0 c).before 11 t d) = biasAt m c t.val := by
  by_cases h : t.val % 32 = 0
  · exact biasAt_first m c t h _
  · rw [before0_11 m c t h]; exact biasAt_next m c t h

set_option maxHeartbeats 1000000 in
/-- The body at point `t`. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t)
        ∗ owns (c : Thread nD τ) (ms0_7 t) fullShare ((dats m 0 c).after 7 t)
        ∗ owns (c : Thread nD τ) (ms0_8 t) fullShare ((dats m 0 c).after 8 t)
        ∗ owns (c : Thread nD τ) (ms0_9 t) fullShare ((dats m 0 c).after 9 t)
        ∗ owns (c : Thread nD τ) (ms0_10 t) fullShare ((dats m 0 c).after 10 t)
        ∗ owns (c : Thread nD τ) (ms0_11 t) fullShare ((dats m 0 c).after 11 t))) := by
  unfold bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [← tapsAt_of m c t d10, ← biasAt_of m c t d11]
  iapply (kernelRun c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) (iblk m c 0 t) (iblk m c 1 t) (iblk m c 2 t) (iblk m c 3 t) (iblk m c 4 t) (iblk m c 5 t) (iblk m c 6 t) (iblk m c 7 t) (iblk m c 8 t) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The launch -/

set_option backward.isDefEq.respectTransparency.types false in
set_option maxHeartbeats 800000 in
/-- Every run ends, with the arrays as the points leave them and no counter up. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KFfnIdeal.Ffn
-- ==== Proof.Ffn.Words.lean ====
/- The run of the gated convolution's gradient on words: the printed program is the ideal one read on words, so it runs as that does. -/
module

public import proofs.«01_k».proof.Defs
public import proofs.«01_k».proof.Proof.Ffn.Frame
public import proofs.«01_k».proof.Proof.Gen.KFfn

@[expose] public section

set_option maxRecDepth 65536
set_option maxHeartbeats 2000000

open Idealize.ShloMosaic Idealize.SL.Sem

/-- On words the gated convolution's gradient ends with its arguments unchanged and no counter up. -/
theorem frame_ffn : Cert.quiescent_KFfn := fun m ρ _ => by
  have hd : Cert.KFfn.defs (F := Bits) = Cert.KFfnIdeal.defs := by sl_kernel_rfl
  have hm : Cert.KFfn.main (F := Bits) = Cert.KFfnIdeal.main := by sl_kernel_rfl
  rw [hd, hm]
  exact (θ_run Cert.KFfnIdeal.defs _ _).mono (fun _ h => h) (Cert.KFfnIdeal.Ffn.frame (F := Bits) m ρ)
-- ==== Proof.Ffn.Math.lean ====
/- The gradient of the gated convolution on one column, as functions of extended reals: what both programs compute. -/
module

public import Idealize.ShloMosaic.PureOps.Ideal
public import Idealize.ShloMosaic.Lib.Pointwise

@[expose] public section

set_option backward.proofsInPublic true

noncomputable section

namespace Cert.Ffn

open Idealize.ShloMosaic

/-- A column with sixteen zeros before its first row and zeros after its last. -/
def past (A : Fin 8192 → EReal) (n : ℕ) : EReal := if h : 16 ≤ n ∧ n < 8208 then A ⟨n - 16, by omega⟩ else 0

theorem past_row (A : Fin 8192 → EReal) (n : ℕ) (r : Fin 8192) (h : n = r.val + 16) : past A n = A r := by
  subst h
  rw [past, dif_pos ⟨by omega, by have := r.isLt; omega⟩]
  exact congrArg A (Fin.ext (Nat.add_sub_cancel _ _))
theorem past_before (A : Fin 8192 → EReal) (n : ℕ) (h : n < 16) : past A n = 0 := dif_neg fun c => absurd c.1 (by omega)

/-- A column of the inputs: the gate half, the cotangent, the value half, the three taps and the bias. -/
structure Column where
  A : Fin 8192 → EReal
  D : Fin 8192 → EReal
  V : Fin 8192 → EReal
  w0 : EReal
  w1 : EReal
  w2 : EReal
  b : EReal

namespace Column
variable (C : Column)

/-- The gate's convolution at row `r`. -/
def lin (r : ℕ) : EReal := C.b + C.w0 * past C.A (r + 14) + C.w1 * past C.A (r + 15) + C.w2 * past C.A (r + 16)

/-- The gate function's derivative, as the kernel writes it. -/
def slope (c : EReal) : EReal := Ideal.logistic c + c * Ideal.logistic c * (1 - Ideal.logistic c)

/-- The cotangent of the convolution at row `r`, zero after the last. -/
def cot (r : ℕ) : EReal := if h : r < 8192 then C.D ⟨r, h⟩ * C.V ⟨r, h⟩ * slope (C.lin r) else 0

theorem cot_row (r : ℕ) (h : r < 8192) : C.cot r = C.D ⟨r, h⟩ * C.V ⟨r, h⟩ * slope (C.lin r) := dif_pos h
theorem cot_after (r : ℕ) (h : ¬ r < 8192) : C.cot r = 0 := dif_neg h

/-- The gradient of the gate half and of the value half at row `r`. -/
def gateOf (r : ℕ) : EReal := C.w2 * C.cot r + C.w1 * C.cot (r + 1) + C.w0 * C.cot (r + 2)
def valueOf (r : Fin 8192) : EReal := C.D r * (C.lin r * Ideal.logistic (C.lin r))

/-- What row `r` adds to the gradient of tap `k`. -/
def tapOf (k : ℕ) (r : ℕ) : EReal := past C.A (r + (14 + k)) * C.cot r
end Column

/-- The cotangent of a whole column, and each tap's. -/
def Column.sumCot (C : Column) : EReal := ∑ r : Fin 8192, C.cot r.val
def Column.sumTap (C : Column) (k : ℕ) : EReal := ∑ r : Fin 8192, C.tapOf k r.val

/-- Column `x` of the arrays. -/
def column (up : (⟨2, ![8192, 5632]⟩ : Shape).Idx → EReal) (w : (⟨2, ![3, 2816]⟩ : Shape).Idx → EReal) (b : (⟨1, ![2816]⟩ : Shape).Idx → EReal)
    (da : (⟨2, ![8192, 2816]⟩ : Shape).Idx → EReal) (x : Fin 2816) : Column where
  A r := up (ix2 r (⟨x.val, by omega⟩ : Fin 5632))
  D r := da (ix2 r x)
  V r := up (ix2 r (⟨2816 + x.val, by omega⟩ : Fin 5632))
  w0 := w (ix2 0 x)
  w1 := w (ix2 1 x)
  w2 := w (ix2 2 x)
  b := b (ix1 x)

/-- With a finite factor `d`, the kernel's product with the derivative is the sum that the chain rule writes. -/
theorem slope_mul (d : ℝ) (c : EReal) :
    (d : EReal) * Column.slope c = (d : EReal) * Ideal.logistic c + c * (d : EReal) * (Ideal.logistic c * (1 - Ideal.logistic c)) := by
  unfold Column.slope
  induction c using EReal.rec with
  | bot =>
    have h : Ideal.logistic ⊥ = 0 := Ideal.logistic_bot
    rw [h]; simp
  | top =>
    have h : Ideal.logistic ⊤ = 1 := Ideal.logistic_top
    have h1 : (1 : EReal) - 1 = 0 := by
      rw [← EReal.coe_one, ← EReal.coe_sub, sub_self, EReal.coe_zero]
    rw [h, h1]; simp
  | coe c =>
    obtain ⟨s, hs⟩ : ∃ s : ℝ, Ideal.logistic (c : EReal) = (s : EReal) := ⟨_, Ideal.logistic_coe c⟩
    rw [hs]
    have h1 : (1 : EReal) = ((1 : ℝ) : EReal) := rfl
    rw [h1]
    simp only [← EReal.coe_sub, ← EReal.coe_mul, ← EReal.coe_add]
    exact congrArg Real.toEReal (by ring)

end Cert.Ffn
-- ==== Proof.Ffn.Ref.lean ====
/- The derivative of the gated convolution's forward lines, read at an index. -/
module

public import proofs.«01_k».proof.Proof.Ffn.Math
public import proofs.«01_k».proof.Proof.Gen.RFfnIdeal.Read
public import Idealize.ShloMosaic.Lib.Pointwise
public import Idealize.ShloMosaic.Lib.Pipeline.ValueKit

@[expose] public section

set_option maxRecDepth 16384
set_option backward.proofsInPublic true

noncomputable section

namespace Cert.RFfnIdeal.Ffn

open Cert.RFfnIdeal Cert.RFfnIdeal.Gen Cert.RFfnIdeal.Read Cert.Ffn
open Idealize.ShloMosaic

variable (x0 : Vec Ideal S8192x5632 .bf16) (x1 : Vec Ideal S3x2816 .f32) (x2 : Vec Ideal S2816 .f32) (x3 : Vec Ideal S8192x2816 .bf16)

theorem past_at (n : Fin 8194) (l : Fin 2816) : val_main_v4 (F := Ideal) x0 (ix2 n l) = past (column x0 x1 x2 x3 l).A (n.val + 14) := by
  pointwise [val_main_v4, val_main_v3, val_main_v1, val_main_v0, val_main_cst]
  by_cases h : n.val < 2
  · rw [dif_pos h, past_before _ _ (by omega)]
  · rw [dif_neg h, past_row _ _ ⟨n.val - 2, by omega⟩ (by dsimp only; omega)]; rfl

theorem lin_at (r : Fin 8192) (l : Fin 2816) : val_main_v28 (F := Ideal) x0 x1 x2 (ix2 r l) = (column x0 x1 x2 x3 l).lin r.val := by
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8, val_main_v7, val_main_v6]
  rw [past_at x0 x1 x2 x3, past_at x0 x1 x2 x3, past_at x0 x1 x2 x3]
  unfold Column.lin
  rw [show r.val + 15 = 1 + r.val + 14 by omega, show r.val + 16 = 2 + r.val + 14 by omega]
  show past _ _ * x1 (ix2 0 l) + past _ _ * x1 (ix2 1 l) + past _ _ * x1 (ix2 2 l) + x2 (ix1 l)
    = x2 (ix1 l) + x1 (ix2 0 l) * past _ _ + x1 (ix2 1 l) * past _ _ + x1 (ix2 2 l) * past _ _
  rw [mul_comm (x1 (ix2 0 l) : EReal), mul_comm (x1 (ix2 1 l) : EReal), mul_comm (x1 (ix2 2 l) : EReal), add_comm, ← add_assoc, ← add_assoc]

theorem logistic_at (r : Fin 8192) (l : Fin 2816) : val_main_v29_2 (F := Ideal) x0 x1 x2 (ix2 r l) = Ideal.logistic ((column x0 x1 x2 x3 l).lin r.val) := by
  pointwise [val_main_v29_2, val_main_call0_v4, val_main_call0_v3, val_main_call0_v2, val_main_call0_v1, val_main_call0_v0, val_main_call0_cst, val_main_call0_cst_0]
  rw [lin_at x0 x1 x2 x3]; rfl

theorem value_at (r : Fin 8192) (l : Fin 2816) : val_main_v32 (F := Ideal) x0 x1 x2 x3 (ix2 r l) = (column x0 x1 x2 x3 l).valueOf r := by
  pointwise [val_main_v32, val_main_v29_0, val_main_v31]
  rw [lin_at x0 x1 x2 x3, logistic_at x0 x1 x2 x3]; exact mul_comm _ _

section
variable {x0 x1 x2 x3} (hf : ∀ (r : Fin 8192) (l : Fin 2816), ∃ d : ℝ, (x3 (ix2 r l) : EReal) * x0 (ix2 r (⟨2816 + l.val, by omega⟩ : Fin 5632)) = (d : EReal))
include hf

theorem cot_at (r : Fin 8192) (l : Fin 2816) : val_main_v34 (F := Ideal) x0 x1 x2 x3 (ix2 r l) = (column x0 x1 x2 x3 l).cot r.val := by
  pointwise [val_main_v34, val_main_call1_v1, val_main_call1_v2, val_main_call1_v0, val_main_v33, val_main_v31, val_main_v2, val_main_v0,
    val_main_v29_1, val_main_call0_v7, val_main_call0_v6, val_main_call0_cst_1]
  rw [lin_at x0 x1 x2 x3, logistic_at x0 x1 x2 x3, Column.cot_row _ _ r.isLt]
  obtain ⟨d, hd⟩ := hf r l
  show (x3 (ix2 r l) : EReal) * _ * _ + _ * ((x3 (ix2 r l) : EReal) * _) * _ = (x3 (ix2 r l) : EReal) * x0 (ix2 r (⟨2816 + l.val, by omega⟩ : Fin 5632)) * _
  rw [hd]
  exact (slope_mul d _).symm

theorem bias_at (l : Fin 2816) : val_main_v37 (F := Ideal) x0 x1 x2 x3 (ix1 l) = (column x0 x1 x2 x3 l).sumCot := by
  pointwise [val_main_v37, val_main_v36, val_main_v35, val_main_cst_1, val_main_cst_2]
  unfold Column.sumCot
  rw [Fin.sum_univ_one]
  refine Fin.sum_fin_congr fun r => ?_
  exact cot_at hf r l
theorem tap2_at (l : Fin 2816) : val_main_v43 (F := Ideal) x0 x1 x2 x3 (ix1 l) = (column x0 x1 x2 x3 l).sumTap 2 := by
  pointwise [val_main_v43, val_main_v40, val_main_v39, val_main_v38, val_main_cst_3, val_main_cst_4, val_main_v19]
  unfold Column.sumTap
  rw [Fin.sum_univ_one]
  refine Fin.sum_fin_congr fun r => ?_
  rw [cot_at hf, past_at x0 x1 x2 x3, Column.tapOf, show r.val + (14 + 2) = 2 + r.val + 14 by omega]
theorem tap1_at (l : Fin 2816) : val_main_v52 (F := Ideal) x0 x1 x2 x3 (ix1 l) = (column x0 x1 x2 x3 l).sumTap 1 := by
  pointwise [val_main_v52, val_main_v49, val_main_v48, val_main_v47, val_main_cst_7, val_main_cst_8, val_main_v12]
  unfold Column.sumTap
  rw [Fin.sum_univ_one]
  refine Fin.sum_fin_congr fun r => ?_
  rw [cot_at hf, past_at x0 x1 x2 x3, Column.tapOf, show r.val + (14 + 1) = 1 + r.val + 14 by omega]
theorem tap0_at (l : Fin 2816) : val_main_v63 (F := Ideal) x0 x1 x2 x3 (ix1 l) = (column x0 x1 x2 x3 l).sumTap 0 := by
  pointwise [val_main_v63, val_main_v60, val_main_v59, val_main_v58, val_main_cst_11, val_main_cst_12, val_main_v6]
  unfold Column.sumTap
  rw [Fin.sum_univ_one]
  refine Fin.sum_fin_congr fun r => ?_
  rw [cot_at hf, past_at x0 x1 x2 x3, Column.tapOf]

theorem taps_at (k : Fin 3) (l : Fin 2816) : val_main_v66 (F := Ideal) x0 x1 x2 x3 (ix2 k l) = (column x0 x1 x2 x3 l).sumTap k.val := by
  pointwise [val_main_v66, val_main_v55, val_main_v45, val_main_v44, val_main_v65, val_main_v64, val_main_v54, val_main_v53]
  pointwise [val_main_cst_5, val_main_cst_9, val_main_cst_13]
  rw [tap0_at hf, tap1_at hf, tap2_at hf]
  match k with
  | 0 => simp
  | 1 => simp
  | 2 => simp

theorem gate_at (r : Fin 8192) (l : Fin 2816) : val_main_v70 (F := Ideal) x0 x1 x2 x3 (ix2 r l) = (column x0 x1 x2 x3 l).gateOf r.val := by
  pointwise [val_main_v70, val_main_v68, val_main_v57, val_main_v67, val_main_v56, val_main_v46]
  pointwise [val_main_cst_6, val_main_cst_10, val_main_cst_14, val_main_v42, val_main_v41, val_main_v51, val_main_v50, val_main_v62, val_main_v61,
    val_main_v22, val_main_v21, val_main_v20, val_main_v15, val_main_v14, val_main_v13, val_main_v9, val_main_v8, val_main_v7]
  have later : ∀ n (h : n < 8192), val_main_v34 (F := Ideal) x0 x1 x2 x3 (ix2 ⟨n, h⟩ l) = (column x0 x1 x2 x3 l).cot n := fun n h => cot_at hf ⟨n, h⟩ l
  unfold Column.gateOf
  rw [cot_at hf]
  congr 1
  · congr 1
    · exact mul_comm _ _
    · by_cases h : r.val + 1 < 8192
      · rw [dif_pos ⟨by omega, by omega⟩, later, show 2 + r.val - 1 = r.val + 1 by omega]; exact mul_comm _ _
      · rw [dif_neg (by omega), Column.cot_after _ _ (by omega), mul_zero]
  · by_cases h : r.val + 2 < 8192
    · rw [dif_pos (by omega), later, show 2 + r.val = r.val + 2 by omega]; exact mul_comm _ _
    · rw [dif_neg (by omega), Column.cot_after _ _ (by omega), mul_zero]

/-- The gradient of the first operand: the gate's half, then the value's half. -/
theorem up_at (r : Fin 8192) (z : Fin 5632) : val_main_v72 (F := Ideal) x0 x1 x2 x3 (ix2 r z)
    = if h : z.val < 2816 then (column x0 x1 x2 x3 ⟨z.val, h⟩).gateOf r.val else (column x0 x1 x2 x3 ⟨z.val - 2816, by omega⟩).valueOf r := by
  by_cases h : z.val < 2816
  · rw [dif_pos h, ← gate_at hf]
    pointwise [val_main_v72, val_main_v71]
    exact dif_pos h
  · rw [dif_neg h, ← value_at]
    pointwise [val_main_v72, val_main_v71]
    exact dif_neg h
end

end Cert.RFfnIdeal.Ffn
-- ==== Proof.Ffn.Point.lean ====
/- One strip of the gated convolution's gradient over the extended reals: each column of it, from the rows that the point reads. -/
module

public import proofs.«01_k».proof.Proof.Ffn.Strip
public import proofs.«01_k».proof.Proof.Ffn.Math
public import Idealize.ShloMosaic.Lib.WordCmp
public import Idealize.ShloMosaic.Lib.Pipeline.ValueKit

@[expose] public section

set_option maxRecDepth 16384
set_option backward.proofsInPublic true

noncomputable section

namespace Cert.KFfnIdeal.Ffn

open Cert.KFfnIdeal Cert.KFfnIdeal.Gen Cert.Ffn
open Idealize.ShloMosaic Idealize.ShloMosaic.TcCoe Idealize.ShloMosaic.WordCmp

/-- Point `t`'s tile holds, in column `x`, the rows of the column `C`. -/
structure Reads (T : Tile Ideal) (t : ℕ) (x : Fin 2816) (C : Column) : Prop where
  ht : t < 32
  g : ∀ r : Fin 256, T.g (ix2 r x) = C.A ⟨256 * t + r.val, by omega⟩
  p : ∀ h : 0 < t, ∀ r : Fin 16, T.p (ix2 r x) = C.A ⟨256 * t - 16 + r.val, by omega⟩
  n : ∀ h : t < 31, ∀ r : Fin 16, T.n (ix2 r x) = C.A ⟨256 * t + 256 + r.val, by omega⟩
  v : ∀ r : Fin 256, T.v (ix2 r x) = C.V ⟨256 * t + r.val, by omega⟩
  vn : ∀ h : t < 31, ∀ r : Fin 16, T.vn (ix2 r x) = C.V ⟨256 * t + 256 + r.val, by omega⟩
  d : ∀ r : Fin 256, T.d (ix2 r x) = C.D ⟨256 * t + r.val, by omega⟩
  dn : ∀ h : t < 31, ∀ r : Fin 16, T.dn (ix2 r x) = C.D ⟨256 * t + 256 + r.val, by omega⟩
  w0 : T.w (ix2 0 x) = C.w0
  w1 : T.w (ix2 1 x) = C.w1
  w2 : T.w (ix2 2 x) = C.w2
  b : T.b (ix2 0 x) = C.b

theorem bit_zero : ∀ {b : BitVec 1}, b ≠ 1#1 → b = 0#1 := by decide

theorem cut_at {R : ℕ} {e : EltTy} (x : (⟨2, ![R, 2816]⟩ : Shape).Idx → Elt Ideal e) (k : Fin 22) (r : Fin R) (l : Fin 128) :
    cut x k (ix2 r l) = x (ix2 r (col k l)) := rfl
theorem rowOf_at {R : ℕ} {e : EltTy} (x : (⟨2, ![R, 2816]⟩ : Shape).Idx → Elt Ideal e) (r : Fin R) (k : Fin 22) (l : Fin 128) :
    rowOf x r k (ix2 (0 : Fin 1) l) = x (ix2 r (col k l)) := rfl

section
variable {T : Tile Ideal} {t : ℕ} {k : Fin 22} {l : Fin 128} {C : Column} (H : Reads T t (col k l) C)
include H

theorem first_iff : Scalar.cmpi .eq (BitVec.ofNat 32 t) (0#32) = 1#1 ↔ t = 0 := by
  have := H.ht
  word_cmp
theorem last_iff : Scalar.cmpi .eq (BitVec.ofNat 32 t) (31#32) = 1#1 ↔ t = 31 := by
  have := H.ht
  word_cmp

theorem past_at (n : Fin 288) (h : n.val < 272 ∨ t < 31) :
    k0_pay7 (F := Ideal) (BitVec.ofNat 32 t) (cut T.p k) (cut T.g k) (cut T.n k) (ix2 n l) = past C.A (256 * t + n.val) := by
  have ht := H.ht
  pointwise [k0_pay7]
  by_cases h16 : n.val < 16
  · rw [dif_pos h16]
    by_cases h0 : t = 0
    · rw [(first_iff H).mpr h0, past_before _ _ (by omega)]; rfl
    · rw [bit_zero fun c => h0 ((first_iff H).mp c)]
      exact (H.p (by omega) ⟨n.val, h16⟩).trans (past_row _ _ _ (by dsimp only; omega)).symm
  · rw [dif_neg h16]
    by_cases h256 : n.val - 16 < 256
    · rw [dif_pos h256]
      exact (H.g ⟨n.val - 16, h256⟩).trans (past_row _ _ _ (by dsimp only; omega)).symm
    · rw [dif_neg h256]
      exact (H.n (by omega) ⟨n.val - 16 - 256, by omega⟩).trans (past_row _ _ _ (by dsimp only; omega)).symm

theorem conv_at (j : Fin 272) (h : j.val < 256 ∨ t < 31) : conv (BitVec.ofNat 32 t) T k (ix2 j l) = C.lin (256 * t + j.val) := by
  have ht := H.ht
  unfold conv
  pointwise [k0_pay13, k0_pay10, k0_pay11, k0_pay12, k0_pay8, k0_pay9]
  rw [past_at H _ (by dsimp only; omega), past_at H _ (by dsimp only; omega), past_at H _ (by dsimp only; omega),
    rowOf_at, rowOf_at, rowOf_at, rowOf_at, H.w0, H.w1, H.w2, H.b]
  unfold Column.lin
  rw [show 256 * t + (16 + j.val + 288 - 2) % 288 = 256 * t + j.val + 14 by omega, show 256 * t + (16 + j.val + 288 - 1) % 288 = 256 * t + j.val + 15 by omega,
    show 256 * t + (16 + j.val) = 256 * t + j.val + 16 by omega]

theorem da_at (j : Fin 272) (h : j.val < 256 ∨ t < 31) :
    k0_pay15 (F := Ideal) (k0_pay14 (cut T.d k)) (cut T.dn k) (ix2 j l) = C.D ⟨256 * t + j.val, by have := H.ht; omega⟩ := by
  have ht := H.ht
  pointwise [k0_pay15, k0_pay14]
  by_cases h256 : j.val < 256
  · rw [dif_pos h256]; exact H.d _
  · rw [dif_neg h256]
    refine (H.dn (by omega) ⟨j.val - 256, by omega⟩).trans (congrArg C.D (Fin.ext ?_))
    dsimp only; omega

theorem silu_at (c : FVec Ideal S272x128 .f32) (j : Fin 272) :
    k0_pay17 (F := Ideal) c (ix2 j l) = c (ix2 j l) * Ideal.logistic (c (ix2 j l)) := by
  pointwise [k0_pay17, k0_pay16]

theorem value_at (j : Fin 256) : value (BitVec.ofNat 32 t) T k (ix2 j l) = C.valueOf ⟨256 * t + j.val, by have := H.ht; omega⟩ := by
  unfold value
  pointwise [k0_pay18]
  rw [da_at H _ (.inl j.isLt), silu_at H, conv_at H _ (.inl j.isLt)]
  rfl

theorem val_at (j : Fin 272) (h : j.val < 256 ∨ t < 31) :
    (if h : j.val < 256 then T.v (ix2 (⟨j.val, h⟩ : Fin 256) (col k l)) else T.vn (ix2 (⟨j.val - 256, by omega⟩ : Fin 16) (col k l)))
      = C.V ⟨256 * t + j.val, by have := H.ht; omega⟩ := by
  have ht := H.ht
  by_cases h256 : j.val < 256
  · rw [dif_pos h256]; exact H.v _
  · rw [dif_neg h256]
    refine (H.vn (by omega) ⟨j.val - 256, by omega⟩).trans (congrArg C.V (Fin.ext ?_))
    dsimp only; omega

set_option maxHeartbeats 1000000 in
theorem cot_at (j : Fin 272) :
    k0_pay19 (F := Ideal) (Scalar.cmpi .eq (BitVec.ofNat 32 t) (31#32)) (conv (BitVec.ofNat 32 t) T k) (k0_pay14 (cut T.d k)) (cut T.dn k)
      (cut T.v k) (cut T.vn k) (ix2 j l) = C.cot (256 * t + j.val) := by
  have ht := H.ht
  pointwise [k0_pay19, k0_pay16]
  by_cases h256 : j.val < 256
  · rw [dif_pos h256, dif_pos h256, silu_at H, conv_at H j (.inl h256), da_at H j (.inl h256), cut_at, H.v]
    exact (C.cot_row _ _).symm
  · rw [dif_neg h256]
    by_cases hl : t = 31
    · rw [(last_iff H).mpr hl]
      exact (C.cot_after _ (by omega)).symm
    · rw [bit_zero fun c => hl ((last_iff H).mp c)]
      have e : ∀ h, (⟨256 + (j.val - 256), h⟩ : Fin 272) = j := fun _ => Fin.ext (by dsimp only; omega)
      have h : j.val < 256 ∨ t < 31 := .inr (by omega)
      have hv := val_at H j h
      rw [dif_neg h256] at hv
      have step : ∀ (n : Fin 272) (hn : n = j) (v : EReal), v = C.V ⟨256 * t + j.val, by omega⟩ →
          k0_pay15 (F := Ideal) (k0_pay14 (cut T.d k)) (cut T.dn k) (ix2 n l) * v * (Ideal.logistic (conv (BitVec.ofNat 32 t) T k (ix2 n l))
            + k0_pay17 (F := Ideal) (conv (BitVec.ofNat 32 t) T k) (ix2 n l) * (1 - Ideal.logistic (conv (BitVec.ofNat 32 t) T k (ix2 n l))))
          = C.cot (256 * t + j.val) := by
        intro n hn v hv
        subst hn
        rw [silu_at H, conv_at H n h, da_at H n h, hv]
        exact (C.cot_row _ _).symm
      exact step _ (e (by omega)) _ hv

theorem gate_at (j : Fin 256) : gate (BitVec.ofNat 32 t) (Scalar.cmpi .eq (BitVec.ofNat 32 t) (31#32)) T k (ix2 j l) = C.gateOf (256 * t + j.val) := by
  unfold gate
  pointwise [k0_pay20, k0_pay10, k0_pay11, k0_pay12]
  rw [cot_at H, cot_at H, cot_at H, rowOf_at, rowOf_at, rowOf_at, H.w0, H.w1, H.w2]
  unfold Column.gateOf
  rw [show 256 * t + (j.val + 272 - 271) % 272 = 256 * t + j.val + 1 by omega, show 256 * t + (j.val + 272 - 270) % 272 = 256 * t + j.val + 2 by omega]

theorem ct_at (j : Fin 256) : ct (BitVec.ofNat 32 t) (Scalar.cmpi .eq (BitVec.ofNat 32 t) (31#32)) T k (ix2 j l) = C.cot (256 * t + j.val) := by
  unfold ct
  pointwise [k0_pay21]
  exact cot_at H _

theorem tap0_at (u) : tap0 (BitVec.ofNat 32 t) (Scalar.cmpi .eq (BitVec.ofNat 32 t) (31#32)) T k u (ix2 (0 : Fin 1) l)
    = u (ix2 (0 : Fin 1) l) + ∑ j : Fin 256, C.tapOf 0 (256 * t + j.val) := by
  unfold tap0
  pointwise [k0_pay3]
  refine congrArg (u (ix2 (0 : Fin 1) l) + ·) (Fin.sum_fin_congr fun j => ?_)
  rw [ct_at H]
  pointwise [k0_pay9]
  rw [past_at H _ (by dsimp only; omega), Column.tapOf, show 256 * t + (16 + j.val + 288 - 2) % 288 = 256 * t + j.val + (14 + 0) by omega]
theorem tap1_at (u) : tap1 (BitVec.ofNat 32 t) (Scalar.cmpi .eq (BitVec.ofNat 32 t) (31#32)) T k u (ix2 (0 : Fin 1) l)
    = u (ix2 (0 : Fin 1) l) + ∑ j : Fin 256, C.tapOf 1 (256 * t + j.val) := by
  unfold tap1
  pointwise [k0_pay4]
  refine congrArg (u (ix2 (0 : Fin 1) l) + ·) (Fin.sum_fin_congr fun j => ?_)
  rw [ct_at H]
  pointwise [k0_pay8]
  rw [past_at H _ (by dsimp only; omega), Column.tapOf, show 256 * t + (16 + j.val + 288 - 1) % 288 = 256 * t + j.val + (14 + 1) by omega]
theorem tap2_at (u) : tap2 (BitVec.ofNat 32 t) (Scalar.cmpi .eq (BitVec.ofNat 32 t) (31#32)) T k u (ix2 (0 : Fin 1) l)
    = u (ix2 (0 : Fin 1) l) + ∑ j : Fin 256, C.tapOf 2 (256 * t + j.val) := by
  unfold tap2
  pointwise [k0_pay5]
  refine congrArg (u (ix2 (0 : Fin 1) l) + ·) (Fin.sum_fin_congr fun j => ?_)
  rw [ct_at H, past_at H _ (by dsimp only; omega), Column.tapOf, show 256 * t + (16 + j.val) = 256 * t + j.val + (14 + 2) by omega]
theorem bias_at (u) : biasOf (BitVec.ofNat 32 t) (Scalar.cmpi .eq (BitVec.ofNat 32 t) (31#32)) T k u (ix2 (0 : Fin 1) l)
    = u (ix2 (0 : Fin 1) l) + ∑ j : Fin 256, C.cot (256 * t + j.val) := by
  unfold biasOf
  pointwise [k0_pay6]
  exact congrArg (u (ix2 (0 : Fin 1) l) + ·) (Fin.sum_fin_congr fun j => ct_at H j)
end

end Cert.KFfnIdeal.Ffn
-- ==== Proof.Ffn.Value.lean ====
/- What the gated convolution's gradient leaves in its results, over the extended reals. -/
module

public import proofs.«01_k».proof.Proof.Ffn.Frame
public import proofs.«01_k».proof.Proof.Ffn.Point

@[expose] public section

set_option maxRecDepth 16384

noncomputable section

namespace Cert.KFfnIdeal.Ffn

open Cert.KFfnIdeal Cert.KFfnIdeal.Gen Cert.Ffn
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![16 * t.val - 1, 0] ∧ win0_2.index t = ![min (16 * (t.val + 1)) 511, 0]
    ∧ win0_3.index t = ![t.val, 1] ∧ win0_4.index t = ![min (16 * (t.val + 1)) 511, 1] ∧ win0_5.index t = ![t.val, 0]
    ∧ win0_6.index t = ![min (16 * (t.val + 1)) 511, 0] ∧ win0_7.index t = ![0, 0] ∧ win0_8.index t = ![0, 0]
    ∧ win0_9.index t = ![t.val, 0] ∧ win0_10.index t = ![0, 0] ∧ win0_11.index t = ![0, 0] :=
  (by decide +kernel : ∀ t : Fin grid0.N, _)

theorem coords_val : ∀ t : Fin cfg0.N, (grid0.coords t 0).val = t.val := (by decide +kernel : ∀ t : Fin grid0.N, _)

/-! ## What the region finds -/

theorem V_taps (c : Dev nD) : V m c main_v0 = pad S8x2816 ![0, 0] ![5, 0] ![0, 0] (m ((c : Thread nD τ).loc main_arg1) : S3x2816.Idx → Elt Ideal .f32) (sitofp .f32 (constantI S_ 32 0#32) : FVec Ideal S_ .f32) pads_S3x2816_S8x2816_050_000 h_S_ := by
  unfold V V0
  simp only [hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

theorem V_bias (c : Dev nD) : V m c main_v1 = broadcastInDim S1x2816 ![1] bcast_S2816_S1x2816_1 (m ((c : Thread nD τ).loc main_arg2)) := by
  unfold V V0
  simp only [hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

/-- Column `x` of the arguments. -/
abbrev colOf (c : Dev nD) (x : Fin 2816) : Column :=
  column (m ((c : Thread nD τ).loc main_arg0)) (m ((c : Thread nD τ).loc main_arg1)) (m ((c : Thread nD τ).loc main_arg2)) (m ((c : Thread nD τ).loc main_arg3)) x

theorem padded (w : FVec Ideal S3x2816 .f32) (z : FVec Ideal S_ .f32) (r : Fin 3) (x : Fin 2816) :
    pad S8x2816 ![0, 0] ![5, 0] ![0, 0] w z pads_S3x2816_S8x2816_050_000 h_S_ (ix2 (⟨r.val, by omega⟩ : Fin 8) x) = w (ix2 r x) := by
  pointwise []

theorem tap_row (c : Dev nD) (t : Fin cfg0.N) (x : Fin 2816) (r : Fin 3) :
    iblk m c 7 t (ix2 (⟨r.val, by omega⟩ : Fin 8) x) = m ((c : Thread nD τ).loc main_arg1) (ix2 r x) := by
  have h : iblk m c 7 t (ix2 (⟨r.val, by omega⟩ : Fin 8) x) = V m c main_v0 (ix2 (⟨r.val, by omega⟩ : Fin 8) x) := by blk_point [iblk, idx t]
  rw [h, V_taps]
  exact padded _ _ r x

theorem bias_row (c : Dev nD) (t : Fin cfg0.N) (x : Fin 2816) :
    iblk m c 8 t (ix2 (0 : Fin 1) x) = m ((c : Thread nD τ).loc main_arg2) (ix1 x) := by
  have h : iblk m c 8 t (ix2 (0 : Fin 1) x) = V m c main_v1 (ix2 (0 : Fin 1) x) := by blk_point [iblk, idx t]
  rw [h, V_bias]
  pointwise []

theorem reads (c : Dev nD) (t : Fin cfg0.N) (x : Fin 2816) : Reads (tileAt m c t) t.val x (colOf m c x) where
  ht := lt_of_lt_of_eq t.isLt N_0
  g r := by
    show iblk m c 0 t (ix2 r x) = m ((c : Thread nD τ).loc main_arg0) _
    blk_point [iblk, V_main_arg0 m c, idx t]
  p h r := by
    show iblk m c 1 t (ix2 r x) = m ((c : Thread nD τ).loc main_arg0) _
    blk_point [iblk, V_main_arg0 m c, idx t]
  n h r := by
    show iblk m c 2 t (ix2 r x) = m ((c : Thread nD τ).loc main_arg0) _
    blk_point [iblk, V_main_arg0 m c, idx t]
  v r := by
    show iblk m c 3 t (ix2 r x) = m ((c : Thread nD τ).loc main_arg0) _
    blk_point [iblk, V_main_arg0 m c, idx t]
  vn h r := by
    show iblk m c 4 t (ix2 r x) = m ((c : Thread nD τ).loc main_arg0) _
    blk_point [iblk, V_main_arg0 m c, idx t]
  d r := by
    show iblk m c 5 t (ix2 r x) = m ((c : Thread nD τ).loc main_arg3) _
    blk_point [iblk, V_main_arg3 m c, idx t]
  dn h r := by
    show iblk m c 6 t (ix2 r x) = m ((c : Thread nD τ).loc main_arg3) _
    blk_point [iblk, V_main_arg3 m c, idx t]
  w0 := tap_row m c t x 0
  w1 := tap_row m c t x 1
  w2 := tap_row m c t x 2
  b := bias_row m c t x

/-! ## What the points leave -/

theorem numAt_eq (t : Fin cfg0.N) : numAt t = BitVec.ofNat 32 t.val := by unfold numAt; rw [coords_val t]

theorem lt32 (t : Fin cfg0.N) : t.val < 32 := lt_of_lt_of_eq t.isLt N_0

theorem upOut_lo (a0 v0) (T : Tile Ideal) (r : Fin 256) (z : Fin 5632) (h : z.val < 2816) :
    upOut a0 v0 T (ix2 r z) = gate a0 v0 T (strip ⟨z.val, h⟩) (ix2 r (lane ⟨z.val, h⟩)) := dif_pos h
theorem upOut_hi (a0 v0) (T : Tile Ideal) (r : Fin 256) (z : Fin 5632) (h : ¬ z.val < 2816) :
    upOut a0 v0 T (ix2 r z) = value a0 T (strip ⟨z.val - 2816, by omega⟩) (ix2 r (lane ⟨z.val - 2816, by omega⟩)) := dif_neg h

/-- The gradient of both halves, row `r`, column `z`. -/
def upOf (c : Dev nD) (r : Fin 8192) (z : Fin 5632) : EReal :=
  if h : z.val < 2816 then (colOf m c ⟨z.val, h⟩).gateOf r.val else (colOf m c ⟨z.val - 2816, by omega⟩).valueOf r
theorem upOf_lo (c : Dev nD) (r : Fin 8192) (z : Fin 5632) (h : z.val < 2816) : upOf m c r z = (colOf m c ⟨z.val, h⟩).gateOf r.val := dif_pos h
theorem upOf_hi (c : Dev nD) (r : Fin 8192) (z : Fin 5632) (h : ¬ z.val < 2816) :
    upOf m c r z = (colOf m c ⟨z.val - 2816, by omega⟩).valueOf r := dif_neg h

/-- The array of it. -/
def upArr (c : Dev nD) : (⟨2, ![8192, 5632]⟩ : Shape).Idx → EReal := fun i => upOf m c (i 0) (i 1)

theorem upAt_eq (c : Dev nD) (t : Fin cfg0.N) (r : Fin 256) (z : Fin 5632) :
    upAt m c t (ix2 r z) = upOf m c ⟨256 * t.val + r.val, by have := lt32 t; omega⟩ z := by
  unfold upAt lastAt
  rw [numAt_eq]
  by_cases h : z.val < 2816
  · rw [upOut_lo _ _ _ _ _ h, upOf_lo _ _ _ _ h]
    exact gate_at (by rw [col_strip]; exact reads m c t _) r
  · rw [upOut_hi _ _ _ _ _ h, upOf_hi _ _ _ _ h]
    exact value_at (by rw [col_strip]; exact reads m c t _) r

theorem final_up (c : Dev nD) : (dats m 0 c).arrAt 9 cfg0.N = upArr m c := by
  refine (dats m 0 c).arrAt_eq_of_covers 9 _ (by decide +kernel) fun t _ y => ?_
  blk_simp
  rw [after0_9]
  have h0 : ((win0_9.blk t).view.emb y 0).val = 256 * t.val + (y 0).val := by blk_simp [idx t]; omega
  have h1 : ((win0_9.blk t).view.emb y 1).val = (y 1).val := by blk_simp [idx t]
  refine ((congrArg (upAt m c t) (eq_ix2 y)).trans (upAt_eq m c t (y 0) (y 1))).trans ?_
  exact congrArg₂ (upOf m c) (Fin.ext h0.symm) (Fin.ext h1.symm)

theorem zero_taps (y : S8x2816.Idx) : k0_pay1 (F := Ideal) y = 0 := by pointwise [k0_pay1]
theorem zero_bias (y : S1x2816.Idx) : k0_pay2 (F := Ideal) y = 0 := by pointwise [k0_pay2]

theorem tapsUpTo_at (a0 v0) (T : Tile Ideal) (u : Vec Ideal S8x2816 .f32) (x : Fin 2816) :
    tapsUpTo a0 v0 T 22 u (ix2 0 x) = tap0 a0 v0 T (strip x) (rowOf u 0 (strip x)) (ix2 (0 : Fin 1) (lane x))
    ∧ tapsUpTo a0 v0 T 22 u (ix2 1 x) = tap1 a0 v0 T (strip x) (rowOf u 1 (strip x)) (ix2 (0 : Fin 1) (lane x))
    ∧ tapsUpTo a0 v0 T 22 u (ix2 2 x) = tap2 a0 v0 T (strip x) (rowOf u 2 (strip x)) (ix2 (0 : Fin 1) (lane x)) :=
  have h : x.val / 128 < 22 := by omega
  ⟨(if_pos h).trans (if_pos rfl), (if_pos h).trans ((if_neg (show ¬ (1 : ℕ) = 0 by decide)).trans (if_pos rfl)),
    (if_pos h).trans ((if_neg (show ¬ (2 : ℕ) = 0 by decide)).trans ((if_neg (show ¬ (2 : ℕ) = 1 by decide)).trans (if_pos rfl)))⟩
theorem biasUpTo_at (a0 v0) (T : Tile Ideal) (u : Vec Ideal S1x2816 .f32) (x : Fin 2816) :
    biasUpTo a0 v0 T 22 u (ix2 0 x) = biasOf a0 v0 T (strip x) (rowOf u 0 (strip x)) (ix2 (0 : Fin 1) (lane x)) :=
  if_pos (show x.val / 128 < 22 by omega)

/-- What a point adds to a tap's gradient, and to the bias's. -/
theorem tapsStep_at (c : Dev nD) (t : Fin cfg0.N) (u : Vec Ideal S8x2816 .f32) (k : Fin 3) (x : Fin 2816) :
    tapsStep m c t u (ix2 (⟨k.val, by omega⟩ : Fin 8) x) = from11 (grid0.coords t) u (ix2 (⟨k.val, by omega⟩ : Fin 8) x)
      + ∑ j : Fin 256, (colOf m c x).tapOf k.val (256 * t.val + j.val) := by
  unfold tapsStep lastAt
  rw [numAt_eq]
  have H : Reads (tileAt m c t) t.val (col (strip x) (lane x)) (colOf m c x) := by rw [col_strip]; exact reads m c t x
  have e (w : Vec Ideal S8x2816 .f32) (r : Fin 8) : rowOf w r (strip x) (ix2 (0 : Fin 1) (lane x)) = w (ix2 r x) := by rw [rowOf_at, col_strip]
  match k with
  | 0 => exact (tapsUpTo_at _ _ _ _ x).1.trans ((tap0_at H _).trans (congrArg (· + _) (e _ 0)))
  | 1 => exact (tapsUpTo_at _ _ _ _ x).2.1.trans ((tap1_at H _).trans (congrArg (· + _) (e _ 1)))
  | 2 => exact (tapsUpTo_at _ _ _ _ x).2.2.trans ((tap2_at H _).trans (congrArg (· + _) (e _ 2)))
theorem biasStep_at (c : Dev nD) (t : Fin cfg0.N) (u : Vec Ideal S1x2816 .f32) (x : Fin 2816) :
    biasStep m c t u (ix2 0 x) = from12 (grid0.coords t) u (ix2 0 x) + ∑ j : Fin 256, (colOf m c x).cot (256 * t.val + j.val) := by
  unfold biasStep lastAt
  rw [numAt_eq]
  have H : Reads (tileAt m c t) t.val (col (strip x) (lane x)) (colOf m c x) := by rw [col_strip]; exact reads m c t x
  exact (biasUpTo_at _ _ _ _ x).trans ((bias_at H _).trans (congrArg (· + _) (by rw [rowOf_at, col_strip])))

theorem pt_of (n : ℕ) (h : n < 32) : (pt n).val = n := Nat.mod_eq_of_lt h

/-- The gradients after point `n`: the sum over the points so far. -/
theorem tapsAt_sum (c : Dev nD) (k : Fin 3) (x : Fin 2816) : ∀ n, n < 32 →
    tapsAt m c n (ix2 (⟨k.val, by omega⟩ : Fin 8) x) = ∑ s ∈ Finset.range (n + 1), ∑ j : Fin 256, (colOf m c x).tapOf k.val (256 * s + j.val)
  | 0, _ => by
    have hc : cond0_0 (grid0.coords (pt 0)) := (hcond0_0 _).mpr rfl
    refine (tapsStep_at m c (pt 0) _ k x).trans ?_
    unfold from11
    rw [if_pos hc, zero_taps, zero_add, Finset.sum_range_one]; rfl
  | n + 1, h => by
    have hc : ¬ cond0_0 (grid0.coords (pt (n + 1))) := fun e => by have := (hcond0_0 _).mp e; rw [pt_of _ h] at this; omega
    refine (tapsStep_at m c (pt (n + 1)) _ k x).trans ?_
    unfold from11
    rw [if_neg hc, tapsAt_sum c k x n (by omega), pt_of _ h, ← Finset.sum_range_succ (fun s => ∑ j : Fin 256, (colOf m c x).tapOf k.val (256 * s + j.val))]
theorem biasAt_sum (c : Dev nD) (x : Fin 2816) : ∀ n, n < 32 →
    biasAt m c n (ix2 0 x) = ∑ s ∈ Finset.range (n + 1), ∑ j : Fin 256, (colOf m c x).cot (256 * s + j.val)
  | 0, _ => by
    have hc : cond0_0 (grid0.coords (pt 0)) := (hcond0_0 _).mpr rfl
    refine (biasStep_at m c (pt 0) _ x).trans ?_
    unfold from12
    rw [if_pos hc, zero_bias, zero_add, Finset.sum_range_one]; rfl
  | n + 1, h => by
    have hc : ¬ cond0_0 (grid0.coords (pt (n + 1))) := fun e => by have := (hcond0_0 _).mp e; rw [pt_of _ h] at this; omega
    refine (biasStep_at m c (pt (n + 1)) _ x).trans ?_
    unfold from12
    rw [if_neg hc, biasAt_sum c x n (by omega), pt_of _ h, ← Finset.sum_range_succ (fun s => ∑ j : Fin 256, (colOf m c x).cot (256 * s + j.val))]

/-- The sum over the tiles is the sum over the rows. -/
theorem sum_tiles (f : ℕ → EReal) : ∑ s ∈ Finset.range 32, ∑ j : Fin 256, f (256 * s + j.val) = ∑ r : Fin 8192, f r.val := by
  rw [Finset.sum_range, Fin.sum_univ_tiles 32 256 rfl (fun r => f r.val)]
  exact Fin.sum_fin_congr fun s => Fin.sum_fin_congr fun j => congrArg f (by dsimp only; omega)

theorem taps_final (c : Dev nD) (k : Fin 3) (x : Fin 2816) :
    (dats m 0 c).arrAt 10 cfg0.N (ix2 (⟨k.val, by omega⟩ : Fin 8) x) = (colOf m c x).sumTap k.val := by
  have e : (dats m 0 c).arrAt 10 cfg0.N = tapsAt m c 31 := by
    refine (dats m 0 c).arrAt_eq_of_covers 10 _ (by decide +kernel) fun t hf y => ?_
    blk_simp
    have ht : t.val = 31 := by have := (flush0_10 t).mp hf; have := lt32 t; omega
    rw [after0_10, ht]
    blk_point [idx t]
  rw [e, tapsAt_sum m c k x 31 (by omega), sum_tiles]; rfl
theorem bias_final (c : Dev nD) (x : Fin 2816) :
    (dats m 0 c).arrAt 11 cfg0.N (ix2 (0 : Fin 1) x) = (colOf m c x).sumCot := by
  have e : (dats m 0 c).arrAt 11 cfg0.N = biasAt m c 31 := by
    refine (dats m 0 c).arrAt_eq_of_covers 11 _ (by decide +kernel) fun t hf y => ?_
    blk_simp
    have ht : t.val = 31 := by have := (flush0_11 t).mp hf; have := lt32 t; omega
    rw [after0_11, ht]
    blk_point [idx t]
  rw [e, biasAt_sum m c x 31 (by omega), sum_tiles]; rfl

/-! ## The results -/

/-- The arrays as the host finds them after the region. -/
theorem found (c : Dev nD) (w : Fin cfg0.W) : Pipeline.withArrays spec0 c (V0 m c) (fun w => (dats m 0 c).arrAt w cfg0.N)
    (Proc.tc.devRef (Pipeline.arrRef spec0 w)) = (dats m 0 c).arrAt w cfg0.N :=
  Pipeline.withArrays_arr_shared spec0 c (V0 m c) (fun w => (dats m 0 c).arrAt w cfg0.N)
    ((dats m 0 c).arrAt_sharedIn sharedIn0 (V0 m c) (A_eq m c) cfg0.N) w

/-- The gradient of the taps and of the bias. -/
def tapsArr (c : Dev nD) : S3x2816.Idx → EReal := fun i => (colOf m c (i 1)).sumTap (i 0).val
def biasArr (c : Dev nD) : S2816.Idx → EReal := fun i => (colOf m c (i 0)).sumCot

theorem slice_at (u : FVec Ideal S8x2816 .f32) (k : Fin 3) (x : Fin 2816) :
    extractStridedSlice S3x2816 ![0, 0] u slices_S8x2816_S3x2816_0_0 (ix2 k x) = u (ix2 (⟨k.val, by omega⟩ : Fin 8) x) := by pointwise []
theorem flat_at (u : FVec Ideal S1x2816 .f32) (x : Fin 2816) : shapeCast S2816 u shapeCasts_S1x2816_S2816 (ix1 x) = u (ix2 (0 : Fin 1) x) := by pointwise []

theorem tail_taps (c : Dev nD) : Pipeline.afterTail₀ cfgs (dats m) 0 (V0 m) [hostOps1] c main_v3 = tapsArr m c := by
  unfold Pipeline.afterTail₀
  simp only [hostOps1, List.flatten_cons, List.flatten_nil, List.append_nil]
  after_results_simp
  refine (congrArg (extractStridedSlice S3x2816 ![0, 0] · slices_S8x2816_S3x2816_0_0) (found m c 10)).trans (funext fun i => ?_)
  refine (congrArg _ (eq_ix2 i)).trans ((slice_at _ (i 0) (i 1)).trans (taps_final m c (i 0) (i 1)))

theorem tail_bias (c : Dev nD) : Pipeline.afterTail₀ cfgs (dats m) 0 (V0 m) [hostOps1] c main_v4 = biasArr m c := by
  unfold Pipeline.afterTail₀
  simp only [hostOps1, List.flatten_cons, List.flatten_nil, List.append_nil]
  after_results_simp
  refine (congrArg (shapeCast S2816 · shapeCasts_S1x2816_S2816) (found m c 11)).trans (funext fun i => ?_)
  refine (congrArg _ (eq_ix1 i)).trans ((flat_at _ (i 0)).trans (bias_final m c (i 0)))

/-- What a run leaves. -/
theorem run_values (ρ : Dev nD → PrngReg) : θ_run defs (onTc (τ := τ) (main (F := Ideal))) ⟨m, fun _ => 0, ρ⟩ (fun r => ∀ c : Dev nD,
    r.2.mem ((c.tc : Thread nD τ).loc main_v2_0) = upArr m c
    ∧ r.2.mem ((c.tc : Thread nD τ).loc main_v3) = tapsArr m c
    ∧ r.2.mem ((c.tc : Thread nD τ).loc main_v4) = biasArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1.1 c).1 9).trans (final_up m c),
      ((h.1.1 c).2 main_v3 (Pipeline.mem_restRefs_of main_v3 (by decide) (by decide))).trans (tail_taps m c),
      ((h.1.1 c).2 main_v4 (Pipeline.mem_restRefs_of main_v4 (by decide) (by decide))).trans (tail_bias m c), h.2.1 c⟩)
    (θ_run_and (run_main m ρ) (frame m ρ))

end Cert.KFfnIdeal.Ffn
-- ==== Proof.Ffn.Equation.lean ====
/- The gated convolution's gradient: the kernel and the derivative of the forward lines leave the same three arrays. -/
module

public import proofs.«01_k».proof.Defs
public import proofs.«01_k».proof.Proof.Gen.RFfnIdeal.Run
public import proofs.«01_k».proof.Proof.Ffn.Ref
public import proofs.«01_k».proof.Proof.Ffn.Value
public import Idealize.ShloMosaic.Lib.Claim
public import Idealize.ShloMosaic.Lib.Tactic
public import Idealize.ShloMosaic.Adequacy
public import Idealize.ShloMosaic.Init

@[expose] public section

set_option maxRecDepth 16384
set_option backward.proofsInPublic true

noncomputable section

namespace Cert.Proof

open Idealize.ShloMosaic Idealize.ShloMosaic.TcCoe Idealize.SL.Sem Cert.KFfnIdeal Cert.KFfnIdeal.Ffn

/-- The facts the precondition's function states. -/
theorem ffn_facts : Cert.Pre_ffn_finite.Facts := by
  constructor <;> decide

/-- A number whose absolute value lies below infinity is real. -/
theorem ffn_real (x : EReal) (h : BitVec.ofBool (decide (FloatOps.absf (F := Ideal) (φ := .f32) x < Ideal.ofBits .f32 0x7F800000#32)) = 1#1) :
    ∃ r : ℝ, x = (r : EReal) := by
  rw [show Ideal.ofBits .f32 0x7F800000#32 = (⊤ : EReal) by simp [Ideal.ofBits, Ideal.ieee]] at h
  induction x with
  | coe r => exact ⟨r, rfl⟩
  | bot => exact absurd h (by rw [decide_eq_false (by rw [show FloatOps.absf (F := Ideal) (φ := .f32) (⊥ : EReal) = ⊤ from rfl]; exact lt_irrefl _)]; decide)
  | top => exact absurd h (by rw [decide_eq_false (by rw [show FloatOps.absf (F := Ideal) (φ := .f32) (⊤ : EReal) = ⊤ from rfl]; exact lt_irrefl _)]; decide)

theorem ffn_both {a b : BitVec 1} : IntOp.andi a b = 1#1 ↔ a = 1#1 ∧ b = 1#1 := by
  revert a b; decide

/-- Where the precondition holds the cotangent of the gate is real. -/
theorem ffn_pre [Cert.Pre_ffn_finite.Facts] (u : Vec Ideal S8192x5632 .bf16) (w : Vec Ideal S3x2816 .f32) (b : Vec Ideal S2816 .f32) (d : Vec Ideal S8192x2816 .bf16)
    (h : Cert.Pre_ffn_finite.fn (F := Ideal) u w b d = fun _ => 1#1) (r : Fin 8192) (x : Fin 2816) :
    ∃ a : ℝ, (d (ix2 r x) : EReal) * u (ix2 r (⟨2816 + x.val, by omega⟩ : Fin 5632)) = (a : EReal) := by
  have h1 := congrFun h (ix2 r x)
  unfold Cert.Pre_ffn_finite.fn at h1
  simp only at h1
  revert h1
  pointwise []
  simp only [ffn_both]
  intro h1
  obtain ⟨p, hp⟩ := ffn_real _ h1.1
  obtain ⟨q, hq⟩ := ffn_real _ h1.2
  exact ⟨q * p, by rw [EReal.coe_mul, ← hp, ← hq]⟩

/-- The gradient of the gated convolution, over the extended reals. -/
theorem algebraic_ffn [Cert.Pre_ffn_finite.Facts] : Cert.algebraic_KFfnIdeal_RFfnIdeal_pre_ffn_finite := fun m g m' g' hp hm => by
  refine ⟨_, _, _, run_values m g,
    (θ_run Cert.RFfnIdeal.defs _ _).mono (fun _ h c =>
        ⟨(h c).1.trans ?_, (h c).2.1.trans ?_, (h c).2.2.1.trans ?_, (h c).2.2.2⟩)
      (Cert.RFfnIdeal.Value.run m' g')⟩
  · rw [Cert.RFfnIdeal.Read.val_main_v72_eq, (hm c).1, (hm c).2.1, (hm c).2.2.1, (hm c).2.2.2]
    funext i
    rw [eq_ix2 i]
    exact Cert.RFfnIdeal.Ffn.up_at (ffn_pre _ _ _ _ (hp c)) _ _
  · rw [Cert.RFfnIdeal.Read.val_main_v66_eq, (hm c).1, (hm c).2.1, (hm c).2.2.1, (hm c).2.2.2]
    funext i
    rw [eq_ix2 i]
    exact Cert.RFfnIdeal.Ffn.taps_at (ffn_pre _ _ _ _ (hp c)) _ _
  · rw [Cert.RFfnIdeal.Read.val_main_v37_eq, (hm c).1, (hm c).2.1, (hm c).2.2.1, (hm c).2.2.2]
    funext i
    rw [eq_ix1 i]
    exact Cert.RFfnIdeal.Ffn.bias_at (ffn_pre _ _ _ _ (hp c)) _

/-- The reference terminates and leaves its arguments. -/
theorem frame_ffn_ref : Cert.quiescent_RFfnIdeal := fun m g _ =>
  (θ_run Cert.RFfnIdeal.defs _ _).mono (fun r h => ⟨fun c => (h c).2.2.2, sem_eq_zero_of_no_sems (by decide) r.2⟩)
    (Cert.RFfnIdeal.Value.run m g)

end Cert.Proof

end
-- ==== Proof.Rms.Math.lean ====
/- The gradient of the RMS norm on one row, as a formula over the extended reals. -/
module

public import Idealize.ShloMosaic.Lib.Pointwise
public import Idealize.ShloMosaic.Lib.Pipeline.ValueKit

@[expose] public section

noncomputable section

namespace Cert.Rms

open Idealize.ShloMosaic

/-- The row's mean square, plus the norm's epsilon. -/
def power (X : Fin 1024 → EReal) : EReal :=
  Ideal.div (∑ k : Fin 1024, X k * X k) (Ideal.ofBits .f32 0x44800000#32) + Ideal.ofBits .f32 0x358637BD#32

/-- What the mean square's cotangent gives to every element of the row, before the element itself. -/
def pull (X G D : Fin 1024 → EReal) : EReal :=
  ∑ _u : Fin 1, Ideal.div ((∑ k : Fin 1024, X k * (D k * G k)) * (Ideal.ofBits .f32 0xBF000000#32 * Ideal.div (Ideal.rsqrt (power X)) (power X)))
    (Ideal.ofBits .f32 0x44800000#32)

/-- The gradient of element `z`: the norm's own, and `q` from past the norm. -/
def rowGrad (X G D : Fin 1024 → EReal) (q : EReal) (z : Fin 1024) : EReal :=
  D z * G z * Ideal.rsqrt (power X) + X z * pull X G D + pull X G D * X z + q

/-- What the row adds to the gain's gradient at `z`. -/
def gainPart (X D : Fin 1024 → EReal) (z : Fin 1024) : EReal := X z * Ideal.rsqrt (power X) * D z

/-- The cotangent of the norm's output: the product of the layer's cotangent with the weight, transposed. -/
def before (dy : Fin 5632 → EReal) (w : Fin 1024 → Fin 5632 → EReal) (z : Fin 1024) : EReal := ∑ k : Fin 5632, dy k * w z k

/-- The product in four pieces of 1408 columns. -/
theorem before_pieces (dy : Fin 5632 → EReal) (w : Fin 1024 → Fin 5632 → EReal) (z : Fin 1024) :
    before dy w z = (∑ k : Fin 1408, dy ⟨k.val, by omega⟩ * w z ⟨k.val, by omega⟩) + (∑ k : Fin 1408, dy ⟨1408 + k.val, by omega⟩ * w z ⟨1408 + k.val, by omega⟩)
      + (∑ k : Fin 1408, dy ⟨2816 + k.val, by omega⟩ * w z ⟨2816 + k.val, by omega⟩) + ∑ k : Fin 1408, dy ⟨4224 + k.val, by omega⟩ * w z ⟨4224 + k.val, by omega⟩ := by
  unfold before
  rw [Fin.sum_univ_tiles 4 1408 rfl (fun k => dy k * w z k), Fin.sum_univ_four]
  have step : ∀ (a b : ℕ) (h : a = b) (ha : a < 5632) (hb : b < 5632), dy ⟨a, ha⟩ * w z ⟨a, ha⟩ = dy ⟨b, hb⟩ * w z ⟨b, hb⟩ := by
    intro a b h ha hb; subst h; rfl
  refine congrArg₂ _ (congrArg₂ _ (congrArg₂ _ ?_ ?_) ?_) ?_ <;> refine Fin.sum_fin_congr fun k => ?_ <;> refine step _ _ ?_ _ _
  · show 0 * 1408 + k.val = _; omega
  · show 1 * 1408 + k.val = _; omega
  · show 2 * 1408 + k.val = _; omega
  · show 3 * 1408 + k.val = _; omega

end Cert.Rms

end
-- ==== Proof.Rms.Ref.lean ====
/- The derivative of the norm's and the product's forward lines, read at an index. -/
module

public import proofs.«01_k».proof.Proof.Rms.Math
public import proofs.«01_k».proof.Proof.Gen.RRmsIdeal.Read

@[expose] public section

set_option maxRecDepth 16384

noncomputable section

namespace Cert.RRmsIdeal.Rms

open Cert.RRmsIdeal Cert.RRmsIdeal.Gen Cert.RRmsIdeal.Read Cert.Rms
open Idealize.ShloMosaic

variable (x0 : Vec Ideal S8192x1024 .f32) (x1 : Vec Ideal S1024 .f32) (x2 : Vec Ideal S1024x5632 .f32) (x3 : Vec Ideal S8192x5632 .bf16) (x4 : Vec Ideal S8192x1024 .f32)

/-- The cotangent of the norm's output in row `r`. -/
abbrev cot (r : Fin 8192) : Fin 1024 → EReal := before (fun k => x3 (ix2 r k)) (fun z k => x2 (ix2 z k))

theorem cot_at (r : Fin 8192) (z : Fin 1024) : val_main_v18 (F := Ideal) x2 x3 (ix2 r z) = cot x2 x3 r z := by
  pointwise [val_main_v18, val_main_v17]
  rfl

theorem grad_at (r : Fin 8192) (z : Fin 1024) : val_main_v39 (F := Ideal) x0 x1 x2 x3 x4 (ix2 r z)
    = rowGrad (fun k => x0 (ix2 r k)) (fun k => x1 (ix1 k)) (cot x2 x3 r) (x4 (ix2 r z)) z := by
  pointwise [val_main_v39, val_main_v38, val_main_v37, val_main_v36, val_main_v35, val_main_v34, val_main_v33, val_main_v32, val_main_v31,
    val_main_v30, val_main_v29, val_main_v28]
  pointwise [val_main_v27, val_main_v26, val_main_v25, val_main_v23, val_main_v22, val_main_v13, val_main_v10, val_main_v9, val_main_v8, val_main_v7, val_main_v6]
  pointwise [val_main_v5, val_main_v4, val_main_v3, val_main_v2, val_main_v1, val_main_v0, val_main_cst, val_main_cst_0, val_main_cst_1, val_main_cst_2,
    val_main_cst_5, val_main_cst_6, val_main_cst_7]
  simp only [cot_at]
  unfold rowGrad
  rw [add_comm _ (x4 (ix2 r z)), ← add_assoc, ← add_assoc]
  rfl

theorem copy_at (r : Fin 8192) (z : Fin 1024) : val_main_v40 (F := Ideal) x0 x1 x2 x3 x4 (ix2 r z)
    = rowGrad (fun k => x0 (ix2 r k)) (fun k => x1 (ix1 k)) (cot x2 x3 r) (x4 (ix2 r z)) z := grad_at x0 x1 x2 x3 x4 r z

theorem gain_at (z : Fin 1024) : val_main_v41 (F := Ideal) x0 x2 x3 (ix2 0 z)
    = ∑ r : Fin 8192, gainPart (fun k => x0 (ix2 r k)) (cot x2 x3 r) z := by
  pointwise [val_main_v41, val_main_v24, val_main_v21, val_main_v20, val_main_v19, val_main_v12, val_main_v11, val_main_v7, val_main_v6]
  pointwise [val_main_v5, val_main_v4, val_main_v3, val_main_v2, val_main_v1, val_main_v0, val_main_cst, val_main_cst_0, val_main_cst_1,
    val_main_cst_3, val_main_cst_4]
  rw [Fin.sum_univ_one]
  refine Fin.sum_fin_congr fun r => ?_
  rw [cot_at]
  rfl

end Cert.RRmsIdeal.Rms

end
-- ==== Proof.Rms.Kernel.lean ====
/- What the kernel of the product fused with the norm's gradient leaves in its three results, over the extended reals. -/
module

public import proofs.«01_k».proof.Proof.Rms.Math
public import proofs.«01_k».proof.Proof.Gen.KRmsIdeal.Value

@[expose] public section

set_option maxRecDepth 16384
set_option backward.proofsInPublic true

noncomputable section

namespace Cert.KRmsIdeal.Rms

open Cert.KRmsIdeal Cert.KRmsIdeal.Gen Cert.Rms Idealize.ShloMosaic Idealize.ShloMosaic.TcCoe Idealize.SL.Sem
open Idealize.ShloMosaic.Pipeline (Dat)

theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

/-- The product of one block: four pieces, added in order. -/
def prod (dy : Vec Ideal S256x5632 .bf16) (w : Vec Ideal S1x4x1024x1408 .bf16) : FVec Ideal S256x1024 .f32 :=
  k0_pay1 (View.ld dy (Rect.unit ![0, 0] ![256, 1408] inb_S256x5632_S256x1408_0_0))
    (View.ld w (Rect.unit ![0, 0, 0, 0] ![1, 1, 1024, 1408] inb_S1x4x1024x1408_S1x1x1024x1408_0_0_0_0))
    (View.ld dy (Rect.unit ![0, 1408] ![256, 1408] inb_S256x5632_S256x1408_0_1408))
    (View.ld w (Rect.unit ![0, 1, 0, 0] ![1, 1, 1024, 1408] inb_S1x4x1024x1408_S1x1x1024x1408_0_1_0_0))
    (View.ld dy (Rect.unit ![0, 2816] ![256, 1408] inb_S256x5632_S256x1408_0_2816))
    (View.ld w (Rect.unit ![0, 2, 0, 0] ![1, 1, 1024, 1408] inb_S1x4x1024x1408_S1x1x1024x1408_0_2_0_0))
    (View.ld dy (Rect.unit ![0, 4224] ![256, 1408] inb_S256x5632_S256x1408_0_4224))
    (View.ld w (Rect.unit ![0, 3, 0, 0] ![1, 1, 1024, 1408] inb_S1x4x1024x1408_S1x1x1024x1408_0_3_0_0))

/-- The product at an index, from what the two arrays hold there. -/
theorem prod_apply (dy : Vec Ideal S256x5632 .bf16) (w : Vec Ideal S1x4x1024x1408 .bf16) (r : Fin 256) (z : Fin 1024)
    (dy' : Fin 5632 → EReal) (w' : Fin 1024 → Fin 5632 → EReal) (hd : ∀ k, dy (ix2 r k) = dy' k)
    (hw : ∀ (p : Fin 4) (k : Fin 1408), w (ix4 0 p z k) = w' z ⟨p.val * 1408 + k.val, by omega⟩) :
    prod dy w (ix2 r z) = before dy' w' z := by
  have pc : ∀ (p : Fin 4) (a : ℕ) (ha : a + 1408 ≤ 5632) (e : p.val * 1408 = a) (k : Fin 1408), w (ix4 0 p z k) = w' z ⟨a + k.val, by omega⟩ := by
    intro p a ha e k; subst e; exact hw p k
  have p0 : ∀ k : Fin 1408, w (ix4 0 0 z k) = w' z ⟨k.val, by omega⟩ := fun k => (hw 0 k).trans (by congr 2; show 0 * 1408 + k.val = _; omega)
  rw [before_pieces]
  pointwise [prod, k0_pay1]
  refine congrArg₂ _ (congrArg₂ _ (congrArg₂ _ ?_ ?_) ?_) ?_ <;> refine Fin.sum_fin_congr fun k => ?_
  · exact congrArg₂ _ (hd _) (p0 k)
  · exact congrArg₂ _ (hd _) (pc 1 1408 (by omega) rfl k)
  · exact congrArg₂ _ (hd _) (pc 2 2816 (by omega) rfl k)
  · exact congrArg₂ _ (hd _) (pc 3 4224 (by omega) rfl k)

/-- The gradient of one block. -/
def block (dy : Vec Ideal S256x5632 .bf16) (w : Vec Ideal S1x4x1024x1408 .bf16) (x : Vec Ideal S256x1024 .f32) (g : Vec Ideal S1x1024 .f32)
    (q : Vec Ideal S256x1024 .f32) : FVec Ideal S256x1024 .f32 :=
  k0_pay6 (prod dy w) x (k0_pay2 g) (k0_pay3 x) (FloatOps.ofBits (F := Ideal) .f32 1149239296#32) q

theorem block_apply (dy : Vec Ideal S256x5632 .bf16) (w : Vec Ideal S1x4x1024x1408 .bf16) (x : Vec Ideal S256x1024 .f32) (g : Vec Ideal S1x1024 .f32)
    (q : Vec Ideal S256x1024 .f32) (r : Fin 256) (z : Fin 1024) :
    block dy w x g q (ix2 r z) = rowGrad (fun k => x (ix2 r k)) (fun k => g (ix2 0 k)) (fun k => prod dy w (ix2 r k)) (q (ix2 r z)) z := by
  pointwise [block, k0_pay6, k0_pay5, k0_pay4, k0_pay3, k0_pay2]
  rfl

/-- What one block adds to the gain's gradient. -/
theorem gain_apply (dy : Vec Ideal S256x5632 .bf16) (w : Vec Ideal S1x4x1024x1408 .bf16) (x : Vec Ideal S256x1024 .f32) (a : Vec Ideal S1x1024 .f32)
    (z : Fin 1024) : k0_pay9 (prod dy w) x (k0_pay3 x) (FloatOps.ofBits (F := Ideal) .f32 1149239296#32) a (ix2 0 z)
    = a (ix2 0 z) + ∑ r : Fin 256, gainPart (fun k => x (ix2 r k)) (fun k => prod dy w (ix2 r k)) z := by
  pointwise [k0_pay9, k0_pay5, k0_pay4, k0_pay3]
  rfl

theorem zero_apply (j : S1x1024.Idx) : k0_pay8 (F := Ideal) j = 0 := by
  pointwise [k0_pay8]

variable (m : (ℓ : Loc nD τ sig) → Buf (Elt Ideal) ℓ)

/-- The arguments by row and column. -/
abbrev xs (c : Dev nD) (r : Fin 8192) : Fin 1024 → EReal := fun k => (m ((c : Thread nD τ).loc main_arg0) : Vec Ideal S8192x1024 .f32) (ix2 r k)
abbrev gs (c : Dev nD) : Fin 1024 → EReal := fun k => (m ((c : Thread nD τ).loc main_arg1) : Vec Ideal S1024 .f32) (ix1 k)
abbrev ws (c : Dev nD) : Fin 1024 → Fin 5632 → EReal := fun z k => (m ((c : Thread nD τ).loc main_arg2) : Vec Ideal S1024x5632 .f32) (ix2 z k)
abbrev dys (c : Dev nD) (r : Fin 8192) : Fin 5632 → EReal := fun k => (m ((c : Thread nD τ).loc main_arg3) : Vec Ideal S8192x5632 .bf16) (ix2 r k)
abbrev qs (c : Dev nD) (r : Fin 8192) : Fin 1024 → EReal := fun k => (m ((c : Thread nD τ).loc main_arg4) : Vec Ideal S8192x1024 .f32) (ix2 r k)

/-- The three results. -/
def dxOf (c : Dev nD) (i : S8192x1024.Idx) : EReal := rowGrad (xs m c (i 0)) (gs m c) (before (dys m c (i 0)) (ws m c)) (qs m c (i 0) (i 1)) (i 1)
def gainOf (c : Dev nD) (i : S1x1024.Idx) : EReal := ∑ r : Fin 8192, gainPart (xs m c r) (before (dys m c r) (ws m c)) (i 1)

theorem at_dy (c : Dev nD) (t : Fin cfg0.N) (r : Fin 256) (k : Fin 5632) (h : 256 * t.val + r.val < 8192) :
    (iblk m c 0 t : Vec Ideal S256x5632 .bf16) (ix2 r k) = dys m c ⟨256 * t.val + r.val, h⟩ k := by
  blk_point [iblk, V, idx t]
theorem at_w (c : Dev nD) (t : Fin cfg0.N) (z : Fin 1024) (p : Fin 4) (k : Fin 1408) :
    (iblk m c 1 t : Vec Ideal S1x4x1024x1408 .bf16) (ix4 0 p z k) = ws m c z ⟨p.val * 1408 + k.val, by omega⟩ := by
  blk_point [iblk, V, idx t]
theorem at_x (c : Dev nD) (t : Fin cfg0.N) (r : Fin 256) (k : Fin 1024) (h : 256 * t.val + r.val < 8192) :
    (iblk m c 2 t : Vec Ideal S256x1024 .f32) (ix2 r k) = xs m c ⟨256 * t.val + r.val, h⟩ k := by
  blk_point [iblk, V, idx t]
theorem at_g (c : Dev nD) (t : Fin cfg0.N) (k : Fin 1024) : (iblk m c 3 t : Vec Ideal S1x1024 .f32) (ix2 0 k) = gs m c k := by
  blk_point [iblk, V, idx t]
theorem at_q (c : Dev nD) (t : Fin cfg0.N) (r : Fin 256) (k : Fin 1024) (h : 256 * t.val + r.val < 8192) :
    (iblk m c 4 t : Vec Ideal S256x1024 .f32) (ix2 r k) = qs m c ⟨256 * t.val + r.val, h⟩ k := by
  blk_point [iblk, V, idx t]

theorem lt_rows (t : Fin cfg0.N) (r : Fin 256) : 256 * t.val + r.val < 8192 := by
  have h : t.val < 32 := lt_of_lt_of_eq t.isLt (by decide +kernel)
  omega

theorem prod_block (c : Dev nD) (t : Fin cfg0.N) (r : Fin 256) (h : 256 * t.val + r.val < 8192) :
    (fun z : Fin 1024 => prod (iblk m c 0 t) (iblk m c 1 t) (ix2 r z)) = before (dys m c ⟨256 * t.val + r.val, h⟩) (ws m c) := by
  funext z
  exact prod_apply _ _ r z _ _ (fun k => at_dy m c t r k h) (fun p k => at_w m c t z p k)

theorem block_at (c : Dev nD) (t : Fin cfg0.N) (r : Fin 256) (z : Fin 1024) (h : 256 * t.val + r.val < 8192) :
    block (iblk m c 0 t) (iblk m c 1 t) (iblk m c 2 t) (iblk m c 3 t) (iblk m c 4 t) (ix2 r z) = dxOf m c (ix2 (⟨256 * t.val + r.val, h⟩ : Fin 8192) z) := by
  rw [block_apply, prod_block m c t r h, at_q m c t r z h,
    show (fun k : Fin 1024 => (iblk m c 2 t : Vec Ideal S256x1024 .f32) (ix2 r k)) = xs m c ⟨256 * t.val + r.val, h⟩ from funext fun k => at_x m c t r k h,
    show (fun k : Fin 1024 => (iblk m c 3 t : Vec Ideal S1x1024 .f32) (ix2 0 k)) = gs m c from funext fun k => at_g m c t k]
  rfl

theorem after_dx (c : Dev nD) (t : Fin cfg0.N) :
    (outsAt0 m c t.val t.isLt).1 = block (iblk m c 0 t) (iblk m c 1 t) (iblk m c 2 t) (iblk m c 3 t) (iblk m c 4 t) := by
  by_cases h : t.val % 32 = 0
  · rw [outsAt0_A m c t h]; frame_out; rfl
  · rw [outsAt0_B m c t h]; frame_out; rfl

theorem after_copy (c : Dev nD) (t : Fin cfg0.N) :
    (outsAt0 m c t.val t.isLt).2.1 = (block (iblk m c 0 t) (iblk m c 1 t) (iblk m c 2 t) (iblk m c 3 t) (iblk m c 4 t) : S256x1024.Idx → EReal) := by
  by_cases h : t.val % 32 = 0
  · rw [outsAt0_A m c t h]; frame_out; rfl
  · rw [outsAt0_B m c t h]; frame_out; rfl

theorem row_of (y : S8192x1024.Idx) (r : Fin 8192) (z : Fin 1024) (h0 : (y 0).val = r.val) (h1 : (y 1).val = z.val) : y = ix2 r z := by
  funext a
  match a with
  | ⟨0, _⟩ => exact Fin.ext h0
  | ⟨1, _⟩ => exact Fin.ext h1

theorem final_dx (c : Dev nD) : (dats m 0 c).arrAt 5 cfg0.N = dxOf m c := by
  refine (dats m 0 c).arrAt_eq_of_covers 5 _ (by decide +kernel) fun t _ y => ?_
  have h0 : ((win0_5.blk t).view.emb y 0).val = 256 * t.val + (y 0).val := by blk_simp [idx t]; omega
  have h1 : ((win0_5.blk t).view.emb y 1).val = (y 1).val := by blk_simp [idx t]
  rw [row_of ((win0_5.blk t).view.emb y) ⟨256 * t.val + (y 0).val, lt_rows t (y 0)⟩ (y 1) h0 h1]
  blk_simp
  rw [after0_5, after_dx]
  exact (congrArg _ (eq_ix2 y)).trans (block_at m c t (y 0) (y 1) (lt_rows t (y 0)))

theorem final_copy (c : Dev nD) : (dats m 0 c).arrAt 6 cfg0.N = dxOf m c := by
  refine (dats m 0 c).arrAt_eq_of_covers 6 _ (by decide +kernel) fun t _ y => ?_
  have h0 : ((win0_6.blk t).view.emb y 0).val = 256 * t.val + (y 0).val := by blk_simp [idx t]; omega
  have h1 : ((win0_6.blk t).view.emb y 1).val = (y 1).val := by blk_simp [idx t]
  rw [row_of ((win0_6.blk t).view.emb y) ⟨256 * t.val + (y 0).val, lt_rows t (y 0)⟩ (y 1) h0 h1]
  blk_simp
  rw [after0_6, after_copy]
  exact (congrArg _ (eq_ix2 y)).trans (block_at m c t (y 0) (y 1) (lt_rows t (y 0)))

theorem one_row (j : S1x1024.Idx) : j = ix2 (0 : Fin 1) (j 1) := by
  funext a
  match a with
  | ⟨0, _⟩ => exact Fin.fin_one_eq_zero _
  | ⟨1, _⟩ => rfl

/-- What point `t` adds to the gain's gradient. -/
def added (c : Dev nD) (t : Fin cfg0.N) (j : S1x1024.Idx) : EReal :=
  ∑ r : Fin 256, gainPart (fun k => (iblk m c 2 t : Vec Ideal S256x1024 .f32) (ix2 r k)) (fun k => prod (iblk m c 0 t) (iblk m c 1 t) (ix2 r k)) (j 1)

theorem added_eq (c : Dev nD) (t : Fin cfg0.N) (z : Fin 1024) (j : S1x1024.Idx) (e : j 1 = z) :
    added m c t j = ∑ r : Fin 256, gainPart (xs m c ⟨256 * t.val + r.val, lt_rows t r⟩) (before (dys m c ⟨256 * t.val + r.val, lt_rows t r⟩) (ws m c)) z := by
  subst e
  refine Fin.sum_fin_congr fun r => ?_
  rw [prod_block m c t r (lt_rows t r),
    show (fun k : Fin 1024 => (iblk m c 2 t : Vec Ideal S256x1024 .f32) (ix2 r k)) = xs m c ⟨256 * t.val + r.val, lt_rows t r⟩
      from funext fun k => at_x m c t r k (lt_rows t r)]

theorem first_gain (c : Dev nD) (t : Fin cfg0.N) (h : t.val % 32 = 0) (j : S1x1024.Idx) : (outsAt0 m c t.val t.isLt).2.2 j = 0 + added m c t j := by
  rw [outsAt0_A m c t h]; frame_out
  rw [one_row j]
  exact (gain_apply _ _ _ _ (j 1)).trans (by rw [zero_apply]; rfl)

theorem next_gain (c : Dev nD) (t : Fin cfg0.N) (h : ¬t.val % 32 = 0) (j : S1x1024.Idx) : (outsAt0 m c t.val t.isLt).2.2 j
    = (outsAt0 m c (t.val - 1) (Nat.lt_of_le_of_lt (Nat.sub_le _ _) t.isLt)).2.2 j + added m c t j := by
  rw [outsAt0_B m c t h]; frame_out
  rw [one_row j]
  exact gain_apply _ _ _ _ (j 1)

theorem final_gain (c : Dev nD) : (dats m 0 c).arrAt 7 cfg0.N = gainOf m c := by
  refine (dats m 0 c).arrAt_eq_of_covers 7 _ (by decide +kernel) fun t hf y => ?_
  have h1 : ((win0_7.blk t).view.emb y 1).val = (y 1).val := by blk_simp [idx t]
  rw [show gainOf m c ((win0_7.blk t).view.emb y) = ∑ r : Fin 8192, gainPart (xs m c r) (before (dys m c r) (ws m c)) (y 1) from
    Fin.sum_fin_congr fun r => congrArg _ (Fin.ext h1)]
  blk_simp
  rw [after0_7, Pipeline.eq_sum_fin_of_reset_step_apply_of_flush (fun n h => (outsAt0 m c n h).2.2) 32 (fun _ => 0) (added m c)
    (first_gain m c) (next_gain m c) t ((flush0_7 t).mp hf) y, zero_add,
    Fin.sum_univ_tiles 32 256 rfl (fun r => gainPart (xs m c r) (before (dys m c r) (ws m c)) (y 1))]
  refine Fin.sum_fin_congr fun s => ?_
  rw [added_eq m c _ (y 1) y rfl]
  refine Fin.sum_fin_congr fun r => ?_
  have step : ∀ (a b : Fin 8192), a = b → gainPart (xs m c a) (before (dys m c a) (ws m c)) (y 1) = gainPart (xs m c b) (before (dys m c b) (ws m c)) (y 1) := by
    intro a b e; rw [e]
  refine step _ _ (Fin.ext ?_)
  have h : t.val < 32 := lt_of_lt_of_eq t.isLt (by decide +kernel)
  show 256 * (32 * (t.val / 32) + s.val) + r.val = s.val * 256 + r.val
  omega

end Cert.KRmsIdeal.Rms

end
-- ==== Proof.Rms.Equation.lean ====
/- The product fused with the norm's gradient: the kernel and the derivative of the forward lines leave the same three arrays. -/
module

public import proofs.«01_k».proof.Defs
public import proofs.«01_k».proof.Proof.Gen.RRmsIdeal.Run
public import proofs.«01_k».proof.Proof.Rms.Ref
public import proofs.«01_k».proof.Proof.Rms.Kernel
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KRmsIdeal Cert.KRmsIdeal.Rms

/-- The gradient of the norm and of the product after it, over the extended reals. -/
theorem algebraic_rms : Cert.algebraic_KRmsIdeal_RRmsIdeal := fun m g m' g' _ hm => by
  refine ⟨_, _, _,
    (θ_run Cert.KRmsIdeal.defs _ _).mono (fun _ h c =>
        ⟨(h c).1.trans (final_dx m c), (h c).2.1.trans (final_copy m c), (h c).2.2.1.trans (final_gain m c), (h c).2.2.2⟩)
      (Cert.KRmsIdeal.Value.run_blocks m g),
    (θ_run Cert.RRmsIdeal.defs _ _).mono (fun _ h c =>
        ⟨(h c).1.trans ?_, (h c).2.1.trans ?_, (h c).2.2.1.trans ?_, (h c).2.2.2⟩)
      (Cert.RRmsIdeal.Value.run m' g')⟩
  · rw [Cert.RRmsIdeal.Read.val_main_v39_eq, (hm c).1, (hm c).2.1, (hm c).2.2.1, (hm c).2.2.2.1, (hm c).2.2.2.2]
    funext i
    rw [eq_ix2 i]
    exact Cert.RRmsIdeal.Rms.grad_at _ _ _ _ _ _ _
  · rw [Cert.RRmsIdeal.Read.val_main_v40_eq, (hm c).1, (hm c).2.1, (hm c).2.2.1, (hm c).2.2.2.1, (hm c).2.2.2.2]
    funext i
    rw [eq_ix2 i]
    exact Cert.RRmsIdeal.Rms.copy_at _ _ _ _ _ _ _
  · rw [Cert.RRmsIdeal.Read.val_main_v41_eq, (hm c).1, (hm c).2.2.1, (hm c).2.2.2.1]
    funext i
    rw [one_row i]
    exact Cert.RRmsIdeal.Rms.gain_at _ _ _ _

/-- The reference terminates and leaves its arguments. -/
theorem frame_rms_ref : Cert.quiescent_RRmsIdeal := fun m g _ =>
  (θ_run Cert.RRmsIdeal.defs _ _).mono (fun r h => ⟨fun c => (h c).2.2.2, sem_eq_zero_of_no_sems (by decide) r.2⟩)
    (Cert.RRmsIdeal.Value.run m g)

end Cert.Proof

end
-- ==== Proof.Afwd.Step.lean ====
/- One trip of the loop of the attention over the key blocks, as functions of the tiles it reads: what it computes per
   head, and what it leaves in the two carried buffers. -/
module

public import proofs.«01_k».proof.Proof.Gen.KAfwdIdeal.Skeleton
public import Idealize.ShloMosaic.Lib.Pipeline.ValueKit

@[expose] public section

noncomputable section

namespace Cert.KAfwdIdeal.Afwd

open Cert.KAfwdIdeal Cert.KAfwdIdeal.Gen
open Idealize.ShloMosaic

variable {F : FTy → Type} [FloatOps F]

/-- What one grid point fixes for its loop: the columns and rows of a tile, the query block, the masked queries per
    head, and the triangular matrix. -/
structure Env (F : FTy → Type) where
  co : IVec S128x128 32
  ro : IVec S128x128 32
  qi : BitVec 32
  q : Fin 8 → FVec F S128x128 .bf16
  tl : FVec F S128x128 .bf16

/-- The pair of heads that share head `h`'s 128 lanes. -/
abbrev pr (h : Fin 8) : Fin 4 := ![0, 0, 1, 1, 2, 2, 3, 3] h

section heads
variable (E : Env F) (n : Fin 64) (kb vb : Fin 4 → Vec F S128x128 .bf16) (run : Fin 8 → Vec F S1x128x1 .f32) (h : Fin 8)

/-- Which of the block's pairs are causal. -/
def vd : IVec S128x128 1 := k0_pay32 E.co E.ro (BitVec.ofNat 32 n.val) E.qi
/-- log(1 - sigmoid) of the scores, the pairs that are not causal at zero, -/
def hlk : FVec F S128x128 .f32 := k0_pay54 (E.q h) (vd E n) (kb (pr h))
/-- and log sigmoid. -/
def hls : FVec F S128x128 .f32 := k0_pay53 (E.q h) (kb (pr h))
/-- The sum over the later keys of the block. -/
def htail : FVec F S128x128 .f32 := k0_pay75 E.tl (hlk E n kb h)

/-- The new rows of the buffers carried per head. -/
def nacc (old : Vec F S1x128x128 .f32) : FVec F S1x128x128 .f32 :=
  k0_pay85 (vd E n) (hls E kb h) (htail E n kb h) (run h) old (vb (pr h))
def nrun : FVec F S1x128x1 .f32 := k0_pay94 (hlk E n kb h) (run h)

end heads

/-- Whether some row's weights are not all zero yet. -/
def alive (run : Fin 8 → Vec F S1x128x1 .f32) : BitVec 1 :=
  Scalar.cmpf .ogt (k0_pay7 (k0_pay100 (run 0) (run 1) (run 2) (run 3) (run 4) (run 5) (run 6) (run 7))) (Scalar.ofBits .f32 0x00000000#32)

/-! ## Tiles and rows of the buffers -/

/-- The 128 × 128 tile of block row `n` and lane group `p`. -/
def rd {V : Type} (f : S8192x512.Idx → V) (n : Fin 64) (p : Fin 4) : S128x128.Idx → V :=
  fun y => f (ix2 (⟨128 * n.val + (y 0).val, by have := (y 0).isLt; change _ < 128 at this; show _ < 8192; omega⟩ : Fin 8192)
    (⟨128 * p.val + (y 1).val, by have := (y 1).isLt; change _ < 128 at this; show _ < 512; omega⟩ : Fin 512))

/-- Row `h` of a buffer carried per head, -/
def row {V : Type} (f : S8x128x1.Idx → V) (h : Fin 8) : S1x128x1.Idx → V := fun y => f (ix3 h (y 1 : Fin 128) (y 2 : Fin 1))
def rowa {V : Type} (f : S8x128x128.Idx → V) (h : Fin 8) : S1x128x128.Idx → V := fun y => f (ix3 h (y 1 : Fin 128) (y 2 : Fin 128))
/-- and the buffer made of its rows. -/
def rows {V : Type} (w : Fin 8 → S1x128x1.Idx → V) : S8x128x1.Idx → V := fun y => w (y 0 : Fin 8) (ix3 (0 : Fin 1) (y 1 : Fin 128) (y 2 : Fin 1))
def rowsa {V : Type} (w : Fin 8 → S1x128x128.Idx → V) : S8x128x128.Idx → V := fun y => w (y 0 : Fin 8) (ix3 (0 : Fin 1) (y 1 : Fin 128) (y 2 : Fin 128))

/-- What the loop carries in its buffers. -/
structure St (F : FTy → Type) [FloatOps F] where
  acc : Vec F S8x128x128 .f32
  run : Vec F S8x128x1 .f32

variable (E : Env F) (kc vc : Vec F S8192x512 .bf16)

/-- One trip. -/
def step (n : Fin 64) (s : St F) : St F where
  acc := rowsa fun h => nacc E n (rd kc n) (rd vc n) (row s.run) h (rowa s.acc h)
  run := rows fun h => nrun E n (rd kc n) (row s.run) h

/-- Whether the loop goes on after a trip. -/
def goes (n : Fin 64) (s : St F) : BitVec 1 := alive fun h => nrun E n (rd kc n) (row s.run) h

/-- The loop from `k` key blocks to go. -/
def iter : (k : ℕ) → k ≤ 64 → BitVec 1 → St F → St F
  | 0, _, _, s => s
  | k + 1, hk, a, s => if a = 1#1 then iter k (by omega) (goes E kc ⟨k, hk⟩ s) (step E kc vc ⟨k, hk⟩ s) else s

end Cert.KAfwdIdeal.Afwd
-- ==== Proof.Afwd.Tile.lean ====
/- One trip's computation of one head of the attention, read at an index when every operand is a real number. -/
module

public import proofs.«01_k».proof.Proof.Afwd.Step
public import proofs.«01_k».proof.Proof.Attn.Real

@[expose] public section

set_option maxRecDepth 16384

noncomputable section

namespace Cert.KAfwdIdeal.Afwd

open Cert.KAfwdIdeal Cert.KAfwdIdeal.Gen Cert.Attn
open Idealize.ShloMosaic Idealize.ShloMosaic.TcCoe

abbrev Tile := Fin 128 → Fin 128 → ℝ

section pure
variable (q k : FVec Ideal S128x128 .bf16) (qr kr : Tile)
  (hq : ∀ a b : Fin 128, q (ix2 a b) = ((qr a b : ℝ) : EReal)) (hk : ∀ a b : Fin 128, k (ix2 a b) = ((kr a b : ℝ) : EReal))

/-- The scaled product of a row of queries and a row of keys. -/
def prod (qr kr : Tile) (a b : Fin 128) : ℝ := (∑ l, qr a l * kr b l) * (1 / 8)

include hq hk in
theorem pay51 (a b : Fin 128) : k0_pay51 (F := Ideal) q k (ix2 a b) = ((prod qr kr a b : ℝ) : EReal) := by
  pointwise [k0_pay51]
  simp only [f32_eighth, hq, hk, ← EReal.coe_mul, coe_sum, zero_add, prod]

include hq hk in
theorem pay52 (a b : Fin 128) : k0_pay52 (F := Ideal) q k (ix2 a b)
    = Ideal.log1p (Ideal.exp (0 - ((|prod qr kr a b| : ℝ) : EReal))) := by
  have h := pay51 q k qr kr hq hk a b
  pointwise [k0_pay52, h]
  rfl

include hq hk in
theorem pay53 (a b : Fin 128) : k0_pay53 (F := Ideal) q k (ix2 a b) = ((-(sp (-(prod qr kr a b))) : ℝ) : EReal) := by
  have h := pay51 q k qr kr hq hk a b
  have h' := pay52 q k qr kr hq hk a b
  pointwise [k0_pay53, h, h']
  rw [coe_neg', ← abs_neg, sp_coe, coe_neg']

variable (v : IVec S128x128 1) (vr : Fin 128 → Fin 128 → Prop) [∀ a b, Decidable (vr a b)]
  (hv : ∀ a b : Fin 128, v (ix2 a b) = 1#1 ↔ vr a b)

include hq hk hv in
theorem pay54 (a b : Fin 128) : k0_pay54 (F := Ideal) q v k (ix2 a b) = (((if vr a b then -(sp (prod qr kr a b)) else 0 : ℝ)) : EReal) := by
  have h := pay51 q k qr kr hq hk a b
  have h' := pay52 q k qr kr hq hk a b
  pointwise [k0_pay54, h, h']
  rw [sp_coe, coe_neg', sel_coe0 _ _ (hv a b)]

variable (l : FVec Ideal S128x128 .f32) (tl : FVec Ideal S128x128 .bf16) (lr tr : Tile)
  (hl : ∀ a b : Fin 128, l (ix2 a b) = ((lr a b : ℝ) : EReal)) (htl : ∀ a b : Fin 128, tl (ix2 a b) = ((tr a b : ℝ) : EReal))

include hl htl in
theorem pay75 (a b : Fin 128) : k0_pay75 (F := Ideal) tl l (ix2 a b) = ((∑ c, lr a c * tr c b : ℝ) : EReal) := by
  pointwise [k0_pay75]
  simp only [hl, htl, ← EReal.coe_mul, ← EReal.coe_sub, coe_sum, zero_add, sub_self, zero_mul, Finset.sum_const_zero, EReal.coe_zero, add_zero]

variable (ru : Vec Ideal S1x128x1 .f32) (rr : Fin 128 → ℝ) (hr : ∀ a : Fin 128, ru (ix3 0 a 0) = ((rr a : ℝ) : EReal))

include hl hr in
theorem pay94 (a : Fin 128) : k0_pay94 (F := Ideal) l ru (ix3 0 a 0) = ((rr a + ∑ b, lr a b : ℝ) : EReal) := by
  pointwise [k0_pay94]
  simp only [hl, hr, coe_sum, ← EReal.coe_add]

variable (ls tt : FVec Ideal S128x128 .f32) (lsr ttr : Tile)
  (hls : ∀ a b : Fin 128, ls (ix2 a b) = ((lsr a b : ℝ) : EReal)) (htt : ∀ a b : Fin 128, tt (ix2 a b) = ((ttr a b : ℝ) : EReal))

include hk hv hls htt hr in
theorem pay85 (a b : Fin 128) (o : Vec Ideal S1x128x128 .f32) (x : ℝ) (ho : o (ix3 0 a b) = (x : EReal)) :
    k0_pay85 (F := Ideal) v ls tt ru o k (ix3 0 a b)
      = ((x + ∑ c, (if vr a c then Real.exp (lsr a c + rr a + ttr a c) else 0) * kr c b : ℝ) : EReal) := by
  pointwise [k0_pay85]
  simp only [ho, hk, hr, hls, htt, ← EReal.coe_add, Ideal.exp_coe, sel_coe0 _ _ (hv a _), ← EReal.coe_mul, coe_sum, zero_add, ite_mul, zero_mul]

/-- The test of the loop: some exponential of a real number is positive. -/
theorem pay100 (r : Fin 8 → Vec Ideal S1x128x1 .f32) (rr : Fin 8 → Fin 128 → ℝ) (h : ∀ h, ∀ a : Fin 128, r h (ix3 0 a 0) = ((rr h a : ℝ) : EReal)) :
    alive r = 1#1 := by
  unfold alive
  pointwise [k0_pay7, k0_pay100, h]
  rw [decide_eq_true]
  · rfl
  refine (Finset.lt_fold_max _).mpr (Or.inr ⟨((0 : Fin 128), (0 : Fin 1)), Finset.mem_univ _, exp_pos _ fun e => ?_⟩)
  have e0 := (max_eq_bot.mp (max_eq_bot.mp (max_eq_bot.mp (max_eq_bot.mp (max_eq_bot.mp (max_eq_bot.mp (max_eq_bot.mp e).1).1).1).1).1).1).1
  exact EReal.coe_ne_bot (rr 0 0) ((h 0 0).symm.trans e0)

end pure
end Cert.KAfwdIdeal.Afwd
-- ==== Proof.Afwd.Trips.lean ====
/- The loop over the key blocks when every operand is a real number: after the blocks from `k` on, the carried buffers
   hold the sums of the row functions of `Math.lean` over the keys from block `k` on. -/
module

public import proofs.«01_k».proof.Proof.Afwd.Tile

@[expose] public section

set_option maxRecDepth 16384

noncomputable section

namespace Cert.KAfwdIdeal.Afwd

open Cert.KAfwdIdeal Cert.KAfwdIdeal.Gen Cert.Attn
open Idealize.ShloMosaic Idealize.ShloMosaic.TcCoe

/-- Lane `l` of pair `p`. -/
def lane (p : Fin 4) (l : Fin 128) : Fin 512 := ⟨128 * p.val + l.val, by omega⟩

section loop

variable (m : Fin 64) (qr : Fin 8 → Tile) (K V : Mat)

/-- The scores of the rows of query block `m`, -/
def Z (h : Fin 8) (a : Fin 128) (s : Fin 8192) : ℝ := (∑ l, qr h a l * K s (lane (pr h) l)) * (1 / 8)
/-- the logs of what their keys leave, -/
abbrev kp (h : Fin 8) (a : Fin 128) : Fin 8192 → ℝ := keep (Z qr K h a) (blk m a)
/-- and their weights. -/
abbrev wt (h : Fin 8) (a : Fin 128) : Fin 8192 → ℝ := weight (Z qr K h a) (blk m a)

/-- What a point fixes, in real numbers. -/
structure Fixed (E : Env Ideal) (kc vc : Vec Ideal S8192x512 .bf16) : Prop where
  vd : ∀ n : Fin 64, n ≤ m → ∀ a b : Fin 128, vd E n (ix2 a b) = 1#1 ↔ blk n b < blk m a
  q : ∀ h, ∀ a b : Fin 128, E.q h (ix2 a b) = ((qr h a b : ℝ) : EReal)
  tl : ∀ a b : Fin 128, E.tl (ix2 a b) = (((if b < a then 1 else 0 : ℝ)) : EReal)
  kc : ∀ (s : Fin 8192) (c : Fin 512), kc (ix2 s c) = ((K s c : ℝ) : EReal)
  vc : ∀ (s : Fin 8192) (c : Fin 512), vc (ix2 s c) = ((V s c : ℝ) : EReal)

/-- What the loop has done once the blocks from `k` on are through. -/
structure Done (k : ℕ) (s : St Ideal) : Prop where
  run : ∀ h, ∀ a : Fin 128, s.run (ix3 h a 0) = ((since (kp m qr K h a) k : ℝ) : EReal)
  acc : ∀ h, ∀ a l : Fin 128, s.acc (ix3 h a l) = ((since (fun s => wt m qr K h a s * V s (lane (pr h) l)) k : ℝ) : EReal)

variable {m qr K V} {E : Env Ideal} {kc vc : Vec Ideal S8192x512 .bf16} (H : Fixed m qr K V E kc vc)
  {n : Fin 64} (hn : n ≤ m)

section head
variable (h : Fin 8)

include H in
theorem hls_at (a b : Fin 128) : hls E (rd kc n) h (ix2 a b) = ((-(sp (-(Z qr K h a (blk n b)))) : ℝ) : EReal) :=
  pay53 (E.q h) (rd kc n (pr h)) (qr h) (fun b l => K (blk n b) (lane (pr h) l)) (H.q h) (fun b l => H.kc (blk n b) (lane (pr h) l)) a b

include H hn in
theorem hlk_at (a b : Fin 128) : hlk E n (rd kc n) h (ix2 a b) = ((kp m qr K h a (blk n b) : ℝ) : EReal) :=
  pay54 (E.q h) (rd kc n (pr h)) (qr h) (fun b l => K (blk n b) (lane (pr h) l)) (H.q h) (fun b l => H.kc (blk n b) (lane (pr h) l))
    (vd E n) (fun a b => blk n b < blk m a) (H.vd n hn) a b

include H hn in
theorem htail_at (a b : Fin 128) : htail E n (rd kc n) h (ix2 a b)
    = ((∑ c, kp m qr K h a (blk n c) * (if b < c then 1 else 0) : ℝ) : EReal) :=
  pay75 _ E.tl (fun a b => kp m qr K h a (blk n b)) (fun c b => if b < c then 1 else 0) (hlk_at H hn h) H.tl a b

/-- The weight of a key of the block, its three logs added in the loop's order. -/
theorem weight_blk (a b : Fin 128) : (if blk n b < blk m a then Real.exp (-(sp (-(Z qr K h a (blk n b)))) + since (kp m qr K h a) (n.val + 1)
      + ∑ c, kp m qr K h a (blk n c) * (if b < c then 1 else 0)) else 0) = wt m qr K h a (blk n b) := by
  rw [wt, weight, Cert.Attn.tail, sum_after, add_assoc]

end head

variable {s : St Ideal}

include H hn in
/-- What a trip leaves of a head's running sum. -/
theorem nrun_at (hs : Done m qr K V (n.val + 1) s) (h : Fin 8) (a : Fin 128) :
    nrun E n (rd kc n) (row s.run) h (ix3 0 a 0) = ((since (kp m qr K h a) n.val : ℝ) : EReal) := by
  rw [since_step]
  exact pay94 _ (fun a b => kp m qr K h a (blk n b)) (hlk_at H hn h) (row s.run h) _ (hs.run h) a

include H hn in
/-- One trip. -/
theorem Done.step (hs : Done m qr K V (n.val + 1) s) : Done m qr K V n.val (step E kc vc n s) where
  run h a := nrun_at H hn hs h a
  acc h a l := by
    rw [since_step]
    refine (pay85 (rd vc n (pr h)) (fun b l => V (blk n b) (lane (pr h) l)) (fun b l => H.vc (blk n b) (lane (pr h) l)) (vd E n) (fun a b => blk n b < blk m a) (H.vd n hn)
      (row s.run h) _ (hs.run h) _ _ _ _ (hls_at H h) (htail_at H hn h) a l (rowa s.acc h) _ (hs.acc h a l)).trans (congrArg _ ?_)
    simp only [weight_blk]

include H hn in
/-- The loop never leaves early: what is left to the earlier keys is an exponential of a real number. -/
theorem Done.goes (hs : Done m qr K V (n.val + 1) s) : goes E kc n s = 1#1 := pay100 _ _ fun h a => nrun_at H hn hs h a

include H in
/-- The whole loop. -/
theorem Done.iter : ∀ (k : ℕ) (hk : k ≤ 64), k ≤ m.val + 1 → ∀ s, Done m qr K V k s → Done m qr K V 0 (iter E kc vc k hk 1#1 s)
  | 0, _, _, _, hs => hs
  | k + 1, hk, hm, s, hs => by
    have hle : (⟨k, hk⟩ : Fin 64) ≤ m := Fin.le_def.mpr (by show k ≤ m.val; omega)
    rw [Afwd.iter, if_pos rfl, Done.goes H (n := ⟨k, hk⟩) hle hs]
    exact Done.iter k (by omega) (by omega) _ (Done.step H (n := ⟨k, hk⟩) hle hs)

end loop

end Cert.KAfwdIdeal.Afwd
-- ==== Proof.Afwd.Reads.lean ====
/- What the loop's loads read, and what its stores leave, in terms of tiles and rows. -/
module

public import proofs.«01_k».proof.Proof.Afwd.Step
public import Idealize.ShloMosaic.Lib.Exec
public import Idealize.ShloMosaic.Lib.WholeRead
public import Idealize.ShloMosaic.Lib.WritesUnit

@[expose] public section

noncomputable section

namespace Cert.KAfwdIdeal.Afwd

open Cert.KAfwdIdeal Cert.KAfwdIdeal.Gen
open Idealize.ShloMosaic

variable {F : FTy → Type} [FloatOps F]

theorem chk : ∀ n : Fin 64, k0_chk1 (BitVec.ofNat 32 n.val) := by decide +kernel

theorem off2_eq : ∀ n : Fin 64, k0_off2 (BitVec.ofNat 32 n.val) = ![128 * n.val, 0] := by decide +kernel
theorem off3_eq : ∀ n : Fin 64, k0_off3 (BitVec.ofNat 32 n.val) = ![128 * n.val, 128] := by decide +kernel
theorem off4_eq : ∀ n : Fin 64, k0_off4 (BitVec.ofNat 32 n.val) = ![128 * n.val, 256] := by decide +kernel
theorem off5_eq : ∀ n : Fin 64, k0_off5 (BitVec.ofNat 32 n.val) = ![128 * n.val, 384] := by decide +kernel
instance (n : Fin 64) : ClosedOff (k0_off2 (BitVec.ofNat 32 n.val)) := ⟨![128 * n.val, 0], off2_eq n⟩
instance (n : Fin 64) : ClosedOff (k0_off3 (BitVec.ofNat 32 n.val)) := ⟨![128 * n.val, 128], off3_eq n⟩
instance (n : Fin 64) : ClosedOff (k0_off4 (BitVec.ofNat 32 n.val)) := ⟨![128 * n.val, 256], off4_eq n⟩
instance (n : Fin 64) : ClosedOff (k0_off5 (BitVec.ofNat 32 n.val)) := ⟨![128 * n.val, 384], off5_eq n⟩

/-- A load of a tile reads that tile, -/
theorem readAt_tile {e : EltTy} (m : Memref sig .tc .vmem S8192x512 e) (h : m.IsWhole) (f : Vec F S8192x512 e) (n : Fin 64) (p : Fin 4)
    (off : Fin 2 → ℕ) (ho : off = ![128 * n.val, 128 * p.val]) (inb) :
    m.view.readAt (Elt F) (Rect.unit (s := S8192x512) off S128x128.size inb).toLoadRect (h.unread f) = rd f n p := by
  subst ho
  funext y
  refine (Memref.IsWhole.readAt_unread h f _ y).trans (congrArg f (funext fun a => Fin.ext ?_))
  match a with
  | 0 => exact congrArg (128 * n.val + ·) (Nat.one_mul _)
  | 1 => exact congrArg (128 * p.val + ·) (Nat.one_mul _)

/-- a load of a row that row. -/
theorem readAt_row {e : EltTy} (m : Memref sig .tc .vmem S8x128x1 e) (hm : m.IsWhole) (f : Vec F S8x128x1 e) (h : Fin 8)
    (inb) : m.view.readAt (Elt F) (Rect.unit (s := S8x128x1) ![h.val, 0, 0] S1x128x1.size inb).toLoadRect (hm.unread f) = row f h := by
  funext y
  refine (Memref.IsWhole.readAt_unread hm f _ y).trans (congrArg f (funext fun a => Fin.ext ?_))
  match a with
  | 0 => have := (y 0).isLt; change (y 0).val < 1 at this; show h.val + 1 * (y 0).val = h.val; omega
  | 1 => show 0 + 1 * (y 1).val = (y 1).val; omega
  | 2 => show 0 + 1 * (y 2).val = (y 2).val; omega

theorem readAt_rowa {e : EltTy} (m : Memref sig .tc .vmem S8x128x128 e) (hm : m.IsWhole) (f : Vec F S8x128x128 e) (h : Fin 8)
    (inb) : m.view.readAt (Elt F) (Rect.unit (s := S8x128x128) ![h.val, 0, 0] S1x128x128.size inb).toLoadRect (hm.unread f) = rowa f h := by
  funext y
  refine (Memref.IsWhole.readAt_unread hm f _ y).trans (congrArg f (funext fun a => Fin.ext ?_))
  match a with
  | 0 => have := (y 0).isLt; change (y 0).val < 1 at this; show h.val + 1 * (y 0).val = h.val; omega
  | 1 => show 0 + 1 * (y 1).val = (y 1).val; omega
  | 2 => show 0 + 1 * (y 2).val = (y 2).val; omega

section rows
variable {e : EltTy} {D : ℕ} (v : View sig .tc .vmem (⟨3, ![8, 128, D]⟩ : Shape) e) (f : v.ty.Contents (Elt F))

/-- The newest store gives the array of rows `w` its row `h`, if the stores before it gave it the rows before. -/
theorem rows_next (w : Fin 8 → (⟨3, ![1, 128, D]⟩ : Shape).Idx → Elt F e) (h : Fin 8)
    (i : ∀ a, (![h.val, 0, 0] : Fin 3 → ℕ) a + (![1, 128, D] : Fin 3 → ℕ) a ≤ (![8, 128, D] : Fin 3 → ℕ) a) (L)
    (hL : ∀ y : (⟨3, ![8, 128, D]⟩ : Shape).Idx, (y 0).val < h.val → v.read (Elt F) (v.writes (Elt F) f L) y = w (y 0 : Fin 8) (ix3 (0 : Fin 1) (y 1 : Fin 128) (y 2 : Fin D)))
    (y : (⟨3, ![8, 128, D]⟩ : Shape).Idx) (hy : (y 0).val < h.val + 1) :
    v.read (Elt F) (v.writes (Elt F) f (⟨Rect.unit (s := ⟨3, ![8, 128, D]⟩) ![h.val, 0, 0] ![1, 128, D] i, w h⟩ :: L)) y
      = w (y 0 : Fin 8) (ix3 (0 : Fin 1) (y 1 : Fin 128) (y 2 : Fin D)) := by
  by_cases e : (y 0).val = h.val
  · refine (View.read_writes_cons_unit_of_mem v f i (w h) L y (ix3 (0 : Fin 1) (y 1 : Fin 128) (y 2 : Fin D)) rfl fun a => ?_).trans
      (congrFun (congrArg w (Fin.ext e.symm : h = (y 0 : Fin 8))) _)
    match a with
    | 0 => exact e
    | 1 => exact (Nat.zero_add _).symm
    | 2 => exact (Nat.zero_add _).symm
  · refine (View.read_writes_cons_unit_of_not_mem v f i (w h) L y rfl 0 ?_).trans (hL y (by omega))
    show (y 0).val < h.val ∨ h.val + 1 ≤ (y 0).val
    omega

/-- The stores of the eight rows leave the buffer made of them. -/
theorem writes_eight (w : Fin 8 → (⟨3, ![1, 128, D]⟩ : Shape).Idx → Elt F e) (i0 i1 i2 i3 i4 i5 i6 i7) :
    v.read (Elt F) (v.writes (Elt F) f
      [⟨Rect.unit (s := ⟨3, ![8, 128, D]⟩) ![7, 0, 0] ![1, 128, D] i7, w 7⟩,
       ⟨Rect.unit (s := ⟨3, ![8, 128, D]⟩) ![6, 0, 0] ![1, 128, D] i6, w 6⟩,
       ⟨Rect.unit (s := ⟨3, ![8, 128, D]⟩) ![5, 0, 0] ![1, 128, D] i5, w 5⟩,
       ⟨Rect.unit (s := ⟨3, ![8, 128, D]⟩) ![4, 0, 0] ![1, 128, D] i4, w 4⟩,
       ⟨Rect.unit (s := ⟨3, ![8, 128, D]⟩) ![3, 0, 0] ![1, 128, D] i3, w 3⟩,
       ⟨Rect.unit (s := ⟨3, ![8, 128, D]⟩) ![2, 0, 0] ![1, 128, D] i2, w 2⟩,
       ⟨Rect.unit (s := ⟨3, ![8, 128, D]⟩) ![1, 0, 0] ![1, 128, D] i1, w 1⟩,
       ⟨Rect.unit (s := ⟨3, ![8, 128, D]⟩) ![0, 0, 0] ![1, 128, D] i0, w 0⟩])
      = fun y => w (y 0 : Fin 8) (ix3 (0 : Fin 1) (y 1 : Fin 128) (y 2 : Fin D)) := by
  funext y
  exact rows_next v f w 7 i7 _ (rows_next v f w 6 i6 _ (rows_next v f w 5 i5 _ (rows_next v f w 4 i4 _ (rows_next v f w 3 i3 _ (rows_next v f w 2 i2 _ (rows_next v f w 1 i1 _ (rows_next v f w 0 i0 _ (fun y hy => absurd hy (Nat.not_lt_zero _))))))))) y (y 0 : Fin 8).isLt
end rows

end Cert.KAfwdIdeal.Afwd
-- ==== Proof.Afwd.Trip.lean ====
/- One trip of the loop, run: from the buffers at one state to the next call with them at the next state. -/
module

public import proofs.«01_k».proof.Proof.Afwd.Reads
public import Idealize.ShloMosaic.Lib.Tactic
public import Idealize.ShloMosaic.Lib.Pipeline.Kit
public import Idealize.ShloMosaic.Lib.Exec
public import Idealize.ShloMosaic.Lib.Pipeline.Frame

@[expose] public section

noncomputable section

namespace Cert.KAfwdIdeal.Afwd

open Cert.KAfwdIdeal Cert.KAfwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

abbrev 𝒱₀ : Variants := Variants.nat

theorem goes_on : ∀ n : Fin 64, Scalar.andi (Scalar.cmpi .sge (BitVec.ofNat 32 n.val) 0#32) 1#1 = 1#1 := by decide +kernel
theorem stops : ∀ a : BitVec 1, a ≠ 1#1 → ∀ w, ¬ Scalar.andi w a = 1#1 := by decide +kernel
theorem counts : ∀ n : Fin 64, Scalar.subi (BitVec.ofNat 32 n.val) 1#32 = BitVec.ofNat 32 n.val - 1#32 := by decide +kernel

theorem row_rows {V : Type} (w : Fin 8 → S1x128x1.Idx → V) (h : Fin 8) : row (rows w) h = w h :=
  funext fun (y : S1x128x1.Idx) => congrArg (w h) (funext fun a => Fin.ext (by
    match a with
    | 0 => have := (y 0).isLt; change (y 0).val < 1 at this; show 0 = (y 0).val; omega
    | 1 => rfl
    | 2 => rfl))

section loop
variable (c : Dev nD) (i : grid0.Coords) (v4 v3 : IVec S128x128 32) (v13 v16 v22 v25 v31 v34 v40 v43 v48 : FVec F S128x128 .bf16) (E : Set ℕ)
  (arg6 : Memref sig .tc .vmem S8192x512 .bf16) (harg6 : arg6.IsWhole) (arg7 : Memref sig .tc .vmem S8192x512 .bf16) (harg7 : arg7.IsWhole)
  (arg8 : Memref sig .tc .vmem S8x128x128 .f32) (harg8 : arg8.IsWhole) (arg9 : Memref sig .tc .vmem S8x128x1 .f32) (harg9 : arg9.IsWhole)

/-- The loop's fixed values. -/
abbrev env : Env F := ⟨v4, v3, BitVec.ofNat 32 (i 1).val, ![v13, v16, v22, v25, v31, v34, v40, v43], v48⟩

/-- The loop's buffers: the keys and values it reads, and what it carries. -/
def held (kc vc : Vec F S8192x512 .bf16) (s : St F) : sProp 𝕄 :=
  iprop(owns (c : Thread nD τ) arg6 fullShare (kc) ∗ owns (c : Thread nD τ) arg7 fullShare (vc) ∗ owns (c : Thread nD τ) arg8 fullShare (s.acc) ∗ owns (c : Thread nD τ) arg9 fullShare (s.run))

include harg6 harg7 harg8 harg9 in
theorem held_open (kc vc : Vec F S8192x512 .bf16) (s : St F) :
    (held c arg6 arg7 arg8 arg9 kc vc s : sProp 𝕄) ⊢ iprop((arg6.view.loc (c : Thread nD τ) ↦[arg6.view.set]{fullShare} (harg6.unread (kc))) ∗ (arg7.view.loc (c : Thread nD τ) ↦[arg7.view.set]{fullShare} (harg7.unread (vc))) ∗ (arg8.view.loc (c : Thread nD τ) ↦[arg8.view.set]{fullShare} (harg8.unread (s.acc))) ∗ (arg9.view.loc (c : Thread nD τ) ↦[arg9.view.set]{fullShare} (harg9.unread (s.run)))) := by
  unfold held owns
  iintro ⟨⟨%f0, %h0, H0⟩, ⟨%f1, %h1, H1⟩, ⟨%f2, %h2, H2⟩, ⟨%f3, %h3, H3⟩⟩
  obtain rfl := harg6.eq_unread h0; obtain rfl := harg7.eq_unread h1; obtain rfl := harg8.eq_unread h2; obtain rfl := harg9.eq_unread h3
  iframe

theorem held_close (kc vc : Vec F S8192x512 .bf16) (s : St F) (X6) (X7) (X8) (X9) :
    (iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ⌜arg6.view.read (Elt F) X6 = kc ∧ arg7.view.read (Elt F) X7 = vc ∧ arg8.view.read (Elt F) X8 = s.acc ∧ arg9.view.read (Elt F) X9 = s.run⌝) : sProp 𝕄)
    ⊢ held c arg6 arg7 arg8 arg9 kc vc s := by
  unfold held
  iintro ⟨H0, H1, H2, H3, %h⟩
  obtain ⟨h6, h7, h8, h9⟩ := h
  rw [← h6, ← h7, ← h8, ← h9]
  isplitl [H0]
  · iapply (owns_intro c arg6 fullShare X6) $$ H0
  isplitl [H1]
  · iapply (owns_intro c arg7 fullShare X7) $$ H1
  isplitl [H2]
  · iapply (owns_intro c arg8 fullShare X8) $$ H2
  · iapply (owns_intro c arg9 fullShare X9) $$ H3

set_option maxHeartbeats 2000000 in
/-- One trip of the loop, up to the next call. -/
theorem trip (kc vc : Vec F S8192x512 .bf16) (s : St F) (n : Fin 64) (bd : Option 𝒱₀.V)
    (K : BitVec 32 × BitVec 1 → sProp 𝕄) :
    iprop(held c arg6 arg7 arg8 arg9 kc vc s
      ∗ (held c arg6 arg7 arg8 arg9 kc vc (step (env i v4 v3 v13 v16 v22 v25 v31 v34 v40 v43 v48) kc vc n s) -∗
        wp frame (wpE (defs₀ (F := F)) 𝒱₀ (c : Thread nD τ) bd) E (Prog.lift (.call (1 : (Λ₀ F).Label)
          ⟨i, v4, v3, arg6, harg6, v13, v16, v22, v25, v31, v34, v40, v43, v48, arg9, harg9, arg8, harg8, arg7, harg7, Scalar.subi (BitVec.ofNat 32 n.val) 1#32,
            goes (env i v4 v3 v13 v16 v22 v25 v31 v34 v40 v43 v48) kc n s⟩)) K))
    ⊢ wp frame (wpE (defs₀ (F := F)) 𝒱₀ (c : Thread nD τ) bd) E
        (cc0_while1 i v4 v3 arg6 harg6 v13 v16 v22 v25 v31 v34 v40 v43 v48 arg9 harg9 arg8 harg8 arg7 harg7 (BitVec.ofNat 32 n.val) 1#1) K := by
  have ht := goes_on n
  have hc := chk n
  have hk : rd kc n = ![arg6.view.readAt (Elt F) (Rect.unit (s := S8192x512) (k0_off2 (BitVec.ofNat 32 n.val)) S128x128.size hc.2.1).toLoadRect (harg6.unread kc),
      arg6.view.readAt (Elt F) (Rect.unit (s := S8192x512) (k0_off3 (BitVec.ofNat 32 n.val)) S128x128.size hc.2.2.1).toLoadRect (harg6.unread kc),
      arg6.view.readAt (Elt F) (Rect.unit (s := S8192x512) (k0_off4 (BitVec.ofNat 32 n.val)) S128x128.size hc.2.2.2.1).toLoadRect (harg6.unread kc),
      arg6.view.readAt (Elt F) (Rect.unit (s := S8192x512) (k0_off5 (BitVec.ofNat 32 n.val)) S128x128.size hc.2.2.2.2).toLoadRect (harg6.unread kc)] :=
    funext fun p => by match p with
      | 0 => exact (readAt_tile arg6 harg6 kc n 0 _ (off2_eq n) _).symm
      | 1 => exact (readAt_tile arg6 harg6 kc n 1 _ (off3_eq n) _).symm
      | 2 => exact (readAt_tile arg6 harg6 kc n 2 _ (off4_eq n) _).symm
      | 3 => exact (readAt_tile arg6 harg6 kc n 3 _ (off5_eq n) _).symm
  have hv : rd vc n = ![arg7.view.readAt (Elt F) (Rect.unit (s := S8192x512) (k0_off2 (BitVec.ofNat 32 n.val)) S128x128.size hc.2.1).toLoadRect (harg7.unread vc),
      arg7.view.readAt (Elt F) (Rect.unit (s := S8192x512) (k0_off3 (BitVec.ofNat 32 n.val)) S128x128.size hc.2.2.1).toLoadRect (harg7.unread vc),
      arg7.view.readAt (Elt F) (Rect.unit (s := S8192x512) (k0_off4 (BitVec.ofNat 32 n.val)) S128x128.size hc.2.2.2.1).toLoadRect (harg7.unread vc),
      arg7.view.readAt (Elt F) (Rect.unit (s := S8192x512) (k0_off5 (BitVec.ofNat 32 n.val)) S128x128.size hc.2.2.2.2).toLoadRect (harg7.unread vc)] :=
    funext fun p => by match p with
      | 0 => exact (readAt_tile arg7 harg7 vc n 0 _ (off2_eq n) _).symm
      | 1 => exact (readAt_tile arg7 harg7 vc n 1 _ (off3_eq n) _).symm
      | 2 => exact (readAt_tile arg7 harg7 vc n 2 _ (off4_eq n) _).symm
      | 3 => exact (readAt_tile arg7 harg7 vc n 3 _ (off5_eq n) _).symm
  have hr : row s.run = ![arg9.view.readAt (Elt F) (Rect.unit (s := S8x128x1) ![0, 0, 0] S1x128x1.size (by decide)).toLoadRect (harg9.unread s.run),
      arg9.view.readAt (Elt F) (Rect.unit (s := S8x128x1) ![1, 0, 0] S1x128x1.size (by decide)).toLoadRect (harg9.unread s.run),
      arg9.view.readAt (Elt F) (Rect.unit (s := S8x128x1) ![2, 0, 0] S1x128x1.size (by decide)).toLoadRect (harg9.unread s.run),
      arg9.view.readAt (Elt F) (Rect.unit (s := S8x128x1) ![3, 0, 0] S1x128x1.size (by decide)).toLoadRect (harg9.unread s.run),
      arg9.view.readAt (Elt F) (Rect.unit (s := S8x128x1) ![4, 0, 0] S1x128x1.size (by decide)).toLoadRect (harg9.unread s.run),
      arg9.view.readAt (Elt F) (Rect.unit (s := S8x128x1) ![5, 0, 0] S1x128x1.size (by decide)).toLoadRect (harg9.unread s.run),
      arg9.view.readAt (Elt F) (Rect.unit (s := S8x128x1) ![6, 0, 0] S1x128x1.size (by decide)).toLoadRect (harg9.unread s.run),
      arg9.view.readAt (Elt F) (Rect.unit (s := S8x128x1) ![7, 0, 0] S1x128x1.size (by decide)).toLoadRect (harg9.unread s.run)] :=
    funext fun p => by match p with
      | 0 => exact (readAt_row arg9 harg9 s.run 0 _).symm
      | 1 => exact (readAt_row arg9 harg9 s.run 1 _).symm
      | 2 => exact (readAt_row arg9 harg9 s.run 2 _).symm
      | 3 => exact (readAt_row arg9 harg9 s.run 3 _).symm
      | 4 => exact (readAt_row arg9 harg9 s.run 4 _).symm
      | 5 => exact (readAt_row arg9 harg9 s.run 5 _).symm
      | 6 => exact (readAt_row arg9 harg9 s.run 6 _).symm
      | 7 => exact (readAt_row arg9 harg9 s.run 7 _).symm
  have ha : rowa s.acc = ![arg8.view.readAt (Elt F) (Rect.unit (s := S8x128x128) ![0, 0, 0] S1x128x128.size (by decide)).toLoadRect (harg8.unread s.acc),
      arg8.view.readAt (Elt F) (Rect.unit (s := S8x128x128) ![1, 0, 0] S1x128x128.size (by decide)).toLoadRect (harg8.unread s.acc),
      arg8.view.readAt (Elt F) (Rect.unit (s := S8x128x128) ![2, 0, 0] S1x128x128.size (by decide)).toLoadRect (harg8.unread s.acc),
      arg8.view.readAt (Elt F) (Rect.unit (s := S8x128x128) ![3, 0, 0] S1x128x128.size (by decide)).toLoadRect (harg8.unread s.acc),
      arg8.view.readAt (Elt F) (Rect.unit (s := S8x128x128) ![4, 0, 0] S1x128x128.size (by decide)).toLoadRect (harg8.unread s.acc),
      arg8.view.readAt (Elt F) (Rect.unit (s := S8x128x128) ![5, 0, 0] S1x128x128.size (by decide)).toLoadRect (harg8.unread s.acc),
      arg8.view.readAt (Elt F) (Rect.unit (s := S8x128x128) ![6, 0, 0] S1x128x128.size (by decide)).toLoadRect (harg8.unread s.acc),
      arg8.view.readAt (Elt F) (Rect.unit (s := S8x128x128) ![7, 0, 0] S1x128x128.size (by decide)).toLoadRect (harg8.unread s.acc)] :=
    funext fun p => by match p with
      | 0 => exact (readAt_rowa arg8 harg8 s.acc 0 _).symm
      | 1 => exact (readAt_rowa arg8 harg8 s.acc 1 _).symm
      | 2 => exact (readAt_rowa arg8 harg8 s.acc 2 _).symm
      | 3 => exact (readAt_rowa arg8 harg8 s.acc 3 _).symm
      | 4 => exact (readAt_rowa arg8 harg8 s.acc 4 _).symm
      | 5 => exact (readAt_rowa arg8 harg8 s.acc 5 _).symm
      | 6 => exact (readAt_rowa arg8 harg8 s.acc 6 _).symm
      | 7 => exact (readAt_rowa arg8 harg8 s.acc 7 _).symm
  simp only [cc0_while1_eq_skeleton]; unfold cc0_while1_skel
  simp only [ht, ↓reduceIte, k0_part3_eq_skeleton, k0_part4_eq_skeleton, k0_part5_eq_skeleton, k0_part6_eq_skeleton, k0_part7_eq_skeleton, k0_part8_eq_skeleton,
   k0_part9_eq_skeleton, k0_part10_eq_skeleton, k0_part11_eq_skeleton, k0_part12_eq_skeleton, k0_part13_eq_skeleton, k0_part14_eq_skeleton, k0_part15_eq_skeleton]
  iintro ⟨Hh, HK⟩
  ihave Hr := (held_open c arg6 harg6 arg7 harg7 arg8 harg8 arg9 harg9 kc vc s) $$ Hh
  icases Hr with ⟨H0, H1, H2, H3⟩
  sl_exec!
  have hrun : arg9.view.read (Elt F) (arg9.view.writes (Elt F) arg9.view.junk (trip.sl.H3_8 i v4 v3 v13 v16 v22 v25 v31 v34 v40 v43 arg6 harg6 arg9 harg9 kc s n hc))
      = (step (env i v4 v3 v13 v16 v22 v25 v31 v34 v40 v43 v48) kc vc n s).run := by
    refine Eq.trans ?_ (writes_eight arg9.view arg9.view.junk (fun h => nrun (env i v4 v3 v13 v16 v22 v25 v31 v34 v40 v43 v48) n (rd kc n) (row s.run) h)
      (by decide) (by decide) (by decide) (by decide) (by decide) (by decide) (by decide) (by decide))
    rw [hk, hr]; rfl
  have hacc : arg8.view.read (Elt F) (arg8.view.writes (Elt F) arg8.view.junk (trip.sl.H2_8 i v4 v3 v13 v16 v22 v25 v31 v34 v40 v43 v48 arg6 harg6 arg7 harg7 arg8 harg8 arg9 harg9 kc vc s n hc))
      = (step (env i v4 v3 v13 v16 v22 v25 v31 v34 v40 v43 v48) kc vc n s).acc := by
    refine Eq.trans ?_ (writes_eight arg8.view arg8.view.junk (fun h => nacc (env i v4 v3 v13 v16 v22 v25 v31 v34 v40 v43 v48) n (rd kc n) (rd vc n) (row s.run) h (rowa s.acc h))
      (by decide) (by decide) (by decide) (by decide) (by decide) (by decide) (by decide) (by decide))
    rw [hk, hv, hr, ha]; rfl
  have hrow : ∀ (h : Fin 8) (inb), arg9.view.readCov (trip.sl.H3_8 i v4 v3 v13 v16 v22 v25 v31 v34 v40 v43 arg6 harg6 arg9 harg9 kc s n hc)
      (Rect.unit (s := S8x128x1) ![h.val, 0, 0] S1x128x1.size inb).toLoadRect = nrun (env i v4 v3 v13 v16 v22 v25 v31 v34 v40 v43 v48) n (rd kc n) (row s.run) h := fun h inb => by
    unfold View.readCov
    rw [harg9.eq_unread hrun, readAt_row]
    exact row_rows (fun h => nrun (env i v4 v3 v13 v16 v22 v25 v31 v34 v40 v43 v48) n (rd kc n) (row s.run) h) h
  have hflag : Scalar.cmpf .ogt (k0_pay7 (trip.sl.r_40 i v4 v3 v13 v16 v22 v25 v31 v34 v40 v43 arg6 harg6 arg9 harg9 kc s n hc)) (Scalar.ofBits .f32 0x00000000#32)
      = goes (env i v4 v3 v13 v16 v22 v25 v31 v34 v40 v43 v48) kc n s := by
    unfold goes alive
    beta_reduce
    rw [← hrow 0 inb_S8x128x1_S1x128x1_0_0_0, ← hrow 1 inb_S8x128x1_S1x128x1_1_0_0, ← hrow 2 inb_S8x128x1_S1x128x1_2_0_0, ← hrow 3 inb_S8x128x1_S1x128x1_3_0_0,
      ← hrow 4 inb_S8x128x1_S1x128x1_4_0_0, ← hrow 5 inb_S8x128x1_S1x128x1_5_0_0, ← hrow 6 inb_S8x128x1_S1x128x1_6_0_0, ← hrow 7 inb_S8x128x1_S1x128x1_7_0_0]
    rfl
  rw [hflag]
  iapply HK
  iapply (held_close c arg6 arg7 arg8 arg9 kc vc)
  isplitl [H0]
  · iexact H0
  isplitl [H1]
  · iexact H1
  isplitl [H2]
  · iexact H2
  isplitl [H3]
  · iexact H3
  ipureintro
  exact ⟨harg6.read_unread kc, harg7.read_unread vc, hacc, hrun⟩
end loop

end Cert.KAfwdIdeal.Afwd
-- ==== Proof.Afwd.Loop.lean ====
/- The whole loop of one point: what it leaves in its buffers. -/
module

public import proofs.«01_k».proof.Proof.Afwd.Trip

@[expose] public section

noncomputable section

namespace Cert.KAfwdIdeal.Afwd

open Cert.KAfwdIdeal Cert.KAfwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

theorem ends : ∀ w : BitVec 1, ¬ Scalar.andi (Scalar.cmpi .sge (BitVec.ofNat 32 0 - 1#32) 0#32) w = 1#1 := by decide +kernel
theorem pred_succ : ∀ n : Fin 64, BitVec.ofNat 32 (n.val + 1) - 1#32 = BitVec.ofNat 32 n.val := by decide +kernel

section loop
variable (c : Dev nD) (i : grid0.Coords) (v4 v3 : IVec S128x128 32) (v13 v16 v22 v25 v31 v34 v40 v43 v48 : FVec F S128x128 .bf16) (E : Set ℕ)
  (arg6 : Memref sig .tc .vmem S8192x512 .bf16) (harg6 : arg6.IsWhole) (arg7 : Memref sig .tc .vmem S8192x512 .bf16) (harg7 : arg7.IsWhole)
  (arg8 : Memref sig .tc .vmem S8x128x128 .f32) (harg8 : arg8.IsWhole) (arg9 : Memref sig .tc .vmem S8x128x1 .f32) (harg9 : arg9.IsWhole)

/-- The loop from `k` key blocks to go: it takes the buffers at `s` and leaves them as `iter` says. -/
def spec (Ev : Env F) (kc vc : Vec F S8192x512 .bf16) (k : ℕ) (hk : k ≤ 64) (a : BitVec 1) (s : St F) : sWPT 𝕄 (BitVec 32 × BitVec 1) := do
  sWPT.consume (held c arg6 arg7 arg8 arg9 kc vc s)
  let r ← sWPT.arbitrary
  sWPT.produce (held c arg6 arg7 arg8 arg9 kc vc (iter Ev kc vc k hk a s))
  pure r

theorem spec_apply (Ev : Env F) (kc vc : Vec F S8192x512 .bf16) (k : ℕ) (hk : k ≤ 64) (a : BitVec 1) (s : St F) (K : BitVec 32 × BitVec 1 → sProp 𝕄) :
    spec c arg6 arg7 arg8 arg9 Ev kc vc k hk a s K
      = iprop(held c arg6 arg7 arg8 arg9 kc vc s ∗ ∀ r : BitVec 32 × BitVec 1,
          (held c arg6 arg7 arg8 arg9 kc vc (iter Ev kc vc k hk a s) -∗ K r)) := rfl

/-- The loop's body, entered with `k` key blocks to go, does so. -/
theorem spec_le (kc vc : Vec F S8192x512 .bf16) :
    ∀ (k : ℕ) (hk : k ≤ 64) (a : BitVec 1) (s : St F) (K : BitVec 32 × BitVec 1 → sProp 𝕄),
      spec c arg6 arg7 arg8 arg9 (env i v4 v3 v13 v16 v22 v25 v31 v34 v40 v43 v48) kc vc k hk a s K
      ⊢ wp frame (wpE (defs₀ (F := F)) 𝒱₀ (c : Thread nD τ) (some k)) E
          (defs₀ (F := F) .tc 1 ⟨i, v4, v3, arg6, harg6, v13, v16, v22, v25, v31, v34, v40, v43, v48, arg9, harg9, arg8, harg8, arg7, harg7, BitVec.ofNat 32 k - 1#32, a⟩) K := by
  intro k
  induction k with
  | zero =>
    intro hk a s K
    rw [spec_apply]
    show _ ⊢ wp frame (wpE (defs₀ (F := F)) 𝒱₀ (c : Thread nD τ) (some 0)) E
        (cc0_while1 i v4 v3 arg6 harg6 v13 v16 v22 v25 v31 v34 v40 v43 v48 arg9 harg9 arg8 harg8 arg7 harg7 (BitVec.ofNat 32 0 - 1#32) a) K
    have ht := ends a
    unfold cc0_while1
    simp only [ht, ↓reduceIte, Prog.pure_eq_ret]
    iintro ⟨H, Hk⟩
    rw [wp_ret]; imodintro
    iapply Hk
    simp only [iter]
    iexact H
  | succ k ih =>
    intro hk a s K
    rw [spec_apply, pred_succ ⟨k, hk⟩]
    show _ ⊢ wp frame (wpE (defs₀ (F := F)) 𝒱₀ (c : Thread nD τ) (some (k + 1))) E
        (cc0_while1 i v4 v3 arg6 harg6 v13 v16 v22 v25 v31 v34 v40 v43 v48 arg9 harg9 arg8 harg8 arg7 harg7 (BitVec.ofNat 32 k) a) K
    by_cases ha : a = 1#1
    · subst ha
      iintro ⟨H, Hk⟩
      iapply (trip c i v4 v3 v13 v16 v22 v25 v31 v34 v40 v43 v48 E arg6 harg6 arg7 harg7 arg8 harg8 arg9 harg9 kc vc s ⟨k, hk⟩ (some (k + 1)) K)
      isplitl [H]
      · iexact H
      iintro H
      rw [counts ⟨k, hk⟩]
      simp only [Prog.lift]
      iapply (wp_call_spec 𝒱₀ (c : Thread nD τ) (some (k + 1)) E
        (spec c arg6 arg7 arg8 arg9 (env i v4 v3 v13 v16 v22 v25 v31 v34 v40 v43 v48) kc vc k (by omega) _ _) k
        (fun u hu => by cases hu; exact Nat.lt_succ_self k) (ih (by omega) _ _))
      rw [spec_apply]
      isplitl [H]
      · iexact H
      iintro %r H
      rw [wp_ret]; imodintro
      iapply Hk
      simp only [iter, ↓reduceIte]
      iexact H
    · have ht := stops a ha (Scalar.cmpi .sge (BitVec.ofNat 32 k) 0#32)
      unfold cc0_while1
      simp only [ht, ↓reduceIte, Prog.pure_eq_ret]
      iintro ⟨H, Hk⟩
      rw [wp_ret]; imodintro
      iapply Hk
      simp only [iter, if_neg ha]
      iexact H
end loop

end Cert.KAfwdIdeal.Afwd
-- ==== Proof.Afwd.Body.lean ====
/- The body of one point: what it leaves in its buffers. -/
module

public import proofs.«01_k».proof.Proof.Afwd.Loop
public import Idealize.ShloMosaic.Lib.Transfers

@[expose] public section

noncomputable section

namespace Cert.KAfwdIdeal.Afwd

open Cert.KAfwdIdeal Cert.KAfwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

abbrev hbM : Memref sig .tc .hbm S8192x1536 .bf16 := Memref.whole main_v1
abbrev kM : Memref sig .tc .vmem S8192x512 .bf16 := Memref.whole cc0_scratch0
abbrev vM : Memref sig .tc .vmem S8192x512 .bf16 := Memref.whole cc0_scratch1
abbrev accM : Memref sig .tc .vmem S8x128x128 .f32 := Memref.whole cc0_scratch2
abbrev runM : Memref sig .tc .vmem S8x128x1 .f32 := Memref.whole cc0_scratch3

/-- A buffer in the chip's main memory, held whole. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

theorem off1_eq : ∀ (g : Fin 1) (r : Fin 2), (Scalar.addi (BitVec.ofNat 32 (512 + 512 * r.val)) (Scalar.muli (BitVec.ofNat 32 g.val) 512#32)).toNat = 512 + 512 * r.val := by decide +kernel
instance closed1 (i : grid0.Coords) : ClosedOff (k0_off1 i 512#32) := ⟨![0, 512], congrArg (fun x => ![0, x]) (off1_eq (i 0) 0)⟩
instance closed1' (i : grid0.Coords) : ClosedOff (k0_off1 i 1024#32) := ⟨![0, 1024], congrArg (fun x => ![0, x]) (off1_eq (i 0) 1)⟩

/-- The lanes of one pair of heads. -/
def quarter {V : Type} (x : S128x512.Idx → V) (p : Fin 4) : S128x128.Idx → V :=
  fun y => x (ix2 (y 0 : Fin 128) (⟨128 * p.val + (y 1).val, by have := (y 1).isLt; change _ < 128 at this; show _ < 512; omega⟩ : Fin 512))

/-- The third `b` of the packed array's columns. -/
def slab {V : Type} (b : Fin 3) (x : S8192x1536.Idx → V) : S8192x512.Idx → V :=
  fun y => x (ix2 (y 0 : Fin 8192) (⟨512 * b.val + (y 1).val, by have := (y 1).isLt; change _ < 512 at this; show _ < 1536; omega⟩ : Fin 1536))

theorem readAt_quarter {e : EltTy} (m : Memref sig .tc .vmem S128x512 e) (hm : m.IsWhole) (f : Vec F S128x512 e) (p : Fin 4)
    (inb) : m.view.readAt (Elt F) (Rect.unit (s := S128x512) ![0, 128 * p.val] S128x128.size inb).toLoadRect (hm.unread f) = quarter f p := by
  funext y
  refine (Memref.IsWhole.readAt_unread hm f _ y).trans (congrArg f (funext fun a => Fin.ext ?_))
  match a with
  | 0 => show 0 + 1 * (y 0).val = (y 0).val; omega
  | 1 => exact congrArg (128 * p.val + ·) (Nat.one_mul _)

theorem fetched (b : Fin 3) (f : S8192x1536.Idx → Elt F .bf16) (off : Fin 2 → ℕ) (ho : off = ![0, 512 * b.val])
    (inb : ∀ a, off a + S8192x512.size a ≤ S8192x1536.size a) :
    (fun y => f ((Rect.unit (s := S8192x1536) off S8192x512.size inb).idx y)) = slab b f := by
  subst ho
  funext y
  refine congrArg f (funext fun a => Fin.ext ?_)
  match a with
  | 0 => show 0 + 1 * (y 0).val = (y 0).val; omega
  | 1 => exact congrArg (512 * b.val + ·) (Nat.one_mul _)

/-- A point's fixed values, of the lanes of its queries. -/
def pEnv (i : grid0.Coords) (q : Vec F S128x512 .bf16) : Env F :=
  env i (iota .tc S128x128 32 [1] iota_S128x128_d1_w32) (iota .tc S128x128 32 [0] iota_S128x128_d0_w32)
    (k0_pay11 (quarter q 0)) (k0_pay12 (quarter q 0)) (k0_pay15 (quarter q 1)) (k0_pay16 (quarter q 1)) (k0_pay19 (quarter q 2)) (k0_pay20 (quarter q 2))
    (k0_pay23 (quarter q 3)) (k0_pay25 (k0_pay21 (quarter q 3)) k0_pay22 k0_pay24)
    (k0_pay26 (iota .tc S128x128 32 [0] iota_S128x128_d0_w32) (iota .tc S128x128 32 [1] iota_S128x128_d1_w32))

/-- The buffers of the keys and the values when the loop starts: fetched at the first point. -/
def keys (i : grid0.Coords) (fh : S8192x1536.Idx → Elt F .bf16) (kc : Vec F S8192x512 .bf16) : Vec F S8192x512 .bf16 :=
  if k0_cond1 i = 1#1 then slab 1 fh else kc
def vals (i : grid0.Coords) (fh : S8192x1536.Idx → Elt F .bf16) (vc : Vec F S8192x512 .bf16) : Vec F S8192x512 .bf16 :=
  if k0_cond1 i = 1#1 then slab 2 fh else vc

/-- What the loop leaves. -/
def pIter (i : grid0.Coords) (q : Vec F S128x512 .bf16) (kc vc : Vec F S8192x512 .bf16) : St F :=
  iter (pEnv i q) kc vc ((i 1).val + 1) (i 1).isLt 1#1 ⟨k0_pay27, k0_pay28⟩

/-- Four blocks of lanes side by side. -/
def cols {V : Type} (w : Fin 4 → S128x128.Idx → V) : S128x512.Idx → V := fun y =>
  w ⟨(y 1).val / 128, by have := (y 1).isLt; change _ < 512 at this; omega⟩
    (ix2 (y 0 : Fin 128) (⟨(y 1).val % 128, Nat.mod_lt _ (by decide)⟩ : Fin 128))

/-- The attention's block, -/
def oOut (s : St F) : Vec F S128x512 .f32 :=
  cols ![k0_pay29 k0_pay8 (rowa s.acc 0) (rowa s.acc 1), k0_pay29 k0_pay8 (rowa s.acc 2) (rowa s.acc 3),
    k0_pay29 k0_pay8 (rowa s.acc 4) (rowa s.acc 5), k0_pay29 k0_pay8 (rowa s.acc 6) (rowa s.acc 7)]
/-- and the one rounded. -/
def hOut (s : St F) : Vec F S128x512 .bf16 :=
  cols ![k0_pay30 k0_pay8 (rowa s.acc 0) (rowa s.acc 1), k0_pay30 k0_pay8 (rowa s.acc 2) (rowa s.acc 3),
    k0_pay30 k0_pay8 (rowa s.acc 4) (rowa s.acc 5), k0_pay30 k0_pay8 (rowa s.acc 6) (rowa s.acc 7)]

/-- Four stores side by side leave the four blocks. -/
theorem writes_cols {e : EltTy} (m : Memref sig .tc .vmem S128x512 e) (f) (w0 w1 w2 w3 : S128x128.Idx → Elt F e) (i0 i1 i2 i3) :
    m.view.read (Elt F) (m.view.writes (Elt F) f
      [⟨Rect.unit (s := S128x512) ![0, 384] S128x128.size i3, w3⟩, ⟨Rect.unit (s := S128x512) ![0, 256] S128x128.size i2, w2⟩,
       ⟨Rect.unit (s := S128x512) ![0, 128] S128x128.size i1, w1⟩, ⟨Rect.unit (s := S128x512) ![0, 0] S128x128.size i0, w0⟩]) = cols ![w0, w1, w2, w3] := by
  refine funext fun (y : S128x512.Idx) => ?_
  have hc : (y 1).val < 512 := (y 1).isLt
  unfold cols
  have one : ∀ (b : ℕ) (hb : b < 4) (a : Fin 2), (y 1).val / 128 = b →
      (y a).val = (![0, 128 * b] : Fin 2 → ℕ) a + ((ix2 (y 0 : Fin 128) (⟨(y 1).val % 128, Nat.mod_lt _ (by decide)⟩ : Fin 128) : S128x128.Idx) a).val := by
    intro b hb a h
    match a with
    | 0 => exact (Nat.zero_add _).symm
    | 1 => show (y 1).val = 128 * b + (y 1).val % 128; omega
  by_cases h3 : 384 ≤ (y 1).val
  · have e : (⟨(y 1).val / 128, by omega⟩ : Fin 4) = 3 := Fin.ext (by show (y 1).val / 128 = 3; omega)
    rw [e]
    exact View.read_writes_cons_unit_of_mem m.view f i3 _ _ y _ rfl fun a => one 3 (by omega) a (by omega)
  refine (View.read_writes_cons_unit_of_not_mem m.view f i3 _ _ y rfl 1 (Or.inl (Nat.lt_of_not_le h3))).trans ?_
  by_cases h2 : 256 ≤ (y 1).val
  · have e : (⟨(y 1).val / 128, by omega⟩ : Fin 4) = 2 := Fin.ext (by show (y 1).val / 128 = 2; omega)
    rw [e]
    exact View.read_writes_cons_unit_of_mem m.view f i2 _ _ y _ rfl fun a => one 2 (by omega) a (by omega)
  refine (View.read_writes_cons_unit_of_not_mem m.view f i2 _ _ y rfl 1 (Or.inl (Nat.lt_of_not_le h2))).trans ?_
  by_cases h1 : 128 ≤ (y 1).val
  · have e : (⟨(y 1).val / 128, by omega⟩ : Fin 4) = 1 := Fin.ext (by show (y 1).val / 128 = 1; omega)
    rw [e]
    exact View.read_writes_cons_unit_of_mem m.view f i1 _ _ y _ rfl fun a => one 1 (by omega) a (by omega)
  refine (View.read_writes_cons_unit_of_not_mem m.view f i1 _ _ y rfl 1 (Or.inl (Nat.lt_of_not_le h1))).trans ?_
  have e : (⟨(y 1).val / 128, by omega⟩ : Fin 4) = 0 := Fin.ext (by show (y 1).val / 128 = 0; omega)
  rw [e]
  exact View.read_writes_cons_unit_of_mem m.view f i0 _ _ y _ rfl fun a => one 0 (by omega) a (by omega)

section run
variable (c : Dev nD) (i : grid0.Coords)
    (arg2 : Memref sig .tc .vmem S128x512 .bf16) (harg2 : arg2.IsWhole) (arg4 : Memref sig .tc .vmem S128x512 .bf16) (harg4 : arg4.IsWhole)
    (arg5 : Memref sig .tc .vmem S128x512 .f32) (harg5 : arg5.IsWhole)
    (x2 : Vec F S128x512 .bf16) (kc vc : Vec F S8192x512 .bf16)
    (fh : Buf (Elt F) (hbM.view.loc (c : Thread nD τ)))

/-- What is carried from point to point. -/
def kept (c : Dev nD) (kc vc : Vec F S8192x512 .bf16) : sProp 𝕄 :=
  iprop(owns (c : Thread nD τ) kM fullShare kc ∗ owns (c : Thread nD τ) vM fullShare vc)

/-- The copies' semaphores, at rest. -/
def rest (c : Dev nD) : sProp 𝕄 := iprop(semVal ((c : Thread nD τ), SemLoc.dma 6) 0 ∗ semVal ((c : Thread nD τ), SemLoc.dma 7) 0)

/-- A whole buffer held at `v`, as its location at the contents that read `v`, -/
theorem owns_unread {sp : Space} {S : Shape} {e : EltTy} (m : Memref sig .tc sp S e) (hm : m.IsWhole) (v : S.Idx → Elt F e) :
    (owns (c : Thread nD τ) m fullShare v : sProp 𝕄) ⊢ (m.view.loc (c : Thread nD τ) ↦[m.view.set]{fullShare} hm.unread v) := by
  unfold owns
  iintro ⟨%f, %h, H⟩
  obtain rfl := hm.eq_unread h
  iexact H

/-- and back, from any contents that read `v`. -/
theorem owns_of_read {sp : Space} {S : Shape} {e : EltTy} (m : Memref sig .tc sp S e) (v : S.Idx → Elt F e) (X) :
    (iprop((m.view.loc (c : Thread nD τ) ↦[m.view.set]{fullShare} X) ∗ ⌜m.view.read (Elt F) X = v⌝) : sProp 𝕄) ⊢ owns (c : Thread nD τ) m fullShare v := by
  iintro ⟨H, %h⟩
  unfold owns
  iexists X
  isplitr
  · ipureintro; exact h
  · iexact H

/-- A buffer written over whole reads what was written. -/
theorem read_over {sp : Space} {S : Shape} {e : EltTy} (m : Memref sig .tc sp S e) (f) (off : Fin S.rank → ℕ) (h0 : ∀ a, off a = 0) (inb) (w : S.Idx → Elt F e) :
    m.view.read (Elt F) (m.view.writes (Elt F) f [⟨Rect.unit off S.size inb, w⟩]) = w :=
  funext fun y => View.read_writes_cons_unit_of_mem m.view f inb w [] y y rfl (fun a => by rw [h0 a]; exact (Nat.zero_add _).symm)

/-- A point's working buffers, at anything. -/
def spare (c : Dev nD) : sProp 𝕄 :=
  iprop((∃ d : Vec F S8x128x128 .f32, owns (c : Thread nD τ) accM fullShare d) ∗ (∃ d : Vec F S8x128x1 .f32, owns (c : Thread nD τ) runM fullShare d))

include harg2 in
/-- The point's first part: the first point fetches the keys and the values. -/
theorem part1_run (W : Waits sig Unit) (K) :
    iprop(owns (c : Thread nD τ) arg2 fullShare x2 ∗ kept c kc vc ∗ rest c ∗ hbPt c hbM fh ∗ owes (c : Thread nD τ) 0 W
      ∗ (owns (c : Thread nD τ) arg2 fullShare x2 -∗ kept c (keys i fh kc) (vals i fh vc) -∗ rest c -∗ hbPt c hbM fh
          -∗ (∃ W', owes (c : Thread nD τ) 0 W')
          -∗ K ⟨BitVec.ofNat 32 (i 1).val, iota .tc S128x128 32 [0] iota_S128x128_d0_w32, iota .tc S128x128 32 [1] iota_S128x128_d1_w32,
              k0_pay8, k0_pay11 (quarter x2 0), k0_pay12 (quarter x2 0), k0_pay15 (quarter x2 1), k0_pay16 (quarter x2 1), k0_pay19 (quarter x2 2), k0_pay20 (quarter x2 2),
              k0_pay21 (quarter x2 3), k0_pay22 (F := F), k0_pay23 (quarter x2 3), k0_pay24⟩))
    ⊢ wp frame (wpE (defs₀ (F := F)) 𝒱₀ (c : Thread nD τ) none) Set.univ
        (k0_part1 i arg2 harg2 hbM (Memref.isWhole_whole _) arg4 harg4 arg5 harg5
          kM (Memref.isWhole_whole _) vM (Memref.isWhole_whole _) accM (Memref.isWhole_whole _) runM (Memref.isWhole_whole _) cc0_scratch4) K := by
  simp only [k0_part1_eq_skeleton]; unfold k0_part1_skel
  have hl0 := readAt_quarter arg2 harg2 x2 0 inb_S128x512_S128x128_0_0
  have hl1 := readAt_quarter arg2 harg2 x2 1 inb_S128x512_S128x128_0_128
  have hl2 := readAt_quarter arg2 harg2 x2 2 inb_S128x512_S128x128_0_256
  have hl3 := readAt_quarter arg2 harg2 x2 3 inb_S128x512_S128x128_0_384
  iintro ⟨H2, Hkp, Hr, Hh, HW, HK⟩
  unfold rest
  icases Hr with ⟨Hq0, Hq1⟩
  ihave H2 := (owns_unread c arg2 harg2 x2) $$ H2
  unfold kept
  icases Hkp with ⟨H9, H10⟩
  ihave H9 := (owns_unread c kM (Memref.isWhole_whole _) kc) $$ H9
  ihave H10 := (owns_unread c vM (Memref.isWhole_whole _) vc) $$ H10
  by_cases h1 : k0_cond1 i = 1#1
  · sl_exec!
    unfold part1_run.sl.v3 part1_run.sl.v4
    rw [wp_ret]; imodintro
    iapply HK $$ [H2] [H9 H10] [Hq0 Hq1] [Hh] [HW]
    · iapply (owns_of_read c arg2 x2) $$ [H2]
      isplitl [H2]
      · iexact H2
      · ipureintro; exact harg2.read_unread x2
    · isplitl [H9]
      · iapply (owns_of_read c kM (keys i fh kc)) $$ [H9]
        isplitl [H9]
        · iexact H9
        · ipureintro; rw [keys, if_pos h1]; exact (read_over kM _ _ (fun _ => rfl) _ _).trans (fetched 1 fh _ (closed1 i).2 _)
      · iapply (owns_of_read c vM (vals i fh vc)) $$ [H10]
        isplitl [H10]
        · iexact H10
        · ipureintro; rw [vals, if_pos h1]; exact (read_over vM _ _ (fun _ => rfl) _ _).trans (fetched 2 fh _ (closed1' i).2 _)
    · isplitl [Hq0]
      · iexact Hq0
      · iexact Hq1
    · iexact Hh
    · iexists _; iexact HW
  · sl_exec!
    unfold part1_run.sl.v3_1 part1_run.sl.v4_1
    rw [wp_ret]; imodintro
    iapply HK $$ [H2] [H9 H10] [Hq0 Hq1] [Hh] [HW]
    · iapply (owns_of_read c arg2 x2) $$ [H2]
      isplitl [H2]
      · iexact H2
      · ipureintro; exact harg2.read_unread x2
    · isplitl [H9]
      · iapply (owns_of_read c kM (keys i fh kc)) $$ [H9]
        isplitl [H9]
        · iexact H9
        · ipureintro; rw [keys, if_neg h1]; exact Memref.IsWhole.read_unread _ _
      · iapply (owns_of_read c vM (vals i fh vc)) $$ [H10]
        isplitl [H10]
        · iexact H10
        · ipureintro; rw [vals, if_neg h1]; exact Memref.IsWhole.read_unread _ _
    · isplitl [Hq0]
      · iexact Hq0
      · iexact Hq1
    · iexact Hh
    · iexists _; iexact HW

set_option maxRecDepth 16384 in
set_option maxHeartbeats 600000 in
include harg2 harg4 harg5 in
/-- The body of a point. -/
theorem kernelRun (W : Waits sig Unit) (K : PUnit → sProp 𝕄) :
    iprop(owns (c : Thread nD τ) arg2 fullShare x2 ∗ (∃ d, owns (c : Thread nD τ) arg4 fullShare d) ∗ (∃ d, owns (c : Thread nD τ) arg5 fullShare d)
      ∗ kept c kc vc ∗ spare c ∗ rest c ∗ hbPt c hbM fh ∗ owes (c : Thread nD τ) 0 W
      ∗ (owns (c : Thread nD τ) arg2 fullShare x2
          -∗ owns (c : Thread nD τ) arg4 fullShare (hOut (pIter i x2 (keys i fh kc) (vals i fh vc)))
          -∗ owns (c : Thread nD τ) arg5 fullShare (oOut (pIter i x2 (keys i fh kc) (vals i fh vc)))
          -∗ kept c (keys i fh kc) (vals i fh vc) -∗ spare c -∗ rest c -∗ hbPt c hbM fh
          -∗ (∃ W', owes (c : Thread nD τ) 0 W') -∗ K ⟨⟩))
    ⊢ wp frame (wpE (defs₀ (F := F)) 𝒱₀ (c : Thread nD τ) none) Set.univ
        (cc0_attn_fwd i arg2 harg2 hbM (Memref.isWhole_whole _) arg4 harg4 arg5 harg5
          kM (Memref.isWhole_whole _) vM (Memref.isWhole_whole _) accM (Memref.isWhole_whole _) runM (Memref.isWhole_whole _) cc0_scratch4) K := by
  simp only [cc0_attn_fwd_eq_skeleton]; unfold cc0_attn_fwd_skel
  simp only [k0_part2_eq_skeleton]
  generalize hS : pIter i x2 (keys i fh kc) (vals i fh vc) = s
  rw [wp_bind]
  iintro ⟨H2, ⟨%d4, H4⟩, ⟨%d5, H5⟩, Hkp, Hsp, Hr, Hh, HW, HK⟩
  iapply (part1_run c i arg2 harg2 arg4 harg4 arg5 harg5 x2 kc vc fh W _)
  isplitl [H2]
  · iexact H2
  isplitl [Hkp]
  · iexact Hkp
  isplitl [Hr]
  · iexact Hr
  isplitl [Hh]
  · iexact Hh
  isplitl [HW]
  · iexact HW
  iintro H2 Hkp Hr Hh ⟨%W1, HW⟩
  have hsp : (spare c : sProp 𝕄) = iprop((∃ d : Vec F S8x128x128 .f32, owns (c : Thread nD τ) accM fullShare d) ∗ (∃ d : Vec F S8x128x1 .f32, owns (c : Thread nD τ) runM fullShare d)) := rfl
  ihave H4 := (owns_unread c arg4 harg4 d4) $$ H4
  ihave H5 := (owns_unread c arg5 harg5 d5) $$ H5
  ihave Hsp := (show _ ⊢ _ from .of_eq hsp) $$ Hsp
  icases Hsp with ⟨⟨%d13, H13⟩, ⟨%d14, H14⟩⟩
  ihave H13 := (owns_unread c accM (Memref.isWhole_whole _) d13) $$ H13
  ihave H14 := (owns_unread c runM (Memref.isWhole_whole _) d14) $$ H14
  sl_exec!
  ihave Hl : held c kM vM accM runM (keys i fh kc) (vals i fh vc) (⟨k0_pay27, k0_pay28⟩ : St F) $$ [Hkp H13 H14]
  · unfold kept held
    icases Hkp with ⟨H9, H10⟩
    isplitl [H9]
    · iexact H9
    isplitl [H10]
    · iexact H10
    isplitl [H13]
    · iapply (owns_of_read c accM k0_pay27) $$ [H13]
      isplitl [H13]
      · iexact H13
      · ipureintro; unfold kernelRun.sl.H13_1; exact read_over accM _ _ (by decide) _ _
    · iapply (owns_of_read c runM k0_pay28) $$ [H14]
      isplitl [H14]
      · iexact H14
      · ipureintro; unfold kernelRun.sl.H14_1; exact read_over runM _ _ (by decide) _ _
  have hle : (i 1).val + 1 ≤ 64 := (i 1).isLt
  rw [← pred_succ (i 1)]
  iapply (wp_call_spec 𝒱₀ (c : Thread nD τ) none Set.univ
    (spec c kM vM accM runM (pEnv i x2) (keys i fh kc) (vals i fh vc) ((i 1).val + 1) hle 1#1 ⟨k0_pay27, k0_pay28⟩)
    ((i 1).val + 1) (fun u hu => by cases hu)
    (spec_le c i _ _ _ _ _ _ _ _ _ _ _ Set.univ kM (Memref.isWhole_whole _) vM (Memref.isWhole_whole _)
      accM (Memref.isWhole_whole _) runM (Memref.isWhole_whole _) (keys i fh kc) (vals i fh vc) ((i 1).val + 1) hle 1#1 ⟨k0_pay27, k0_pay28⟩))
  rw [spec_apply]
  isplitl [Hl]
  · iexact Hl
  iintro %r Hl
  have hS' : iter (pEnv i x2) (keys i fh kc) (vals i fh vc) ((i 1).val + 1) hle 1#1 ⟨k0_pay27, k0_pay28⟩ = s := hS
  rw [hS']
  obtain ⟨r1, r2⟩ := r
  dsimp only
  have hr0 := readAt_rowa accM (Memref.isWhole_whole _) s.acc 0 inb_S8x128x128_S1x128x128_0_0_0
  have hr1 := readAt_rowa accM (Memref.isWhole_whole _) s.acc 1 inb_S8x128x128_S1x128x128_1_0_0
  have hr2 := readAt_rowa accM (Memref.isWhole_whole _) s.acc 2 inb_S8x128x128_S1x128x128_2_0_0
  have hr3 := readAt_rowa accM (Memref.isWhole_whole _) s.acc 3 inb_S8x128x128_S1x128x128_3_0_0
  have hr4 := readAt_rowa accM (Memref.isWhole_whole _) s.acc 4 inb_S8x128x128_S1x128x128_4_0_0
  have hr5 := readAt_rowa accM (Memref.isWhole_whole _) s.acc 5 inb_S8x128x128_S1x128x128_5_0_0
  have hr6 := readAt_rowa accM (Memref.isWhole_whole _) s.acc 6 inb_S8x128x128_S1x128x128_6_0_0
  have hr7 := readAt_rowa accM (Memref.isWhole_whole _) s.acc 7 inb_S8x128x128_S1x128x128_7_0_0
  ihave Hl := (held_open c kM (Memref.isWhole_whole _) vM (Memref.isWhole_whole _) accM (Memref.isWhole_whole _) runM (Memref.isWhole_whole _)
      (keys i fh kc) (vals i fh vc) s) $$ Hl
  icases Hl with ⟨H9, H10, H13, H14⟩
  unfold rest
  icases Hr with ⟨Hq0, Hq1⟩
  sl_exec!
  rw [wp_ret]; imodintro
  iapply HK $$ [H2] [H4] [H5] [H9 H10] [H13 H14] [Hq0 Hq1] [Hh] [HW]
  · iexact H2
  · iapply (owns_of_read c arg4 (hOut s)) $$ [H4]
    isplitl [H4]
    · iexact H4
    · ipureintro; unfold kernelRun.sl.H4_4; exact writes_cols arg4 _ _ _ _ _ _ _ _ _
  · iapply (owns_of_read c arg5 (oOut s)) $$ [H5]
    isplitl [H5]
    · iexact H5
    · ipureintro; unfold kernelRun.sl.H5_4; exact writes_cols arg5 _ _ _ _ _ _ _ _ _
  · unfold kept
    isplitl [H9]
    · iapply (owns_of_read c kM (keys i fh kc)) $$ [H9]
      isplitl [H9]
      · iexact H9
      · ipureintro; exact Memref.IsWhole.read_unread _ _
    · iapply (owns_of_read c vM (vals i fh vc)) $$ [H10]
      isplitl [H10]
      · iexact H10
      · ipureintro; exact Memref.IsWhole.read_unread _ _
  · iapply (show _ ⊢ _ from .of_eq hsp.symm)
    isplitl [H13]
    · iexists s.acc; iapply (owns_of_read c accM (s.acc)) $$ [H13]
      isplitl [H13]
      · iexact H13
      · ipureintro; exact Memref.IsWhole.read_unread _ _
    · iexists s.run; iapply (owns_of_read c runM (s.run)) $$ [H14]
      isplitl [H14]
      · iexact H14
      · ipureintro; exact Memref.IsWhole.read_unread _ _
  · isplitl [Hq0]
    · iexact Hq0
    · iexact Hq1
  · iexact Hh
  · iexists _; iexact HW
end run

end Cert.KAfwdIdeal.Afwd
-- ==== Proof.Afwd.Point.lean ====
/- What a grid point fixes for its loop, and what the loop leaves, when the arrays hold real numbers. -/
module

public import proofs.«01_k».proof.Proof.Afwd.Trips
public import proofs.«01_k».proof.Proof.Afwd.Body

@[expose] public section

set_option maxRecDepth 16384

noncomputable section

namespace Cert.KAfwdIdeal.Afwd

open Cert.KAfwdIdeal Cert.KAfwdIdeal.Gen Cert.Attn
open Idealize.ShloMosaic Idealize.ShloMosaic.TcCoe Idealize.ShloMosaic.WordCmp

section pure
variable (x : Vec Ideal S128x128 .bf16) (a l : Fin 128)

theorem pay11 : k0_pay11 (F := Ideal) x (ix2 a l) = if l.val < 64 then x (ix2 a l) else 0 := by
  pointwise [k0_pay11, k0_pay8, k0_pay9, k0_pay10]
  exact lanes l _ _
theorem pay12 : k0_pay12 (F := Ideal) x (ix2 a l) = if l.val < 64 then 0 else x (ix2 a l) := by
  pointwise [k0_pay12, k0_pay8, k0_pay9, k0_pay10]
  exact lanes l _ _
theorem pay15 : k0_pay15 (F := Ideal) x (ix2 a l) = if l.val < 64 then x (ix2 a l) else 0 := by
  pointwise [k0_pay15, k0_pay8, k0_pay13, k0_pay14]
  exact lanes l _ _
theorem pay16 : k0_pay16 (F := Ideal) x (ix2 a l) = if l.val < 64 then 0 else x (ix2 a l) := by
  pointwise [k0_pay16, k0_pay8, k0_pay13, k0_pay14]
  exact lanes l _ _
theorem pay19 : k0_pay19 (F := Ideal) x (ix2 a l) = if l.val < 64 then x (ix2 a l) else 0 := by
  pointwise [k0_pay19, k0_pay8, k0_pay17, k0_pay18]
  exact lanes l _ _
theorem pay20 : k0_pay20 (F := Ideal) x (ix2 a l) = if l.val < 64 then 0 else x (ix2 a l) := by
  pointwise [k0_pay20, k0_pay8, k0_pay17, k0_pay18]
  exact lanes l _ _
theorem pay23 : k0_pay23 (F := Ideal) x (ix2 a l) = if l.val < 64 then x (ix2 a l) else 0 := by
  pointwise [k0_pay23, k0_pay8, k0_pay21, k0_pay22]
  exact lanes l _ _
theorem pay25 : k0_pay25 (F := Ideal) (k0_pay21 x) k0_pay22 k0_pay24 (ix2 a l) = if l.val < 64 then 0 else x (ix2 a l) := by
  pointwise [k0_pay25, k0_pay8, k0_pay21, k0_pay22, k0_pay24]
  exact lanes l _ _
theorem pay26 : k0_pay26 (F := Ideal) (iota .tc S128x128 32 [0] iota_S128x128_d0_w32) (iota .tc S128x128 32 [1] iota_S128x128_d1_w32) (ix2 a l)
    = (((if l < a then 1 else 0 : ℝ)) : EReal) := by
  pointwise [k0_pay26]
  rw [← EReal.coe_one, sel_coe0 _ (l < a) ((cmpi_sgt_ofNat_eq_one_iff (by omega) (by omega)).trans Fin.lt_def.symm)]
theorem pay32 (n m : Fin 64) (hn : n ≤ m) :
    k0_pay32 (iota .tc S128x128 32 [1] iota_S128x128_d1_w32) (iota .tc S128x128 32 [0] iota_S128x128_d0_w32)
      (BitVec.ofNat 32 n.val) (BitVec.ofNat 32 m.val) (ix2 a l) = 1#1 ↔ n < m ∨ l < a := by
  pointwise [k0_pay32]
  have e : ∀ x y : BitVec 1, IntOp.ori x y = 1#1 ↔ x = 1#1 ∨ y = 1#1 := by decide
  rw [e]
  refine or_congr ?_ ((cmpi_slt_ofNat_eq_one_iff (by omega) (by omega)).trans Fin.lt_def.symm)
  show IntOp.cmpi .ne (BitVec.ofNat 32 n.val) (BitVec.ofNat 32 m.val) = 1#1 ↔ _
  rw [cmpi_ne_ofNat (by omega) (by omega), ofBool_decide_eq_one_iff, Fin.lt_def]; have := Fin.le_def.mp hn; omega

end pure

/-- Which half of its pair's lanes a head has. -/
abbrev side (h : Fin 8) : Fin 2 := ![0, 1, 0, 1, 0, 1, 0, 1] h

theorem lane_col : ∀ (h : Fin 8) (d : Fin 64), lane (pr h) ⟨64 * (side h).val + d.val, by have := (side h).isLt; omega⟩ = col h d := by
  intro h d
  apply Fin.ext
  show 128 * (pr h).val + (64 * (side h).val + d.val) = 64 * h.val + d.val
  have : 128 * (pr h).val + 64 * (side h).val = 64 * h.val := by revert h; decide
  omega

/-- A head's lanes of a row. -/
def masked (m : Fin 64) (X : Mat) (h : Fin 8) (a l : Fin 128) : ℝ :=
  if l.val / 64 = (side h).val then X (blk m a) (lane (pr h) l) else 0

theorem sum_masked (m : Fin 64) (X : Mat) (Y : Fin 512 → ℝ) (h : Fin 8) (a : Fin 128) :
    ∑ l, masked m X h a l * Y (lane (pr h) l) = ∑ d, X (blk m a) (col h d) * Y (col h d) := by
  simp only [masked, ite_mul, zero_mul]
  rw [sum_side]
  exact Finset.sum_congr rfl fun d _ => by rw [lane_col]

/-- Every column is a lane of a pair. -/
theorem lane_eq (c : Fin 512) : c = lane ⟨c.val / 128, by omega⟩ ⟨c.val % 128, by omega⟩ := Fin.ext (by simp only [lane]; omega)

section point

variable (m : Fin 64) (Q K V : Mat) (i : grid0.Coords) (hi1 : i 1 = m) (q : Vec Ideal S128x512 .bf16)
  (hq : ∀ (r : Fin 128) (c : Fin 512), q (ix2 r c) = ((Q (blk m r) c : ℝ) : EReal))

theorem quarter_at {V : Type} (x : S128x512.Idx → V) (p : Fin 4) (r l : Fin 128) : quarter x p (ix2 r l) = x (ix2 r (lane p l)) := rfl

theorem Z_score (h : Fin 8) (r : Fin 128) : Z (masked m Q) K h r = score Q K h (blk m r) :=
  funext fun s => congrArg (· * (1 / 8 : ℝ)) (sum_masked m Q (K s) h r)

include hq in
theorem q_masked (h : Fin 8) (r l : Fin 128) : (pEnv i q).q h (ix2 r l) = ((masked m Q h r l : ℝ) : EReal) := by
  match h with
  | 0 => exact (pay11 _ r l).trans (by rw [quarter_at, hq, pos_lt]; rfl)
  | 1 => exact (pay12 _ r l).trans (by rw [quarter_at, hq, neg_lt]; rfl)
  | 2 => exact (pay15 _ r l).trans (by rw [quarter_at, hq, pos_lt]; rfl)
  | 3 => exact (pay16 _ r l).trans (by rw [quarter_at, hq, neg_lt]; rfl)
  | 4 => exact (pay19 _ r l).trans (by rw [quarter_at, hq, pos_lt]; rfl)
  | 5 => exact (pay20 _ r l).trans (by rw [quarter_at, hq, neg_lt]; rfl)
  | 6 => exact (pay23 _ r l).trans (by rw [quarter_at, hq, pos_lt]; rfl)
  | 7 => exact (pay25 _ r l).trans (by rw [quarter_at, hq, neg_lt]; rfl)

variable (kc vc : Vec Ideal S8192x512 .bf16) (hk : ∀ (s : Fin 8192) (c : Fin 512), kc (ix2 s c) = ((K s c : ℝ) : EReal))
  (hv : ∀ (s : Fin 8192) (c : Fin 512), vc (ix2 s c) = ((V s c : ℝ) : EReal))

include hi1 hq hk hv in
theorem fixed : Fixed m (masked m Q) K V (pEnv i q) kc vc where
  vd n hn r l := by
    subst hi1
    refine (pay32 r l n (i 1) hn).trans ?_
    have h1 : n.val ≤ (i 1).val := hn
    constructor
    · rintro (h | h)
      · have h2 : n.val < (i 1).val := h
        exact Fin.lt_def.mpr (show 128 * n.val + l.val < 128 * (i 1).val + r.val by omega)
      · have h2 : l.val < r.val := h
        exact Fin.lt_def.mpr (show 128 * n.val + l.val < 128 * (i 1).val + r.val by omega)
    · intro h
      have h2 : 128 * n.val + l.val < 128 * (i 1).val + r.val := h
      rcases Nat.lt_or_ge n.val (i 1).val with h3 | h3
      · exact Or.inl h3
      · exact Or.inr (show l.val < r.val by omega)
  q := q_masked m Q i q hq
  tl := pay26
  kc := hk
  vc := hv

/-- Nothing is done before the last block. -/
theorem start (qr : Fin 8 → Tile) : Done m qr K V (m.val + 1) ⟨k0_pay27 (F := Ideal), k0_pay28 (F := Ideal)⟩ where
  run h r := by
    rw [since_eq_zero _ _ fun s hs => keep_of_le _ (Fin.le_def.mpr (show 128 * m.val + r.val ≤ s.val by omega))]
    show k0_pay28 (F := Ideal) (ix3 h r 0) = _
    pointwise [k0_pay28]
    exact EReal.coe_zero.symm
  acc h r l := by
    rw [since_eq_zero _ _ fun s hs => by
      rw [wt, weight_of_le _ (Fin.le_def.mpr (show 128 * m.val + r.val ≤ s.val by omega)), zero_mul]]
    show k0_pay27 (F := Ideal) (ix3 h r l) = _
    pointwise [k0_pay27]
    exact EReal.coe_zero.symm

theorem pay29 (u w : Vec Ideal S1x128x128 .f32) (r l : Fin 128) :
    k0_pay29 (F := Ideal) k0_pay8 u w (ix2 r l) = if l.val < 64 then u (ix3 0 r l) else w (ix3 0 r l) := by
  pointwise [k0_pay29, k0_pay8]
  exact lanes l _ _

include hi1 hq hk hv in
/-- What a point's loop leaves. -/
theorem point : Done m (masked m Q) K V 0 (pIter i q kc vc) := by
  have H := fixed m Q K V i hi1 q hq kc vc hk hv
  subst hi1
  exact Done.iter H _ (i 1).isLt le_rfl _ (start (i 1) K V _)

section results
variable {m Q K V} {s : St Ideal} (hs : Done m (masked m Q) K V 0 s)

include hs in
theorem acc_row (h : Fin 8) (r l : Fin 128) : s.acc (ix3 h r l) = ((∑ k, wgt Q K h (blk m r) k * V k (lane (pr h) l) : ℝ) : EReal) := by
  rw [hs.acc, since_zero]
  simp only [wt, Z_score, wgt]

include hs in
/-- The two heads of a pair side by side. -/
theorem pair_at (p : Fin 4) (h0 h1 : Fin 8) (e0 : h0.val = 2 * p.val) (e1 : h1.val = 2 * p.val + 1) (r l : Fin 128) :
    k0_pay29 (F := Ideal) k0_pay8 (rowa s.acc h0) (rowa s.acc h1) (ix2 r l) = ((att Q K V (blk m r) (lane p l) : ℝ) : EReal) := by
  have hp : ∀ (p : Fin 4) (h : Fin 8), h.val / 2 = p.val → pr h = p := by decide
  refine (pay29 _ _ r l).trans ?_
  unfold att
  by_cases h : l.val < 64
  · have e : head (lane p l) = h0 := Fin.ext (show (128 * p.val + l.val) / 64 = _ by omega)
    rw [if_pos h, e]
    refine (acc_row hs h0 r l).trans ?_
    rw [hp p h0 (by omega)]
  · have e : head (lane p l) = h1 := Fin.ext (show (128 * p.val + l.val) / 64 = _ by omega)
    rw [if_neg h, e]
    refine (acc_row hs h1 r l).trans ?_
    rw [hp p h1 (by omega)]

theorem cols_at {U : Type} (w : Fin 4 → S128x128.Idx → U) (p : Fin 4) (r l : Fin 128) : cols w (ix2 r (lane p l)) = w p (ix2 r l) := by
  have e1 : ((lane p l).val / 128) = p.val := by show (128 * p.val + l.val) / 128 = _; omega
  have e2 : ((lane p l).val % 128) = l.val := by show (128 * p.val + l.val) % 128 = _; omega
  show w ⟨(lane p l).val / 128, _⟩ (ix2 r (⟨(lane p l).val % 128, _⟩ : Fin 128)) = _
  simp only [e1, e2]

include hs in
theorem oOut_at (r : Fin 128) (c : Fin 512) : oOut s (ix2 r c) = ((att Q K V (blk m r) c : ℝ) : EReal) := by
  rw [lane_eq c, oOut, cols_at]
  generalize (⟨c.val / 128, _⟩ : Fin 4) = p
  match p with
  | 0 => exact pair_at hs 0 0 1 rfl rfl r _
  | 1 => exact pair_at hs 1 2 3 rfl rfl r _
  | 2 => exact pair_at hs 2 4 5 rfl rfl r _
  | 3 => exact pair_at hs 3 6 7 rfl rfl r _

include hs in
theorem hOut_at (r : Fin 128) (c : Fin 512) : hOut s (ix2 r c) = ((att Q K V (blk m r) c : ℝ) : EReal) := oOut_at hs r c

end results

end point

end Cert.KAfwdIdeal.Afwd
-- ==== Proof.Afwd.Frame.lean ====
/- The run of the attention: the points in order, the launch, and what the run leaves. -/
module

public import proofs.«01_k».proof.Proof.Afwd.Body
public import proofs.«01_k».proof.Proof.Gen.KAfwdIdeal.Launch
public import proofs.«01_k».proof.Proof.Gen.KAfwdIdeal.Points
public import Idealize.ShloMosaic.Lib.Pipeline.FrameBody
public import Idealize.ShloMosaic.Lib.Pipeline.FrameValue

@[expose] public section

set_option maxRecDepth 16384

noncomputable section

namespace Cert.KAfwdIdeal.Afwd

open Cert.KAfwdIdeal Cert.KAfwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## What the region finds -/

/-- The host's stretch before the region. -/
abbrev before : List (List (HloOp τ sig (Elt F))) := [hostOps0]

/-- A buffer as the region finds it. -/
abbrev V (c : Dev nD) (b : Ref sig .tc) : Buf (Elt F) ((c : Thread nD τ).loc b) :=
  StableHlo.after before.flatten (fun b => m (c, b)) (Proc.devRef .tc b)

theorem hostOps0_fresh : (hostOps0 : List (HloOp τ sig (Elt F))).Forall fun op => op.fresh = ∅ := by
  simp only [List.Forall]; repeat' constructor

theorem hmain : Pipeline.HMain (Ix := Unit) (Name := ℕ) (U := UD sig nD τ) (Lvl := ℕ) cfgs 0 defs₀ 𝒱₀ m (main (F := F)) (V m) :=
  Pipeline.hmain_prefixes cfgs 0 defs₀ 𝒱₀ m main before (by simp only [List.Forall]; exact hostOps0_sub) (by simp only [List.Forall]; exact hostOps0_fresh) main_chain

/-- The block of window `w` at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The points in order -/

/-- The packed array of queries, keys and values. -/
abbrev kv (c : Dev nD) : S8192x1536.Idx → Elt F .bf16 := V m c main_v1

/-- What the loop of point `t` leaves. -/
def stAt (c : Dev nD) (t : Fin grid0.N) : St F := pIter (grid0.coords t) (iblk m c 0 t) (slab 1 (kv m c)) (slab 2 (kv m c))

theorem cond1_iff : ∀ t : Fin grid0.N, k0_cond1 (grid0.coords t) = 1#1 ↔ t.val = 0 := by decide +kernel

/-- What the carried buffers hold before point `n`. -/
def Carried (c : Dev nD) (n : ℕ) (kc vc : Vec F S8192x512 .bf16) : Prop := n ≠ 0 → kc = slab 1 (kv m c) ∧ vc = slab 2 (kv m c)

theorem carried_keys {c : Dev nD} {t : Fin grid0.N} {kc vc} (h : Carried m c t.val kc vc) :
    keys (grid0.coords t) (kv m c) kc = slab 1 (kv m c) ∧ vals (grid0.coords t) (kv m c) vc = slab 2 (kv m c) := by
  unfold keys vals
  by_cases h1 : k0_cond1 (grid0.coords t) = 1#1
  · rw [if_pos h1, if_pos h1]; exact ⟨rfl, rfl⟩
  · rw [if_neg h1, if_neg h1]; exact h fun e => h1 ((cond1_iff t).mpr e)

/-- What holds before point `n`. -/
def Inv (c : Dev nD) (n : ℕ) : sProp 𝕄 :=
  iprop((∃ kc vc, kept c kc vc ∗ ⌜Carried m c n kc vc⌝) ∗ spare c ∗ (∃ r, prngReg c r) ∗ rest c ∗ hbPt c hbM (V m c main_v1))

/-! ## The proof data -/

def dats (_ : Fin 1) (c : Dev nD) : Dat τ (Elt F) Unit ℕ (UD sig nD τ) ℕ (cfg0 (F := F)) c where
  A w := V m c (Pipeline.arrRef spec0 w)
  after w t := match w with
    | ⟨0, _⟩ => iblk m c 0 t
    | ⟨1, _⟩ => hOut (stAt m c t)
    | ⟨2, _⟩ => oOut (stAt m c t)
    | ⟨_ + 3, h⟩ => absurd h (Nat.not_lt.2 (Nat.le_add_left _ _))
  Φ t := Inv m c t.val
  q _ := fullShare
  owed _ := 0

theorem A_eq (c : Dev nD) (w : Fin (cfg0 (F := F)).W) : (dats m 0 c).A w = V m c (Pipeline.arrRef spec0 w) := by dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = hOut (stAt m c t) := by dsimp only [dats]; rfl
theorem after0_2 (c : Dev nD) (t : Fin (cfg0 (F := F)).N) : (dats m 0 c).after 2 t = oOut (stAt m c t) := by dsimp only [dats]; rfl

theorem Phi_eq (c : Dev nD) (t) : (dats m 0 c).Φ t = Inv m c t.val := by dsimp only [dats]

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- The body at point `t`, from what the points before it left. -/
theorem sound_body (c : Dev nD) (t : Fin (cfg0 (F := F)).N) :
    iprop((dats m 0 c).Φ t.castSucc ∗ (dats m 0 c).owesAt () t.castSucc
      ∗ (∃ d, owns (c : Thread nD τ) (st0_0 (F := F) t) fullShare ((dats m 0 c).before 0 t d))
      ∗ (∃ d, owns (c : Thread nD τ) (st0_1 (F := F) t) fullShare ((dats m 0 c).before 1 t d))
      ∗ (∃ d, owns (c : Thread nD τ) (st0_2 (F := F) t) fullShare ((dats m 0 c).before 2 t d)))
    ⊢ wp frame (wpE (defs₀ (F := F)) 𝒱₀ c none) Set.univ (bodyAt0 t) (fun _ =>
      iprop((dats m 0 c).Φ t.succ ∗ (dats m 0 c).owesAt () t.succ
        ∗ owns (c : Thread nD τ) (st0_0 (F := F) t) fullShare ((dats m 0 c).after 0 t)
        ∗ owns (c : Thread nD τ) (st0_1 (F := F) t) fullShare ((dats m 0 c).after 1 t)
        ∗ owns (c : Thread nD τ) (st0_2 (F := F) t) fullShare ((dats m 0 c).after 2 t))) := by
  simp only [before0_0]
  rw [Phi_eq, Phi_eq, Fin.val_succ, Fin.val_castSucc,
    show (dats m 0 c).owesAt () t.succ = (dats m 0 c).owesAt () t.castSucc from rfl,
    after0_0, after0_1, after0_2]
  unfold Dat.owesAt Pipeline.owesWithin Inv
  rw [show (dats m 0 c).owed t.castSucc = 0 from rfl]
  iintro ⟨⟨⟨%kc, %vc, Hk, %hC⟩, Hsp, Hg, Hr, Hh⟩, ⟨%W, %hW, HO⟩, ⟨%d0, H0⟩, ⟨%d1, H1⟩, ⟨%d2, H2⟩⟩
  obtain ⟨e1, e2⟩ := carried_keys m hC
  iapply (kernelRun c (grid0.coords t) _ (hstage0_0 (((cfg0 (F := F)).slots t 0).cast nbuf0_0)) _ (hstage0_1 (((cfg0 (F := F)).slots t 1).cast nbuf0_1))
    _ (hstage0_2 (((cfg0 (F := F)).slots t 2).cast nbuf0_2)) (iblk m c 0 t) kc vc (V m c main_v1) W _)
  have eS : pIter (grid0.coords t) (iblk m c 0 t) (keys (grid0.coords t) (V m c main_v1) kc) (vals (grid0.coords t) (V m c main_v1) vc) = stAt m c t := by
    unfold stAt; rw [← e1, ← e2]
  rw [eS, show keys (grid0.coords t) (V m c main_v1) kc = _ from e1, show vals (grid0.coords t) (V m c main_v1) vc = _ from e2]
  isplitl [H0]
  · iexact H0
  isplitl [H1]
  · iexists _; iexact H1
  isplitl [H2]
  · iexists _; iexact H2
  isplitl [Hk]
  · iexact Hk
  isplitl [Hsp]
  · iexact Hsp
  isplitl [Hr]
  · iexact Hr
  isplitl [Hh]
  · iexact Hh
  isplitl [HO]
  · iexact HO
  iintro H0 H1 H2 Hk Hsp Hr Hh ⟨%W', HO⟩
  isplitl [Hk Hsp Hg Hr Hh]
  · isplitl [Hk]
    · iexists _, _
      isplitl [Hk]
      · iexact Hk
      · ipureintro; exact fun _ => ⟨rfl, rfl⟩
    isplitl [Hsp]
    · iexact Hsp
    isplitl [Hg]
    · iexact Hg
    isplitl [Hr]
    · iexact Hr
    · iexact Hh
  isplitl [HO]
  · iexists W'; isplitr
    · ipureintro; exact fun _ _ => Or.inl trivial
    · iexact HO
  isplitl [H0]
  · iexact H0
  isplitl [H1]
  · iexact H1
  · iexact H2

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := UD sig nD τ) (Lvl := ℕ) (Val := Elt F) (τ := τ) osem0 c : sProp 𝕄) = rest c := by
  rw [Pipeline.ownSems0_eq_of_list c osem0 [0, 1] (by decide) (by decide)]; rfl

/-- The array the body reads by its own copies. -/
def H0 : Finset (Ref sig .tc) := {main_v1}
theorem H0_sub : H0 ⊆ Pipeline.restRefs sig spec0 := by decide

theorem hbmPts_eq (c : Dev nD) :
    (bigSep H0 (fun b => ((c : Thread nD τ).loc b) ↦{fullShare} V m c b) : sProp 𝕄) = iprop(hbPt c hbM (V m c main_v1)) := by
  rw [BI.bigSep_eq_bigSepL_of_eq [main_v1] (by decide) (by decide)]; rfl

theorem enter (c : Dev nD) : Pipeline.ΦD osem0 spec0 H0 (V m) c ⊢ (dats (F := F) m 0 c).Φ 0 := by
  rw [Pipeline.ΦD_eq, scopedRest0_eq, ownSems00_eq, hbmPts_eq]
  show _ ⊢ Inv m c 0
  unfold Inv kept spare
  simp only [owns_whole]
  iintro ⟨⟨⟨%f0, S0⟩, ⟨%f1, S1⟩, S4, S5⟩, Hg, Hr, Hh⟩
  isplitl [S0 S1]
  · iexists f0, f1
    isplitl [S0 S1]
    · isplitl [S0]
      · iexact S0
      · iexact S1
    · ipureintro; exact fun h => absurd rfl h
  isplitl [S4 S5]
  · isplitl [S4]
    · iexact S4
    · iexact S5
  isplitl [Hg]
  · iexact Hg
  isplitl [Hr]
  · iexact Hr
  · iexact Hh

theorem leave (c : Dev nD) : (dats (F := F) m 0 c).Φ (Fin.last (cfg0 (F := F)).N) ⊢ Pipeline.ΦD osem0 spec0 H0 (V m) c := by
  rw [Pipeline.ΦD_eq, scopedRest0_eq, ownSems00_eq, hbmPts_eq]
  show Inv m c 64 ⊢ _
  unfold Inv kept spare
  simp only [owns_whole]
  iintro ⟨⟨%f0, %f1, ⟨S0, S1⟩, -⟩, ⟨S4, S5⟩, Hg, Hr, Hh⟩
  isplitl [S0 S1 S4 S5]
  · isplitl [S0]
    · iexists _; iexact S0
    isplitl [S1]
    · iexists _; iexact S1
    isplitl [S4]
    · iexact S4
    · iexact S5
  isplitl [Hg]
  · iexact Hg
  isplitl [Hr]
  · iexact Hr
  · iexact Hh

set_option backward.isDefEq.respectTransparency.types false in
/-- The run: every array at what the points leave, everything else as the region found it, every counter at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V := V m) (hmain := hmain m) (hA := A_eq m) (hin := enter m) (hout := leave m)

/-! ## The frame -/

/-! No host operation before the region writes an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, List.flatten_cons, List.flatten_nil, List.append_nil, List.Forall, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, List.flatten_cons, List.flatten_nil, List.append_nil, List.Forall, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [before, hostOps0, List.flatten_cons, List.flatten_nil, List.append_nil, List.Forall, StableHlo.nary_writes, Finset.mem_singleton]
    repeat' apply And.intro
    all_goals exact StableHlo.devRef_ne_of_ne (by decide)))

theorem rest_arg0 : main_arg0 ∈ Pipeline.restRefs sig spec0 := by decide
theorem rest_arg1 : main_arg1 ∈ Pipeline.restRefs sig spec0 := by decide
theorem rest_arg2 : main_arg2 ∈ Pipeline.restRefs sig spec0 := by decide

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 rest_arg0).trans (V_main_arg0 m c),
     ((h.1 c).2 main_arg1 rest_arg1).trans (V_main_arg1 m c),
     ((h.1 c).2 main_arg2 rest_arg2).trans (V_main_arg2 m c)⟩, h.2⟩) (run_main m ρ)

end Cert.KAfwdIdeal.Afwd

end
-- ==== Proof.Afwd.Array.lean ====
/- The attention as the kernel leaves it, when the arrays that it reads hold real numbers. -/
module

public import proofs.«01_k».proof.Proof.Afwd.Point
public import proofs.«01_k».proof.Proof.Afwd.Frame
public import Idealize.ShloMosaic.Lib.Pipeline.ValueKit

@[expose] public section

set_option maxRecDepth 16384

noncomputable section

namespace Cert.KAfwdIdeal.Afwd

open Cert.KAfwdIdeal Cert.KAfwdIdeal.Gen Cert.Attn
open Idealize.ShloMosaic Idealize.ShloMosaic.TcCoe Idealize.SL.Sem
open Idealize.ShloMosaic.Pipeline (Dat)

variable (m : (ℓ : Loc nD τ sig) → Buf (Elt Ideal) ℓ)

theorem idx : ∀ t : Fin (cfg0 (F := Ideal)).N, win0_0.index t = ![t.val, 0] ∧ win0_1.index t = ![t.val, 0] ∧ win0_2.index t = ![t.val, 0] :=
  (by decide +kernel : ∀ t : Fin grid0.N, _)

/-- The query block of a point. -/
def qb (t : Fin grid0.N) : Fin 64 := ⟨t.val, t.isLt⟩

theorem row_at : ∀ t : Fin grid0.N, (grid0.coords t 1).val = t.val := by decide +kernel
theorem coords1 (t : Fin grid0.N) : grid0.coords t 1 = qb t := Fin.ext (row_at t)

/-- Column `x` of part `b` of the packed array. -/
def part (b : Fin 3) (x : Fin 512) : Fin 1536 := ⟨512 * b.val + x.val, by omega⟩

theorem slab_at {U : Type} (b : Fin 3) (x : S8192x1536.Idx → U) (s : Fin 8192) (k : Fin 512) : slab b x (ix2 s k) = x (ix2 s (part b k)) := rfl

/-- What the kernel's arrays hold. -/
structure Holds (c : Dev nD) (Q K V' : Mat) : Prop where
  q : ∀ r x, V m c main_v0 (ix2 r (part 0 x)) = ((Q r x : ℝ) : EReal)
  k : ∀ r x, V m c main_v1 (ix2 r (part 1 x)) = ((K r x : ℝ) : EReal)
  v : ∀ r x, V m c main_v1 (ix2 r (part 2 x)) = ((V' r x : ℝ) : EReal)

theorem iblk0_at (c : Dev nD) (t : Fin (cfg0 (F := Ideal)).N) (r : Fin 128) (k : Fin 512) :
    iblk m c 0 t (ix2 r k) = V m c main_v0 (ix2 (blk (qb t) r) (part 0 k)) := by
  unfold blk qb part
  blk_point [iblk, idx t]

section arrays

variable {m} {c : Dev nD} {Q K V' : Mat} (H : Holds m c Q K V')

include H in
theorem done_at (t : Fin grid0.N) : Done (qb t) (masked (qb t) Q) K V' 0 (stAt m c t) := by
  refine point (qb t) Q K V' _ (coords1 t) _ ?_ _ _ ?_ ?_
  · exact fun r k => (iblk0_at m c t r k).trans (H.q _ _)
  · exact fun s x => (slab_at 1 _ s x).trans (H.k s x)
  · exact fun s x => (slab_at 2 _ s x).trans (H.v s x)

include H in
/-- The rounded attention, -/
theorem final_h : (dats m 0 c).arrAt 1 (cfg0 (F := Ideal)).N = fun i => ((att Q K V' (i 0) (i 1) : ℝ) : EReal) := by
  refine (dats m 0 c).arrAt_eq_of_covers 1 _ (by decide +kernel) fun t _ y => ?_
  blk_simp
  rw [after0_1]
  have h0 : ((win0_1.blk t).view.emb y 0).val = 128 * t.val + (y 0).val := by blk_simp [idx t]; omega
  have h1 : ((win0_1.blk t).view.emb y 1).val = (y 1).val := by blk_simp [idx t]
  refine (congrArg (hOut (stAt m c t)) (eq_ix2 y)).trans ((hOut_at (done_at H t) (y 0) (y 1)).trans (congrArg _ ?_))
  exact congrArg₂ (att Q K V') (Fin.ext h0.symm) (Fin.ext h1.symm)

include H in
/-- and the one in full. -/
theorem final_o : (dats m 0 c).arrAt 2 (cfg0 (F := Ideal)).N = fun i => ((att Q K V' (i 0) (i 1) : ℝ) : EReal) := by
  refine (dats m 0 c).arrAt_eq_of_covers 2 _ (by decide +kernel) fun t _ y => ?_
  blk_simp
  rw [after0_2]
  have h0 : ((win0_2.blk t).view.emb y 0).val = 128 * t.val + (y 0).val := by blk_simp [idx t]; omega
  have h1 : ((win0_2.blk t).view.emb y 1).val = (y 1).val := by blk_simp [idx t]
  refine (congrArg (oOut (stAt m c t)) (eq_ix2 y)).trans ((oOut_at (done_at H t) (y 0) (y 1)).trans (congrArg _ ?_))
  exact congrArg₂ (att Q K V') (Fin.ext h0.symm) (Fin.ext h1.symm)

end arrays

end Cert.KAfwdIdeal.Afwd

end
-- ==== Proof.Afwd.Host.lean ====
/- What the host hands the launch: the queries, keys and values side by side. -/
module

public import proofs.«01_k».proof.Proof.Afwd.Array
public import proofs.«01_k».proof.Pre_afwd_finite

@[expose] public section

set_option maxRecDepth 65536

noncomputable section

namespace Cert.KAfwdIdeal.Afwd

open Cert.KAfwdIdeal Cert.KAfwdIdeal.Gen Cert.Attn
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- The queries, keys and values side by side. -/
abbrev packed (q k v : Vec F S8192x512 .bf16) : Vec F S8192x1536 .bf16 :=
  concatenate S8192x1536 1 [⟨S8192x512, q⟩, ⟨S8192x512, k⟩, ⟨S8192x512, v⟩] concatenates_S8192x512_S8192x512_S8192x512_S8192x1536_d1

theorem packed_at (q k v : Vec F S8192x512 .bf16) (r : Fin 8192) (x : Fin 512) :
    packed q k v (ix2 r (part 0 x)) = q (ix2 r x) ∧ packed q k v (ix2 r (part 1 x)) = k (ix2 r x) ∧ packed q k v (ix2 r (part 2 x)) = v (ix2 r x) := by
  refine ⟨?_, ?_, ?_⟩ <;> unfold packed part <;> pointwise []
  · have := x.isLt
    rw [dif_neg (by omega), dif_neg (by omega)]
    exact congrArg (fun j : Fin 512 => v (ix2 r j)) (Fin.ext (by show 1024 + x.val - 512 - 512 = x.val; omega))

theorem V_packed : V m c main_v0 = packed (m ((c : Thread nD τ).loc main_arg0)) (m ((c : Thread nD τ).loc main_arg1)) (m ((c : Thread nD τ).loc main_arg2))
    ∧ V m c main_v1 = packed (m ((c : Thread nD τ).loc main_arg0)) (m ((c : Thread nD τ).loc main_arg1)) (m ((c : Thread nD τ).loc main_arg2)) := by
  unfold V
  constructor <;> simp only [before, hostOps0, List.flatten_cons, List.flatten_nil, List.cons_append, List.nil_append, List.append_nil] <;> after_results_simp <;> rfl

/-- Where the precondition holds the arguments are real. -/
theorem pre_at [Cert.Pre_afwd_finite.Facts] (q k v : Vec Ideal S8192x512 .bf16)
    (h : Cert.Pre_afwd_finite.fn (F := Ideal) q k v = fun _ => 1#1) (r : Fin 8192) (x : Fin 512) :
    (q (ix2 r x) = (((q (ix2 r x) : EReal).toReal : ℝ) : EReal) ∧ k (ix2 r x) = (((k (ix2 r x) : EReal).toReal : ℝ) : EReal))
      ∧ v (ix2 r x) = (((v (ix2 r x) : EReal).toReal : ℝ) : EReal) := by
  have h1 := congrFun h (ix2 r x)
  unfold Cert.Pre_afwd_finite.fn at h1
  simp only at h1
  revert h1
  pointwise []
  simp only [andi_one]
  exact fun h => ⟨⟨real_of _ h.1.1, real_of _ h.1.2⟩, real_of _ h.2⟩

/-- An array's real numbers. -/
def re (x : Vec Ideal S8192x512 .bf16) : Mat := fun r c => (x (ix2 r c) : EReal).toReal

section holds
variable [Cert.Pre_afwd_finite.Facts] (m : (ℓ : Loc nD τ sig) → Buf (Elt Ideal) ℓ) (c : Dev nD)
  (h : Cert.Pre_afwd_finite.fn (F := Ideal) (m ((c : Thread nD τ).loc main_arg0)) (m ((c : Thread nD τ).loc main_arg1))
    (m ((c : Thread nD τ).loc main_arg2)) = fun _ => 1#1)

include h in
/-- What the launch is handed holds the real numbers of the arguments. -/
theorem holds : Holds m c (re (m ((c : Thread nD τ).loc main_arg0))) (re (m ((c : Thread nD τ).loc main_arg1)))
    (re (m ((c : Thread nD τ).loc main_arg2))) where
  q r x := by rw [(V_packed m c).1, (packed_at _ _ _ r x).1]; exact (pre_at _ _ _ h r x).1.1
  k r x := by rw [(V_packed m c).2, (packed_at _ _ _ r x).2.1]; exact (pre_at _ _ _ h r x).1.2
  v r x := by rw [(V_packed m c).2, (packed_at _ _ _ r x).2.2]; exact (pre_at _ _ _ h r x).2
end holds

end Cert.KAfwdIdeal.Afwd

end
-- ==== Proof.Afwd.Ref.lean ====
/- The reference of the attention computes what the gradient's forward lines compute. -/
module

public import proofs.«01_k».proof.Proof.Attn.Ref
public import proofs.«01_k».proof.Proof.Gen.RAfwdIdeal.Read

@[expose] public section

set_option maxRecDepth 16384

noncomputable section

namespace Cert.RAfwdIdeal.Afwd

open Cert.RAfwdIdeal Cert.RAfwdIdeal.Gen Cert.Attn
open Idealize.ShloMosaic Idealize.ShloMosaic.TcCoe

variable {F : FTy → Type} [FloatOps F] (x0 x1 x2 : Vec F S8192x512 .bf16)

theorem v29_eq : Cert.RAfwdIdeal.Read.val_main_v29 (F := F) x0 x1 x2 = Cert.RAttnIdeal.Read.val_main_v30 (F := F) x0 x1 x2 := rfl

section vals
variable (x0 x1 x2 : Vec Ideal S8192x512 .bf16) (Q K V : Mat)
  (hQ : ∀ r c, x0 (ix2 r c) = ((Q r c : ℝ) : EReal)) (hK : ∀ r c, x1 (ix2 r c) = ((K r c : ℝ) : EReal))
  (hV : ∀ r c, x2 (ix2 r c) = ((V r c : ℝ) : EReal)) (r : Fin 8192) (c : Fin 512)

include hQ hK hV in
/-- The attention's output, -/
theorem v29 : Cert.RAfwdIdeal.Read.val_main_v29 (F := Ideal) x0 x1 x2 (ix2 r c) = ((att Q K V r c : ℝ) : EReal) := by
  rw [v29_eq]; exact Cert.RAttnIdeal.Attn.v30 x0 x1 x2 Q K V hQ hK hV r c

include hQ hK hV in
/-- and the one rounded. -/
theorem v30 : Cert.RAfwdIdeal.Read.val_main_v30 (F := Ideal) x0 x1 x2 (ix2 r c) = ((att Q K V r c : ℝ) : EReal) := by
  rw [Cert.RAfwdIdeal.Read.val_main_v30_apply]
  exact v29 x0 x1 x2 Q K V hQ hK hV r c

end vals

end Cert.RAfwdIdeal.Afwd

end
-- ==== Proof.Afwd.Equation.lean ====
/- The attention: the kernel and the forward lines leave the same two arrays. -/
module

public import proofs.«01_k».proof.Defs
public import proofs.«01_k».proof.Proof.Gen.RAfwdIdeal.Run
public import proofs.«01_k».proof.Proof.Afwd.Host
public import proofs.«01_k».proof.Proof.Afwd.Ref
public import Idealize.ShloMosaic.Lib.Claim
public import Idealize.ShloMosaic.Lib.Tactic
public import Idealize.ShloMosaic.Adequacy
public import Idealize.ShloMosaic.Init

@[expose] public section

noncomputable section

namespace Cert.Proof

open Idealize.ShloMosaic Idealize.ShloMosaic.TcCoe Idealize.SL.Sem Cert.KAfwdIdeal Cert.KAfwdIdeal.Afwd

/-- The facts the precondition's function states. -/
theorem afwd_facts : Cert.Pre_afwd_finite.Facts := by
  constructor <;> decide

/-- The attention, over the extended reals. -/
theorem algebraic_afwd [Cert.Pre_afwd_finite.Facts] : Cert.algebraic_KAfwdIdeal_RAfwdIdeal_pre_afwd_finite := fun m g m' g' hp hm => by
  refine ⟨_, _,
    (θ_run Cert.KAfwdIdeal.defs _ _).mono (fun _ h c =>
        ⟨((h.1 c).1 1).trans (final_h (holds m c (hp c))),
         ((h.1 c).1 2).trans (final_o (holds m c (hp c))),
         ((h.1 c).2 main_arg0 rest_arg0).trans (V_main_arg0 m c),
         ((h.1 c).2 main_arg1 rest_arg1).trans (V_main_arg1 m c),
         ((h.1 c).2 main_arg2 rest_arg2).trans (V_main_arg2 m c)⟩)
      (run_main m g),
    (θ_run Cert.RAfwdIdeal.defs _ _).mono (fun _ h c =>
        ⟨(h c).1.trans ?_, (h c).2.1.trans ?_, (h c).2.2⟩)
      (Cert.RAfwdIdeal.Value.run m' g')⟩
  · rw [Cert.RAfwdIdeal.Read.val_main_v30_eq, (hm c).1, (hm c).2.1, (hm c).2.2]
    funext i
    rw [eq_ix2 i]
    exact Cert.RAfwdIdeal.Afwd.v30 _ _ _ _ _ _ (fun r x => (pre_at _ _ _ (hp c) r x).1.1) (fun r x => (pre_at _ _ _ (hp c) r x).1.2)
      (fun r x => (pre_at _ _ _ (hp c) r x).2) _ _
  · rw [Cert.RAfwdIdeal.Read.val_main_v29_eq, (hm c).1, (hm c).2.1, (hm c).2.2]
    funext i
    rw [eq_ix2 i]
    exact Cert.RAfwdIdeal.Afwd.v29 _ _ _ _ _ _ (fun r x => (pre_at _ _ _ (hp c) r x).1.1) (fun r x => (pre_at _ _ _ (hp c) r x).1.2)
      (fun r x => (pre_at _ _ _ (hp c) r x).2) _ _

/-- The reference terminates and leaves its arguments. -/
theorem frame_afwd_ref : Cert.quiescent_RAfwdIdeal := fun m g _ =>
  (θ_run Cert.RAfwdIdeal.defs _ _).mono (fun r h => ⟨fun c => (h c).2.2, sem_eq_zero_of_no_sems (by decide) r.2⟩)
    (Cert.RAfwdIdeal.Value.run m g)

end Cert.Proof

end
-- ==== Proof.Rfwd.Norm.lean ====
/- The RMS norm of a row: what the kernel leaves in a block and what the forward lines compute, read at an index. -/
module

public import proofs.«01_k».proof.Proof.Gen.KRfwdIdeal.Value
public import proofs.«01_k».proof.Proof.Gen.RRfwdIdeal.Read
public import Idealize.ShloMosaic.Lib.Pointwise
public import Idealize.ShloMosaic.Lib.Pipeline.ValueKit

@[expose] public section

set_option maxRecDepth 16384
set_option backward.proofsInPublic true

noncomputable section

namespace Cert.Rfwd

open Idealize.ShloMosaic

/-- Element `z` of the normed row: the element over the root of the row's mean square, times the gain. -/
def normed (X G : Fin 1024 → EReal) (z : Fin 1024) : EReal :=
  X z * Ideal.rsqrt (Ideal.div (∑ k : Fin 1024, X k * X k) (Ideal.ofBits .f32 0x44800000#32) + Ideal.ofBits .f32 0x358637BD#32) * G z

end Cert.Rfwd

namespace Cert.RRfwdIdeal.Rfwd

open Cert.RRfwdIdeal Cert.RRfwdIdeal.Read Cert.Rfwd Idealize.ShloMosaic

theorem normed_at (x0 : Vec Ideal S8192x1024 .f32) (x1 : Vec Ideal S1024 .f32) (r : Fin 8192) (z : Fin 1024) :
    val_main_v13 (F := Ideal) x0 x1 (ix2 r z) = normed (fun k => x0 (ix2 r k)) (fun k => x1 (ix1 k)) z := by
  pointwise [val_main_v13, val_main_v12, val_main_v11, val_main_v10, val_main_v9, val_main_v8, val_main_v7, val_main_v6, val_main_v5, val_main_cst_1,
    val_main_v4, val_main_v3, val_main_cst_0, val_main_v2, val_main_v1, val_main_cst, val_main_v0]
  rfl

end Cert.RRfwdIdeal.Rfwd

namespace Cert.KRfwdIdeal.Rfwd

open Cert.KRfwdIdeal Cert.KRfwdIdeal.Gen Cert.Rfwd Idealize.ShloMosaic Idealize.ShloMosaic.TcCoe Idealize.SL.Sem
open Idealize.ShloMosaic.Pipeline (Dat)

theorem idx : ∀ t : Fin cfg0.N, win0_0.index t = ![t.val, 0] ∧ win0_1.index t = ![0, 0] ∧ win0_2.index t = ![t.val, 0] :=
  (by decide +kernel : ∀ t : Fin grid0.N, _)

theorem block_at (x : Vec Ideal S512x1024 .f32) (g : Vec Ideal S1x1024 .f32) (r : Fin 512) (z : Fin 1024) :
    k0_pay1 x g (ix2 r z) = normed (fun k => x (ix2 r k)) (fun k => g (ix2 0 k)) z := by
  pointwise [k0_pay1]
  rfl

variable (m : (ℓ : Loc nD τ sig) → Buf (Elt Ideal) ℓ)

abbrev xs (c : Dev nD) (r : Fin 8192) : Fin 1024 → EReal := fun k => (m ((c : Thread nD τ).loc main_arg0) : Vec Ideal S8192x1024 .f32) (ix2 r k)
abbrev gs (c : Dev nD) : Fin 1024 → EReal := fun k => (m ((c : Thread nD τ).loc main_arg1) : Vec Ideal S1024 .f32) (ix1 k)

/-- The result. -/
def out (c : Dev nD) (i : S8192x1024.Idx) : EReal := normed (xs m c (i 0)) (gs m c) (i 1)

theorem at_x (c : Dev nD) (t : Fin cfg0.N) (r : Fin 512) (k : Fin 1024) (h : 512 * t.val + r.val < 8192) :
    (iblk m c 0 t : Vec Ideal S512x1024 .f32) (ix2 r k) = xs m c ⟨512 * t.val + r.val, h⟩ k := by
  blk_point [iblk, V, idx t]
theorem at_g (c : Dev nD) (t : Fin cfg0.N) (k : Fin 1024) : (iblk m c 1 t : Vec Ideal S1x1024 .f32) (ix2 0 k) = gs m c k := by
  blk_point [iblk, V, idx t]

theorem lt_rows (t : Fin cfg0.N) (r : Fin 512) : 512 * t.val + r.val < 8192 := by
  have h : t.val < 16 := lt_of_lt_of_eq t.isLt (by decide +kernel)
  omega

theorem row_of (y : S8192x1024.Idx) (r : Fin 8192) (z : Fin 1024) (h0 : (y 0).val = r.val) (h1 : (y 1).val = z.val) : y = ix2 r z := by
  funext a
  match a with
  | ⟨0, _⟩ => exact Fin.ext h0
  | ⟨1, _⟩ => exact Fin.ext h1

theorem point_at (c : Dev nD) (t : Fin cfg0.N) (r : Fin 512) (z : Fin 1024) :
    out0_2 (iblk m c 0 t) (iblk m c 1 t) (ix2 r z) = out m c (ix2 (⟨512 * t.val + r.val, lt_rows t r⟩ : Fin 8192) z) := by
  have e : out0_2 (F := Ideal) (iblk m c 0 t) (iblk m c 1 t) = k0_pay1 (iblk m c 0 t) (iblk m c 1 t) := by frame_out
  rw [e]
  refine (block_at _ _ r z).trans ?_
  rw [show (fun k : Fin 1024 => (iblk m c 0 t : Vec Ideal S512x1024 .f32) (ix2 r k)) = xs m c ⟨512 * t.val + r.val, lt_rows t r⟩
      from funext fun k => at_x m c t r k (lt_rows t r),
    show (fun k : Fin 1024 => (iblk m c 1 t : Vec Ideal S1x1024 .f32) (ix2 0 k)) = gs m c from funext fun k => at_g m c t k]
  rfl

theorem final (c : Dev nD) : (dats m 0 c).arrAt 2 cfg0.N = out m c := by
  refine (dats m 0 c).arrAt_eq_of_covers 2 _ (by decide +kernel) fun t _ y => ?_
  have h0 : ((win0_2.blk t).view.emb y 0).val = 512 * t.val + (y 0).val := by blk_simp [idx t]; omega
  have h1 : ((win0_2.blk t).view.emb y 1).val = (y 1).val := by blk_simp [idx t]
  rw [row_of ((win0_2.blk t).view.emb y) ⟨512 * t.val + (y 0).val, lt_rows t (y 0)⟩ (y 1) h0 h1]
  blk_simp
  rw [after0_2]
  exact (congrArg _ (eq_ix2 y)).trans (point_at m c t (y 0) (y 1))

end Cert.KRfwdIdeal.Rfwd

end
-- ==== Proof.Rfwd.Equation.lean ====
/- The RMS norm: the kernel and the forward lines leave the same array. -/
module

public import proofs.«01_k».proof.Defs
public import proofs.«01_k».proof.Proof.Gen.RRfwdIdeal.Run
public import proofs.«01_k».proof.Proof.Rfwd.Norm
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KRfwdIdeal Cert.KRfwdIdeal.Rfwd

/-- The norm, over the extended reals. -/
theorem algebraic_rfwd : Cert.algebraic_KRfwdIdeal_RRfwdIdeal := fun m g m' g' _ hm => by
  refine ⟨_,
    (θ_run Cert.KRfwdIdeal.defs _ _).mono (fun _ h c => ⟨(h c).1.trans (final m c), (h c).2⟩) (Cert.KRfwdIdeal.Value.run_blocks m g),
    (θ_run Cert.RRfwdIdeal.defs _ _).mono (fun _ h c => ⟨(h c).1.trans ?_, (h c).2⟩) (Cert.RRfwdIdeal.Value.run m' g')⟩
  rw [Cert.RRfwdIdeal.Read.val_main_v13_eq, (hm c).1, (hm c).2]
  funext i
  rw [eq_ix2 i]
  exact Cert.RRfwdIdeal.Rfwd.normed_at _ _ _ _

/-- The reference terminates and leaves its arguments. -/
theorem frame_rfwd_ref : Cert.quiescent_RRfwdIdeal := fun m g _ =>
  (θ_run Cert.RRfwdIdeal.defs _ _).mono (fun r h => ⟨fun c => (h c).2, sem_eq_zero_of_no_sems (by decide) r.2⟩)
    (Cert.RRfwdIdeal.Value.run m g)

end Cert.Proof

end
-- ==== Proof.Ffwd.Strip.lean ====
/- One strip of 128 columns of the gated convolution: what the kernel computes on it, and what the strips leave in its buffer. -/
module

public import proofs.«01_k».proof.Proof.Gen.KFfwdIdeal.Value
public import Idealize.ShloMosaic.Lib.WritesUnit
public import Idealize.ShloMosaic.Lib.WholeRead
public import Idealize.ShloMosaic.Lib.Pointwise

@[expose] public section

set_option maxRecDepth 16384

noncomputable section

namespace Cert.KFfwdIdeal.Ffwd

open Cert.KFfwdIdeal Cert.KFfwdIdeal.Gen
open Idealize.ShloMosaic Idealize.ShloMosaic.TcCoe

variable {F : FTy → Type} [FloatOps F]

/-- Column `j` of strip `k`; the strip of a column, and the column inside it. -/
def col (k : Fin 22) (j : Fin 128) : Fin 2816 := ⟨128 * k.val + j.val, by omega⟩
def strip (x : Fin 2816) : Fin 22 := ⟨x.val / 128, by omega⟩
def lane (x : Fin 2816) : Fin 128 := ⟨x.val % 128, Nat.mod_lt _ (by decide)⟩

theorem col_strip (x : Fin 2816) : col (strip x) (lane x) = x := Fin.ext (Nat.div_add_mod _ _)

/-- Strip `k` of all rows of an array, and of one row. -/
def cut {R : ℕ} {e : EltTy} (x : (⟨2, ![R, 2816]⟩ : Shape).Idx → Elt F e) (k : Fin 22) : (⟨2, ![R, 128]⟩ : Shape).Idx → Elt F e :=
  fun y => x (ix2 (y 0 : Fin R) (col k (y 1 : Fin 128)))
def rowOf {R : ℕ} {e : EltTy} (x : (⟨2, ![R, 2816]⟩ : Shape).Idx → Elt F e) (r : Fin R) (k : Fin 22) : S1x128.Idx → Elt F e :=
  fun y => x (ix2 r (col k (y 1 : Fin 128)))

/-- What a strip leaves: from the gate's rows, the rows before them, the value's rows, the taps and the bias. -/
def gated (i : grid0.Coords) (x0 : Vec F S256x2816 .bf16) (x1 : Vec F S16x2816 .bf16) (x2 : Vec F S256x2816 .bf16) (x3 : Vec F S8x2816 .f32)
    (x4 : Vec F S1x2816 .f32) (k : Fin 22) : FVec F S256x128 .bf16 :=
  k0_pay1 i (cut x1 k) (cut x0 k) (rowOf x4 0 k) (rowOf x3 0 k) (rowOf x3 1 k) (rowOf x3 2 k) (cut x2 k)

/-! ## The loads -/

theorem trips_eq : k0_t1_loop.trips = 22 := by decide +kernel

theorem off1_eq : ∀ k : Fin k0_t1_loop.trips, k0_off1 k = ![0, 128 * k.val] := by decide +kernel
theorem off2_eq : ∀ k : Fin k0_t1_loop.trips, k0_off2 k = ![0, 128 * k.val] := by decide +kernel
theorem off3_eq : ∀ k : Fin k0_t1_loop.trips, k0_off3 k = ![0, 128 * k.val] := by decide +kernel
theorem off4_eq : ∀ k : Fin k0_t1_loop.trips, k0_off4 k = ![0, 128 * k.val] := by decide +kernel
theorem off5_eq : ∀ k : Fin k0_t1_loop.trips, k0_off5 k = ![1, 128 * k.val] := by decide +kernel
theorem off6_eq : ∀ k : Fin k0_t1_loop.trips, k0_off6 k = ![2, 128 * k.val] := by decide +kernel

/-- A load of a strip reads it, -/
theorem readAt_cut {R : ℕ} {e : EltTy} (m : Memref sig .tc .vmem (⟨2, ![R, 2816]⟩ : Shape) e) (f : m.view.ty.Contents (Elt F)) (k : Fin 22)
    (off : Fin 2 → ℕ) (ho : off = ![0, 128 * k.val]) (inb) :
    m.view.readAt (Elt F) (Rect.unit (s := (⟨2, ![R, 2816]⟩ : Shape)) off ![R, 128] inb).toLoadRect f = cut (m.view.read (Elt F) f) k := by
  subst ho
  refine funext fun y => congrArg (m.view.read (Elt F) f) (funext fun a => Fin.ext ?_)
  match a with
  | 0 => show 0 + 1 * (y 0).val = (y 0).val; omega
  | 1 => exact congrArg (128 * k.val + ·) (Nat.one_mul _)

/-- a load of one row's strip that. -/
theorem readAt_row {R : ℕ} {e : EltTy} (m : Memref sig .tc .vmem (⟨2, ![R, 2816]⟩ : Shape) e) (f : m.view.ty.Contents (Elt F)) (r : Fin R) (k : Fin 22)
    (off : Fin 2 → ℕ) (ho : off = ![r.val, 128 * k.val]) (inb) :
    m.view.readAt (Elt F) (Rect.unit (s := (⟨2, ![R, 2816]⟩ : Shape)) off ![1, 128] inb).toLoadRect f = rowOf (m.view.read (Elt F) f) r k := by
  subst ho
  refine funext fun y => congrArg (m.view.read (Elt F) f) (funext fun a => Fin.ext ?_)
  match a with
  | 0 => have : (y 0).val < 1 := (y 0).isLt; show r.val + 1 * (y 0).val = r.val; omega
  | 1 => exact congrArg (128 * k.val + ·) (Nat.one_mul _)

/-! ## The stores -/

/-- A strip put into the buffer, read back. -/
theorem read_strip (v : View sig .tc .vmem S256x2816 .bf16) (f : v.ty.Contents (Elt F)) (k : Fin 22) (L : List (View.Piece (Elt F) S256x2816 .bf16))
    (off : Fin 2 → ℕ) (ho : off = ![0, 128 * k.val]) (j) (P : S256x128.Idx → Elt F .bf16) (y : S256x2816.Idx) :
    v.read (Elt F) (v.writes (Elt F) f (⟨Rect.unit (s := S256x2816) off S256x128.size j, P⟩ :: L)) y
      = if (y 1).val / 128 = k.val then P (ix2 (y 0 : Fin 256) (lane (y 1 : Fin 2816))) else v.read (Elt F) (v.writes (Elt F) f L) y := by
  have hd := Nat.div_add_mod (y 1).val 128
  have hm : (y 1).val % 128 < 128 := Nat.mod_lt _ (by decide)
  by_cases h : (y 1).val / 128 = k.val
  · rw [if_pos h]
    refine View.read_writes_cons_unit_of_mem _ _ j _ _ y (ix2 (y 0 : Fin 256) (lane (y 1 : Fin 2816))) ho fun a => ?_
    match a with
    | 0 => exact (Nat.zero_add _).symm
    | 1 => show (y 1).val = 128 * k.val + (y 1).val % 128; rw [← h]; omega
  rw [if_neg h]
  exact View.read_writes_cons_unit_of_not_mem _ _ j _ _ y ho 1 (show (y 1).val < 128 * k.val ∨ 128 * k.val + 128 ≤ (y 1).val by omega)

section trip
variable (c : Dev nD) (i : grid0.Coords) (arg1 : Memref sig .tc .vmem S256x2816 .bf16) (harg1 : arg1.IsWhole) (arg2 : Memref sig .tc .vmem S16x2816 .bf16) (harg2 : arg2.IsWhole) (arg3 : Memref sig .tc .vmem S256x2816 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S256x2816 .bf16) (harg6 : arg6.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)

/-- What one trip stores. -/
theorem pieces (k : Fin k0_t1_loop.trips) : tripL_k0_t1 (F := F) Variants.none c none i arg1 harg1 arg2 harg2 arg3 harg3 arg4 harg4 arg5 harg5 arg6 harg6 X1 X2 X3 X4 X5 k
      = [⟨Rect.unit (s := S256x2816) (k0_off2 k) S256x128.size (k0_off2_inb k), gated i (arg1.view.read (Elt F) X1) (arg2.view.read (Elt F) X2)
          (arg3.view.read (Elt F) X3) (arg4.view.read (Elt F) X4) (arg5.view.read (Elt F) X5) ⟨k.val, lt_of_lt_of_eq k.isLt trips_eq⟩⟩] := by
  unfold tripL_k0_t1 trip_k0_t1 gated
  rw [← readAt_cut arg1 X1 ⟨k.val, lt_of_lt_of_eq k.isLt trips_eq⟩ _ (off2_eq k) (k0_off2_inb k), ← readAt_cut arg2 X2 ⟨k.val, lt_of_lt_of_eq k.isLt trips_eq⟩ _ (off1_eq k) (k0_off1_inb k),
    ← readAt_cut arg3 X3 ⟨k.val, lt_of_lt_of_eq k.isLt trips_eq⟩ _ (off2_eq k) (k0_off2_inb k), ← readAt_row arg4 X4 0 ⟨k.val, lt_of_lt_of_eq k.isLt trips_eq⟩ _ (off4_eq k) (k0_off4_inb k),
    ← readAt_row arg4 X4 1 ⟨k.val, lt_of_lt_of_eq k.isLt trips_eq⟩ _ (off5_eq k) (k0_off5_inb k), ← readAt_row arg4 X4 2 ⟨k.val, lt_of_lt_of_eq k.isLt trips_eq⟩ _ (off6_eq k) (k0_off6_inb k),
    ← readAt_row arg5 X5 0 ⟨k.val, lt_of_lt_of_eq k.isLt trips_eq⟩ _ (off3_eq k) (k0_off3_inb k)]

/-- The strips before `k` are in the buffer. -/
theorem strips (v : View sig .tc .vmem S256x2816 .bf16) (f : v.ty.Contents (Elt F)) (y : S256x2816.Idx) : ∀ k : ℕ, k ≤ 22 → (y 1).val / 128 < k →
    v.read (Elt F) (v.writes (Elt F) f (pb_k0_t1 (F := F) Variants.none c none i arg1 harg1 arg2 harg2 arg3 harg3 arg4 harg4 arg5 harg5 arg6 harg6 X1 X2 X3 X4 X5 k)) y
      = gated i (arg1.view.read (Elt F) X1) (arg2.view.read (Elt F) X2) (arg3.view.read (Elt F) X3) (arg4.view.read (Elt F) X4) (arg5.view.read (Elt F) X5)
          (strip (y 1 : Fin 2816)) (ix2 (y 0 : Fin 256) (lane (y 1 : Fin 2816)))
  | 0, _, h => absurd h (Nat.not_lt_zero _)
  | k + 1, hk, h => by
    have hk' : k < k0_t1_loop.trips := by rw [trips_eq]; omega
    rw [pb_k0_t1_succ (F := F) Variants.none c none i arg1 harg1 arg2 harg2 arg3 harg3 arg4 harg4 arg5 harg5 arg6 harg6 X1 X2 X3 X4 X5 ⟨k, hk'⟩, pieces]
    refine (read_strip v f ⟨k, by omega⟩ _ _ (off2_eq ⟨k, hk'⟩) _ _ y).trans ?_
    by_cases e : (y 1).val / 128 = k
    · rw [if_pos e]
      exact congrArg (fun q => gated i _ _ _ _ _ q _) (Fin.ext e.symm)
    · rw [if_neg e]
      exact strips v f y k (by omega) (by omega)
end trip

/-- What a point leaves. -/
theorem out_at (c : Dev nD) (i : grid0.Coords) (arg1 : Memref sig .tc .vmem S256x2816 .bf16) (harg1 : arg1.IsWhole) (arg2 : Memref sig .tc .vmem S16x2816 .bf16) (harg2 : arg2.IsWhole) (arg3 : Memref sig .tc .vmem S256x2816 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S256x2816 .bf16) (harg6 : arg6.IsWhole)
    (x0 : Vec F S256x2816 .bf16) (x1 : Vec F S16x2816 .bf16) (x2 : Vec F S256x2816 .bf16) (x3 : Vec F S8x2816 .f32) (x4 : Vec F S1x2816 .f32)
    (r : Fin 256) (x : Fin 2816) :
    out0_A_5 c i arg1 harg1 arg2 harg2 arg3 harg3 arg4 harg4 arg5 harg5 arg6 harg6 x0 x1 x2 x3 x4 (ix2 r x) = gated i x0 x1 x2 x3 x4 (strip x) (ix2 r (lane x)) := by
  have e : (kernelRun0_A (F := F) c i arg1 harg1 arg2 harg2 arg3 harg3 arg4 harg4 arg5 harg5 arg6 harg6 x0 x1 x2 x3 x4).1
      = pb_k0_t1 (F := F) Variants.none c none i arg1 harg1 arg2 harg2 arg3 harg3 arg4 harg4 arg5 harg5 arg6 harg6 (harg1.unread x0) (harg2.unread x1) (harg3.unread x2) (harg4.unread x3) (harg5.unread x4) k0_t1_loop.trips := by
    unfold kernelRun0_A
    rfl
  unfold out0_A_5
  rw [e, trips_eq]
  refine (strips c i arg1 harg1 arg2 harg2 arg3 harg3 arg4 harg4 arg5 harg5 arg6 harg6 _ _ _ _ _ VO0_5 _ (ix2 r x) 22 le_rfl (show x.val / 128 < 22 by omega)).trans ?_
  rw [harg1.read_unread, harg2.read_unread, harg3.read_unread, harg4.read_unread, harg5.read_unread]
  rfl

end Cert.KFfwdIdeal.Ffwd

end
-- ==== Proof.Ffwd.Value.lean ====
/- The gated convolution over the extended reals: what the kernel leaves, and what the forward lines compute. -/
module

public import proofs.«01_k».proof.Proof.Ffwd.Strip
public import proofs.«01_k».proof.Proof.Ffn.Math
public import proofs.«01_k».proof.Proof.Gen.RFfwdIdeal.Read
public import Idealize.ShloMosaic.Lib.WordCmp
public import Idealize.ShloMosaic.Lib.Pipeline.ValueKit

@[expose] public section

set_option maxRecDepth 16384
set_option backward.proofsInPublic true

noncomputable section

namespace Cert.Ffwd

open Idealize.ShloMosaic Cert.Ffn

/-- Column `x` of the arguments; the cotangent is no argument of the forward lines. -/
abbrev columnOf (up : (⟨2, ![8192, 5632]⟩ : Shape).Idx → EReal) (w : (⟨2, ![3, 2816]⟩ : Shape).Idx → EReal) (b : (⟨1, ![2816]⟩ : Shape).Idx → EReal)
    (x : Fin 2816) : Column := column up w b (fun _ => 0) x

/-- The gated convolution at row `r`: the gate function of the convolution, times the value. -/
def gatedOf (C : Column) (r : Fin 8192) : EReal := C.lin r.val * Ideal.logistic (C.lin r.val) * C.V r

end Cert.Ffwd

namespace Cert.RFfwdIdeal.Ffwd

open Cert.RFfwdIdeal Cert.RFfwdIdeal.Gen Cert.RFfwdIdeal.Read Cert.Ffn Cert.Ffwd
open Idealize.ShloMosaic

variable (x0 : Vec Ideal S8192x5632 .bf16) (x1 : Vec Ideal S3x2816 .f32) (x2 : Vec Ideal S2816 .f32)

theorem past_at (n : Fin 8194) (l : Fin 2816) : val_main_v4 (F := Ideal) x0 (ix2 n l) = past (columnOf x0 x1 x2 l).A (n.val + 14) := by
  pointwise [val_main_v4, val_main_v3, val_main_v1, val_main_v0, val_main_cst]
  by_cases h : n.val < 2
  · rw [dif_pos h, past_before _ _ (by omega)]
  · rw [dif_neg h, past_row _ _ ⟨n.val - 2, by omega⟩ (by dsimp only; omega)]; rfl

theorem lin_at (r : Fin 8192) (l : Fin 2816) : val_main_v27 (F := Ideal) x0 x1 x2 (ix2 r l) = (columnOf x0 x1 x2 l).lin r.val := by
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8, val_main_v7, val_main_v6, val_main_v5]
  rw [past_at x0 x1 x2, past_at x0 x1 x2, past_at x0 x1 x2]
  unfold Column.lin
  rw [show r.val + 15 = 1 + r.val + 14 by omega, show r.val + 16 = 2 + r.val + 14 by omega]
  show past _ _ * x1 (ix2 0 l) + past _ _ * x1 (ix2 1 l) + past _ _ * x1 (ix2 2 l) + x2 (ix1 l)
    = x2 (ix1 l) + x1 (ix2 0 l) * past _ _ + x1 (ix2 1 l) * past _ _ + x1 (ix2 2 l) * past _ _
  rw [mul_comm (x1 (ix2 0 l) : EReal), mul_comm (x1 (ix2 1 l) : EReal), mul_comm (x1 (ix2 2 l) : EReal), add_comm, ← add_assoc, ← add_assoc]

theorem gated_at (r : Fin 8192) (l : Fin 2816) : val_main_v30 (F := Ideal) x0 x1 x2 (ix2 r l) = gatedOf (columnOf x0 x1 x2 l) r := by
  pointwise [val_main_v30, val_main_v29, val_main_v28, val_main_call0_v5, val_main_call0_v4, val_main_call0_v3, val_main_call0_v2, val_main_call0_v1, val_main_call0_v0, val_main_call0_cst, val_main_call0_cst_0, val_main_v2, val_main_v0]
  rw [lin_at x0 x1 x2]; rfl

end Cert.RFfwdIdeal.Ffwd

namespace Cert.KFfwdIdeal.Ffwd

open Cert.KFfwdIdeal Cert.KFfwdIdeal.Gen Cert.Ffn Cert.Ffwd
open Idealize.ShloMosaic Idealize.ShloMosaic.TcCoe Idealize.SL.Sem Idealize.ShloMosaic.WordCmp
open Idealize.ShloMosaic.Pipeline (Dat)

/-- Point `t`'s blocks hold, in column `x`, the rows of the column `C`. -/
structure Reads (x0 : Vec Ideal S256x2816 .bf16) (x1 : Vec Ideal S16x2816 .bf16) (x2 : Vec Ideal S256x2816 .bf16) (x3 : Vec Ideal S8x2816 .f32)
    (x4 : Vec Ideal S1x2816 .f32) (t : ℕ) (x : Fin 2816) (C : Column) : Prop where
  ht : t < 32
  g : ∀ r : Fin 256, x0 (ix2 r x) = C.A ⟨256 * t + r.val, by omega⟩
  p : ∀ h : 0 < t, ∀ r : Fin 16, x1 (ix2 r x) = C.A ⟨256 * t - 16 + r.val, by omega⟩
  v : ∀ r : Fin 256, x2 (ix2 r x) = C.V ⟨256 * t + r.val, by omega⟩
  w0 : x3 (ix2 0 x) = C.w0
  w1 : x3 (ix2 1 x) = C.w1
  w2 : x3 (ix2 2 x) = C.w2
  b : x4 (ix2 0 x) = C.b

theorem bit_zero : ∀ {b : BitVec 1}, b ≠ 1#1 → b = 0#1 := by decide

/-- The rows that the kernel lines up: the sixteen before the tile, zeros at the first point, then the tile. -/
theorem rows_at {t : ℕ} {C : Column} (p : S16x128.Idx → EReal) (g : S256x128.Idx → EReal) (l : Fin 128) (ht : t < 32)
    (hg : ∀ r : Fin 256, g (ix2 r l) = C.A ⟨256 * t + r.val, by omega⟩)
    (hp : ∀ h : 0 < t, ∀ r : Fin 16, p (ix2 r l) = C.A ⟨256 * t - 16 + r.val, by omega⟩) (n : ℕ) (hn : n < 272) :
    (if h : n < 16 then Scalar.select (Scalar.cmpi .eq (BitVec.ofNat 32 t) (0#32)) (0 : EReal) (p (ix2 ⟨n, h⟩ l))
      else g (ix2 ⟨n - 16, by omega⟩ l)) = past C.A (256 * t + n) := by
  have first : Scalar.cmpi .eq (BitVec.ofNat 32 t) (0#32) = 1#1 ↔ t = 0 := by word_cmp
  by_cases h : n < 16
  · rw [dif_pos h]
    by_cases h0 : t = 0
    · rw [first.mpr h0, past_before _ _ (by omega)]; rfl
    · rw [bit_zero fun c => h0 (first.mp c)]
      exact (hp (by omega) ⟨n, h⟩).trans (past_row _ _ _ (by dsimp only; omega)).symm
  · rw [dif_neg h]
    exact (hg ⟨n - 16, by omega⟩).trans (past_row _ _ _ (by dsimp only; omega)).symm

theorem gated_at {x0 x1 x2 x3 x4} {k : Fin 22} {l : Fin 128} {C : Column} (i : grid0.Coords) (H : Reads x0 x1 x2 x3 x4 (i 0).val (col k l) C) (r : Fin 256) :
    gated i x0 x1 x2 x3 x4 k (ix2 r l) = gatedOf C ⟨256 * (i 0).val + r.val, by have := H.ht; omega⟩ := by
  have ht := H.ht
  unfold gated
  pointwise [k0_pay1]
  rw [rows_at (C := C) _ _ l ht H.g H.p _ (Nat.mod_lt _ (by decide)), rows_at (C := C) _ _ l ht H.g H.p _ (Nat.mod_lt _ (by decide)),
    show rowOf x4 0 k (ix2 (0 : Fin 1) l) = C.b from H.b, show rowOf x3 0 k (ix2 (0 : Fin 1) l) = C.w0 from H.w0,
    show rowOf x3 1 k (ix2 (0 : Fin 1) l) = C.w1 from H.w1, show rowOf x3 2 k (ix2 (0 : Fin 1) l) = C.w2 from H.w2,
    show cut x0 k (ix2 r l) = past C.A (256 * (i 0).val + r.val + 16) from (H.g r).trans (past_row _ _ _ (by dsimp only)).symm,
    show cut x2 k (ix2 r l) = C.V ⟨256 * (i 0).val + r.val, by omega⟩ from H.v r,
    show 256 * (i 0).val + (16 + r.val + 272 - 2) % 272 = 256 * (i 0).val + r.val + 14 by omega,
    show 256 * (i 0).val + (16 + r.val + 272 - 1) % 272 = 256 * (i 0).val + r.val + 15 by omega]
  rfl

variable (m : (ℓ : Loc nD τ sig) → Buf (Elt Ideal) ℓ)

theorem idx : ∀ t : Fin cfg0.N, win0_0.index t = ![t.val, 0] ∧ win0_1.index t = ![16 * t.val - 1, 0] ∧ win0_2.index t = ![t.val, 1]
    ∧ win0_3.index t = ![0, 0] ∧ win0_4.index t = ![0, 0] ∧ win0_5.index t = ![t.val, 0] :=
  (by decide +kernel : ∀ t : Fin grid0.N, _)

theorem coords_val : ∀ t : Fin cfg0.N, (grid0.coords t 0).val = t.val := (by decide +kernel : ∀ t : Fin grid0.N, _)
theorem lt32 (t : Fin cfg0.N) : t.val < 32 := lt_of_lt_of_eq t.isLt (by decide +kernel)

theorem V_taps (c : Dev nD) : V m c main_v0 = pad S8x2816 ![0, 0] ![5, 0] ![0, 0] (m ((c : Thread nD τ).loc main_arg1) : S3x2816.Idx → Elt Ideal .f32) (sitofp .f32 (constantI S_ 32 0#32) : FVec Ideal S_ .f32) pads_S3x2816_S8x2816_050_000 h_S_ := by
  unfold V
  simp only [hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

theorem V_bias (c : Dev nD) : V m c main_v1 = broadcastInDim S1x2816 ![1] bcast_S2816_S1x2816_1 (m ((c : Thread nD τ).loc main_arg2)) := by
  unfold V
  simp only [hostOps0, hostOps0_1, hostOps0_2, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

/-- Column `x` of the arguments. -/
abbrev colOf (c : Dev nD) (x : Fin 2816) : Column :=
  columnOf (m ((c : Thread nD τ).loc main_arg0)) (m ((c : Thread nD τ).loc main_arg1)) (m ((c : Thread nD τ).loc main_arg2)) x

theorem padded (w : FVec Ideal S3x2816 .f32) (z : FVec Ideal S_ .f32) (r : Fin 3) (x : Fin 2816) :
    pad S8x2816 ![0, 0] ![5, 0] ![0, 0] w z pads_S3x2816_S8x2816_050_000 h_S_ (ix2 (⟨r.val, by omega⟩ : Fin 8) x) = w (ix2 r x) := by
  pointwise []

theorem tap_row (c : Dev nD) (t : Fin cfg0.N) (x : Fin 2816) (r : Fin 3) :
    iblk m c 3 t (ix2 (⟨r.val, by omega⟩ : Fin 8) x) = m ((c : Thread nD τ).loc main_arg1) (ix2 r x) := by
  have h : iblk m c 3 t (ix2 (⟨r.val, by omega⟩ : Fin 8) x) = V m c main_v0 (ix2 (⟨r.val, by omega⟩ : Fin 8) x) := by blk_point [iblk, idx t]
  rw [h, V_taps]
  exact padded _ _ r x

theorem bias_row (c : Dev nD) (t : Fin cfg0.N) (x : Fin 2816) :
    iblk m c 4 t (ix2 (0 : Fin 1) x) = m ((c : Thread nD τ).loc main_arg2) (ix1 x) := by
  have h : iblk m c 4 t (ix2 (0 : Fin 1) x) = V m c main_v1 (ix2 (0 : Fin 1) x) := by blk_point [iblk, idx t]
  rw [h, V_bias]
  pointwise []

theorem reads (c : Dev nD) (t : Fin cfg0.N) (x : Fin 2816) :
    Reads (iblk m c 0 t) (iblk m c 1 t) (iblk m c 2 t) (iblk m c 3 t) (iblk m c 4 t) t.val x (colOf m c x) where
  ht := lt32 t
  g r := by
    show iblk m c 0 t (ix2 r x) = m ((c : Thread nD τ).loc main_arg0) _
    blk_point [iblk, V, idx t]
  p h r := by
    show iblk m c 1 t (ix2 r x) = m ((c : Thread nD τ).loc main_arg0) _
    blk_point [iblk, V, idx t]
  v r := by
    show iblk m c 2 t (ix2 r x) = m ((c : Thread nD τ).loc main_arg0) _
    blk_point [iblk, V, idx t]
  w0 := tap_row m c t x 0
  w1 := tap_row m c t x 1
  w2 := tap_row m c t x 2
  b := bias_row m c t x

/-- The result. -/
def gatedArr (c : Dev nD) (i : S8192x2816.Idx) : EReal := gatedOf (colOf m c (i 1)) (i 0)

theorem point_at (c : Dev nD) (t : Fin cfg0.N) (r : Fin 256) (x : Fin 2816) :
    outsAt0 m c t (ix2 r x) = gatedOf (colOf m c x) ⟨256 * t.val + r.val, by have := lt32 t; omega⟩ := by
  unfold outsAt0
  refine (out_at c _ _ _ _ _ _ _ _ _ _ _ _ _ _ _ _ _ _ r x).trans ?_
  refine (gated_at (C := colOf m c x) (grid0.coords t) (by rw [col_strip, coords_val t]; exact reads m c t x) r).trans ?_
  exact congrArg (gatedOf _) (Fin.ext (by dsimp only; rw [coords_val t]))

theorem final (c : Dev nD) : (dats m 0 c).arrAt 5 cfg0.N = gatedArr m c := by
  refine (dats m 0 c).arrAt_eq_of_covers 5 _ (by decide +kernel) fun t _ y => ?_
  blk_simp
  rw [after0_5]
  have h0 : ((win0_5.blk t).view.emb y 0).val = 256 * t.val + (y 0).val := by blk_simp [idx t]; omega
  have h1 : ((win0_5.blk t).view.emb y 1).val = (y 1).val := by blk_simp [idx t]
  refine ((congrArg (outsAt0 m c t) (eq_ix2 y)).trans (point_at m c t (y 0) (y 1))).trans ?_
  exact congrArg₂ (fun (r : Fin 8192) (x : Fin 2816) => gatedOf (colOf m c x) r) (Fin.ext h0.symm) (Fin.ext h1.symm)

end Cert.KFfwdIdeal.Ffwd

end
-- ==== Proof.Ffwd.Equation.lean ====
/- The gated convolution: the kernel and the forward lines leave the same array. -/
module

public import proofs.«01_k».proof.Defs
public import proofs.«01_k».proof.Proof.Gen.RFfwdIdeal.Run
public import proofs.«01_k».proof.Proof.Ffwd.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KFfwdIdeal Cert.KFfwdIdeal.Ffwd

/-- The gated convolution, over the extended reals. -/
theorem algebraic_ffwd : Cert.algebraic_KFfwdIdeal_RFfwdIdeal := fun m g m' g' _ hm => by
  refine ⟨_,
    (θ_run Cert.KFfwdIdeal.defs _ _).mono (fun _ h c => ⟨(h c).1.trans (final m c), (h c).2⟩) (Cert.KFfwdIdeal.Value.run_blocks m g),
    (θ_run Cert.RFfwdIdeal.defs _ _).mono (fun _ h c => ⟨(h c).1.trans ?_, (h c).2⟩) (Cert.RFfwdIdeal.Value.run m' g')⟩
  rw [Cert.RFfwdIdeal.Read.val_main_v30_eq, (hm c).1, (hm c).2.1, (hm c).2.2]
  funext i
  rw [eq_ix2 i]
  exact Cert.RFfwdIdeal.Ffwd.gated_at _ _ _ _ _

/-- The reference terminates and leaves its arguments. -/
theorem frame_ffwd_ref : Cert.quiescent_RFfwdIdeal := fun m g _ =>
  (θ_run Cert.RFfwdIdeal.defs _ _).mono (fun r h => ⟨fun c => (h c).2, sem_eq_zero_of_no_sems (by decide) r.2⟩)
    (Cert.RFfwdIdeal.Value.run m g)

end Cert.Proof

end
-- ==== Proof.Pfwd.Math.lean ====
/- The preparation of the mixer: the norm of a group of 64 columns, the gate's activation and the masked product of a chunk of rows. -/
module

public import proofs.«01_k».proof.Proof.Attn.Real
public import Idealize.ShloMosaic.Lib.Pointwise
public import Idealize.ShloMosaic.Lib.Pipeline.ValueKit

@[expose] public section

set_option backward.proofsInPublic true

noncomputable section

namespace Cert.Prep

open Idealize.ShloMosaic

abbrev Row := Fin 512 → EReal

/-- The mean square of the 64 columns that stand with column `z`. -/
def meanSq (X : Row) (z : Fin 512) : EReal :=
  Ideal.div (∑ k : Fin 64, X ⟨z.val / 64 * 64 + k.val, by omega⟩ * X ⟨z.val / 64 * 64 + k.val, by omega⟩) (Ideal.ofBits .f32 0x42800000#32)

/-- Element `z` over the root of its group's mean square. -/
def normed (X : Row) (z : Fin 512) : EReal := X z * Ideal.rsqrt (meanSq X z + Ideal.ofBits .f32 0x358637BD#32)

theorem zero_bits : Ideal.ofBits .f32 0x00000000#32 = (0 : EReal) := by simp [Ideal.ofBits, Ideal.ieee]

/-- The exact GELU. -/
def gelu (x : EReal) : EReal := Ideal.ofBits .f32 0x3F000000#32 * x * (1 + Ideal.erf (x * Ideal.ofBits .f32 0x3F3504F3#32))

theorem gelu_erfc (x : EReal) :
    Ideal.ofBits .f32 0x3F000000#32 * x * Ideal.erfc (-x * Ideal.ofBits .f32 0x3F3504F3#32) = gelu x := by
  rw [gelu, EReal.neg_mul, Ideal.erfc_neg]

theorem half_bits : Ideal.ofBits .f32 0x3F000000#32 = ((1 / 2 : ℝ) : EReal) := by
  simp [Ideal.ofBits, Ideal.ieee]
  rw [← EReal.coe_mul]; norm_num
theorem root_bits : ∃ r : ℝ, Ideal.ofBits .f32 0x3F3504F3#32 = (r : EReal) := by
  simp [Ideal.ofBits, Ideal.ieee]
  rw [← EReal.coe_mul]; exact ⟨_, rfl⟩

/-- The GELU of a real number is one. -/
theorem gelu_real (x : ℝ) : ∃ y : ℝ, gelu (x : EReal) = (y : EReal) := by
  obtain ⟨r, hr⟩ := root_bits
  rw [gelu, half_bits, hr, ← EReal.coe_mul, ← EReal.coe_mul, Ideal.erf_coe, ← EReal.coe_one, ← EReal.coe_add, ← EReal.coe_mul]
  exact ⟨_, rfl⟩

/-- A weight that looks back: nothing for a later row. -/
def past (W : Fin 8 → Fin 128 → Fin 128 → EReal) (g : Fin 8) (r s : Fin 128) : EReal := if s.val ≤ r.val then W g r s else 0

/-- One row of the mean's matrix: a 64th where the two columns stand in one group. -/
def share (k z : Fin 512) : EReal := if k.val / 64 = z.val / 64 then Ideal.ofBits .f32 0x3C800000#32 else 0

theorem share_bits : Ideal.ofBits .f32 0x3C800000#32 = ((1 / 64 : ℝ) : EReal) := by
  simp [Ideal.ofBits, Ideal.ieee]
  rw [← EReal.coe_mul]; norm_num
theorem count_bits : Ideal.ofBits .f32 0x42800000#32 = ((64 : ℝ) : EReal) := by
  simp [Ideal.ofBits, Ideal.ieee]
  rw [← EReal.coe_mul]; norm_num

/-- A sum against the mean's matrix is the group's mean. -/
theorem sum_share (Y : Fin 512 → ℝ) (z : Fin 512) :
    ∑ k : Fin 512, (Y k : EReal) * share k z = Ideal.div (∑ k : Fin 64, (Y ⟨z.val / 64 * 64 + k.val, by omega⟩ : EReal)) (Ideal.ofBits .f32 0x42800000#32) := by
  have hs : ∀ k, (Y k : EReal) * share k z = ((if k.val / 64 = z.val / 64 then Y k / 64 else 0 : ℝ) : EReal) := fun k => by
    unfold share
    split
    · rw [share_bits, ← EReal.coe_mul]; congr 1; ring
    · rw [mul_zero]; rfl
  have hz : z.val / 64 < 8 := by omega
  rw [Finset.sum_congr rfl fun k _ => hs k, Fin.sum_univ_tiles 8 64 rfl, Fintype.sum_eq_single ⟨z.val / 64, hz⟩ fun j hj => ?_]
  · rw [Cert.Attn.coe_sum (fun k : Fin 64 => Y ⟨z.val / 64 * 64 + k.val, _⟩), count_bits, Ideal.div, if_neg (by norm_num [← EReal.coe_zero]),
      ← EReal.coe_inv, ← EReal.coe_mul, Finset.sum_mul, ← Cert.Attn.coe_sum]
    refine Finset.sum_congr rfl fun k _ => ?_
    have := k.isLt
    rw [if_pos (show (z.val / 64 * 64 + k.val) / 64 = z.val / 64 by omega), div_eq_mul_inv]
  · refine Finset.sum_eq_zero fun k _ => ?_
    have := k.isLt
    have hne : j.val ≠ z.val / 64 := fun h => hj (Fin.ext h)
    rw [if_neg (show ¬ (j.val * 64 + k.val) / 64 = z.val / 64 by omega), EReal.coe_zero]

/-- What the two halves of a square add up to. -/
theorem split_sum (X : Row) (x : Fin 512 → ℝ) (hX : ∀ k, X k = (x k : EReal)) (z : Fin 512) :
    ∑ k : Fin 512, X k * X k * share k z + ∑ k : Fin 512, (X k * X k - X k * X k) * share k z = meanSq X z := by
  have h0 : ∀ k, (X k * X k - X k * X k) * share k z = 0 := fun k => by
    rw [hX, ← EReal.coe_mul, ← EReal.coe_sub, sub_self, EReal.coe_zero, zero_mul]
  have h1 : ∀ k, X k * X k = ((x k * x k : ℝ) : EReal) := fun k => by rw [hX, EReal.coe_mul]
  rw [Finset.sum_congr rfl fun k _ => h0 k, Finset.sum_const_zero, add_zero, meanSq]
  simp only [h1]
  exact sum_share (fun k => x k * x k) z

/-- The queries and keys, scaled by group, and the values, side by side. -/
def packed (X : Fin 8192 → Fin 2560 → EReal) (gq gk : Fin 64 → EReal) (r : Fin 8192) (z : Fin 1536) : EReal :=
  if h : z.val < 512 then normed (fun k => X r ⟨k.val, by omega⟩) ⟨z.val, h⟩ * gq ⟨z.val % 64, by omega⟩
  else if h : z.val < 1024 then normed (fun k => X r ⟨512 + k.val, by omega⟩) ⟨z.val - 512, by omega⟩ * gk ⟨z.val % 64, by omega⟩
  else X r ⟨z.val, by omega⟩

/-- The scaled GELU of the last 512 columns. -/
def scaled (X : Fin 8192 → Fin 2560 → EReal) (gz : Fin 512 → EReal) (r : Fin 8192) (z : Fin 512) : EReal :=
  normed (fun k => gelu (X r ⟨2048 + k.val, by omega⟩)) z * gz z

/-- The gate times the rows of a chunk under the weights that look back. -/
def gated (X : Fin 8192 → Fin 2560 → EReal) (gz : Fin 512 → EReal) (W : Fin 8 → Fin 128 → Fin 128 → EReal) (B : Fin 8 → Fin 128 → EReal)
    (r : Fin 8192) (z : Fin 512) : EReal :=
  gelu (X r ⟨1536 + z.val, by omega⟩)
    * (∑ k : Fin 128, past W ⟨z.val / 64, by omega⟩ ⟨r.val % 128, by omega⟩ k * scaled X gz ⟨r.val / 128 * 128 + k.val, by omega⟩ z
      + B ⟨z.val / 64, by omega⟩ ⟨r.val % 128, by omega⟩)

end Cert.Prep

end
-- ==== Proof.Pfwd.Block.lean ====
/- The preparation of the mixer: what one block of 512 rows computes, read at an index. -/
module

public import proofs.«01_k».proof.Proof.Gen.KPfwdIdeal.Value
public import proofs.«01_k».proof.Proof.Pfwd.Math

@[expose] public section

set_option maxRecDepth 16384
set_option backward.proofsInPublic true

noncomputable section

namespace Cert.KPfwdIdeal.Pfwd

open Cert.KPfwdIdeal Cert.KPfwdIdeal.Gen Cert.Prep Idealize.ShloMosaic Idealize.ShloMosaic.WordCmp

/-- The rows' numbers and the columns' numbers of a weight. -/
abbrev rows : IVec S128x128 32 := iota .tc S128x128 32 [0] iota_S128x128_d0_w32
abbrev cols : IVec S128x128 32 := iota .tc S128x128 32 [1] iota_S128x128_d1_w32

/-- Four chunks of rows, each under the masked weights of its groups, with the bias. -/
def mixed (B : FVec Ideal S128x512 .f32) (Z : FVec Ideal S512x512 .f32) (W : FVec Ideal S8x128x128 .f32) : FVec Ideal S512x512 .f32 :=
    k0_pay48 B Z k0_pay21 (k0_pay22 W) (k0_pay23 W) (k0_pay26 k0_pay24 (k0_pay25 W)) (k0_pay27 W rows cols) (k0_pay28 W rows cols)
    (k0_pay29 W rows cols) (k0_pay30 W rows cols) (k0_pay31 W rows cols) (k0_pay36 B Z k0_pay21 (k0_pay29 W rows cols) (k0_pay30 W
    rows cols) (k0_pay31 W rows cols) (k0_pay32 Z k0_pay21 (k0_pay22 W) (k0_pay23 W)) (k0_pay33 W Z rows cols k0_pay21 k0_pay24
    (k0_pay25 W)) (k0_pay34 Z) (k0_pay35 W rows cols)) (k0_pay40 B Z k0_pay21 (k0_pay30 W rows cols) (k0_pay31 W rows cols)
    (k0_pay37 Z k0_pay21 (k0_pay22 W) (k0_pay23 W)) (k0_pay38 Z k0_pay21 (k0_pay26 k0_pay24 (k0_pay25 W)) (k0_pay27 W rows cols))
    (k0_pay39 Z k0_pay21 (k0_pay28 W rows cols) (k0_pay29 W rows cols))) (k0_pay41 Z k0_pay21 (k0_pay22 W) (k0_pay23 W)) (k0_pay42
    Z k0_pay21 (k0_pay26 k0_pay24 (k0_pay25 W)) (k0_pay27 W rows cols)) (k0_pay43 Z k0_pay21 (k0_pay28 W rows cols) (k0_pay29 W
    rows cols)) (k0_pay45 Z (k0_pay30 W rows cols)) (k0_pay46 Z (k0_pay31 W rows cols)) (k0_pay47 k0_pay21)

variable (x0 : Vec Ideal S512x2560 .f32) (g : Vec Ideal S1x512 .f32) (M : Vec Ideal S512x512 .f32)

section parts
variable (hM : ∀ k z : Fin 512, M (ix2 k z) = share k z)
include hM

theorem q_at (r z : Fin 512) (X : Row) (x : Fin 512 → ℝ) (hX : ∀ k, X k = (x k : EReal)) (hx : ∀ k : Fin 512, x0 (ix2 r ⟨k.val, by omega⟩) = X k) :
    k0_pay1 (k0_pay14 x0 g M) (ix2 r z) = normed X z * g (ix2 0 z) := by
  pointwise [k0_pay1, k0_pay14, k0_pay9]
  simp only [hx, hM]
  rw [split_sum X x hX z, normed]

theorem k_at (r z : Fin 512) (X : Row) (x : Fin 512 → ℝ) (hX : ∀ k, X k = (x k : EReal)) (hx : ∀ k : Fin 512, x0 (ix2 r ⟨512 + k.val, by omega⟩) = X k) :
    k0_pay2 (k0_pay19 (k0_pay5 g) (k0_pay10 x0) (k0_pay16 x0) (k0_pay17 x0) (k0_pay18 M) (constant S512x512 .f32 0x00000000#32)) (ix2 r z)
      = normed X z * g (ix2 0 z) := by
  pointwise [k0_pay2, k0_pay19, k0_pay5, k0_pay10, k0_pay16, k0_pay17, k0_pay18, k0_pay15, k0_pay9]
  simp only [hx, hM]
  rw [split_sum X x hX z, normed]

theorem z_at (r z : Fin 512) (X : Row) (x : Fin 512 → ℝ) (hX : ∀ k, X k = (x k : EReal)) (hx : ∀ k : Fin 512, gelu (x0 (ix2 r ⟨2048 + k.val, by omega⟩)) = X k) :
    k0_pay20 (k0_pay6 g) (k0_pay9 M) (k0_pay13 x0) (ix2 r z) = normed X z * g (ix2 0 z) := by
  pointwise [k0_pay20, k0_pay6, k0_pay9, k0_pay13]
  have hg : ∀ k : Fin 512, Ideal.ofBits .f32 0x3F000000#32 * x0 (ix2 r ⟨2048 + k.val, by omega⟩)
      * (1 + FloatOps.erf (F := Ideal) (φ := .f32) (x0 (ix2 r ⟨2048 + k.val, by omega⟩) * Ideal.ofBits .f32 0x3F3504F3#32)) = X k := hx
  simp only [hg, hM]
  rw [split_sum X x hX z, normed]

end parts

theorem v_at (r z : Fin 512) : k0_pay3 (k0_pay11 x0) (ix2 r z) = x0 (ix2 r ⟨1024 + z.val, by omega⟩) := by
  pointwise [k0_pay3, k0_pay11]

theorem dite_of {α : Type} {P : Prop} [Decidable P] {a : P → α} {b : ¬P → α} {c : α} (ha : ∀ h, a h = c) (hb : ∀ h, b h = c) : dite P a b = c := by
  by_cases h : P
  · rw [dif_pos h]; exact ha h
  · rw [dif_neg h]; exact hb h

/-- One of the sixteen tiles: the half of the lanes below 64 takes its group's product, the other half the next group's. -/
theorem tile_at (W : FVec Ideal S8x128x128 .f32) (Z : FVec Ideal S512x512 .f32) (r z : Fin 512) (h h' : Fin 8) (n a : ℕ) (ha : a < 128)
    (i : Fin 128 → Fin 512) (y : Fin 512) (hn : n < 128) (hh : n < 64 → h.val = z.val / 64) (hh' : 64 ≤ n → h'.val = z.val / 64) (hr : a = r.val % 128)
    (hi : ∀ x, (i x).val = r.val / 128 * 128 + x.val) (hy : y.val = z.val) :
    Scalar.select (IntOp.cmpi .slt (BitVec.ofNat 32 n) 64#32)
      (∑ x : Fin 128, Scalar.select (IntOp.cmpi .sle (BitVec.ofNat 32 x.val) (BitVec.ofNat 32 a)) (W (ix3 h ⟨a, ha⟩ x) * Z (ix2 (i x) y)) (0 : EReal))
      (∑ x : Fin 128, Scalar.select (IntOp.cmpi .sle (BitVec.ofNat 32 x.val) (BitVec.ofNat 32 a)) (W (ix3 h' ⟨a, ha⟩ x) * Z (ix2 (i x) y)) (0 : EReal))
    = ∑ k : Fin 128, past (fun h a b => W (ix3 h a b)) ⟨z.val / 64, by omega⟩ ⟨r.val % 128, by omega⟩ k
        * Z (ix2 ⟨r.val / 128 * 128 + k.val, by omega⟩ z) := by
  subst hr
  obtain rfl : y = z := Fin.ext hy
  have e0 : IntOp.cmpi .slt (BitVec.ofNat 32 n) 64#32 = 1#1 ↔ n < 64 := by word_cmp
  have e1 : ∀ x : Fin 128, IntOp.cmpi .sle (BitVec.ofNat 32 x.val) (BitVec.ofNat 32 (r.val % 128)) = 1#1 ↔ x.val ≤ r.val % 128 := fun x => by
    have := x.isLt; word_cmp
  have e2 : ∀ x, i x = ⟨r.val / 128 * 128 + x.val, by omega⟩ := fun x => Fin.ext (hi x)
  change (if _ = 1#1 then (∑ x : Fin 128, if _ = 1#1 then _ else _) else (∑ x : Fin 128, if _ = 1#1 then _ else _)) = _
  simp only [e0, e1, e2, past, ite_mul, zero_mul]
  split
  · rename_i hlt
    obtain rfl : h = ⟨y.val / 64, by omega⟩ := Fin.ext (hh hlt)
    rfl
  · rename_i hlt
    obtain rfl : h' = ⟨y.val / 64, by omega⟩ := Fin.ext (hh' (by omega))
    rfl

/-- One of the eight groups' product at a row of a chunk. -/
abbrev prod (W : FVec Ideal S8x128x128 .f32) (Z : FVec Ideal S512x512 .f32) (a : ℕ) (ha : a < 128) (i : Fin 128 → Fin 512) (h : Fin 8) (y : Fin 512) : EReal :=
  ∑ x : Fin 128, Scalar.select (IntOp.cmpi .sle (BitVec.ofNat 32 x.val) (BitVec.ofNat 32 a)) (W (ix3 h ⟨a, ha⟩ x) * Z (ix2 (i x) y)) (0 : EReal)

/-- The four tiles of a row. -/
theorem row_at (W : FVec Ideal S8x128x128 .f32) (Z : FVec Ideal S512x512 .f32) (r z : Fin 512) (a : ℕ) (ha : a < 128) (i : Fin 128 → Fin 512)
    (hr : a = r.val % 128) (hi : ∀ x, (i x).val = r.val / 128 * 128 + x.val) :
    (if _ : z.val < 128 then Scalar.select (IntOp.cmpi .slt (BitVec.ofNat 32 z.val) 64#32) (prod W Z a ha i 0 z) (prod W Z a ha i 1 z)
      else if _ : z.val - 128 < 128 then
        Scalar.select (IntOp.cmpi .slt (BitVec.ofNat 32 (z.val - 128)) 64#32) (prod W Z a ha i 2 ⟨128 + (z.val - 128), by omega⟩) (prod W Z a ha i 3 ⟨128 + (z.val - 128), by omega⟩)
      else if _ : z.val - 128 - 128 < 128 then
        Scalar.select (IntOp.cmpi .slt (BitVec.ofNat 32 (z.val - 128 - 128)) 64#32) (prod W Z a ha i 4 ⟨256 + (z.val - 128 - 128), by omega⟩) (prod W Z a ha i 5 ⟨256 + (z.val - 128 - 128), by omega⟩)
      else Scalar.select (IntOp.cmpi .slt (BitVec.ofNat 32 (z.val - 128 - 128 - 128)) 64#32) (prod W Z a ha i 6 ⟨384 + (z.val - 128 - 128 - 128), by omega⟩) (prod W Z a ha i 7 ⟨384 + (z.val - 128 - 128 - 128), by omega⟩))
    = ∑ k : Fin 128, past (fun h a b => W (ix3 h a b)) ⟨z.val / 64, by omega⟩ ⟨r.val % 128, by omega⟩ k
        * Z (ix2 ⟨r.val / 128 * 128 + k.val, by omega⟩ z) := by
  have := z.isLt
  refine dite_of (fun h0 => ?_) fun h0 => dite_of (fun h1 => ?_) fun h1 => dite_of (fun h2 => ?_) fun h2 => ?_
  · exact tile_at W Z r z 0 1 z.val a ha i z h0 (fun _ => show 0 = _ by omega) (fun _ => show 1 = _ by omega) hr hi rfl
  · exact tile_at W Z r z 2 3 _ a ha i _ h1 (fun _ => show 2 = _ by omega) (fun _ => show 3 = _ by omega) hr hi (show 128 + (z.val - 128) = z.val by omega)
  · exact tile_at W Z r z 4 5 _ a ha i _ h2 (fun _ => show 4 = _ by omega) (fun _ => show 5 = _ by omega) hr hi (show 256 + (z.val - 128 - 128) = z.val by omega)
  · exact tile_at W Z r z 6 7 _ a ha i _ (by omega) (fun _ => show 6 = _ by omega) (fun _ => show 7 = _ by omega) hr hi
      (show 384 + (z.val - 128 - 128 - 128) = z.val by omega)

set_option maxHeartbeats 800000 in
theorem mixed_at (B : FVec Ideal S128x512 .f32) (Z : FVec Ideal S512x512 .f32) (W : FVec Ideal S8x128x128 .f32) (r z : Fin 512) :
    mixed B Z W (ix2 r z) = ∑ k : Fin 128, past (fun h a b => W (ix3 h a b)) ⟨z.val / 64, by omega⟩ ⟨r.val % 128, by omega⟩ k
        * Z (ix2 ⟨r.val / 128 * 128 + k.val, by omega⟩ z) + B (ix2 ⟨r.val % 128, by omega⟩ z) := by
  have := r.isLt
  pointwise [mixed, rows, cols, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  refine dite_of (fun h0 => ?_) fun h0 => dite_of (fun h1 => ?_) fun h1 => dite_of (fun h2 => ?_) fun h2 => ?_
  · exact congrArg₂ (· + ·) (row_at W Z r z r.val h0 (fun x => ⟨x.val, by omega⟩) (by omega) (fun x => show x.val = _ by omega))
      (congrArg (fun a => B (ix2 a z)) (Fin.ext (show r.val = r.val % 128 by omega)))
  · exact congrArg₂ (· + ·) (row_at W Z r z (r.val - 128) h1 (fun x => ⟨128 + x.val, by omega⟩) (by omega) (fun x => show 128 + x.val = _ by omega))
      (congrArg (fun a => B (ix2 a z)) (Fin.ext (show r.val - 128 = r.val % 128 by omega)))
  · exact congrArg₂ (· + ·) (row_at W Z r z (r.val - 128 - 128) h2 (fun x => ⟨256 + x.val, by omega⟩) (by omega) (fun x => show 256 + x.val = _ by omega))
      (congrArg (fun a => B (ix2 a z)) (Fin.ext (show r.val - 128 - 128 = r.val % 128 by omega)))
  · exact congrArg₂ (· + ·) (row_at W Z r z (r.val - 128 - 128 - 128) (by omega) (fun x => ⟨384 + x.val, by omega⟩) (by omega)
      (fun x => show 384 + x.val = _ by omega)) (congrArg (fun a => B (ix2 a z)) (Fin.ext (show r.val - 128 - 128 - 128 = r.val % 128 by omega)))

/-- The gate times the mixed rows. -/
theorem gated_at (S : FVec Ideal S512x512 .f32) (r z : Fin 512) :
    k0_pay4 (k0_pay12 x0) S (k0_pay49 (k0_pay12 x0)) (k0_pay50 (F := Ideal)) (ix2 r z)
      = gelu (x0 (ix2 r ⟨1536 + z.val, by omega⟩)) * S (ix2 r z) := by
  pointwise [k0_pay4, k0_pay12, k0_pay49, k0_pay50]
  rfl

theorem weight_at (W : Vec Ideal S1x8x128x128 .f32) (h : Fin 8) (a b : Fin 128) : k0_pay7 W (ix3 h a b) = W (ix4 0 h a b) := by
  pointwise [k0_pay7]
theorem bias_at (B : Vec Ideal S128x512 .f32) (a : Fin 128) (z : Fin 512) : k0_pay8 B (ix2 a z) = B (ix2 a z) := by
  pointwise [k0_pay8]

end Cert.KPfwdIdeal.Pfwd

end
-- ==== Proof.Pfwd.Host.lean ====
/- The preparation of the mixer: what the launch is handed. -/
module

public import proofs.«01_k».proof.Proof.Gen.KPfwdIdeal.Value
public import proofs.«01_k».proof.Proof.Pfwd.Math
public import Idealize.ShloMosaic.Lib.Pointwise
public import Idealize.ShloMosaic.Lib.WordCmp

@[expose] public section

set_option maxRecDepth 16384
set_option backward.proofsInPublic true

noncomputable section

namespace Cert.KPfwdIdeal.Pfwd

open Cert.KPfwdIdeal Cert.KPfwdIdeal.Gen Cert.Prep Idealize.ShloMosaic Idealize.ShloMosaic.WordCmp Idealize.ShloMosaic.TcCoe Idealize.SL.Sem

/-- The quotient by 64, rounded down, as the host computes it. -/
def groupOf (x : IVec S512x512 32) : IVec S512x512 32 :=
  select (andi (cmpi .ne (signi x) (broadcastInDim S512x512 ![] bcast_S_S512x512 (signi (id (constantI S_ 32 64#32)))))
      (cmpi .ne (Host.remsi x (broadcastInDim S512x512 ![] bcast_S_S512x512 (id (constantI S_ 32 64#32))))
        (broadcastInDim S512x512 ![] bcast_S_S512x512 (constantI S_ 32 0#32))))
    (subi (Host.divsi x (broadcastInDim S512x512 ![] bcast_S_S512x512 (id (constantI S_ 32 64#32))))
      (broadcastInDim S512x512 ![] bcast_S_S512x512 (constantI S_ 32 1#32)))
    (Host.divsi x (broadcastInDim S512x512 ![] bcast_S_S512x512 (id (constantI S_ 32 64#32))))

variable (m : (ℓ : Loc nD τ sig) → Buf (Elt Ideal) ℓ) (c : Dev nD)

set_option maxHeartbeats 1000000 in
theorem V_share : V m c main_v6 = id (select (cmpi .eq (groupOf (iotaInDim S512x512 32 0)) (groupOf (iotaInDim S512x512 32 1)))
    (broadcastInDim S512x512 ![] bcast_S_S512x512 (constant (F := Ideal) S_ .f32 0x3C800000#32)) (broadcastInDim S512x512 ![] bcast_S_S512x512 (constant (F := Ideal) S_ .f32 0x00000000#32))) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

set_option maxHeartbeats 1000000 in
theorem V_gq : V m c main_v18 = broadcastInDim S1x512 ![1] bcast_S512_S1x512_1 (shapeCast S512 (broadcastInDim S8x64 ![0, 1] bcast_S1x64_S8x64_0_1 (shapeCast S1x64 (m ((c : Thread nD τ).loc main_arg1) : FVec Ideal S64 .f32) shapeCasts_S64_S1x64)) shapeCasts_S8x64_S512) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

set_option maxHeartbeats 1000000 in
theorem V_gk : V m c main_v22 = broadcastInDim S1x512 ![1] bcast_S512_S1x512_1 (shapeCast S512 (broadcastInDim S8x64 ![0, 1] bcast_S1x64_S8x64_0_1 (shapeCast S1x64 (m ((c : Thread nD τ).loc main_arg2) : FVec Ideal S64 .f32) shapeCasts_S64_S1x64)) shapeCasts_S8x64_S512) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

set_option maxHeartbeats 1000000 in
theorem V_gz : V m c main_v23 = broadcastInDim S1x512 ![1] bcast_S512_S1x512_1 (m ((c : Thread nD τ).loc main_arg3) : FVec Ideal S512 .f32) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

set_option maxHeartbeats 1000000 in
theorem V_w : V m c main_v24 = broadcastInDim S1x8x128x128 ![1, 2, 3] bcast_S8x128x128_S1x8x128x128_1_2_3 (m ((c : Thread nD τ).loc main_arg4) : FVec Ideal S8x128x128 .f32) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

set_option maxHeartbeats 1000000 in
theorem V_b : V m c main_v14 = shapeCast S128x512 (broadcastInDim S128x8x64 ![0, 1] bcast_S128x8_S128x8x64_0_1 (transpose S128x8 [1, 0] (m ((c : Thread nD τ).loc main_arg5) : FVec Ideal S8x128 .f32) transposes_S8x128_S128x8_1_0)) shapeCasts_S128x8x64_S128x512 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

theorem idx : ∀ t : Fin cfg0.N, win0_0.index t = ![t.val, 0] ∧ win0_1.index t = ![0, 0] ∧ win0_2.index t = ![0, 0] ∧ win0_3.index t = ![0, 0]
    ∧ win0_4.index t = ![0, 0, 0, 0] ∧ win0_5.index t = ![0, 0] ∧ win0_6.index t = ![0, 0] ∧ win0_7.index t = ![t.val, 0] ∧ win0_8.index t = ![t.val, 0] :=
  (by decide +kernel : ∀ t : Fin grid0.N, _)

/-! ## The arguments -/

abbrev xs : Fin 8192 → Fin 2560 → EReal := fun r k => (m ((c : Thread nD τ).loc main_arg0) : Vec Ideal S8192x2560 .f32) (ix2 r k)
abbrev gq : Fin 64 → EReal := fun k => (m ((c : Thread nD τ).loc main_arg1) : Vec Ideal S64 .f32) (ix1 k)
abbrev gk : Fin 64 → EReal := fun k => (m ((c : Thread nD τ).loc main_arg2) : Vec Ideal S64 .f32) (ix1 k)
abbrev gz : Fin 512 → EReal := fun k => (m ((c : Thread nD τ).loc main_arg3) : Vec Ideal S512 .f32) (ix1 k)
abbrev ws : Fin 8 → Fin 128 → Fin 128 → EReal := fun h a b => (m ((c : Thread nD τ).loc main_arg4) : Vec Ideal S8x128x128 .f32) (ix3 h a b)
abbrev bs : Fin 8 → Fin 128 → EReal := fun h a => (m ((c : Thread nD τ).loc main_arg5) : Vec Ideal S8x128 .f32) (ix2 h a)

/-! ## The blocks -/

theorem at_x (t : Fin cfg0.N) (r : Fin 512) (k : Fin 2560) (h : 512 * t.val + r.val < 8192) :
    (iblk m c 0 t : Vec Ideal S512x2560 .f32) (ix2 r k) = xs m c ⟨512 * t.val + r.val, h⟩ k := by
  blk_point [iblk, V, idx t]
theorem at_gq (t : Fin cfg0.N) (k : Fin 512) : (iblk m c 1 t : Vec Ideal S1x512 .f32) (ix2 0 k) = gq m c ⟨k.val % 64, by omega⟩ := by
  have h : iblk m c 1 t (ix2 (0 : Fin 1) k) = V m c main_v18 (ix2 (0 : Fin 1) k) := by blk_point [iblk, idx t]
  refine h.trans ?_
  rw [V_gq]
  pointwise []
theorem at_gk (t : Fin cfg0.N) (k : Fin 512) : (iblk m c 2 t : Vec Ideal S1x512 .f32) (ix2 0 k) = gk m c ⟨k.val % 64, by omega⟩ := by
  have h : iblk m c 2 t (ix2 (0 : Fin 1) k) = V m c main_v22 (ix2 (0 : Fin 1) k) := by blk_point [iblk, idx t]
  refine h.trans ?_
  rw [V_gk]
  pointwise []
theorem at_gz (t : Fin cfg0.N) (k : Fin 512) : (iblk m c 3 t : Vec Ideal S1x512 .f32) (ix2 0 k) = gz m c k := by
  have h : iblk m c 3 t (ix2 (0 : Fin 1) k) = V m c main_v23 (ix2 (0 : Fin 1) k) := by blk_point [iblk, idx t]
  refine h.trans ?_
  rw [V_gz]
  pointwise []
theorem at_w (t : Fin cfg0.N) (g : Fin 8) (a b : Fin 128) : (iblk m c 4 t : Vec Ideal S1x8x128x128 .f32) (ix4 0 g a b) = ws m c g a b := by
  have h : iblk m c 4 t (ix4 (0 : Fin 1) g a b) = V m c main_v24 (ix4 (0 : Fin 1) g a b) := by blk_point [iblk, idx t]
  refine h.trans ?_
  rw [V_w]
  pointwise []
theorem at_b (t : Fin cfg0.N) (a : Fin 128) (k : Fin 512) : (iblk m c 5 t : Vec Ideal S128x512 .f32) (ix2 a k) = bs m c ⟨k.val / 64, by omega⟩ a := by
  have h : iblk m c 5 t (ix2 a k) = V m c main_v14 (ix2 a k) := by blk_point [iblk, idx t]
  refine h.trans ?_
  rw [V_b]
  pointwise []

/-- The word arithmetic of the quotient. -/
theorem quotient : ∀ j : Fin 512, Scalar.select
      (IntOp.andi
        (IntOp.cmpi .ne (if BitVec.ofNat 32 j.val = 0 then 0 else if (BitVec.ofNat 32 j.val).msb = true then -1 else 1 : BitVec 32)
          (if 64#32 = 0 then 0 else if (64#32).msb = true then -1 else 1 : BitVec 32))
        (IntOp.cmpi .ne (IntOp.remsi .host (BitVec.ofNat 32 j.val) 64#32) 0#32))
      (IntOp.subi (IntOp.divsi .host (BitVec.ofNat 32 j.val) 64#32) 1#32) (IntOp.divsi .host (BitVec.ofNat 32 j.val) 64#32)
    = BitVec.ofNat 32 (j.val / 64) := by
  decide +kernel

theorem groupOf_at (x : IVec S512x512 32) (i : S512x512.Idx) (j : Fin 512) (h : x i = BitVec.ofNat 32 j.val) : groupOf x i = BitVec.ofNat 32 (j.val / 64) := by
  unfold groupOf
  pointwise []
  simp only [h]
  exact quotient j

theorem at_share (t : Fin cfg0.N) (k z : Fin 512) : (iblk m c 6 t : Vec Ideal S512x512 .f32) (ix2 k z) = share k z := by
  have h : iblk m c 6 t (ix2 k z) = V m c main_v6 (ix2 k z) := by blk_point [iblk, idx t]
  refine h.trans ?_
  rw [V_share]
  change (if IntOp.cmpi .eq (groupOf (iotaInDim S512x512 32 0) (ix2 k z)) (groupOf (iotaInDim S512x512 32 1) (ix2 k z)) = 1#1
    then Ideal.ofBits .f32 0x3C800000#32 else Ideal.ofBits .f32 0x00000000#32) = _
  rw [groupOf_at _ (ix2 k z) k rfl, groupOf_at _ (ix2 k z) z rfl, share]
  have e : IntOp.cmpi .eq (BitVec.ofNat 32 (k.val / 64)) (BitVec.ofNat 32 (z.val / 64)) = 1#1 ↔ k.val / 64 = z.val / 64 := by word_cmp
  simp only [e, zero_bits]

end Cert.KPfwdIdeal.Pfwd

end
-- ==== Proof.Pfwd.Value.lean ====
/- The preparation of the mixer: what the launch leaves. -/
module

public import proofs.«01_k».proof.Proof.Pfwd.Block
public import proofs.«01_k».proof.Proof.Pfwd.Host
public import Idealize.ShloMosaic.Lib.Pipeline.ValueKit

@[expose] public section

set_option maxRecDepth 16384
set_option backward.proofsInPublic true

noncomputable section

namespace Cert.KPfwdIdeal.Pfwd

open Cert.KPfwdIdeal Cert.KPfwdIdeal.Gen Cert.Prep Idealize.ShloMosaic Idealize.ShloMosaic.TcCoe Idealize.SL.Sem
open Idealize.ShloMosaic.Pipeline (Dat)

variable (m : (ℓ : Loc nD τ sig) → Buf (Elt Ideal) ℓ)

theorem lt_rows (t : Fin cfg0.N) (r : Fin 512) : 512 * t.val + r.val < 8192 := by
  have h : t.val < 16 := lt_of_lt_of_eq t.isLt (by decide +kernel)
  omega

/-- Block row `r` of point `t`. -/
abbrev rowOf (t : Fin cfg0.N) (r : Fin 512) : Fin 8192 := ⟨512 * t.val + r.val, lt_rows t r⟩

/-- The columns that a norm reads are real. -/
def Real (X : Fin 8192 → Fin 2560 → EReal) : Prop :=
  ∃ x : Fin 8192 → Fin 2560 → ℝ, ∀ (r : Fin 8192) (k : Fin 512), X r ⟨k.val, by omega⟩ = (x r ⟨k.val, by omega⟩ : EReal)
    ∧ X r ⟨512 + k.val, by omega⟩ = (x r ⟨512 + k.val, by omega⟩ : EReal) ∧ X r ⟨2048 + k.val, by omega⟩ = (x r ⟨2048 + k.val, by omega⟩ : EReal)

theorem ld_x (x : Vec Ideal S512x2560 .f32) : View.ld x r0_0 = x := View.ld_unit_lit' _ x (by decide)
theorem ld_g (x : Vec Ideal S1x512 .f32) : View.ld x r0_1 = x := View.ld_unit_lit' _ x (by decide)
theorem ld_w (x : Vec Ideal S1x8x128x128 .f32) : View.ld x r0_2 = x := View.ld_unit_lit' _ x (by decide)
theorem ld_b (x : Vec Ideal S128x512 .f32) : View.ld x r0_3 = x := View.ld_unit_lit' _ x (by decide)
theorem ld_s (x : Vec Ideal S512x512 .f32) : View.ld x r0_4 = x := View.ld_unit_lit' _ x (by decide)

section point
variable (c : Dev nD) (t : Fin cfg0.N) (hx : Real (xs m c))
include hx

theorem queries (r z : Fin 512) : k0_pay1 (k0_pay14 (iblk m c 0 t) (iblk m c 1 t) (iblk m c 6 t)) (ix2 r z)
    = normed (fun k => xs m c (rowOf t r) ⟨k.val, by omega⟩) z * gq m c ⟨z.val % 64, by omega⟩ := by
  obtain ⟨x, h⟩ := hx
  exact (q_at _ _ _ (at_share m c t) r z _ _ (fun k => (h (rowOf t r) k).1) (fun k => at_x m c t r _ _)).trans (congrArg (_ * ·) (at_gq m c t z))

theorem keys (r z : Fin 512) :
    k0_pay2 (k0_pay19 (k0_pay5 (iblk m c 2 t)) (k0_pay10 (iblk m c 0 t)) (k0_pay16 (iblk m c 0 t)) (k0_pay17 (iblk m c 0 t)) (k0_pay18 (iblk m c 6 t)) (constant S512x512 .f32 0x00000000#32)) (ix2 r z)
    = normed (fun k => xs m c (rowOf t r) ⟨512 + k.val, by omega⟩) z * gk m c ⟨z.val % 64, by omega⟩ := by
  obtain ⟨x, h⟩ := hx
  exact (k_at _ _ _ (at_share m c t) r z _ _ (fun k => (h (rowOf t r) k).2.1) (fun k => at_x m c t r _ _)).trans (congrArg (_ * ·) (at_gk m c t z))

theorem gates (r z : Fin 512) : k0_pay20 (k0_pay6 (iblk m c 3 t)) (k0_pay9 (iblk m c 6 t)) (k0_pay13 (iblk m c 0 t)) (ix2 r z)
    = scaled (xs m c) (gz m c) (rowOf t r) z := by
  obtain ⟨x, h⟩ := hx
  choose y hy using fun k : Fin 512 => gelu_real (x (rowOf t r) ⟨2048 + k.val, by omega⟩)
  refine (z_at _ _ _ (at_share m c t) r z (fun k => gelu (xs m c (rowOf t r) ⟨2048 + k.val, by omega⟩)) y
    (fun k => ?_) (fun k => congrArg gelu (at_x m c t r _ _))).trans (congrArg (_ * ·) (at_gz m c t z))
  exact (congrArg gelu (h (rowOf t r) k).2.2).trans (hy k)

theorem point7 (r : Fin 512) (z : Fin 1536) :
    out0_7 (iblk m c 0 t) (iblk m c 1 t) (iblk m c 2 t) (iblk m c 3 t) (iblk m c 4 t) (iblk m c 5 t) (iblk m c 6 t) (ix2 r z)
      = packed (xs m c) (gq m c) (gk m c) (rowOf t r) z := by
  have hz := z.isLt
  unfold out0_7
  simp only [ld_x, ld_g, ld_s]
  refine View.canon_eq_of_allAt _ _ _ (cover0_7 _ _ _ _) (View.allAt_cons _ _ _ (fun x e => ?_) (View.allAt_cons _ _ _ (fun x e => ?_)
    (View.allAt_cons _ _ _ (fun x e => ?_) fun p hp => absurd hp List.not_mem_nil)))
  · have e0 : 0 + 1 * (x 0).val = r.val := congrArg Fin.val (congrFun e 0)
    have e1 : 1024 + 1 * (x 1).val = z.val := congrArg Fin.val (congrFun e 1)
    obtain rfl : r = x 0 := Fin.ext (by omega)
    rw [packed, dif_neg (by omega), dif_neg (by omega)]
    refine (congrArg _ (eq_ix2 x)).trans ((v_at _ (x 0) (x 1)).trans ((at_x m c t (x 0) _ (lt_rows t (x 0))).trans (congrArg (xs m c _) (Fin.ext ?_))))
    show 1024 + (x 1).val = z.val
    omega
  · have e0 : 0 + 1 * (x 0).val = r.val := congrArg Fin.val (congrFun e 0)
    have e1 : 512 + 1 * (x 1).val = z.val := congrArg Fin.val (congrFun e 1)
    have hb := (x 1).isLt
    obtain rfl : r = x 0 := Fin.ext (by omega)
    have hb' : (x 1).val < 512 := hb
    rw [packed, dif_neg (by omega), dif_pos (by omega)]
    refine (congrArg _ (eq_ix2 x)).trans ((keys m c t hx (x 0) (x 1)).trans (congrArg₂ (· * ·) (congrArg _ (Fin.ext ?_)) (congrArg (gk m c) (Fin.ext ?_))))
    · show (x 1).val = z.val - 512
      omega
    · show (x 1).val % 64 = z.val % 64
      omega
  · have e0 : 0 + 1 * (x 0).val = r.val := congrArg Fin.val (congrFun e 0)
    have e1 : 0 + 1 * (x 1).val = z.val := congrArg Fin.val (congrFun e 1)
    have hb' : (x 1).val < 512 := (x 1).isLt
    obtain rfl : r = x 0 := Fin.ext (by omega)
    rw [packed, dif_pos (by omega)]
    refine (congrArg _ (eq_ix2 x)).trans ((queries m c t hx (x 0) (x 1)).trans (congrArg₂ (· * ·) (congrArg _ (Fin.ext ?_)) (congrArg (gq m c) (Fin.ext ?_))))
    · show (x 1).val = z.val
      omega
    · show (x 1).val % 64 = z.val % 64
      omega

theorem point8 (r z : Fin 512) :
    out0_8 (iblk m c 0 t) (iblk m c 1 t) (iblk m c 2 t) (iblk m c 3 t) (iblk m c 4 t) (iblk m c 5 t) (iblk m c 6 t) (ix2 r z)
      = gated (xs m c) (gz m c) (ws m c) (bs m c) (rowOf t r) z := by
  have e : out0_8 (F := Ideal) (iblk m c 0 t) (iblk m c 1 t) (iblk m c 2 t) (iblk m c 3 t) (iblk m c 4 t) (iblk m c 5 t) (iblk m c 6 t)
      = k0_pay4 (k0_pay12 (iblk m c 0 t)) (mixed (k0_pay8 (iblk m c 5 t)) (k0_pay20 (k0_pay6 (iblk m c 3 t)) (k0_pay9 (iblk m c 6 t)) (k0_pay13 (iblk m c 0 t))) (k0_pay7 (iblk m c 4 t)))
          (k0_pay49 (k0_pay12 (iblk m c 0 t))) k0_pay50 := by
    frame_out
    simp only [k0_pay67, k0_pay66, k0_pay65, k0_pay64, k0_pay63, k0_pay62, k0_pay61, k0_pay60, k0_pay59, k0_pay58, k0_pay57, k0_pay56, k0_pay55,
      k0_pay54, k0_pay53, k0_pay52, k0_pay51, ld_x, ld_g, ld_s, ld_w, ld_b]
    rfl
  rw [e, gated_at, mixed_at]
  have hr : (512 * t.val + r.val) % 128 = r.val % 128 := by omega
  refine congrArg₂ (· * ·) (congrArg gelu (at_x m c t r _ (lt_rows t r))) (congrArg₂ (· + ·) (Finset.sum_congr rfl fun k _ => congrArg₂ (· * ·) ?_ ?_) ?_)
  · rw [show (fun h a b => k0_pay7 (iblk m c 4 t) (ix3 h a b)) = ws m c from funext fun h => funext fun a => funext fun b => (weight_at _ h a b).trans (at_w m c t h a b)]
    exact congrArg (past _ _ · _) (Fin.ext hr.symm)
  · refine (gates m c t hx _ z).trans (congrArg (scaled _ _ · z) (Fin.ext ?_))
    show 512 * t.val + (r.val / 128 * 128 + k.val) = (512 * t.val + r.val) / 128 * 128 + k.val
    omega
  · exact (bias_at _ _ z).trans ((at_b m c t _ z).trans (congrArg (bs m c _) (Fin.ext hr.symm)))

end point

theorem row_of {n : ℕ} (y : (⟨2, ![8192, n]⟩ : Shape).Idx) (r : Fin 8192) (z : Fin n) (h0 : (y 0).val = r.val) (h1 : (y 1).val = z.val) : y = ix2 r z := by
  funext a
  match a with
  | ⟨0, _⟩ => exact Fin.ext h0
  | ⟨1, _⟩ => exact Fin.ext h1

theorem final7 (c : Dev nD) (hx : Real (xs m c)) : (dats m 0 c).arrAt 7 cfg0.N = fun i : S8192x1536.Idx => packed (xs m c) (gq m c) (gk m c) (i 0) (i 1) := by
  refine (dats m 0 c).arrAt_eq_of_covers 7 _ (by decide +kernel) fun t _ y => ?_
  have h0 : ((win0_7.blk t).view.emb y 0).val = 512 * t.val + (y 0).val := by blk_simp [idx t]; omega
  have h1 : ((win0_7.blk t).view.emb y 1).val = (y 1).val := by blk_simp [idx t]
  rw [row_of ((win0_7.blk t).view.emb y) (rowOf t (y 0)) (y 1) h0 h1]
  blk_simp
  rw [after0_7]
  exact (congrArg _ (eq_ix2 y)).trans (point7 m c t hx (y 0) (y 1))

theorem final8 (c : Dev nD) (hx : Real (xs m c)) : (dats m 0 c).arrAt 8 cfg0.N = fun i : S8192x512.Idx => gated (xs m c) (gz m c) (ws m c) (bs m c) (i 0) (i 1) := by
  refine (dats m 0 c).arrAt_eq_of_covers 8 _ (by decide +kernel) fun t _ y => ?_
  have h0 : ((win0_8.blk t).view.emb y 0).val = 512 * t.val + (y 0).val := by blk_simp [idx t]; omega
  have h1 : ((win0_8.blk t).view.emb y 1).val = (y 1).val := by blk_simp [idx t]
  rw [row_of ((win0_8.blk t).view.emb y) (rowOf t (y 0)) (y 1) h0 h1]
  blk_simp
  rw [after0_8]
  exact (congrArg _ (eq_ix2 y)).trans (point8 m c t hx (y 0) (y 1))

end Cert.KPfwdIdeal.Pfwd

end
-- ==== Proof.Pfwd.Ref.lean ====
/- The preparation of the mixer, as the forward lines compute it, read at an index. -/
module

public import proofs.«01_k».proof.Proof.Gen.RPfwdIdeal.Read
public import proofs.«01_k».proof.Proof.Pfwd.Math
public import Idealize.ShloMosaic.Lib.Pointwise
public import Idealize.ShloMosaic.Lib.Pipeline.ValueKit
public import Idealize.ShloMosaic.Lib.WordCmp

@[expose] public section

set_option maxRecDepth 16384
set_option backward.proofsInPublic true

noncomputable section

namespace Cert.RPfwdIdeal.Pfwd

open Cert.RPfwdIdeal Cert.RPfwdIdeal.Read Cert.Prep Idealize.ShloMosaic Idealize.ShloMosaic.WordCmp

variable (x0 : Vec Ideal S8192x2560 .f32)

theorem q_at (x1 : Vec Ideal S64 .f32) (r : Fin 8192) (z : Fin 512) :
    val_main_v33 (F := Ideal) x0 x1 (ix2 r z) = normed (fun k => x0 (ix2 r ⟨k.val, by omega⟩)) z * x1 (ix1 ⟨z.val % 64, by omega⟩) := by
  pointwise [val_main_v33, val_main_v18, val_main_v17, val_main_v16, val_main_v15, val_main_v14, val_main_v13, val_main_v12, val_main_v11, val_main_v10, val_main_v9, val_main_v8, val_main_v7, val_main_v6, val_main_v5, val_main_v0, val_main_cst, val_main_cst_0, val_main_cst_1]
  rfl

theorem k_at (x2 : Vec Ideal S64 .f32) (r : Fin 8192) (z : Fin 512) :
    val_main_v34 (F := Ideal) x0 x2 (ix2 r z) = normed (fun k => x0 (ix2 r ⟨512 + k.val, by omega⟩)) z * x2 (ix1 ⟨z.val % 64, by omega⟩) := by
  pointwise [val_main_v34, val_main_v32, val_main_v31, val_main_v30, val_main_v29, val_main_v28, val_main_v27, val_main_v26, val_main_v25, val_main_v24, val_main_v23, val_main_v22, val_main_v21, val_main_v20, val_main_v19, val_main_v1, val_main_cst_2, val_main_cst_3, val_main_cst_4]
  rfl

theorem v_at (r : Fin 8192) (z : Fin 512) : val_main_v2 (F := Ideal) x0 (ix2 r z) = x0 (ix2 r ⟨1024 + z.val, by omega⟩) := by
  pointwise [val_main_v2]

theorem w_at (x4 : Vec Ideal S8x128x128 .f32) (g : Fin 8) (r s : Fin 128) :
    val_main_v68 (F := Ideal) x4 (ix3 g r s) = past (fun a b c => x4 (ix3 a b c)) g r s := by
  pointwise [val_main_v68, val_main_call1_v2, val_main_call1_v1, val_main_call1_v0, val_main_cst_12, val_main_v67, val_main_v66, val_main_call0_v5, val_main_call0_c_0, val_main_call0_v4, val_main_call0_v3, val_main_call0_v2, val_main_call0_v1, val_main_call0_v0, val_main_call0_c, val_main_v65, val_main_c]
  have h : IntOp.cmpi .sge (BitVec.ofNat 32 r.val) (BitVec.ofNat 32 s.val) = 1#1 ↔ s.val ≤ r.val := by word_cmp
  have h0 : IntOp.addi (BitVec.ofNat 32 r.val) 0#32 = BitVec.ofNat 32 r.val := BitVec.add_zero _
  have h1 : ∀ b : BitVec 1, Scalar.select b 1#1 0#1 = b := by decide
  rw [h0, h1]
  change (if _ = 1#1 then _ else Ideal.ofBits .f32 0x00000000#32) = _
  simp only [h, zero_bits, past]

theorem u_at (r : Fin 8192) (z : Fin 512) : val_main_v41 (F := Ideal) x0 (ix2 r z) = gelu (x0 (ix2 r ⟨1536 + z.val, by omega⟩)) := by
  pointwise [val_main_v41, val_main_v40, val_main_v39, val_main_v38, val_main_v37, val_main_v36, val_main_v35, val_main_v3, val_main_cst_5, val_main_cst_6]
  exact gelu_erfc _

theorem z_at (r : Fin 8192) (z : Fin 512) : val_main_v48 (F := Ideal) x0 (ix2 r z) = gelu (x0 (ix2 r ⟨2048 + z.val, by omega⟩)) := by
  pointwise [val_main_v48, val_main_v47, val_main_v46, val_main_v45, val_main_v44, val_main_v43, val_main_v42, val_main_v4, val_main_cst_7, val_main_cst_8]
  exact gelu_erfc _

abbrev mat : Fin 8192 → Fin 2560 → EReal := fun r k => x0 (ix2 r k)

theorem scaled_at (x3 : Vec Ideal S512 .f32) (r : Fin 8192) (z : Fin 512) :
    val_main_v63 (F := Ideal) x0 x3 (ix3 r ⟨z.val / 64, by omega⟩ ⟨z.val % 64, by omega⟩) = scaled (mat x0) (fun k => x3 (ix1 k)) r z := by
  pointwise [val_main_v63, val_main_v62, val_main_v61, val_main_v60, val_main_v59, val_main_v58, val_main_v57, val_main_v56, val_main_v55, val_main_v54, val_main_v53, val_main_v52, val_main_v51, val_main_v50, val_main_v49, val_main_cst_9, val_main_cst_10, val_main_cst_11]
  simp only [z_at]
  rfl

theorem s_at (x3 : Vec Ideal S512 .f32) (x4 : Vec Ideal S8x128x128 .f32) (x5 : Vec Ideal S8x128 .f32) (r : Fin 8192) (z : Fin 512) :
    val_main_v76 (F := Ideal) x0 x3 x4 x5 (ix2 r z) = ∑ k : Fin 128, past (fun a b c => x4 (ix3 a b c)) ⟨z.val / 64, by omega⟩ ⟨r.val % 128, by omega⟩ k
        * scaled (mat x0) (fun k => x3 (ix1 k)) ⟨r.val / 128 * 128 + k.val, by omega⟩ z + x5 (ix2 ⟨z.val / 64, by omega⟩ ⟨r.val % 128, by omega⟩) := by
  pointwise [val_main_v76, val_main_v75, val_main_v74, val_main_v73, val_main_v72, val_main_v71, val_main_v70, val_main_v69, val_main_v64]
  refine congrArg (· + _) (Finset.sum_congr rfl fun k _ => ?_)
  exact (mul_comm _ _).trans (congrArg₂ (· * ·) (w_at x4 _ _ k) (scaled_at x0 x3 _ z))

theorem gated_at (x3 : Vec Ideal S512 .f32) (x4 : Vec Ideal S8x128x128 .f32) (x5 : Vec Ideal S8x128 .f32) (r : Fin 8192) (z : Fin 512) :
    val_main_v80 (F := Ideal) x0 x3 x4 x5 (ix2 r z)
      = gated (mat x0) (fun k => x3 (ix1 k)) (fun a b c => x4 (ix3 a b c)) (fun a b => x5 (ix2 a b)) r z := by
  pointwise [val_main_v80, val_main_v77]
  exact congrArg₂ (· * ·) (u_at x0 r z) (s_at x0 x3 x4 x5 r z)

theorem dite_of {α : Type} {P : Prop} [Decidable P] {a : P → α} {b : ¬P → α} {c : α} (ha : ∀ h, a h = c) (hb : ∀ h, b h = c) : dite P a b = c := by
  by_cases h : P
  · rw [dif_pos h, ha]
  · rw [dif_neg h, hb]

theorem packed_at (x1 x2 : Vec Ideal S64 .f32) (r : Fin 8192) (z : Fin 1536) :
    val_main_v79 (F := Ideal) x0 x1 x2 (ix2 r z) = packed (mat x0) (fun k => x1 (ix1 k)) (fun k => x2 (ix1 k)) r z := by
  pointwise [val_main_v79, val_main_v78]
  have := z.isLt
  rw [packed]
  refine dite_of (fun h0 => ?_) fun h0 => dite_of (fun h1 => ?_) fun h1 => ?_
  · rw [dif_pos h0]; exact q_at x0 x1 r ⟨z.val, h0⟩
  · rw [dif_neg h0, dif_pos (by omega)]
    exact (k_at x0 x2 r ⟨z.val - 512, h1⟩).trans (congrArg (fun a => _ * x2 (ix1 a)) (Fin.ext (show (z.val - 512) % 64 = z.val % 64 by omega)))
  · rw [dif_neg h0, dif_neg (by omega)]
    exact (v_at x0 r _).trans (congrArg (fun j => x0 (ix2 r j)) (Fin.ext (show 1024 + (z.val - 512 - 512) = z.val by omega)))

end Cert.RPfwdIdeal.Pfwd

end
-- ==== Proof.Pfwd.Equation.lean ====
/- The preparation of the mixer: the kernel and the forward lines leave the same two arrays. -/
module

public import proofs.«01_k».proof.Defs
public import proofs.«01_k».proof.Proof.Gen.RPfwdIdeal.Run
public import proofs.«01_k».proof.Proof.Pfwd.Value
public import proofs.«01_k».proof.Proof.Pfwd.Ref
public import proofs.«01_k».proof.Proof.Attn.Real
public import Idealize.ShloMosaic.Lib.Claim
public import Idealize.ShloMosaic.Lib.Tactic
public import Idealize.ShloMosaic.Adequacy
public import Idealize.ShloMosaic.Init

@[expose] public section

set_option backward.proofsInPublic true

noncomputable section

namespace Cert.Proof

open Idealize.ShloMosaic Idealize.ShloMosaic.TcCoe Idealize.SL.Sem Cert.KPfwdIdeal Cert.KPfwdIdeal.Pfwd

/-- The facts the precondition's function states. -/
theorem prep_facts : Cert.Pre_prep_finite.Facts := by
  constructor <;> decide

/-- Where the precondition holds the columns that a norm reads are real. -/
theorem prep_real [Cert.Pre_prep_finite.Facts] (x0 : Vec Ideal S8192x2560 .f32) (x1 x2 : Vec Ideal S64 .f32) (x3 : Vec Ideal S512 .f32)
    (x4 : Vec Ideal S8x128x128 .f32) (x5 : Vec Ideal S8x128 .f32)
    (h : Cert.Pre_prep_finite.fn (F := Ideal) x0 x1 x2 x3 x4 x5 = fun _ => 1#1) : Real (fun r k => x0 (ix2 r k)) := by
  refine ⟨fun r k => (x0 (ix2 r k) : EReal).toReal, fun r k => ?_⟩
  have h1 := congrFun h (ix2 r k)
  unfold Cert.Pre_prep_finite.fn at h1
  simp only at h1
  revert h1
  pointwise []
  simp only [Cert.Attn.andi_one]
  exact fun h => ⟨Cert.Attn.real_of _ h.1.1, Cert.Attn.real_of _ h.1.2, Cert.Attn.real_of _ h.2⟩

/-- The preparation, over the extended reals. -/
theorem algebraic_pfwd [Cert.Pre_prep_finite.Facts] : Cert.algebraic_KPfwdIdeal_RPfwdIdeal_pre_prep_finite := fun m g m' g' hp hm => by
  have hx : ∀ c : Dev Cert.KPfwdIdeal.nD, Real (xs m c) := fun c => prep_real _ _ _ _ _ _ (hp c)
  refine ⟨_, _,
    (θ_run Cert.KPfwdIdeal.defs _ _).mono (fun _ h c => ⟨(h c).1.trans (final7 m c (hx c)), (h c).2.1.trans (final8 m c (hx c)), (h c).2.2⟩)
      (Cert.KPfwdIdeal.Value.run_blocks m g),
    (θ_run Cert.RPfwdIdeal.defs _ _).mono (fun _ h c => ⟨(h c).1.trans ?_, (h c).2.1.trans ?_, (h c).2.2⟩) (Cert.RPfwdIdeal.Value.run m' g')⟩
  · rw [Cert.RPfwdIdeal.Read.val_main_v79_eq, (hm c).1, (hm c).2.1, (hm c).2.2.1]
    funext i
    rw [eq_ix2 i]
    exact Cert.RPfwdIdeal.Pfwd.packed_at _ _ _ _ _
  · rw [Cert.RPfwdIdeal.Read.val_main_v80_eq, (hm c).1, (hm c).2.2.2.1, (hm c).2.2.2.2.1, (hm c).2.2.2.2.2]
    funext i
    rw [eq_ix2 i]
    exact Cert.RPfwdIdeal.Pfwd.gated_at _ _ _ _ _ _

/-- The reference terminates and leaves its arguments. -/
theorem frame_pfwd_ref : Cert.quiescent_RPfwdIdeal := fun m g _ =>
  (θ_run Cert.RPfwdIdeal.defs _ _).mono (fun r h => ⟨fun c => (h c).2.2, sem_eq_zero_of_no_sems (by decide) r.2⟩)
    (Cert.RPfwdIdeal.Value.run m g)

end Cert.Proof

end
-- ==== Proof.Nfwd.Block.lean ====
/- The product with a weight, the residual and the RMS norm after it: what one block's point computes and what the forward lines compute. -/
module

public import proofs.«01_k».proof.Proof.Gen.KNfwdIdeal.Value
public import proofs.«01_k».proof.Proof.Gen.RNfwdIdeal.Read
public import Idealize.ShloMosaic.Lib.Pointwise
public import Idealize.ShloMosaic.Lib.Pipeline.ValueKit

@[expose] public section

set_option maxRecDepth 16384
set_option backward.proofsInPublic true

noncomputable section

namespace Cert.Nfwd

open Idealize.ShloMosaic

/-- Element `z` of the sum: the residual and the row of activations times the weight's column. -/
def total (A : Fin 2816 → EReal) (W : Fin 2816 → Fin 1024 → EReal) (X : Fin 1024 → EReal) (z : Fin 1024) : EReal := X z + ∑ k : Fin 2816, A k * W k z

/-- Element `z` of a normed row: the element over the root of the row's mean square, times the gain. -/
def normed (S G : Fin 1024 → EReal) (z : Fin 1024) : EReal :=
  S z * Ideal.rsqrt (Ideal.div (∑ k : Fin 1024, S k * S k) (Ideal.ofBits .f32 0x44800000#32) + Ideal.ofBits .f32 0x358637BD#32) * G z

end Cert.Nfwd

namespace Cert.RNfwdIdeal.Nfwd

open Cert.RNfwdIdeal Cert.RNfwdIdeal.Read Cert.Nfwd Idealize.ShloMosaic

variable (x0 : Vec Ideal S8192x2816 .bf16) (x1 : Vec Ideal S2816x1024 .f32) (x2 : Vec Ideal S8192x1024 .f32) (x3 : Vec Ideal S1024 .f32)

abbrev sums (r : Fin 8192) : Fin 1024 → EReal := total (fun k => x0 (ix2 r k)) (fun k z => x1 (ix2 k z)) fun k => x2 (ix2 r k)

theorem total_at (r : Fin 8192) (z : Fin 1024) : val_main_v2 (F := Ideal) x0 x1 x2 (ix2 r z) = sums x0 x1 x2 r z := by
  pointwise [val_main_v2, val_main_v1, val_main_v0]
  rfl

theorem normed_at (r : Fin 8192) (z : Fin 1024) :
    val_main_v16 (F := Ideal) x0 x1 x2 x3 (ix2 r z) = normed (sums x0 x1 x2 r) (fun k => x3 (ix1 k)) z := by
  pointwise [val_main_v16, val_main_v15, val_main_v14, val_main_v13, val_main_v12, val_main_v11, val_main_v10, val_main_v9, val_main_v8, val_main_cst_1,
    val_main_v7, val_main_v6, val_main_cst_0, val_main_v5, val_main_v4, val_main_cst, val_main_v3]
  simp only [total_at]
  rfl

end Cert.RNfwdIdeal.Nfwd

namespace Cert.KNfwdIdeal.Nfwd

open Cert.KNfwdIdeal Cert.KNfwdIdeal.Gen Cert.Nfwd Idealize.ShloMosaic Idealize.ShloMosaic.TcCoe Idealize.SL.Sem

theorem total_at (a : Vec Ideal S512x2816 .bf16) (w : Vec Ideal S1x1x2816x1024 .bf16) (x : Vec Ideal S512x1024 .f32) (r : Fin 512) (z : Fin 1024) :
    k0_pay1 a w x (ix2 r z) = total (fun k => a (ix2 r k)) (fun k z => w (ix4 0 0 k z)) (fun k => x (ix2 r k)) z := by
  pointwise [k0_pay1]
  rfl

theorem normed_at (a : Vec Ideal S512x2816 .bf16) (w : Vec Ideal S1x1x2816x1024 .bf16) (x : Vec Ideal S512x1024 .f32) (g : Vec Ideal S1x1024 .f32)
    (r : Fin 512) (z : Fin 1024) : k0_pay2 a w x g (ix2 r z)
      = normed (total (fun k => a (ix2 r k)) (fun k z => w (ix4 0 0 k z)) fun k => x (ix2 r k)) (fun k => g (ix2 0 k)) z := by
  pointwise [k0_pay2]
  simp only [total_at]
  rfl

end Cert.KNfwdIdeal.Nfwd

end
-- ==== Proof.Nfwd.Value.lean ====
/- The product, the residual and the norm: what the kernel's two results hold. -/
module

public import proofs.«01_k».proof.Proof.Nfwd.Block

@[expose] public section

set_option maxRecDepth 16384
set_option backward.proofsInPublic true

noncomputable section

namespace Cert.KNfwdIdeal.Nfwd

open Cert.KNfwdIdeal Cert.KNfwdIdeal.Gen Cert.Nfwd Idealize.ShloMosaic Idealize.ShloMosaic.TcCoe Idealize.SL.Sem
open Idealize.ShloMosaic.Pipeline (Dat)

theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

abbrev acts (c : Dev nD) (r : Fin 8192) : Fin 2816 → EReal := fun k => (m ((c : Thread nD τ).loc main_arg0) : Vec Ideal S8192x2816 .bf16) (ix2 r k)
abbrev weight (c : Dev nD) : Fin 2816 → Fin 1024 → EReal := fun k z => (m ((c : Thread nD τ).loc main_arg1) : Vec Ideal S2816x1024 .f32) (ix2 k z)
abbrev xs (c : Dev nD) (r : Fin 8192) : Fin 1024 → EReal := fun k => (m ((c : Thread nD τ).loc main_arg2) : Vec Ideal S8192x1024 .f32) (ix2 r k)
abbrev gs (c : Dev nD) : Fin 1024 → EReal := fun k => (m ((c : Thread nD τ).loc main_arg3) : Vec Ideal S1024 .f32) (ix1 k)

/-- The sum of row `r`. -/
abbrev sums (c : Dev nD) (r : Fin 8192) : Fin 1024 → EReal := total (acts m c r) (weight m c) (xs m c r)

/-- The two results. -/
def outSum (c : Dev nD) (i : S8192x1024.Idx) : EReal := sums m c (i 0) (i 1)
def outNorm (c : Dev nD) (i : S8192x1024.Idx) : EReal := normed (sums m c (i 0)) (gs m c) (i 1)

theorem at_a (c : Dev nD) (t : Fin cfg0.N) (r : Fin 512) (k : Fin 2816) (h : 512 * t.val + r.val < 8192) :
    (iblk m c 0 t : Vec Ideal S512x2816 .bf16) (ix2 r k) = acts m c ⟨512 * t.val + r.val, h⟩ k := by
  blk_point [iblk, V, idx t]
theorem at_w (c : Dev nD) (t : Fin cfg0.N) (k : Fin 2816) (z : Fin 1024) :
    (iblk m c 1 t : Vec Ideal S1x1x2816x1024 .bf16) (ix4 0 0 k z) = weight m c k z := by
  blk_point [iblk, V, idx t]
theorem at_x (c : Dev nD) (t : Fin cfg0.N) (r : Fin 512) (k : Fin 1024) (h : 512 * t.val + r.val < 8192) :
    (iblk m c 2 t : Vec Ideal S512x1024 .f32) (ix2 r k) = xs m c ⟨512 * t.val + r.val, h⟩ k := by
  blk_point [iblk, V, idx t]
theorem at_g (c : Dev nD) (t : Fin cfg0.N) (k : Fin 1024) : (iblk m c 3 t : Vec Ideal S1x1024 .f32) (ix2 0 k) = gs m c k := by
  blk_point [iblk, V, idx t]

theorem lt_rows (t : Fin cfg0.N) (r : Fin 512) : 512 * t.val + r.val < 8192 := by
  have h : t.val < 16 := lt_of_lt_of_eq t.isLt (by decide +kernel)
  omega

theorem row_of (y : S8192x1024.Idx) (r : Fin 8192) (z : Fin 1024) (h0 : (y 0).val = r.val) (h1 : (y 1).val = z.val) : y = ix2 r z := by
  funext a
  match a with
  | ⟨0, _⟩ => exact Fin.ext h0
  | ⟨1, _⟩ => exact Fin.ext h1

theorem block_sums (c : Dev nD) (t : Fin cfg0.N) (r : Fin 512) (h : 512 * t.val + r.val < 8192) :
    total (fun k => (iblk m c 0 t : Vec Ideal S512x2816 .bf16) (ix2 r k)) (fun k z => (iblk m c 1 t : Vec Ideal S1x1x2816x1024 .bf16) (ix4 0 0 k z))
      (fun k => (iblk m c 2 t : Vec Ideal S512x1024 .f32) (ix2 r k)) = sums m c ⟨512 * t.val + r.val, h⟩ := by
  rw [show (fun k : Fin 2816 => (iblk m c 0 t : Vec Ideal S512x2816 .bf16) (ix2 r k)) = acts m c ⟨512 * t.val + r.val, h⟩ from funext fun k => at_a m c t r k h,
    show (fun (k : Fin 2816) (z : Fin 1024) => (iblk m c 1 t : Vec Ideal S1x1x2816x1024 .bf16) (ix4 0 0 k z)) = weight m c
      from funext fun k => funext fun z => at_w m c t k z,
    show (fun k : Fin 1024 => (iblk m c 2 t : Vec Ideal S512x1024 .f32) (ix2 r k)) = xs m c ⟨512 * t.val + r.val, h⟩ from funext fun k => at_x m c t r k h]

theorem sum_point (c : Dev nD) (t : Fin cfg0.N) (r : Fin 512) (z : Fin 1024) :
    out0_4 (iblk m c 0 t) (iblk m c 1 t) (iblk m c 2 t) (iblk m c 3 t) (ix2 r z) = outSum m c (ix2 (⟨512 * t.val + r.val, lt_rows t r⟩ : Fin 8192) z) := by
  have e : out0_4 (F := Ideal) (iblk m c 0 t) (iblk m c 1 t) (iblk m c 2 t) (iblk m c 3 t) = k0_pay1 (iblk m c 0 t) (iblk m c 1 t) (iblk m c 2 t) := by frame_out
  rw [e]
  refine (total_at _ _ _ r z).trans ?_
  rw [block_sums m c t r (lt_rows t r)]
  rfl

theorem norm_point (c : Dev nD) (t : Fin cfg0.N) (r : Fin 512) (z : Fin 1024) :
    out0_5 (iblk m c 0 t) (iblk m c 1 t) (iblk m c 2 t) (iblk m c 3 t) (ix2 r z) = outNorm m c (ix2 (⟨512 * t.val + r.val, lt_rows t r⟩ : Fin 8192) z) := by
  have e : out0_5 (F := Ideal) (iblk m c 0 t) (iblk m c 1 t) (iblk m c 2 t) (iblk m c 3 t)
      = k0_pay2 (iblk m c 0 t) (iblk m c 1 t) (iblk m c 2 t) (iblk m c 3 t) := by frame_out
  rw [e]
  refine (normed_at _ _ _ _ r z).trans ?_
  rw [block_sums m c t r (lt_rows t r), show (fun k : Fin 1024 => (iblk m c 3 t : Vec Ideal S1x1024 .f32) (ix2 0 k)) = gs m c from funext fun k => at_g m c t k]
  rfl

theorem final_sum (c : Dev nD) : (dats m 0 c).arrAt 4 cfg0.N = outSum m c := by
  refine (dats m 0 c).arrAt_eq_of_covers 4 _ (by decide +kernel) fun t _ y => ?_
  have h0 : ((win0_4.blk t).view.emb y 0).val = 512 * t.val + (y 0).val := by blk_simp [idx t]; omega
  have h1 : ((win0_4.blk t).view.emb y 1).val = (y 1).val := by blk_simp [idx t]
  rw [row_of ((win0_4.blk t).view.emb y) ⟨512 * t.val + (y 0).val, lt_rows t (y 0)⟩ (y 1) h0 h1]
  blk_simp
  rw [after0_4]
  exact (congrArg _ (eq_ix2 y)).trans (sum_point m c t (y 0) (y 1))

theorem final_norm (c : Dev nD) : (dats m 0 c).arrAt 5 cfg0.N = outNorm m c := by
  refine (dats m 0 c).arrAt_eq_of_covers 5 _ (by decide +kernel) fun t _ y => ?_
  have h0 : ((win0_5.blk t).view.emb y 0).val = 512 * t.val + (y 0).val := by blk_simp [idx t]; omega
  have h1 : ((win0_5.blk t).view.emb y 1).val = (y 1).val := by blk_simp [idx t]
  rw [row_of ((win0_5.blk t).view.emb y) ⟨512 * t.val + (y 0).val, lt_rows t (y 0)⟩ (y 1) h0 h1]
  blk_simp
  rw [after0_5]
  exact (congrArg _ (eq_ix2 y)).trans (norm_point m c t (y 0) (y 1))

end Cert.KNfwdIdeal.Nfwd

end
-- ==== Proof.Nfwd.Equation.lean ====
/- The product, the residual and the norm: the kernel and the forward lines leave the same two arrays. -/
module

public import proofs.«01_k».proof.Defs
public import proofs.«01_k».proof.Proof.Gen.RNfwdIdeal.Run
public import proofs.«01_k».proof.Proof.Nfwd.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KNfwdIdeal Cert.KNfwdIdeal.Nfwd

/-- The product with the weight, the residual and the norm, over the extended reals. -/
theorem algebraic_nfwd : Cert.algebraic_KNfwdIdeal_RNfwdIdeal := fun m g m' g' _ hm => by
  refine ⟨_, _,
    (θ_run Cert.KNfwdIdeal.defs _ _).mono (fun _ h c => ⟨(h c).1.trans (final_sum m c), (h c).2.1.trans (final_norm m c), (h c).2.2⟩) (Cert.KNfwdIdeal.Value.run_blocks m g),
    (θ_run Cert.RNfwdIdeal.defs _ _).mono (fun _ h c => ⟨(h c).1.trans ?_, (h c).2.1.trans ?_, (h c).2.2⟩) (Cert.RNfwdIdeal.Value.run m' g')⟩
  · rw [Cert.RNfwdIdeal.Read.val_main_v2_eq, (hm c).1, (hm c).2.1, (hm c).2.2.1]
    funext i
    rw [eq_ix2 i]
    exact Cert.RNfwdIdeal.Nfwd.total_at _ _ _ _ _
  · rw [Cert.RNfwdIdeal.Read.val_main_v16_eq, (hm c).1, (hm c).2.1, (hm c).2.2.1, (hm c).2.2.2]
    funext i
    rw [eq_ix2 i]
    exact Cert.RNfwdIdeal.Nfwd.normed_at _ _ _ _ _ _

/-- The reference terminates and leaves its arguments. -/
theorem frame_nfwd_ref : Cert.quiescent_RNfwdIdeal := fun m g _ =>
  (θ_run Cert.RNfwdIdeal.defs _ _).mono (fun r h => ⟨fun c => (h c).2.2, sem_eq_zero_of_no_sems (by decide) r.2⟩)
    (Cert.RNfwdIdeal.Value.run m g)

end Cert.Proof

end
-- ==== Proof.Mmnn.Value.lean ====
/- The plain product: what the kernel leaves and what the forward line computes, read at an index. -/
module

public import proofs.«01_k».proof.Proof.Gen.KMmnnIdeal.Value
public import proofs.«01_k».proof.Proof.Gen.RMmnnIdeal.Read
public import Idealize.ShloMosaic.Lib.Pointwise
public import Idealize.ShloMosaic.Lib.Pipeline.ValueKit

@[expose] public section

set_option maxRecDepth 16384
set_option backward.proofsInPublic true

noncomputable section

namespace Cert.Mmnn

open Idealize.ShloMosaic

/-- Row `r` times column `z`. -/
def prod (A : Fin 8192 → Fin 1024 → EReal) (W : Fin 1024 → Fin 5632 → EReal) (r : Fin 8192) (z : Fin 5632) : EReal := ∑ k : Fin 1024, A r k * W k z

end Cert.Mmnn

namespace Cert.RMmnnIdeal.Mmnn

open Cert.RMmnnIdeal Cert.RMmnnIdeal.Read Cert.Mmnn Idealize.ShloMosaic

theorem prod_at (x0 : Vec Ideal S8192x1024 .bf16) (x1 : Vec Ideal S1024x5632 .f32) (r : Fin 8192) (z : Fin 5632) :
    val_main_v2 (F := Ideal) x0 x1 (ix2 r z) = prod (fun r k => x0 (ix2 r k)) (fun k z => x1 (ix2 k z)) r z := by
  pointwise [val_main_v2, val_main_v1, val_main_v0]
  rfl

end Cert.RMmnnIdeal.Mmnn

namespace Cert.KMmnnIdeal.Mmnn

open Cert.KMmnnIdeal Cert.KMmnnIdeal.Gen Cert.Mmnn Idealize.ShloMosaic Idealize.ShloMosaic.TcCoe Idealize.SL.Sem
open Idealize.ShloMosaic.Pipeline (Dat)

theorem idx : ∀ t : Fin cfg0.N, win0_0.index t = ![t.val / 4, 0] ∧ win0_1.index t = ![0, t.val % 4, 0, 0] ∧ win0_2.index t = ![t.val / 4, t.val % 4] :=
  (by decide +kernel : ∀ t : Fin grid0.N, _)

theorem block_at (a : Vec Ideal S1024x1024 .bf16) (w : Vec Ideal S1x1x1024x1408 .bf16) (r : Fin 1024) (z : Fin 1408) :
    k0_pay1 a w (ix2 r z) = ∑ k : Fin 1024, a (ix2 r k) * w (ix4 0 0 k z) := by
  pointwise [k0_pay1]

variable (m : (ℓ : Loc nD τ sig) → Buf (Elt Ideal) ℓ)

abbrev hs (c : Dev nD) (r : Fin 8192) : Fin 1024 → EReal := fun k => (m ((c : Thread nD τ).loc main_arg0) : Vec Ideal S8192x1024 .bf16) (ix2 r k)
abbrev ws (c : Dev nD) (k : Fin 1024) : Fin 5632 → EReal := fun z => (m ((c : Thread nD τ).loc main_arg1) : Vec Ideal S1024x5632 .f32) (ix2 k z)

/-- The result. -/
def out (c : Dev nD) (i : S8192x5632.Idx) : EReal := prod (hs m c) (ws m c) (i 0) (i 1)

theorem lt_rows (t : Fin cfg0.N) (r : Fin 1024) : 1024 * (t.val / 4) + r.val < 8192 := by
  have h : t.val < 32 := lt_of_lt_of_eq t.isLt (by decide +kernel)
  omega
theorem lt_cols (t : Fin cfg0.N) (z : Fin 1408) : t.val % 4 * 1408 + z.val < 5632 := by omega

theorem at_a (c : Dev nD) (t : Fin cfg0.N) (r : Fin 1024) (k : Fin 1024) (h : 1024 * (t.val / 4) + r.val < 8192) :
    (iblk m c 0 t : Vec Ideal S1024x1024 .bf16) (ix2 r k) = hs m c ⟨1024 * (t.val / 4) + r.val, h⟩ k := by
  blk_point [iblk, V, idx t]
theorem at_w (c : Dev nD) (t : Fin cfg0.N) (k : Fin 1024) (z : Fin 1408) (h : t.val % 4 * 1408 + z.val < 5632) :
    (iblk m c 1 t : Vec Ideal S1x1x1024x1408 .bf16) (ix4 0 0 k z) = ws m c k ⟨t.val % 4 * 1408 + z.val, h⟩ := by
  blk_point [iblk, V, idx t]

theorem row_of (y : S8192x5632.Idx) (r : Fin 8192) (z : Fin 5632) (h0 : (y 0).val = r.val) (h1 : (y 1).val = z.val) : y = ix2 r z := by
  funext a
  match a with
  | ⟨0, _⟩ => exact Fin.ext h0
  | ⟨1, _⟩ => exact Fin.ext h1

theorem point_at (c : Dev nD) (t : Fin cfg0.N) (r : Fin 1024) (z : Fin 1408) : out0_2 (iblk m c 0 t) (iblk m c 1 t) (ix2 r z)
    = out m c (ix2 (⟨1024 * (t.val / 4) + r.val, lt_rows t r⟩ : Fin 8192) (⟨t.val % 4 * 1408 + z.val, lt_cols t z⟩ : Fin 5632)) := by
  have e : out0_2 (F := Ideal) (iblk m c 0 t) (iblk m c 1 t) = k0_pay1 (iblk m c 0 t) (iblk m c 1 t) := by frame_out
  rw [e]
  refine (block_at _ _ r z).trans ?_
  show _ = ∑ k : Fin 1024, hs m c ⟨1024 * (t.val / 4) + r.val, lt_rows t r⟩ k * ws m c k ⟨t.val % 4 * 1408 + z.val, lt_cols t z⟩
  exact Fin.sum_fin_congr fun k => congrArg₂ _ (at_a m c t r k (lt_rows t r)) (at_w m c t k z (lt_cols t z))

theorem final (c : Dev nD) : (dats m 0 c).arrAt 2 cfg0.N = out m c := by
  refine (dats m 0 c).arrAt_eq_of_covers 2 _ (by decide +kernel) fun t _ y => ?_
  have h0 : ((win0_2.blk t).view.emb y 0).val = 1024 * (t.val / 4) + (y 0).val := by blk_simp [idx t]; omega
  have h1 : ((win0_2.blk t).view.emb y 1).val = t.val % 4 * 1408 + (y 1).val := by blk_simp [idx t]
  rw [row_of ((win0_2.blk t).view.emb y) ⟨1024 * (t.val / 4) + (y 0).val, lt_rows t (y 0)⟩ ⟨t.val % 4 * 1408 + (y 1).val, lt_cols t (y 1)⟩ h0 h1]
  blk_simp
  rw [after0_2]
  exact (congrArg _ (eq_ix2 y)).trans (point_at m c t (y 0) (y 1))

end Cert.KMmnnIdeal.Mmnn

end
-- ==== Proof.Mmnn.Equation.lean ====
/- The plain product: the kernel and the forward line leave the same array. -/
module

public import proofs.«01_k».proof.Defs
public import proofs.«01_k».proof.Proof.Gen.RMmnnIdeal.Run
public import proofs.«01_k».proof.Proof.Mmnn.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KMmnnIdeal Cert.KMmnnIdeal.Mmnn

/-- The product, over the extended reals. -/
theorem algebraic_mmnn : Cert.algebraic_KMmnnIdeal_RMmnnIdeal := fun m g m' g' _ hm => by
  refine ⟨_,
    (θ_run Cert.KMmnnIdeal.defs _ _).mono (fun _ h c => ⟨(h c).1.trans (final m c), (h c).2⟩) (Cert.KMmnnIdeal.Value.run_blocks m g),
    (θ_run Cert.RMmnnIdeal.defs _ _).mono (fun _ h c => ⟨(h c).1.trans ?_, (h c).2⟩) (Cert.RMmnnIdeal.Value.run m' g')⟩
  rw [Cert.RMmnnIdeal.Read.val_main_v2_eq, (hm c).1, (hm c).2]
  funext i
  rw [eq_ix2 i]
  exact Cert.RMmnnIdeal.Mmnn.prod_at _ _ _ _

/-- The reference terminates and leaves its arguments. -/
theorem frame_mmnn_ref : Cert.quiescent_RMmnnIdeal := fun m g _ =>
  (θ_run Cert.RMmnnIdeal.defs _ _).mono (fun r h => ⟨fun c => (h c).2, sem_eq_zero_of_no_sems (by decide) r.2⟩)
    (Cert.RMmnnIdeal.Value.run m g)

end Cert.Proof

end
-- ==== Proof.Mmnt.Value.lean ====
/- The product with a transposed weight: what the kernel leaves and the derivative of the product's line, read at an index. -/
module

public import proofs.«01_k».proof.Proof.Gen.KMmntIdeal.Value
public import proofs.«01_k».proof.Proof.Gen.RMmntIdeal.Read
public import Idealize.ShloMosaic.Lib.Pointwise
public import Idealize.ShloMosaic.Lib.Pipeline.ValueKit

@[expose] public section

set_option maxRecDepth 16384
set_option backward.proofsInPublic true

noncomputable section

namespace Cert.Mmnt

open Idealize.ShloMosaic

/-- Row `r` of the cotangent times row `z` of the weight. -/
def prod (D : Fin 8192 → Fin 1024 → EReal) (W : Fin 2816 → Fin 1024 → EReal) (r : Fin 8192) (z : Fin 2816) : EReal := ∑ k : Fin 1024, D r k * W z k

end Cert.Mmnt

namespace Cert.RMmntIdeal.Mmnt

open Cert.RMmntIdeal Cert.RMmntIdeal.Read Cert.Mmnt Idealize.ShloMosaic

theorem prod_at (x0 : Vec Ideal S8192x1024 .bf16) (x1 : Vec Ideal S2816x1024 .f32) (r : Fin 8192) (z : Fin 2816) :
    val_main_v4 (F := Ideal) x0 x1 (ix2 r z) = prod (fun r k => x0 (ix2 r k)) (fun k z => x1 (ix2 k z)) r z := by
  pointwise [val_main_v4, val_main_v3, val_main_v2]
  rfl

end Cert.RMmntIdeal.Mmnt

namespace Cert.KMmntIdeal.Mmnt

open Cert.KMmntIdeal Cert.KMmntIdeal.Gen Cert.Mmnt Idealize.ShloMosaic Idealize.ShloMosaic.TcCoe Idealize.SL.Sem
open Idealize.ShloMosaic.Pipeline (Dat)

theorem idx : ∀ t : Fin cfg0.N, win0_0.index t = ![t.val, 0] ∧ win0_1.index t = ![0, 0, 0, 0] ∧ win0_2.index t = ![t.val, 0] :=
  (by decide +kernel : ∀ t : Fin grid0.N, _)

theorem block_at (a : Vec Ideal S512x1024 .bf16) (w : Vec Ideal S1x1x2816x1024 .bf16) (r : Fin 512) (z : Fin 2816) :
    k0_pay1 a w (ix2 r z) = ∑ k : Fin 1024, a (ix2 r k) * w (ix4 0 0 z k) := by
  pointwise [k0_pay1]

variable (m : (ℓ : Loc nD τ sig) → Buf (Elt Ideal) ℓ)

abbrev dys (c : Dev nD) (r : Fin 8192) : Fin 1024 → EReal := fun k => (m ((c : Thread nD τ).loc main_arg0) : Vec Ideal S8192x1024 .bf16) (ix2 r k)
abbrev ws (c : Dev nD) (z : Fin 2816) : Fin 1024 → EReal := fun k => (m ((c : Thread nD τ).loc main_arg1) : Vec Ideal S2816x1024 .f32) (ix2 z k)

/-- The result. -/
def out (c : Dev nD) (i : S8192x2816.Idx) : EReal := prod (dys m c) (ws m c) (i 0) (i 1)

theorem lt_rows (t : Fin cfg0.N) (r : Fin 512) : 512 * t.val + r.val < 8192 := by
  have h : t.val < 16 := lt_of_lt_of_eq t.isLt (by decide +kernel)
  omega

theorem at_dy (c : Dev nD) (t : Fin cfg0.N) (r : Fin 512) (k : Fin 1024) (h : 512 * t.val + r.val < 8192) :
    (iblk m c 0 t : Vec Ideal S512x1024 .bf16) (ix2 r k) = dys m c ⟨512 * t.val + r.val, h⟩ k := by
  blk_point [iblk, V, idx t]
theorem at_w (c : Dev nD) (t : Fin cfg0.N) (z : Fin 2816) (k : Fin 1024) :
    (iblk m c 1 t : Vec Ideal S1x1x2816x1024 .bf16) (ix4 0 0 z k) = ws m c z k := by
  blk_point [iblk, V, idx t]

theorem row_of (y : S8192x2816.Idx) (r : Fin 8192) (z : Fin 2816) (h0 : (y 0).val = r.val) (h1 : (y 1).val = z.val) : y = ix2 r z := by
  funext a
  match a with
  | ⟨0, _⟩ => exact Fin.ext h0
  | ⟨1, _⟩ => exact Fin.ext h1

theorem point_at (c : Dev nD) (t : Fin cfg0.N) (r : Fin 512) (z : Fin 2816) :
    out0_2 (iblk m c 0 t) (iblk m c 1 t) (ix2 r z) = out m c (ix2 (⟨512 * t.val + r.val, lt_rows t r⟩ : Fin 8192) z) := by
  have e : out0_2 (F := Ideal) (iblk m c 0 t) (iblk m c 1 t) = k0_pay1 (iblk m c 0 t) (iblk m c 1 t) := by frame_out
  rw [e]
  refine (block_at _ _ r z).trans ?_
  show _ = ∑ k : Fin 1024, dys m c ⟨512 * t.val + r.val, lt_rows t r⟩ k * ws m c z k
  exact Fin.sum_fin_congr fun k => congrArg₂ _ (at_dy m c t r k (lt_rows t r)) (at_w m c t z k)

theorem final (c : Dev nD) : (dats m 0 c).arrAt 2 cfg0.N = out m c := by
  refine (dats m 0 c).arrAt_eq_of_covers 2 _ (by decide +kernel) fun t _ y => ?_
  have h0 : ((win0_2.blk t).view.emb y 0).val = 512 * t.val + (y 0).val := by blk_simp [idx t]; omega
  have h1 : ((win0_2.blk t).view.emb y 1).val = (y 1).val := by blk_simp [idx t]
  rw [row_of ((win0_2.blk t).view.emb y) ⟨512 * t.val + (y 0).val, lt_rows t (y 0)⟩ (y 1) h0 h1]
  blk_simp
  rw [after0_2]
  exact (congrArg _ (eq_ix2 y)).trans (point_at m c t (y 0) (y 1))

end Cert.KMmntIdeal.Mmnt

end
-- ==== Proof.Mmnt.Equation.lean ====
/- The product with a transposed weight: the kernel and the derivative of the product's line leave the same array. -/
module

public import proofs.«01_k».proof.Defs
public import proofs.«01_k».proof.Proof.Gen.RMmntIdeal.Run
public import proofs.«01_k».proof.Proof.Mmnt.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KMmntIdeal Cert.KMmntIdeal.Mmnt

/-- The gradient that the product hands to its input, over the extended reals. -/
theorem algebraic_mmnt : Cert.algebraic_KMmntIdeal_RMmntIdeal := fun m g m' g' _ hm => by
  refine ⟨_,
    (θ_run Cert.KMmntIdeal.defs _ _).mono (fun _ h c => ⟨(h c).1.trans (final m c), (h c).2⟩) (Cert.KMmntIdeal.Value.run_blocks m g),
    (θ_run Cert.RMmntIdeal.defs _ _).mono (fun _ h c => ⟨(h c).1.trans ?_, (h c).2⟩) (Cert.RMmntIdeal.Value.run m' g')⟩
  rw [Cert.RMmntIdeal.Read.val_main_v4_eq, (hm c).1, (hm c).2]
  funext i
  rw [eq_ix2 i]
  exact Cert.RMmntIdeal.Mmnt.prod_at _ _ _ _

/-- The reference terminates and leaves its arguments. -/
theorem frame_mmnt_ref : Cert.quiescent_RMmntIdeal := fun m g _ =>
  (θ_run Cert.RMmntIdeal.defs _ _).mono (fun r h => ⟨fun c => (h c).2, sem_eq_zero_of_no_sems (by decide) r.2⟩)
    (Cert.RMmntIdeal.Value.run m g)

end Cert.Proof

end
-- ==== Proof.Mmtn.Value.lean ====
/- The weight's gradient: what the kernel leaves and the derivative of the product's line, read at an index. -/
module

public import proofs.«01_k».proof.Proof.Gen.KMmtnIdeal.Value
public import proofs.«01_k».proof.Proof.Gen.RMmtnIdeal.Read
public import Idealize.ShloMosaic.Lib.Pointwise
public import Idealize.ShloMosaic.Lib.Pipeline.ValueKit

@[expose] public section

set_option maxRecDepth 16384
set_option backward.proofsInPublic true

noncomputable section

namespace Cert.Mmtn

open Idealize.ShloMosaic

/-- Element `(k, z)` of the weight's gradient: the sum over the rows. -/
def grad (H : Fin 8192 → Fin 1024 → EReal) (D : Fin 8192 → Fin 5632 → EReal) (k : Fin 1024) (z : Fin 5632) : EReal := ∑ r : Fin 8192, H r k * D r z

end Cert.Mmtn

namespace Cert.RMmtnIdeal.Mmtn

open Cert.RMmtnIdeal Cert.RMmtnIdeal.Read Cert.Mmtn Idealize.ShloMosaic

theorem grad_at (x0 : Vec Ideal S8192x1024 .bf16) (x1 : Vec Ideal S8192x5632 .bf16) (p : Fin 4) (k : Fin 1024) (z : Fin 1408) :
    val_main_v9 (F := Ideal) x0 x1 (ix4 0 p k z) = grad (fun r k => x0 (ix2 r k)) (fun r z => x1 (ix2 r z)) k ⟨p.val * 1408 + z.val, by omega⟩ := by
  pointwise [val_main_v9, val_main_v8, val_main_v7, val_main_v6, val_main_v5, val_main_v4, val_main_v3, val_main_v1]
  exact Fin.sum_fin_congr fun r => mul_comm _ _

end Cert.RMmtnIdeal.Mmtn

namespace Cert.KMmtnIdeal.Mmtn

open Cert.KMmtnIdeal Cert.KMmtnIdeal.Gen Cert.Mmtn Idealize.ShloMosaic Idealize.ShloMosaic.TcCoe Idealize.SL.Sem
open Idealize.ShloMosaic.Pipeline (Dat)

theorem idx : ∀ t : Fin cfg0.N, win0_0.index t = ![t.val % 4, 0] ∧ win0_1.index t = ![t.val % 4, t.val / 4] ∧ win0_2.index t = ![0, t.val / 4, 0, 0] :=
  (by decide +kernel : ∀ t : Fin grid0.N, _)

/-- The product of one tile of rows. -/
def tile (a : Vec Ideal S2048x1024 .bf16) (d : Vec Ideal S2048x1408 .bf16) (k : Fin 1024) (z : Fin 1408) : EReal := ∑ r : Fin 2048, a (ix2 r k) * d (ix2 r z)

theorem part_at (a : Vec Ideal S2048x1024 .bf16) (d : Vec Ideal S2048x1408 .bf16) (k : Fin 1024) (z : Fin 1408) :
    k0_pay2 a d (ix2 k z) = tile a d k z := by
  pointwise [k0_pay2, k0_pay1]
  rfl

theorem sum_at (a : Vec Ideal S2048x1024 .bf16) (d : Vec Ideal S2048x1408 .bf16) (acc : Vec Ideal S1024x1408 .f32) (k : Fin 1024) (z : Fin 1408) :
    k0_pay3 a d acc (ix2 k z) = acc (ix2 k z) + tile a d k z := by
  pointwise [k0_pay3, k0_pay1]
  rfl

theorem round_at (acc : Vec Ideal S1024x1408 .f32) (k : Fin 1024) (z : Fin 1408) : k0_pay4 acc (ix4 0 0 k z) = acc (ix2 k z) := by
  pointwise [k0_pay4]

variable (m : (ℓ : Loc nD τ sig) → Buf (Elt Ideal) ℓ)

abbrev hs (c : Dev nD) (r : Fin 8192) : Fin 1024 → EReal := fun k => (m ((c : Thread nD τ).loc main_arg0) : Vec Ideal S8192x1024 .bf16) (ix2 r k)
abbrev dys (c : Dev nD) (r : Fin 8192) : Fin 5632 → EReal := fun z => (m ((c : Thread nD τ).loc main_arg1) : Vec Ideal S8192x5632 .bf16) (ix2 r z)

theorem slot_of (i : S1x4x1024x1408.Idx) : i = ix4 (0 : Fin 1) (i 1) (i 2) (i 3) := by
  funext a
  match a with
  | ⟨0, _⟩ => exact Fin.fin_one_eq_zero _
  | ⟨1, _⟩ => rfl
  | ⟨2, _⟩ => rfl
  | ⟨3, _⟩ => rfl

/-- The result: piece `p` holds columns `p · 1408` and up. -/
def out (c : Dev nD) (i : S1x4x1024x1408.Idx) : EReal :=
  grad (hs m c) (dys m c) (i 2) ⟨(i 1).val * 1408 + (i 3).val, by have h1 : (i 1).val < 4 := (i 1).isLt; have h3 : (i 3).val < 1408 := (i 3).isLt; omega⟩

theorem lt_rows (t : Fin cfg0.N) (r : Fin 2048) : t.val % 4 * 2048 + r.val < 8192 := by omega
theorem piece_lt (t : Fin cfg0.N) : t.val / 4 < 4 := by
  have h : t.val < 16 := lt_of_lt_of_eq t.isLt (by decide +kernel)
  omega
theorem lt_cols (t : Fin cfg0.N) (z : Fin 1408) : t.val / 4 * 1408 + z.val < 5632 := by
  have h := piece_lt t
  omega

theorem at_h (c : Dev nD) (t : Fin cfg0.N) (r : Fin 2048) (k : Fin 1024) (h : t.val % 4 * 2048 + r.val < 8192) :
    (iblk m c 0 t : Vec Ideal S2048x1024 .bf16) (ix2 r k) = hs m c ⟨t.val % 4 * 2048 + r.val, h⟩ k := by
  blk_point [iblk, V, idx t]
theorem at_dy (c : Dev nD) (t : Fin cfg0.N) (r : Fin 2048) (z : Fin 1408) (h : t.val % 4 * 2048 + r.val < 8192) (h' : t.val / 4 * 1408 + z.val < 5632) :
    (iblk m c 1 t : Vec Ideal S2048x1408 .bf16) (ix2 r z) = dys m c ⟨t.val % 4 * 2048 + r.val, h⟩ ⟨t.val / 4 * 1408 + z.val, h'⟩ := by
  blk_point [iblk, V, idx t]

/-- What point `t` adds. -/
def added (c : Dev nD) (t : Fin cfg0.N) (j : S1024x1408.Idx) : EReal := tile (iblk m c 0 t) (iblk m c 1 t) (j 0) (j 1)

theorem first_acc (c : Dev nD) (t : Fin cfg0.N) (h : t.val % 4 = 0) (j : S1024x1408.Idx) : (outsAt0 m c t.val t.isLt).2 j = 0 + added m c t j := by
  rw [outsAt0_A m c t h (by omega) (by omega)]; frame_out
  rw [eq_ix2 j, zero_add]
  exact part_at _ _ (j 0) (j 1)

theorem next_acc (c : Dev nD) (t : Fin cfg0.N) (h : ¬t.val % 4 = 0) (j : S1024x1408.Idx) : (outsAt0 m c t.val t.isLt).2 j
    = (outsAt0 m c (t.val - 1) (Nat.lt_of_le_of_lt (Nat.sub_le _ _) t.isLt)).2 j + added m c t j := by
  by_cases h3 : t.val % 4 = 3
  · rw [outsAt0_C m c t h (by omega) h3]; frame_out
    rw [eq_ix2 j]
    exact (sum_at _ _ _ (j 0) (j 1)).trans (congrArg (· + _) (congrFun (Memref.IsWhole.read_unread (Memref.isWhole_whole cc0_scratch0) _) _))
  · rw [outsAt0_B m c t h (by omega) h3]; frame_out
    rw [eq_ix2 j]
    exact (sum_at _ _ _ (j 0) (j 1)).trans (congrArg (· + _) (congrFun (Memref.IsWhole.read_unread (Memref.isWhole_whole cc0_scratch0) _) _))

/-- The last point of a piece rounds what the scratch then holds. -/
theorem last_out (c : Dev nD) (t : Fin cfg0.N) (h3 : t.val % 4 = 3) (k : Fin 1024) (z : Fin 1408) :
    (outsAt0 m c t.val t.isLt).1 (ix4 0 0 k z) = (outsAt0 m c t.val t.isLt).2 (ix2 k z) := by
  rw [outsAt0_C m c t (by omega) (by omega) h3]; frame_out
  exact round_at _ k z

theorem out_block (c : Dev nD) (t : Fin cfg0.N) (h3 : t.val % 4 = 3) (k : Fin 1024) (z : Fin 1408) :
    (outsAt0 m c t.val t.isLt).2 (ix2 k z) = grad (hs m c) (dys m c) k ⟨t.val / 4 * 1408 + z.val, lt_cols t z⟩ := by
  rw [Pipeline.eq_sum_fin_of_reset_step_apply_of_flush (fun n h => (outsAt0 m c n h).2) 4 (fun _ => 0) (added m c)
    (first_acc m c) (next_acc m c) t h3 (ix2 k z), zero_add]
  unfold grad
  rw [Fin.sum_univ_tiles 4 2048 rfl (fun r => hs m c r k * dys m c r ⟨t.val / 4 * 1408 + z.val, lt_cols t z⟩)]
  refine Fin.sum_fin_congr fun s => Fin.sum_fin_congr fun r => ?_
  have hq : t.val < 16 := lt_of_lt_of_eq t.isLt (by decide +kernel)
  have hN : 4 * (t.val / 4) + s.val < cfg0.N := Pipeline.run_point_lt_of_flush t h3 s
  refine congrArg₂ _ ((at_h m c ⟨_, hN⟩ r k (lt_rows _ r)).trans ?_) ((at_dy m c ⟨_, hN⟩ r z (lt_rows _ r) (lt_cols _ z)).trans ?_)
  · exact congrArg (fun a => hs m c a k) (Fin.ext (by show (4 * (t.val / 4) + s.val) % 4 * 2048 + r.val = s.val * 2048 + r.val; omega))
  · exact congrArg₂ (dys m c) (Fin.ext (by show (4 * (t.val / 4) + s.val) % 4 * 2048 + r.val = s.val * 2048 + r.val; omega))
      (Fin.ext (by show (4 * (t.val / 4) + s.val) / 4 * 1408 + z.val = t.val / 4 * 1408 + z.val; omega))

theorem place_of (y : S1x1x1024x1408.Idx) : y = ix4 (0 : Fin 1) (0 : Fin 1) (y 2) (y 3) := by
  funext a
  match a with
  | ⟨0, _⟩ => exact Fin.fin_one_eq_zero _
  | ⟨1, _⟩ => exact Fin.fin_one_eq_zero _
  | ⟨2, _⟩ => rfl
  | ⟨3, _⟩ => rfl

theorem final (c : Dev nD) : (dats m 0 c).arrAt 2 cfg0.N = out m c := by
  refine (dats m 0 c).arrAt_eq_of_covers 2 _ (by decide +kernel) fun t hf y => ?_
  have h1 : ((win0_2.blk t).view.emb y 1).val = t.val / 4 := by
    have hy : (y 1).val < 1 := (y 1).isLt
    blk_simp [idx t]
  have h2 : ((win0_2.blk t).view.emb y 2).val = (y 2).val := by blk_simp [idx t]
  have h3 : ((win0_2.blk t).view.emb y 3).val = (y 3).val := by blk_simp [idx t]
  have e : out m c ((win0_2.blk t).view.emb y) = grad (hs m c) (dys m c) (y 2) ⟨t.val / 4 * 1408 + (y 3).val, lt_cols t (y 3)⟩ :=
    congrArg₂ (grad (hs m c) (dys m c)) (Fin.ext h2) (Fin.ext (by show _ * 1408 + _ = _; rw [h1, h3]))
  have hm : t.val % 4 = 3 := (flush0_2 t).mp hf
  rw [e, ← out_block m c t hm (y 2) (y 3)]
  blk_simp
  rw [after0_2]
  exact (congrArg _ (place_of y)).trans (last_out m c t hm (y 2) (y 3))

end Cert.KMmtnIdeal.Mmtn

end
-- ==== Proof.Mmtn.Equation.lean ====
/- The weight's gradient: the kernel and the derivative of the product's line leave the same array. -/
module

public import proofs.«01_k».proof.Defs
public import proofs.«01_k».proof.Proof.Gen.RMmtnIdeal.Run
public import proofs.«01_k».proof.Proof.Mmtn.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KMmtnIdeal Cert.KMmtnIdeal.Mmtn

/-- The gradient of the weight, over the extended reals. -/
theorem algebraic_mmtn : Cert.algebraic_KMmtnIdeal_RMmtnIdeal := fun m g m' g' _ hm => by
  refine ⟨_,
    (θ_run Cert.KMmtnIdeal.defs _ _).mono (fun _ h c => ⟨(h c).1.trans (final m c), (h c).2⟩) (Cert.KMmtnIdeal.Value.run_blocks m g),
    (θ_run Cert.RMmtnIdeal.defs _ _).mono (fun _ h c => ⟨(h c).1.trans ?_, (h c).2⟩) (Cert.RMmtnIdeal.Value.run m' g')⟩
  rw [Cert.RMmtnIdeal.Read.val_main_v9_eq, (hm c).1, (hm c).2]
  funext i
  rw [slot_of i]
  exact Cert.RMmtnIdeal.Mmtn.grad_at _ _ _ _ _

/-- The reference terminates and leaves its arguments. -/
theorem frame_mmtn_ref : Cert.quiescent_RMmtnIdeal := fun m g _ =>
  (θ_run Cert.RMmtnIdeal.defs _ _).mono (fun r h => ⟨fun c => (h c).2, sem_eq_zero_of_no_sems (by decide) r.2⟩)
    (Cert.RMmtnIdeal.Value.run m g)

end Cert.Proof

end
-- ==== Proof.Adam.Value.lean ====
module

public import proofs.«01_k».proof.Proof.Gen.KAdamIdeal.Value
public import proofs.«01_k».proof.Proof.Gen.RAdamIdeal.Read
public import Idealize.ShloMosaic.Lib.Pointwise
public import Idealize.ShloMosaic.Lib.Pipeline.ValueKit

@[expose] public section

set_option maxRecDepth 16384
set_option backward.proofsInPublic true

noncomputable section

namespace Cert.Adam

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The step: the first moment over the root of the second, each without its bias, and the decay. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

end Cert.Adam

namespace Cert.RAdamIdeal.Adam

open Cert.RAdamIdeal Cert.RAdamIdeal.Read Cert.Adam Idealize.ShloMosaic

variable (x0 x1 x2 x3 : Vec Ideal S4x1024x1408 .f32)

/-- The place of row `r` of the two-dimensional array. -/
abbrev at3 (r : Fin 4096) (z : Fin 1408) : S4x1024x1408.Idx := ix3 (⟨r.val / 1024, by omega⟩ : Fin 4) (⟨r.val % 1024, by omega⟩ : Fin 1024) z

theorem first_at (r : Fin 4096) (z : Fin 1408) : val_main_v25 (F := Ideal) x1 x2 (ix2 r z) = first (x1 (at3 r z)) (x2 (at3 r z)) := by
  pointwise [val_main_v25, val_main_v4, val_main_v3, val_main_v2, val_main_cst_0, val_main_v1, val_main_v0, val_main_cst]
  rfl

theorem second_at (r : Fin 4096) (z : Fin 1408) : val_main_v26 (F := Ideal) x1 x3 (ix2 r z) = second (x1 (at3 r z)) (x3 (at3 r z)) := by
  pointwise [val_main_v26, val_main_v10, val_main_v9, val_main_v8, val_main_cst_2, val_main_v7, val_main_v6, val_main_v5, val_main_cst_1]
  rfl

theorem delta_at (r : Fin 4096) (z : Fin 1408) : val_main_v24 (F := Ideal) x0 x1 x2 x3 (ix2 r z)
    = delta (x0 (at3 r z)) (x1 (at3 r z)) (x2 (at3 r z)) (x3 (at3 r z)) := by
  pointwise [val_main_v24, val_main_v23, val_main_v22, val_main_cst_7, val_main_v21, val_main_v20, val_main_v19, val_main_cst_6, val_main_v18, val_main_v17, val_main_v16, val_main_cst_5, val_main_v15,
    val_main_v14, val_main_v13, val_main_cst_4, val_main_v12, val_main_v11, val_main_cst_3]
  pointwise [val_main_v10, val_main_v9, val_main_v8, val_main_cst_2, val_main_v7, val_main_v6, val_main_v5, val_main_cst_1, val_main_v4, val_main_v3, val_main_v2, val_main_cst_0, val_main_v1, val_main_v0, val_main_cst]
  rfl

end Cert.RAdamIdeal.Adam

namespace Cert.KAdamIdeal.Adam

open Cert.RAdamIdeal.Adam (at3)
open Cert.KAdamIdeal Cert.KAdamIdeal.Gen Cert.Adam Idealize.ShloMosaic Idealize.ShloMosaic.TcCoe Idealize.SL.Sem
open Idealize.ShloMosaic.Pipeline (Dat)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem first_block (g m : Vec Ideal S256x1408 .f32) (r : Fin 256) (z : Fin 1408) : k0_pay2 g m (ix2 r z) = first (g (ix2 r z)) (m (ix2 r z)) := by
  pointwise [k0_pay2, k0_pay1]
  rfl

theorem second_block (g v : Vec Ideal S256x1408 .f32) (r : Fin 256) (z : Fin 1408) : k0_pay3 g v (ix2 r z) = second (g (ix2 r z)) (v (ix2 r z)) := by
  pointwise [k0_pay3, k0_pay1]
  rfl

theorem delta_block (w g m v : Vec Ideal S256x1408 .f32) (r : Fin 256) (z : Fin 1408) :
    k0_pay4 g m v w (ix2 r z) = delta (w (ix2 r z)) (g (ix2 r z)) (m (ix2 r z)) (v (ix2 r z)) := by
  pointwise [k0_pay4]
  rw [first_block, second_block]
  rfl

variable (m : (ℓ : Loc nD τ sig) → Buf (Elt Ideal) ℓ)

abbrev ws (c : Dev nD) : Vec Ideal S4x1024x1408 .f32 := m ((c : Thread nD τ).loc main_arg0)
abbrev gs (c : Dev nD) : Vec Ideal S4x1024x1408 .f32 := m ((c : Thread nD τ).loc main_arg1)
abbrev ms (c : Dev nD) : Vec Ideal S4x1024x1408 .f32 := m ((c : Thread nD τ).loc main_arg2)
abbrev vs (c : Dev nD) : Vec Ideal S4x1024x1408 .f32 := m ((c : Thread nD τ).loc main_arg3)

/-- The three results. -/
def outDelta (c : Dev nD) (i : S4096x1408.Idx) : EReal :=
  delta (ws m c (at3 (i 0) (i 1))) (gs m c (at3 (i 0) (i 1))) (ms m c (at3 (i 0) (i 1))) (vs m c (at3 (i 0) (i 1)))
def outFirst (c : Dev nD) (i : S4096x1408.Idx) : EReal := first (gs m c (at3 (i 0) (i 1))) (ms m c (at3 (i 0) (i 1)))
def outSecond (c : Dev nD) (i : S4096x1408.Idx) : EReal := second (gs m c (at3 (i 0) (i 1))) (vs m c (at3 (i 0) (i 1)))

theorem lt_rows (t : Fin cfg0.N) (r : Fin 256) : 256 * t.val + r.val < 4096 := by
  have h : t.val < 16 := lt_of_lt_of_eq t.isLt (by decide +kernel)
  omega

theorem at_w (c : Dev nD) (t : Fin cfg0.N) (r : Fin 256) (z : Fin 1408) :
    (iblk m c 0 t : Vec Ideal S256x1408 .f32) (ix2 r z) = ws m c (at3 ⟨256 * t.val + r.val, lt_rows t r⟩ z) := by
  blk_point [iblk, V, idx t]
  · show _ = (256 * t.val + r.val) / 1024; omega
  · show _ = (256 * t.val + r.val) % 1024; omega
  · rfl

theorem at_g (c : Dev nD) (t : Fin cfg0.N) (r : Fin 256) (z : Fin 1408) :
    (iblk m c 1 t : Vec Ideal S256x1408 .f32) (ix2 r z) = gs m c (at3 ⟨256 * t.val + r.val, lt_rows t r⟩ z) := by
  blk_point [iblk, V, idx t]
  · show _ = (256 * t.val + r.val) / 1024; omega
  · show _ = (256 * t.val + r.val) % 1024; omega
  · rfl

theorem at_m (c : Dev nD) (t : Fin cfg0.N) (r : Fin 256) (z : Fin 1408) :
    (iblk m c 2 t : Vec Ideal S256x1408 .f32) (ix2 r z) = ms m c (at3 ⟨256 * t.val + r.val, lt_rows t r⟩ z) := by
  blk_point [iblk, V, idx t]
  · show _ = (256 * t.val + r.val) / 1024; omega
  · show _ = (256 * t.val + r.val) % 1024; omega
  · rfl

theorem at_v (c : Dev nD) (t : Fin cfg0.N) (r : Fin 256) (z : Fin 1408) :
    (iblk m c 3 t : Vec Ideal S256x1408 .f32) (ix2 r z) = vs m c (at3 ⟨256 * t.val + r.val, lt_rows t r⟩ z) := by
  blk_point [iblk, V, idx t]
  · show _ = (256 * t.val + r.val) / 1024; omega
  · show _ = (256 * t.val + r.val) % 1024; omega
  · rfl

theorem row_of (y : S4096x1408.Idx) (r : Fin 4096) (z : Fin 1408) (h0 : (y 0).val = r.val) (h1 : (y 1).val = z.val) : y = ix2 r z := by
  funext a
  match a with
  | ⟨0, _⟩ => exact Fin.ext h0
  | ⟨1, _⟩ => exact Fin.ext h1

theorem delta_point (c : Dev nD) (t : Fin cfg0.N) (r : Fin 256) (z : Fin 1408) : out0_4 (iblk m c 0 t) (iblk m c 1 t) (iblk m c 2 t) (iblk m c 3 t) (ix2 r z)
    = outDelta m c (ix2 (⟨256 * t.val + r.val, lt_rows t r⟩ : Fin 4096) z) := by
  have e : out0_4 (F := Ideal) (iblk m c 0 t) (iblk m c 1 t) (iblk m c 2 t) (iblk m c 3 t) = k0_pay4 (iblk m c 1 t) (iblk m c 2 t) (iblk m c 3 t) (iblk m c 0 t) := by frame_out
  rw [e]
  refine (delta_block _ _ _ _ r z).trans ?_
  rw [at_w m c t r z, at_g m c t r z, at_m m c t r z, at_v m c t r z]
  rfl

theorem final_delta (c : Dev nD) : (dats m 0 c).arrAt 4 cfg0.N = outDelta m c := by
  refine (dats m 0 c).arrAt_eq_of_covers 4 _ (by decide +kernel) fun t _ y => ?_
  have h0 : ((win0_4.blk t).view.emb y 0).val = 256 * t.val + (y 0).val := by blk_simp [idx t]; omega
  have h1 : ((win0_4.blk t).view.emb y 1).val = (y 1).val := by blk_simp [idx t]
  rw [row_of ((win0_4.blk t).view.emb y) ⟨256 * t.val + (y 0).val, lt_rows t (y 0)⟩ (y 1) h0 h1]
  blk_simp
  rw [after0_4]
  exact (congrArg _ (eq_ix2 y)).trans (delta_point m c t (y 0) (y 1))

theorem first_point (c : Dev nD) (t : Fin cfg0.N) (r : Fin 256) (z : Fin 1408) : out0_5 (iblk m c 0 t) (iblk m c 1 t) (iblk m c 2 t) (iblk m c 3 t) (ix2 r z)
    = outFirst m c (ix2 (⟨256 * t.val + r.val, lt_rows t r⟩ : Fin 4096) z) := by
  have e : out0_5 (F := Ideal) (iblk m c 0 t) (iblk m c 1 t) (iblk m c 2 t) (iblk m c 3 t) = k0_pay2 (iblk m c 1 t) (iblk m c 2 t) := by frame_out
  rw [e]
  refine (first_block _ _ r z).trans ?_
  rw [at_g m c t r z, at_m m c t r z]
  rfl

theorem final_first (c : Dev nD) : (dats m 0 c).arrAt 5 cfg0.N = outFirst m c := by
  refine (dats m 0 c).arrAt_eq_of_covers 5 _ (by decide +kernel) fun t _ y => ?_
  have h0 : ((win0_5.blk t).view.emb y 0).val = 256 * t.val + (y 0).val := by blk_simp [idx t]; omega
  have h1 : ((win0_5.blk t).view.emb y 1).val = (y 1).val := by blk_simp [idx t]
  rw [row_of ((win0_5.blk t).view.emb y) ⟨256 * t.val + (y 0).val, lt_rows t (y 0)⟩ (y 1) h0 h1]
  blk_simp
  rw [after0_5]
  exact (congrArg _ (eq_ix2 y)).trans (first_point m c t (y 0) (y 1))

theorem second_point (c : Dev nD) (t : Fin cfg0.N) (r : Fin 256) (z : Fin 1408) : out0_6 (iblk m c 0 t) (iblk m c 1 t) (iblk m c 2 t) (iblk m c 3 t) (ix2 r z)
    = outSecond m c (ix2 (⟨256 * t.val + r.val, lt_rows t r⟩ : Fin 4096) z) := by
  have e : out0_6 (F := Ideal) (iblk m c 0 t) (iblk m c 1 t) (iblk m c 2 t) (iblk m c 3 t) = k0_pay3 (iblk m c 1 t) (iblk m c 3 t) := by frame_out
  rw [e]
  refine (second_block _ _ r z).trans ?_
  rw [at_g m c t r z, at_v m c t r z]
  rfl

theorem final_second (c : Dev nD) : (dats m 0 c).arrAt 6 cfg0.N = outSecond m c := by
  refine (dats m 0 c).arrAt_eq_of_covers 6 _ (by decide +kernel) fun t _ y => ?_
  have h0 : ((win0_6.blk t).view.emb y 0).val = 256 * t.val + (y 0).val := by blk_simp [idx t]; omega
  have h1 : ((win0_6.blk t).view.emb y 1).val = (y 1).val := by blk_simp [idx t]
  rw [row_of ((win0_6.blk t).view.emb y) ⟨256 * t.val + (y 0).val, lt_rows t (y 0)⟩ (y 1) h0 h1]
  blk_simp
  rw [after0_6]
  exact (congrArg _ (eq_ix2 y)).trans (second_point m c t (y 0) (y 1))

end Cert.KAdamIdeal.Adam

end
-- ==== Proof.Adam.Equation.lean ====
module

public import proofs.«01_k».proof.Defs
public import proofs.«01_k».proof.Proof.Gen.RAdamIdeal.Run
public import proofs.«01_k».proof.Proof.Adam.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.KAdamIdeal Cert.KAdamIdeal.Adam

/-- The optimiser's step, over the extended reals. -/
theorem algebraic_adam : Cert.algebraic_KAdamIdeal_RAdamIdeal := fun m g m' g' _ hm => by
  refine ⟨_, _, _,
    (θ_run Cert.KAdamIdeal.defs _ _).mono (fun _ h c => ⟨(h c).1.trans (final_delta m c), (h c).2.1.trans (final_first m c), (h c).2.2.1.trans (final_second m c), (h c).2.2.2⟩) (Cert.KAdamIdeal.Value.run_blocks m g),
    (θ_run Cert.RAdamIdeal.defs _ _).mono (fun _ h c => ⟨(h c).1.trans ?_, (h c).2.1.trans ?_, (h c).2.2.1.trans ?_, (h c).2.2.2⟩) (Cert.RAdamIdeal.Value.run m' g')⟩
  · rw [Cert.RAdamIdeal.Read.val_main_v24_eq, (hm c).1, (hm c).2.1, (hm c).2.2.1, (hm c).2.2.2]
    funext i
    rw [eq_ix2 i]
    exact Cert.RAdamIdeal.Adam.delta_at _ _ _ _ _ _
  · rw [Cert.RAdamIdeal.Read.val_main_v25_eq, (hm c).2.1, (hm c).2.2.1]
    funext i
    rw [eq_ix2 i]
    exact Cert.RAdamIdeal.Adam.first_at _ _ _ _
  · rw [Cert.RAdamIdeal.Read.val_main_v26_eq, (hm c).2.1, (hm c).2.2.2]
    funext i
    rw [eq_ix2 i]
    exact Cert.RAdamIdeal.Adam.second_at _ _ _ _

/-- The reference terminates and leaves its arguments. -/
theorem frame_adam_ref : Cert.quiescent_RAdamIdeal := fun m g _ =>
  (θ_run Cert.RAdamIdeal.defs _ _).mono (fun r h => ⟨fun c => (h c).2.2.2, sem_eq_zero_of_no_sems (by decide) r.2⟩)
    (Cert.RAdamIdeal.Value.run m g)

end Cert.Proof

end
-- ==== Proof.Prep.Math.lean ====
/- The gradient of the mixer's preparation: the sums over the rows that its gains and its bias receive. -/
module

public import proofs.«01_k».proof.Proof.Pfwd.Math

@[expose] public section

set_option backward.proofsInPublic true

noncomputable section

namespace Cert.Prep

open Idealize.ShloMosaic

/-- What one row adds to the gradient of a gain that the eight groups share. -/
def gainPart (A D : Fin 8192 → Row) (r : Fin 8192) (z : Fin 512) : EReal := A r z * D r z

/-- The gradient of such a gain, in the first of eight rows. -/
def gains (A D : Fin 8192 → Row) (a : Fin 8) (z : Fin 512) : EReal :=
  if a.val < 1 then ∑ r : Fin 8192, ∑ h : Fin 8, gainPart A D r ⟨h.val * 64 + z.val % 64, by omega⟩ else 0

/-- What one element adds to the gradient of the bias: the gate times the cotangent of the mixed rows. -/
def biasPart (X : Fin 8192 → Fin 2560 → EReal) (E : Fin 8192 → Fin 1024 → EReal) (r : Fin 8192) (z : Fin 512) : EReal :=
  gelu (X r ⟨1536 + z.val, by omega⟩) * E r ⟨512 + z.val, by omega⟩

/-- The bias's gradient, over the chunks of rows and the columns of a group. -/
def biases (X : Fin 8192 → Fin 2560 → EReal) (E : Fin 8192 → Fin 1024 → EReal) (s : Fin 128) (z : Fin 512) : EReal :=
  ∑ n : Fin 64, ∑ d : Fin 64, biasPart X E ⟨n.val * 128 + s.val, by omega⟩ ⟨z.val / 64 * 64 + d.val, by omega⟩

/-- One row of the folding matrix: one where the two columns stand at the same place of their groups. -/
def same (k z : Fin 512) : EReal := if k.val % 64 = z.val % 64 then 1 else 0

/-- A sum against the folding matrix is the sum over the groups. -/
theorem sum_same (Y : Fin 512 → EReal) (z : Fin 512) : ∑ k : Fin 512, Y k * same k z = ∑ h : Fin 8, Y ⟨h.val * 64 + z.val % 64, by omega⟩ := by
  rw [Fin.sum_univ_tiles 8 64 rfl]
  refine Finset.sum_congr rfl fun h _ => ?_
  have hz : z.val % 64 < 64 := by omega
  rw [Fintype.sum_eq_single ⟨z.val % 64, hz⟩ fun j hj => ?_]
  · rw [same, if_pos (show (h.val * 64 + z.val % 64) % 64 = z.val % 64 by omega), mul_one]
  · have := j.isLt
    have hne : j.val ≠ z.val % 64 := fun e => hj (Fin.ext e)
    rw [same, if_neg (show ¬ (h.val * 64 + j.val) % 64 = z.val % 64 by omega), mul_zero]

/-- A sum against the mean's matrix, times the count, is the sum over the group. -/
theorem sum_group (Y : Fin 512 → EReal) (z : Fin 512) :
    ∑ k : Fin 512, Y k * (share k z * Ideal.ofBits .f32 0x42800000#32) = ∑ d : Fin 64, Y ⟨z.val / 64 * 64 + d.val, by omega⟩ := by
  have hs : ∀ k, share k z * Ideal.ofBits .f32 0x42800000#32 = if k.val / 64 = z.val / 64 then 1 else 0 := fun k => by
    unfold share
    split
    · rw [share_bits, count_bits, ← EReal.coe_mul]; norm_num
    · rw [zero_mul]
  have hz : z.val / 64 < 8 := by omega
  simp only [hs]
  rw [Fin.sum_univ_tiles 8 64 rfl, Fintype.sum_eq_single ⟨z.val / 64, hz⟩ fun j hj => ?_]
  · refine Finset.sum_congr rfl fun k _ => ?_
    have := k.isLt
    rw [if_pos (show (z.val / 64 * 64 + k.val) / 64 = z.val / 64 by omega), mul_one]
  · refine Finset.sum_eq_zero fun k _ => ?_
    have := k.isLt
    have hne : j.val ≠ z.val / 64 := fun h => hj (Fin.ext h)
    rw [if_neg (show ¬ (j.val * 64 + k.val) / 64 = z.val / 64 by omega), mul_zero]

end Cert.Prep

end
-- ==== Proof.Prep.Host.lean ====
/- The gradient of the mixer's preparation: what the launch is handed. -/
module

public import proofs.«01_k».proof.Proof.Gen.KPrepIdeal.Value
public import proofs.«01_k».proof.Proof.Prep.Math
public import Idealize.ShloMosaic.Lib.Pointwise
public import Idealize.ShloMosaic.Lib.WordCmp

@[expose] public section

set_option maxRecDepth 16384
set_option backward.proofsInPublic true

noncomputable section

namespace Cert.KPrepIdeal.Prep

open Cert.KPrepIdeal Cert.KPrepIdeal.Gen Cert.Prep Idealize.ShloMosaic Idealize.ShloMosaic.WordCmp Idealize.ShloMosaic.TcCoe Idealize.SL.Sem

/-- The quotient by 64, rounded down, as the host computes it. -/
def groupOf (x : IVec S512x512 32) : IVec S512x512 32 :=
  select (andi (cmpi .ne (signi x) (broadcastInDim S512x512 ![] bcast_S_S512x512 (signi (id (constantI S_ 32 64#32)))))
      (cmpi .ne (Host.remsi x (broadcastInDim S512x512 ![] bcast_S_S512x512 (id (constantI S_ 32 64#32))))
        (broadcastInDim S512x512 ![] bcast_S_S512x512 (constantI S_ 32 0#32))))
    (subi (Host.divsi x (broadcastInDim S512x512 ![] bcast_S_S512x512 (id (constantI S_ 32 64#32))))
      (broadcastInDim S512x512 ![] bcast_S_S512x512 (constantI S_ 32 1#32)))
    (Host.divsi x (broadcastInDim S512x512 ![] bcast_S_S512x512 (id (constantI S_ 32 64#32))))

/-- The divisor of the remainder as the host prepares it. -/
def divisor : IVec S_ 32 := select (cmpi .eq (id (constantI S_ 32 64#32)) (constantI S_ 32 0#32)) (constantI S_ 32 1#32) (id (constantI S_ 32 64#32))

/-- The remainder by 64, with the divisor's sign, as the host computes it. -/
def placeOf (x : IVec S512x512 32) : IVec S512x512 32 :=
  select (andi (cmpi .ne (cmpi .slt (Host.remsi x (broadcastInDim S512x512 ![] bcast_S_S512x512 divisor)) (broadcastInDim S512x512 ![] bcast_S_S512x512 (constantI S_ 32 0#32)))
        (broadcastInDim S512x512 ![] bcast_S_S512x512 (cmpi .slt divisor (constantI S_ 32 0#32))))
      (cmpi .ne (Host.remsi x (broadcastInDim S512x512 ![] bcast_S_S512x512 divisor)) (broadcastInDim S512x512 ![] bcast_S_S512x512 (constantI S_ 32 0#32))))
    (addi (Host.remsi x (broadcastInDim S512x512 ![] bcast_S_S512x512 divisor)) (broadcastInDim S512x512 ![] bcast_S_S512x512 divisor))
    (Host.remsi x (broadcastInDim S512x512 ![] bcast_S_S512x512 divisor))

variable (m : (ℓ : Loc nD τ sig) → Buf (Elt Ideal) ℓ) (c : Dev nD)

set_option maxHeartbeats 1000000 in
theorem V_share : V m c main_v6 = id (select (cmpi .eq (groupOf (iotaInDim S512x512 32 0)) (groupOf (iotaInDim S512x512 32 1)))
    (broadcastInDim S512x512 ![] bcast_S_S512x512 (constant (F := Ideal) S_ .f32 0x3C800000#32)) (broadcastInDim S512x512 ![] bcast_S_S512x512 (constant (F := Ideal) S_ .f32 0x00000000#32))) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

set_option maxHeartbeats 1000000 in
theorem V_same : V m c main_v11 = id (select (cmpi .eq (placeOf (iotaInDim S512x512 32 0)) (placeOf (iotaInDim S512x512 32 1)))
    (broadcastInDim S512x512 ![] bcast_S_S512x512 (constant (F := Ideal) S_ .f32 0x3F800000#32)) (broadcastInDim S512x512 ![] bcast_S_S512x512 (constant (F := Ideal) S_ .f32 0x00000000#32))) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

theorem idx : ∀ t : Fin cfg0.N, win0_0.index t = ![t.val, 0] ∧ win0_1.index t = ![t.val, 0] ∧ win0_2.index t = ![t.val, 0] ∧ win0_4.index t = ![t.val, 1]
    ∧ win0_10.index t = ![0, 0] ∧ win0_11.index t = ![0, 0] ∧ win0_13.index t = ![0, 0] ∧ win0_14.index t = ![0, 0] ∧ win0_17.index t = ![0, 0] :=
  (by decide +kernel : ∀ t : Fin grid0.N, _)

/-! ## The arguments -/

abbrev xs : Fin 8192 → Fin 2560 → EReal := fun r k => (m ((c : Thread nD τ).loc main_arg0) : Vec Ideal S8192x2560 .f32) (ix2 r k)
abbrev dqs : Fin 8192 → Row := fun r k => (m ((c : Thread nD τ).loc main_arg6) : Vec Ideal S8192x512 .f32) (ix2 r k)
abbrev dks : Fin 8192 → Row := fun r k => (m ((c : Thread nD τ).loc main_arg7) : Vec Ideal S8192x512 .f32) (ix2 r k)
abbrev dms : Fin 8192 → Fin 1024 → EReal := fun r k => (m ((c : Thread nD τ).loc main_arg9) : Vec Ideal S8192x1024 .f32) (ix2 r k)

/-! ## The blocks -/

theorem at_x (t : Fin cfg0.N) (r : Fin 512) (k : Fin 2560) (h : 512 * t.val + r.val < 8192) :
    (iblk m c 0 t : Vec Ideal S512x2560 .f32) (ix2 r k) = xs m c ⟨512 * t.val + r.val, h⟩ k := by
  blk_point [iblk, V, idx t]
theorem at_dq (t : Fin cfg0.N) (r k : Fin 512) (h : 512 * t.val + r.val < 8192) :
    (iblk m c 1 t : Vec Ideal S512x512 .f32) (ix2 r k) = dqs m c ⟨512 * t.val + r.val, h⟩ k := by
  blk_point [iblk, V, idx t]
theorem at_dk (t : Fin cfg0.N) (r k : Fin 512) (h : 512 * t.val + r.val < 8192) :
    (iblk m c 2 t : Vec Ideal S512x512 .f32) (ix2 r k) = dks m c ⟨512 * t.val + r.val, h⟩ k := by
  blk_point [iblk, V, idx t]
theorem at_dm (t : Fin cfg0.N) (r k : Fin 512) (h : 512 * t.val + r.val < 8192) :
    (iblk m c 4 t : Vec Ideal S512x512 .f32) (ix2 r k) = dms m c ⟨512 * t.val + r.val, h⟩ ⟨512 + k.val, by omega⟩ := by
  blk_point [iblk, V, idx t]

/-- The word arithmetic of the quotient. -/
theorem quotient : ∀ j : Fin 512, Scalar.select
      (IntOp.andi
        (IntOp.cmpi .ne (if BitVec.ofNat 32 j.val = 0 then 0 else if (BitVec.ofNat 32 j.val).msb = true then -1 else 1 : BitVec 32)
          (if 64#32 = 0 then 0 else if (64#32).msb = true then -1 else 1 : BitVec 32))
        (IntOp.cmpi .ne (IntOp.remsi .host (BitVec.ofNat 32 j.val) 64#32) 0#32))
      (IntOp.subi (IntOp.divsi .host (BitVec.ofNat 32 j.val) 64#32) 1#32) (IntOp.divsi .host (BitVec.ofNat 32 j.val) 64#32)
    = BitVec.ofNat 32 (j.val / 64) := by
  decide +kernel

theorem groupOf_at (x : IVec S512x512 32) (i : S512x512.Idx) (j : Fin 512) (h : x i = BitVec.ofNat 32 j.val) : groupOf x i = BitVec.ofNat 32 (j.val / 64) := by
  unfold groupOf
  pointwise []
  simp only [h]
  exact quotient j

theorem at_share (t : Fin cfg0.N) (k z : Fin 512) : (iblk m c 10 t : Vec Ideal S512x512 .f32) (ix2 k z) = share k z := by
  have h : iblk m c 10 t (ix2 k z) = V m c main_v6 (ix2 k z) := by blk_point [iblk, idx t]
  refine h.trans ?_
  rw [V_share]
  change (if IntOp.cmpi .eq (groupOf (iotaInDim S512x512 32 0) (ix2 k z)) (groupOf (iotaInDim S512x512 32 1) (ix2 k z)) = 1#1
    then Ideal.ofBits .f32 0x3C800000#32 else Ideal.ofBits .f32 0x00000000#32) = _
  rw [groupOf_at _ (ix2 k z) k rfl, groupOf_at _ (ix2 k z) z rfl, share]
  have e : IntOp.cmpi .eq (BitVec.ofNat 32 (k.val / 64)) (BitVec.ofNat 32 (z.val / 64)) = 1#1 ↔ k.val / 64 = z.val / 64 := by word_cmp
  simp only [e, zero_bits]

/-- The word arithmetic of the remainder. -/
theorem remainder : ∀ j : Fin 512, Scalar.select
      (IntOp.andi
        (IntOp.cmpi .ne (IntOp.cmpi .slt (IntOp.remsi .host (BitVec.ofNat 32 j.val) (Scalar.select (IntOp.cmpi .eq 64#32 0#32) 1#32 64#32)) 0#32)
          (IntOp.cmpi .slt (Scalar.select (IntOp.cmpi .eq 64#32 0#32) 1#32 64#32) 0#32))
        (IntOp.cmpi .ne (IntOp.remsi .host (BitVec.ofNat 32 j.val) (Scalar.select (IntOp.cmpi .eq 64#32 0#32) 1#32 64#32)) 0#32))
      (IntOp.addi (IntOp.remsi .host (BitVec.ofNat 32 j.val) (Scalar.select (IntOp.cmpi .eq 64#32 0#32) 1#32 64#32)) (Scalar.select (IntOp.cmpi .eq 64#32 0#32) 1#32 64#32))
      (IntOp.remsi .host (BitVec.ofNat 32 j.val) (Scalar.select (IntOp.cmpi .eq 64#32 0#32) 1#32 64#32))
    = BitVec.ofNat 32 (j.val % 64) := by
  decide +kernel

theorem placeOf_at (x : IVec S512x512 32) (i : S512x512.Idx) (j : Fin 512) (h : x i = BitVec.ofNat 32 j.val) : placeOf x i = BitVec.ofNat 32 (j.val % 64) := by
  unfold placeOf divisor
  pointwise []
  simp only [h]
  exact remainder j

theorem one_bits : Ideal.ofBits .f32 0x3F800000#32 = (1 : EReal) := by
  simp [Ideal.ofBits, Ideal.ieee]
  rw [← EReal.coe_mul]; norm_num

theorem at_same (t : Fin cfg0.N) (k z : Fin 512) : (iblk m c 11 t : Vec Ideal S512x512 .f32) (ix2 k z) = same k z := by
  have h : iblk m c 11 t (ix2 k z) = V m c main_v11 (ix2 k z) := by blk_point [iblk, idx t]
  refine h.trans ?_
  rw [V_same]
  change (if IntOp.cmpi .eq (placeOf (iotaInDim S512x512 32 0) (ix2 k z)) (placeOf (iotaInDim S512x512 32 1) (ix2 k z)) = 1#1
    then Ideal.ofBits .f32 0x3F800000#32 else Ideal.ofBits .f32 0x00000000#32) = _
  rw [placeOf_at _ (ix2 k z) k rfl, placeOf_at _ (ix2 k z) z rfl, same]
  have e : IntOp.cmpi .eq (BitVec.ofNat 32 (k.val % 64)) (BitVec.ofNat 32 (z.val % 64)) = 1#1 ↔ k.val % 64 = z.val % 64 := by word_cmp
  simp only [e, zero_bits, one_bits]

end Cert.KPrepIdeal.Prep

end
-- ==== Proof.Prep.Block.lean ====
/- The gradient of the mixer's preparation: what one block of 512 rows adds to the gains' and the bias's gradients. -/
module

public import proofs.«01_k».proof.Proof.Gen.KPrepIdeal.Skeleton
public import proofs.«01_k».proof.Proof.Prep.Math
public import Idealize.ShloMosaic.Lib.Pointwise

@[expose] public section

set_option maxRecDepth 16384
set_option backward.proofsInPublic true

noncomputable section

namespace Cert.KPrepIdeal.Prep

open Cert.KPrepIdeal Cert.KPrepIdeal.Gen Cert.Prep Idealize.ShloMosaic

variable (x0 : Vec Ideal S512x2560 .f32) (M : Vec Ideal S512x512 .f32)

section parts
variable (hM : ∀ k z : Fin 512, M (ix2 k z) = share k z)
include hM

theorem q_at (r z : Fin 512) (X : Row) (x : Fin 512 → ℝ) (hX : ∀ k, X k = (x k : EReal)) (hx : ∀ k : Fin 512, x0 (ix2 r ⟨k.val, by omega⟩) = X k) :
    k0_pay23 M x0 (ix2 r z) = normed X z := by
  pointwise [k0_pay23, k0_pay21, k0_pay20, k0_pay16, k0_pay10]
  simp only [hx, hM]
  rw [split_sum X x hX z, normed]

theorem k_at (r z : Fin 512) (X : Row) (x : Fin 512 → ℝ) (hX : ∀ k, X k = (x k : EReal)) (hx : ∀ k : Fin 512, x0 (ix2 r ⟨512 + k.val, by omega⟩) = X k) :
    k0_pay27 (k0_pay10 M) (k0_pay17 x0) (ix2 r z) = normed X z := by
  pointwise [k0_pay27, k0_pay25, k0_pay24, k0_pay17, k0_pay10]
  simp only [hx, hM]
  rw [split_sum X x hX z, normed]

end parts

theorem q_row (A D : FVec Ideal S512x512 .f32) (z : Fin 512) : k0_pay241 A D (ix2 0 z) = ∑ r : Fin 512, A (ix2 r z) * D (ix2 r z) := by
  pointwise [k0_pay241]
theorem k_row (A D : FVec Ideal S512x512 .f32) (z : Fin 512) : k0_pay234 A D (ix2 0 z) = ∑ r : Fin 512, A (ix2 r z) * D (ix2 r z) := by
  pointwise [k0_pay234]

theorem q_fold (A : FVec Ideal S8x512 .f32) (E : FVec Ideal S512x512 .f32) (a : Fin 8) (z : Fin 512) :
    k0_pay2 A E (ix2 a z) = ∑ k : Fin 512, A (ix2 a k) * E (ix2 k z) := by
  pointwise [k0_pay2]
theorem k_fold (A : FVec Ideal S8x512 .f32) (E : FVec Ideal S512x512 .f32) (a : Fin 8) (z : Fin 512) :
    k0_pay3 A E (ix2 a z) = ∑ k : Fin 512, A (ix2 a k) * E (ix2 k z) := by
  pointwise [k0_pay3]
theorem bias_fold (A : FVec Ideal S128x512 .f32) (E : FVec Ideal S512x512 .f32) (s : Fin 128) (z : Fin 512) :
    k0_pay4 A E (ix2 s z) = ∑ k : Fin 512, A (ix2 s k) * (E (ix2 k z) * Ideal.ofBits .f32 0x42800000#32) := by
  pointwise [k0_pay4]

theorem q_zero (j : S8x512.Idx) : k0_pay5 (F := Ideal) j = 0 := by pointwise [k0_pay5]
theorem k_zero (j : S8x512.Idx) : k0_pay6 (F := Ideal) j = 0 := by pointwise [k0_pay6]
theorem bias_zero (j : S128x512.Idx) : k0_pay9 (F := Ideal) j = 0 := by pointwise [k0_pay9]

/-- One element's part of the bias's gradient, in a block. -/
abbrev biasIn (E : FVec Ideal S512x512 .f32) (r z : Fin 512) : EReal := gelu (x0 (ix2 r ⟨1536 + z.val, by omega⟩)) * E (ix2 r z)

/-- What a block's four chunks add up to. -/
theorem bias_sum (E : FVec Ideal S512x512 .f32) (A : FVec Ideal S128x512 .f32) (s : Fin 128) (z : Fin 512) :
    k0_pay1 (k0_pay200 (k0_pay109 (k0_pay18 x0) E) (k0_pay171 (k0_pay110 (k0_pay18 x0) E) (k0_pay140 (k0_pay111 (k0_pay18 x0) E) (k0_pay112 (k0_pay18 x0) E)))) A (ix2 s z)
      = A (ix2 s z) + ∑ n : Fin 4, biasIn x0 E ⟨n.val * 128 + s.val, by omega⟩ z := by
  rw [Fin.sum_univ_four]
  pointwise [k0_pay1, k0_pay200, k0_pay109, k0_pay171, k0_pay110, k0_pay140, k0_pay111, k0_pay112, k0_pay107, k0_pay104, k0_pay106, k0_pay105, k0_pay18]
  have e : ∀ a b : Fin 512, a.val = b.val → biasIn x0 E a z = biasIn x0 E b z := fun a b h => congrArg (biasIn x0 E · z) (Fin.ext h)
  refine congrArg (A (ix2 s z) + ·) ?_
  change biasIn x0 E ⟨384 + s.val, _⟩ z + biasIn x0 E ⟨256 + s.val, _⟩ z + biasIn x0 E ⟨128 + s.val, _⟩ z + biasIn x0 E ⟨s.val, _⟩ z = _
  rw [e ⟨384 + s.val, by omega⟩ ⟨(3 : Fin 4).val * 128 + s.val, by show 3 * 128 + s.val < 512; omega⟩ (show 384 + s.val = 3 * 128 + s.val by omega),
    e ⟨256 + s.val, by omega⟩ ⟨(2 : Fin 4).val * 128 + s.val, by show 2 * 128 + s.val < 512; omega⟩ (show 256 + s.val = 2 * 128 + s.val by omega),
    e ⟨128 + s.val, by omega⟩ ⟨(1 : Fin 4).val * 128 + s.val, by show 1 * 128 + s.val < 512; omega⟩ (show 128 + s.val = 1 * 128 + s.val by omega),
    e ⟨s.val, by omega⟩ ⟨(0 : Fin 4).val * 128 + s.val, by show 0 * 128 + s.val < 512; omega⟩ (show s.val = 0 * 128 + s.val by omega)]
  abel

end Cert.KPrepIdeal.Prep

end
-- ==== Proof.Prep.Rows.lean ====
/- The gradient of the mixer's preparation: a result that only its first row is added to, and sixteen points of it. -/
module

public import proofs.«01_k».proof.Proof.Gen.KPrepIdeal.Frame
public import Idealize.ShloMosaic.Lib.Pointwise
public import Idealize.ShloMosaic.Lib.WritesUnit
public import Idealize.ShloMosaic.Lib.Pipeline.ValueKit
public import Idealize.ShloMosaic.Lib.Pipeline.ReadBack

@[expose] public section

set_option maxRecDepth 16384
set_option backward.proofsInPublic true

noncomputable section

namespace Cert.KPrepIdeal.Prep

open Cert.KPrepIdeal Cert.KPrepIdeal.Gen Idealize.ShloMosaic

/-- The first row of eight, and all of them. -/
abbrev first : Rect S8x512 := Rect.unit ![0, 0] ![1, 512] inb_S8x512_S1x512_0_0
abbrev whole : Rect S8x512 := Rect.unit ![0, 0] ![8, 512] inb_S8x512_S8x512_0_0

theorem first_ld (X : Vec Ideal S8x512 .f32) (z : Fin 512) : View.ld X first (ix2 0 z) = X (ix2 0 z) := by
  refine congrArg X (funext fun a => Fin.ext ?_)
  match a with
  | ⟨0, _⟩ => rfl
  | ⟨1, _⟩ => show 0 + 1 * z.val = z.val; omega

theorem first_writes {κ : Kind} {sp : Space} (v : View sig κ sp S8x512 .f32) (f : v.ty.Contents (Elt Ideal)) (w : first.shape.Idx → Elt Ideal .f32)
    (L : List (View.Piece (Elt Ideal) S8x512 .f32)) (a : Fin 8) (z : Fin 512) :
    v.read (Elt Ideal) (v.writes (Elt Ideal) f (⟨first, w⟩ :: L)) (ix2 a z)
      = if a.val < 1 then w (ix2 (0 : Fin 1) z) else v.read (Elt Ideal) (v.writes (Elt Ideal) f L) (ix2 a z) := by
  split
  · rename_i h
    refine View.read_writes_cons_unit_of_mem v f _ w L (ix2 a z) (ix2 (0 : Fin 1) z) rfl fun b => ?_
    match b with
    | ⟨0, _⟩ => show a.val = 0 + 0; omega
    | ⟨1, _⟩ => show z.val = 0 + z.val; omega
  · rename_i h
    exact View.read_writes_cons_unit_of_not_mem v f _ w L (ix2 a z) rfl 0 (.inr (show 0 + 1 ≤ a.val by omega))

/-- The first row added to what a buffer held. -/
theorem first_kept (M : Memref sig .tc .vmem S8x512 .f32) (hM : M.IsWhole) (X : Vec Ideal S8x512 .f32) (w : first.shape.Idx → Elt Ideal .f32) (a : Fin 8) (z : Fin 512) :
    M.view.read (Elt Ideal) (M.view.writes (Elt Ideal) (hM.unread X) [⟨first, w⟩]) (ix2 a z) = if a.val < 1 then w (ix2 (0 : Fin 1) z) else X (ix2 a z) := by
  rw [first_writes, View.writes_nil, hM.read_unread]

/-- The first row stored over a fill. -/
theorem first_filled (Z : Vec Ideal S8x512 .f32) (w : first.shape.Idx → Elt Ideal .f32) (a : Fin 8) (z : Fin 512) :
    View.canon [(⟨first, w⟩ : View.Piece (Elt Ideal) S8x512 .f32), ⟨whole, Z⟩] (ix2 a z) = if a.val < 1 then w (ix2 (0 : Fin 1) z) else Z (ix2 a z) := by
  rw [← View.read_writes_junk_apply_eq_canon VO0_13, first_writes, View.read_writes_junk_apply_eq_canon,
    View.canon_cons_unit_lit' _ Z [] (by decide)]

theorem fill_ld {κ : Kind} {sp : Space} (v : View sig κ sp S8x512 .f32) (Z : Vec Ideal S8x512 .f32) (z : Fin 512) :
    v.readCov [(⟨whole, Z⟩ : View.Piece (Elt Ideal) S8x512 .f32)] first.toLoadRect (ix2 (0 : Fin 1) z) = Z (ix2 0 z) :=
  (congrFun (View.readCov_fill v inb_S8x512_S8x512_0_0 Z [] first (by decide)) _).trans (first_ld Z z)

theorem q_step (s old : FVec Ideal S1x512 .f32) (z : Fin 512) : k0_pay243 s old (ix2 0 z) = old (ix2 0 z) + s (ix2 0 z) := by
  pointwise [k0_pay243]
theorem k_step (s old : FVec Ideal S1x512 .f32) (z : Fin 512) : k0_pay244 s old (ix2 0 z) = old (ix2 0 z) + s (ix2 0 z) := by
  pointwise [k0_pay244]

theorem points : cfg0.N = 16 := N_0

/-- What a value that starts at a point's part and adds the next points' parts comes to at the last one. -/
theorem total (o : (n : ℕ) → n < cfg0.N → EReal) (p : Fin cfg0.N → EReal) (h0 : ∀ t : Fin cfg0.N, t.val % 16 = 0 → ¬t.val % 16 = 15 → o t.val t.isLt = 0 + p t)
    (h1 : ∀ t : Fin cfg0.N, ¬t.val % 16 = 0 → ¬t.val % 16 = 15 → o t.val t.isLt = o (t.val - 1) (Nat.lt_of_le_of_lt (Nat.sub_le _ _) t.isLt) + p t)
    (t : Fin cfg0.N) (ht : t.val % 16 = 15) :
    o (t.val - 1) (Nat.lt_of_le_of_lt (Nat.sub_le _ _) t.isLt) + p t = ∑ s : Fin 16, p ⟨s.val, lt_of_lt_of_eq s.isLt points.symm⟩ := by
  have key : ∀ (n : ℕ) (hn : n < 15), o n (by rw [points]; omega) = ∑ s : Fin (n + 1), p ⟨s.val, by rw [points]; omega⟩ := by
    intro n
    induction n with
    | zero =>
      intro hn
      rw [Fin.sum_univ_one]
      exact (h0 ⟨0, by rw [points]; omega⟩ rfl (show ¬0 % 16 = 15 by decide)).trans (zero_add _)
    | succ n ih =>
      intro hn
      rw [Fin.sum_univ_castSucc]
      refine (h1 ⟨n + 1, by rw [points]; omega⟩ (show ¬(n + 1) % 16 = 0 by omega) (show ¬(n + 1) % 16 = 15 by omega)).trans ?_
      exact congrArg (· + _) (ih (by omega))
  have hl : t.val < 16 := lt_of_lt_of_eq t.isLt points
  obtain ⟨n, hn⟩ := t
  obtain rfl : n = 15 := by dsimp only at ht hl; omega
  rw [Fin.sum_univ_castSucc]
  exact congrArg (· + _) (key 14 (by omega))

end Cert.KPrepIdeal.Prep

end
-- ==== Proof.Prep.Value.lean ====
/- The gradient of the mixer's preparation: what the launch leaves of the gains' and the bias's gradients. -/
module

public import proofs.«01_k».proof.Proof.Prep.Host
public import proofs.«01_k».proof.Proof.Prep.Block
public import proofs.«01_k».proof.Proof.Prep.Rows

@[expose] public section

set_option maxRecDepth 16384
set_option backward.proofsInPublic true

noncomputable section

namespace Cert.KPrepIdeal.Prep

open Cert.KPrepIdeal Cert.KPrepIdeal.Gen Cert.Prep Idealize.ShloMosaic Idealize.ShloMosaic.TcCoe Idealize.SL.Sem
open Idealize.ShloMosaic.Pipeline (Dat)

variable (m : (ℓ : Loc nD τ sig) → Buf (Elt Ideal) ℓ)

/-- Block row `r` of point `t`. -/
abbrev rowOf (t : Fin cfg0.N) (r : Fin 512) : Fin 8192 :=
  ⟨512 * t.val + r.val, by have := lt_of_lt_of_eq t.isLt points; omega⟩

/-- The columns that the queries', the keys' and the gate's norms read are real. -/
def Real (X : Fin 8192 → Fin 2560 → EReal) : Prop :=
  ∃ x : Fin 8192 → Fin 2560 → ℝ, ∀ (r : Fin 8192) (k : Fin 512), X r ⟨k.val, by omega⟩ = (x r ⟨k.val, by omega⟩ : EReal)
    ∧ X r ⟨512 + k.val, by omega⟩ = (x r ⟨512 + k.val, by omega⟩ : EReal) ∧ X r ⟨2048 + k.val, by omega⟩ = (x r ⟨2048 + k.val, by omega⟩ : EReal)

/-- The normed queries and keys. -/
abbrev qn (c : Dev nD) : Fin 8192 → Row := fun r => normed fun k => xs m c r ⟨k.val, by omega⟩
abbrev kn (c : Dev nD) : Fin 8192 → Row := fun r => normed fun k => xs m c r ⟨512 + k.val, by omega⟩

/-- What one point adds to a gain's gradient, before the groups are added up. -/
def part (A D : Fin 8192 → Row) (a : Fin 8) (z : Fin 512) (t : Fin cfg0.N) : EReal :=
  if a.val < 1 then ∑ r : Fin 512, gainPart A D (rowOf t r) z else 0

/-- The sixteen points' parts, against the folding matrix. -/
theorem fold_parts (A D : Fin 8192 → Row) (a : Fin 8) (z : Fin 512) :
    ∑ k : Fin 512, (∑ s : Fin 16, part A D a k ⟨s.val, lt_of_lt_of_eq s.isLt points.symm⟩) * same k z = gains A D a z := by
  rw [sum_same (fun k => ∑ s : Fin 16, part A D a k ⟨s.val, lt_of_lt_of_eq s.isLt points.symm⟩), gains]
  by_cases h : a.val < 1
  · simp only [part, if_pos h]
    rw [Finset.sum_comm (s := (Finset.univ : Finset (Fin 8192)))]
    refine Finset.sum_congr rfl fun g _ => ?_
    rw [Fin.sum_univ_tiles 16 512 rfl]
    refine Finset.sum_congr rfl fun s _ => Finset.sum_congr rfl fun r _ => congrArg (gainPart A D · _) (Fin.ext ?_)
    show 512 * s.val + r.val = s.val * 512 + r.val
    omega
  · simp only [part, if_neg h, Finset.sum_const_zero]

/-- What one point adds to the bias's gradient, before a group's columns are added up. -/
def biasAt (X : Fin 8192 → Fin 2560 → EReal) (E : Fin 8192 → Fin 1024 → EReal) (s : Fin 128) (z : Fin 512) (t : Fin cfg0.N) : EReal :=
  ∑ n : Fin 4, biasPart X E (rowOf t ⟨n.val * 128 + s.val, by omega⟩) z

theorem fold_bias (X : Fin 8192 → Fin 2560 → EReal) (E : Fin 8192 → Fin 1024 → EReal) (s : Fin 128) (z : Fin 512) :
    ∑ k : Fin 512, (∑ t : Fin 16, biasAt X E s k ⟨t.val, lt_of_lt_of_eq t.isLt points.symm⟩) * (share k z * Ideal.ofBits .f32 0x42800000#32) = biases X E s z := by
  have e : biases X E s z = ∑ t : Fin 16, ∑ n : Fin 4, ∑ d : Fin 64, biasPart X E ⟨(t.val * 4 + n.val) * 128 + s.val, by omega⟩ ⟨z.val / 64 * 64 + d.val, by omega⟩ :=
    Fin.sum_univ_tiles 16 4 rfl _
  rw [e, sum_group (fun k => ∑ t : Fin 16, biasAt X E s k ⟨t.val, lt_of_lt_of_eq t.isLt points.symm⟩), Finset.sum_comm]
  refine Finset.sum_congr rfl fun t _ => ?_
  unfold biasAt
  rw [Finset.sum_comm]
  refine Finset.sum_congr rfl fun n _ => Finset.sum_congr rfl fun d _ => congrArg (biasPart X E · _) (Fin.ext ?_)
  show 512 * t.val + (n.val * 128 + s.val) = (t.val * 4 + n.val) * 128 + s.val
  omega

section point
variable (c : Dev nD) (t : Fin cfg0.N)

theorem q_part (hx : Real (xs m c)) (z : Fin 512) :
    k0_pay241 (k0_pay23 (iblk m c 10 t) (iblk m c 0 t)) (iblk m c 1 t) (ix2 0 z) = ∑ r : Fin 512, gainPart (qn m c) (dqs m c) (rowOf t r) z := by
  obtain ⟨x, h⟩ := hx
  rw [q_row]
  refine Finset.sum_congr rfl fun r _ => congrArg₂ (· * ·) ?_ (at_dq m c t r z _)
  exact q_at _ _ (at_share m c t) r z _ _ (fun k => (h (rowOf t r) k).1) fun k => at_x m c t r _ _

theorem k_part (hx : Real (xs m c)) (z : Fin 512) :
    k0_pay234 (k0_pay27 (k0_pay10 (iblk m c 10 t)) (k0_pay17 (iblk m c 0 t))) (iblk m c 2 t) (ix2 0 z) = ∑ r : Fin 512, gainPart (kn m c) (dks m c) (rowOf t r) z := by
  obtain ⟨x, h⟩ := hx
  rw [k_row]
  refine Finset.sum_congr rfl fun r _ => congrArg₂ (· * ·) ?_ (at_dk m c t r z _)
  exact k_at _ _ (at_share m c t) r z _ _ (fun k => (h (rowOf t r) k).2.1) fun k => at_x m c t r _ _

theorem bias_part (A : FVec Ideal S128x512 .f32) (s : Fin 128) (z : Fin 512) :
    k0_pay1 (k0_pay200 (k0_pay109 (k0_pay18 (iblk m c 0 t)) (iblk m c 4 t)) (k0_pay171 (k0_pay110 (k0_pay18 (iblk m c 0 t)) (iblk m c 4 t))
      (k0_pay140 (k0_pay111 (k0_pay18 (iblk m c 0 t)) (iblk m c 4 t)) (k0_pay112 (k0_pay18 (iblk m c 0 t)) (iblk m c 4 t))))) A (ix2 s z)
    = A (ix2 s z) + biasAt (xs m c) (dms m c) s z t := by
  refine (bias_sum _ _ _ s z).trans (congrArg (_ + ·) (Finset.sum_congr rfl fun n _ => congrArg₂ (· * ·) (congrArg gelu (at_x m c t _ _ ?_)) (at_dm m c t _ z ?_)))
    <;> exact (rowOf t ⟨n.val * 128 + s.val, by omega⟩).isLt

/-- A row of parts: the first row's are added, the others stay. -/
theorem if_add (P : Prop) [Decidable P] (u v w : EReal) (h : P → u = w) : (if P then u + v else w) = w + if P then v else 0 := by
  split
  · rename_i hp; rw [h hp]
  · rw [add_zero]

end point

theorem q_first (c : Dev nD) (hx : Real (xs m c)) (a : Fin 8) (z : Fin 512) (t : Fin cfg0.N) (h0 : t.val % 16 = 0) (h1 : ¬t.val % 16 = 15) :
    (outsAt0 m c t.val t.isLt).2.1 (ix2 a z) = 0 + part (qn m c) (dqs m c) a z t := by
  rw [outsAt0_A m c t h0 h1]; frame_out
  refine (first_filled _ _ a z).trans ?_
  rw [q_step, q_part m c t hx, fill_ld, q_zero, q_zero]
  exact if_add _ _ _ _ fun _ => rfl

theorem q_next (c : Dev nD) (hx : Real (xs m c)) (a : Fin 8) (z : Fin 512) (t : Fin cfg0.N) (h0 : ¬t.val % 16 = 0) (h1 : ¬t.val % 16 = 15) :
    (outsAt0 m c t.val t.isLt).2.1 (ix2 a z) = (outsAt0 m c (t.val - 1) (Nat.lt_of_le_of_lt (Nat.sub_le _ _) t.isLt)).2.1 (ix2 a z) + part (qn m c) (dqs m c) a z t := by
  rw [outsAt0_B m c t h0 h1]; frame_out
  refine (first_kept _ _ _ _ a z).trans ?_
  rw [q_step, q_part m c t hx, first_ld]
  exact if_add _ _ _ _ fun h => congrArg (fun b => (outsAt0 m c (t.val - 1) _).2.1 (ix2 b z)) (Fin.ext (show 0 = a.val by omega))

theorem q_last (c : Dev nD) (hx : Real (xs m c)) (a : Fin 8) (z : Fin 512) (t : Fin cfg0.N) (h1 : t.val % 16 = 15) :
    (outsAt0 m c t.val t.isLt).2.1 (ix2 a z) = gains (qn m c) (dqs m c) a z := by
  rw [outsAt0_C m c t (by omega) h1]; frame_out
  rw [q_fold, ← fold_parts]
  refine Finset.sum_congr rfl fun k _ => congrArg₂ (· * ·) ?_ (at_same m c t k z)
  refine (first_kept _ _ _ _ a k).trans ?_
  rw [q_step, q_part m c t hx, first_ld]
  refine (if_add _ _ _ _ fun h => congrArg (fun b => (outsAt0 m c (t.val - 1) _).2.1 (ix2 b k)) (Fin.ext (show 0 = a.val by omega))).trans ?_
  exact total (fun n h => (outsAt0 m c n h).2.1 (ix2 a k)) (part (qn m c) (dqs m c) a k) (q_first m c hx a k) (q_next m c hx a k) t h1

theorem k_first (c : Dev nD) (hx : Real (xs m c)) (a : Fin 8) (z : Fin 512) (t : Fin cfg0.N) (h0 : t.val % 16 = 0) (h1 : ¬t.val % 16 = 15) :
    (outsAt0 m c t.val t.isLt).2.2.1 (ix2 a z) = 0 + part (kn m c) (dks m c) a z t := by
  rw [outsAt0_A m c t h0 h1]; frame_out
  refine (first_filled _ _ a z).trans ?_
  rw [k_step, k_part m c t hx, fill_ld, k_zero, k_zero]
  exact if_add _ _ _ _ fun _ => rfl

theorem k_next (c : Dev nD) (hx : Real (xs m c)) (a : Fin 8) (z : Fin 512) (t : Fin cfg0.N) (h0 : ¬t.val % 16 = 0) (h1 : ¬t.val % 16 = 15) :
    (outsAt0 m c t.val t.isLt).2.2.1 (ix2 a z) = (outsAt0 m c (t.val - 1) (Nat.lt_of_le_of_lt (Nat.sub_le _ _) t.isLt)).2.2.1 (ix2 a z) + part (kn m c) (dks m c) a z t := by
  rw [outsAt0_B m c t h0 h1]; frame_out
  refine (first_kept _ _ _ _ a z).trans ?_
  rw [k_step, k_part m c t hx, first_ld]
  exact if_add _ _ _ _ fun h => congrArg (fun b => (outsAt0 m c (t.val - 1) _).2.2.1 (ix2 b z)) (Fin.ext (show 0 = a.val by omega))

theorem k_last (c : Dev nD) (hx : Real (xs m c)) (a : Fin 8) (z : Fin 512) (t : Fin cfg0.N) (h1 : t.val % 16 = 15) :
    (outsAt0 m c t.val t.isLt).2.2.1 (ix2 a z) = gains (kn m c) (dks m c) a z := by
  rw [outsAt0_C m c t (by omega) h1]; frame_out
  rw [k_fold, ← fold_parts]
  refine Finset.sum_congr rfl fun k _ => congrArg₂ (· * ·) ?_ (at_same m c t k z)
  refine (first_kept _ _ _ _ a k).trans ?_
  rw [k_step, k_part m c t hx, first_ld]
  refine (if_add _ _ _ _ fun h => congrArg (fun b => (outsAt0 m c (t.val - 1) _).2.2.1 (ix2 b k)) (Fin.ext (show 0 = a.val by omega))).trans ?_
  exact total (fun n h => (outsAt0 m c n h).2.2.1 (ix2 a k)) (part (kn m c) (dks m c) a k) (k_first m c hx a k) (k_next m c hx a k) t h1

theorem bias_first (c : Dev nD) (s : Fin 128) (z : Fin 512) (t : Fin cfg0.N) (h0 : t.val % 16 = 0) (h1 : ¬t.val % 16 = 15) :
    (outsAt0 m c t.val t.isLt).2.2.2.2.2 (ix2 s z) = 0 + biasAt (xs m c) (dms m c) s z t := by
  rw [outsAt0_A m c t h0 h1]; frame_out
  exact (bias_part m c t _ s z).trans (congrArg (· + _) (bias_zero _))

theorem bias_next (c : Dev nD) (s : Fin 128) (z : Fin 512) (t : Fin cfg0.N) (h0 : ¬t.val % 16 = 0) (h1 : ¬t.val % 16 = 15) :
    (outsAt0 m c t.val t.isLt).2.2.2.2.2 (ix2 s z)
      = (outsAt0 m c (t.val - 1) (Nat.lt_of_le_of_lt (Nat.sub_le _ _) t.isLt)).2.2.2.2.2 (ix2 s z) + biasAt (xs m c) (dms m c) s z t := by
  rw [outsAt0_B m c t h0 h1]; frame_out
  exact bias_part m c t _ s z

theorem bias_last (c : Dev nD) (s : Fin 128) (z : Fin 512) (t : Fin cfg0.N) (h1 : t.val % 16 = 15) :
    (outsAt0 m c t.val t.isLt).2.2.2.2.2 (ix2 s z) = biases (xs m c) (dms m c) s z := by
  rw [outsAt0_C m c t (by omega) h1]; frame_out
  rw [bias_fold, ← fold_bias]
  refine Finset.sum_congr rfl fun k _ => congrArg₂ (· * ·) ?_ (congrArg (· * _) (at_share m c t k z))
  refine (bias_part m c t _ s k).trans ?_
  exact total (fun n h => (outsAt0 m c n h).2.2.2.2.2 (ix2 s k)) (biasAt (xs m c) (dms m c) s k) (bias_first m c s k) (bias_next m c s k) t h1

theorem at_of {a b : ℕ} (y : (⟨2, ![a, b]⟩ : Shape).Idx) (r : Fin a) (z : Fin b) (h0 : (y 0).val = r.val) (h1 : (y 1).val = z.val) : y = ix2 r z := by
  funext i
  match i with
  | ⟨0, _⟩ => exact Fin.ext h0
  | ⟨1, _⟩ => exact Fin.ext h1

theorem final13 (c : Dev nD) (hx : Real (xs m c)) : (dats m 0 c).arrAt 13 cfg0.N = fun i : S8x512.Idx => gains (qn m c) (dqs m c) (i 0) (i 1) := by
  refine (dats m 0 c).arrAt_eq_of_covers 13 _ (by decide +kernel) fun t hf y => ?_
  have h0 : ((win0_13.blk t).view.emb y 0).val = (y 0).val := by blk_simp [idx t]
  have h1 : ((win0_13.blk t).view.emb y 1).val = (y 1).val := by blk_simp [idx t]
  rw [at_of ((win0_13.blk t).view.emb y) (y 0) (y 1) h0 h1]
  blk_simp
  rw [after0_13]
  exact (congrArg _ (eq_ix2 y)).trans (q_last m c hx (y 0) (y 1) t ((flush0_13 t).mp hf))

theorem final14 (c : Dev nD) (hx : Real (xs m c)) : (dats m 0 c).arrAt 14 cfg0.N = fun i : S8x512.Idx => gains (kn m c) (dks m c) (i 0) (i 1) := by
  refine (dats m 0 c).arrAt_eq_of_covers 14 _ (by decide +kernel) fun t hf y => ?_
  have h0 : ((win0_14.blk t).view.emb y 0).val = (y 0).val := by blk_simp [idx t]
  have h1 : ((win0_14.blk t).view.emb y 1).val = (y 1).val := by blk_simp [idx t]
  rw [at_of ((win0_14.blk t).view.emb y) (y 0) (y 1) h0 h1]
  blk_simp
  rw [after0_14]
  exact (congrArg _ (eq_ix2 y)).trans (k_last m c hx (y 0) (y 1) t ((flush0_14 t).mp hf))

theorem final17 (c : Dev nD) : (dats m 0 c).arrAt 17 cfg0.N = fun i : S128x512.Idx => biases (xs m c) (dms m c) (i 0) (i 1) := by
  refine (dats m 0 c).arrAt_eq_of_covers 17 _ (by decide +kernel) fun t hf y => ?_
  have h0 : ((win0_17.blk t).view.emb y 0).val = (y 0).val := by blk_simp [idx t]
  have h1 : ((win0_17.blk t).view.emb y 1).val = (y 1).val := by blk_simp [idx t]
  rw [at_of ((win0_17.blk t).view.emb y) (y 0) (y 1) h0 h1]
  blk_simp
  rw [after0_17]
  exact (congrArg _ (eq_ix2 y)).trans (bias_last m c (y 0) (y 1) t ((flush0_17 t).mp hf))

end Cert.KPrepIdeal.Prep

end
-- ==== Proof.Prep.GateMath.lean ====
/- The gradient of the mixer's preparation: the sums that the gate's gain and the spatial weights receive. -/
module

public import proofs.«01_k».proof.Proof.Prep.Math

@[expose] public section

set_option maxRecDepth 16384
set_option backward.proofsInPublic true

noncomputable section

namespace Cert.Prep

open Idealize.ShloMosaic

/-- The cotangent of the rows that the spatial weights mix: the transposed product of a chunk of 128 rows. -/
def back (X : Fin 8192 → Fin 2560 → EReal) (E : Fin 8192 → Fin 1024 → EReal) (W : Fin 8 → Fin 128 → Fin 128 → EReal) (r : Fin 8192) (z : Fin 512) : EReal :=
  ∑ x : Fin 128, past W ⟨z.val / 64, by omega⟩ x ⟨r.val % 128, by omega⟩ * biasPart X E ⟨r.val / 128 * 128 + x.val, by omega⟩ z

/-- The columns that are mixed, normed. -/
def gateNorm (X : Fin 8192 → Fin 2560 → EReal) (r : Fin 8192) : Row := normed fun k => gelu (X r ⟨2048 + k.val, by omega⟩)

/-- The gradient of the gate's gain, in the first of eight rows. -/
def rowGains (A D : Fin 8192 → Row) (a : Fin 8) (z : Fin 512) : EReal :=
  if a.val < 1 then ∑ r : Fin 8192, gainPart A D r z else 0

/-- What one chunk of 128 rows adds to the gradient of a spatial weight. -/
def weightPart (X : Fin 8192 → Fin 2560 → EReal) (E : Fin 8192 → Fin 1024 → EReal) (G : Row) (g : Fin 8) (t s : Fin 128) (n : Fin 64) : EReal :=
  ∑ d : Fin 64, biasPart X E ⟨n.val * 128 + t.val, by omega⟩ ⟨g.val * 64 + d.val, by omega⟩
    * (gateNorm X ⟨n.val * 128 + s.val, by omega⟩ ⟨g.val * 64 + d.val, by omega⟩ * G ⟨g.val * 64 + d.val, by omega⟩)

/-- The gradient of the spatial weights, none where a weight looks ahead. -/
def weights (X : Fin 8192 → Fin 2560 → EReal) (E : Fin 8192 → Fin 1024 → EReal) (G : Row) (g : Fin 8) (t s : Fin 128) : EReal :=
  if s.val ≤ t.val then ∑ n : Fin 64, weightPart X E G g t s n else 0

end Cert.Prep

end
-- ==== Proof.Prep.Weights.lean ====
/- The gradient of the mixer's preparation: what one block of 512 rows adds to the spatial weights' gradient, and the cotangent of the rows they mix. -/
module

public import proofs.«01_k».proof.Proof.Gen.KPrepIdeal.Skeleton
public import proofs.«01_k».proof.Proof.Prep.Math
public import Idealize.ShloMosaic.Lib.Pointwise

@[expose] public section

set_option maxRecDepth 16384
set_option backward.proofsInPublic true

noncomputable section

namespace Cert.KPrepIdeal.Prep

open Cert.KPrepIdeal Cert.KPrepIdeal.Gen Cert.Prep Idealize.ShloMosaic Idealize.ShloMosaic.WordCmp

/-- The rows' numbers and the columns' numbers of a weight. -/
abbrev rows : IVec S128x128 32 := iota .tc S128x128 32 [0] iota_S128x128_d0_w32
abbrev cols : IVec S128x128 32 := iota .tc S128x128 32 [1] iota_S128x128_d1_w32

/-- The lower half of the lanes. -/
theorem half_lo (f : Fin 128 → EReal) :
    ∑ x : Fin 128, Scalar.select (IntOp.cmpi .slt (BitVec.ofNat 32 x.val) 64#32) (f x) (0 : EReal) = ∑ d : Fin 64, f ⟨d.val, by omega⟩ := by
  have e : ∀ x : Fin 128, IntOp.cmpi .slt (BitVec.ofNat 32 x.val) 64#32 = 1#1 ↔ x.val < 64 := fun x => by have := x.isLt; word_cmp
  change ∑ x : Fin 128, (if _ = 1#1 then _ else _) = _
  simp only [e]
  rw [Fin.sum_univ_tiles 2 64 rfl, Fin.sum_univ_two]
  refine (congrArg₂ (· + ·) (Finset.sum_congr rfl fun d _ => ?_) (Finset.sum_eq_zero fun d _ => ?_)).trans (add_zero _)
  · have := d.isLt
    refine (if_pos (show 0 * 64 + d.val < 64 by omega)).trans ?_
    exact congrArg f (Fin.ext (show 0 * 64 + d.val = d.val by omega))
  · exact if_neg (show ¬ 1 * 64 + d.val < 64 by omega)

/-- The upper half of the lanes. -/
theorem half_hi (f : Fin 128 → EReal) :
    ∑ x : Fin 128, Scalar.select (IntOp.cmpi .slt (BitVec.ofNat 32 x.val) 64#32) (0 : EReal) (f x) = ∑ d : Fin 64, f ⟨64 + d.val, by omega⟩ := by
  have e : ∀ x : Fin 128, IntOp.cmpi .slt (BitVec.ofNat 32 x.val) 64#32 = 1#1 ↔ x.val < 64 := fun x => by have := x.isLt; word_cmp
  change ∑ x : Fin 128, (if _ = 1#1 then _ else _) = _
  simp only [e]
  rw [Fin.sum_univ_tiles 2 64 rfl, Fin.sum_univ_two]
  refine (congrArg₂ (· + ·) (Finset.sum_eq_zero fun d _ => ?_) (Finset.sum_congr rfl fun d _ => ?_)).trans (zero_add _)
  · have := d.isLt
    exact if_pos (show 0 * 64 + d.val < 64 by omega)
  · refine (if_neg (show ¬ 1 * 64 + d.val < 64 by omega)).trans ?_
    exact congrArg f (Fin.ext (show 1 * 64 + d.val = 64 + d.val by omega))

/-- The products of four chunks, from the last to the first. -/
theorem four (U V : Fin 512 → Fin 512 → EReal) (t s : Fin 128) (p q : Fin 64 → Fin 512) (h : ∀ d, (p d).val = (q d).val) :
    ∑ d, U ⟨384 + t.val, by omega⟩ (p d) * V ⟨384 + s.val, by omega⟩ (p d) + ∑ d, U ⟨256 + t.val, by omega⟩ (p d) * V ⟨256 + s.val, by omega⟩ (p d)
      + ∑ d, U ⟨128 + t.val, by omega⟩ (p d) * V ⟨128 + s.val, by omega⟩ (p d) + ∑ d, U ⟨t.val, by omega⟩ (p d) * V ⟨s.val, by omega⟩ (p d)
    = ∑ n : Fin 4, ∑ d, U ⟨n.val * 128 + t.val, by omega⟩ (q d) * V ⟨n.val * 128 + s.val, by omega⟩ (q d) := by
  obtain rfl : p = q := funext fun d => Fin.ext (h d)
  have e : ∀ (a b a' b' : Fin 512), a.val = a'.val → b.val = b'.val → ∑ d, U a (p d) * V b (p d) = ∑ d, U a' (p d) * V b' (p d) := fun a b a' b' h h' => by
    rw [Fin.ext h, Fin.ext h']
  rw [Fin.sum_univ_four, e ⟨384 + t.val, by omega⟩ ⟨384 + s.val, by omega⟩ ⟨(3 : Fin 4).val * 128 + t.val, by show 3 * 128 + t.val < 512; omega⟩
      ⟨(3 : Fin 4).val * 128 + s.val, by show 3 * 128 + s.val < 512; omega⟩ (show 384 + t.val = 3 * 128 + t.val by omega) (show 384 + s.val = 3 * 128 + s.val by omega),
    e ⟨256 + t.val, by omega⟩ ⟨256 + s.val, by omega⟩ ⟨(2 : Fin 4).val * 128 + t.val, by show 2 * 128 + t.val < 512; omega⟩
      ⟨(2 : Fin 4).val * 128 + s.val, by show 2 * 128 + s.val < 512; omega⟩ (show 256 + t.val = 2 * 128 + t.val by omega) (show 256 + s.val = 2 * 128 + s.val by omega),
    e ⟨128 + t.val, by omega⟩ ⟨128 + s.val, by omega⟩ ⟨(1 : Fin 4).val * 128 + t.val, by show 1 * 128 + t.val < 512; omega⟩
      ⟨(1 : Fin 4).val * 128 + s.val, by show 1 * 128 + s.val < 512; omega⟩ (show 128 + t.val = 1 * 128 + t.val by omega) (show 128 + s.val = 1 * 128 + s.val by omega),
    e ⟨t.val, by omega⟩ ⟨s.val, by omega⟩ ⟨(0 : Fin 4).val * 128 + t.val, by show 0 * 128 + t.val < 512; omega⟩
      ⟨(0 : Fin 4).val * 128 + s.val, by show 0 * 128 + s.val < 512; omega⟩ (show t.val = 0 * 128 + t.val by omega) (show s.val = 0 * 128 + s.val by omega)]
  abel

variable (Z : FVec Ideal S512x512 .f32) (W : FVec Ideal S8x128x128 .f32) (D0 D1 D2 D3 : FVec Ideal S128x512 .f32)

/-- The eight groups' gradients of the weights, put together. -/
def stacked : FVec Ideal S8x128x128 .f32 :=
    k0_pay231 (k0_pay39 rows cols) (k0_pay225 (k0_pay55 Z) (k0_pay59 k0_pay38) (k0_pay198 (k0_pay67 Z) (k0_pay68 k0_pay38) (k0_pay169 (k0_pay79 Z)
    (k0_pay80 k0_pay38) (k0_pay138 (k0_pay92 Z) (k0_pay93 k0_pay38) (k0_pay113 D3)) (k0_pay141 D2)) (k0_pay172 D1)) (k0_pay201 D0)) (k0_pay229
    (k0_pay43 rows cols) (k0_pay45 rows cols) (k0_pay47 rows cols) (k0_pay49 rows cols) (k0_pay51 rows cols) (k0_pay209 (k0_pay64 Z) (k0_pay65
    k0_pay38) D0 (k0_pay181 (k0_pay76 Z) (k0_pay77 k0_pay38) (k0_pay151 (k0_pay89 Z) (k0_pay121 (k0_pay101 Z) (k0_pay103 k0_pay38) D3) (k0_pay146
    (k0_pay90 k0_pay38) D2)) (k0_pay175 D1) k0_pay176)) (k0_pay212 (k0_pay62 Z) (k0_pay63 k0_pay38) D0 (k0_pay184 (k0_pay74 Z) (k0_pay75 k0_pay38)
    (k0_pay154 (k0_pay85 Z) (k0_pay88 k0_pay38) (k0_pay124 (k0_pay98 Z) (k0_pay99 k0_pay38) D3) (k0_pay143 D2)) (k0_pay174 D1))) (k0_pay214 (k0_pay62
    Z) (k0_pay63 k0_pay38) D0 (k0_pay186 (k0_pay74 Z) (k0_pay75 k0_pay38) (k0_pay156 (k0_pay85 Z) (k0_pay88 k0_pay38) (k0_pay126 (k0_pay98 Z)
    (k0_pay99 k0_pay38) D3) (k0_pay143 D2)) (k0_pay174 D1))) (k0_pay218 (k0_pay60 Z) (k0_pay61 k0_pay38) (k0_pay191 (k0_pay70 Z) (k0_pay162 (k0_pay131
    (k0_pay95 Z) (k0_pay130 (k0_pay96 k0_pay38) D3)) (k0_pay161 (k0_pay82 Z) (k0_pay83 k0_pay38) (k0_pay142 D2))) (k0_pay189 (k0_pay73 k0_pay38)
    (k0_pay173 D1))) (k0_pay202 D0) k0_pay216) (k0_pay220 (k0_pay60 Z) (k0_pay61 k0_pay38) (k0_pay193 (k0_pay70 Z) (k0_pay73 k0_pay38) (k0_pay164
    (k0_pay82 Z) (k0_pay133 (k0_pay95 Z) (k0_pay129 (k0_pay96 k0_pay38) D3)) (k0_pay159 (k0_pay83 k0_pay38) (k0_pay142 D2))) (k0_pay173 D1) k0_pay188)
    (k0_pay202 D0) k0_pay216) (k0_pay227 (k0_pay53 rows cols) (k0_pay207 (k0_pay64 Z) (k0_pay65 k0_pay38) D0 (k0_pay179 (k0_pay76 Z) (k0_pay149
    (k0_pay119 (k0_pay101 Z) (k0_pay103 k0_pay38) D3) (k0_pay148 (k0_pay89 Z) (k0_pay90 k0_pay38) D2)) (k0_pay177 (k0_pay77 k0_pay38) D1))))
    k0_pay228) (k0_pay230 (k0_pay41 rows cols) (k0_pay223 (k0_pay55 Z) (k0_pay59 k0_pay38) (k0_pay196 (k0_pay67 Z) (k0_pay68 k0_pay38) (k0_pay167
    (k0_pay79 Z) (k0_pay80 k0_pay38) (k0_pay136 (k0_pay92 Z) (k0_pay93 k0_pay38) (k0_pay113 D3)) (k0_pay141 D2)) (k0_pay172 D1)) (k0_pay201 D0)))

section parts
variable (U : Fin 512 → Fin 512 → EReal) (h0 : ∀ t z, D0 (ix2 t z) = U ⟨t.val, by omega⟩ z) (h1 : ∀ t z, D1 (ix2 t z) = U ⟨128 + t.val, by omega⟩ z)
  (h2 : ∀ t z, D2 (ix2 t z) = U ⟨256 + t.val, by omega⟩ z) (h3 : ∀ t z, D3 (ix2 t z) = U ⟨384 + t.val, by omega⟩ z)
include h0 h1 h2 h3

set_option maxHeartbeats 1600000 in
theorem stacked_at (g : Fin 8) (t s : Fin 128) : stacked Z D0 D1 D2 D3 (ix3 g t s)
    = if s.val ≤ t.val then ∑ n : Fin 4, ∑ d : Fin 64, U ⟨n.val * 128 + t.val, by omega⟩ ⟨g.val * 64 + d.val, by omega⟩
        * Z (ix2 ⟨n.val * 128 + s.val, by omega⟩ ⟨g.val * 64 + d.val, by omega⟩) else 0 := by
  have e : ∀ v : EReal, Scalar.select (IntOp.cmpi .sle (BitVec.ofNat 32 s.val) (BitVec.ofNat 32 t.val)) v 0 = if s.val ≤ t.val then v else 0 := fun v => by
    have c : IntOp.cmpi .sle (BitVec.ofNat 32 s.val) (BitVec.ofNat 32 t.val) = 1#1 ↔ s.val ≤ t.val := by have := s.isLt; have := t.isLt; word_cmp
    change (if _ = 1#1 then _ else _) = _
    simp only [c]
  pointwise [stacked, rows, cols, k0_pay38, k0_pay39, k0_pay41, k0_pay43, k0_pay45, k0_pay47, k0_pay49, k0_pay51, k0_pay53, k0_pay55, k0_pay59, k0_pay60, k0_pay61, k0_pay62, k0_pay63, k0_pay64, k0_pay65, k0_pay67, k0_pay68, k0_pay70, k0_pay73, k0_pay74, k0_pay75, k0_pay76, k0_pay77, k0_pay79, k0_pay80, k0_pay82, k0_pay83, k0_pay85, k0_pay88, k0_pay89, k0_pay90, k0_pay92, k0_pay93, k0_pay95, k0_pay96, k0_pay98, k0_pay99, k0_pay101, k0_pay103, k0_pay113, k0_pay114, k0_pay115, k0_pay116, k0_pay117, k0_pay118, k0_pay119, k0_pay120, k0_pay121, k0_pay122, k0_pay123, k0_pay124, k0_pay125, k0_pay126, k0_pay128, k0_pay129, k0_pay130, k0_pay131, k0_pay132, k0_pay133, k0_pay134, k0_pay135, k0_pay136, k0_pay137, k0_pay138, k0_pay141, k0_pay142, k0_pay143, k0_pay144, k0_pay145, k0_pay146, k0_pay147, k0_pay148, k0_pay149, k0_pay150, k0_pay151, k0_pay152, k0_pay153, k0_pay154, k0_pay155, k0_pay156, k0_pay158, k0_pay159, k0_pay160, k0_pay161, k0_pay162, k0_pay163, k0_pay164, k0_pay165, k0_pay166, k0_pay167, k0_pay168, k0_pay169, k0_pay172, k0_pay173, k0_pay174, k0_pay175, k0_pay176, k0_pay177, k0_pay178, k0_pay179, k0_pay180, k0_pay181, k0_pay182, k0_pay183, k0_pay184, k0_pay185, k0_pay186, k0_pay188, k0_pay189, k0_pay190, k0_pay191, k0_pay192, k0_pay193, k0_pay194, k0_pay195, k0_pay196, k0_pay197, k0_pay198, k0_pay201, k0_pay202, k0_pay203, k0_pay204, k0_pay205, k0_pay206, k0_pay207, k0_pay208, k0_pay209, k0_pay210, k0_pay211, k0_pay212, k0_pay213, k0_pay214, k0_pay216, k0_pay217, k0_pay218, k0_pay219, k0_pay220, k0_pay221, k0_pay222, k0_pay223, k0_pay224, k0_pay225, k0_pay227, k0_pay228, k0_pay229, k0_pay230, k0_pay231]
  simp only [h0, h1, h2, h3, half_lo, half_hi, e]
  fin_cases g <;> simp [-Finset.sum_mul, -Fin.sum_univ_four, -Finset.mul_sum] <;> refine if_congr Iff.rfl ?_ rfl <;>
    exact four U (fun r z => Z (ix2 r z)) t s _ _ (fun d => by dsimp <;> omega)

end parts

end Cert.KPrepIdeal.Prep

end
-- ==== Proof.Prep.GateBlock.lean ====
/- The gradient of the mixer's preparation: one block's normed gate columns, the cotangents it starts from, and the two sums' steps. -/
module

public import proofs.«01_k».proof.Proof.Prep.Block
public import proofs.«01_k».proof.Proof.Prep.Weights

@[expose] public section

set_option maxRecDepth 16384
set_option backward.proofsInPublic true

noncomputable section

namespace Cert.KPrepIdeal.Prep

open Cert.KPrepIdeal Cert.KPrepIdeal.Gen Cert.Prep Idealize.ShloMosaic

section parts
variable (x0 : Vec Ideal S512x2560 .f32) (M : Vec Ideal S512x512 .f32) (hM : ∀ k z : Fin 512, M (ix2 k z) = share k z)
include hM

theorem z_at (r z : Fin 512) (X : Row) (x : Fin 512 → ℝ) (hX : ∀ k, X k = (x k : EReal)) (hx : ∀ k : Fin 512, x0 (ix2 r ⟨2048 + k.val, by omega⟩) = X k) :
    k0_pay36 (k0_pay10 M) (k0_pay19 x0) (ix2 r z) = normed (fun k => gelu (X k)) z := by
  pointwise [k0_pay36, k0_pay34, k0_pay33, k0_pay32, k0_pay31, k0_pay30, k0_pay29, k0_pay28, k0_pay19, k0_pay10]
  simp only [hx, hM]
  have hy : ∀ k, gelu (X k) = ((gelu_real (x k)).choose : EReal) := fun k => (congrArg gelu (hX k)).trans (gelu_real (x k)).choose_spec
  refine Eq.trans ?_ (congrArg (fun v => gelu (X z) * Ideal.rsqrt (v + Ideal.ofBits .f32 0x358637BD#32)) (split_sum (fun k => gelu (X k)) _ hy z))
  rfl

end parts

theorem scaled_at (M : FVec Ideal S512x512 .f32) (G : Vec Ideal S1x512 .f32) (Y : FVec Ideal S512x512 .f32) (r z : Fin 512) :
    k0_pay37 M (k0_pay13 G) Y (ix2 r z) = k0_pay36 M Y (ix2 r z) * G (ix2 0 z) := by
  have h : k0_pay37 M (k0_pay13 G) Y (ix2 r z) = k0_pay36 M Y (ix2 r z) * k0_pay13 G (ix2 0 z) := by
    unfold k0_pay37
    generalize k0_pay36 M Y = A
    pointwise []
  rw [h]
  pointwise [k0_pay13]

section cotangent
variable (x0 : Vec Ideal S512x2560 .f32) (E : FVec Ideal S512x512 .f32) (t : Fin 128) (z : Fin 512)

theorem cot0 : k0_pay109 (k0_pay18 x0) E (ix2 t z) = biasIn x0 E ⟨t.val, by omega⟩ z := by
  pointwise [k0_pay109, k0_pay107, k0_pay104, k0_pay106, k0_pay105, k0_pay18]
  rfl
theorem cot1 : k0_pay110 (k0_pay18 x0) E (ix2 t z) = biasIn x0 E ⟨128 + t.val, by omega⟩ z := by
  pointwise [k0_pay110, k0_pay107, k0_pay104, k0_pay106, k0_pay105, k0_pay18]
  rfl
theorem cot2 : k0_pay111 (k0_pay18 x0) E (ix2 t z) = biasIn x0 E ⟨256 + t.val, by omega⟩ z := by
  pointwise [k0_pay111, k0_pay107, k0_pay104, k0_pay106, k0_pay105, k0_pay18]
  rfl
theorem cot3 : k0_pay112 (k0_pay18 x0) E (ix2 t z) = biasIn x0 E ⟨384 + t.val, by omega⟩ z := by
  pointwise [k0_pay112, k0_pay107, k0_pay104, k0_pay106, k0_pay105, k0_pay18]
  rfl

end cotangent

theorem z_row (A D : FVec Ideal S512x512 .f32) (z : Fin 512) : k0_pay232 A D (ix2 0 z) = ∑ r : Fin 512, A (ix2 r z) * D (ix2 r z) := by
  pointwise [k0_pay232]
theorem z_step (s old : FVec Ideal S1x512 .f32) (z : Fin 512) : k0_pay245 s old (ix2 0 z) = old (ix2 0 z) + s (ix2 0 z) := by
  pointwise [k0_pay245]
theorem w_step (A : FVec Ideal S8x128x128 .f32) (old : FVec Ideal S8x128x128 .f32) (g : Fin 8) (t s : Fin 128) :
    k0_pay246 A old (ix3 g t s) = old (ix3 g t s) + A (ix3 g t s) := by
  pointwise [k0_pay246]
theorem z_zero (j : S8x512.Idx) : k0_pay7 (F := Ideal) j = 0 := by pointwise [k0_pay7]
theorem w_zero (j : S8x128x128.Idx) : k0_pay8 (F := Ideal) j = 0 := by pointwise [k0_pay8]
theorem whole_w (W : Vec Ideal S1x8x128x128 .f32) (h : Fin 8) (a b : Fin 128) : k0_pay14 W (ix3 h a b) = W (ix4 0 h a b) := by
  pointwise [k0_pay14]

end Cert.KPrepIdeal.Prep

end
-- ==== Proof.Prep.GateHost.lean ====
/- The gradient of the mixer's preparation: the gate's gain and the spatial weights as the launch is handed them. -/
module

public import proofs.«01_k».proof.Proof.Prep.Host

@[expose] public section

set_option maxRecDepth 16384
set_option backward.proofsInPublic true

noncomputable section

namespace Cert.KPrepIdeal.Prep

open Cert.KPrepIdeal Cert.KPrepIdeal.Gen Cert.Prep Idealize.ShloMosaic Idealize.ShloMosaic.TcCoe Idealize.SL.Sem

variable (m : (ℓ : Loc nD τ sig) → Buf (Elt Ideal) ℓ) (c : Dev nD)

set_option maxHeartbeats 1000000 in
theorem V_gz : V m c main_v31 = broadcastInDim S1x512 ![1] bcast_S512_S1x512_1 (shapeCast S512 (extractStridedSlice S1x512 ![0, 0]
    (m ((c : Thread nD τ).loc main_arg3) : FVec Ideal S2x512 .f32) slices_S2x512_S1x512_0_0) shapeCasts_S1x512_S512) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

theorem gate_idx : ∀ t : Fin cfg0.N, win0_7.index t = ![0, 0] ∧ win0_8.index t = ![0, 0, 0, 0] ∧ win0_15.index t = ![0, 0] ∧ win0_16.index t = ![0, 0, 0] :=
  (by decide +kernel : ∀ t : Fin grid0.N, _)

abbrev gz : Row := fun k => (m ((c : Thread nD τ).loc main_arg3) : Vec Ideal S2x512 .f32) (ix2 0 k)
abbrev ws : Fin 8 → Fin 128 → Fin 128 → EReal := fun h a b => (m ((c : Thread nD τ).loc main_arg4) : Vec Ideal S2x8x128x128 .f32) (ix4 0 h a b)

theorem at_gz (t : Fin cfg0.N) (k : Fin 512) : (iblk m c 7 t : Vec Ideal S1x512 .f32) (ix2 0 k) = gz m c k := by
  have h : iblk m c 7 t (ix2 (0 : Fin 1) k) = V m c main_v31 (ix2 (0 : Fin 1) k) := by blk_point [iblk, gate_idx t]
  refine h.trans ?_
  rw [V_gz]
  pointwise []

theorem at_w (t : Fin cfg0.N) (h : Fin 8) (a b : Fin 128) : (iblk m c 8 t : Vec Ideal S1x8x128x128 .f32) (ix4 0 h a b) = ws m c h a b := by
  blk_point [iblk, V, gate_idx t]

end Cert.KPrepIdeal.Prep

end
-- ==== Proof.Prep.Back.lean ====
/- The gradient of the mixer's preparation: the cotangent of the rows that the spatial weights mix, in a block of 512 rows. -/
module

public import proofs.«01_k».proof.Proof.Gen.KPrepIdeal.Skeleton
public import proofs.«01_k».proof.Proof.Prep.Weights
public import Idealize.ShloMosaic.Lib.Pointwise

@[expose] public section

set_option maxRecDepth 16384
set_option backward.proofsInPublic true

noncomputable section

namespace Cert.KPrepIdeal.Prep

open Cert.KPrepIdeal Cert.KPrepIdeal.Gen Cert.Prep Idealize.ShloMosaic Idealize.ShloMosaic.WordCmp

variable (W : FVec Ideal S8x128x128 .f32) (D0 D1 D2 D3 : FVec Ideal S128x512 .f32)

/-- The cotangent of the mixed rows under the transposed weights, tile by tile. -/
def mixedBack : FVec Ideal S512x512 .f32 :=
    k0_pay226 (k0_pay40 W rows cols) (k0_pay42 W rows cols) (k0_pay44 W rows cols) (k0_pay46 W rows cols) (k0_pay59 k0_pay38) (k0_pay61 k0_pay38)
    (k0_pay201 D0) (k0_pay202 D0) (k0_pay215 (k0_pay48 W rows cols) (k0_pay50 W rows cols) (k0_pay52 W rows cols) (k0_pay54 W rows cols) (k0_pay63
    k0_pay38) (k0_pay65 k0_pay38) D0 (k0_pay199 (k0_pay40 W rows cols) (k0_pay42 W rows cols) (k0_pay44 W rows cols) (k0_pay46 W rows cols) (k0_pay68
    k0_pay38) (k0_pay73 k0_pay38) (k0_pay172 D1) (k0_pay173 D1) (k0_pay187 (k0_pay48 W rows cols) (k0_pay50 W rows cols) (k0_pay52 W rows cols)
    (k0_pay54 W rows cols) (k0_pay75 k0_pay38) (k0_pay77 k0_pay38) (k0_pay170 (k0_pay40 W rows cols) (k0_pay42 W rows cols) (k0_pay44 W rows cols)
    (k0_pay46 W rows cols) (k0_pay80 k0_pay38) (k0_pay141 D2) (k0_pay157 (k0_pay48 W rows cols) (k0_pay50 W rows cols) (k0_pay52 W rows cols)
    (k0_pay54 W rows cols) (k0_pay88 k0_pay38) (k0_pay139 (k0_pay40 W rows cols) (k0_pay42 W rows cols) (k0_pay44 W rows cols) (k0_pay46 W rows cols)
    (k0_pay93 k0_pay38) (k0_pay113 D3) (k0_pay127 (k0_pay48 W rows cols) (k0_pay50 W rows cols) (k0_pay52 W rows cols) (k0_pay54 W rows cols)
    (k0_pay99 k0_pay38) (k0_pay103 k0_pay38) D3) (k0_pay129 (k0_pay96 k0_pay38) D3) (k0_pay130 (k0_pay96 k0_pay38) D3)) (k0_pay143 D2) (k0_pay146
    (k0_pay90 k0_pay38) D2) (k0_pay147 (k0_pay90 k0_pay38) D2)) (k0_pay159 (k0_pay83 k0_pay38) (k0_pay142 D2)) (k0_pay160 (k0_pay83 k0_pay38)
    (k0_pay142 D2))) (k0_pay174 D1) (k0_pay175 D1) k0_pay176 (k0_pay177 (k0_pay77 k0_pay38) D1)) k0_pay188 (k0_pay189 (k0_pay73 k0_pay38) (k0_pay173
    D1)))) k0_pay216

/-- One element of the transposed product. -/
def backAt (U : Fin 512 → Fin 512 → EReal) (r z : Fin 512) : EReal :=
  ∑ x : Fin 128, past (fun h a b => W (ix3 h a b)) ⟨z.val / 64, by omega⟩ x ⟨r.val % 128, by omega⟩ * U ⟨r.val / 128 * 128 + x.val, by omega⟩ z

/-- One of the sixteen tiles: a lane below 64 takes its group's product, another the next group's. -/
theorem tile_back (U : Fin 512 → Fin 512 → EReal) (r z y : Fin 512) (h h' : Fin 8) (n a : ℕ) (ha : a < 128) (i : Fin 128 → Fin 512)
    (hy : y.val = z.val) (hr : a = r.val % 128) (hi : ∀ x, (i x).val = r.val / 128 * 128 + x.val)
    (hn : n < 128) (hh : n < 64 → h.val = z.val / 64) (hh' : 64 ≤ n → h'.val = z.val / 64) :
    ∑ x : Fin 128, Scalar.select (IntOp.cmpi .slt (BitVec.ofNat 32 n) 64#32) (0 : EReal)
        (Scalar.select (IntOp.cmpi .sle (BitVec.ofNat 32 a) (BitVec.ofNat 32 x.val)) (W (ix3 h' x ⟨a, ha⟩) * U (i x) y) (0 : EReal))
      + ∑ x : Fin 128, Scalar.select (IntOp.cmpi .slt (BitVec.ofNat 32 n) 64#32)
        (Scalar.select (IntOp.cmpi .sle (BitVec.ofNat 32 a) (BitVec.ofNat 32 x.val)) (W (ix3 h x ⟨a, ha⟩) * U (i x) y) (0 : EReal)) (0 : EReal)
    = backAt W U r z := by
  subst hr
  obtain rfl : y = z := Fin.ext hy
  have e0 : IntOp.cmpi .slt (BitVec.ofNat 32 n) 64#32 = 1#1 ↔ n < 64 := by word_cmp
  have e1 : ∀ x : Fin 128, IntOp.cmpi .sle (BitVec.ofNat 32 (r.val % 128)) (BitVec.ofNat 32 x.val) = 1#1 ↔ r.val % 128 ≤ x.val := fun x => by
    have := x.isLt; word_cmp
  have e2 : ∀ x, i x = ⟨r.val / 128 * 128 + x.val, by omega⟩ := fun x => Fin.ext (hi x)
  change ∑ x : Fin 128, (if _ = 1#1 then _ else (if _ = 1#1 then _ else _)) + ∑ x : Fin 128, (if _ = 1#1 then (if _ = 1#1 then _ else _) else _) = _
  simp only [e0, e1, e2, backAt, past, ite_mul, zero_mul]
  by_cases hlt : n < 64
  · obtain rfl : h = ⟨y.val / 64, by omega⟩ := Fin.ext (hh hlt)
    simp only [hlt, if_true, Finset.sum_const_zero, zero_add]
  · obtain rfl : h' = ⟨y.val / 64, by omega⟩ := Fin.ext (hh' (by omega))
    simp only [hlt, if_false, Finset.sum_const_zero, add_zero]

set_option maxHeartbeats 3200000 in
theorem mixedBack_at (U : Fin 512 → Fin 512 → EReal) (h0 : ∀ (t : Fin 128) z, D0 (ix2 t z) = U ⟨t.val, by omega⟩ z)
    (h1 : ∀ (t : Fin 128) z, D1 (ix2 t z) = U ⟨128 + t.val, by omega⟩ z) (h2 : ∀ (t : Fin 128) z, D2 (ix2 t z) = U ⟨256 + t.val, by omega⟩ z)
    (h3 : ∀ (t : Fin 128) z, D3 (ix2 t z) = U ⟨384 + t.val, by omega⟩ z) (r z : Fin 512) : mixedBack W D0 D1 D2 D3 (ix2 r z) = backAt W U r z := by
  have hr := r.isLt
  have hz := z.isLt
  pointwise [mixedBack, rows, cols, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay59, k0_pay61, k0_pay63, k0_pay65, k0_pay68, k0_pay73, k0_pay75, k0_pay77, k0_pay80, k0_pay83, k0_pay88, k0_pay90, k0_pay93, k0_pay96, k0_pay99, k0_pay103, k0_pay113, k0_pay114, k0_pay115, k0_pay116, k0_pay117, k0_pay118, k0_pay120, k0_pay122, k0_pay123, k0_pay125, k0_pay127, k0_pay128, k0_pay129, k0_pay130, k0_pay132, k0_pay134, k0_pay135, k0_pay137, k0_pay139, k0_pay141, k0_pay142, k0_pay143, k0_pay144, k0_pay145, k0_pay146, k0_pay147, k0_pay150, k0_pay152, k0_pay153, k0_pay155, k0_pay157, k0_pay158, k0_pay159, k0_pay160, k0_pay163, k0_pay165, k0_pay166, k0_pay168, k0_pay170, k0_pay172, k0_pay173, k0_pay174, k0_pay175, k0_pay176, k0_pay177, k0_pay178, k0_pay180, k0_pay182, k0_pay183, k0_pay185, k0_pay187, k0_pay188, k0_pay189, k0_pay190, k0_pay192, k0_pay194, k0_pay195, k0_pay197, k0_pay199, k0_pay201, k0_pay202, k0_pay203, k0_pay204, k0_pay205, k0_pay206, k0_pay208, k0_pay210, k0_pay211, k0_pay213, k0_pay215, k0_pay216, k0_pay217, k0_pay219, k0_pay221, k0_pay222, k0_pay224, k0_pay226]
  simp only [h0, h1, h2, h3]
  have cr : (r.val < 128 ∧ r.val < 256 ∧ r.val < 384) ∨ (¬ r.val < 128 ∧ r.val < 256 ∧ r.val < 384) ∨ (¬ r.val < 128 ∧ ¬ r.val < 256 ∧ r.val < 384)
      ∨ (¬ r.val < 128 ∧ ¬ r.val < 256 ∧ ¬ r.val < 384) := by omega
  have cz : (z.val < 128 ∧ z.val < 256 ∧ z.val < 384) ∨ (¬ z.val < 128 ∧ z.val < 256 ∧ z.val < 384) ∨ (¬ z.val < 128 ∧ ¬ z.val < 256 ∧ z.val < 384)
      ∨ (¬ z.val < 128 ∧ ¬ z.val < 256 ∧ ¬ z.val < 384) := by omega
  rcases cz with b | b | b | b
  on_goal 1 => have T := tile_back W U r z z 0 1 z.val
  on_goal 2 => have T := tile_back W U r z ⟨128 + (z.val - 128), by omega⟩ 2 3 (z.val - 128)
  on_goal 3 => have T := tile_back W U r z ⟨256 + (z.val - 256), by omega⟩ 4 5 (z.val - 256)
  on_goal 4 => have T := tile_back W U r z ⟨384 + (z.val - 384), by omega⟩ 6 7 (z.val - 384)
  all_goals
    obtain ⟨b1, b2, b3⟩ := b
    rcases cr with ⟨a1, a2, a3⟩ | ⟨a1, a2, a3⟩ | ⟨a1, a2, a3⟩ | ⟨a1, a2, a3⟩
    on_goal 1 => have T' := T r.val (by omega) fun x => ⟨x.val, by omega⟩
    on_goal 2 => have T' := T (r.val - 128) (by omega) fun x => ⟨128 + x.val, by omega⟩
    on_goal 3 => have T' := T (r.val - 256) (by omega) fun x => ⟨256 + x.val, by omega⟩
    on_goal 4 => have T' := T (r.val - 384) (by omega) fun x => ⟨384 + x.val, by omega⟩
    all_goals
      simp only [a1, a2, a3, b1, b2, b3, ↓reduceDIte, zero_add, add_zero]
      refine T' ?_ ?_ (fun x => ?_) ?_ (fun hn => ?_) (fun hn => ?_) <;> (try dsimp) <;> omega

end Cert.KPrepIdeal.Prep

end
-- ==== Proof.Prep.GateValue.lean ====
/- The gradient of the mixer's preparation: what the launch leaves of the gradients of the gate's gain and of the spatial weights. -/
module

public import proofs.«01_k».proof.Proof.Prep.Value
public import proofs.«01_k».proof.Proof.Prep.GateMath
public import proofs.«01_k».proof.Proof.Prep.GateBlock
public import proofs.«01_k».proof.Proof.Prep.GateHost
public import proofs.«01_k».proof.Proof.Prep.Back

@[expose] public section

set_option maxRecDepth 16384
set_option backward.proofsInPublic true

noncomputable section

namespace Cert.KPrepIdeal.Prep

open Cert.KPrepIdeal Cert.KPrepIdeal.Gen Cert.Prep Idealize.ShloMosaic Idealize.ShloMosaic.TcCoe Idealize.SL.Sem
open Idealize.ShloMosaic.Pipeline (Dat)

variable (m : (ℓ : Loc nD τ sig) → Buf (Elt Ideal) ℓ)

/-- The mixed rows' cotangents of the whole array. -/
abbrev bk (c : Dev nD) : Fin 8192 → Row := back (xs m c) (dms m c) (ws m c)

theorem sum_parts (A D : Fin 8192 → Row) (a : Fin 8) (z : Fin 512) :
    ∑ s : Fin 16, part A D a z ⟨s.val, lt_of_lt_of_eq s.isLt points.symm⟩ = rowGains A D a z := by
  unfold rowGains
  by_cases h : a.val < 1
  · simp only [part, if_pos h]
    rw [Fin.sum_univ_tiles 16 512 rfl]
    refine Finset.sum_congr rfl fun s _ => Finset.sum_congr rfl fun r _ => congrArg (gainPart A D · _) (Fin.ext ?_)
    show 512 * s.val + r.val = s.val * 512 + r.val
    omega
  · simp only [part, if_neg h, Finset.sum_const_zero]

/-- What one point adds to the gradient of a spatial weight. -/
def weightAt (X : Fin 8192 → Fin 2560 → EReal) (E : Fin 8192 → Fin 1024 → EReal) (G : Row) (g : Fin 8) (t s : Fin 128) (p : Fin cfg0.N) : EReal :=
  if s.val ≤ t.val then ∑ n : Fin 4, weightPart X E G g t s ⟨p.val * 4 + n.val, by have := lt_of_lt_of_eq p.isLt points; omega⟩ else 0

theorem sum_weights (X : Fin 8192 → Fin 2560 → EReal) (E : Fin 8192 → Fin 1024 → EReal) (G : Row) (g : Fin 8) (t s : Fin 128) :
    ∑ p : Fin 16, weightAt X E G g t s ⟨p.val, lt_of_lt_of_eq p.isLt points.symm⟩ = weights X E G g t s := by
  unfold weights
  by_cases h : s.val ≤ t.val
  · simp only [weightAt, if_pos h]
    exact (Fin.sum_univ_tiles 16 4 rfl _).symm
  · simp only [weightAt, if_neg h, Finset.sum_const_zero]

section point
variable (c : Dev nD) (t : Fin cfg0.N)

/-- The cotangents of a point's rows. -/
abbrev cot : Fin 512 → Fin 512 → EReal := fun r z => biasPart (xs m c) (dms m c) (rowOf t r) z

theorem cot_of (r z : Fin 512) : biasIn (iblk m c 0 t) (iblk m c 4 t) r z = cot m c t r z :=
  congrArg₂ (· * ·) (congrArg gelu (at_x m c t _ _ (rowOf t r).isLt)) (at_dm m c t _ z (rowOf t r).isLt)

theorem gate_at (hx : Real (xs m c)) (r z : Fin 512) : k0_pay36 (k0_pay10 (iblk m c 10 t)) (k0_pay19 (iblk m c 0 t)) (ix2 r z) = gateNorm (xs m c) (rowOf t r) z := by
  obtain ⟨x, h⟩ := hx
  exact z_at _ _ (at_share m c t) r z _ _ (fun k => (h (rowOf t r) k).2.2) fun k => at_x m c t r _ _

abbrev D0 := k0_pay109 (k0_pay18 (iblk m c 0 t)) (iblk m c 4 t)
abbrev D1 := k0_pay110 (k0_pay18 (iblk m c 0 t)) (iblk m c 4 t)
abbrev D2 := k0_pay111 (k0_pay18 (iblk m c 0 t)) (iblk m c 4 t)
abbrev D3 := k0_pay112 (k0_pay18 (iblk m c 0 t)) (iblk m c 4 t)

theorem weight_part (hx : Real (xs m c)) (old : FVec Ideal S8x128x128 .f32) (g : Fin 8) (a b : Fin 128) :
    k0_pay246 (stacked (k0_pay37 (k0_pay10 (iblk m c 10 t)) (k0_pay13 (iblk m c 7 t)) (k0_pay19 (iblk m c 0 t))) (D0 m c t) (D1 m c t) (D2 m c t) (D3 m c t)) old (ix3 g a b)
      = old (ix3 g a b) + weightAt (xs m c) (dms m c) (gz m c) g a b t := by
  rw [w_step, stacked_at _ _ _ _ _ (cot m c t) (fun s z => (cot0 _ _ s z).trans (cot_of m c t _ z)) (fun s z => (cot1 _ _ s z).trans (cot_of m c t _ z))
    (fun s z => (cot2 _ _ s z).trans (cot_of m c t _ z)) (fun s z => (cot3 _ _ s z).trans (cot_of m c t _ z))]
  refine congrArg (old (ix3 g a b) + ·) ?_
  unfold weightAt
  refine if_congr Iff.rfl (Finset.sum_congr rfl fun n _ => Finset.sum_congr rfl fun d _ => ?_) rfl
  rw [scaled_at, gate_at m c t hx, at_gz]
  have e : ∀ i : Fin 128, rowOf t ⟨n.val * 128 + i.val, by omega⟩ = ⟨(t.val * 4 + n.val) * 128 + i.val, by have := lt_of_lt_of_eq t.isLt points; omega⟩ := fun i =>
    Fin.ext (show 512 * t.val + (n.val * 128 + i.val) = (t.val * 4 + n.val) * 128 + i.val by omega)
  exact congrArg₂ (fun u v => biasPart (xs m c) (dms m c) u _ * (gateNorm (xs m c) v _ * gz m c _)) (e a) (e b)

theorem z_part (hx : Real (xs m c)) (z : Fin 512) :
    k0_pay232 (k0_pay36 (k0_pay10 (iblk m c 10 t)) (k0_pay19 (iblk m c 0 t))) (mixedBack (k0_pay14 (iblk m c 8 t)) (D0 m c t) (D1 m c t) (D2 m c t) (D3 m c t)) (ix2 0 z)
      = ∑ r : Fin 512, gainPart (gateNorm (xs m c)) (bk m c) (rowOf t r) z := by
  rw [z_row]
  refine Finset.sum_congr rfl fun r _ => congrArg₂ (· * ·) (gate_at m c t hx r z) ?_
  rw [mixedBack_at _ _ _ _ _ (cot m c t) (fun s z => (cot0 _ _ s z).trans (cot_of m c t _ z)) (fun s z => (cot1 _ _ s z).trans (cot_of m c t _ z))
    (fun s z => (cot2 _ _ s z).trans (cot_of m c t _ z)) (fun s z => (cot3 _ _ s z).trans (cot_of m c t _ z))]
  have hw : (fun h a b => k0_pay14 (iblk m c 8 t) (ix3 h a b)) = ws m c := funext fun h => funext fun a => funext fun b => (whole_w _ h a b).trans (at_w m c t h a b)
  unfold backAt
  rw [hw]
  refine Finset.sum_congr rfl fun x _ => congrArg₂ (· * ·) (congrArg (past (ws m c) _ x) (Fin.ext ?_)) (congrArg (biasPart (xs m c) (dms m c) · z) (Fin.ext ?_))
  · show r.val % 128 = (512 * t.val + r.val) % 128
    omega
  · show 512 * t.val + (r.val / 128 * 128 + x.val) = (512 * t.val + r.val) / 128 * 128 + x.val
    omega

end point

theorem z_first (c : Dev nD) (hx : Real (xs m c)) (a : Fin 8) (z : Fin 512) (t : Fin cfg0.N) (h0 : t.val % 16 = 0) (h1 : ¬t.val % 16 = 15) :
    (outsAt0 m c t.val t.isLt).2.2.2.1 (ix2 a z) = 0 + part (gateNorm (xs m c)) (bk m c) a z t := by
  rw [outsAt0_A m c t h0 h1]; frame_out
  refine (first_filled _ _ a z).trans ?_
  rw [z_step, fill_ld, z_zero, z_zero]
  exact if_add _ _ _ _ (fun _ => rfl) |>.trans (congrArg (fun v => 0 + if a.val < 1 then v else 0) (z_part m c t hx z))

theorem z_next (c : Dev nD) (hx : Real (xs m c)) (a : Fin 8) (z : Fin 512) (t : Fin cfg0.N) (h0 : ¬t.val % 16 = 0) (h1 : ¬t.val % 16 = 15) :
    (outsAt0 m c t.val t.isLt).2.2.2.1 (ix2 a z)
      = (outsAt0 m c (t.val - 1) (Nat.lt_of_le_of_lt (Nat.sub_le _ _) t.isLt)).2.2.2.1 (ix2 a z) + part (gateNorm (xs m c)) (bk m c) a z t := by
  rw [outsAt0_B m c t h0 h1]; frame_out
  refine (first_kept _ _ _ _ a z).trans ?_
  rw [z_step, first_ld]
  exact (if_add _ _ _ _ fun h => congrArg (fun b => (outsAt0 m c (t.val - 1) _).2.2.2.1 (ix2 b z)) (Fin.ext (show 0 = a.val by omega))).trans
    (congrArg (fun v => _ + if a.val < 1 then v else 0) (z_part m c t hx z))

theorem z_last (c : Dev nD) (hx : Real (xs m c)) (a : Fin 8) (z : Fin 512) (t : Fin cfg0.N) (h1 : t.val % 16 = 15) :
    (outsAt0 m c t.val t.isLt).2.2.2.1 (ix2 a z) = rowGains (gateNorm (xs m c)) (bk m c) a z := by
  rw [outsAt0_C m c t (by omega) h1]; frame_out
  rw [← sum_parts]
  refine (first_kept _ _ _ _ a z).trans ?_
  rw [z_step, first_ld]
  refine ((if_add _ _ _ _ fun h => congrArg (fun b => (outsAt0 m c (t.val - 1) _).2.2.2.1 (ix2 b z)) (Fin.ext (show 0 = a.val by omega))).trans
    (congrArg (fun v => _ + if a.val < 1 then v else 0) (z_part m c t hx z))).trans ?_
  exact total (fun n h => (outsAt0 m c n h).2.2.2.1 (ix2 a z)) (part (gateNorm (xs m c)) (bk m c) a z) (z_first m c hx a z) (z_next m c hx a z) t h1

theorem w_first (c : Dev nD) (hx : Real (xs m c)) (g : Fin 8) (a b : Fin 128) (t : Fin cfg0.N) (h0 : t.val % 16 = 0) (h1 : ¬t.val % 16 = 15) :
    (outsAt0 m c t.val t.isLt).2.2.2.2.1 (ix3 g a b) = 0 + weightAt (xs m c) (dms m c) (gz m c) g a b t := by
  rw [outsAt0_A m c t h0 h1]; frame_out
  exact (weight_part m c t hx _ g a b).trans (congrArg (· + _) (w_zero _))

theorem w_next (c : Dev nD) (hx : Real (xs m c)) (g : Fin 8) (a b : Fin 128) (t : Fin cfg0.N) (h0 : ¬t.val % 16 = 0) (h1 : ¬t.val % 16 = 15) :
    (outsAt0 m c t.val t.isLt).2.2.2.2.1 (ix3 g a b)
      = (outsAt0 m c (t.val - 1) (Nat.lt_of_le_of_lt (Nat.sub_le _ _) t.isLt)).2.2.2.2.1 (ix3 g a b) + weightAt (xs m c) (dms m c) (gz m c) g a b t := by
  rw [outsAt0_B m c t h0 h1]; frame_out
  exact weight_part m c t hx _ g a b

theorem w_last (c : Dev nD) (hx : Real (xs m c)) (g : Fin 8) (a b : Fin 128) (t : Fin cfg0.N) (h1 : t.val % 16 = 15) :
    (outsAt0 m c t.val t.isLt).2.2.2.2.1 (ix3 g a b) = weights (xs m c) (dms m c) (gz m c) g a b := by
  rw [outsAt0_C m c t (by omega) h1]; frame_out
  rw [← sum_weights]
  refine (weight_part m c t hx _ g a b).trans ?_
  exact total (fun n h => (outsAt0 m c n h).2.2.2.2.1 (ix3 g a b)) (weightAt (xs m c) (dms m c) (gz m c) g a b) (w_first m c hx g a b) (w_next m c hx g a b) t h1

theorem final15 (c : Dev nD) (hx : Real (xs m c)) : (dats m 0 c).arrAt 15 cfg0.N = fun i : S8x512.Idx => rowGains (gateNorm (xs m c)) (bk m c) (i 0) (i 1) := by
  refine (dats m 0 c).arrAt_eq_of_covers 15 _ (by decide +kernel) fun t hf y => ?_
  have h0 : ((win0_15.blk t).view.emb y 0).val = (y 0).val := by blk_simp [gate_idx t]
  have h1 : ((win0_15.blk t).view.emb y 1).val = (y 1).val := by blk_simp [gate_idx t]
  rw [at_of ((win0_15.blk t).view.emb y) (y 0) (y 1) h0 h1]
  blk_simp
  rw [after0_15]
  exact (congrArg _ (eq_ix2 y)).trans (z_last m c hx (y 0) (y 1) t ((flush0_15 t).mp hf))

theorem at_of3 {a b d : ℕ} (y : (⟨3, ![a, b, d]⟩ : Shape).Idx) (r : Fin a) (z : Fin b) (x : Fin d) (h0 : (y 0).val = r.val) (h1 : (y 1).val = z.val) (h2 : (y 2).val = x.val) :
    y = ix3 r z x := by
  funext i
  match i with
  | ⟨0, _⟩ => exact Fin.ext h0
  | ⟨1, _⟩ => exact Fin.ext h1
  | ⟨2, _⟩ => exact Fin.ext h2

theorem final16 (c : Dev nD) (hx : Real (xs m c)) :
    (dats m 0 c).arrAt 16 cfg0.N = fun i : S8x128x128.Idx => weights (xs m c) (dms m c) (gz m c) (i 0) (i 1) (i 2) := by
  refine (dats m 0 c).arrAt_eq_of_covers 16 _ (by decide +kernel) fun t hf y => ?_
  have h0 : ((win0_16.blk t).view.emb y 0).val = (y 0).val := by blk_simp [gate_idx t]
  have h1 : ((win0_16.blk t).view.emb y 1).val = (y 1).val := by blk_simp [gate_idx t]
  have h2 : ((win0_16.blk t).view.emb y 2).val = (y 2).val := by blk_simp [gate_idx t]
  rw [at_of3 ((win0_16.blk t).view.emb y) (y 0) (y 1) (y 2) h0 h1 h2]
  blk_simp
  rw [after0_16]
  exact (congrArg _ (eq_ix3 y)).trans (w_last m c hx (y 0) (y 1) (y 2) t ((flush0_16 t).mp hf))

end Cert.KPrepIdeal.Prep

end
-- ==== Proof.Prep.Sums.lean ====
/- The host's sum over two axes of an array, read at an index of the result. -/
module

public import Idealize.ShloMosaic.Lib.Pointwise
public import Idealize.ShloMosaic.Lib.Pipeline.ValueKit

@[expose] public section

set_option backward.proofsInPublic true

noncomputable section

namespace Cert.Prep

open Idealize.ShloMosaic

/-- A sum over the indices that drop to `j`, along a list of them. -/
theorem sum_along {s t : Shape} {axes : List (Fin s.rank)} (h : s.ReducesTo axes t) (v : s.Idx → EReal) (init : EReal) (j : t.Idx) {κ : Type} [Fintype κ]
    (g : κ → s.Idx) (hg : Function.Injective g) (hp : ∀ i, h.drop i = j ↔ ∃ k, g k = i) : Ideal.hostReduceAdd h v init j = init + ∑ k, v (g k) :=
  congrArg (init + ·) (Finset.sum_filter_eq_sum_of_fiber _ g hg hp v)

/-- The sum over the first two of three axes. -/
@[pointwise] theorem sum_first_two {a b c : ℕ} (h : (⟨3, ![a, b, c]⟩ : Shape).ReducesTo [0, 1] ⟨1, ![c]⟩) (v : (⟨3, ![a, b, c]⟩ : Shape).Idx → EReal)
    (init : EReal) (j : (⟨1, ![c]⟩ : Shape).Idx) : Ideal.hostReduceAdd h v init j = init + ∑ x : Fin a, ∑ y : Fin b, v (ix3 x y (j 0)) := by
  refine (sum_along h v init j (fun k : Fin a × Fin b => ix3 k.1 k.2 (j 0))
    (fun _ _ e => Prod.ext (congrFun e 0) (congrFun e 1)) (fun i => ⟨fun e => ⟨(i 0, i 1), ?_⟩, ?_⟩)).trans (congrArg (init + ·) (Fintype.sum_prod_type _))
  · funext d
    match d with
    | ⟨0, _⟩ => rfl
    | ⟨1, _⟩ => rfl
    | ⟨2, _⟩ => exact Fin.ext (congrArg Fin.val (congrFun e 0)).symm
  · rintro ⟨k, rfl⟩
    funext d
    match d with
    | ⟨0, _⟩ => exact Fin.ext rfl

/-- The sum over the outer two of four axes. -/
@[pointwise] theorem sum_outer_two {a b c d : ℕ} (h : (⟨4, ![a, b, c, d]⟩ : Shape).ReducesTo [0, 3] ⟨2, ![b, c]⟩) (v : (⟨4, ![a, b, c, d]⟩ : Shape).Idx → EReal)
    (init : EReal) (j : (⟨2, ![b, c]⟩ : Shape).Idx) : Ideal.hostReduceAdd h v init j = init + ∑ x : Fin a, ∑ y : Fin d, v (ix4 x (j 0) (j 1) y) := by
  refine (sum_along h v init j (fun k : Fin a × Fin d => ix4 k.1 (j 0) (j 1) k.2)
    (fun _ _ e => Prod.ext (congrFun e 0) (congrFun e 3)) (fun i => ⟨fun e => ⟨(i 0, i 3), ?_⟩, ?_⟩)).trans (congrArg (init + ·) (Fintype.sum_prod_type _))
  · funext x
    match x with
    | ⟨0, _⟩ => rfl
    | ⟨1, _⟩ => exact Fin.ext (congrArg Fin.val (congrFun e 0)).symm
    | ⟨2, _⟩ => exact Fin.ext (congrArg Fin.val (congrFun e 1)).symm
    | ⟨3, _⟩ => rfl
  · rintro ⟨k, rfl⟩
    funext x
    match x with
    | ⟨0, _⟩ => exact Fin.ext rfl
    | ⟨1, _⟩ => exact Fin.ext rfl

end Cert.Prep

end
-- ==== Proof.Prep.Ref.lean ====
/- The gradient of the mixer's preparation, as the derivative of the forward lines computes it, read at an index. -/
module

public import proofs.«01_k».proof.Proof.Gen.RPrepIdeal.Read
public import proofs.«01_k».proof.Proof.Prep.Math
public import proofs.«01_k».proof.Proof.Prep.Sums

@[expose] public section

set_option maxRecDepth 16384
set_option backward.proofsInPublic true

noncomputable section

namespace Cert.RPrepIdeal.Prep

open Cert.RPrepIdeal Cert.RPrepIdeal.Read Cert.Prep Idealize.ShloMosaic

variable (x0 : Vec Ideal S8192x2560 .f32)

theorem dite_of {α : Type} {P : Prop} [Decidable P] {a : P → α} {b : ¬P → α} {c d : α} (ha : ∀ h, a h = c) (hb : ∀ h, b h = d) : dite P a b = if P then c else d := by
  by_cases h : P
  · rw [dif_pos h, if_pos h, ha]
  · rw [dif_neg h, if_neg h, hb]

theorem q_norm_at (r : Fin 8192) (h : Fin 8) (d : Fin 64) :
    val_main_v28 (F := Ideal) x0 (ix3 r h d) = normed (fun k => x0 (ix2 r ⟨k.val, by omega⟩)) ⟨h.val * 64 + d.val, by omega⟩ := by
  pointwise [val_main_v28, val_main_v15, val_main_v10, val_main_v27, val_main_v23, val_main_v22, val_main_v20, val_main_v18, val_main_v17, val_main_v16, val_main_cst, val_main_v19, val_main_cst_0, val_main_v21, val_main_cst_1]
  have e : (h.val * 64 + d.val) / 64 = h.val := by omega
  simp only [normed, meanSq, e]

theorem k_norm_at (r : Fin 8192) (h : Fin 8) (d : Fin 64) :
    val_main_v45 (F := Ideal) x0 (ix3 r h d) = normed (fun k => x0 (ix2 r ⟨512 + k.val, by omega⟩)) ⟨h.val * 64 + d.val, by omega⟩ := by
  pointwise [val_main_v45, val_main_v32, val_main_v11, val_main_v44, val_main_v40, val_main_v39, val_main_v37, val_main_v35, val_main_v34, val_main_v33, val_main_cst_3, val_main_v36, val_main_cst_4, val_main_v38, val_main_cst_5]
  have e : (h.val * 64 + d.val) / 64 = h.val := by omega
  simp only [normed, meanSq, e]

theorem q_gain_at (x6 : Vec Ideal S8192x512 .f32) (a : Fin 8) (z : Fin 512) :
    val_main_v213 (F := Ideal) x0 x6 (ix2 a z) = gains (fun r => normed (fun k => x0 (ix2 r ⟨k.val, by omega⟩))) (fun r k => x6 (ix2 r k)) a z := by
  pointwise [val_main_v213, val_main_v211, val_main_v210, val_main_v209, val_main_v208, val_main_v191, val_main_v188, val_main_v187, val_main_v186, val_main_v164, val_main_cst_35, val_main_cst_36, val_main_v212, val_main_cst_40]
  refine dite_of (fun _ => ?_) fun _ => rfl
  simp only [Fin.sum_univ_one]
  exact Finset.sum_congr rfl fun r _ => Finset.sum_congr rfl fun h _ => congrArg (· * _) (q_norm_at x0 r h _)

theorem k_gain_at (x7 : Vec Ideal S8192x512 .f32) (a : Fin 8) (z : Fin 512) :
    val_main_v219 (F := Ideal) x0 x7 (ix2 a z) = gains (fun r => normed (fun k => x0 (ix2 r ⟨512 + k.val, by omega⟩))) (fun r k => x7 (ix2 r k)) a z := by
  pointwise [val_main_v219, val_main_v217, val_main_v216, val_main_v215, val_main_v214, val_main_v170, val_main_v167, val_main_v166, val_main_v165, val_main_v163, val_main_cst_30, val_main_cst_31, val_main_v218, val_main_cst_41]
  refine dite_of (fun _ => ?_) fun _ => rfl
  simp only [Fin.sum_univ_one]
  exact Finset.sum_congr rfl fun r _ => Finset.sum_congr rfl fun h _ => congrArg (· * _) (k_norm_at x0 r h _)

theorem bias_at (x9 : Vec Ideal S8192x1024 .f32) (s : Fin 128) (z : Fin 512) :
    val_main_v225 (F := Ideal) x0 x9 (ix2 s z) = biases (fun r k => x0 (ix2 r k)) (fun r k => x9 (ix2 r k)) s z := by
  pointwise [val_main_v225, val_main_v224, val_main_v223, val_main_v112, val_main_v111, val_main_v110, val_main_v109, val_main_v108, val_main_v107, val_main_v106, val_main_v104, val_main_v60, val_main_v52, val_main_v51, val_main_cst_7, val_main_v13, val_main_v56, val_main_v55, val_main_v53, val_main_v54, val_main_cst_8, val_main_v103, val_main_cst_16, val_main_cst_17, val_main_cst_18]
  simp only [Fin.sum_univ_one]
  exact Finset.sum_congr rfl fun n _ => Finset.sum_congr rfl fun d _ => congrArg (· * _) (gelu_erfc _)

end Cert.RPrepIdeal.Prep

end
-- ==== Proof.Prep.GateRef.lean ====
/- The gradient of the mixer's preparation: the gate's gain and the spatial weights, as the derivative of the forward lines computes them, read at an index. -/
module

public import proofs.«01_k».proof.Proof.Prep.Ref
public import proofs.«01_k».proof.Proof.Prep.GateMath
public import Idealize.ShloMosaic.Lib.WordCmp

@[expose] public section

set_option maxRecDepth 16384
set_option backward.proofsInPublic true

noncomputable section

namespace Cert.RPrepIdeal.Prep

open Cert.RPrepIdeal Cert.RPrepIdeal.Read Cert.Prep Idealize.ShloMosaic Idealize.ShloMosaic.WordCmp

variable (x0 : Vec Ideal S8192x2560 .f32)

theorem z_norm_at (r : Fin 8192) (h : Fin 8) (d : Fin 64) :
    val_main_v84 (F := Ideal) x0 (ix3 r h d) = gateNorm (fun r k => x0 (ix2 r k)) r ⟨h.val * 64 + d.val, by omega⟩ := by
  pointwise [val_main_v84, val_main_v83, val_main_v79, val_main_v78, val_main_v77, val_main_cst_13, val_main_v76, val_main_v75, val_main_cst_12, val_main_v74, val_main_v73, val_main_v72, val_main_v71, val_main_v70, val_main_v66, val_main_v65, val_main_v64, val_main_cst_10, val_main_v63, val_main_v14, val_main_v62, val_main_v61, val_main_cst_9, val_main_cst_11]
  simp only [gelu_erfc]
  have e : (h.val * 64 + d.val) / 64 = h.val := by omega
  simp only [gateNorm, normed, meanSq, e]

theorem cot_at (x9 : Vec Ideal S8192x1024 .f32) (n : Fin 64) (s : Fin 128) (h : Fin 8) (d : Fin 64) :
    val_main_v106 (F := Ideal) x0 x9 (ix4 n s h d)
      = biasPart (fun r k => x0 (ix2 r k)) (fun r k => x9 (ix2 r k)) ⟨n.val * 128 + s.val, by omega⟩ ⟨h.val * 64 + d.val, by omega⟩ := by
  pointwise [val_main_v106, val_main_v104, val_main_v103, val_main_v60, val_main_v56, val_main_v55, val_main_v54, val_main_cst_8, val_main_v53, val_main_v13, val_main_v52, val_main_v51, val_main_cst_7]
  exact congrArg (· * _) (gelu_erfc _)

theorem scaled_at (x3 : Vec Ideal S2x512 .f32) (n : Fin 64) (s : Fin 128) (h : Fin 8) (d : Fin 64) :
    val_main_v89 (F := Ideal) x0 x3 (ix4 n s h d)
      = gateNorm (fun r k => x0 (ix2 r k)) ⟨n.val * 128 + s.val, by omega⟩ ⟨h.val * 64 + d.val, by omega⟩ * x3 (ix2 0 ⟨h.val * 64 + d.val, by omega⟩) := by
  pointwise [val_main_v89, val_main_v88, val_main_v87, val_main_v86, val_main_v85, val_main_v5, val_main_v4]
  rw [z_norm_at]

/-- The mask of the spatial weights: a row and the rows before it. -/
theorem looks_back (s t : Fin 128) (v : EReal) :
    Scalar.select (Scalar.select (IntOp.cmpi .sge (IntOp.addi (BitVec.ofNat 32 t.val) 0#32) (BitVec.ofNat 32 s.val)) 1#1 0#1) v 0 = if s.val ≤ t.val then v else 0 := by
  have e0 : IntOp.addi (BitVec.ofNat 32 t.val) 0#32 = BitVec.ofNat 32 t.val := BitVec.add_zero _
  have e : IntOp.cmpi .sge (BitVec.ofNat 32 t.val) (BitVec.ofNat 32 s.val) = 1#1 ↔ s.val ≤ t.val := by have := s.isLt; have := t.isLt; word_cmp
  rw [e0]
  change (if (if _ = 1#1 then 1#1 else 0#1) = 1#1 then v else 0) = _
  by_cases h : s.val ≤ t.val
  · rw [if_pos (e.mpr h), if_pos rfl, if_pos h]
  · rw [if_neg (fun h' => h (e.mp h')), if_neg (by decide), if_neg h]

theorem weight_at (x3 : Vec Ideal S2x512 .f32) (x9 : Vec Ideal S8192x1024 .f32) (g : Fin 8) (t s : Fin 128) :
    val_main_v117 (F := Ideal) x0 x3 x9 (ix3 g t s)
      = weights (fun r k => x0 (ix2 r k)) (fun r k => x9 (ix2 r k)) (fun k => x3 (ix2 0 k)) g t s := by
  pointwise [val_main_v117, val_main_call2_v0, val_main_call2_cst, val_main_v114, val_main_v113, val_main_v93_1, val_main_v92, val_main_v91, val_main_call0_v5, val_main_call0_c_0, val_main_v90, val_main_c, val_main_call0_v4, val_main_call0_v3, val_main_call0_v2, val_main_call0_v1, val_main_call0_c, val_main_call0_v0]
  refine (looks_back s t _).trans ?_
  simp only [weights, weightPart, cot_at, scaled_at]

theorem z_gain_at (x4 : Vec Ideal S2x8x128x128 .f32) (x9 : Vec Ideal S8192x1024 .f32) (a : Fin 8) (z : Fin 512) :
    val_main_v222 (F := Ideal) x0 x4 x9 (ix2 a z)
      = rowGains (gateNorm fun r k => x0 (ix2 r k)) (back (fun r k => x0 (ix2 r k)) (fun r k => x9 (ix2 r k)) fun h a b => x4 (ix4 0 h a b)) a z := by
  pointwise [val_main_v222, val_main_v221, val_main_cst_42, val_main_v220, val_main_v125, val_main_v124, val_main_v121, val_main_v120, val_main_v119, val_main_v118, val_main_v116, val_main_v115, val_main_v93_0, val_main_call1_v2, val_main_call1_v0, val_main_cst_15, val_main_v7, val_main_v6, val_main_v93_1, val_main_v92, val_main_v91, val_main_call0_v5, val_main_call0_c_0, val_main_v90, val_main_c, val_main_call0_v4, val_main_call0_v3, val_main_call0_v2, val_main_call0_v1, val_main_call0_c, val_main_call0_v0, val_main_v113, val_main_cst_19, val_main_cst_20]
  refine dite_of (fun _ => ?_) fun _ => rfl
  simp only [Fin.sum_univ_one]
  have ez : z.val / 64 * 64 + z.val % 64 = z.val := by omega
  refine Finset.sum_congr rfl fun r _ => congrArg₂ (· * ·) ((z_norm_at x0 r _ _).trans (congrArg _ (Fin.ext ez))) ?_
  refine Finset.sum_congr rfl fun x _ => (mul_comm _ _).trans (congrArg₂ (· * ·) ?_ ((cot_at x0 x9 _ x _ _).trans (congrArg _ (Fin.ext ez))))
  have e0 : (id (constant (F := Ideal) S_ FTy.f32 0#32) : FVec Ideal S_ .f32) ix0 = 0 := zero_bits
  have hr : r.val % 128 < 128 := by omega
  exact (congrArg _ e0).trans (looks_back ⟨r.val % 128, hr⟩ x _)

end Cert.RPrepIdeal.Prep

end
-- ==== Proof.Prep.Equation.lean ====
/- The gradient of the mixer's preparation: the kernel and the derivative leave the same gradients of the gains, of the spatial weights and of the bias. -/
module

public import proofs.«01_k».proof.Defs
public import proofs.«01_k».proof.Proof.Gen.RPrepIdeal.Run
public import proofs.«01_k».proof.Proof.Prep.GateValue
public import proofs.«01_k».proof.Proof.Prep.GateRef
public import proofs.«01_k».proof.Proof.Attn.Real
public import Idealize.ShloMosaic.Lib.Claim
public import Idealize.ShloMosaic.Lib.Tactic
public import Idealize.ShloMosaic.Adequacy
public import Idealize.ShloMosaic.Init

@[expose] public section

set_option backward.proofsInPublic true

noncomputable section

namespace Cert.Proof

open Idealize.ShloMosaic Idealize.ShloMosaic.TcCoe Idealize.SL.Sem Cert.KPrepIdeal Cert.KPrepIdeal.Prep

/-- The facts the precondition's function states. -/
theorem prep_grad_facts : Cert.Pre_prep_grad_finite.Facts := by
  constructor <;> decide

/-- Where the precondition holds the queries', the keys' and the gate's columns are real. -/
theorem prep_grad_real [Cert.Pre_prep_grad_finite.Facts] (x0 : Vec Ideal S8192x2560 .f32) (x1 x2 : Vec Ideal S2x64 .f32) (x3 : Vec Ideal S2x512 .f32)
    (x4 : Vec Ideal S2x8x128x128 .f32) (x5 : Vec Ideal S2x8x128 .f32) (x6 x7 x8 : Vec Ideal S8192x512 .f32) (x9 : Vec Ideal S8192x1024 .f32)
    (h : Cert.Pre_prep_grad_finite.fn (F := Ideal) x0 x1 x2 x3 x4 x5 x6 x7 x8 x9 = fun _ => 1#1) : Real (fun r k => x0 (ix2 r k)) := by
  refine ⟨fun r k => (x0 (ix2 r k) : EReal).toReal, fun r k => ?_⟩
  have h1 := congrFun h (ix2 r k)
  unfold Cert.Pre_prep_grad_finite.fn at h1
  simp only at h1
  revert h1
  pointwise []
  simp only [Cert.Attn.andi_one]
  exact fun h => ⟨Cert.Attn.real_of _ h.1.1, Cert.Attn.real_of _ h.1.2, Cert.Attn.real_of _ h.2⟩

/-- The gradient of the preparation, over the extended reals. -/
theorem algebraic_prep [Cert.Pre_prep_grad_finite.Facts] : Cert.algebraic_KPrepIdeal_RPrepIdeal_pre_prep_grad_finite := fun m g m' g' hp hm => by
  have hx : ∀ c : Dev Cert.KPrepIdeal.nD, Real (xs m c) := fun c => prep_grad_real _ _ _ _ _ _ _ _ _ _ (hp c)
  refine ⟨_, _, _, _, _,
    (θ_run Cert.KPrepIdeal.defs _ _).mono (fun _ h c => ⟨(h c).2.1.trans (final13 m c (hx c)), (h c).2.2.1.trans (final14 m c (hx c)),
        (h c).2.2.2.1.trans (final15 m c (hx c)), (h c).2.2.2.2.1.trans (final16 m c (hx c)), (h c).2.2.2.2.2.1.trans (final17 m c), (h c).2.2.2.2.2.2⟩)
      (Cert.KPrepIdeal.Value.run_blocks m g),
    (θ_run Cert.RPrepIdeal.defs _ _).mono (fun _ h c => ⟨(h c).1.trans ?_, (h c).2.1.trans ?_, (h c).2.2.1.trans ?_,
        (h c).2.2.2.1.trans ?_, (h c).2.2.2.2.1.trans ?_, (h c).2.2.2.2.2⟩) (Cert.RPrepIdeal.Value.run m' g')⟩
  · rw [Cert.RPrepIdeal.Read.val_main_v213_eq]
    change Cert.RPrepIdeal.Read.val_main_v213 (F := Ideal) (m' ((c.tc : Thread Cert.RPrepIdeal.nD Cert.RPrepIdeal.τ).loc Cert.RPrepIdeal.main_arg0))
      (m' ((c.tc : Thread Cert.RPrepIdeal.nD Cert.RPrepIdeal.τ).loc Cert.RPrepIdeal.main_arg6)) = _
    rw [(hm c).1, (hm c).2.2.2.2.2.2.1]
    funext i
    rw [eq_ix2 i]
    exact Cert.RPrepIdeal.Prep.q_gain_at _ _ _ _
  · rw [Cert.RPrepIdeal.Read.val_main_v219_eq]
    change Cert.RPrepIdeal.Read.val_main_v219 (F := Ideal) (m' ((c.tc : Thread Cert.RPrepIdeal.nD Cert.RPrepIdeal.τ).loc Cert.RPrepIdeal.main_arg0))
      (m' ((c.tc : Thread Cert.RPrepIdeal.nD Cert.RPrepIdeal.τ).loc Cert.RPrepIdeal.main_arg7)) = _
    rw [(hm c).1, (hm c).2.2.2.2.2.2.2.1]
    funext i
    rw [eq_ix2 i]
    exact Cert.RPrepIdeal.Prep.k_gain_at _ _ _ _
  · rw [Cert.RPrepIdeal.Read.val_main_v222_eq]
    change Cert.RPrepIdeal.Read.val_main_v222 (F := Ideal) (m' ((c.tc : Thread Cert.RPrepIdeal.nD Cert.RPrepIdeal.τ).loc Cert.RPrepIdeal.main_arg0))
      (m' ((c.tc : Thread Cert.RPrepIdeal.nD Cert.RPrepIdeal.τ).loc Cert.RPrepIdeal.main_arg4))
      (m' ((c.tc : Thread Cert.RPrepIdeal.nD Cert.RPrepIdeal.τ).loc Cert.RPrepIdeal.main_arg9)) = _
    rw [(hm c).1, (hm c).2.2.2.2.1, (hm c).2.2.2.2.2.2.2.2.2]
    funext i
    rw [eq_ix2 i]
    exact Cert.RPrepIdeal.Prep.z_gain_at _ _ _ _ _
  · rw [Cert.RPrepIdeal.Read.val_main_v117_eq]
    change Cert.RPrepIdeal.Read.val_main_v117 (F := Ideal) (m' ((c.tc : Thread Cert.RPrepIdeal.nD Cert.RPrepIdeal.τ).loc Cert.RPrepIdeal.main_arg0))
      (m' ((c.tc : Thread Cert.RPrepIdeal.nD Cert.RPrepIdeal.τ).loc Cert.RPrepIdeal.main_arg3))
      (m' ((c.tc : Thread Cert.RPrepIdeal.nD Cert.RPrepIdeal.τ).loc Cert.RPrepIdeal.main_arg9)) = _
    rw [(hm c).1, (hm c).2.2.2.1, (hm c).2.2.2.2.2.2.2.2.2]
    funext i
    rw [eq_ix3 i]
    exact Cert.RPrepIdeal.Prep.weight_at _ _ _ _ _ _
  · rw [Cert.RPrepIdeal.Read.val_main_v225_eq]
    change Cert.RPrepIdeal.Read.val_main_v225 (F := Ideal) (m' ((c.tc : Thread Cert.RPrepIdeal.nD Cert.RPrepIdeal.τ).loc Cert.RPrepIdeal.main_arg0))
      (m' ((c.tc : Thread Cert.RPrepIdeal.nD Cert.RPrepIdeal.τ).loc Cert.RPrepIdeal.main_arg9)) = _
    rw [(hm c).1, (hm c).2.2.2.2.2.2.2.2.2]
    funext i
    rw [eq_ix2 i]
    exact Cert.RPrepIdeal.Prep.bias_at _ _ _ _

/-- The reference terminates and leaves its arguments. -/
theorem frame_prep_ref : Cert.quiescent_RPrepIdeal := fun m g _ =>
  (θ_run Cert.RPrepIdeal.defs _ _).mono (fun r h => ⟨fun c => (h c).2.2.2.2.2, sem_eq_zero_of_no_sems (by decide) r.2⟩)
    (Cert.RPrepIdeal.Value.run m g)

end Cert.Proof

end
-- ==== Proof.lean ====
module

public import proofs.«01_k».proof.Defs
public import proofs.«01_k».proof.Proof.Gen.KAttn
public import proofs.«01_k».proof.Proof.Gen.KAttn.Skeleton
public import proofs.«01_k».proof.Proof.Gen.KAttn.Launch
public import proofs.«01_k».proof.Proof.Gen.KAttn.Points
public import proofs.«01_k».proof.Proof.Gen.KAttnIdeal
public import proofs.«01_k».proof.Proof.Gen.KAttnIdeal.Skeleton
public import proofs.«01_k».proof.Proof.Gen.KAttnIdeal.Launch
public import proofs.«01_k».proof.Proof.Gen.KAttnIdeal.Points
public import proofs.«01_k».proof.Proof.Gen.RAttnIdeal
public import proofs.«01_k».proof.Proof.Gen.RAttnIdeal.Run
public import proofs.«01_k».proof.Proof.Gen.RAttnIdeal.Read
public import proofs.«01_k».proof.Proof.Gen.KLoss
public import proofs.«01_k».proof.Proof.Gen.KLoss.Skeleton
public import proofs.«01_k».proof.Proof.Gen.KLoss.Launch
public import proofs.«01_k».proof.Proof.Gen.KLoss.Points
public import proofs.«01_k».proof.Proof.Gen.KLoss.Frame
public import proofs.«01_k».proof.Proof.Gen.KLossIdeal
public import proofs.«01_k».proof.Proof.Gen.KLossIdeal.Skeleton
public import proofs.«01_k».proof.Proof.Gen.KLossIdeal.Launch
public import proofs.«01_k».proof.Proof.Gen.KLossIdeal.Points
public import proofs.«01_k».proof.Proof.Gen.KLossIdeal.Frame
public import proofs.«01_k».proof.Proof.Gen.KLossIdeal.Value
public import proofs.«01_k».proof.Proof.Gen.RLossIdeal
public import proofs.«01_k».proof.Proof.Gen.RLossIdeal.Run
public import proofs.«01_k».proof.Proof.Gen.RLossIdeal.Read
public import proofs.«01_k».proof.Proof.Gen.KFfn
public import proofs.«01_k».proof.Proof.Gen.KFfnIdeal
public import proofs.«01_k».proof.Proof.Gen.RFfnIdeal
public import proofs.«01_k».proof.Proof.Gen.RFfnIdeal.Run
public import proofs.«01_k».proof.Proof.Gen.RFfnIdeal.Read
public import proofs.«01_k».proof.Proof.Gen.KRms
public import proofs.«01_k».proof.Proof.Gen.KRms.Frame
public import proofs.«01_k».proof.Proof.Gen.KRmsIdeal
public import proofs.«01_k».proof.Proof.Gen.KRmsIdeal.Frame
public import proofs.«01_k».proof.Proof.Gen.KRmsIdeal.Value
public import proofs.«01_k».proof.Proof.Gen.RRmsIdeal
public import proofs.«01_k».proof.Proof.Gen.RRmsIdeal.Run
public import proofs.«01_k».proof.Proof.Gen.RRmsIdeal.Read
public import proofs.«01_k».proof.Proof.Gen.KAfwd
public import proofs.«01_k».proof.Proof.Gen.KAfwd.Skeleton
public import proofs.«01_k».proof.Proof.Gen.KAfwd.Launch
public import proofs.«01_k».proof.Proof.Gen.KAfwd.Points
public import proofs.«01_k».proof.Proof.Gen.KAfwdIdeal
public import proofs.«01_k».proof.Proof.Gen.KAfwdIdeal.Skeleton
public import proofs.«01_k».proof.Proof.Gen.KAfwdIdeal.Launch
public import proofs.«01_k».proof.Proof.Gen.KAfwdIdeal.Points
public import proofs.«01_k».proof.Proof.Gen.RAfwdIdeal
public import proofs.«01_k».proof.Proof.Gen.RAfwdIdeal.Run
public import proofs.«01_k».proof.Proof.Gen.RAfwdIdeal.Read
public import proofs.«01_k».proof.Proof.Gen.KRfwd
public import proofs.«01_k».proof.Proof.Gen.KRfwd.Frame
public import proofs.«01_k».proof.Proof.Gen.KRfwdIdeal
public import proofs.«01_k».proof.Proof.Gen.KRfwdIdeal.Frame
public import proofs.«01_k».proof.Proof.Gen.KRfwdIdeal.Value
public import proofs.«01_k».proof.Proof.Gen.RRfwdIdeal
public import proofs.«01_k».proof.Proof.Gen.RRfwdIdeal.Run
public import proofs.«01_k».proof.Proof.Gen.RRfwdIdeal.Read
public import proofs.«01_k».proof.Proof.Gen.KFfwd
public import proofs.«01_k».proof.Proof.Gen.KFfwd.Frame
public import proofs.«01_k».proof.Proof.Gen.KFfwdIdeal
public import proofs.«01_k».proof.Proof.Gen.KFfwdIdeal.Frame
public import proofs.«01_k».proof.Proof.Gen.KFfwdIdeal.Value
public import proofs.«01_k».proof.Proof.Gen.RFfwdIdeal
public import proofs.«01_k».proof.Proof.Gen.RFfwdIdeal.Run
public import proofs.«01_k».proof.Proof.Gen.RFfwdIdeal.Read
public import proofs.«01_k».proof.Proof.Gen.KPfwd
public import proofs.«01_k».proof.Proof.Gen.KPfwd.Frame
public import proofs.«01_k».proof.Proof.Gen.KPfwdIdeal
public import proofs.«01_k».proof.Proof.Gen.KPfwdIdeal.Frame
public import proofs.«01_k».proof.Proof.Gen.KPfwdIdeal.Value
public import proofs.«01_k».proof.Proof.Gen.RPfwdIdeal
public import proofs.«01_k».proof.Proof.Gen.RPfwdIdeal.Run
public import proofs.«01_k».proof.Proof.Gen.RPfwdIdeal.Read
public import proofs.«01_k».proof.Proof.Gen.KNfwd
public import proofs.«01_k».proof.Proof.Gen.KNfwd.Frame
public import proofs.«01_k».proof.Proof.Gen.KNfwdIdeal
public import proofs.«01_k».proof.Proof.Gen.KNfwdIdeal.Frame
public import proofs.«01_k».proof.Proof.Gen.KNfwdIdeal.Value
public import proofs.«01_k».proof.Proof.Gen.RNfwdIdeal
public import proofs.«01_k».proof.Proof.Gen.RNfwdIdeal.Run
public import proofs.«01_k».proof.Proof.Gen.RNfwdIdeal.Read
public import proofs.«01_k».proof.Proof.Gen.KMmnn
public import proofs.«01_k».proof.Proof.Gen.KMmnn.Frame
public import proofs.«01_k».proof.Proof.Gen.KMmnnIdeal
public import proofs.«01_k».proof.Proof.Gen.KMmnnIdeal.Frame
public import proofs.«01_k».proof.Proof.Gen.KMmnnIdeal.Value
public import proofs.«01_k».proof.Proof.Gen.RMmnnIdeal
public import proofs.«01_k».proof.Proof.Gen.RMmnnIdeal.Run
public import proofs.«01_k».proof.Proof.Gen.RMmnnIdeal.Read
public import proofs.«01_k».proof.Proof.Gen.KMmnt
public import proofs.«01_k».proof.Proof.Gen.KMmnt.Frame
public import proofs.«01_k».proof.Proof.Gen.KMmntIdeal
public import proofs.«01_k».proof.Proof.Gen.KMmntIdeal.Frame
public import proofs.«01_k».proof.Proof.Gen.KMmntIdeal.Value
public import proofs.«01_k».proof.Proof.Gen.RMmntIdeal
public import proofs.«01_k».proof.Proof.Gen.RMmntIdeal.Run
public import proofs.«01_k».proof.Proof.Gen.RMmntIdeal.Read
public import proofs.«01_k».proof.Proof.Gen.KMmtn
public import proofs.«01_k».proof.Proof.Gen.KMmtn.Frame
public import proofs.«01_k».proof.Proof.Gen.KMmtnIdeal
public import proofs.«01_k».proof.Proof.Gen.KMmtnIdeal.Frame
public import proofs.«01_k».proof.Proof.Gen.KMmtnIdeal.Value
public import proofs.«01_k».proof.Proof.Gen.RMmtnIdeal
public import proofs.«01_k».proof.Proof.Gen.RMmtnIdeal.Run
public import proofs.«01_k».proof.Proof.Gen.RMmtnIdeal.Read
public import proofs.«01_k».proof.Proof.Gen.KAdam
public import proofs.«01_k».proof.Proof.Gen.KAdam.Frame
public import proofs.«01_k».proof.Proof.Gen.KAdamIdeal
public import proofs.«01_k».proof.Proof.Gen.KAdamIdeal.Frame
public import proofs.«01_k».proof.Proof.Gen.KAdamIdeal.Value
public import proofs.«01_k».proof.Proof.Gen.RAdamIdeal
public import proofs.«01_k».proof.Proof.Gen.RAdamIdeal.Run
public import proofs.«01_k».proof.Proof.Gen.RAdamIdeal.Read
public import proofs.«01_k».proof.Proof.Gen.KPrep
public import proofs.«01_k».proof.Proof.Gen.KPrep.Frame
public import proofs.«01_k».proof.Proof.Gen.KPrepIdeal
public import proofs.«01_k».proof.Proof.Gen.KPrepIdeal.Frame
public import proofs.«01_k».proof.Proof.Gen.RPrepIdeal
public import proofs.«01_k».proof.Proof.Gen.RPrepIdeal.Read
public import proofs.«01_k».proof.Proof.Gen.KPrepIdeal.Value
public import proofs.«01_k».proof.Proof.Gen.RPrepIdeal.Run
public import proofs.«01_k».proof.Proof.AttnBits.Frame
public import proofs.«01_k».proof.Proof.Attn.Equation
public import proofs.«01_k».proof.Proof.Loss.Equation
public import proofs.«01_k».proof.Proof.Ffn.Words
public import proofs.«01_k».proof.Proof.Ffn.Equation
public import proofs.«01_k».proof.Proof.Rms.Equation
public import proofs.«01_k».proof.Proof.AfwdBits.Frame
public import proofs.«01_k».proof.Proof.Afwd.Equation
public import proofs.«01_k».proof.Proof.Rfwd.Equation
public import proofs.«01_k».proof.Proof.Ffwd.Equation
public import proofs.«01_k».proof.Proof.Pfwd.Equation
public import proofs.«01_k».proof.Proof.Nfwd.Equation
public import proofs.«01_k».proof.Proof.Mmnn.Equation
public import proofs.«01_k».proof.Proof.Mmnt.Equation
public import proofs.«01_k».proof.Proof.Mmtn.Equation
public import proofs.«01_k».proof.Proof.Adam.Equation
public import proofs.«01_k».proof.Proof.Prep.Equation
public import Idealize.ShloMosaic.Adequacy
public import Idealize.ShloMosaic.Init

@[expose] public section

noncomputable section

namespace Cert.Proof

open Idealize.ShloMosaic Idealize.SL.Sem

theorem claim : Cert.Claim :=
  ⟨Cert.KAttn.Gen.facts, Cert.KAttnIdeal.Gen.facts, Cert.RAttnIdeal.Gen.facts,
   Cert.KLoss.Gen.facts, Cert.KLossIdeal.Gen.facts, Cert.RLossIdeal.Gen.facts,
   Cert.KFfn.Gen.facts, Cert.KFfnIdeal.Gen.facts, Cert.RFfnIdeal.Gen.facts,
   Cert.KRms.Gen.facts, Cert.KRmsIdeal.Gen.facts, Cert.RRmsIdeal.Gen.facts,
   Cert.KAfwd.Gen.facts, Cert.KAfwdIdeal.Gen.facts, Cert.RAfwdIdeal.Gen.facts,
   Cert.KRfwd.Gen.facts, Cert.KRfwdIdeal.Gen.facts, Cert.RRfwdIdeal.Gen.facts,
   Cert.KFfwd.Gen.facts, Cert.KFfwdIdeal.Gen.facts, Cert.RFfwdIdeal.Gen.facts,
   Cert.KPfwd.Gen.facts, Cert.KPfwdIdeal.Gen.facts, Cert.RPfwdIdeal.Gen.facts,
   Cert.KNfwd.Gen.facts, Cert.KNfwdIdeal.Gen.facts, Cert.RNfwdIdeal.Gen.facts,
   Cert.KMmnn.Gen.facts, Cert.KMmnnIdeal.Gen.facts, Cert.RMmnnIdeal.Gen.facts,
   Cert.KMmnt.Gen.facts, Cert.KMmntIdeal.Gen.facts, Cert.RMmntIdeal.Gen.facts,
   Cert.KMmtn.Gen.facts, Cert.KMmtnIdeal.Gen.facts, Cert.RMmtnIdeal.Gen.facts,
   Cert.KAdam.Gen.facts, Cert.KAdamIdeal.Gen.facts, Cert.RAdamIdeal.Gen.facts,
   Cert.KPrep.Gen.facts, Cert.KPrepIdeal.Gen.facts, Cert.RPrepIdeal.Gen.facts,
   finite_facts, ffn_facts, afwd_facts, prep_facts, prep_grad_facts,
   fun m ρ _ => Cert.KAttn.Attn.frame (F := Bits) m ρ,
   fun m ρ _ => Cert.KAttnIdeal.Attn.frame (F := Ideal) m ρ,
   fun m ρ _ => Cert.KAttnIdeal.Attn.frame (F := Ideal) m ρ,
   frame_attn_ref, fun m g _ => frame_attn_ref m g trivial,
   fun m ρ _ => Cert.KLoss.Gen.frame m ρ, fun m ρ _ => Cert.KLossIdeal.Gen.frame m ρ, frame_loss_ref,
   frame_ffn,
   fun m ρ _ => Cert.KFfnIdeal.Ffn.frame (F := Ideal) m ρ,
   fun m ρ _ => Cert.KFfnIdeal.Ffn.frame (F := Ideal) m ρ,
   frame_ffn_ref, fun m g _ => frame_ffn_ref m g trivial,
   fun m ρ _ => Cert.KRms.Gen.frame m ρ, fun m ρ _ => Cert.KRmsIdeal.Gen.frame m ρ, frame_rms_ref,
   fun m ρ _ => Cert.KAfwd.Afwd.frame (F := Bits) m ρ, fun m ρ _ => Cert.KAfwdIdeal.Afwd.frame (F := Ideal) m ρ,
   fun m ρ _ => Cert.KAfwdIdeal.Afwd.frame (F := Ideal) m ρ, frame_afwd_ref, fun m g _ => frame_afwd_ref m g trivial,
   fun m ρ _ => Cert.KRfwd.Gen.frame m ρ, fun m ρ _ => Cert.KRfwdIdeal.Gen.frame m ρ, frame_rfwd_ref,
   fun m ρ _ => Cert.KFfwd.Gen.frame m ρ, fun m ρ _ => Cert.KFfwdIdeal.Gen.frame m ρ, frame_ffwd_ref,
   fun m ρ _ => Cert.KPfwd.Gen.frame m ρ, fun m ρ _ => Cert.KPfwdIdeal.Gen.frame m ρ, fun m ρ _ => Cert.KPfwdIdeal.Gen.frame m ρ,
   frame_pfwd_ref, fun m g _ => frame_pfwd_ref m g trivial,
   fun m ρ _ => Cert.KNfwd.Gen.frame m ρ, fun m ρ _ => Cert.KNfwdIdeal.Gen.frame m ρ, frame_nfwd_ref,
   fun m ρ _ => Cert.KMmnn.Gen.frame m ρ, fun m ρ _ => Cert.KMmnnIdeal.Gen.frame m ρ, frame_mmnn_ref,
   fun m ρ _ => Cert.KMmnt.Gen.frame m ρ, fun m ρ _ => Cert.KMmntIdeal.Gen.frame m ρ, frame_mmnt_ref,
   fun m ρ _ => Cert.KMmtn.Gen.frame m ρ, fun m ρ _ => Cert.KMmtnIdeal.Gen.frame m ρ, frame_mmtn_ref,
   fun m ρ _ => Cert.KAdam.Gen.frame m ρ, fun m ρ _ => Cert.KAdamIdeal.Gen.frame m ρ, frame_adam_ref,
   fun m ρ _ => Cert.KPrep.Gen.frame m ρ, fun m ρ _ => Cert.KPrepIdeal.Gen.frame m ρ, fun m ρ _ => Cert.KPrepIdeal.Gen.frame m ρ,
   frame_prep_ref, fun m g _ => frame_prep_ref m g trivial,
   trivial, @algebraic_attn finite_facts,
   trivial, algebraic_loss,
   trivial, @algebraic_ffn ffn_facts,
   trivial, algebraic_rms, trivial, @algebraic_afwd afwd_facts,
   trivial, algebraic_rfwd, trivial, algebraic_ffwd,
   trivial, @algebraic_pfwd prep_facts,
   trivial, algebraic_nfwd,
   trivial, algebraic_mmnn,
   trivial, algebraic_mmnt,
   trivial, algebraic_mmtn,
   trivial, algebraic_adam,
   trivial, @algebraic_prep prep_grad_facts⟩

end Cert.Proof

end
